-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Reference34Ideal (m : (ℓ : Loc Cert.Reference34Ideal.nD Cert.Reference34Ideal.τ Cert.Reference34Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2)
      ∧ r.2.mem ((c.tc : Thread Cert.Kernel30.nD Cert.Kernel30.τ).loc Cert.Kernel30.main_arg3) = m ((c.tc : Thread Cert.Kernel30.nD Cert.Kernel30.τ).loc Cert.Kernel30.main_arg3)
      ∧ r.2.mem ((c.tc : Thread Cert.Kernel30.nD Cert.Kernel30.τ).loc Cert.Kernel30.main_arg4) = m ((c.tc : Thread Cert.Kernel30.nD Cert.Kernel30.τ).loc Cert.Kernel30.main_arg4)
      ∧ r.2.mem ((c.tc : Thread Cert.Kernel30.nD Cert.Kernel30.τ).loc Cert.Kernel30.main_arg5) = m ((c.tc : Thread Cert.Kernel30.nD Cert.Kernel30.τ).loc Cert.Kernel30.main_arg5))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
      ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3)
      ∧ r.2.mem ((c.tc : Thread Cert.Kernel30Ideal.nD Cert.Kernel30Ideal.τ).loc Cert.Kernel30Ideal.main_arg4) = m ((c.tc : Thread Cert.Kernel30Ideal.nD Cert.Kernel30Ideal.τ).loc Cert.Kernel30Ideal.main_arg4)
      ∧ r.2.mem ((c.tc : Thread Cert.Kernel30Ideal.nD Cert.Kernel30Ideal.τ).loc Cert.Kernel30Ideal.main_arg5) = m ((c.tc : Thread Cert.Kernel30Ideal.nD Cert.Kernel30Ideal.τ).loc Cert.Kernel30Ideal.main_arg5))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2)
      ∧ r.2.mem ((c.tc : Thread Cert.Reference30Ideal.nD Cert.Reference30Ideal.τ).loc Cert.Reference30Ideal.main_arg3) = m ((c.tc : Thread Cert.Reference30Ideal.nD Cert.Reference30Ideal.τ).loc Cert.Reference30Ideal.main_arg3)
      ∧ r.2.mem ((c.tc : Thread Cert.Reference30Ideal.nD Cert.Reference30Ideal.τ).loc Cert.Reference30Ideal.main_arg4) = m ((c.tc : Thread Cert.Reference30Ideal.nD Cert.Reference30Ideal.τ).loc Cert.Reference30Ideal.main_arg4)
      ∧ r.2.mem ((c.tc : Thread Cert.Reference30Ideal.nD Cert.Reference30Ideal.τ).loc Cert.Reference30Ideal.main_arg5) = m ((c.tc : Thread Cert.Reference30Ideal.nD Cert.Reference30Ideal.τ).loc Cert.Reference30Ideal.main_arg5))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2)
      ∧ r.2.mem ((c.tc : Thread Cert.Kernel31.nD Cert.Kernel31.τ).loc Cert.Kernel31.main_arg3) = m ((c.tc : Thread Cert.Kernel31.nD Cert.Kernel31.τ).loc Cert.Kernel31.main_arg3))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
      ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2)
      ∧ r.2.mem ((c.tc : Thread Cert.Reference31Ideal.nD Cert.Reference31Ideal.τ).loc Cert.Reference31Ideal.main_arg3) = m ((c.tc : Thread Cert.Reference31Ideal.nD Cert.Reference31Ideal.τ).loc Cert.Reference31Ideal.main_arg3))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1)
      ∧ r.2.mem ((c.tc : Thread Cert.Kernel32.nD Cert.Kernel32.τ).loc Cert.Kernel32.main_arg2) = m ((c.tc : Thread Cert.Kernel32.nD Cert.Kernel32.τ).loc Cert.Kernel32.main_arg2)
      ∧ r.2.mem ((c.tc : Thread Cert.Kernel32.nD Cert.Kernel32.τ).loc Cert.Kernel32.main_arg3) = m ((c.tc : Thread Cert.Kernel32.nD Cert.Kernel32.τ).loc Cert.Kernel32.main_arg3)
      ∧ r.2.mem ((c.tc : Thread Cert.Kernel32.nD Cert.Kernel32.τ).loc Cert.Kernel32.main_arg4) = m ((c.tc : Thread Cert.Kernel32.nD Cert.Kernel32.τ).loc Cert.Kernel32.main_arg4)
      ∧ r.2.mem ((c.tc : Thread Cert.Kernel32.nD Cert.Kernel32.τ).loc Cert.Kernel32.main_arg5) = m ((c.tc : Thread Cert.Kernel32.nD Cert.Kernel32.τ).loc Cert.Kernel32.main_arg5))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
      ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3)
      ∧ r.2.mem ((c.tc : Thread Cert.Kernel32Ideal.nD Cert.Kernel32Ideal.τ).loc Cert.Kernel32Ideal.main_arg4) = m ((c.tc : Thread Cert.Kernel32Ideal.nD Cert.Kernel32Ideal.τ).loc Cert.Kernel32Ideal.main_arg4)
      ∧ r.2.mem ((c.tc : Thread Cert.Kernel32Ideal.nD Cert.Kernel32Ideal.τ).loc Cert.Kernel32Ideal.main_arg5) = m ((c.tc : Thread Cert.Kernel32Ideal.nD Cert.Kernel32Ideal.τ).loc Cert.Kernel32Ideal.main_arg5))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2)
      ∧ r.2.mem ((c.tc : Thread Cert.Reference32Ideal.nD Cert.Reference32Ideal.τ).loc Cert.Reference32Ideal.main_arg3) = m ((c.tc : Thread Cert.Reference32Ideal.nD Cert.Reference32Ideal.τ).loc Cert.Reference32Ideal.main_arg3)
      ∧ r.2.mem ((c.tc : Thread Cert.Reference32Ideal.nD Cert.Reference32Ideal.τ).loc Cert.Reference32Ideal.main_arg4) = m ((c.tc : Thread Cert.Reference32Ideal.nD Cert.Reference32Ideal.τ).loc Cert.Reference32Ideal.main_arg4)
      ∧ r.2.mem ((c.tc : Thread Cert.Reference32Ideal.nD Cert.Reference32Ideal.τ).loc Cert.Reference32Ideal.main_arg5) = m ((c.tc : Thread Cert.Reference32Ideal.nD Cert.Reference32Ideal.τ).loc Cert.Reference32Ideal.main_arg5))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1)
      ∧ r.2.mem ((c.tc : Thread Cert.Kernel34.nD Cert.Kernel34.τ).loc Cert.Kernel34.main_arg2) = m ((c.tc : Thread Cert.Kernel34.nD Cert.Kernel34.τ).loc Cert.Kernel34.main_arg2)
      ∧ r.2.mem ((c.tc : Thread Cert.Kernel34.nD Cert.Kernel34.τ).loc Cert.Kernel34.main_arg3) = m ((c.tc : Thread Cert.Kernel34.nD Cert.Kernel34.τ).loc Cert.Kernel34.main_arg3))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
      ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
      ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1)
      ∧ r.2.mem ((c.tc : Thread Cert.Reference34Ideal.nD Cert.Reference34Ideal.τ).loc Cert.Reference34Ideal.main_arg2) = m ((c.tc : Thread Cert.Reference34Ideal.nD Cert.Reference34Ideal.τ).loc Cert.Reference34Ideal.main_arg2)
      ∧ r.2.mem ((c.tc : Thread Cert.Reference34Ideal.nD Cert.Reference34Ideal.τ).loc Cert.Reference34Ideal.main_arg3) = m ((c.tc : Thread Cert.Reference34Ideal.nD Cert.Reference34Ideal.τ).loc Cert.Reference34Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_v60) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v12) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v1_0)) (v1 : (c : Dev Cert.Kernel3Ideal.nD) → Buf (Elt Ideal) ((c.tc : Thread Cert.Kernel3Ideal.nD Cert.Kernel3Ideal.τ).loc Cert.Kernel3Ideal.main_v1_1)) (v2 : (c : Dev Cert.Kernel3Ideal.nD) → Buf (Elt Ideal) ((c.tc : Thread Cert.Kernel3Ideal.nD Cert.Kernel3Ideal.τ).loc Cert.Kernel3Ideal.main_v1_2)) (v3 : (c : Dev Cert.Kernel3Ideal.nD) → Buf (Elt Ideal) ((c.tc : Thread Cert.Kernel3Ideal.nD Cert.Kernel3Ideal.τ).loc Cert.Kernel3Ideal.main_v1_3)) (v4 : (c : Dev Cert.Kernel3Ideal.nD) → Buf (Elt Ideal) ((c.tc : Thread Cert.Kernel3Ideal.nD Cert.Kernel3Ideal.τ).loc Cert.Kernel3Ideal.main_v1_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1_0) = v0 c
          ∧ r.2.mem ((c.tc : Thread Cert.Kernel3Ideal.nD Cert.Kernel3Ideal.τ).loc Cert.Kernel3Ideal.main_v1_1) = v1 c
          ∧ r.2.mem ((c.tc : Thread Cert.Kernel3Ideal.nD Cert.Kernel3Ideal.τ).loc Cert.Kernel3Ideal.main_v1_2) = v2 c
          ∧ r.2.mem ((c.tc : Thread Cert.Kernel3Ideal.nD Cert.Kernel3Ideal.τ).loc Cert.Kernel3Ideal.main_v1_3) = v3 c
          ∧ r.2.mem ((c.tc : Thread Cert.Kernel3Ideal.nD Cert.Kernel3Ideal.τ).loc Cert.Kernel3Ideal.main_v1_4) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v118) = v0 c
          ∧ r.2.mem ((c.tc : Thread Cert.Reference3Ideal.nD Cert.Reference3Ideal.τ).loc Cert.Reference3Ideal.main_v119) = v1 c
          ∧ r.2.mem ((c.tc : Thread Cert.Reference3Ideal.nD Cert.Reference3Ideal.τ).loc Cert.Reference3Ideal.main_v120) = v2 c
          ∧ r.2.mem ((c.tc : Thread Cert.Reference3Ideal.nD Cert.Reference3Ideal.τ).loc Cert.Reference3Ideal.main_v122) = v3 c
          ∧ r.2.mem ((c.tc : Thread Cert.Reference3Ideal.nD Cert.Reference3Ideal.τ).loc Cert.Reference3Ideal.main_v124) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v7) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v2) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v3) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v3) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v2) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v2_0)) (v1 : (c : Dev Cert.Kernel12Ideal.nD) → Buf (Elt Ideal) ((c.tc : Thread Cert.Kernel12Ideal.nD Cert.Kernel12Ideal.τ).loc Cert.Kernel12Ideal.main_v2_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v2_0) = v0 c
          ∧ r.2.mem ((c.tc : Thread Cert.Kernel12Ideal.nD Cert.Kernel12Ideal.τ).loc Cert.Kernel12Ideal.main_v2_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v44) = v0 c
          ∧ r.2.mem ((c.tc : Thread Cert.Reference12Ideal.nD Cert.Reference12Ideal.τ).loc Cert.Reference12Ideal.main_v46) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)) (v3 : (c : Dev Cert.Kernel13Ideal.nD) → Buf (Elt Ideal) ((c.tc : Thread Cert.Kernel13Ideal.nD Cert.Kernel13Ideal.τ).loc Cert.Kernel13Ideal.main_v0_3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_v0_3) = v3 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v1) = v0 c
          ∧ r.2.mem ((c.tc : Thread Cert.Reference13Ideal.nD Cert.Reference13Ideal.τ).loc Cert.Reference13Ideal.main_v25) = v1 c
          ∧ r.2.mem ((c.tc : Thread Cert.Reference13Ideal.nD Cert.Reference13Ideal.τ).loc Cert.Reference13Ideal.main_v6) = v2 c
          ∧ r.2.mem ((c.tc : Thread Cert.Reference13Ideal.nD Cert.Reference13Ideal.τ).loc Cert.Reference13Ideal.main_v12) = v3 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)) (v3 : (c : Dev Cert.Kernel14Ideal.nD) → Buf (Elt Ideal) ((c.tc : Thread Cert.Kernel14Ideal.nD Cert.Kernel14Ideal.τ).loc Cert.Kernel14Ideal.main_v0_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_v0_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v1) = v0 c
          ∧ r.2.mem ((c.tc : Thread Cert.Reference14Ideal.nD Cert.Reference14Ideal.τ).loc Cert.Reference14Ideal.main_v25) = v1 c
          ∧ r.2.mem ((c.tc : Thread Cert.Reference14Ideal.nD Cert.Reference14Ideal.τ).loc Cert.Reference14Ideal.main_v6) = v2 c
          ∧ r.2.mem ((c.tc : Thread Cert.Reference14Ideal.nD Cert.Reference14Ideal.τ).loc Cert.Reference14Ideal.main_v12) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)) (v3 : (c : Dev Cert.Kernel15Ideal.nD) → Buf (Elt Ideal) ((c.tc : Thread Cert.Kernel15Ideal.nD Cert.Kernel15Ideal.τ).loc Cert.Kernel15Ideal.main_v0_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_v0_3) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v1) = v0 c
          ∧ r.2.mem ((c.tc : Thread Cert.Reference15Ideal.nD Cert.Reference15Ideal.τ).loc Cert.Reference15Ideal.main_v25) = v1 c
          ∧ r.2.mem ((c.tc : Thread Cert.Reference15Ideal.nD Cert.Reference15Ideal.τ).loc Cert.Reference15Ideal.main_v6) = v2 c
          ∧ r.2.mem ((c.tc : Thread Cert.Reference15Ideal.nD Cert.Reference15Ideal.τ).loc Cert.Reference15Ideal.main_v12) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v1) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v1) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v1) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v1) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v1) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v23) = v0 c
          ∧ r.2.mem ((c.tc : Thread Cert.Reference21Ideal.nD Cert.Reference21Ideal.τ).loc Cert.Reference21Ideal.main_v4) = v1 c
          ∧ r.2.mem ((c.tc : Thread Cert.Reference21Ideal.nD Cert.Reference21Ideal.τ).loc Cert.Reference21Ideal.main_v10) = v2 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v23) = v0 c
          ∧ r.2.mem ((c.tc : Thread Cert.Reference22Ideal.nD Cert.Reference22Ideal.τ).loc Cert.Reference22Ideal.main_v4) = v1 c
          ∧ r.2.mem ((c.tc : Thread Cert.Reference22Ideal.nD Cert.Reference22Ideal.τ).loc Cert.Reference22Ideal.main_v10) = v2 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v23) = v0 c
          ∧ r.2.mem ((c.tc : Thread Cert.Reference23Ideal.nD Cert.Reference23Ideal.τ).loc Cert.Reference23Ideal.main_v4) = v1 c
          ∧ r.2.mem ((c.tc : Thread Cert.Reference23Ideal.nD Cert.Reference23Ideal.τ).loc Cert.Reference23Ideal.main_v10) = v2 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v23) = v0 c
          ∧ r.2.mem ((c.tc : Thread Cert.Reference24Ideal.nD Cert.Reference24Ideal.τ).loc Cert.Reference24Ideal.main_v4) = v1 c
          ∧ r.2.mem ((c.tc : Thread Cert.Reference24Ideal.nD Cert.Reference24Ideal.τ).loc Cert.Reference24Ideal.main_v10) = v2 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)) (v2 : (c : Dev Cert.Kernel25Ideal.nD) → Buf (Elt Ideal) ((c.tc : Thread Cert.Kernel25Ideal.nD Cert.Kernel25Ideal.τ).loc Cert.Kernel25Ideal.main_v0_2)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_v0_2) = v2 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v23) = v0 c
          ∧ r.2.mem ((c.tc : Thread Cert.Reference25Ideal.nD Cert.Reference25Ideal.τ).loc Cert.Reference25Ideal.main_v4) = v1 c
          ∧ r.2.mem ((c.tc : Thread Cert.Reference25Ideal.nD Cert.Reference25Ideal.τ).loc Cert.Reference25Ideal.main_v10) = v2 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v0_1)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v0_1) = v1 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v38) = v0 c
          ∧ r.2.mem ((c.tc : Thread Cert.Reference26Ideal.nD Cert.Reference26Ideal.τ).loc Cert.Reference26Ideal.main_v39) = v1 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)) →
    ∃ (v0 : (c : Dev Cert.Kernel28Ideal.nD) → Buf (Elt Ideal) ((c.tc : Thread Cert.Kernel28Ideal.nD Cert.Kernel28Ideal.τ).loc Cert.Kernel28Ideal.main_v0)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0) = v0 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v7) = v0 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)) →
    ∃ (v0 : (c : Dev Cert.Kernel29Ideal.nD) → Buf (Elt Ideal) ((c.tc : Thread Cert.Kernel29Ideal.nD Cert.Kernel29Ideal.τ).loc Cert.Kernel29Ideal.main_v0)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0) = v0 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v7) = v0 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)
      ∧ m' ((c.tc : Thread Cert.Reference30Ideal.nD Cert.Reference30Ideal.τ).loc Cert.Reference30Ideal.main_arg3) = m ((c.tc : Thread Cert.Kernel30Ideal.nD Cert.Kernel30Ideal.τ).loc Cert.Kernel30Ideal.main_arg3)
      ∧ m' ((c.tc : Thread Cert.Reference30Ideal.nD Cert.Reference30Ideal.τ).loc Cert.Reference30Ideal.main_arg4) = m ((c.tc : Thread Cert.Kernel30Ideal.nD Cert.Kernel30Ideal.τ).loc Cert.Kernel30Ideal.main_arg4)
      ∧ m' ((c.tc : Thread Cert.Reference30Ideal.nD Cert.Reference30Ideal.τ).loc Cert.Reference30Ideal.main_arg5) = m ((c.tc : Thread Cert.Kernel30Ideal.nD Cert.Kernel30Ideal.τ).loc Cert.Kernel30Ideal.main_arg5)) →
    ∃ (v0 : (c : Dev Cert.Kernel30Ideal.nD) → Buf (Elt Ideal) ((c.tc : Thread Cert.Kernel30Ideal.nD Cert.Kernel30Ideal.τ).loc Cert.Kernel30Ideal.main_v1_0)) (v1 : (c : Dev Cert.Kernel30Ideal.nD) → Buf (Elt Ideal) ((c.tc : Thread Cert.Kernel30Ideal.nD Cert.Kernel30Ideal.τ).loc Cert.Kernel30Ideal.main_v1_1)) (v2 : (c : Dev Cert.Kernel30Ideal.nD) → Buf (Elt Ideal) ((c.tc : Thread Cert.Kernel30Ideal.nD Cert.Kernel30Ideal.τ).loc Cert.Kernel30Ideal.main_v1_2)) (v3 : (c : Dev Cert.Kernel30Ideal.nD) → Buf (Elt Ideal) ((c.tc : Thread Cert.Kernel30Ideal.nD Cert.Kernel30Ideal.τ).loc Cert.Kernel30Ideal.main_v1_3)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v1_0) = v0 c
          ∧ r.2.mem ((c.tc : Thread Cert.Kernel30Ideal.nD Cert.Kernel30Ideal.τ).loc Cert.Kernel30Ideal.main_v1_1) = v1 c
          ∧ r.2.mem ((c.tc : Thread Cert.Kernel30Ideal.nD Cert.Kernel30Ideal.τ).loc Cert.Kernel30Ideal.main_v1_2) = v2 c
          ∧ r.2.mem ((c.tc : Thread Cert.Kernel30Ideal.nD Cert.Kernel30Ideal.τ).loc Cert.Kernel30Ideal.main_v1_3) = v3 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
          ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3)
          ∧ r.2.mem ((c.tc : Thread Cert.Kernel30Ideal.nD Cert.Kernel30Ideal.τ).loc Cert.Kernel30Ideal.main_arg4) = m ((c.tc : Thread Cert.Kernel30Ideal.nD Cert.Kernel30Ideal.τ).loc Cert.Kernel30Ideal.main_arg4)
          ∧ r.2.mem ((c.tc : Thread Cert.Kernel30Ideal.nD Cert.Kernel30Ideal.τ).loc Cert.Kernel30Ideal.main_arg5) = m ((c.tc : Thread Cert.Kernel30Ideal.nD Cert.Kernel30Ideal.τ).loc Cert.Kernel30Ideal.main_arg5))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v42) = v0 c
          ∧ r.2.mem ((c.tc : Thread Cert.Reference30Ideal.nD Cert.Reference30Ideal.τ).loc Cert.Reference30Ideal.main_v44) = v1 c
          ∧ r.2.mem ((c.tc : Thread Cert.Reference30Ideal.nD Cert.Reference30Ideal.τ).loc Cert.Reference30Ideal.main_v45) = v2 c
          ∧ r.2.mem ((c.tc : Thread Cert.Reference30Ideal.nD Cert.Reference30Ideal.τ).loc Cert.Reference30Ideal.main_v40) = v3 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2)
          ∧ r.2.mem ((c.tc : Thread Cert.Reference30Ideal.nD Cert.Reference30Ideal.τ).loc Cert.Reference30Ideal.main_arg3) = m' ((c.tc : Thread Cert.Reference30Ideal.nD Cert.Reference30Ideal.τ).loc Cert.Reference30Ideal.main_arg3)
          ∧ r.2.mem ((c.tc : Thread Cert.Reference30Ideal.nD Cert.Reference30Ideal.τ).loc Cert.Reference30Ideal.main_arg4) = m' ((c.tc : Thread Cert.Reference30Ideal.nD Cert.Reference30Ideal.τ).loc Cert.Reference30Ideal.main_arg4)
          ∧ r.2.mem ((c.tc : Thread Cert.Reference30Ideal.nD Cert.Reference30Ideal.τ).loc Cert.Reference30Ideal.main_arg5) = m' ((c.tc : Thread Cert.Reference30Ideal.nD Cert.Reference30Ideal.τ).loc Cert.Reference30Ideal.main_arg5))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)
      ∧ m' ((c.tc : Thread Cert.Reference31Ideal.nD Cert.Reference31Ideal.τ).loc Cert.Reference31Ideal.main_arg3) = m ((c.tc : Thread Cert.Kernel31Ideal.nD Cert.Kernel31Ideal.τ).loc Cert.Kernel31Ideal.main_arg3)) →
    ∃ (v0 : (c : Dev Cert.Kernel31Ideal.nD) → Buf (Elt Ideal) ((c.tc : Thread Cert.Kernel31Ideal.nD Cert.Kernel31Ideal.τ).loc Cert.Kernel31Ideal.main_v1_0)) (v1 : (c : Dev Cert.Kernel31Ideal.nD) → Buf (Elt Ideal) ((c.tc : Thread Cert.Kernel31Ideal.nD Cert.Kernel31Ideal.τ).loc Cert.Kernel31Ideal.main_v1_1)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v1_0) = v0 c
          ∧ r.2.mem ((c.tc : Thread Cert.Kernel31Ideal.nD Cert.Kernel31Ideal.τ).loc Cert.Kernel31Ideal.main_v1_1) = v1 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
          ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v2) = v0 c
          ∧ r.2.mem ((c.tc : Thread Cert.Reference31Ideal.nD Cert.Reference31Ideal.τ).loc Cert.Reference31Ideal.main_v17) = v1 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2)
          ∧ r.2.mem ((c.tc : Thread Cert.Reference31Ideal.nD Cert.Reference31Ideal.τ).loc Cert.Reference31Ideal.main_arg3) = m' ((c.tc : Thread Cert.Reference31Ideal.nD Cert.Reference31Ideal.τ).loc Cert.Reference31Ideal.main_arg3))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)
      ∧ m' ((c.tc : Thread Cert.Reference32Ideal.nD Cert.Reference32Ideal.τ).loc Cert.Reference32Ideal.main_arg2) = m ((c.tc : Thread Cert.Kernel32Ideal.nD Cert.Kernel32Ideal.τ).loc Cert.Kernel32Ideal.main_arg2)
      ∧ m' ((c.tc : Thread Cert.Reference32Ideal.nD Cert.Reference32Ideal.τ).loc Cert.Reference32Ideal.main_arg3) = m ((c.tc : Thread Cert.Kernel32Ideal.nD Cert.Kernel32Ideal.τ).loc Cert.Kernel32Ideal.main_arg3)
      ∧ m' ((c.tc : Thread Cert.Reference32Ideal.nD Cert.Reference32Ideal.τ).loc Cert.Reference32Ideal.main_arg4) = m ((c.tc : Thread Cert.Kernel32Ideal.nD Cert.Kernel32Ideal.τ).loc Cert.Kernel32Ideal.main_arg4)
      ∧ m' ((c.tc : Thread Cert.Reference32Ideal.nD Cert.Reference32Ideal.τ).loc Cert.Reference32Ideal.main_arg5) = m ((c.tc : Thread Cert.Kernel32Ideal.nD Cert.Kernel32Ideal.τ).loc Cert.Kernel32Ideal.main_arg5)) →
    ∃ (v0 : (c : Dev Cert.Kernel32Ideal.nD) → Buf (Elt Ideal) ((c.tc : Thread Cert.Kernel32Ideal.nD Cert.Kernel32Ideal.τ).loc Cert.Kernel32Ideal.main_v4_0)) (v1 : (c : Dev Cert.Kernel32Ideal.nD) → Buf (Elt Ideal) ((c.tc : Thread Cert.Kernel32Ideal.nD Cert.Kernel32Ideal.τ).loc Cert.Kernel32Ideal.main_v4_1)) (v2 : (c : Dev Cert.Kernel32Ideal.nD) → Buf (Elt Ideal) ((c.tc : Thread Cert.Kernel32Ideal.nD Cert.Kernel32Ideal.τ).loc Cert.Kernel32Ideal.main_v4_2)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v4_0) = v0 c
          ∧ r.2.mem ((c.tc : Thread Cert.Kernel32Ideal.nD Cert.Kernel32Ideal.τ).loc Cert.Kernel32Ideal.main_v4_1) = v1 c
          ∧ r.2.mem ((c.tc : Thread Cert.Kernel32Ideal.nD Cert.Kernel32Ideal.τ).loc Cert.Kernel32Ideal.main_v4_2) = v2 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
          ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
          ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3)
          ∧ r.2.mem ((c.tc : Thread Cert.Kernel32Ideal.nD Cert.Kernel32Ideal.τ).loc Cert.Kernel32Ideal.main_arg4) = m ((c.tc : Thread Cert.Kernel32Ideal.nD Cert.Kernel32Ideal.τ).loc Cert.Kernel32Ideal.main_arg4)
          ∧ r.2.mem ((c.tc : Thread Cert.Kernel32Ideal.nD Cert.Kernel32Ideal.τ).loc Cert.Kernel32Ideal.main_arg5) = m ((c.tc : Thread Cert.Kernel32Ideal.nD Cert.Kernel32Ideal.τ).loc Cert.Kernel32Ideal.main_arg5))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v23) = v0 c
          ∧ r.2.mem ((c.tc : Thread Cert.Reference32Ideal.nD Cert.Reference32Ideal.τ).loc Cert.Reference32Ideal.main_v24) = v1 c
          ∧ r.2.mem ((c.tc : Thread Cert.Reference32Ideal.nD Cert.Reference32Ideal.τ).loc Cert.Reference32Ideal.main_v25) = v2 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1)
          ∧ r.2.mem ((c.tc : Thread Cert.Reference32Ideal.nD Cert.Reference32Ideal.τ).loc Cert.Reference32Ideal.main_arg2) = m' ((c.tc : Thread Cert.Reference32Ideal.nD Cert.Reference32Ideal.τ).loc Cert.Reference32Ideal.main_arg2)
          ∧ r.2.mem ((c.tc : Thread Cert.Reference32Ideal.nD Cert.Reference32Ideal.τ).loc Cert.Reference32Ideal.main_arg3) = m' ((c.tc : Thread Cert.Reference32Ideal.nD Cert.Reference32Ideal.τ).loc Cert.Reference32Ideal.main_arg3)
          ∧ r.2.mem ((c.tc : Thread Cert.Reference32Ideal.nD Cert.Reference32Ideal.τ).loc Cert.Reference32Ideal.main_arg4) = m' ((c.tc : Thread Cert.Reference32Ideal.nD Cert.Reference32Ideal.τ).loc Cert.Reference32Ideal.main_arg4)
          ∧ r.2.mem ((c.tc : Thread Cert.Reference32Ideal.nD Cert.Reference32Ideal.τ).loc Cert.Reference32Ideal.main_arg5) = m' ((c.tc : Thread Cert.Reference32Ideal.nD Cert.Reference32Ideal.τ).loc Cert.Reference32Ideal.main_arg5))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)) →
    ∃ (v0 : (c : Dev Cert.Kernel33Ideal.nD) → Buf (Elt Ideal) ((c.tc : Thread Cert.Kernel33Ideal.nD Cert.Kernel33Ideal.τ).loc Cert.Kernel33Ideal.main_v0)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v0) = v0 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v14) = v0 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1))

def preserves_Kernel34_Kernel34Ideal : Prop :=
  True

def algebraic_Kernel34Ideal_Reference34Ideal [hKernel34Ideal : Cert.Kernel34Ideal.Facts] [hReference34Ideal : Cert.Reference34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)
      ∧ m' ((c.tc : Thread Cert.Reference34Ideal.nD Cert.Reference34Ideal.τ).loc Cert.Reference34Ideal.main_arg1) = m ((c.tc : Thread Cert.Kernel34Ideal.nD Cert.Kernel34Ideal.τ).loc Cert.Kernel34Ideal.main_arg1)
      ∧ m' ((c.tc : Thread Cert.Reference34Ideal.nD Cert.Reference34Ideal.τ).loc Cert.Reference34Ideal.main_arg2) = m ((c.tc : Thread Cert.Kernel34Ideal.nD Cert.Kernel34Ideal.τ).loc Cert.Kernel34Ideal.main_arg2)
      ∧ m' ((c.tc : Thread Cert.Reference34Ideal.nD Cert.Reference34Ideal.τ).loc Cert.Reference34Ideal.main_arg3) = m ((c.tc : Thread Cert.Kernel34Ideal.nD Cert.Kernel34Ideal.τ).loc Cert.Kernel34Ideal.main_arg3)) →
    ∃ (v0 : (c : Dev Cert.Kernel34Ideal.nD) → Buf (Elt Ideal) ((c.tc : Thread Cert.Kernel34Ideal.nD Cert.Kernel34Ideal.τ).loc Cert.Kernel34Ideal.main_v0_0)) (v1 : (c : Dev Cert.Kernel34Ideal.nD) → Buf (Elt Ideal) ((c.tc : Thread Cert.Kernel34Ideal.nD Cert.Kernel34Ideal.τ).loc Cert.Kernel34Ideal.main_v0_1)) (v2 : (c : Dev Cert.Kernel34Ideal.nD) → Buf (Elt Ideal) ((c.tc : Thread Cert.Kernel34Ideal.nD Cert.Kernel34Ideal.τ).loc Cert.Kernel34Ideal.main_v0_2)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v0_0) = v0 c
          ∧ r.2.mem ((c.tc : Thread Cert.Kernel34Ideal.nD Cert.Kernel34Ideal.τ).loc Cert.Kernel34Ideal.main_v0_1) = v1 c
          ∧ r.2.mem ((c.tc : Thread Cert.Kernel34Ideal.nD Cert.Kernel34Ideal.τ).loc Cert.Kernel34Ideal.main_v0_2) = v2 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
          ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
          ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v38) = v0 c
          ∧ r.2.mem ((c.tc : Thread Cert.Reference34Ideal.nD Cert.Reference34Ideal.τ).loc Cert.Reference34Ideal.main_v40) = v1 c
          ∧ r.2.mem ((c.tc : Thread Cert.Reference34Ideal.nD Cert.Reference34Ideal.τ).loc Cert.Reference34Ideal.main_v41) = v2 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0)
          ∧ r.2.mem ((c.tc : Thread Cert.Reference34Ideal.nD Cert.Reference34Ideal.τ).loc Cert.Reference34Ideal.main_arg1) = m' ((c.tc : Thread Cert.Reference34Ideal.nD Cert.Reference34Ideal.τ).loc Cert.Reference34Ideal.main_arg1)
          ∧ r.2.mem ((c.tc : Thread Cert.Reference34Ideal.nD Cert.Reference34Ideal.τ).loc Cert.Reference34Ideal.main_arg2) = m' ((c.tc : Thread Cert.Reference34Ideal.nD Cert.Reference34Ideal.τ).loc Cert.Reference34Ideal.main_arg2)
          ∧ r.2.mem ((c.tc : Thread Cert.Reference34Ideal.nD Cert.Reference34Ideal.τ).loc Cert.Reference34Ideal.main_arg3) = m' ((c.tc : Thread Cert.Reference34Ideal.nD Cert.Reference34Ideal.τ).loc Cert.Reference34Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hKernel34 : Cert.Kernel34.Facts) (hKernel34Ideal : Cert.Kernel34Ideal.Facts) (hReference34Ideal : Cert.Reference34Ideal.Facts) (hPre_finite3 : Cert.Pre_finite3.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ quiescent_Kernel34 (hKernel34 := hKernel34)
    ∧ quiescent_Kernel34Ideal (hKernel34Ideal := hKernel34Ideal)
    ∧ quiescent_Reference34Ideal (hReference34Ideal := hReference34Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
    ∧ preserves_Kernel34_Kernel34Ideal
    ∧ algebraic_Kernel34Ideal_Reference34Ideal (hKernel34Ideal := hKernel34Ideal) (hReference34Ideal := hReference34Ideal)
-- ==== Pre_finite3.lean ====
abbrev S2x8192x5632 : Shape := ⟨3, ![2, 8192, 5632]⟩
abbrev S8192x2048 : Shape := ⟨2, ![8192, 2048]⟩
abbrev S5632x2048 : Shape := ⟨2, ![5632, 2048]⟩
abbrev S3x11264 : Shape := ⟨2, ![3, 11264]⟩
abbrev S1x11264 : Shape := ⟨2, ![1, 11264]⟩
abbrev S_ : Shape := ⟨0, ![]⟩
abbrev S1 : Shape := ⟨1, ![1]⟩
abbrev S5 : Shape := ⟨1, ![5]⟩

class Facts : Prop where
  bitsLt_bf16_f32 : FTy.bits .bf16 < FTy.bits .f32
  bcast_S_S2x8192x5632 : S_.BroadcastsInDim S2x8192x5632 (![] : Fin 0 → Fin S2x8192x5632.rank)
  reducesTo_S2x8192x5632_S_d0_1_2 : S2x8192x5632.ReducesTo [0, 1, 2] S_
  h_S_ : 0 < S_.numel
  bcast_S_S8192x2048 : S_.BroadcastsInDim S8192x2048 (![] : Fin 0 → Fin S8192x2048.rank)
  reducesTo_S8192x2048_S_d0_1 : S8192x2048.ReducesTo [0, 1] S_
  bcast_S_S5632x2048 : S_.BroadcastsInDim S5632x2048 (![] : Fin 0 → Fin S5632x2048.rank)
  reducesTo_S5632x2048_S_d0_1 : S5632x2048.ReducesTo [0, 1] S_
  bcast_S_S3x11264 : S_.BroadcastsInDim S3x11264 (![] : Fin 0 → Fin S3x11264.rank)
  reducesTo_S3x11264_S_d0_1 : S3x11264.ReducesTo [0, 1] S_
  bcast_S_S1x11264 : S_.BroadcastsInDim S1x11264 (![] : Fin 0 → Fin S1x11264.rank)
  reducesTo_S1x11264_S_d0_1 : S1x11264.ReducesTo [0, 1] S_
  bcast_S_S1 : S_.BroadcastsInDim S1 (![] : Fin 0 → Fin S1.rank)
  concatenates_S1_S1_S1_S1_S1_S5_d0 : Shape.Concatenates [S1, S1, S1, S1, S1] S5 0

variable [Facts]

def fn_part1 {F : FTy → Type} [FloatOps F] (main_arg4 : FVec F S1x11264 .f32) (main_v4 : IVec S_ 1) (main_v9 : IVec S_ 1) (main_v13 : IVec S_ 1) (main_v16 : IVec S3x11264 1) : IVec S5 1 :=
  let main_c_5 : IVec S_ 1 := constantI S_ 1 1#1
  let main_v17 : IVec S_ 1 := (fun x v => Host.reduce IntOp.andi x v reducesTo_S3x11264_S_d0_1 h_S_) main_v16 main_c_5
  let main_v18 : FVec F S1x11264 .f32 := Host.absf main_arg4
  let main_cst_6 : FVec F S_ .f32 := constant S_ .f32 0x7F800000#32
  let main_v19 : FVec F S1x11264 .f32 := broadcastInDim S1x11264 ![] bcast_S_S1x11264 main_cst_6
  let main_v20 : IVec S1x11264 1 := cmpf .olt main_v18 main_v19
  let main_c_7 : IVec S_ 1 := constantI S_ 1 1#1
  let main_v21 : IVec S_ 1 := (fun x v => Host.reduce IntOp.andi x v reducesTo_S1x11264_S_d0_1 h_S_) main_v20 main_c_7
  let main_v22 : IVec S1 1 := broadcastInDim S1 ![] bcast_S_S1 main_v4
  let main_v23 : IVec S1 1 := broadcastInDim S1 ![] bcast_S_S1 main_v9
  let main_v24 : IVec S1 1 := broadcastInDim S1 ![] bcast_S_S1 main_v13
  let main_v25 : IVec S1 1 := broadcastInDim S1 ![] bcast_S_S1 main_v17
  let main_v26 : IVec S1 1 := broadcastInDim S1 ![] bcast_S_S1 main_v21
  let main_v27 : IVec S5 1 := concatenate S5 0 [⟨S1, main_v22⟩, ⟨S1, main_v23⟩, ⟨S1, main_v24⟩, ⟨S1, main_v25⟩, ⟨S1, main_v26⟩] concatenates_S1_S1_S1_S1_S1_S5_d0
  main_v27

def fn {F : FTy → Type} [FloatOps F] (main_arg0 : FVec F S2x8192x5632 .bf16) (main_arg1 : FVec F S8192x2048 .bf16) (main_arg2 : FVec F S5632x2048 .f32) (main_arg3 : FVec F S3x11264 .f32) (main_arg4 : FVec F S1x11264 .f32) : IVec S5 1 :=
  let main_v0 : FVec F S2x8192x5632 .f32 := (extf .f32 · bitsLt_bf16_f32) main_arg0
  let main_v1 : FVec F S2x8192x5632 .f32 := Host.absf main_v0
  let main_cst : FVec F S_ .f32 := constant S_ .f32 0x7F800000#32
  let main_v2 : FVec F S2x8192x5632 .f32 := broadcastInDim S2x8192x5632 ![] bcast_S_S2x8192x5632 main_cst
  let main_v3 : IVec S2x8192x5632 1 := cmpf .olt main_v1 main_v2
  let main_c : IVec S_ 1 := constantI S_ 1 1#1
  let main_v4 : IVec S_ 1 := (fun x v => Host.reduce IntOp.andi x v reducesTo_S2x8192x5632_S_d0_1_2 h_S_) main_v3 main_c
  let main_v5 : FVec F S8192x2048 .f32 := (extf .f32 · bitsLt_bf16_f32) main_arg1
  let main_v6 : FVec F S8192x2048 .f32 := Host.absf main_v5
  let main_cst_0 : FVec F S_ .f32 := constant S_ .f32 0x7F800000#32
  let main_v7 : FVec F S8192x2048 .f32 := broadcastInDim S8192x2048 ![] bcast_S_S8192x2048 main_cst_0
  let main_v8 : IVec S8192x2048 1 := cmpf .olt main_v6 main_v7
  let main_c_1 : IVec S_ 1 := constantI S_ 1 1#1
  let main_v9 : IVec S_ 1 := (fun x v => Host.reduce IntOp.andi x v reducesTo_S8192x2048_S_d0_1 h_S_) main_v8 main_c_1
  let main_v10 : FVec F S5632x2048 .f32 := Host.absf main_arg2
  let main_cst_2 : FVec F S_ .f32 := constant S_ .f32 0x7F800000#32
  let main_v11 : FVec F S5632x2048 .f32 := broadcastInDim S5632x2048 ![] bcast_S_S5632x2048 main_cst_2
  let main_v12 : IVec S5632x2048 1 := cmpf .olt main_v10 main_v11
  let main_c_3 : IVec S_ 1 := constantI S_ 1 1#1
  let main_v13 : IVec S_ 1 := (fun x v => Host.reduce IntOp.andi x v reducesTo_S5632x2048_S_d0_1 h_S_) main_v12 main_c_3
  let main_v14 : FVec F S3x11264 .f32 := Host.absf main_arg3
  let main_cst_4 : FVec F S_ .f32 := constant S_ .f32 0x7F800000#32
  let main_v15 : FVec F S3x11264 .f32 := broadcastInDim S3x11264 ![] bcast_S_S3x11264 main_cst_4
  let main_v16 : IVec S3x11264 1 := cmpf .olt main_v14 main_v15
  fn_part1 (F := F) main_arg4 main_v4 main_v9 main_v13 main_v16
-- ==== Kernel.lean ====
abbrev S2x8192x5632 : Shape := ⟨3, ![2, 8192, 5632]⟩
abbrev S3x11264 : Shape := ⟨2, ![3, 11264]⟩
abbrev S2048x11264 : Shape := ⟨2, ![2048, 11264]⟩
abbrev S11264x2048 : Shape := ⟨2, ![11264, 2048]⟩
abbrev S8192x2048 : Shape := ⟨2, ![8192, 2048]⟩
abbrev S1x1024x1408 : Shape := ⟨3, ![1, 1024, 1408]⟩
abbrev S1x16x1408 : Shape := ⟨3, ![1, 16, 1408]⟩
abbrev S3x1408 : Shape := ⟨2, ![3, 1408]⟩
abbrev S1408x2048 : Shape := ⟨2, ![1408, 2048]⟩
abbrev S1024x2048 : Shape := ⟨2, ![1024, 2048]⟩
abbrev S1040x1408 : Shape := ⟨2, ![1040, 1408]⟩
abbrev S1024x1408 : Shape := ⟨2, ![1024, 1408]⟩
abbrev S16x1408 : Shape := ⟨2, ![16, 1408]⟩
abbrev S1x1408 : Shape := ⟨2, ![1, 1408]⟩

abbrev nBuf : Space → Nat
  | .hbm => 7
  | .vmem => 14
  | .smem => 0
  | _ => 0

abbrev bufTy : (tb : Table) → Fin (tcTables nBuf tb) → BufTy
  | .hbm, ⟨0, _⟩ => ⟨S2x8192x5632, .bf16⟩
  | .hbm, ⟨1, _⟩ => ⟨S3x11264, .f32⟩
  | .hbm, ⟨2, _⟩ => ⟨S2048x11264, .f32⟩
  | .hbm, ⟨3, _⟩ => ⟨S11264x2048, .f32⟩
  | .hbm, ⟨4, _⟩ => ⟨S11264x2048, .bf16⟩
  | .hbm, ⟨5, _⟩ => ⟨S2x8192x5632, .bf16⟩
  | .hbm, ⟨6, _⟩ => ⟨S8192x2048, .bf16⟩
  | .local _ .vmem, ⟨0, _⟩ => ⟨S1x1024x1408, .bf16⟩
  | .local _ .vmem, ⟨1, _⟩ => ⟨S1x1024x1408, .bf16⟩
  | .local _ .vmem, ⟨2, _⟩ => ⟨S1x16x1408, .bf16⟩
  | .local _ .vmem, ⟨3, _⟩ => ⟨S1x16x1408, .bf16⟩
  | .local _ .vmem, ⟨4, _⟩ => ⟨S3x1408, .f32⟩
  | .local _ .vmem, ⟨5, _⟩ => ⟨S3x1408, .f32⟩
  | .local _ .vmem, ⟨6, _⟩ => ⟨S1408x2048, .bf16⟩
  | .local _ .vmem, ⟨7, _⟩ => ⟨S1408x2048, .bf16⟩
  | .local _ .vmem, ⟨8, _⟩ => ⟨S1x1024x1408, .bf16⟩
  | .local _ .vmem, ⟨9, _⟩ => ⟨S1x1024x1408, .bf16⟩
  | .local _ .vmem, ⟨10, _⟩ => ⟨S1024x2048, .bf16⟩
  | .local _ .vmem, ⟨11, _⟩ => ⟨S1024x2048, .bf16⟩
  | .local _ .vmem, ⟨12, _⟩ => ⟨S1040x1408, .f32⟩
  | .local _ .vmem, ⟨13, _⟩ => ⟨S1024x2048, .f32⟩
  | _, _ => ⟨S2x8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 8], ![false, false]⟩

def k0_cond3 (i : grid0.Coords) : BitVec 1 :=
  let arg1 : BitVec 32 := BitVec.ofNat 32 (i 1).val
  let c7_i32_23 : BitVec 32 := 7#32
  let v45 : BitVec 1 := Scalar.cmpi .eq arg1 c7_i32_23
  let v46 : BitVec 32 := Scalar.extui v45
  let c0_i32_24 : BitVec 32 := 0#32
  let v47 : BitVec 1 := Scalar.cmpi .ne v46 c0_i32_24
  v47

def cc0_transform_0 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi arg0 c1_i32_4
  let c64_i32 : BitVec 32 := 64#32
  let v18 : BitVec 32 := Scalar.muli v17 c64_i32
  let c511_i32 : BitVec 32 := 511#32
  let v19 : BitVec 32 := Scalar.minsi v18 c511_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi arg1 v21
  let c0_i32_8 : BitVec 32 := 0#32
  let v23 : BitVec 1 := Scalar.cmpi .ne v22 c0_i32_8
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let v27 : BitVec 1 := Scalar.andi v26 v23
  let v28 : BitVec 32 := Scalar.addi v22 v21
  let v29 : BitVec 32 := Scalar.select v27 v28 v22
  let c0_i32_11 : BitVec 32 := 0#32
  ![v16.toNat, v19.toNat, v29.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S3x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1408x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ReferenceIdeal.lean ====
abbrev S2x8192x5632 : Shape := ⟨3, ![2, 8192, 5632]⟩
abbrev S3x11264 : Shape := ⟨2, ![3, 11264]⟩
abbrev S2048x11264 : Shape := ⟨2, ![2048, 11264]⟩
abbrev S1x8192x5632 : Shape := ⟨3, ![1, 8192, 5632]⟩
abbrev S8192x5632 : Shape := ⟨2, ![8192, 5632]⟩
abbrev S8192x11264 : Shape := ⟨2, ![8192, 11264]⟩
abbrev S1x8192x11264 : Shape := ⟨3, ![1, 8192, 11264]⟩
abbrev S_ : Shape := ⟨0, ![]⟩
abbrev S11264 : Shape := ⟨1, ![11264]⟩
abbrev S1x2x11264 : Shape := ⟨3, ![1, 2, 11264]⟩
abbrev S1x8194x11264 : Shape := ⟨3, ![1, 8194, 11264]⟩
abbrev S1x11264 : Shape := ⟨2, ![1, 11264]⟩
abbrev S1x1x11264 : Shape := ⟨3, ![1, 1, 11264]⟩
abbrev S1x8192x2048 : Shape := ⟨3, ![1, 8192, 2048]⟩
abbrev S8192x2048 : Shape := ⟨2, ![8192, 2048]⟩

abbrev nBuf : Space → Nat
  | .hbm => 72
  | .vmem => 0
  | .smem => 0
  | _ => 0

abbrev bufTy : (tb : Table) → Fin (tcTables nBuf tb) → BufTy
  | .hbm, ⟨0, _⟩ => ⟨S2x8192x5632, .bf16⟩
  | .hbm, ⟨1, _⟩ => ⟨S3x11264, .f32⟩
  | .hbm, ⟨2, _⟩ => ⟨S2048x11264, .f32⟩
  | .hbm, ⟨3, _⟩ => ⟨S1x8192x5632, .bf16⟩
  | .hbm, ⟨4, _⟩ => ⟨S8192x5632, .bf16⟩
  | .hbm, ⟨5, _⟩ => ⟨S1x8192x5632, .bf16⟩
  | .hbm, ⟨6, _⟩ => ⟨S8192x5632, .bf16⟩
  | .hbm, ⟨7, _⟩ => ⟨S8192x11264, .bf16⟩
  | .hbm, ⟨8, _⟩ => ⟨S8192x11264, .f32⟩
  | .hbm, ⟨9, _⟩ => ⟨S1x8192x11264, .f32⟩
  | .hbm, ⟨10, _⟩ => ⟨S_, .f32⟩
  | .hbm, ⟨11, _⟩ => ⟨S1x8192x11264, .f32⟩
  | .hbm, ⟨12, _⟩ => ⟨S_, .f32⟩
  | .hbm, ⟨13, _⟩ => ⟨S11264, .f32⟩
  | .hbm, ⟨14, _⟩ => ⟨S_, .f32⟩
  | .hbm, ⟨15, _⟩ => ⟨S1x2x11264, .f32⟩
  | .hbm, ⟨16, _⟩ => ⟨S1x8194x11264, .f32⟩
  | .hbm, ⟨17, _⟩ => ⟨S_, .f32⟩
  | .hbm, ⟨18, _⟩ => ⟨S1x2x11264, .f32⟩
  | .hbm, ⟨19, _⟩ => ⟨S1x11264, .f32⟩
  | .hbm, ⟨20, _⟩ => ⟨S11264, .f32⟩
  | .hbm, ⟨21, _⟩ => ⟨S1x8192x11264, .f32⟩
  | .hbm, ⟨22, _⟩ => ⟨S1x1x11264, .f32⟩
  | .hbm, ⟨23, _⟩ => ⟨S1x8192x11264, .f32⟩
  | .hbm, ⟨24, _⟩ => ⟨S1x8192x11264, .f32⟩
  | .hbm, ⟨25, _⟩ => ⟨S1x1x11264, .f32⟩
  | .hbm, ⟨26, _⟩ => ⟨S1x8192x11264, .f32⟩
  | .hbm, ⟨27, _⟩ => ⟨S1x8192x11264, .f32⟩
  | .hbm, ⟨28, _⟩ => ⟨S1x11264, .f32⟩
  | .hbm, ⟨29, _⟩ => ⟨S11264, .f32⟩
  | .hbm, ⟨30, _⟩ => ⟨S1x8192x11264, .f32⟩
  | .hbm, ⟨31, _⟩ => ⟨S1x1x11264, .f32⟩
  | .hbm, ⟨32, _⟩ => ⟨S1x8192x11264, .f32⟩
  | .hbm, ⟨33, _⟩ => ⟨S1x8192x11264, .f32⟩
  | .hbm, ⟨34, _⟩ => ⟨S1x8192x11264, .f32⟩
  | .hbm, ⟨35, _⟩ => ⟨S1x11264, .f32⟩
  | .hbm, ⟨36, _⟩ => ⟨S11264, .f32⟩
  | .hbm, ⟨37, _⟩ => ⟨S1x8192x11264, .f32⟩
  | .hbm, ⟨38, _⟩ => ⟨S1x1x11264, .f32⟩
  | .hbm, ⟨39, _⟩ => ⟨S1x8192x11264, .f32⟩
  | .hbm, ⟨40, _⟩ => ⟨S1x8192x11264, .f32⟩
  | .hbm, ⟨41, _⟩ => ⟨S1x8192x11264, .f32⟩
  | .hbm, ⟨42, _⟩ => ⟨S1x8192x11264, .f32⟩
  | .hbm, ⟨43, _⟩ => ⟨S1x8192x11264, .f32⟩
  | .hbm, ⟨44, _⟩ => ⟨S_, .f32⟩
  | .hbm, ⟨45, _⟩ => ⟨S1x8194x11264, .f32⟩
  | .hbm, ⟨46, _⟩ => ⟨S1x8192x11264, .f32⟩
  | .hbm, ⟨47, _⟩ => ⟨S1x8192x11264, .f32⟩
  | .hbm, ⟨48, _⟩ => ⟨S_, .f32⟩
  | .hbm, ⟨49, _⟩ => ⟨S1x8194x11264, .f32⟩
  | .hbm, ⟨50, _⟩ => ⟨S1x8194x11264, .f32⟩
  | .hbm, ⟨51, _⟩ => ⟨S1x8192x11264, .f32⟩
  | .hbm, ⟨52, _⟩ => ⟨S1x8192x11264, .f32⟩
  | .hbm, ⟨53, _⟩ => ⟨S_, .f32⟩
  | .hbm, ⟨54, _⟩ => ⟨S1x8194x11264, .f32⟩
  | .hbm, ⟨55, _⟩ => ⟨S1x8194x11264, .f32⟩
  | .hbm, ⟨56, _⟩ => ⟨S1x2x11264, .f32⟩
  | .hbm, ⟨57, _⟩ => ⟨S1x8192x11264, .f32⟩
  | .hbm, ⟨58, _⟩ => ⟨S_, .f32⟩
  | .hbm, ⟨59, _⟩ => ⟨S1x8192x2048, .f32⟩
  | .hbm, ⟨60, _⟩ => ⟨S1x8192x11264, .f32⟩
  | .hbm, ⟨61, _⟩ => ⟨S1x8192x2048, .f32⟩
  | .hbm, ⟨62, _⟩ => ⟨S1x8192x5632, .f32⟩
  | .hbm, ⟨63, _⟩ => ⟨S8192x5632, .f32⟩
  | .hbm, ⟨64, _⟩ => ⟨S1x8192x5632, .f32⟩
  | .hbm, ⟨65, _⟩ => ⟨S8192x5632, .f32⟩
  | .hbm, ⟨66, _⟩ => ⟨S1x8192x5632, .f32⟩
  | .hbm, ⟨67, _⟩ => ⟨S1x8192x5632, .f32⟩
  | .hbm, ⟨68, _⟩ => ⟨S2x8192x5632, .f32⟩
  | .hbm, ⟨69, _⟩ => ⟨S2x8192x5632, .bf16⟩
  | .hbm, ⟨70, _⟩ => ⟨S8192x2048, .f32⟩
  | .hbm, ⟨71, _⟩ => ⟨S8192x2048, .bf16⟩
  | _, _ => ⟨S2x8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_cst_3 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_cst_4 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_cst_5 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_cst_6 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩

abbrev nD : Nat := 1
abbrev τ : Topo := Topo.v7x

variable {F : FTy → Type} [FloatOps F]
-- ==== Kernel2.lean ====
abbrev S2x8192x5632 : Shape := ⟨3, ![2, 8192, 5632]⟩
abbrev S8192x2048 : Shape := ⟨2, ![8192, 2048]⟩
abbrev S11264x2048 : Shape := ⟨2, ![11264, 2048]⟩
abbrev S1x2048x512 : Shape := ⟨3, ![1, 2048, 512]⟩
abbrev S2048x2048 : Shape := ⟨2, ![2048, 2048]⟩
abbrev S512x2048 : Shape := ⟨2, ![512, 2048]⟩
abbrev S2048x512 : Shape := ⟨2, ![2048, 512]⟩

abbrev nBuf : Space → Nat
  | .hbm => 3
  | .vmem => 7
  | .smem => 0
  | _ => 0

abbrev bufTy : (tb : Table) → Fin (tcTables nBuf tb) → BufTy
  | .hbm, ⟨0, _⟩ => ⟨S2x8192x5632, .bf16⟩
  | .hbm, ⟨1, _⟩ => ⟨S8192x2048, .bf16⟩
  | .hbm, ⟨2, _⟩ => ⟨S11264x2048, .bf16⟩
  | .local _ .vmem, ⟨0, _⟩ => ⟨S1x2048x512, .bf16⟩
  | .local _ .vmem, ⟨1, _⟩ => ⟨S1x2048x512, .bf16⟩
  | .local _ .vmem, ⟨2, _⟩ => ⟨S2048x2048, .bf16⟩
  | .local _ .vmem, ⟨3, _⟩ => ⟨S2048x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .f32⟩
  | _, _ => ⟨S2x8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![22, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_7 : BitVec 32 := 0#32
  let v12 : BitVec 1 := Scalar.cmpi .ne v11 c0_i32_7
  v12

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.divsi arg0 c11_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c11_i32 c0_i32_1
  let v7 : BitVec 32 := Scalar.extui v6
  let c0_i32_2 : BitVec 32 := 0#32
  let v8 : BitVec 1 := Scalar.cmpi .slt c11_i32 c0_i32_2
  let v9 : BitVec 32 := Scalar.extui v8
  let v10 : BitVec 32 := Scalar.subi v7 v9
  let v11 : BitVec 1 := Scalar.cmpi .ne v5 v10
  let v12 : BitVec 32 := Scalar.remsi arg0 c11_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c11_i32_4 : BitVec 32 := 11#32
  let c0_i32_5 : BitVec 32 := 0#32
  let v17 : BitVec 1 := Scalar.cmpi .eq c11_i32_4 c0_i32_5
  let c1_i32_6 : BitVec 32 := 1#32
  let v18 : BitVec 32 := Scalar.select v17 c1_i32_6 c11_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1x2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== Reference2Ideal.lean ====
abbrev S2x8192x5632 : Shape := ⟨3, ![2, 8192, 5632]⟩
abbrev S8192x2048 : Shape := ⟨2, ![8192, 2048]⟩
abbrev S1x8192x5632 : Shape := ⟨3, ![1, 8192, 5632]⟩
abbrev S8192x5632 : Shape := ⟨2, ![8192, 5632]⟩
abbrev S8192x11264 : Shape := ⟨2, ![8192, 11264]⟩
abbrev S_ : Shape := ⟨0, ![]⟩
abbrev S2048x11264 : Shape := ⟨2, ![2048, 11264]⟩
abbrev S11264x2048 : Shape := ⟨2, ![11264, 2048]⟩

abbrev nBuf : Space → Nat
  | .hbm => 16
  | .vmem => 0
  | .smem => 0
  | _ => 0

abbrev bufTy : (tb : Table) → Fin (tcTables nBuf tb) → BufTy
  | .hbm, ⟨0, _⟩ => ⟨S2x8192x5632, .bf16⟩
  | .hbm, ⟨1, _⟩ => ⟨S8192x2048, .bf16⟩
  | .hbm, ⟨2, _⟩ => ⟨S1x8192x5632, .bf16⟩
  | .hbm, ⟨3, _⟩ => ⟨S8192x5632, .bf16⟩
  | .hbm, ⟨4, _⟩ => ⟨S1x8192x5632, .bf16⟩
  | .hbm, ⟨5, _⟩ => ⟨S8192x5632, .bf16⟩
  | .hbm, ⟨6, _⟩ => ⟨S8192x11264, .bf16⟩
  | .hbm, ⟨7, _⟩ => ⟨S8192x11264, .f32⟩
  | .hbm, ⟨8, _⟩ => ⟨S_, .f32⟩
  | .hbm, ⟨9, _⟩ => ⟨S2048x11264, .f32⟩
  | .hbm, ⟨10, _⟩ => ⟨S8192x2048, .f32⟩
  | .hbm, ⟨11, _⟩ => ⟨S8192x11264, .f32⟩
  | .hbm, ⟨12, _⟩ => ⟨S11264x2048, .f32⟩
  | .hbm, ⟨13, _⟩ => ⟨S2048x11264, .f32⟩
  | .hbm, ⟨14, _⟩ => ⟨S11264x2048, .f32⟩
  | .hbm, ⟨15, _⟩ => ⟨S11264x2048, .bf16⟩
  | _, _ => ⟨S2x8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== Kernel3.lean ====
abbrev S2x8192x5632 : Shape := ⟨3, ![2, 8192, 5632]⟩
abbrev S8192x2048 : Shape := ⟨2, ![8192, 2048]⟩
abbrev S5632x2048 : Shape := ⟨2, ![5632, 2048]⟩
abbrev S3x11264 : Shape := ⟨2, ![3, 11264]⟩
abbrev S1x11264 : Shape := ⟨2, ![1, 11264]⟩
abbrev S3x5632 : Shape := ⟨2, ![3, 5632]⟩
abbrev S1x5632 : Shape := ⟨2, ![1, 5632]⟩
abbrev S2x512x512 : Shape := ⟨3, ![2, 512, 512]⟩
abbrev S2x16x512 : Shape := ⟨3, ![2, 16, 512]⟩
abbrev S512x2048 : Shape := ⟨2, ![512, 2048]⟩
abbrev S3x512 : Shape := ⟨2, ![3, 512]⟩
abbrev S1x512 : Shape := ⟨2, ![1, 512]⟩
abbrev S2x528x512 : Shape := ⟨3, ![2, 528, 512]⟩
abbrev S1x16x512 : Shape := ⟨3, ![1, 16, 512]⟩
abbrev S16x512 : Shape := ⟨2, ![16, 512]⟩
abbrev S1x512x512 : Shape := ⟨3, ![1, 512, 512]⟩
abbrev S512x512 : Shape := ⟨2, ![512, 512]⟩
abbrev S256x2048 : Shape := ⟨2, ![256, 2048]⟩
abbrev S512x256 : Shape := ⟨2, ![512, 256]⟩
abbrev S1x528x256 : Shape := ⟨3, ![1, 528, 256]⟩
abbrev S528x256 : Shape := ⟨2, ![528, 256]⟩
abbrev S1x256 : Shape := ⟨2, ![1, 256]⟩
abbrev S1x512x256 : Shape := ⟨3, ![1, 512, 256]⟩
abbrev S3x256 : Shape := ⟨2, ![3, 256]⟩
abbrev S256 : Shape := ⟨1, ![256]⟩

abbrev nBuf : Space → Nat
  | .hbm => 11
  | .vmem => 27
  | .smem => 0
  | _ => 0

abbrev bufTy : (tb : Table) → Fin (tcTables nBuf tb) → BufTy
  | .hbm, ⟨0, _⟩ => ⟨S2x8192x5632, .bf16⟩
  | .hbm, ⟨1, _⟩ => ⟨S8192x2048, .bf16⟩
  | .hbm, ⟨2, _⟩ => ⟨S5632x2048, .f32⟩
  | .hbm, ⟨3, _⟩ => ⟨S3x11264, .f32⟩
  | .hbm, ⟨4, _⟩ => ⟨S1x11264, .f32⟩
  | .hbm, ⟨5, _⟩ => ⟨S5632x2048, .bf16⟩
  | .hbm, ⟨6, _⟩ => ⟨S2x8192x5632, .bf16⟩
  | .hbm, ⟨7, _⟩ => ⟨S3x5632, .f32⟩
  | .hbm, ⟨8, _⟩ => ⟨S3x5632, .f32⟩
  | .hbm, ⟨9, _⟩ => ⟨S1x5632, .f32⟩
  | .hbm, ⟨10, _⟩ => ⟨S1x5632, .f32⟩
  | .local _ .vmem, ⟨0, _⟩ => ⟨S2x512x512, .bf16⟩
  | .local _ .vmem, ⟨1, _⟩ => ⟨S2x512x512, .bf16⟩
  | .local _ .vmem, ⟨2, _⟩ => ⟨S2x16x512, .bf16⟩
  | .local _ .vmem, ⟨3, _⟩ => ⟨S2x16x512, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S512x2048, .bf16⟩
  | .local _ .vmem, ⟨8, _⟩ => ⟨S3x512, .f32⟩
  | .local _ .vmem, ⟨9, _⟩ => ⟨S3x512, .f32⟩
  | .local _ .vmem, ⟨10, _⟩ => ⟨S3x512, .f32⟩
  | .local _ .vmem, ⟨11, _⟩ => ⟨S3x512, .f32⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S1x512, .f32⟩
  | .local _ .vmem, ⟨16, _⟩ => ⟨S2x512x512, .bf16⟩
  | .local _ .vmem, ⟨17, _⟩ => ⟨S2x512x512, .bf16⟩
  | .local _ .vmem, ⟨18, _⟩ => ⟨S3x512, .f32⟩
  | .local _ .vmem, ⟨19, _⟩ => ⟨S3x512, .f32⟩
  | .local _ .vmem, ⟨20, _⟩ => ⟨S3x512, .f32⟩
  | .local _ .vmem, ⟨21, _⟩ => ⟨S3x512, .f32⟩
  | .local _ .vmem, ⟨22, _⟩ => ⟨S1x512, .f32⟩
  | .local _ .vmem, ⟨23, _⟩ => ⟨S1x512, .f32⟩
  | .local _ .vmem, ⟨24, _⟩ => ⟨S1x512, .f32⟩
  | .local _ .vmem, ⟨25, _⟩ => ⟨S1x512, .f32⟩
  | .local _ .vmem, ⟨26, _⟩ => ⟨S2x528x512, .f32⟩
  | _, _ => ⟨S2x8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v1_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![11, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![c0_i32_0.toNat, v2.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg0 c11_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg0 c11_i32
  let c0_i32 : BitVec 32 := 0#32
  let c0_i32_0 : BitVec 32 := 0#32
  ![c0_i32.toNat, v0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x16x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S3x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S3x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S2x512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S3x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S3x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== Reference3Ideal.lean ====
abbrev S2x8192x5632 : Shape := ⟨3, ![2, 8192, 5632]⟩
abbrev S8192x2048 : Shape := ⟨2, ![8192, 2048]⟩
abbrev S5632x2048 : Shape := ⟨2, ![5632, 2048]⟩
abbrev S3x11264 : Shape := ⟨2, ![3, 11264]⟩
abbrev S1x11264 : Shape := ⟨2, ![1, 11264]⟩
abbrev S1x8192x5632 : Shape := ⟨3, ![1, 8192, 5632]⟩
abbrev S8192x5632 : Shape := ⟨2, ![8192, 5632]⟩
abbrev S8192x11264 : Shape := ⟨2, ![8192, 11264]⟩
abbrev S1x8192x11264 : Shape := ⟨3, ![1, 8192, 11264]⟩
abbrev S1x8192x2048 : Shape := ⟨3, ![1, 8192, 2048]⟩
abbrev S11264 : Shape := ⟨1, ![11264]⟩
abbrev S_ : Shape := ⟨0, ![]⟩
abbrev S1x2x11264 : Shape := ⟨3, ![1, 2, 11264]⟩
abbrev S1x8194x11264 : Shape := ⟨3, ![1, 8194, 11264]⟩
abbrev S1x1x11264 : Shape := ⟨3, ![1, 1, 11264]⟩
abbrev S3x5632 : Shape := ⟨2, ![3, 5632]⟩
abbrev S5632 : Shape := ⟨1, ![5632]⟩
abbrev S1x5632 : Shape := ⟨2, ![1, 5632]⟩

abbrev nBuf : Space → Nat
  | .hbm => 149
  | .vmem => 0
  | .smem => 0
  | _ => 0

abbrev hbmTy0_0 (i : Nat) : BufTy := match i % 128 with
  | 0 => ⟨S2x8192x5632, .bf16⟩
  | 1 => ⟨S8192x2048, .bf16⟩
  | 2 => ⟨S5632x2048, .f32⟩
  | 3 => ⟨S3x11264, .f32⟩
  | 4 => ⟨S1x11264, .f32⟩
  | 5 => ⟨S1x8192x5632, .bf16⟩
  | 6 => ⟨S8192x5632, .bf16⟩
  | 7 => ⟨S1x8192x5632, .bf16⟩
  | 8 => ⟨S8192x5632, .bf16⟩
  | 9 => ⟨S8192x11264, .bf16⟩
  | 10 => ⟨S8192x11264, .f32⟩
  | 11 => ⟨S1x8192x11264, .f32⟩
  | 12 => ⟨S8192x2048, .f32⟩
  | 13 => ⟨S1x8192x2048, .f32⟩
  | 14 => ⟨S11264, .f32⟩
  | 15 => ⟨S_, .f32⟩
  | 16 => ⟨S1x2x11264, .f32⟩
  | 17 => ⟨S1x8194x11264, .f32⟩
  | 18 => ⟨S1x11264, .f32⟩
  | 19 => ⟨S11264, .f32⟩
  | 20 => ⟨S1x8192x11264, .f32⟩
  | 21 => ⟨S1x1x11264, .f32⟩
  | 22 => ⟨S1x8192x11264, .f32⟩
  | 23 => ⟨S1x8192x11264, .f32⟩
  | 24 => ⟨S1x1x11264, .f32⟩
  | 25 => ⟨S1x8192x11264, .f32⟩
  | 26 => ⟨S1x8192x11264, .f32⟩
  | 27 => ⟨S1x11264, .f32⟩
  | 28 => ⟨S11264, .f32⟩
  | 29 => ⟨S1x8192x11264, .f32⟩
  | 30 => ⟨S1x1x11264, .f32⟩
  | 31 => ⟨S1x8192x11264, .f32⟩
  | 32 => ⟨S1x8192x11264, .f32⟩
  | 33 => ⟨S1x8192x11264, .f32⟩
  | 34 => ⟨S1x11264, .f32⟩
  | 35 => ⟨S11264, .f32⟩
  | 36 => ⟨S1x8192x11264, .f32⟩
  | 37 => ⟨S1x1x11264, .f32⟩
  | 38 => ⟨S1x8192x11264, .f32⟩
  | 39 => ⟨S1x8192x11264, .f32⟩
  | 40 => ⟨S1x8192x11264, .f32⟩
  | 41 => ⟨S1x8192x5632, .f32⟩
  | 42 => ⟨S1x8192x5632, .f32⟩
  | 43 => ⟨S1x8192x5632, .f32⟩
  | 44 => ⟨S_, .f32⟩
  | 45 => ⟨S1x8192x5632, .f32⟩
  | 46 => ⟨S1x8192x5632, .f32⟩
  | 47 => ⟨S1x8192x5632, .f32⟩
  | 48 => ⟨S_, .f32⟩
  | 49 => ⟨S1x8192x5632, .f32⟩
  | 50 => ⟨S1x8192x5632, .f32⟩
  | 51 => ⟨S_, .f32⟩
  | 52 => ⟨S1x8192x5632, .f32⟩
  | 53 => ⟨S1x8192x5632, .f32⟩
  | 54 => ⟨S1x8192x5632, .f32⟩
  | 55 => ⟨S1x8192x5632, .f32⟩
  | 56 => ⟨S_, .f32⟩
  | 57 => ⟨S1x8192x5632, .f32⟩
  | 58 => ⟨S1x8192x5632, .f32⟩
  | 59 => ⟨S1x8192x5632, .f32⟩
  | 60 => ⟨S1x8192x5632, .f32⟩
  | 61 => ⟨S1x8192x2048, .f32⟩
  | 62 => ⟨S1x8192x5632, .f32⟩
  | 63 => ⟨S1x8192x5632, .f32⟩
  | 64 => ⟨S1x8192x5632, .f32⟩
  | 65 => ⟨S1x8192x5632, .f32⟩
  | 66 => ⟨S1x8192x5632, .f32⟩
  | 67 => ⟨S1x8192x5632, .f32⟩
  | 68 => ⟨S1x8192x5632, .f32⟩
  | 69 => ⟨S_, .f32⟩
  | 70 => ⟨S1x8192x11264, .f32⟩
  | 71 => ⟨S_, .f32⟩
  | 72 => ⟨S1x8192x11264, .f32⟩
  | 73 => ⟨S1x8192x11264, .f32⟩
  | 74 => ⟨S11264, .f32⟩
  | 75 => ⟨S_, .f32⟩
  | 76 => ⟨S1x2x11264, .f32⟩
  | 77 => ⟨S1x8194x11264, .f32⟩
  | 78 => ⟨S1x11264, .f32⟩
  | 79 => ⟨S11264, .f32⟩
  | 80 => ⟨S1x8192x11264, .f32⟩
  | 81 => ⟨S1x1x11264, .f32⟩
  | 82 => ⟨S1x8192x11264, .f32⟩
  | 83 => ⟨S1x8192x11264, .f32⟩
  | 84 => ⟨S1x1x11264, .f32⟩
  | 85 => ⟨S1x8192x11264, .f32⟩
  | 86 => ⟨S1x8192x11264, .f32⟩
  | 87 => ⟨S1x11264, .f32⟩
  | 88 => ⟨S11264, .f32⟩
  | 89 => ⟨S1x8192x11264, .f32⟩
  | 90 => ⟨S1x1x11264, .f32⟩
  | 91 => ⟨S1x8192x11264, .f32⟩
  | 92 => ⟨S1x8192x11264, .f32⟩
  | 93 => ⟨S1x8192x11264, .f32⟩
  | 94 => ⟨S1x11264, .f32⟩
  | 95 => ⟨S11264, .f32⟩
  | 96 => ⟨S1x8192x11264, .f32⟩
  | 97 => ⟨S1x1x11264, .f32⟩
  | 98 => ⟨S1x8192x11264, .f32⟩
  | 99 => ⟨S1x8192x11264, .f32⟩
  | 100 => ⟨S1x8192x11264, .f32⟩
  | 101 => ⟨S1x8192x11264, .f32⟩
  | 102 => ⟨S_, .f32⟩
  | 103 => ⟨S1x11264, .f32⟩
  | 104 => ⟨S1x1x11264, .f32⟩
  | 105 => ⟨S_, .f32⟩
  | 106 => ⟨S11264, .f32⟩
  | 107 => ⟨S1x11264, .f32⟩
  | 108 => ⟨S_, .f32⟩
  | 109 => ⟨S3x11264, .f32⟩
  | 110 => ⟨S1x8192x11264, .f32⟩
  | 111 => ⟨S_, .f32⟩
  | 112 => ⟨S1x11264, .f32⟩
  | 113 => ⟨S1x1x11264, .f32⟩
  | 114 => ⟨S_, .f32⟩
  | 115 => ⟨S11264, .f32⟩
  | 116 => ⟨S1x11264, .f32⟩
  | 117 => ⟨S_, .f32⟩
  | 118 => ⟨S3x11264, .f32⟩
  | 119 => ⟨S3x11264, .f32⟩
  | 120 => ⟨S_, .f32⟩
  | 121 => ⟨S1x11264, .f32⟩
  | 122 => ⟨S1x1x11264, .f32⟩
  | 123 => ⟨S_, .f32⟩
  | 124 => ⟨S11264, .f32⟩
  | 125 => ⟨S1x8192x11264, .f32⟩
  | 126 => ⟨S_, .f32⟩
  | 127 => ⟨S1x11264, .f32⟩
  | _ => ⟨S2x8192x5632, .bf16⟩

abbrev hbmTy0_1 (i : Nat) : BufTy := match i % 128 with
  | 0 => ⟨S1x1x11264, .f32⟩
  | 1 => ⟨S_, .f32⟩
  | 2 => ⟨S11264, .f32⟩
  | 3 => ⟨S1x11264, .f32⟩
  | 4 => ⟨S_, .f32⟩
  | 5 => ⟨S3x11264, .f32⟩
  | 6 => ⟨S3x11264, .f32⟩
  | 7 => ⟨S1x8192x5632, .f32⟩
  | 8 => ⟨S8192x5632, .f32⟩
  | 9 => ⟨S1x8192x5632, .f32⟩
  | 10 => ⟨S8192x5632, .f32⟩
  | 11 => ⟨S1x8192x5632, .f32⟩
  | 12 => ⟨S1x8192x5632, .f32⟩
  | 13 => ⟨S2x8192x5632, .f32⟩
  | 14 => ⟨S2x8192x5632, .bf16⟩
  | 15 => ⟨S3x5632, .f32⟩
  | 16 => ⟨S3x5632, .f32⟩
  | 17 => ⟨S5632, .f32⟩
  | 18 => ⟨S1x5632, .f32⟩
  | 19 => ⟨S5632, .f32⟩
  | 20 => ⟨S1x5632, .f32⟩
  | _ => ⟨S2x8192x5632, .bf16⟩

abbrev hbmTy (i : Nat) : BufTy := match i / 128 with
  | 0 => hbmTy0_0 i
  | 1 => hbmTy0_1 i
  | _ => ⟨S2x8192x5632, .bf16⟩

abbrev bufTy : (tb : Table) → Fin (tcTables nBuf tb) → BufTy
  | .hbm, ⟨i, _⟩ => hbmTy i
  | _, _ => ⟨S2x8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_cst_0 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_cst_1 : Ref sig .tc := ⟨.hbm, 48, rfl⟩
abbrev main_v41 : Ref sig .tc := ⟨.hbm, 49, rfl⟩
abbrev main_v42 : Ref sig .tc := ⟨.hbm, 50, rfl⟩
abbrev main_cst_2 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_cst_3 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_cst_4 : Ref sig .tc := ⟨.hbm, 69, rfl⟩
abbrev main_v59 : Ref sig .tc := ⟨.hbm, 70, rfl⟩
abbrev main_cst_5 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_cst_6 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_cst_7 : Ref sig .tc := ⟨.hbm, 102, rfl⟩
abbrev main_v89 : Ref sig .tc := ⟨.hbm, 103, rfl⟩
abbrev main_v90 : Ref sig .tc := ⟨.hbm, 104, rfl⟩
abbrev main_cst_8 : Ref sig .tc := ⟨.hbm, 105, rfl⟩
abbrev main_v91 : Ref sig .tc := ⟨.hbm, 106, rfl⟩
abbrev main_v92 : Ref sig .tc := ⟨.hbm, 107, rfl⟩
abbrev main_cst_9 : Ref sig .tc := ⟨.hbm, 108, rfl⟩
abbrev main_v93 : Ref sig .tc := ⟨.hbm, 109, rfl⟩
abbrev main_v94 : Ref sig .tc := ⟨.hbm, 110, rfl⟩
abbrev main_cst_10 : Ref sig .tc := ⟨.hbm, 111, rfl⟩
abbrev main_v95 : Ref sig .tc := ⟨.hbm, 112, rfl⟩
abbrev main_v96 : Ref sig .tc := ⟨.hbm, 113, rfl⟩
abbrev main_cst_11 : Ref sig .tc := ⟨.hbm, 114, rfl⟩
abbrev main_v97 : Ref sig .tc := ⟨.hbm, 115, rfl⟩
abbrev main_v98 : Ref sig .tc := ⟨.hbm, 116, rfl⟩
abbrev main_cst_12 : Ref sig .tc := ⟨.hbm, 117, rfl⟩
abbrev main_v99 : Ref sig .tc := ⟨.hbm, 118, rfl⟩
abbrev main_v100 : Ref sig .tc := ⟨.hbm, 119, rfl⟩
abbrev main_cst_13 : Ref sig .tc := ⟨.hbm, 120, rfl⟩
abbrev main_v101 : Ref sig .tc := ⟨.hbm, 121, rfl⟩
abbrev main_v102 : Ref sig .tc := ⟨.hbm, 122, rfl⟩
abbrev main_cst_14 : Ref sig .tc := ⟨.hbm, 123, rfl⟩
abbrev main_v103 : Ref sig .tc := ⟨.hbm, 124, rfl⟩
abbrev main_v104 : Ref sig .tc := ⟨.hbm, 125, rfl⟩
abbrev main_cst_15 : Ref sig .tc := ⟨.hbm, 126, rfl⟩
abbrev main_v105 : Ref sig .tc := ⟨.hbm, 127, rfl⟩
abbrev main_v106 : Ref sig .tc := ⟨.hbm, 128, rfl⟩
abbrev main_cst_16 : Ref sig .tc := ⟨.hbm, 129, rfl⟩
abbrev main_v107 : Ref sig .tc := ⟨.hbm, 130, rfl⟩
abbrev main_v108 : Ref sig .tc := ⟨.hbm, 131, rfl⟩
abbrev main_cst_17 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩

abbrev nD : Nat := 1
abbrev τ : Topo := Topo.v7x

variable {F : FTy → Type} [FloatOps F]
-- ==== Kernel4.lean ====
abbrev S8192x9728 : Shape := ⟨2, ![8192, 9728]⟩
abbrev S8192x2048 : Shape := ⟨2, ![8192, 2048]⟩
abbrev S9728x2048 : Shape := ⟨2, ![9728, 2048]⟩
abbrev S2048x512 : Shape := ⟨2, ![2048, 512]⟩
abbrev S2048x2048 : Shape := ⟨2, ![2048, 2048]⟩
abbrev S512x2048 : Shape := ⟨2, ![512, 2048]⟩

abbrev nBuf : Space → Nat
  | .hbm => 3
  | .vmem => 7
  | .smem => 0
  | _ => 0

abbrev bufTy : (tb : Table) → Fin (tcTables nBuf tb) → BufTy
  | .hbm, ⟨0, _⟩ => ⟨S8192x9728, .bf16⟩
  | .hbm, ⟨1, _⟩ => ⟨S8192x2048, .bf16⟩
  | .hbm, ⟨2, _⟩ => ⟨S9728x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x2048, .bf16⟩
  | .local _ .vmem, ⟨3, _⟩ => ⟨S2048x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .f32⟩
  | _, _ => ⟨S8192x9728, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![19, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x9728 : Shape := ⟨2, ![8192, 9728]⟩
abbrev S8192x2048 : Shape := ⟨2, ![8192, 2048]⟩
abbrev S_ : Shape := ⟨0, ![]⟩
abbrev S2048x9728 : Shape := ⟨2, ![2048, 9728]⟩
abbrev S9728x2048 : Shape := ⟨2, ![9728, 2048]⟩

abbrev nBuf : Space → Nat
  | .hbm => 11
  | .vmem => 0
  | .smem => 0
  | _ => 0

abbrev bufTy : (tb : Table) → Fin (tcTables nBuf tb) → BufTy
  | .hbm, ⟨0, _⟩ => ⟨S8192x9728, .bf16⟩
  | .hbm, ⟨1, _⟩ => ⟨S8192x2048, .bf16⟩
  | .hbm, ⟨2, _⟩ => ⟨S_, .f32⟩
  | .hbm, ⟨3, _⟩ => ⟨S2048x9728, .f32⟩
  | .hbm, ⟨4, _⟩ => ⟨S8192x2048, .f32⟩
  | .hbm, ⟨5, _⟩ => ⟨S8192x9728, .f32⟩
  | .hbm, ⟨6, _⟩ => ⟨S8192x9728, .f32⟩
  | .hbm, ⟨7, _⟩ => ⟨S9728x2048, .f32⟩
  | .hbm, ⟨8, _⟩ => ⟨S2048x9728, .f32⟩
  | .hbm, ⟨9, _⟩ => ⟨S9728x2048, .f32⟩
  | .hbm, ⟨10, _⟩ => ⟨S9728x2048, .bf16⟩
  | _, _ => ⟨S8192x9728, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel5.lean ====
abbrev S8192x9728 : Shape := ⟨2, ![8192, 9728]⟩
abbrev S2048x9728 : Shape := ⟨2, ![2048, 9728]⟩
abbrev S8x128 : Shape := ⟨2, ![8, 128]⟩
abbrev S9728x2048 : Shape := ⟨2, ![9728, 2048]⟩
abbrev S8192x2048 : Shape := ⟨2, ![8192, 2048]⟩
abbrev S1024x2432 : Shape := ⟨2, ![1024, 2432]⟩
abbrev S2432x1024 : Shape := ⟨2, ![2432, 1024]⟩
abbrev S1024x1024 : Shape := ⟨2, ![1024, 1024]⟩

abbrev nBuf : Space → Nat
  | .hbm => 6
  | .vmem => 8
  | .smem => 0
  | _ => 0

abbrev bufTy : (tb : Table) → Fin (tcTables nBuf tb) → BufTy
  | .hbm, ⟨0, _⟩ => ⟨S8192x9728, .bf16⟩
  | .hbm, ⟨1, _⟩ => ⟨S2048x9728, .f32⟩
  | .hbm, ⟨2, _⟩ => ⟨S8x128, .f32⟩
  | .hbm, ⟨3, _⟩ => ⟨S9728x2048, .f32⟩
  | .hbm, ⟨4, _⟩ => ⟨S9728x2048, .bf16⟩
  | .hbm, ⟨5, _⟩ => ⟨S8192x2048, .bf16⟩
  | .local _ .vmem, ⟨0, _⟩ => ⟨S1024x2432, .bf16⟩
  | .local _ .vmem, ⟨1, _⟩ => ⟨S1024x2432, .bf16⟩
  | .local _ .vmem, ⟨2, _⟩ => ⟨S2432x1024, .bf16⟩
  | .local _ .vmem, ⟨3, _⟩ => ⟨S2432x1024, .bf16⟩
  | .local _ .vmem, ⟨4, _⟩ => ⟨S8x128, .f32⟩
  | .local _ .vmem, ⟨5, _⟩ => ⟨S1024x1024, .bf16⟩
  | .local _ .vmem, ⟨6, _⟩ => ⟨S1024x1024, .bf16⟩
  | .local _ .vmem, ⟨7, _⟩ => ⟨S1024x1024, .f32⟩
  | _, _ => ⟨S8192x9728, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 2, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2432 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2432x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference5Ideal.lean ====
abbrev S8192x9728 : Shape := ⟨2, ![8192, 9728]⟩
abbrev S2048x9728 : Shape := ⟨2, ![2048, 9728]⟩
abbrev S8x128 : Shape := ⟨2, ![8, 128]⟩
abbrev S_ : Shape := ⟨0, ![]⟩
abbrev S8192x2048 : Shape := ⟨2, ![8192, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x9728, .bf16⟩
  | .hbm, ⟨1, _⟩ => ⟨S2048x9728, .f32⟩
  | .hbm, ⟨2, _⟩ => ⟨S8x128, .f32⟩
  | .hbm, ⟨3, _⟩ => ⟨S_, .f32⟩
  | .hbm, ⟨4, _⟩ => ⟨S8192x2048, .f32⟩
  | .hbm, ⟨5, _⟩ => ⟨S8192x9728, .f32⟩
  | .hbm, ⟨6, _⟩ => ⟨S8192x9728, .f32⟩
  | .hbm, ⟨7, _⟩ => ⟨S8192x2048, .f32⟩
  | .hbm, ⟨8, _⟩ => ⟨S8192x2048, .bf16⟩
  | _, _ => ⟨S8192x9728, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel6.lean ====
abbrev S8192x5632 : Shape := ⟨2, ![8192, 5632]⟩
abbrev S8192x2048 : Shape := ⟨2, ![8192, 2048]⟩
abbrev S5632x2048 : Shape := ⟨2, ![5632, 2048]⟩
abbrev S2048x512 : Shape := ⟨2, ![2048, 512]⟩
abbrev S2048x2048 : Shape := ⟨2, ![2048, 2048]⟩
abbrev S512x2048 : Shape := ⟨2, ![512, 2048]⟩

abbrev nBuf : Space → Nat
  | .hbm => 3
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .bf16⟩
  | .hbm, ⟨2, _⟩ => ⟨S5632x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x2048, .bf16⟩
  | .local _ .vmem, ⟨3, _⟩ => ⟨S2048x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S8192x5632 : Shape := ⟨2, ![8192, 5632]⟩
abbrev S8192x2048 : Shape := ⟨2, ![8192, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 10
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .bf16⟩
  | .hbm, ⟨2, _⟩ => ⟨S_, .f32⟩
  | .hbm, ⟨3, _⟩ => ⟨S5632x2048, .f32⟩
  | .hbm, ⟨4, _⟩ => ⟨S8192x5632, .f32⟩
  | .hbm, ⟨5, _⟩ => ⟨S8192x2048, .f32⟩
  | .hbm, ⟨6, _⟩ => ⟨S8192x2048, .f32⟩
  | .hbm, ⟨7, _⟩ => ⟨S2048x5632, .f32⟩
  | .hbm, ⟨8, _⟩ => ⟨S5632x2048, .f32⟩
  | .hbm, ⟨9, _⟩ => ⟨S5632x2048, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel7.lean ====
abbrev S8192x2048 : Shape := ⟨2, ![8192, 2048]⟩
abbrev S2048x2048 : Shape := ⟨2, ![2048, 2048]⟩
abbrev S2048x512 : Shape := ⟨2, ![2048, 512]⟩
abbrev S512x2048 : Shape := ⟨2, ![512, 2048]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2048x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x2048, .bf16⟩
  | .local _ .vmem, ⟨3, _⟩ => ⟨S2048x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S8192x2048 : Shape := ⟨2, ![8192, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S_, .f32⟩
  | .hbm, ⟨3, _⟩ => ⟨S2048x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel8.lean ====
abbrev S8192x2048 : Shape := ⟨2, ![8192, 2048]⟩
abbrev S2048x9728 : Shape := ⟨2, ![2048, 9728]⟩
abbrev S8x128 : Shape := ⟨2, ![8, 128]⟩
abbrev S9728x2048 : Shape := ⟨2, ![9728, 2048]⟩
abbrev S8192x1024 : Shape := ⟨2, ![8192, 1024]⟩
abbrev S2048x2048 : Shape := ⟨2, ![2048, 2048]⟩
abbrev S512x2048 : Shape := ⟨2, ![512, 2048]⟩
abbrev S2048x512 : Shape := ⟨2, ![2048, 512]⟩

abbrev nBuf : Space → Nat
  | .hbm => 6
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x9728, .f32⟩
  | .hbm, ⟨2, _⟩ => ⟨S8x128, .f32⟩
  | .hbm, ⟨3, _⟩ => ⟨S9728x2048, .f32⟩
  | .hbm, ⟨4, _⟩ => ⟨S9728x2048, .bf16⟩
  | .hbm, ⟨5, _⟩ => ⟨S8192x1024, .f32⟩
  | .local _ .vmem, ⟨0, _⟩ => ⟨S2048x2048, .bf16⟩
  | .local _ .vmem, ⟨1, _⟩ => ⟨S2048x2048, .bf16⟩
  | .local _ .vmem, ⟨2, _⟩ => ⟨S512x2048, .bf16⟩
  | .local _ .vmem, ⟨3, _⟩ => ⟨S512x2048, .bf16⟩
  | .local _ .vmem, ⟨4, _⟩ => ⟨S8x128, .f32⟩
  | .local _ .vmem, ⟨5, _⟩ => ⟨S2048x512, .f32⟩
  | .local _ .vmem, ⟨6, _⟩ => ⟨S2048x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference8Ideal.lean ====
abbrev S8192x2048 : Shape := ⟨2, ![8192, 2048]⟩
abbrev S2048x9728 : Shape := ⟨2, ![2048, 9728]⟩
abbrev S8x128 : Shape := ⟨2, ![8, 128]⟩
abbrev S8192x9728 : Shape := ⟨2, ![8192, 9728]⟩
abbrev S8192x1024 : Shape := ⟨2, ![8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x9728, .f32⟩
  | .hbm, ⟨2, _⟩ => ⟨S8x128, .f32⟩
  | .hbm, ⟨3, _⟩ => ⟨S8192x2048, .f32⟩
  | .hbm, ⟨4, _⟩ => ⟨S8192x9728, .f32⟩
  | .hbm, ⟨5, _⟩ => ⟨S8192x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel9.lean ====
abbrev S8192x2048 : Shape := ⟨2, ![8192, 2048]⟩
abbrev S2048x9728 : Shape := ⟨2, ![2048, 9728]⟩
abbrev S8x128 : Shape := ⟨2, ![8, 128]⟩
abbrev S9728x2048 : Shape := ⟨2, ![9728, 2048]⟩
abbrev S8192x4608 : Shape := ⟨2, ![8192, 4608]⟩
abbrev S2048x2048 : Shape := ⟨2, ![2048, 2048]⟩
abbrev S512x2048 : Shape := ⟨2, ![512, 2048]⟩
abbrev S2048x512 : Shape := ⟨2, ![2048, 512]⟩

abbrev nBuf : Space → Nat
  | .hbm => 6
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x9728, .f32⟩
  | .hbm, ⟨2, _⟩ => ⟨S8x128, .f32⟩
  | .hbm, ⟨3, _⟩ => ⟨S9728x2048, .f32⟩
  | .hbm, ⟨4, _⟩ => ⟨S9728x2048, .bf16⟩
  | .hbm, ⟨5, _⟩ => ⟨S8192x4608, .bf16⟩
  | .local _ .vmem, ⟨0, _⟩ => ⟨S2048x2048, .bf16⟩
  | .local _ .vmem, ⟨1, _⟩ => ⟨S2048x2048, .bf16⟩
  | .local _ .vmem, ⟨2, _⟩ => ⟨S512x2048, .bf16⟩
  | .local _ .vmem, ⟨3, _⟩ => ⟨S512x2048, .bf16⟩
  | .local _ .vmem, ⟨4, _⟩ => ⟨S8x128, .f32⟩
  | .local _ .vmem, ⟨5, _⟩ => ⟨S2048x512, .bf16⟩
  | .local _ .vmem, ⟨6, _⟩ => ⟨S2048x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 9, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg1 c2_i32
  let c0_i32 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference9Ideal.lean ====
abbrev S8192x2048 : Shape := ⟨2, ![8192, 2048]⟩
abbrev S2048x9728 : Shape := ⟨2, ![2048, 9728]⟩
abbrev S8x128 : Shape := ⟨2, ![8, 128]⟩
abbrev S8192x9728 : Shape := ⟨2, ![8192, 9728]⟩
abbrev S8192x4608 : Shape := ⟨2, ![8192, 4608]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x9728, .f32⟩
  | .hbm, ⟨2, _⟩ => ⟨S8x128, .f32⟩
  | .hbm, ⟨3, _⟩ => ⟨S8192x2048, .f32⟩
  | .hbm, ⟨4, _⟩ => ⟨S8192x9728, .f32⟩
  | .hbm, ⟨5, _⟩ => ⟨S8192x4608, .f32⟩
  | .hbm, ⟨6, _⟩ => ⟨S8192x4608, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel10.lean ====
abbrev S8192x2048 : Shape := ⟨2, ![8192, 2048]⟩
abbrev S2048x9728 : Shape := ⟨2, ![2048, 9728]⟩
abbrev S8x128 : Shape := ⟨2, ![8, 128]⟩
abbrev S9728x2048 : Shape := ⟨2, ![9728, 2048]⟩
abbrev S8192x4096 : Shape := ⟨2, ![8192, 4096]⟩
abbrev S2048x2048 : Shape := ⟨2, ![2048, 2048]⟩
abbrev S512x2048 : Shape := ⟨2, ![512, 2048]⟩
abbrev S2048x512 : Shape := ⟨2, ![2048, 512]⟩

abbrev nBuf : Space → Nat
  | .hbm => 6
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x9728, .f32⟩
  | .hbm, ⟨2, _⟩ => ⟨S8x128, .f32⟩
  | .hbm, ⟨3, _⟩ => ⟨S9728x2048, .f32⟩
  | .hbm, ⟨4, _⟩ => ⟨S9728x2048, .bf16⟩
  | .hbm, ⟨5, _⟩ => ⟨S8192x4096, .bf16⟩
  | .local _ .vmem, ⟨0, _⟩ => ⟨S2048x2048, .bf16⟩
  | .local _ .vmem, ⟨1, _⟩ => ⟨S2048x2048, .bf16⟩
  | .local _ .vmem, ⟨2, _⟩ => ⟨S512x2048, .bf16⟩
  | .local _ .vmem, ⟨3, _⟩ => ⟨S512x2048, .bf16⟩
  | .local _ .vmem, ⟨4, _⟩ => ⟨S8x128, .f32⟩
  | .local _ .vmem, ⟨5, _⟩ => ⟨S2048x512, .bf16⟩
  | .local _ .vmem, ⟨6, _⟩ => ⟨S2048x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.addi arg1 c11_i32
  let c0_i32 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference10Ideal.lean ====
abbrev S8192x2048 : Shape := ⟨2, ![8192, 2048]⟩
abbrev S2048x9728 : Shape := ⟨2, ![2048, 9728]⟩
abbrev S8x128 : Shape := ⟨2, ![8, 128]⟩
abbrev S8192x9728 : Shape := ⟨2, ![8192, 9728]⟩
abbrev S8192x4096 : Shape := ⟨2, ![8192, 4096]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x9728, .f32⟩
  | .hbm, ⟨2, _⟩ => ⟨S8x128, .f32⟩
  | .hbm, ⟨3, _⟩ => ⟨S8192x2048, .f32⟩
  | .hbm, ⟨4, _⟩ => ⟨S8192x9728, .f32⟩
  | .hbm, ⟨5, _⟩ => ⟨S8192x4096, .f32⟩
  | .hbm, ⟨6, _⟩ => ⟨S8192x4096, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel11.lean ====
abbrev S8192x5632 : Shape := ⟨2, ![8192, 5632]⟩
abbrev S5632x2048 : Shape := ⟨2, ![5632, 2048]⟩
abbrev S8192x2048 : Shape := ⟨2, ![8192, 2048]⟩
abbrev S1024x2816 : Shape := ⟨2, ![1024, 2816]⟩
abbrev S2816x1024 : Shape := ⟨2, ![2816, 1024]⟩
abbrev S1024x1024 : Shape := ⟨2, ![1024, 1024]⟩

abbrev nBuf : Space → Nat
  | .hbm => 5
  | .vmem => 9
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .f32⟩
  | .hbm, ⟨2, _⟩ => ⟨S8192x2048, .f32⟩
  | .hbm, ⟨3, _⟩ => ⟨S5632x2048, .bf16⟩
  | .hbm, ⟨4, _⟩ => ⟨S8192x2048, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference11Ideal.lean ====
abbrev S8192x5632 : Shape := ⟨2, ![8192, 5632]⟩
abbrev S5632x2048 : Shape := ⟨2, ![5632, 2048]⟩
abbrev S8192x2048 : Shape := ⟨2, ![8192, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .f32⟩
  | .hbm, ⟨2, _⟩ => ⟨S8192x2048, .f32⟩
  | .hbm, ⟨3, _⟩ => ⟨S8192x5632, .f32⟩
  | .hbm, ⟨4, _⟩ => ⟨S8192x2048, .f32⟩
  | .hbm, ⟨5, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel12.lean ====
abbrev S8192x2048 : Shape := ⟨2, ![8192, 2048]⟩
abbrev S2048x11264 : Shape := ⟨2, ![2048, 11264]⟩
abbrev S3x11264 : Shape := ⟨2, ![3, 11264]⟩
abbrev S1x11264 : Shape := ⟨2, ![1, 11264]⟩
abbrev S11264x2048 : Shape := ⟨2, ![11264, 2048]⟩
abbrev S2x8192x5632 : Shape := ⟨3, ![2, 8192, 5632]⟩
abbrev S8192x5632 : Shape := ⟨2, ![8192, 5632]⟩
abbrev S1024x2048 : Shape := ⟨2, ![1024, 2048]⟩
abbrev S512x2048 : Shape := ⟨2, ![512, 2048]⟩
abbrev S3x512 : Shape := ⟨2, ![3, 512]⟩
abbrev S1x512 : Shape := ⟨2, ![1, 512]⟩
abbrev S2x1024x512 : Shape := ⟨3, ![2, 1024, 512]⟩
abbrev S1024x512 : Shape := ⟨2, ![1024, 512]⟩
abbrev S2x1040x512 : Shape := ⟨3, ![2, 1040, 512]⟩
abbrev S11x2x16x512 : Shape := ⟨4, ![11, 2, 16, 512]⟩
abbrev S1x1024x512 : Shape := ⟨3, ![1, 1024, 512]⟩
abbrev S1x1x16x512 : Shape := ⟨4, ![1, 1, 16, 512]⟩
abbrev S16x512 : Shape := ⟨2, ![16, 512]⟩
abbrev S1x16x512 : Shape := ⟨3, ![1, 16, 512]⟩
abbrev S1x1040x512 : Shape := ⟨3, ![1, 1040, 512]⟩
abbrev S1040x512 : Shape := ⟨2, ![1040, 512]⟩

abbrev nBuf : Space → Nat
  | .hbm => 8
  | .vmem => 20
  | .smem => 0
  | _ => 0

abbrev bufTy : (tb : Table) → Fin (tcTables nBuf tb) → BufTy
  | .hbm, ⟨0, _⟩ => ⟨S8192x2048, .bf16⟩
  | .hbm, ⟨1, _⟩ => ⟨S2048x11264, .f32⟩
  | .hbm, ⟨2, _⟩ => ⟨S3x11264, .f32⟩
  | .hbm, ⟨3, _⟩ => ⟨S1x11264, .f32⟩
  | .hbm, ⟨4, _⟩ => ⟨S11264x2048, .f32⟩
  | .hbm, ⟨5, _⟩ => ⟨S11264x2048, .bf16⟩
  | .hbm, ⟨6, _⟩ => ⟨S2x8192x5632, .bf16⟩
  | .hbm, ⟨7, _⟩ => ⟨S8192x5632, .bf16⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S3x512, .f32⟩
  | .local _ .vmem, ⟨7, _⟩ => ⟨S3x512, .f32⟩
  | .local _ .vmem, ⟨8, _⟩ => ⟨S3x512, .f32⟩
  | .local _ .vmem, ⟨9, _⟩ => ⟨S3x512, .f32⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S2x1024x512, .bf16⟩
  | .local _ .vmem, ⟨15, _⟩ => ⟨S2x1024x512, .bf16⟩
  | .local _ .vmem, ⟨16, _⟩ => ⟨S1024x512, .bf16⟩
  | .local _ .vmem, ⟨17, _⟩ => ⟨S1024x512, .bf16⟩
  | .local _ .vmem, ⟨18, _⟩ => ⟨S2x1040x512, .f32⟩
  | .local _ .vmem, ⟨19, _⟩ => ⟨S11x2x16x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 11], ![false, false]⟩

def k0_off1 (i : grid0.Coords) : Fin 4 → Nat :=
  let arg1 : BitVec 32 := BitVec.ofNat 32 (i 1).val
  let v9 : Index := Scalar.indexCast arg1
  let c0_6 : Index := 0#32
  let c0_7 : Index := 0#32
  let c0_8 : Index := 0#32
  ![v9.toNat, 0, 0, 0]
def k0_off2 (i : grid0.Coords) : Fin 4 → Nat :=
  let arg1 : BitVec 32 := BitVec.ofNat 32 (i 1).val
  let v36 : Index := Scalar.indexCast arg1
  let c1_28 : Index := 1#32
  let c0_29 : Index := 0#32
  let c0_30 : Index := 0#32
  ![v36.toNat, 1, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S3x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S3x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S2x1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference12Ideal.lean ====
abbrev S8192x2048 : Shape := ⟨2, ![8192, 2048]⟩
abbrev S2048x11264 : Shape := ⟨2, ![2048, 11264]⟩
abbrev S3x11264 : Shape := ⟨2, ![3, 11264]⟩
abbrev S1x11264 : Shape := ⟨2, ![1, 11264]⟩
abbrev S8192x11264 : Shape := ⟨2, ![8192, 11264]⟩
abbrev S1x8192x11264 : Shape := ⟨3, ![1, 8192, 11264]⟩
abbrev S11264 : Shape := ⟨1, ![11264]⟩
abbrev S_ : Shape := ⟨0, ![]⟩
abbrev S1x2x11264 : Shape := ⟨3, ![1, 2, 11264]⟩
abbrev S1x8194x11264 : Shape := ⟨3, ![1, 8194, 11264]⟩
abbrev S1x1x11264 : Shape := ⟨3, ![1, 1, 11264]⟩
abbrev S1x8192x5632 : Shape := ⟨3, ![1, 8192, 5632]⟩
abbrev S8192x5632 : Shape := ⟨2, ![8192, 5632]⟩
abbrev S2x8192x5632 : Shape := ⟨3, ![2, 8192, 5632]⟩

abbrev nBuf : Space → Nat
  | .hbm => 54
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x11264, .f32⟩
  | .hbm, ⟨2, _⟩ => ⟨S3x11264, .f32⟩
  | .hbm, ⟨3, _⟩ => ⟨S1x11264, .f32⟩
  | .hbm, ⟨4, _⟩ => ⟨S8192x2048, .f32⟩
  | .hbm, ⟨5, _⟩ => ⟨S8192x11264, .f32⟩
  | .hbm, ⟨6, _⟩ => ⟨S1x8192x11264, .f32⟩
  | .hbm, ⟨7, _⟩ => ⟨S11264, .f32⟩
  | .hbm, ⟨8, _⟩ => ⟨S_, .f32⟩
  | .hbm, ⟨9, _⟩ => ⟨S1x2x11264, .f32⟩
  | .hbm, ⟨10, _⟩ => ⟨S1x8194x11264, .f32⟩
  | .hbm, ⟨11, _⟩ => ⟨S1x11264, .f32⟩
  | .hbm, ⟨12, _⟩ => ⟨S11264, .f32⟩
  | .hbm, ⟨13, _⟩ => ⟨S1x8192x11264, .f32⟩
  | .hbm, ⟨14, _⟩ => ⟨S1x1x11264, .f32⟩
  | .hbm, ⟨15, _⟩ => ⟨S1x8192x11264, .f32⟩
  | .hbm, ⟨16, _⟩ => ⟨S1x8192x11264, .f32⟩
  | .hbm, ⟨17, _⟩ => ⟨S1x1x11264, .f32⟩
  | .hbm, ⟨18, _⟩ => ⟨S1x8192x11264, .f32⟩
  | .hbm, ⟨19, _⟩ => ⟨S1x8192x11264, .f32⟩
  | .hbm, ⟨20, _⟩ => ⟨S1x11264, .f32⟩
  | .hbm, ⟨21, _⟩ => ⟨S11264, .f32⟩
  | .hbm, ⟨22, _⟩ => ⟨S1x8192x11264, .f32⟩
  | .hbm, ⟨23, _⟩ => ⟨S1x1x11264, .f32⟩
  | .hbm, ⟨24, _⟩ => ⟨S1x8192x11264, .f32⟩
  | .hbm, ⟨25, _⟩ => ⟨S1x8192x11264, .f32⟩
  | .hbm, ⟨26, _⟩ => ⟨S1x8192x11264, .f32⟩
  | .hbm, ⟨27, _⟩ => ⟨S1x11264, .f32⟩
  | .hbm, ⟨28, _⟩ => ⟨S11264, .f32⟩
  | .hbm, ⟨29, _⟩ => ⟨S1x8192x11264, .f32⟩
  | .hbm, ⟨30, _⟩ => ⟨S1x1x11264, .f32⟩
  | .hbm, ⟨31, _⟩ => ⟨S1x8192x11264, .f32⟩
  | .hbm, ⟨32, _⟩ => ⟨S1x8192x11264, .f32⟩
  | .hbm, ⟨33, _⟩ => ⟨S1x8192x11264, .f32⟩
  | .hbm, ⟨34, _⟩ => ⟨S1x8192x5632, .f32⟩
  | .hbm, ⟨35, _⟩ => ⟨S1x8192x5632, .f32⟩
  | .hbm, ⟨36, _⟩ => ⟨S_, .f32⟩
  | .hbm, ⟨37, _⟩ => ⟨S1x8192x5632, .f32⟩
  | .hbm, ⟨38, _⟩ => ⟨S1x8192x5632, .f32⟩
  | .hbm, ⟨39, _⟩ => ⟨S1x8192x5632, .f32⟩
  | .hbm, ⟨40, _⟩ => ⟨S_, .f32⟩
  | .hbm, ⟨41, _⟩ => ⟨S1x8192x5632, .f32⟩
  | .hbm, ⟨42, _⟩ => ⟨S1x8192x5632, .f32⟩
  | .hbm, ⟨43, _⟩ => ⟨S1x8192x5632, .f32⟩
  | .hbm, ⟨44, _⟩ => ⟨S1x8192x5632, .f32⟩
  | .hbm, ⟨45, _⟩ => ⟨S1x8192x5632, .f32⟩
  | .hbm, ⟨46, _⟩ => ⟨S8192x5632, .f32⟩
  | .hbm, ⟨47, _⟩ => ⟨S8192x5632, .f32⟩
  | .hbm, ⟨48, _⟩ => ⟨S1x8192x5632, .f32⟩
  | .hbm, ⟨49, _⟩ => ⟨S1x8192x5632, .f32⟩
  | .hbm, ⟨50, _⟩ => ⟨S2x8192x5632, .f32⟩
  | .hbm, ⟨51, _⟩ => ⟨S2x8192x5632, .bf16⟩
  | .hbm, ⟨52, _⟩ => ⟨S8192x5632, .f32⟩
  | .hbm, ⟨53, _⟩ => ⟨S8192x5632, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_cst_0 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_cst_1 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩

abbrev nD : Nat := 1
abbrev τ : Topo := Topo.v7x

variable {F : FTy → Type} [FloatOps F]
-- ==== Kernel13.lean ====
abbrev S8x704x2048 : Shape := ⟨3, ![8, 704, 2048]⟩
abbrev S704x2048 : Shape := ⟨2, ![704, 2048]⟩
abbrev S8x176x2048 : Shape := ⟨3, ![8, 176, 2048]⟩
abbrev S176x2048 : Shape := ⟨2, ![176, 2048]⟩
abbrev S1x176x2048 : Shape := ⟨3, ![1, 176, 2048]⟩

abbrev nBuf : Space → Nat
  | .hbm => 8
  | .vmem => 16
  | .smem => 0
  | _ => 0

abbrev bufTy : (tb : Table) → Fin (tcTables nBuf tb) → BufTy
  | .hbm, ⟨0, _⟩ => ⟨S8x704x2048, .bf16⟩
  | .hbm, ⟨1, _⟩ => ⟨S704x2048, .f32⟩
  | .hbm, ⟨2, _⟩ => ⟨S704x2048, .f32⟩
  | .hbm, ⟨3, _⟩ => ⟨S704x2048, .f32⟩
  | .hbm, ⟨4, _⟩ => ⟨S704x2048, .f32⟩
  | .hbm, ⟨5, _⟩ => ⟨S704x2048, .f32⟩
  | .hbm, ⟨6, _⟩ => ⟨S704x2048, .f32⟩
  | .hbm, ⟨7, _⟩ => ⟨S704x2048, .f32⟩
  | .local _ .vmem, ⟨0, _⟩ => ⟨S8x176x2048, .bf16⟩
  | .local _ .vmem, ⟨1, _⟩ => ⟨S8x176x2048, .bf16⟩
  | .local _ .vmem, ⟨2, _⟩ => ⟨S176x2048, .f32⟩
  | .local _ .vmem, ⟨3, _⟩ => ⟨S176x2048, .f32⟩
  | .local _ .vmem, ⟨4, _⟩ => ⟨S176x2048, .f32⟩
  | .local _ .vmem, ⟨5, _⟩ => ⟨S176x2048, .f32⟩
  | .local _ .vmem, ⟨6, _⟩ => ⟨S176x2048, .f32⟩
  | .local _ .vmem, ⟨7, _⟩ => ⟨S176x2048, .f32⟩
  | .local _ .vmem, ⟨8, _⟩ => ⟨S176x2048, .f32⟩
  | .local _ .vmem, ⟨9, _⟩ => ⟨S176x2048, .f32⟩
  | .local _ .vmem, ⟨10, _⟩ => ⟨S176x2048, .f32⟩
  | .local _ .vmem, ⟨11, _⟩ => ⟨S176x2048, .f32⟩
  | .local _ .vmem, ⟨12, _⟩ => ⟨S176x2048, .f32⟩
  | .local _ .vmem, ⟨13, _⟩ => ⟨S176x2048, .f32⟩
  | .local _ .vmem, ⟨14, _⟩ => ⟨S176x2048, .f32⟩
  | .local _ .vmem, ⟨15, _⟩ => ⟨S176x2048, .f32⟩
  | _, _ => ⟨S8x704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x176x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference13Ideal.lean ====
abbrev S8x704x2048 : Shape := ⟨3, ![8, 704, 2048]⟩
abbrev S704x2048 : Shape := ⟨2, ![704, 2048]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x704x2048, .bf16⟩
  | .hbm, ⟨1, _⟩ => ⟨S704x2048, .f32⟩
  | .hbm, ⟨2, _⟩ => ⟨S704x2048, .f32⟩
  | .hbm, ⟨3, _⟩ => ⟨S704x2048, .f32⟩
  | .hbm, ⟨4, _⟩ => ⟨S8x704x2048, .f32⟩
  | .hbm, ⟨5, _⟩ => ⟨S_, .f32⟩
  | .hbm, ⟨6, _⟩ => ⟨S704x2048, .f32⟩
  | .hbm, ⟨7, _⟩ => ⟨S_, .f32⟩
  | .hbm, ⟨8, _⟩ => ⟨S704x2048, .f32⟩
  | .hbm, ⟨9, _⟩ => ⟨S704x2048, .f32⟩
  | .hbm, ⟨10, _⟩ => ⟨S_, .f32⟩
  | .hbm, ⟨11, _⟩ => ⟨S704x2048, .f32⟩
  | .hbm, ⟨12, _⟩ => ⟨S704x2048, .f32⟩
  | .hbm, ⟨13, _⟩ => ⟨S704x2048, .f32⟩
  | .hbm, ⟨14, _⟩ => ⟨S_, .f32⟩
  | .hbm, ⟨15, _⟩ => ⟨S704x2048, .f32⟩
  | .hbm, ⟨16, _⟩ => ⟨S704x2048, .f32⟩
  | .hbm, ⟨17, _⟩ => ⟨S704x2048, .f32⟩
  | .hbm, ⟨18, _⟩ => ⟨S_, .f32⟩
  | .hbm, ⟨19, _⟩ => ⟨S704x2048, .f32⟩
  | .hbm, ⟨20, _⟩ => ⟨S704x2048, .f32⟩
  | .hbm, ⟨21, _⟩ => ⟨S704x2048, .f32⟩
  | .hbm, ⟨22, _⟩ => ⟨S_, .f32⟩
  | .hbm, ⟨23, _⟩ => ⟨S704x2048, .f32⟩
  | .hbm, ⟨24, _⟩ => ⟨S704x2048, .f32⟩
  | .hbm, ⟨25, _⟩ => ⟨S_, .f32⟩
  | .hbm, ⟨26, _⟩ => ⟨S704x2048, .f32⟩
  | .hbm, ⟨27, _⟩ => ⟨S704x2048, .f32⟩
  | .hbm, ⟨28, _⟩ => ⟨S704x2048, .f32⟩
  | .hbm, ⟨29, _⟩ => ⟨S_, .f32⟩
  | .hbm, ⟨30, _⟩ => ⟨S704x2048, .f32⟩
  | .hbm, ⟨31, _⟩ => ⟨S704x2048, .f32⟩
  | .hbm, ⟨32, _⟩ => ⟨S704x2048, .f32⟩
  | .hbm, ⟨33, _⟩ => ⟨S_, .f32⟩
  | .hbm, ⟨34, _⟩ => ⟨S704x2048, .f32⟩
  | .hbm, ⟨35, _⟩ => ⟨S704x2048, .f32⟩
  | .hbm, ⟨36, _⟩ => ⟨S704x2048, .f32⟩
  | .hbm, ⟨37, _⟩ => ⟨S_, .f32⟩
  | .hbm, ⟨38, _⟩ => ⟨S704x2048, .f32⟩
  | .hbm, ⟨39, _⟩ => ⟨S704x2048, .f32⟩
  | _, _ => ⟨S8x704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel14.lean ====
abbrev S8x256x2048 : Shape := ⟨3, ![8, 256, 2048]⟩
abbrev S256x2048 : Shape := ⟨2, ![256, 2048]⟩
abbrev S1x256x2048 : Shape := ⟨3, ![1, 256, 2048]⟩

abbrev nBuf : Space → Nat
  | .hbm => 8
  | .vmem => 8
  | .smem => 0
  | _ => 0

abbrev bufTy : (tb : Table) → Fin (tcTables nBuf tb) → BufTy
  | .hbm, ⟨0, _⟩ => ⟨S8x256x2048, .bf16⟩
  | .hbm, ⟨1, _⟩ => ⟨S256x2048, .f32⟩
  | .hbm, ⟨2, _⟩ => ⟨S256x2048, .f32⟩
  | .hbm, ⟨3, _⟩ => ⟨S256x2048, .f32⟩
  | .hbm, ⟨4, _⟩ => ⟨S256x2048, .f32⟩
  | .hbm, ⟨5, _⟩ => ⟨S256x2048, .f32⟩
  | .hbm, ⟨6, _⟩ => ⟨S256x2048, .f32⟩
  | .hbm, ⟨7, _⟩ => ⟨S256x2048, .f32⟩
  | .local _ .vmem, ⟨0, _⟩ => ⟨S8x256x2048, .bf16⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | _, _ => ⟨S8x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference14Ideal.lean ====
abbrev S8x256x2048 : Shape := ⟨3, ![8, 256, 2048]⟩
abbrev S256x2048 : Shape := ⟨2, ![256, 2048]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x256x2048, .bf16⟩
  | .hbm, ⟨1, _⟩ => ⟨S256x2048, .f32⟩
  | .hbm, ⟨2, _⟩ => ⟨S256x2048, .f32⟩
  | .hbm, ⟨3, _⟩ => ⟨S256x2048, .f32⟩
  | .hbm, ⟨4, _⟩ => ⟨S8x256x2048, .f32⟩
  | .hbm, ⟨5, _⟩ => ⟨S_, .f32⟩
  | .hbm, ⟨6, _⟩ => ⟨S256x2048, .f32⟩
  | .hbm, ⟨7, _⟩ => ⟨S_, .f32⟩
  | .hbm, ⟨8, _⟩ => ⟨S256x2048, .f32⟩
  | .hbm, ⟨9, _⟩ => ⟨S256x2048, .f32⟩
  | .hbm, ⟨10, _⟩ => ⟨S_, .f32⟩
  | .hbm, ⟨11, _⟩ => ⟨S256x2048, .f32⟩
  | .hbm, ⟨12, _⟩ => ⟨S256x2048, .f32⟩
  | .hbm, ⟨13, _⟩ => ⟨S256x2048, .f32⟩
  | .hbm, ⟨14, _⟩ => ⟨S_, .f32⟩
  | .hbm, ⟨15, _⟩ => ⟨S256x2048, .f32⟩
  | .hbm, ⟨16, _⟩ => ⟨S256x2048, .f32⟩
  | .hbm, ⟨17, _⟩ => ⟨S256x2048, .f32⟩
  | .hbm, ⟨18, _⟩ => ⟨S_, .f32⟩
  | .hbm, ⟨19, _⟩ => ⟨S256x2048, .f32⟩
  | .hbm, ⟨20, _⟩ => ⟨S256x2048, .f32⟩
  | .hbm, ⟨21, _⟩ => ⟨S256x2048, .f32⟩
  | .hbm, ⟨22, _⟩ => ⟨S_, .f32⟩
  | .hbm, ⟨23, _⟩ => ⟨S256x2048, .f32⟩
  | .hbm, ⟨24, _⟩ => ⟨S256x2048, .f32⟩
  | .hbm, ⟨25, _⟩ => ⟨S_, .f32⟩
  | .hbm, ⟨26, _⟩ => ⟨S256x2048, .f32⟩
  | .hbm, ⟨27, _⟩ => ⟨S256x2048, .f32⟩
  | .hbm, ⟨28, _⟩ => ⟨S256x2048, .f32⟩
  | .hbm, ⟨29, _⟩ => ⟨S_, .f32⟩
  | .hbm, ⟨30, _⟩ => ⟨S256x2048, .f32⟩
  | .hbm, ⟨31, _⟩ => ⟨S256x2048, .f32⟩
  | .hbm, ⟨32, _⟩ => ⟨S256x2048, .f32⟩
  | .hbm, ⟨33, _⟩ => ⟨S_, .f32⟩
  | .hbm, ⟨34, _⟩ => ⟨S256x2048, .f32⟩
  | .hbm, ⟨35, _⟩ => ⟨S256x2048, .f32⟩
  | .hbm, ⟨36, _⟩ => ⟨S256x2048, .f32⟩
  | .hbm, ⟨37, _⟩ => ⟨S_, .f32⟩
  | .hbm, ⟨38, _⟩ => ⟨S256x2048, .f32⟩
  | .hbm, ⟨39, _⟩ => ⟨S256x2048, .f32⟩
  | _, _ => ⟨S8x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel15.lean ====
abbrev S8x128x256 : Shape := ⟨3, ![8, 128, 256]⟩
abbrev S128x256 : Shape := ⟨2, ![128, 256]⟩
abbrev S1x128x256 : Shape := ⟨3, ![1, 128, 256]⟩

abbrev nBuf : Space → Nat
  | .hbm => 8
  | .vmem => 8
  | .smem => 0
  | _ => 0

abbrev bufTy : (tb : Table) → Fin (tcTables nBuf tb) → BufTy
  | .hbm, ⟨0, _⟩ => ⟨S8x128x256, .bf16⟩
  | .hbm, ⟨1, _⟩ => ⟨S128x256, .f32⟩
  | .hbm, ⟨2, _⟩ => ⟨S128x256, .f32⟩
  | .hbm, ⟨3, _⟩ => ⟨S128x256, .f32⟩
  | .hbm, ⟨4, _⟩ => ⟨S128x256, .f32⟩
  | .hbm, ⟨5, _⟩ => ⟨S128x256, .f32⟩
  | .hbm, ⟨6, _⟩ => ⟨S128x256, .f32⟩
  | .hbm, ⟨7, _⟩ => ⟨S128x256, .f32⟩
  | .local _ .vmem, ⟨0, _⟩ => ⟨S8x128x256, .bf16⟩
  | .local _ .vmem, ⟨1, _⟩ => ⟨S128x256, .f32⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S128x256, .f32⟩
  | .local _ .vmem, ⟨7, _⟩ => ⟨S128x256, .f32⟩
  | _, _ => ⟨S8x128x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference15Ideal.lean ====
abbrev S8x128x256 : Shape := ⟨3, ![8, 128, 256]⟩
abbrev S128x256 : Shape := ⟨2, ![128, 256]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x128x256, .bf16⟩
  | .hbm, ⟨1, _⟩ => ⟨S128x256, .f32⟩
  | .hbm, ⟨2, _⟩ => ⟨S128x256, .f32⟩
  | .hbm, ⟨3, _⟩ => ⟨S128x256, .f32⟩
  | .hbm, ⟨4, _⟩ => ⟨S8x128x256, .f32⟩
  | .hbm, ⟨5, _⟩ => ⟨S_, .f32⟩
  | .hbm, ⟨6, _⟩ => ⟨S128x256, .f32⟩
  | .hbm, ⟨7, _⟩ => ⟨S_, .f32⟩
  | .hbm, ⟨8, _⟩ => ⟨S128x256, .f32⟩
  | .hbm, ⟨9, _⟩ => ⟨S128x256, .f32⟩
  | .hbm, ⟨10, _⟩ => ⟨S_, .f32⟩
  | .hbm, ⟨11, _⟩ => ⟨S128x256, .f32⟩
  | .hbm, ⟨12, _⟩ => ⟨S128x256, .f32⟩
  | .hbm, ⟨13, _⟩ => ⟨S128x256, .f32⟩
  | .hbm, ⟨14, _⟩ => ⟨S_, .f32⟩
  | .hbm, ⟨15, _⟩ => ⟨S128x256, .f32⟩
  | .hbm, ⟨16, _⟩ => ⟨S128x256, .f32⟩
  | .hbm, ⟨17, _⟩ => ⟨S128x256, .f32⟩
  | .hbm, ⟨18, _⟩ => ⟨S_, .f32⟩
  | .hbm, ⟨19, _⟩ => ⟨S128x256, .f32⟩
  | .hbm, ⟨20, _⟩ => ⟨S128x256, .f32⟩
  | .hbm, ⟨21, _⟩ => ⟨S128x256, .f32⟩
  | .hbm, ⟨22, _⟩ => ⟨S_, .f32⟩
  | .hbm, ⟨23, _⟩ => ⟨S128x256, .f32⟩
  | .hbm, ⟨24, _⟩ => ⟨S128x256, .f32⟩
  | .hbm, ⟨25, _⟩ => ⟨S_, .f32⟩
  | .hbm, ⟨26, _⟩ => ⟨S128x256, .f32⟩
  | .hbm, ⟨27, _⟩ => ⟨S128x256, .f32⟩
  | .hbm, ⟨28, _⟩ => ⟨S128x256, .f32⟩
  | .hbm, ⟨29, _⟩ => ⟨S_, .f32⟩
  | .hbm, ⟨30, _⟩ => ⟨S128x256, .f32⟩
  | .hbm, ⟨31, _⟩ => ⟨S128x256, .f32⟩
  | .hbm, ⟨32, _⟩ => ⟨S128x256, .f32⟩
  | .hbm, ⟨33, _⟩ => ⟨S_, .f32⟩
  | .hbm, ⟨34, _⟩ => ⟨S128x256, .f32⟩
  | .hbm, ⟨35, _⟩ => ⟨S128x256, .f32⟩
  | .hbm, ⟨36, _⟩ => ⟨S128x256, .f32⟩
  | .hbm, ⟨37, _⟩ => ⟨S_, .f32⟩
  | .hbm, ⟨38, _⟩ => ⟨S128x256, .f32⟩
  | .hbm, ⟨39, _⟩ => ⟨S128x256, .f32⟩
  | _, _ => ⟨S8x128x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel16.lean ====
abbrev S8x1216x2048 : Shape := ⟨3, ![8, 1216, 2048]⟩
abbrev S1216x2048 : Shape := ⟨2, ![1216, 2048]⟩
abbrev S8x64x2048 : Shape := ⟨3, ![8, 64, 2048]⟩
abbrev S64x2048 : Shape := ⟨2, ![64, 2048]⟩
abbrev S1x64x2048 : Shape := ⟨3, ![1, 64, 2048]⟩

abbrev nBuf : Space → Nat
  | .hbm => 2
  | .vmem => 4
  | .smem => 0
  | _ => 0

abbrev bufTy : (tb : Table) → Fin (tcTables nBuf tb) → BufTy
  | .hbm, ⟨0, _⟩ => ⟨S8x1216x2048, .bf16⟩
  | .hbm, ⟨1, _⟩ => ⟨S1216x2048, .f32⟩
  | .local _ .vmem, ⟨0, _⟩ => ⟨S8x64x2048, .bf16⟩
  | .local _ .vmem, ⟨1, _⟩ => ⟨S8x64x2048, .bf16⟩
  | .local _ .vmem, ⟨2, _⟩ => ⟨S64x2048, .f32⟩
  | .local _ .vmem, ⟨3, _⟩ => ⟨S64x2048, .f32⟩
  | _, _ => ⟨S8x1216x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![19], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x64x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference16Ideal.lean ====
abbrev S8x1216x2048 : Shape := ⟨3, ![8, 1216, 2048]⟩
abbrev S_ : Shape := ⟨0, ![]⟩
abbrev S1216x2048 : Shape := ⟨2, ![1216, 2048]⟩

abbrev nBuf : Space → Nat
  | .hbm => 4
  | .vmem => 0
  | .smem => 0
  | _ => 0

abbrev bufTy : (tb : Table) → Fin (tcTables nBuf tb) → BufTy
  | .hbm, ⟨0, _⟩ => ⟨S8x1216x2048, .bf16⟩
  | .hbm, ⟨1, _⟩ => ⟨S8x1216x2048, .f32⟩
  | .hbm, ⟨2, _⟩ => ⟨S_, .f32⟩
  | .hbm, ⟨3, _⟩ => ⟨S1216x2048, .f32⟩
  | _, _ => ⟨S8x1216x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel17.lean ====
abbrev S8x1408x2048 : Shape := ⟨3, ![8, 1408, 2048]⟩
abbrev S1408x2048 : Shape := ⟨2, ![1408, 2048]⟩
abbrev S8x176x2048 : Shape := ⟨3, ![8, 176, 2048]⟩
abbrev S176x2048 : Shape := ⟨2, ![176, 2048]⟩
abbrev S1x176x2048 : Shape := ⟨3, ![1, 176, 2048]⟩

abbrev nBuf : Space → Nat
  | .hbm => 2
  | .vmem => 4
  | .smem => 0
  | _ => 0

abbrev bufTy : (tb : Table) → Fin (tcTables nBuf tb) → BufTy
  | .hbm, ⟨0, _⟩ => ⟨S8x1408x2048, .bf16⟩
  | .hbm, ⟨1, _⟩ => ⟨S1408x2048, .f32⟩
  | .local _ .vmem, ⟨0, _⟩ => ⟨S8x176x2048, .bf16⟩
  | .local _ .vmem, ⟨1, _⟩ => ⟨S8x176x2048, .bf16⟩
  | .local _ .vmem, ⟨2, _⟩ => ⟨S176x2048, .f32⟩
  | .local _ .vmem, ⟨3, _⟩ => ⟨S176x2048, .f32⟩
  | _, _ => ⟨S8x1408x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x176x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference17Ideal.lean ====
abbrev S8x1408x2048 : Shape := ⟨3, ![8, 1408, 2048]⟩
abbrev S_ : Shape := ⟨0, ![]⟩
abbrev S1408x2048 : Shape := ⟨2, ![1408, 2048]⟩

abbrev nBuf : Space → Nat
  | .hbm => 4
  | .vmem => 0
  | .smem => 0
  | _ => 0

abbrev bufTy : (tb : Table) → Fin (tcTables nBuf tb) → BufTy
  | .hbm, ⟨0, _⟩ => ⟨S8x1408x2048, .bf16⟩
  | .hbm, ⟨1, _⟩ => ⟨S8x1408x2048, .f32⟩
  | .hbm, ⟨2, _⟩ => ⟨S_, .f32⟩
  | .hbm, ⟨3, _⟩ => ⟨S1408x2048, .f32⟩
  | _, _ => ⟨S8x1408x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel18.lean ====
abbrev S8x256x1024 : Shape := ⟨3, ![8, 256, 1024]⟩
abbrev S256x1024 : Shape := ⟨2, ![256, 1024]⟩
abbrev S1x256x1024 : Shape := ⟨3, ![1, 256, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x256x1024, .bf16⟩
  | .hbm, ⟨1, _⟩ => ⟨S256x1024, .f32⟩
  | .local _ .vmem, ⟨0, _⟩ => ⟨S8x256x1024, .bf16⟩
  | .local _ .vmem, ⟨1, _⟩ => ⟨S256x1024, .f32⟩
  | _, _ => ⟨S8x256x1024, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== Reference18Ideal.lean ====
abbrev S8x256x1024 : Shape := ⟨3, ![8, 256, 1024]⟩
abbrev S_ : Shape := ⟨0, ![]⟩
abbrev S256x1024 : Shape := ⟨2, ![256, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8x256x1024, .bf16⟩
  | .hbm, ⟨1, _⟩ => ⟨S8x256x1024, .f32⟩
  | .hbm, ⟨2, _⟩ => ⟨S_, .f32⟩
  | .hbm, ⟨3, _⟩ => ⟨S256x1024, .f32⟩
  | _, _ => ⟨S8x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel19.lean ====
abbrev S8x256x512 : Shape := ⟨3, ![8, 256, 512]⟩
abbrev S256x512 : Shape := ⟨2, ![256, 512]⟩
abbrev S1x256x512 : Shape := ⟨3, ![1, 256, 512]⟩

abbrev nBuf : Space → Nat
  | .hbm => 2
  | .vmem => 2
  | .smem => 0
  | _ => 0

abbrev bufTy : (tb : Table) → Fin (tcTables nBuf tb) → BufTy
  | .hbm, ⟨0, _⟩ => ⟨S8x256x512, .bf16⟩
  | .hbm, ⟨1, _⟩ => ⟨S256x512, .f32⟩
  | .local _ .vmem, ⟨0, _⟩ => ⟨S8x256x512, .bf16⟩
  | .local _ .vmem, ⟨1, _⟩ => ⟨S256x512, .f32⟩
  | _, _ => ⟨S8x256x512, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x256x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== Reference19Ideal.lean ====
abbrev S8x256x512 : Shape := ⟨3, ![8, 256, 512]⟩
abbrev S_ : Shape := ⟨0, ![]⟩
abbrev S256x512 : Shape := ⟨2, ![256, 512]⟩

abbrev nBuf : Space → Nat
  | .hbm => 4
  | .vmem => 0
  | .smem => 0
  | _ => 0

abbrev bufTy : (tb : Table) → Fin (tcTables nBuf tb) → BufTy
  | .hbm, ⟨0, _⟩ => ⟨S8x256x512, .bf16⟩
  | .hbm, ⟨1, _⟩ => ⟨S8x256x512, .f32⟩
  | .hbm, ⟨2, _⟩ => ⟨S_, .f32⟩
  | .hbm, ⟨3, _⟩ => ⟨S256x512, .f32⟩
  | _, _ => ⟨S8x256x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel20.lean ====
abbrev S8x8x1408 : Shape := ⟨3, ![8, 8, 1408]⟩
abbrev S8x1408 : Shape := ⟨2, ![8, 1408]⟩
abbrev S1x8x1408 : Shape := ⟨3, ![1, 8, 1408]⟩

abbrev nBuf : Space → Nat
  | .hbm => 2
  | .vmem => 2
  | .smem => 0
  | _ => 0

abbrev bufTy : (tb : Table) → Fin (tcTables nBuf tb) → BufTy
  | .hbm, ⟨0, _⟩ => ⟨S8x8x1408, .bf16⟩
  | .hbm, ⟨1, _⟩ => ⟨S8x1408, .f32⟩
  | .local _ .vmem, ⟨0, _⟩ => ⟨S8x8x1408, .bf16⟩
  | .local _ .vmem, ⟨1, _⟩ => ⟨S8x1408, .f32⟩
  | _, _ => ⟨S8x8x1408, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x8x1408 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x1408 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== Reference20Ideal.lean ====
abbrev S8x8x1408 : Shape := ⟨3, ![8, 8, 1408]⟩
abbrev S_ : Shape := ⟨0, ![]⟩
abbrev S8x1408 : Shape := ⟨2, ![8, 1408]⟩

abbrev nBuf : Space → Nat
  | .hbm => 4
  | .vmem => 0
  | .smem => 0
  | _ => 0

abbrev bufTy : (tb : Table) → Fin (tcTables nBuf tb) → BufTy
  | .hbm, ⟨0, _⟩ => ⟨S8x8x1408, .bf16⟩
  | .hbm, ⟨1, _⟩ => ⟨S8x8x1408, .f32⟩
  | .hbm, ⟨2, _⟩ => ⟨S_, .f32⟩
  | .hbm, ⟨3, _⟩ => ⟨S8x1408, .f32⟩
  | _, _ => ⟨S8x8x1408, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel21.lean ====
abbrev S2048x1216 : Shape := ⟨2, ![2048, 1216]⟩
abbrev S256x1216 : Shape := ⟨2, ![256, 1216]⟩

abbrev nBuf : Space → Nat
  | .hbm => 7
  | .vmem => 14
  | .smem => 0
  | _ => 0

abbrev bufTy : (tb : Table) → Fin (tcTables nBuf tb) → BufTy
  | .hbm, ⟨0, _⟩ => ⟨S2048x1216, .f32⟩
  | .hbm, ⟨1, _⟩ => ⟨S2048x1216, .f32⟩
  | .hbm, ⟨2, _⟩ => ⟨S2048x1216, .f32⟩
  | .hbm, ⟨3, _⟩ => ⟨S2048x1216, .f32⟩
  | .hbm, ⟨4, _⟩ => ⟨S2048x1216, .f32⟩
  | .hbm, ⟨5, _⟩ => ⟨S2048x1216, .f32⟩
  | .hbm, ⟨6, _⟩ => ⟨S2048x1216, .f32⟩
  | .local _ .vmem, ⟨0, _⟩ => ⟨S256x1216, .f32⟩
  | .local _ .vmem, ⟨1, _⟩ => ⟨S256x1216, .f32⟩
  | .local _ .vmem, ⟨2, _⟩ => ⟨S256x1216, .f32⟩
  | .local _ .vmem, ⟨3, _⟩ => ⟨S256x1216, .f32⟩
  | .local _ .vmem, ⟨4, _⟩ => ⟨S256x1216, .f32⟩
  | .local _ .vmem, ⟨5, _⟩ => ⟨S256x1216, .f32⟩
  | .local _ .vmem, ⟨6, _⟩ => ⟨S256x1216, .f32⟩
  | .local _ .vmem, ⟨7, _⟩ => ⟨S256x1216, .f32⟩
  | .local _ .vmem, ⟨8, _⟩ => ⟨S256x1216, .f32⟩
  | .local _ .vmem, ⟨9, _⟩ => ⟨S256x1216, .f32⟩
  | .local _ .vmem, ⟨10, _⟩ => ⟨S256x1216, .f32⟩
  | .local _ .vmem, ⟨11, _⟩ => ⟨S256x1216, .f32⟩
  | .local _ .vmem, ⟨12, _⟩ => ⟨S256x1216, .f32⟩
  | .local _ .vmem, ⟨13, _⟩ => ⟨S256x1216, .f32⟩
  | _, _ => ⟨S2048x1216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1216 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1216 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1216 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1216 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1216 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1216 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1216 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference21Ideal.lean ====
abbrev S2048x1216 : Shape := ⟨2, ![2048, 1216]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x1216, .f32⟩
  | .hbm, ⟨1, _⟩ => ⟨S2048x1216, .f32⟩
  | .hbm, ⟨2, _⟩ => ⟨S2048x1216, .f32⟩
  | .hbm, ⟨3, _⟩ => ⟨S2048x1216, .f32⟩
  | .hbm, ⟨4, _⟩ => ⟨S_, .f32⟩
  | .hbm, ⟨5, _⟩ => ⟨S2048x1216, .f32⟩
  | .hbm, ⟨6, _⟩ => ⟨S2048x1216, .f32⟩
  | .hbm, ⟨7, _⟩ => ⟨S_, .f32⟩
  | .hbm, ⟨8, _⟩ => ⟨S2048x1216, .f32⟩
  | .hbm, ⟨9, _⟩ => ⟨S2048x1216, .f32⟩
  | .hbm, ⟨10, _⟩ => ⟨S2048x1216, .f32⟩
  | .hbm, ⟨11, _⟩ => ⟨S_, .f32⟩
  | .hbm, ⟨12, _⟩ => ⟨S2048x1216, .f32⟩
  | .hbm, ⟨13, _⟩ => ⟨S2048x1216, .f32⟩
  | .hbm, ⟨14, _⟩ => ⟨S2048x1216, .f32⟩
  | .hbm, ⟨15, _⟩ => ⟨S_, .f32⟩
  | .hbm, ⟨16, _⟩ => ⟨S2048x1216, .f32⟩
  | .hbm, ⟨17, _⟩ => ⟨S2048x1216, .f32⟩
  | .hbm, ⟨18, _⟩ => ⟨S2048x1216, .f32⟩
  | .hbm, ⟨19, _⟩ => ⟨S_, .f32⟩
  | .hbm, ⟨20, _⟩ => ⟨S2048x1216, .f32⟩
  | .hbm, ⟨21, _⟩ => ⟨S2048x1216, .f32⟩
  | .hbm, ⟨22, _⟩ => ⟨S_, .f32⟩
  | .hbm, ⟨23, _⟩ => ⟨S2048x1216, .f32⟩
  | .hbm, ⟨24, _⟩ => ⟨S2048x1216, .f32⟩
  | .hbm, ⟨25, _⟩ => ⟨S2048x1216, .f32⟩
  | .hbm, ⟨26, _⟩ => ⟨S_, .f32⟩
  | .hbm, ⟨27, _⟩ => ⟨S2048x1216, .f32⟩
  | .hbm, ⟨28, _⟩ => ⟨S2048x1216, .f32⟩
  | .hbm, ⟨29, _⟩ => ⟨S2048x1216, .f32⟩
  | .hbm, ⟨30, _⟩ => ⟨S_, .f32⟩
  | .hbm, ⟨31, _⟩ => ⟨S2048x1216, .f32⟩
  | .hbm, ⟨32, _⟩ => ⟨S2048x1216, .f32⟩
  | .hbm, ⟨33, _⟩ => ⟨S2048x1216, .f32⟩
  | .hbm, ⟨34, _⟩ => ⟨S_, .f32⟩
  | .hbm, ⟨35, _⟩ => ⟨S2048x1216, .f32⟩
  | .hbm, ⟨36, _⟩ => ⟨S2048x1216, .f32⟩
  | _, _ => ⟨S2048x1216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel22.lean ====
abbrev S2048x1408 : Shape := ⟨2, ![2048, 1408]⟩
abbrev S256x1408 : Shape := ⟨2, ![256, 1408]⟩

abbrev nBuf : Space → Nat
  | .hbm => 7
  | .vmem => 14
  | .smem => 0
  | _ => 0

abbrev bufTy : (tb : Table) → Fin (tcTables nBuf tb) → BufTy
  | .hbm, ⟨0, _⟩ => ⟨S2048x1408, .f32⟩
  | .hbm, ⟨1, _⟩ => ⟨S2048x1408, .f32⟩
  | .hbm, ⟨2, _⟩ => ⟨S2048x1408, .f32⟩
  | .hbm, ⟨3, _⟩ => ⟨S2048x1408, .f32⟩
  | .hbm, ⟨4, _⟩ => ⟨S2048x1408, .f32⟩
  | .hbm, ⟨5, _⟩ => ⟨S2048x1408, .f32⟩
  | .hbm, ⟨6, _⟩ => ⟨S2048x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | _, _ => ⟨S2048x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference22Ideal.lean ====
abbrev S2048x1408 : Shape := ⟨2, ![2048, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x1408, .f32⟩
  | .hbm, ⟨1, _⟩ => ⟨S2048x1408, .f32⟩
  | .hbm, ⟨2, _⟩ => ⟨S2048x1408, .f32⟩
  | .hbm, ⟨3, _⟩ => ⟨S2048x1408, .f32⟩
  | .hbm, ⟨4, _⟩ => ⟨S_, .f32⟩
  | .hbm, ⟨5, _⟩ => ⟨S2048x1408, .f32⟩
  | .hbm, ⟨6, _⟩ => ⟨S2048x1408, .f32⟩
  | .hbm, ⟨7, _⟩ => ⟨S_, .f32⟩
  | .hbm, ⟨8, _⟩ => ⟨S2048x1408, .f32⟩
  | .hbm, ⟨9, _⟩ => ⟨S2048x1408, .f32⟩
  | .hbm, ⟨10, _⟩ => ⟨S2048x1408, .f32⟩
  | .hbm, ⟨11, _⟩ => ⟨S_, .f32⟩
  | .hbm, ⟨12, _⟩ => ⟨S2048x1408, .f32⟩
  | .hbm, ⟨13, _⟩ => ⟨S2048x1408, .f32⟩
  | .hbm, ⟨14, _⟩ => ⟨S2048x1408, .f32⟩
  | .hbm, ⟨15, _⟩ => ⟨S_, .f32⟩
  | .hbm, ⟨16, _⟩ => ⟨S2048x1408, .f32⟩
  | .hbm, ⟨17, _⟩ => ⟨S2048x1408, .f32⟩
  | .hbm, ⟨18, _⟩ => ⟨S2048x1408, .f32⟩
  | .hbm, ⟨19, _⟩ => ⟨S_, .f32⟩
  | .hbm, ⟨20, _⟩ => ⟨S2048x1408, .f32⟩
  | .hbm, ⟨21, _⟩ => ⟨S2048x1408, .f32⟩
  | .hbm, ⟨22, _⟩ => ⟨S_, .f32⟩
  | .hbm, ⟨23, _⟩ => ⟨S2048x1408, .f32⟩
  | .hbm, ⟨24, _⟩ => ⟨S2048x1408, .f32⟩
  | .hbm, ⟨25, _⟩ => ⟨S2048x1408, .f32⟩
  | .hbm, ⟨26, _⟩ => ⟨S_, .f32⟩
  | .hbm, ⟨27, _⟩ => ⟨S2048x1408, .f32⟩
  | .hbm, ⟨28, _⟩ => ⟨S2048x1408, .f32⟩
  | .hbm, ⟨29, _⟩ => ⟨S2048x1408, .f32⟩
  | .hbm, ⟨30, _⟩ => ⟨S_, .f32⟩
  | .hbm, ⟨31, _⟩ => ⟨S2048x1408, .f32⟩
  | .hbm, ⟨32, _⟩ => ⟨S2048x1408, .f32⟩
  | .hbm, ⟨33, _⟩ => ⟨S2048x1408, .f32⟩
  | .hbm, ⟨34, _⟩ => ⟨S_, .f32⟩
  | .hbm, ⟨35, _⟩ => ⟨S2048x1408, .f32⟩
  | .hbm, ⟨36, _⟩ => ⟨S2048x1408, .f32⟩
  | _, _ => ⟨S2048x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel23.lean ====
abbrev S1024x256 : Shape := ⟨2, ![1024, 256]⟩
abbrev S256x256 : Shape := ⟨2, ![256, 256]⟩

abbrev nBuf : Space → Nat
  | .hbm => 7
  | .vmem => 14
  | .smem => 0
  | _ => 0

abbrev bufTy : (tb : Table) → Fin (tcTables nBuf tb) → BufTy
  | .hbm, ⟨0, _⟩ => ⟨S1024x256, .f32⟩
  | .hbm, ⟨1, _⟩ => ⟨S1024x256, .f32⟩
  | .hbm, ⟨2, _⟩ => ⟨S1024x256, .f32⟩
  | .hbm, ⟨3, _⟩ => ⟨S1024x256, .f32⟩
  | .hbm, ⟨4, _⟩ => ⟨S1024x256, .f32⟩
  | .hbm, ⟨5, _⟩ => ⟨S1024x256, .f32⟩
  | .hbm, ⟨6, _⟩ => ⟨S1024x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference23Ideal.lean ====
abbrev S1024x256 : Shape := ⟨2, ![1024, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x256, .f32⟩
  | .hbm, ⟨1, _⟩ => ⟨S1024x256, .f32⟩
  | .hbm, ⟨2, _⟩ => ⟨S1024x256, .f32⟩
  | .hbm, ⟨3, _⟩ => ⟨S1024x256, .f32⟩
  | .hbm, ⟨4, _⟩ => ⟨S_, .f32⟩
  | .hbm, ⟨5, _⟩ => ⟨S1024x256, .f32⟩
  | .hbm, ⟨6, _⟩ => ⟨S1024x256, .f32⟩
  | .hbm, ⟨7, _⟩ => ⟨S_, .f32⟩
  | .hbm, ⟨8, _⟩ => ⟨S1024x256, .f32⟩
  | .hbm, ⟨9, _⟩ => ⟨S1024x256, .f32⟩
  | .hbm, ⟨10, _⟩ => ⟨S1024x256, .f32⟩
  | .hbm, ⟨11, _⟩ => ⟨S_, .f32⟩
  | .hbm, ⟨12, _⟩ => ⟨S1024x256, .f32⟩
  | .hbm, ⟨13, _⟩ => ⟨S1024x256, .f32⟩
  | .hbm, ⟨14, _⟩ => ⟨S1024x256, .f32⟩
  | .hbm, ⟨15, _⟩ => ⟨S_, .f32⟩
  | .hbm, ⟨16, _⟩ => ⟨S1024x256, .f32⟩
  | .hbm, ⟨17, _⟩ => ⟨S1024x256, .f32⟩
  | .hbm, ⟨18, _⟩ => ⟨S1024x256, .f32⟩
  | .hbm, ⟨19, _⟩ => ⟨S_, .f32⟩
  | .hbm, ⟨20, _⟩ => ⟨S1024x256, .f32⟩
  | .hbm, ⟨21, _⟩ => ⟨S1024x256, .f32⟩
  | .hbm, ⟨22, _⟩ => ⟨S_, .f32⟩
  | .hbm, ⟨23, _⟩ => ⟨S1024x256, .f32⟩
  | .hbm, ⟨24, _⟩ => ⟨S1024x256, .f32⟩
  | .hbm, ⟨25, _⟩ => ⟨S1024x256, .f32⟩
  | .hbm, ⟨26, _⟩ => ⟨S_, .f32⟩
  | .hbm, ⟨27, _⟩ => ⟨S1024x256, .f32⟩
  | .hbm, ⟨28, _⟩ => ⟨S1024x256, .f32⟩
  | .hbm, ⟨29, _⟩ => ⟨S1024x256, .f32⟩
  | .hbm, ⟨30, _⟩ => ⟨S_, .f32⟩
  | .hbm, ⟨31, _⟩ => ⟨S1024x256, .f32⟩
  | .hbm, ⟨32, _⟩ => ⟨S1024x256, .f32⟩
  | .hbm, ⟨33, _⟩ => ⟨S1024x256, .f32⟩
  | .hbm, ⟨34, _⟩ => ⟨S_, .f32⟩
  | .hbm, ⟨35, _⟩ => ⟨S1024x256, .f32⟩
  | .hbm, ⟨36, _⟩ => ⟨S1024x256, .f32⟩
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel24.lean ====
abbrev S512x256 : Shape := ⟨2, ![512, 256]⟩
abbrev S256x256 : Shape := ⟨2, ![256, 256]⟩

abbrev nBuf : Space → Nat
  | .hbm => 7
  | .vmem => 14
  | .smem => 0
  | _ => 0

abbrev bufTy : (tb : Table) → Fin (tcTables nBuf tb) → BufTy
  | .hbm, ⟨0, _⟩ => ⟨S512x256, .f32⟩
  | .hbm, ⟨1, _⟩ => ⟨S512x256, .f32⟩
  | .hbm, ⟨2, _⟩ => ⟨S512x256, .f32⟩
  | .hbm, ⟨3, _⟩ => ⟨S512x256, .f32⟩
  | .hbm, ⟨4, _⟩ => ⟨S512x256, .f32⟩
  | .hbm, ⟨5, _⟩ => ⟨S512x256, .f32⟩
  | .hbm, ⟨6, _⟩ => ⟨S512x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference24Ideal.lean ====
abbrev S512x256 : Shape := ⟨2, ![512, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S512x256, .f32⟩
  | .hbm, ⟨2, _⟩ => ⟨S512x256, .f32⟩
  | .hbm, ⟨3, _⟩ => ⟨S512x256, .f32⟩
  | .hbm, ⟨4, _⟩ => ⟨S_, .f32⟩
  | .hbm, ⟨5, _⟩ => ⟨S512x256, .f32⟩
  | .hbm, ⟨6, _⟩ => ⟨S512x256, .f32⟩
  | .hbm, ⟨7, _⟩ => ⟨S_, .f32⟩
  | .hbm, ⟨8, _⟩ => ⟨S512x256, .f32⟩
  | .hbm, ⟨9, _⟩ => ⟨S512x256, .f32⟩
  | .hbm, ⟨10, _⟩ => ⟨S512x256, .f32⟩
  | .hbm, ⟨11, _⟩ => ⟨S_, .f32⟩
  | .hbm, ⟨12, _⟩ => ⟨S512x256, .f32⟩
  | .hbm, ⟨13, _⟩ => ⟨S512x256, .f32⟩
  | .hbm, ⟨14, _⟩ => ⟨S512x256, .f32⟩
  | .hbm, ⟨15, _⟩ => ⟨S_, .f32⟩
  | .hbm, ⟨16, _⟩ => ⟨S512x256, .f32⟩
  | .hbm, ⟨17, _⟩ => ⟨S512x256, .f32⟩
  | .hbm, ⟨18, _⟩ => ⟨S512x256, .f32⟩
  | .hbm, ⟨19, _⟩ => ⟨S_, .f32⟩
  | .hbm, ⟨20, _⟩ => ⟨S512x256, .f32⟩
  | .hbm, ⟨21, _⟩ => ⟨S512x256, .f32⟩
  | .hbm, ⟨22, _⟩ => ⟨S_, .f32⟩
  | .hbm, ⟨23, _⟩ => ⟨S512x256, .f32⟩
  | .hbm, ⟨24, _⟩ => ⟨S512x256, .f32⟩
  | .hbm, ⟨25, _⟩ => ⟨S512x256, .f32⟩
  | .hbm, ⟨26, _⟩ => ⟨S_, .f32⟩
  | .hbm, ⟨27, _⟩ => ⟨S512x256, .f32⟩
  | .hbm, ⟨28, _⟩ => ⟨S512x256, .f32⟩
  | .hbm, ⟨29, _⟩ => ⟨S512x256, .f32⟩
  | .hbm, ⟨30, _⟩ => ⟨S_, .f32⟩
  | .hbm, ⟨31, _⟩ => ⟨S512x256, .f32⟩
  | .hbm, ⟨32, _⟩ => ⟨S512x256, .f32⟩
  | .hbm, ⟨33, _⟩ => ⟨S512x256, .f32⟩
  | .hbm, ⟨34, _⟩ => ⟨S_, .f32⟩
  | .hbm, ⟨35, _⟩ => ⟨S512x256, .f32⟩
  | .hbm, ⟨36, _⟩ => ⟨S512x256, .f32⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel25.lean ====
abbrev S3x1408 : Shape := ⟨2, ![3, 1408]⟩

abbrev nBuf : Space → Nat
  | .hbm => 7
  | .vmem => 7
  | .smem => 0
  | _ => 0

abbrev bufTy : (tb : Table) → Fin (tcTables nBuf tb) → BufTy
  | .hbm, ⟨0, _⟩ => ⟨S3x1408, .f32⟩
  | .hbm, ⟨1, _⟩ => ⟨S3x1408, .f32⟩
  | .hbm, ⟨2, _⟩ => ⟨S3x1408, .f32⟩
  | .hbm, ⟨3, _⟩ => ⟨S3x1408, .f32⟩
  | .hbm, ⟨4, _⟩ => ⟨S3x1408, .f32⟩
  | .hbm, ⟨5, _⟩ => ⟨S3x1408, .f32⟩
  | .hbm, ⟨6, _⟩ => ⟨S3x1408, .f32⟩
  | .local _ .vmem, ⟨0, _⟩ => ⟨S3x1408, .f32⟩
  | .local _ .vmem, ⟨1, _⟩ => ⟨S3x1408, .f32⟩
  | .local _ .vmem, ⟨2, _⟩ => ⟨S3x1408, .f32⟩
  | .local _ .vmem, ⟨3, _⟩ => ⟨S3x1408, .f32⟩
  | .local _ .vmem, ⟨4, _⟩ => ⟨S3x1408, .f32⟩
  | .local _ .vmem, ⟨5, _⟩ => ⟨S3x1408, .f32⟩
  | .local _ .vmem, ⟨6, _⟩ => ⟨S3x1408, .f32⟩
  | _, _ => ⟨S3x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S3x1408 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x1408 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S3x1408 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S3x1408 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S3x1408 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S3x1408 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S3x1408 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference25Ideal.lean ====
abbrev S3x1408 : Shape := ⟨2, ![3, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S3x1408, .f32⟩
  | .hbm, ⟨1, _⟩ => ⟨S3x1408, .f32⟩
  | .hbm, ⟨2, _⟩ => ⟨S3x1408, .f32⟩
  | .hbm, ⟨3, _⟩ => ⟨S3x1408, .f32⟩
  | .hbm, ⟨4, _⟩ => ⟨S_, .f32⟩
  | .hbm, ⟨5, _⟩ => ⟨S3x1408, .f32⟩
  | .hbm, ⟨6, _⟩ => ⟨S3x1408, .f32⟩
  | .hbm, ⟨7, _⟩ => ⟨S_, .f32⟩
  | .hbm, ⟨8, _⟩ => ⟨S3x1408, .f32⟩
  | .hbm, ⟨9, _⟩ => ⟨S3x1408, .f32⟩
  | .hbm, ⟨10, _⟩ => ⟨S3x1408, .f32⟩
  | .hbm, ⟨11, _⟩ => ⟨S_, .f32⟩
  | .hbm, ⟨12, _⟩ => ⟨S3x1408, .f32⟩
  | .hbm, ⟨13, _⟩ => ⟨S3x1408, .f32⟩
  | .hbm, ⟨14, _⟩ => ⟨S3x1408, .f32⟩
  | .hbm, ⟨15, _⟩ => ⟨S_, .f32⟩
  | .hbm, ⟨16, _⟩ => ⟨S3x1408, .f32⟩
  | .hbm, ⟨17, _⟩ => ⟨S3x1408, .f32⟩
  | .hbm, ⟨18, _⟩ => ⟨S3x1408, .f32⟩
  | .hbm, ⟨19, _⟩ => ⟨S_, .f32⟩
  | .hbm, ⟨20, _⟩ => ⟨S3x1408, .f32⟩
  | .hbm, ⟨21, _⟩ => ⟨S3x1408, .f32⟩
  | .hbm, ⟨22, _⟩ => ⟨S_, .f32⟩
  | .hbm, ⟨23, _⟩ => ⟨S3x1408, .f32⟩
  | .hbm, ⟨24, _⟩ => ⟨S3x1408, .f32⟩
  | .hbm, ⟨25, _⟩ => ⟨S3x1408, .f32⟩
  | .hbm, ⟨26, _⟩ => ⟨S_, .f32⟩
  | .hbm, ⟨27, _⟩ => ⟨S3x1408, .f32⟩
  | .hbm, ⟨28, _⟩ => ⟨S3x1408, .f32⟩
  | .hbm, ⟨29, _⟩ => ⟨S3x1408, .f32⟩
  | .hbm, ⟨30, _⟩ => ⟨S_, .f32⟩
  | .hbm, ⟨31, _⟩ => ⟨S3x1408, .f32⟩
  | .hbm, ⟨32, _⟩ => ⟨S3x1408, .f32⟩
  | .hbm, ⟨33, _⟩ => ⟨S3x1408, .f32⟩
  | .hbm, ⟨34, _⟩ => ⟨S_, .f32⟩
  | .hbm, ⟨35, _⟩ => ⟨S3x1408, .f32⟩
  | .hbm, ⟨36, _⟩ => ⟨S3x1408, .f32⟩
  | _, _ => ⟨S3x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel26.lean ====
abbrev S8192x2048 : Shape := ⟨2, ![8192, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩
abbrev S2048 : Shape := ⟨1, ![2048]⟩

abbrev nBuf : Space → Nat
  | .hbm => 6
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .bf16⟩
  | .hbm, ⟨3, _⟩ => ⟨S8192x2048, .f32⟩
  | .hbm, ⟨4, _⟩ => ⟨S8192x2048, .f32⟩
  | .hbm, ⟨5, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v32 : BitVec 1 := Scalar.cmpi .eq arg0 c0_i32
  let v33 : BitVec 32 := Scalar.extui v32
  let c0_i32_14 : BitVec 32 := 0#32
  let v34 : BitVec 1 := Scalar.cmpi .ne v33 c0_i32_14
  v34

def k0_cond2 (i : grid0.Coords) : BitVec 1 :=
  let arg0 : BitVec 32 := BitVec.ofNat 32 (i 0).val
  let c0_i32_15 : BitVec 32 := 0#32
  let v35 : BitVec 1 := Scalar.cmpi .sgt arg0 c0_i32_15
  let v36 : BitVec 32 := Scalar.extui v35
  let c0_i32_16 : BitVec 32 := 0#32
  let v37 : BitVec 1 := Scalar.cmpi .ne v36 c0_i32_16
  v37

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference26Ideal.lean ====
abbrev S8192x2048 : Shape := ⟨2, ![8192, 2048]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩

abbrev nBuf : Space → Nat
  | .hbm => 53
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .bf16⟩
  | .hbm, ⟨3, _⟩ => ⟨S8192x2048, .f32⟩
  | .hbm, ⟨4, _⟩ => ⟨S2048, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x2048, .f32⟩
  | .hbm, ⟨21, _⟩ => ⟨S8192x2048, .f32⟩
  | .hbm, ⟨22, _⟩ => ⟨S1x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S_, .f32⟩
  | .hbm, ⟨28, _⟩ => ⟨S2048, .f32⟩
  | .hbm, ⟨29, _⟩ => ⟨S1x2048, .f32⟩
  | .hbm, ⟨30, _⟩ => ⟨S8192x2048, .f32⟩
  | .hbm, ⟨31, _⟩ => ⟨S8192x2048, .f32⟩
  | .hbm, ⟨32, _⟩ => ⟨S_, .f32⟩
  | .hbm, ⟨33, _⟩ => ⟨S2048, .f32⟩
  | .hbm, ⟨34, _⟩ => ⟨S8192x2048, .f32⟩
  | .hbm, ⟨35, _⟩ => ⟨S_, .f32⟩
  | .hbm, ⟨36, _⟩ => ⟨S8192, .f32⟩
  | .hbm, ⟨37, _⟩ => ⟨S8192x1, .f32⟩
  | .hbm, ⟨38, _⟩ => ⟨S8192x2048, .f32⟩
  | .hbm, ⟨39, _⟩ => ⟨S8192x2048, .f32⟩
  | .hbm, ⟨40, _⟩ => ⟨S8192x1, .f32⟩
  | .hbm, ⟨41, _⟩ => ⟨S_, .f32⟩
  | .hbm, ⟨42, _⟩ => ⟨S8192x1, .f32⟩
  | .hbm, ⟨43, _⟩ => ⟨S8192x1, .f32⟩
  | .hbm, ⟨44, _⟩ => ⟨S_, .f32⟩
  | .hbm, ⟨45, _⟩ => ⟨S8192, .f32⟩
  | .hbm, ⟨46, _⟩ => ⟨S8192x2048, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S8192x2048, .f32⟩
  | .hbm, ⟨51, _⟩ => ⟨S8192x2048, .f32⟩
  | .hbm, ⟨52, _⟩ => ⟨S1x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Kernel28.lean ====
abbrev S8192x2048 : Shape := ⟨2, ![8192, 2048]⟩
abbrev S8192x1024 : Shape := ⟨2, ![8192, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S2048x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference28Ideal.lean ====
abbrev S8192x2048 : Shape := ⟨2, ![8192, 2048]⟩
abbrev S8192x1024 : Shape := ⟨2, ![8192, 1024]⟩
abbrev S_ : Shape := ⟨0, ![]⟩
abbrev S1024x2048 : Shape := ⟨2, ![1024, 2048]⟩
abbrev S2048x1024 : Shape := ⟨2, ![2048, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S_, .f32⟩
  | .hbm, ⟨3, _⟩ => ⟨S1024x2048, .f32⟩
  | .hbm, ⟨4, _⟩ => ⟨S8192x1024, .f32⟩
  | .hbm, ⟨5, _⟩ => ⟨S8192x2048, .f32⟩
  | .hbm, ⟨6, _⟩ => ⟨S8192x2048, .f32⟩
  | .hbm, ⟨7, _⟩ => ⟨S2048x1024, .f32⟩
  | .hbm, ⟨8, _⟩ => ⟨S1024x2048, .f32⟩
  | .hbm, ⟨9, _⟩ => ⟨S2048x1024, .f32⟩
  | .hbm, ⟨10, _⟩ => ⟨S2048x1024, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel29.lean ====
abbrev S8192x2048 : Shape := ⟨2, ![8192, 2048]⟩
abbrev S8192x512 : Shape := ⟨2, ![8192, 512]⟩
abbrev S2048x512 : Shape := ⟨2, ![2048, 512]⟩
abbrev S2048x1024 : Shape := ⟨2, ![2048, 1024]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x512, .bf16⟩
  | .hbm, ⟨2, _⟩ => ⟨S2048x512, .bf16⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference29Ideal.lean ====
abbrev S8192x2048 : Shape := ⟨2, ![8192, 2048]⟩
abbrev S8192x512 : Shape := ⟨2, ![8192, 512]⟩
abbrev S_ : Shape := ⟨0, ![]⟩
abbrev S512x2048 : Shape := ⟨2, ![512, 2048]⟩
abbrev S2048x512 : Shape := ⟨2, ![2048, 512]⟩

abbrev nBuf : Space → Nat
  | .hbm => 11
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x512, .bf16⟩
  | .hbm, ⟨2, _⟩ => ⟨S_, .f32⟩
  | .hbm, ⟨3, _⟩ => ⟨S512x2048, .f32⟩
  | .hbm, ⟨4, _⟩ => ⟨S8192x512, .f32⟩
  | .hbm, ⟨5, _⟩ => ⟨S8192x2048, .f32⟩
  | .hbm, ⟨6, _⟩ => ⟨S8192x2048, .f32⟩
  | .hbm, ⟨7, _⟩ => ⟨S2048x512, .f32⟩
  | .hbm, ⟨8, _⟩ => ⟨S512x2048, .f32⟩
  | .hbm, ⟨9, _⟩ => ⟨S2048x512, .f32⟩
  | .hbm, ⟨10, _⟩ => ⟨S2048x512, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel30.lean ====
abbrev S8192x2048 : Shape := ⟨2, ![8192, 2048]⟩
abbrev S2048x2048 : Shape := ⟨2, ![2048, 2048]⟩
abbrev S8192x4096 : Shape := ⟨2, ![8192, 4096]⟩
abbrev S1x4096 : Shape := ⟨2, ![1, 4096]⟩
abbrev S256x2048 : Shape := ⟨2, ![256, 2048]⟩
abbrev S256x4096 : Shape := ⟨2, ![256, 4096]⟩
abbrev S1x2048 : Shape := ⟨2, ![1, 2048]⟩
abbrev S2048 : Shape := ⟨1, ![2048]⟩

abbrev nBuf : Space → Nat
  | .hbm => 11
  | .vmem => 17
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S8192x4096, .bf16⟩
  | .hbm, ⟨3, _⟩ => ⟨S1x4096, .f32⟩
  | .hbm, ⟨4, _⟩ => ⟨S8192x2048, .bf16⟩
  | .hbm, ⟨5, _⟩ => ⟨S8192x2048, .bf16⟩
  | .hbm, ⟨6, _⟩ => ⟨S2048x2048, .bf16⟩
  | .hbm, ⟨7, _⟩ => ⟨S8192x2048, .bf16⟩
  | .hbm, ⟨8, _⟩ => ⟨S8192x2048, .bf16⟩
  | .hbm, ⟨9, _⟩ => ⟨S8192x4096, .bf16⟩
  | .hbm, ⟨10, _⟩ => ⟨S1x4096, .f32⟩
  | .local _ .vmem, ⟨0, _⟩ => ⟨S256x2048, .bf16⟩
  | .local _ .vmem, ⟨1, _⟩ => ⟨S256x2048, .bf16⟩
  | .local _ .vmem, ⟨2, _⟩ => ⟨S2048x2048, .bf16⟩
  | .local _ .vmem, ⟨3, _⟩ => ⟨S256x4096, .bf16⟩
  | .local _ .vmem, ⟨4, _⟩ => ⟨S256x4096, .bf16⟩
  | .local _ .vmem, ⟨5, _⟩ => ⟨S1x4096, .f32⟩
  | .local _ .vmem, ⟨6, _⟩ => ⟨S256x2048, .bf16⟩
  | .local _ .vmem, ⟨7, _⟩ => ⟨S256x2048, .bf16⟩
  | .local _ .vmem, ⟨8, _⟩ => ⟨S256x2048, .bf16⟩
  | .local _ .vmem, ⟨9, _⟩ => ⟨S256x2048, .bf16⟩
  | .local _ .vmem, ⟨10, _⟩ => ⟨S256x2048, .bf16⟩
  | .local _ .vmem, ⟨11, _⟩ => ⟨S256x2048, .bf16⟩
  | .local _ .vmem, ⟨12, _⟩ => ⟨S256x2048, .bf16⟩
  | .local _ .vmem, ⟨13, _⟩ => ⟨S256x2048, .bf16⟩
  | .local _ .vmem, ⟨14, _⟩ => ⟨S256x4096, .bf16⟩
  | .local _ .vmem, ⟨15, _⟩ => ⟨S256x4096, .bf16⟩
  | .local _ .vmem, ⟨16, _⟩ => ⟨S1x4096, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v44 : BitVec 1 := Scalar.cmpi .eq arg0 c0_i32
  let v45 : BitVec 32 := Scalar.extui v44
  let c0_i32_26 : BitVec 32 := 0#32
  let v46 : BitVec 1 := Scalar.cmpi .ne v45 c0_i32_26
  v46

def k0_cond2 (i : grid0.Coords) : BitVec 1 :=
  let arg0 : BitVec 32 := BitVec.ofNat 32 (i 0).val
  let c0_i32_27 : BitVec 32 := 0#32
  let v47 : BitVec 1 := Scalar.cmpi .sgt arg0 c0_i32_27
  let v48 : BitVec 32 := Scalar.extui v47
  let c0_i32_28 : BitVec 32 := 0#32
  let v49 : BitVec 1 := Scalar.cmpi .ne v48 c0_i32_28
  v49

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x4096 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference30Ideal.lean ====
abbrev S8192x2048 : Shape := ⟨2, ![8192, 2048]⟩
abbrev S2048x2048 : Shape := ⟨2, ![2048, 2048]⟩
abbrev S8192x4096 : Shape := ⟨2, ![8192, 4096]⟩
abbrev S1x4096 : Shape := ⟨2, ![1, 4096]⟩
abbrev S1x8192x2048 : Shape := ⟨3, ![1, 8192, 2048]⟩
abbrev S_ : Shape := ⟨0, ![]⟩
abbrev S1x8192x2x2048 : Shape := ⟨4, ![1, 8192, 2, 2048]⟩
abbrev S1x8192x1x2048 : Shape := ⟨4, ![1, 8192, 1, 2048]⟩
abbrev S4096 : Shape := ⟨1, ![4096]⟩

abbrev nBuf : Space → Nat
  | .hbm => 58
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S8192x4096, .bf16⟩
  | .hbm, ⟨3, _⟩ => ⟨S1x4096, .f32⟩
  | .hbm, ⟨4, _⟩ => ⟨S8192x2048, .bf16⟩
  | .hbm, ⟨5, _⟩ => ⟨S8192x2048, .bf16⟩
  | .hbm, ⟨6, _⟩ => ⟨S1x8192x2048, .bf16⟩
  | .hbm, ⟨7, _⟩ => ⟨S1x8192x2048, .bf16⟩
  | .hbm, ⟨8, _⟩ => ⟨S8192x4096, .f32⟩
  | .hbm, ⟨9, _⟩ => ⟨S1x8192x2048, .f32⟩
  | .hbm, ⟨10, _⟩ => ⟨S1x8192x2048, .f32⟩
  | .hbm, ⟨11, _⟩ => ⟨S8192x4096, .f32⟩
  | .hbm, ⟨12, _⟩ => ⟨S8192x4096, .f32⟩
  | .hbm, ⟨13, _⟩ => ⟨S8192x4096, .f32⟩
  | .hbm, ⟨14, _⟩ => ⟨S8192x4096, .f32⟩
  | .hbm, ⟨15, _⟩ => ⟨S_, .f32⟩
  | .hbm, ⟨16, _⟩ => ⟨S8192x4096, .f32⟩
  | .hbm, ⟨17, _⟩ => ⟨S8192x4096, .f32⟩
  | .hbm, ⟨18, _⟩ => ⟨S_, .f32⟩
  | .hbm, ⟨19, _⟩ => ⟨S8192x4096, .f32⟩
  | .hbm, ⟨20, _⟩ => ⟨S8192x4096, .f32⟩
  | .hbm, ⟨21, _⟩ => ⟨S_, .f32⟩
  | .hbm, ⟨22, _⟩ => ⟨S8192x4096, .f32⟩
  | .hbm, ⟨23, _⟩ => ⟨S8192x4096, .f32⟩
  | .hbm, ⟨24, _⟩ => ⟨S8192x4096, .f32⟩
  | .hbm, ⟨25, _⟩ => ⟨S1x8192x2x2048, .f32⟩
  | .hbm, ⟨26, _⟩ => ⟨S1x8192x1x2048, .f32⟩
  | .hbm, ⟨27, _⟩ => ⟨S1x8192x2048, .f32⟩
  | .hbm, ⟨28, _⟩ => ⟨S1x8192x2048, .f32⟩
  | .hbm, ⟨29, _⟩ => ⟨S1x8192x1x2048, .f32⟩
  | .hbm, ⟨30, _⟩ => ⟨S1x8192x2048, .f32⟩
  | .hbm, ⟨31, _⟩ => ⟨S1x8192x2048, .f32⟩
  | .hbm, ⟨32, _⟩ => ⟨S1x8192x2048, .f32⟩
  | .hbm, ⟨33, _⟩ => ⟨S1x8192x2048, .f32⟩
  | .hbm, ⟨34, _⟩ => ⟨S1x8192x2048, .bf16⟩
  | .hbm, ⟨35, _⟩ => ⟨S1x8192x2048, .f32⟩
  | .hbm, ⟨36, _⟩ => ⟨S1x8192x2048, .f32⟩
  | .hbm, ⟨37, _⟩ => ⟨S1x8192x2048, .f32⟩
  | .hbm, ⟨38, _⟩ => ⟨S1x8192x2048, .f32⟩
  | .hbm, ⟨39, _⟩ => ⟨S1x8192x1x2048, .f32⟩
  | .hbm, ⟨40, _⟩ => ⟨S_, .f32⟩
  | .hbm, ⟨41, _⟩ => ⟨S1x8192x2x2048, .f32⟩
  | .hbm, ⟨42, _⟩ => ⟨S1x8192x2048, .f32⟩
  | .hbm, ⟨43, _⟩ => ⟨S1x8192x2048, .f32⟩
  | .hbm, ⟨44, _⟩ => ⟨S1x8192x1x2048, .f32⟩
  | .hbm, ⟨45, _⟩ => ⟨S_, .f32⟩
  | .hbm, ⟨46, _⟩ => ⟨S1x8192x2x2048, .f32⟩
  | .hbm, ⟨47, _⟩ => ⟨S1x8192x2x2048, .f32⟩
  | .hbm, ⟨48, _⟩ => ⟨S8192x4096, .f32⟩
  | .hbm, ⟨49, _⟩ => ⟨S8192x4096, .f32⟩
  | .hbm, ⟨50, _⟩ => ⟨S_, .f32⟩
  | .hbm, ⟨51, _⟩ => ⟨S4096, .f32⟩
  | .hbm, ⟨52, _⟩ => ⟨S1x4096, .f32⟩
  | .hbm, ⟨53, _⟩ => ⟨S8192x2048, .f32⟩
  | .hbm, ⟨54, _⟩ => ⟨S8192x2048, .bf16⟩
  | .hbm, ⟨55, _⟩ => ⟨S8192x2048, .f32⟩
  | .hbm, ⟨56, _⟩ => ⟨S8192x2048, .bf16⟩
  | .hbm, ⟨57, _⟩ => ⟨S8192x4096, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_2 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_3 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_4 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩

abbrev nD : Nat := 1
abbrev τ : Topo := Topo.v7x

variable {F : FTy → Type} [FloatOps F]
-- ==== Kernel31.lean ====
abbrev S8192x2048 : Shape := ⟨2, ![8192, 2048]⟩
abbrev S2048x2048 : Shape := ⟨2, ![2048, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S8192x2048, .f32⟩
  | .hbm, ⟨3, _⟩ => ⟨S1x2048, .f32⟩
  | .hbm, ⟨4, _⟩ => ⟨S2048x2048, .bf16⟩
  | .hbm, ⟨5, _⟩ => ⟨S8192x2048, .f32⟩
  | .hbm, ⟨6, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference31Ideal.lean ====
abbrev S8192x2048 : Shape := ⟨2, ![8192, 2048]⟩
abbrev S2048x2048 : Shape := ⟨2, ![2048, 2048]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩

abbrev nBuf : Space → Nat
  | .hbm => 25
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S8192x2048, .f32⟩
  | .hbm, ⟨3, _⟩ => ⟨S1x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S2048, .f32⟩
  | .hbm, ⟨8, _⟩ => ⟨S8192x2048, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S1x2048, .f32⟩
  | .hbm, ⟨22, _⟩ => ⟨S8192x2048, .f32⟩
  | .hbm, ⟨23, _⟩ => ⟨S8192x2048, .f32⟩
  | .hbm, ⟨24, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Kernel32.lean ====
abbrev S8192x1024 : Shape := ⟨2, ![8192, 1024]⟩
abbrev S8192x512 : Shape := ⟨2, ![8192, 512]⟩
abbrev S1024x2048 : Shape := ⟨2, ![1024, 2048]⟩
abbrev S512x2048 : Shape := ⟨2, ![512, 2048]⟩
abbrev S8192x4096 : Shape := ⟨2, ![8192, 4096]⟩
abbrev S1x4096 : Shape := ⟨2, ![1, 4096]⟩
abbrev S2048x1024 : Shape := ⟨2, ![2048, 1024]⟩
abbrev S2048x512 : Shape := ⟨2, ![2048, 512]⟩
abbrev S8192x2048 : Shape := ⟨2, ![8192, 2048]⟩
abbrev S1024x1024 : Shape := ⟨2, ![1024, 1024]⟩
abbrev S1024x512 : Shape := ⟨2, ![1024, 512]⟩
abbrev S512x1024 : Shape := ⟨2, ![512, 1024]⟩
abbrev S512x512 : Shape := ⟨2, ![512, 512]⟩
abbrev S1x512 : Shape := ⟨2, ![1, 512]⟩

abbrev nBuf : Space → Nat
  | .hbm => 13
  | .vmem => 22
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S1024x2048, .f32⟩
  | .hbm, ⟨3, _⟩ => ⟨S512x2048, .f32⟩
  | .hbm, ⟨4, _⟩ => ⟨S8192x4096, .bf16⟩
  | .hbm, ⟨5, _⟩ => ⟨S1x4096, .f32⟩
  | .hbm, ⟨6, _⟩ => ⟨S2048x1024, .f32⟩
  | .hbm, ⟨7, _⟩ => ⟨S2048x1024, .bf16⟩
  | .hbm, ⟨8, _⟩ => ⟨S2048x512, .f32⟩
  | .hbm, ⟨9, _⟩ => ⟨S2048x512, .bf16⟩
  | .hbm, ⟨10, _⟩ => ⟨S8192x2048, .bf16⟩
  | .hbm, ⟨11, _⟩ => ⟨S8192x2048, .bf16⟩
  | .hbm, ⟨12, _⟩ => ⟨S8192x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S512x1024, .bf16⟩
  | .local _ .vmem, ⟨5, _⟩ => ⟨S512x1024, .bf16⟩
  | .local _ .vmem, ⟨6, _⟩ => ⟨S512x512, .bf16⟩
  | .local _ .vmem, ⟨7, _⟩ => ⟨S512x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S1x512, .f32⟩
  | .local _ .vmem, ⟨16, _⟩ => ⟨S1024x512, .bf16⟩
  | .local _ .vmem, ⟨17, _⟩ => ⟨S1024x512, .bf16⟩
  | .local _ .vmem, ⟨18, _⟩ => ⟨S1024x512, .bf16⟩
  | .local _ .vmem, ⟨19, _⟩ => ⟨S1024x512, .bf16⟩
  | .local _ .vmem, ⟨20, _⟩ => ⟨S1024x512, .bf16⟩
  | .local _ .vmem, ⟨21, _⟩ => ⟨S1024x512, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference32Ideal.lean ====
abbrev S8192x1024 : Shape := ⟨2, ![8192, 1024]⟩
abbrev S8192x512 : Shape := ⟨2, ![8192, 512]⟩
abbrev S1024x2048 : Shape := ⟨2, ![1024, 2048]⟩
abbrev S512x2048 : Shape := ⟨2, ![512, 2048]⟩
abbrev S8192x4096 : Shape := ⟨2, ![8192, 4096]⟩
abbrev S1x4096 : Shape := ⟨2, ![1, 4096]⟩
abbrev S4096 : Shape := ⟨1, ![4096]⟩
abbrev S_ : Shape := ⟨0, ![]⟩
abbrev S8192x2x2048 : Shape := ⟨3, ![8192, 2, 2048]⟩
abbrev S8192x2048 : Shape := ⟨2, ![8192, 2048]⟩
abbrev S8192x1x2048 : Shape := ⟨3, ![8192, 1, 2048]⟩

abbrev nBuf : Space → Nat
  | .hbm => 34
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S1024x2048, .f32⟩
  | .hbm, ⟨3, _⟩ => ⟨S512x2048, .f32⟩
  | .hbm, ⟨4, _⟩ => ⟨S8192x4096, .bf16⟩
  | .hbm, ⟨5, _⟩ => ⟨S1x4096, .f32⟩
  | .hbm, ⟨6, _⟩ => ⟨S8192x4096, .f32⟩
  | .hbm, ⟨7, _⟩ => ⟨S4096, .f32⟩
  | .hbm, ⟨8, _⟩ => ⟨S1x4096, .f32⟩
  | .hbm, ⟨9, _⟩ => ⟨S8192x4096, .f32⟩
  | .hbm, ⟨10, _⟩ => ⟨S8192x4096, .f32⟩
  | .hbm, ⟨11, _⟩ => ⟨S8192x4096, .f32⟩
  | .hbm, ⟨12, _⟩ => ⟨S8192x4096, .f32⟩
  | .hbm, ⟨13, _⟩ => ⟨S_, .f32⟩
  | .hbm, ⟨14, _⟩ => ⟨S8192x4096, .f32⟩
  | .hbm, ⟨15, _⟩ => ⟨S8192x4096, .f32⟩
  | .hbm, ⟨16, _⟩ => ⟨S_, .f32⟩
  | .hbm, ⟨17, _⟩ => ⟨S8192x4096, .f32⟩
  | .hbm, ⟨18, _⟩ => ⟨S8192x4096, .f32⟩
  | .hbm, ⟨19, _⟩ => ⟨S8192x2x2048, .f32⟩
  | .hbm, ⟨20, _⟩ => ⟨S8192x1024, .f32⟩
  | .hbm, ⟨21, _⟩ => ⟨S8192x2048, .f32⟩
  | .hbm, ⟨22, _⟩ => ⟨S8192x512, .f32⟩
  | .hbm, ⟨23, _⟩ => ⟨S8192x2048, .f32⟩
  | .hbm, ⟨24, _⟩ => ⟨S8192x1x2048, .f32⟩
  | .hbm, ⟨25, _⟩ => ⟨S8192x2048, .f32⟩
  | .hbm, ⟨26, _⟩ => ⟨S8192x2048, .f32⟩
  | .hbm, ⟨27, _⟩ => ⟨S8192x1x2048, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S8192x2048, .bf16⟩
  | .hbm, ⟨32, _⟩ => ⟨S8192x2048, .bf16⟩
  | .hbm, ⟨33, _⟩ => ⟨S8192x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩

abbrev nD : Nat := 1
abbrev τ : Topo := Topo.v7x

variable {F : FTy → Type} [FloatOps F]
-- ==== Kernel33.lean ====
abbrev S8192x2048 : Shape := ⟨2, ![8192, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference33Ideal.lean ====
abbrev S8192x2048 : Shape := ⟨2, ![8192, 2048]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩

abbrev nBuf : Space → Nat
  | .hbm => 20
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2048, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | .hbm, ⟨19, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Kernel34.lean ====
abbrev S8192x2048 : Shape := ⟨2, ![8192, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩
abbrev S2048 : Shape := ⟨1, ![2048]⟩

abbrev nBuf : Space → Nat
  | .hbm => 7
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .bf16⟩
  | .hbm, ⟨3, _⟩ => ⟨S8192x2048, .f32⟩
  | .hbm, ⟨4, _⟩ => ⟨S8192x2048, .f32⟩
  | .hbm, ⟨5, _⟩ => ⟨S8192x2048, .bf16⟩
  | .hbm, ⟨6, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .bf16⟩
  | .local _ .vmem, ⟨11, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v34 : BitVec 1 := Scalar.cmpi .eq arg0 c0_i32
  let v35 : BitVec 32 := Scalar.extui v34
  let c0_i32_16 : BitVec 32 := 0#32
  let v36 : BitVec 1 := Scalar.cmpi .ne v35 c0_i32_16
  v36

def k0_cond2 (i : grid0.Coords) : BitVec 1 :=
  let arg0 : BitVec 32 := BitVec.ofNat 32 (i 0).val
  let c0_i32_17 : BitVec 32 := 0#32
  let v37 : BitVec 1 := Scalar.cmpi .sgt arg0 c0_i32_17
  let v38 : BitVec 32 := Scalar.extui v37
  let c0_i32_18 : BitVec 32 := 0#32
  let v39 : BitVec 1 := Scalar.cmpi .ne v38 c0_i32_18
  v39

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference34Ideal.lean ====
abbrev S8192x2048 : Shape := ⟨2, ![8192, 2048]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩

abbrev nBuf : Space → Nat
  | .hbm => 55
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .bf16⟩
  | .hbm, ⟨3, _⟩ => ⟨S8192x2048, .f32⟩
  | .hbm, ⟨4, _⟩ => ⟨S2048, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x2048, .f32⟩
  | .hbm, ⟨21, _⟩ => ⟨S8192x2048, .f32⟩
  | .hbm, ⟨22, _⟩ => ⟨S1x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S_, .f32⟩
  | .hbm, ⟨28, _⟩ => ⟨S2048, .f32⟩
  | .hbm, ⟨29, _⟩ => ⟨S1x2048, .f32⟩
  | .hbm, ⟨30, _⟩ => ⟨S8192x2048, .f32⟩
  | .hbm, ⟨31, _⟩ => ⟨S8192x2048, .f32⟩
  | .hbm, ⟨32, _⟩ => ⟨S_, .f32⟩
  | .hbm, ⟨33, _⟩ => ⟨S2048, .f32⟩
  | .hbm, ⟨34, _⟩ => ⟨S8192x2048, .f32⟩
  | .hbm, ⟨35, _⟩ => ⟨S_, .f32⟩
  | .hbm, ⟨36, _⟩ => ⟨S8192, .f32⟩
  | .hbm, ⟨37, _⟩ => ⟨S8192x1, .f32⟩
  | .hbm, ⟨38, _⟩ => ⟨S8192x2048, .f32⟩
  | .hbm, ⟨39, _⟩ => ⟨S8192x2048, .f32⟩
  | .hbm, ⟨40, _⟩ => ⟨S8192x1, .f32⟩
  | .hbm, ⟨41, _⟩ => ⟨S_, .f32⟩
  | .hbm, ⟨42, _⟩ => ⟨S8192x1, .f32⟩
  | .hbm, ⟨43, _⟩ => ⟨S8192x1, .f32⟩
  | .hbm, ⟨44, _⟩ => ⟨S_, .f32⟩
  | .hbm, ⟨45, _⟩ => ⟨S8192, .f32⟩
  | .hbm, ⟨46, _⟩ => ⟨S8192x2048, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S8192x2048, .f32⟩
  | .hbm, ⟨51, _⟩ => ⟨S8192x2048, .f32⟩
  | .hbm, ⟨52, _⟩ => ⟨S8192x2048, .f32⟩
  | .hbm, ⟨53, _⟩ => ⟨S8192x2048, .bf16⟩
  | .hbm, ⟨54, _⟩ => ⟨S1x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩

abbrev nD : Nat := 1
abbrev τ : Topo := Topo.v7x

variable {F : FTy → Type} [FloatOps F]
-- ==== Proof.Kit.lean ====
/- What the modules share: where an element of a block lies in its array. -/
module

public import proofs.«01_k».proof.Defs
public import Idealize.ShloMosaic.Lib.Tactic
public import Idealize.ShloMosaic.Lib.Pointwise
public import Idealize.ShloMosaic.Lib.KernelVsHost
public import Idealize.ShloMosaic.Lib.Pipeline.ValueKit

@[expose] public section

noncomputable section

namespace Cert

/-- The origin of a two-axis block. -/
theorem hz2 : (![0, 0] : Fin 2 → Nat) = fun _ => 0 := funext fun a => by fin_cases a <;> rfl

/-- The origin of a three-axis block. -/
theorem hz3 : (![0, 0, 0] : Fin 3 → Nat) = fun _ => 0 := funext fun a => by fin_cases a <;> rfl

end Cert

namespace Cert.Kit

open Idealize.ShloMosaic

/-- Element `r` of block `q` of extent `B`, when the block's number is `i`. -/
theorem at_ {i q n : ℕ} (B : ℕ) (h : i = q) (r : Fin n) : i * B + 1 * r.val = q * B + r.val := by
  rw [h, Nat.one_mul]

/-- Element `r` of the first block. -/
theorem at0 {i n : ℕ} (B : ℕ) (h : i = 0) (r : Fin n) : i * B + 1 * r.val = r.val := by
  rw [h, Nat.one_mul, Nat.zero_mul, Nat.zero_add]

/-- Element `r` of what begins at 0. -/
theorem z {n : ℕ} (r : Fin n) : 0 + 1 * r.val = r.val := by omega

/-- An element lies in the block its quotient names. -/
theorem mem {i q : ℕ} (B x : ℕ) (h : i = q) (hx : q * B ≤ x ∧ x < q * B + B) : i * B ≤ x ∧ x < i * B + B := h ▸ hx

/-- An index of two axes lies in a block when each coordinate does. -/
theorem cov {σ : RefSig} {κ : Kind} {b : Ref σ κ} {off size : Fin b.ty.shape.rank → ℕ} {inb} {i : b.ty.shape.Idx} (h : ∀ a, off a ≤ (i a).val ∧ (i a).val < off a + size a) :
    i ∈ ((View.whole b).slice (Rect.unit off size inb)).set := by
  rw [View.set_slice_whole, Rect.mem_set_unit]
  exact h

/-- A load of the whole of a two-axis block reads its contents. -/
theorem ld {Val : EltTy → Type} {e : EltTy} {a b : ℕ} (inb) (X : (⟨2, ![a, b]⟩ : Shape).Idx → Val e) :
    View.ld X (Rect.unit (s := ⟨2, ![a, b]⟩) ![0, 0] ![a, b] inb) = X := View.ld_unit_zero (S := ⟨2, ![a, b]⟩) hz2 inb X

/-- An index of two axes from its coordinates. -/
theorem e2 {a b : ℕ} {f : (⟨2, ![a, b]⟩ : Shape).Idx} {i : Fin a} {j : Fin b} (h0 : (f 0).val = i.val) (h1 : (f 1).val = j.val) : f = ix2 i j := by
  funext k; apply Fin.ext
  match k with
  | ⟨0, _⟩ => exact h0
  | ⟨1, _⟩ => exact h1

/-- Every index of two axes is a pair. -/
theorem pair {a b : ℕ} (j : (⟨2, ![a, b]⟩ : Shape).Idx) : ∃ (r : Fin a) (n : Fin b), j = ix2 r n := ⟨_, _, eq_ix2 j⟩

/-- An index of three axes from its coordinates. -/
theorem e3 {a b c : ℕ} {f : (⟨3, ![a, b, c]⟩ : Shape).Idx} {i : Fin a} {j : Fin b} {k : Fin c} (h0 : (f 0).val = i.val) (h1 : (f 1).val = j.val)
    (h2 : (f 2).val = k.val) : f = ix3 i j k := by
  funext k; apply Fin.ext
  match k with
  | ⟨0, _⟩ => exact h0
  | ⟨1, _⟩ => exact h1
  | ⟨2, _⟩ => exact h2

end Cert.Kit

end
-- ==== Proof.ConvPoint.lean ====
module

public import proofs.«01_k».proof.Proof.Kit
public import proofs.«01_k».proof.Proof.Gen.KernelIdeal.Value

@[expose] public section

set_option maxRecDepth 16384

noncomputable section

namespace Cert.KernelIdeal.ConvPoint

open Gen Idealize.ShloMosaic TcCoe Idealize.SL.Sem
open Idealize.ShloMosaic.Pipeline (Dat)

variable {F : FTy → Type} [FloatOps F]

/-- A load of the whole scratch reads what the stores before it left. -/
theorem readCov_all (v : View sig .tc .vmem S1040x1408 .f32) (L : List (View.Piece (Elt F) S1040x1408 .f32)) (inb) :
    v.readCov L (Rect.unit (s := S1040x1408) ![0, 0] ![1040, 1408] inb).toLoadRect = View.canon L := by
  rw [View.readCov_eq_canon']
  exact Kit.ld inb _

/-- The rows a point works on: its 1024 rows of the incoming gradient, then the 16 rows after them. -/
def ext (i : grid0.Coords) (x0 : Vec F S1x1024x1408 .bf16) (x1 : Vec F S1x16x1408 .bf16) : Vec F S1040x1408 .f32 :=
  View.canon [⟨Rect.unit ![1024, 0] ![16, 1408] inb_S1040x1408_S16x1408_1024_0, k0_pay7 i x1⟩,
    ⟨Rect.unit ![0, 0] ![1024, 1408] inb_S1040x1408_S1024x1408_0_0, k0_pay6 x0⟩]

/-- The convolution's input gradient at a point: three rows of taps over `ext`. -/
def dpreBlk (i : grid0.Coords) (x0 : Vec F S1x1024x1408 .bf16) (x1 : Vec F S1x16x1408 .bf16) (x2 : Vec F S3x1408 .f32) :
    FVec F S1024x1408 .bf16 :=
  k0_pay8 (ext i x0 x1) (View.ld x2 (Rect.unit ![2, 0] ![1, 1408] inb_S3x1408_S1x1408_2_0))
    (View.ld x2 (Rect.unit ![1, 0] ![1, 1408] inb_S3x1408_S1x1408_1_0))
    (View.ld x2 (Rect.unit ![0, 0] ![1, 1408] inb_S3x1408_S1x1408_0_0))

variable (c : Dev nD) (i : grid0.Coords) (arg2 : Memref sig .tc .vmem S1x1024x1408 .bf16) (harg2 : arg2.IsWhole) (arg3 : Memref sig .tc .vmem S1x16x1408 .bf16) (harg3 : arg3.IsWhole) (arg4 : Memref sig .tc .vmem S3x1408 .f32) (harg4 : arg4.IsWhole) (arg5 : Memref sig .tc .vmem S1408x2048 .bf16) (harg5 : arg5.IsWhole) (arg6 : Memref sig .tc .vmem S1x1024x1408 .bf16) (harg6 : arg6.IsWhole) (arg7 : Memref sig .tc .vmem S1024x2048 .bf16) (harg7 : arg7.IsWhole) (arg8 : Memref sig .tc .vmem S1040x1408 .f32) (harg8 : arg8.IsWhole) (arg9 : Memref sig .tc .vmem S1024x2048 .f32) (harg9 : arg9.IsWhole)
    (x0 : Vec F S1x1024x1408 .bf16) (x1 : Vec F S1x16x1408 .bf16) (x2 : Vec F S3x1408 .f32) (x3 : Vec F S1408x2048 .bf16) (acc : Vec F S1024x2048 .f32)

/-- Case A leaves the convolution gradient in the first output block. -/
theorem out4_A (hc0 : cond0_0 i) (hc1 : ¬cond0_1 i) (hc2 : ¬cond0_2 i) :
    out0_A_4 c i arg2 harg2 arg3 harg3 arg4 harg4 arg5 harg5 arg6 harg6 arg7 harg7 arg8 harg8 arg9 harg9 hc0 hc1 hc2 x0 x1 x2 x3 = k0_pay1 (dpreBlk i x0 x1 x2) := by
  unfold out0_A_4
  rw [View.read_writes_eq_canon _ _ _ (cover0_A_4 _ _ _ _ _ _ _ _ _ _ _ _ _ _ _ _ _ _ _ _ _ _ _ _ _)]
  unfold kernelRun0_A
  dsimp only
  sl_unfold_words
  rw [View.canon_unit_zero hz3]
  unfold dpreBlk ext
  simp only [View.readAt_eq_ld, Memref.IsWhole.read_unread,
    View.ld_unit_zero (S := S1x1024x1408) hz3, View.ld_unit_zero (S := S1x16x1408) hz3, Kit.ld,
    Kit.ld, View.readCov_unit_zero (S := S1024x2048) _ hz2, readCov_all]

/-- What case A leaves in the accumulator. -/
theorem acc_A (hc0 : cond0_0 i) (hc1 : ¬cond0_1 i) (hc2 : ¬cond0_2 i) :
    sout0_A_1 c i arg2 harg2 arg3 harg3 arg4 harg4 arg5 harg5 arg6 harg6 arg7 harg7 arg8 harg8 arg9 harg9 hc0 hc1 hc2 x0 x1 x2 x3 = k0_pay3 (dpreBlk i x0 x1 x2) x3 := by
  unfold sout0_A_1
  rw [View.read_writes_eq_canon _ _ _ (scover0_A_1 c i arg2 harg2 arg3 harg3 arg4 harg4 arg5 harg5 arg6 harg6 arg7 harg7 arg8 harg8 arg9 harg9 hc0 hc1 hc2 x0 x1 x2 x3)]
  unfold kernelRun0_A
  dsimp only
  sl_unfold_words
  rw [View.canon_unit_zero hz2]
  unfold dpreBlk ext
  simp only [View.readAt_eq_ld, Memref.IsWhole.read_unread,
    View.ld_unit_zero (S := S1x1024x1408) hz3, View.ld_unit_zero (S := S1x16x1408) hz3, Kit.ld,
    Kit.ld, View.readCov_unit_zero (S := S1024x2048) _ hz2, readCov_all]

/-- Case B leaves the convolution gradient in the first output block. -/
theorem out4_B (hc0 : ¬cond0_0 i) (hc1 : cond0_1 i) (hc2 : ¬cond0_2 i) :
    out0_B_4 c i arg2 harg2 arg3 harg3 arg4 harg4 arg5 harg5 arg6 harg6 arg7 harg7 arg8 harg8 arg9 harg9 hc0 hc1 hc2 x0 x1 x2 x3 acc = k0_pay1 (dpreBlk i x0 x1 x2) := by
  unfold out0_B_4
  rw [View.read_writes_eq_canon _ _ _ (cover0_B_4 _ _ _ _ _ _ _ _ _ _ _ _ _ _ _ _ _ _ _ _ _ _ _ _ _ _)]
  unfold kernelRun0_B
  dsimp only
  sl_unfold_words
  rw [View.canon_unit_zero hz3]
  unfold dpreBlk ext
  simp only [View.readAt_eq_ld, Memref.IsWhole.read_unread,
    View.ld_unit_zero (S := S1x1024x1408) hz3, View.ld_unit_zero (S := S1x16x1408) hz3, Kit.ld,
    Kit.ld, View.readCov_unit_zero (S := S1024x2048) _ hz2, readCov_all]

/-- What case B leaves in the accumulator. -/
theorem acc_B (hc0 : ¬cond0_0 i) (hc1 : cond0_1 i) (hc2 : ¬cond0_2 i) :
    sout0_B_1 c i arg2 harg2 arg3 harg3 arg4 harg4 arg5 harg5 arg6 harg6 arg7 harg7 arg8 harg8 arg9 harg9 hc0 hc1 hc2 x0 x1 x2 x3 acc = k0_pay4 (dpreBlk i x0 x1 x2) x3 acc := by
  unfold sout0_B_1
  rw [View.read_writes_eq_canon _ _ _ (scover0_B_1 c i arg2 harg2 arg3 harg3 arg4 harg4 arg5 harg5 arg6 harg6 arg7 harg7 arg8 harg8 arg9 harg9 hc0 hc1 hc2 x0 x1 x2 x3 acc)]
  unfold kernelRun0_B
  dsimp only
  sl_unfold_words
  rw [View.canon_unit_zero hz2]
  unfold dpreBlk ext
  simp only [View.readAt_eq_ld, Memref.IsWhole.read_unread,
    View.ld_unit_zero (S := S1x1024x1408) hz3, View.ld_unit_zero (S := S1x16x1408) hz3, Kit.ld,
    Kit.ld, View.readCov_unit_zero (S := S1024x2048) _ hz2, readCov_all]

/-- Case C leaves the convolution gradient in the first output block. -/
theorem out4_C (hc0 : ¬cond0_0 i) (hc1 : cond0_1 i) (hc2 : cond0_2 i) :
    out0_C_4 c i arg2 harg2 arg3 harg3 arg4 harg4 arg5 harg5 arg6 harg6 arg7 harg7 arg8 harg8 arg9 harg9 hc0 hc1 hc2 x0 x1 x2 x3 acc = k0_pay1 (dpreBlk i x0 x1 x2) := by
  unfold out0_C_4
  rw [View.read_writes_eq_canon _ _ _ (cover0_C_4 _ _ _ _ _ _ _ _ _ _ _ _ _ _ _ _ _ _ _ _ _ _ _ _ _ _)]
  unfold kernelRun0_C
  dsimp only
  sl_unfold_words
  rw [View.canon_unit_zero hz3]
  unfold dpreBlk ext
  simp only [View.readAt_eq_ld, Memref.IsWhole.read_unread,
    View.ld_unit_zero (S := S1x1024x1408) hz3, View.ld_unit_zero (S := S1x16x1408) hz3, Kit.ld,
    Kit.ld, View.readCov_unit_zero (S := S1024x2048) _ hz2, readCov_all]

/-- What case C leaves in the accumulator. -/
theorem acc_C (hc0 : ¬cond0_0 i) (hc1 : cond0_1 i) (hc2 : cond0_2 i) :
    sout0_C_1 c i arg2 harg2 arg3 harg3 arg4 harg4 arg5 harg5 arg6 harg6 arg7 harg7 arg8 harg8 arg9 harg9 hc0 hc1 hc2 x0 x1 x2 x3 acc = k0_pay4 (dpreBlk i x0 x1 x2) x3 acc := by
  unfold sout0_C_1
  rw [View.read_writes_eq_canon _ _ _ (scover0_C_1 c i arg2 harg2 arg3 harg3 arg4 harg4 arg5 harg5 arg6 harg6 arg7 harg7 arg8 harg8 arg9 harg9 hc0 hc1 hc2 x0 x1 x2 x3 acc)]
  unfold kernelRun0_C
  dsimp only
  sl_unfold_words
  rw [View.canon_unit_zero hz2]
  unfold dpreBlk ext
  simp only [View.readAt_eq_ld, Memref.IsWhole.read_unread,
    View.ld_unit_zero (S := S1x1024x1408) hz3, View.ld_unit_zero (S := S1x16x1408) hz3, Kit.ld,
    Kit.ld, View.readCov_unit_zero (S := S1024x2048) _ hz2, readCov_all]

/-- The last point of a row block writes the rounded accumulator. -/
theorem out5_C (hc0 : ¬cond0_0 i) (hc1 : cond0_1 i) (hc2 : cond0_2 i) :
    out0_C_5 c i arg2 harg2 arg3 harg3 arg4 harg4 arg5 harg5 arg6 harg6 arg7 harg7 arg8 harg8 arg9 harg9 hc0 hc1 hc2 x0 x1 x2 x3 acc = k0_pay5 (k0_pay4 (dpreBlk i x0 x1 x2) x3 acc) := by
  unfold out0_C_5
  rw [View.read_writes_eq_canon _ _ _ (cover0_C_5 _ _ _ _ _ _ _ _ _ _ _ _ _ _ _ _ _ _ _ _ _ _ _ _ _ _)]
  unfold kernelRun0_C
  dsimp only
  sl_unfold_words
  rw [View.canon_unit_zero hz2]
  unfold dpreBlk ext
  simp only [View.readAt_eq_ld, Memref.IsWhole.read_unread,
    View.ld_unit_zero (S := S1x1024x1408) hz3, View.ld_unit_zero (S := S1x16x1408) hz3, Kit.ld,
    Kit.ld, View.readCov_unit_zero (S := S1024x2048) _ hz2, readCov_all]

end Cert.KernelIdeal.ConvPoint

end
-- ==== Proof.ConvRead.lean ====
module

public import proofs.«01_k».proof.Proof.Kit
public import proofs.«01_k».proof.Proof.ConvPoint

@[expose] public section

set_option maxRecDepth 16384

noncomputable section

namespace Cert.KernelIdeal.ConvRead

open Gen ConvPoint Idealize.ShloMosaic TcCoe Idealize.SL.Sem

/-- `ext` in its first 1024 rows is the point's own block of the gradient. -/
theorem ext_lo (i : grid0.Coords) (x0 : Vec Ideal S1x1024x1408 .bf16) (x1 : Vec Ideal S1x16x1408 .bf16) (r : Fin 1040) (hr : r.val < 1024) (l : Fin 1408) :
    ext i x0 x1 (ix2 r l) = x0 (ix3 0 ⟨r.val, hr⟩ l) := by
  unfold ext
  rw [View.canon_cons_of_not_mem]
  · have e : ix2 r l = (Rect.unit (s := S1040x1408) ![0, 0] ![1024, 1408] inb_S1040x1408_S1024x1408_0_0).emb (ix2 (⟨r.val, hr⟩ : Fin 1024) l) := by
      funext a; apply Fin.ext
      match a with
      | ⟨0, _⟩ => show r.val = 0 + 1 * r.val; omega
      | ⟨1, _⟩ => show l.val = 0 + 1 * l.val; omega
    rw [e, View.canon_cons_emb]
    pointwise [k0_pay6]
  · rw [Rect.mem_set_unit]
    intro h
    have h0 := (h 0).1
    change 1024 ≤ r.val at h0
    omega

/-- `ext` after its first 1024 rows is the halo, or zero at the array's end. -/
theorem ext_hi (i : grid0.Coords) (x0 : Vec Ideal S1x1024x1408 .bf16) (x1 : Vec Ideal S1x16x1408 .bf16) (r : Fin 1040) (q : Fin 16) (hr : r.val = 1024 + q.val) (l : Fin 1408) :
    ext i x0 x1 (ix2 r l) = if (i 0).val = 7 then (0 : EReal) else x1 (ix3 0 q l) := by
  unfold ext
  have e : ix2 r l = (Rect.unit (s := S1040x1408) ![1024, 0] ![16, 1408] inb_S1040x1408_S16x1408_1024_0).emb (ix2 q l) := by
    funext a; apply Fin.ext
    match a with
    | ⟨0, _⟩ => show r.val = 1024 + 1 * q.val; omega
    | ⟨1, _⟩ => show l.val = 0 + 1 * l.val; omega
  rw [e, View.canon_cons_emb]
  pointwise [k0_pay7]
  have key : ∀ n < 8, Scalar.cmpi CmpIPredicate.eq (BitVec.ofNat 32 n) 7#32 = if n = 7 then 1#1 else 0#1 := by decide
  rw [key _ (i 0).isLt]
  split <;> rfl

/-- The point's gradient block at an element: three taps over `ext`. -/
theorem dpre_apply (i : grid0.Coords) (x0 : Vec Ideal S1x1024x1408 .bf16) (x1 : Vec Ideal S1x16x1408 .bf16) (x2 : Vec Ideal S3x1408 .f32) (r : Fin 1024) (l : Fin 1408) :
    dpreBlk i x0 x1 x2 (ix2 r l) = x2 (ix2 2 l) * ext i x0 x1 (ix2 ⟨r.val, by omega⟩ l) + x2 (ix2 1 l) * ext i x0 x1 (ix2 ⟨r.val + 1, by omega⟩ l)
      + x2 (ix2 0 l) * ext i x0 x1 (ix2 ⟨r.val + 2, by omega⟩ l) := by
  unfold dpreBlk
  generalize ext i x0 x1 = e
  pointwise [k0_pay8]
  have h1 : (r.val + 1040 - 1039) % 1040 = r.val + 1 := by omega
  have h2 : (r.val + 1040 - 1038) % 1040 = r.val + 2 := by omega
  simp only [h1, h2]

/-- The product with a block of the weight, at an element. -/
theorem mm_apply (d : FVec Ideal S1024x1408 .bf16) (w : Vec Ideal S1408x2048 .bf16) (r : Fin 1024) (n : Fin 2048) :
    k0_pay2 d w (ix2 r n) = ∑ l : Fin 1408, d (ix2 r l) * w (ix2 l n) := by
  pointwise [k0_pay2]

end Cert.KernelIdeal.ConvRead

end
-- ==== Proof.ConvBlocks.lean ====
module

public import proofs.«01_k».proof.Proof.Kit
public import proofs.«01_k».proof.Proof.ConvRead

@[expose] public section

set_option maxRecDepth 16384

noncomputable section

namespace Cert.KernelIdeal.ConvBlocks

open Gen ConvPoint ConvRead Idealize.ShloMosaic TcCoe Idealize.SL.Sem
open Idealize.ShloMosaic.Pipeline (Dat)

variable (m : (ℓ : Loc nD τ sig) → Buf (Elt Ideal) ℓ)

/-- The arguments at launch. -/
abbrev a0 (c : Dev nD) : Vec Ideal S2x8192x5632 .bf16 := m ((c : Thread nD τ).loc main_arg0)
@[inherit_doc a0] abbrev a1 (c : Dev nD) : Vec Ideal S3x11264 .f32 := m ((c : Thread nD τ).loc main_arg1)
@[inherit_doc a0] abbrev a2 (c : Dev nD) : Vec Ideal S2048x11264 .f32 := m ((c : Thread nD τ).loc main_arg2)

/-- The incoming gradient at a half, a row and a column; zero past the last row. -/
def rowOr0 (A : Vec Ideal S2x8192x5632 .bf16) (h : Fin 2) (s : ℕ) (c : Fin 5632) : EReal :=
  if hs : s < 8192 then A (ix3 h ⟨s, hs⟩ c) else 0

/-- The gradient of the three-tap causal convolution with respect to its input, at half `h`, row `s`, column `c`, where `q` is the
    column's place in the taps. -/
def dpre (A : Vec Ideal S2x8192x5632 .bf16) (W : Vec Ideal S3x11264 .f32) (h : Fin 2) (s : ℕ) (c : Fin 5632) (q : Fin 11264) : EReal :=
  W (ix2 2 q) * rowOr0 A h s c + W (ix2 1 q) * rowOr0 A h (s + 1) c + W (ix2 0 q) * rowOr0 A h (s + 2) c

/-- Which blocks a point reads and writes. -/
theorem idx (t : Fin cfg0.N) :
    (win0_0.index t 0 = t.val % 8 / 4 ∧ win0_0.index t 1 = t.val / 8 ∧ win0_0.index t 2 = t.val % 8 % 4)
    ∧ (win0_1.index t 0 = t.val % 8 / 4 ∧ win0_1.index t 1 = min ((t.val / 8 + 1) * 64) 511 ∧ win0_1.index t 2 = t.val % 8 % 4)
    ∧ (win0_2.index t 0 = 0 ∧ win0_2.index t 1 = t.val % 8) ∧ (win0_3.index t 0 = t.val % 8 ∧ win0_3.index t 1 = 0)
    ∧ (win0_4.index t 0 = t.val % 8 / 4 ∧ win0_4.index t 1 = t.val / 8 ∧ win0_4.index t 2 = t.val % 8 % 4)
    ∧ (win0_5.index t 0 = t.val / 8 ∧ win0_5.index t 1 = 0) ∧ (grid0.coords t 0).val = t.val / 8 :=
  (by decide +kernel : ∀ t : Fin grid0.N,
    (win0_0.index t 0 = t.val % 8 / 4 ∧ win0_0.index t 1 = t.val / 8 ∧ win0_0.index t 2 = t.val % 8 % 4)
    ∧ (win0_1.index t 0 = t.val % 8 / 4 ∧ win0_1.index t 1 = min ((t.val / 8 + 1) * 64) 511 ∧ win0_1.index t 2 = t.val % 8 % 4)
    ∧ (win0_2.index t 0 = 0 ∧ win0_2.index t 1 = t.val % 8) ∧ (win0_3.index t 0 = t.val % 8 ∧ win0_3.index t 1 = 0)
    ∧ (win0_4.index t 0 = t.val % 8 / 4 ∧ win0_4.index t 1 = t.val / 8 ∧ win0_4.index t 2 = t.val % 8 % 4)
    ∧ (win0_5.index t 0 = t.val / 8 ∧ win0_5.index t 1 = 0) ∧ (grid0.coords t 0).val = t.val / 8) t

/-- A point's number is below 64. -/
theorem lt64 (t : Fin cfg0.N) : t.val < 64 := lt_of_lt_of_eq t.isLt N_0

/-- The weight as the kernel finds it: transposed (and rounded, which is nothing over the reals). -/
theorem V_w (c : Dev nD) : @Eq (FVec Ideal S11264x2048 .bf16) (V m c main_v1)
    (truncf .bf16 (transpose S11264x2048 [1, 0] (m ((c : Thread nD τ).loc main_arg2) : FVec Ideal S2048x11264 .f32) transposes_S2048x11264_S11264x2048_1_0) bitsLt_bf16_f32) := by
  show StableHlo.after hostOps0 _ (Proc.devRef .tc main_v1) = _
  after_results

/-- Block 0 of a point, at an element. -/
theorem blk0 (c : Dev nD) (t : Fin cfg0.N) (r : Fin 1024) (l : Fin 1408) :
    (iblk m c 0 t : Vec Ideal S1x1024x1408 .bf16) (ix3 0 r l) = (a0 m c)
      (ix3 ⟨t.val % 8 / 4, by omega⟩ ⟨t.val / 8 * 1024 + r.val, by have := lt64 t; omega⟩ ⟨t.val % 8 % 4 * 1408 + l.val, by omega⟩) := by
  have h := (idx t).1
  exact (congrFun (V_main_arg0 m c) _).trans (congrArg _ (Kit.e3 (by show win0_0.index t 0 * 1 + 1 * 0 = t.val % 8 / 4; rw [h.1]; omega) (Kit.at_ 1024 h.2.1 r) (Kit.at_ 1408 h.2.2 l)))

/-- Block 1 of a point (the rows that follow), at an element. -/
theorem blk1 (c : Dev nD) (t : Fin cfg0.N) (r : Fin 16) (l : Fin 1408) :
    (iblk m c 1 t : Vec Ideal S1x16x1408 .bf16) (ix3 0 r l) = (a0 m c)
      (ix3 ⟨t.val % 8 / 4, by omega⟩ ⟨min ((t.val / 8 + 1) * 64) 511 * 16 + r.val, by have := lt64 t; omega⟩ ⟨t.val % 8 % 4 * 1408 + l.val, by omega⟩) := by
  have h := (idx t).2.1
  exact (congrFun (V_main_arg0 m c) _).trans (congrArg _ (Kit.e3 (by show win0_1.index t 0 * 1 + 1 * 0 = t.val % 8 / 4; rw [h.1]; omega) (Kit.at_ 16 h.2.1 r) (Kit.at_ 1408 h.2.2 l)))

/-- Block 2 of a point (the taps), at an element. -/
theorem blk2 (c : Dev nD) (t : Fin cfg0.N) (r : Fin 3) (l : Fin 1408) :
    (iblk m c 2 t : Vec Ideal S3x1408 .f32) (ix2 r l) = (a1 m c)
      (ix2 r ⟨t.val % 8 * 1408 + l.val, by omega⟩) := by
  have h := (idx t).2.2.1
  exact (congrFun (V_main_arg1 m c) _).trans (congrArg _ (Kit.e2 (Kit.at0 3 h.1 r) (Kit.at_ 1408 h.2 l)))

/-- Block 3 of a point (the weight), at an element. -/
theorem blk3 (c : Dev nD) (t : Fin cfg0.N) (l : Fin 1408) (n : Fin 2048) :
    (iblk m c 3 t : Vec Ideal S1408x2048 .bf16) (ix2 l n) = (a2 m c)
      (ix2 n ⟨t.val % 8 * 1408 + l.val, by omega⟩) := by
  have h := (idx t).2.2.2.1
  unfold iblk
  rw [View.read_apply]
  show V m c main_v1 _ = _
  refine (congrFun (V_w m c) _).trans ?_
  have e : (((cfg0.win 3).blk t).view.emb (ix2 l n) : S11264x2048.Idx) = ix2 ⟨t.val % 8 * 1408 + l.val, by omega⟩ n :=
    Kit.e2 (Kit.at_ 1408 h.1 l) (Kit.at0 2048 h.2 n)
  refine Eq.trans (congrArg _ e) ?_
  pointwise []

/-- The extended rows of a point are rows of the gradient, zero past its end. -/
theorem ext_point (c : Dev nD) (t : Fin cfg0.N) (r : Fin 1040) (l : Fin 1408) :
    ext (grid0.coords t) (iblk m c 0 t) (iblk m c 1 t) (ix2 r l)
      = rowOr0 (a0 m c) ⟨t.val % 8 / 4, by omega⟩ (t.val / 8 * 1024 + r.val) ⟨t.val % 8 % 4 * 1408 + l.val, by omega⟩ := by
  have ht := lt64 t
  have h := (idx t).2.2.2.2.2.2
  unfold rowOr0
  by_cases hr : r.val < 1024
  · rw [ext_lo _ _ _ _ hr, blk0, dif_pos (by omega)]
  · rw [ext_hi _ _ _ r ⟨r.val - 1024, by omega⟩ (by show r.val = 1024 + (r.val - 1024); omega), h]
    by_cases h7 : t.val / 8 = 7
    · rw [if_pos h7, dif_neg (by omega)]
    · rw [if_neg h7, blk1, dif_pos (by omega)]
      congr 1
      exact Kit.e3 rfl (by show min ((t.val / 8 + 1) * 64) 511 * 16 + (r.val - 1024) = t.val / 8 * 1024 + r.val; omega) rfl

/-- The gradient block of a point, at an element, in the whole arrays. -/
theorem dpre_point (c : Dev nD) (t : Fin cfg0.N) (r : Fin 1024) (l : Fin 1408) :
    dpreBlk (grid0.coords t) (iblk m c 0 t) (iblk m c 1 t) (iblk m c 2 t) (ix2 r l)
      = dpre (a0 m c) (a1 m c) ⟨t.val % 8 / 4, by omega⟩ (t.val / 8 * 1024 + r.val)
        ⟨t.val % 8 % 4 * 1408 + l.val, by omega⟩ ⟨t.val % 8 * 1408 + l.val, by omega⟩ := by
  rw [dpre_apply, ext_point, ext_point, ext_point, blk2, blk2, blk2]
  unfold dpre
  rfl

end Cert.KernelIdeal.ConvBlocks

end
-- ==== Proof.ConvArray.lean ====
module

public import proofs.«01_k».proof.Proof.Kit
public import proofs.«01_k».proof.Proof.ConvBlocks

@[expose] public section

set_option maxRecDepth 16384

noncomputable section

namespace Cert.KernelIdeal.ConvArray

open Gen ConvPoint ConvRead ConvBlocks Idealize.ShloMosaic TcCoe Idealize.SL.Sem
open Idealize.ShloMosaic.Pipeline (Dat)

variable (m : (ℓ : Loc nD τ sig) → Buf (Elt Ideal) ℓ)

/-- The arguments at launch. -/
abbrev a2 (c : Dev nD) : Vec Ideal S2048x11264 .f32 := m ((c : Thread nD τ).loc main_arg2)

/-- The first result: the convolution's input gradient, by halves. -/
def G4 (A : Vec Ideal S2x8192x5632 .bf16) (W : Vec Ideal S3x11264 .f32) : Vec Ideal S2x8192x5632 .bf16 := fun j =>
  dpre A W (j 0) (j 1).val (j 2) ⟨5632 * (j 0).val + (j 2).val, by
    have h0 : (j 0).val < 2 := (j 0).isLt
    have h2 : (j 2).val < 5632 := (j 2).isLt
    omega⟩

/-- The convolution's input gradient at a row and one of the 11264 columns. -/
def dpreCol (A : Vec Ideal S2x8192x5632 .bf16) (W : Vec Ideal S3x11264 .f32) (s : ℕ) (q : Fin 11264) : EReal :=
  dpre A W ⟨q.val / 5632, by omega⟩ s ⟨q.val % 5632, by omega⟩ q

/-- The second result: that gradient times the transposed weight. -/
def G5 (A : Vec Ideal S2x8192x5632 .bf16) (W : Vec Ideal S3x11264 .f32) (U : Vec Ideal S2048x11264 .f32) : Vec Ideal S8192x2048 .bf16 :=
  fun j => ∑ q : Fin 11264, dpreCol A W (j 0).val q * U (ix2 (j 1) q)

/-- The gradient block a point leaves in the first output's buffer. -/
theorem outs4 (c : Dev nD) (t : Fin cfg0.N) : (outsAt0 m c t.val t.isLt).1 =
    k0_pay1 (dpreBlk (grid0.coords t) (iblk m c 0 t) (iblk m c 1 t) (iblk m c 2 t)) := by
  by_cases h0 : t.val % 8 = 0
  · rw [outsAt0_A m c t h0 (by omega) (by omega)]
    dsimp only
    rw [out4_A]
  · by_cases h2 : t.val % 8 = 7
    · rw [outsAt0_C m c t h0 (by omega) h2]
      dsimp only
      rw [out4_C]
    · rw [outsAt0_B m c t h0 (by omega) h2]
      dsimp only
      rw [out4_B]

/-- One point's share of the product. -/
def term (c : Dev nD) (t : Fin cfg0.N) : S1024x2048.Idx → EReal :=
  k0_pay2 (dpreBlk (grid0.coords t) (iblk m c 0 t) (iblk m c 1 t) (iblk m c 2 t)) (iblk m c 3 t)

/-- A run's first point sets the accumulator. -/
theorem acc_first (c : Dev nD) (t : Fin cfg0.N) (h0 : t.val % 8 = 0) (i : S1024x2048.Idx) :
    (outsAt0 m c t.val t.isLt).2.2 i = 0 + term m c t i := by
  rw [outsAt0_A m c t h0 (by omega) (by omega)]
  dsimp only
  rw [acc_A]
  rw [zero_add]
  unfold k0_pay3 term
  rw [shapeCast_self]

/-- Every other point adds to it. -/
theorem acc_next (c : Dev nD) (t : Fin cfg0.N) (h0 : ¬t.val % 8 = 0) (i : S1024x2048.Idx) :
    (outsAt0 m c t.val t.isLt).2.2 i
      = (outsAt0 m c (t.val - 1) (Nat.lt_of_le_of_lt (Nat.sub_le _ _) t.isLt)).2.2 i + term m c t i := by
  by_cases h2 : t.val % 8 = 7
  · rw [outsAt0_C m c t h0 (by omega) h2]
    dsimp only
    rw [acc_C]
    unfold k0_pay4 term
    rw [shapeCast_self]
    rfl
  · rw [outsAt0_B m c t h0 (by omega) h2]
    dsimp only
    rw [acc_B]
    unfold k0_pay4 term
    rw [shapeCast_self]
    rfl

/-- A point's share, at an element, in the whole arrays. -/
theorem term_apply (c : Dev nD) (t : Fin cfg0.N) (r : Fin 1024) (n : Fin 2048) :
    term m c t (ix2 r n) = ∑ l : Fin 1408, dpreCol (m ((c : Thread nD τ).loc main_arg0)) (m ((c : Thread nD τ).loc main_arg1)) (t.val / 8 * 1024 + r.val)
        ⟨t.val % 8 * 1408 + l.val, by omega⟩
      * a2 m c (ix2 n ⟨t.val % 8 * 1408 + l.val, by omega⟩) := by
  unfold term
  rw [mm_apply]
  refine Finset.sum_congr rfl fun l _ => ?_
  rw [dpre_point, blk3]
  unfold dpreCol
  have e1 : (⟨t.val % 8 / 4, by omega⟩ : Fin 2) = ⟨(t.val % 8 * 1408 + l.val) / 5632, by omega⟩ := Fin.ext (by show t.val % 8 / 4 = (t.val % 8 * 1408 + l.val) / 5632; omega)
  have e2 : (⟨t.val % 8 % 4 * 1408 + l.val, by omega⟩ : Fin 5632) = ⟨(t.val % 8 * 1408 + l.val) % 5632, by omega⟩ :=
    Fin.ext (by show t.val % 8 % 4 * 1408 + l.val = (t.val % 8 * 1408 + l.val) % 5632; omega)
  rw [e1, e2]

/-- The accumulator at the end of a run holds the whole product. -/
theorem acc_last (c : Dev nD) (t : Fin cfg0.N) (h : t.val % 8 = 7) (r : Fin 1024) (n : Fin 2048) :
    (outsAt0 m c t.val t.isLt).2.2 (ix2 r n)
      = ∑ q : Fin 11264, dpreCol (m ((c : Thread nD τ).loc main_arg0)) (m ((c : Thread nD τ).loc main_arg1)) (t.val / 8 * 1024 + r.val) q
        * a2 m c (ix2 n q) := by
  have key := Pipeline.eq_sum_fin_of_reset_step_apply_of_flush (fun n h => (outsAt0 m c n h).2.2) 8 (fun _ => (0 : EReal)) (term m c)
    (acc_first m c) (acc_next m c) t h (ix2 r n)
  refine key.trans ?_
  rw [zero_add]
  refine Eq.trans ?_ (Fin.sum_mul_add_fin 8 1408 fun q : Fin 11264 =>
    dpreCol (m ((c : Thread nD τ).loc main_arg0)) (m ((c : Thread nD τ).loc main_arg1)) (t.val / 8 * 1024 + r.val) q
        * a2 m c (ix2 n q))
  refine Finset.sum_congr rfl fun s _ => ?_
  rw [term_apply]
  refine Finset.sum_congr rfl fun l _ => ?_
  have e : (8 * (t.val / 8) + s.val) % 8 = s.val := by omega
  have e' : (8 * (t.val / 8) + s.val) / 8 = t.val / 8 := by omega
  simp only [e, e']

/-- What the last point of a run writes back of the second result. -/
theorem outs5 (c : Dev nD) (t : Fin cfg0.N) (h : t.val % 8 = 7) (r : Fin 1024) (n : Fin 2048) :
    (outsAt0 m c t.val t.isLt).2.1 (ix2 r n)
      = ∑ q : Fin 11264, dpreCol (m ((c : Thread nD τ).loc main_arg0)) (m ((c : Thread nD τ).loc main_arg1)) (t.val / 8 * 1024 + r.val) q
        * a2 m c (ix2 n q) := by
  rw [← acc_last m c t h, outsAt0_C m c t (by omega) (by omega) h]
  dsimp only
  rw [out5_C, acc_C]
  pointwise [k0_pay5]

/-- What a point writes back of the first result is its block of `G4`. -/
theorem flushed_eq4 (c : Dev nD) (t : Fin cfg0.N) : (dats m 0 c).flushed 4 t =
    ((cfg0.win 4).blk t).view.read (Elt Ideal) (G4 (m ((c : Thread nD τ).loc main_arg0)) (m ((c : Thread nD τ).loc main_arg1))) := by
  have h := (idx t).2.2.2.2.1
  have ht := lt64 t
  rw [Value.flushed4, outs4]
  funext (j : S1x1024x1408.Idx)
  rw [View.read_apply]
  obtain ⟨a, r, l, rfl⟩ : ∃ (a : Fin 1) (r : Fin 1024) (l : Fin 1408), j = ix3 a r l := ⟨j 0, j 1, j 2, by
    funext b; match b with | ⟨0, _⟩ => rfl | ⟨1, _⟩ => rfl | ⟨2, _⟩ => rfl⟩
  have e : (((cfg0.win 4).blk t).view.emb (ix3 a r l) : S2x8192x5632.Idx)
      = ix3 ⟨t.val % 8 / 4, by omega⟩ ⟨t.val / 8 * 1024 + r.val, by omega⟩ ⟨t.val % 8 % 4 * 1408 + l.val, by omega⟩ := by
    exact Kit.e3 (by show win0_4.index t 0 * 1 + 1 * a.val = t.val % 8 / 4; rw [h.1]; omega) (Kit.at_ 1024 h.2.1 r) (Kit.at_ 1408 h.2.2 l)
  refine Eq.trans ?_ (congrArg (G4 (m ((c : Thread nD τ).loc main_arg0)) (m ((c : Thread nD τ).loc main_arg1))) e).symm
  show k0_pay1 (dpreBlk (grid0.coords t) (iblk m c 0 t) (iblk m c 1 t) (iblk m c 2 t)) (ix3 a r l) = _
  have e1 : ∀ d : FVec Ideal S1024x1408 .bf16, k0_pay1 d (ix3 a r l) = d (ix2 r l) := fun d => by pointwise [k0_pay1]
  rw [e1, dpre_point]
  unfold G4
  have e2 : (⟨t.val % 8 * 1408 + l.val, by omega⟩ : Fin 11264) = ⟨5632 * (t.val % 8 / 4) + (t.val % 8 % 4 * 1408 + l.val), by omega⟩ :=
    Fin.ext (by show t.val % 8 * 1408 + l.val = 5632 * (t.val % 8 / 4) + (t.val % 8 % 4 * 1408 + l.val); omega)
  rw [e2]
  rfl

/-- What a run's last point writes back of the second result is its block of `G5`. -/
theorem flushed_eq5 (c : Dev nD) (t : Fin cfg0.N) (hf : (cfg0.win 5).flush t = true) : (dats m 0 c).flushed 5 t =
    ((cfg0.win 5).blk t).view.read (Elt Ideal) (G5 (m ((c : Thread nD τ).loc main_arg0)) (m ((c : Thread nD τ).loc main_arg1)) (a2 m c)) := by
  have h7 : t.val % 8 = 7 := (flush0_5 t).mp hf
  have h := (idx t).2.2.2.2.2.1
  have ht := lt64 t
  rw [Value.flushed5]
  funext (j : S1024x2048.Idx)
  rw [View.read_apply]
  obtain ⟨r, n, rfl⟩ := Kit.pair j
  have e : (((cfg0.win 5).blk t).view.emb (ix2 r n) : S8192x2048.Idx) = ix2 ⟨t.val / 8 * 1024 + r.val, by omega⟩ n :=
    Kit.e2 (Kit.at_ 1024 h.1 r) (Kit.at0 2048 h.2 n)
  refine Eq.trans ?_ (congrArg (G5 (m ((c : Thread nD τ).loc main_arg0)) (m ((c : Thread nD τ).loc main_arg1)) (a2 m c)) e).symm
  exact outs5 m c t h7 r n

/-- An index of the first result lies in the block of the point that owns its half, row block and column block. -/
theorem cover4 (i : S2x8192x5632.Idx) : ∃ t : Fin cfg0.N, (cfg0.win 4).flush t = true ∧ i ∈ ((cfg0.win 4).blk t).view.set := by
  have h0 : (i 0).val < 2 := (i 0).isLt
  have h1 : (i 1).val < 8192 := (i 1).isLt
  have h2 : (i 2).val < 5632 := (i 2).isLt
  obtain ⟨t, ht⟩ : ∃ t : Fin cfg0.N, t.val = (i 1).val / 1024 * 8 + (i 0).val * 4 + (i 2).val / 1408 :=
    ⟨⟨_, by show _ < grid0.N; rw [Gen.N_0]; omega⟩, rfl⟩
  have h := (idx t).2.2.2.2.1
  refine ⟨t, flush0_4 t, ?_⟩
  show i ∈ ((View.whole main_v2_0).slice (win0_4.rect t)).set
  rw [View.set_slice_whole, Rect.mem_set_unit]
  intro a
  match a with
  | ⟨0, _⟩ => exact Kit.mem 1 (i 0).val h.1 (by omega)
  | ⟨1, _⟩ => exact Kit.mem 1024 (i 1).val h.2.1 (by omega)
  | ⟨2, _⟩ => exact Kit.mem 1408 (i 2).val h.2.2 (by omega)

/-- An index of the second result lies in the block that its run's last point writes back. -/
theorem cover5 (i : S8192x2048.Idx) : ∃ t : Fin cfg0.N, (cfg0.win 5).flush t = true ∧ i ∈ ((cfg0.win 5).blk t).view.set := by
  have h0 : (i 0).val < 8192 := (i 0).isLt
  have h1 : (i 1).val < 2048 := (i 1).isLt
  obtain ⟨t, ht⟩ : ∃ t : Fin cfg0.N, t.val = (i 0).val / 1024 * 8 + 7 :=
    ⟨⟨_, by show _ < grid0.N; rw [Gen.N_0]; omega⟩, rfl⟩
  have h := (idx t).2.2.2.2.2.1
  refine ⟨t, (flush0_5 t).mpr (by omega), ?_⟩
  exact Kit.cov (Fin.forall_fin_two.2 ⟨Kit.mem 1024 _ h.1 (by omega), Kit.mem 2048 _ h.2 (by omega)⟩)

/-- The first result array after the run. -/
theorem final4 (c : Dev nD) : (dats m 0 c).arrAt 4 cfg0.N = G4 (m ((c : Thread nD τ).loc main_arg0)) (m ((c : Thread nD τ).loc main_arg1)) :=
  (dats m 0 c).arrAt_eq_of_cover 4 _ (fun t _ => flushed_eq4 m c t) cover4

/-- The second result array after the run. -/
theorem final5 (c : Dev nD) : (dats m 0 c).arrAt 5 cfg0.N
    = G5 (m ((c : Thread nD τ).loc main_arg0)) (m ((c : Thread nD τ).loc main_arg1)) (a2 m c) :=
  (dats m 0 c).arrAt_eq_of_cover 5 _ (flushed_eq5 m c) cover5

end Cert.KernelIdeal.ConvArray

end
-- ==== Proof.ConvRef.lean ====
module

public import proofs.«01_k».proof.Proof.Kit
public import proofs.«01_k».proof.Proof.ConvArray
public import proofs.«01_k».proof.Proof.Gen.ReferenceIdeal.Read

@[expose] public section

set_option maxRecDepth 16384

noncomputable section

namespace Cert.ReferenceIdeal.ConvRef

open Gen Read Idealize.ShloMosaic TcCoe Idealize.SL.Sem

variable (A : Vec Ideal S2x8192x5632 .bf16) (W : Vec Ideal S3x11264 .f32) (U : Vec Ideal S2048x11264 .f32)

/-- The incoming gradient with its halves side by side. -/
theorem ct_apply (s : Fin 8192) (q : Fin 11264) : val_main_v6 (F := Ideal) A (ix3 0 s q)
    = A (ix3 ⟨q.val / 5632, by omega⟩ s ⟨q.val % 5632, by omega⟩) := by
  pointwise [val_main_v6, val_main_v5, val_main_v4, val_main_v3, val_main_v2, val_main_v1, val_main_v0]
  split
  · rename_i h
    congr 1
    funext a
    match a with
    | ⟨0, _⟩ => exact Fin.ext (by show 0 = q.val / 5632; omega)
    | ⟨1, _⟩ => rfl
    | ⟨2, _⟩ => exact Fin.ext (by show q.val = q.val % 5632; omega)
  · rename_i h
    congr 1
    funext a
    match a with
    | ⟨0, _⟩ => exact Fin.ext (by show 1 = q.val / 5632; omega)
    | ⟨1, _⟩ => rfl
    | ⟨2, _⟩ => exact Fin.ext (by show q.val - 5632 = q.val % 5632; omega)

/-- The tap that multiplies the row itself. -/
theorem tap2 (s : Fin 8192) (q : Fin 11264) : val_main_v36 (F := Ideal) A W (ix3 0 s q)
    = W (ix2 2 q) * val_main_v6 (F := Ideal) A (ix3 0 s q) := by
  unfold val_main_v36
  generalize val_main_v6 (F := Ideal) A = v
  pointwise [val_main_v35, val_main_v31, val_main_v29, val_main_v28]

/-- The tap that multiplies the next row. -/
theorem tap1 (s : Fin 8192) (q : Fin 11264) : val_main_v39 (F := Ideal) A W (ix3 0 s q)
    = W (ix2 1 q) * val_main_v6 (F := Ideal) A (ix3 0 s q) := by
  unfold val_main_v39
  generalize val_main_v6 (F := Ideal) A = v
  pointwise [val_main_v38, val_main_v24, val_main_v22, val_main_v21]

/-- The tap that multiplies the row after the next. -/
theorem tap0 (s : Fin 8192) (q : Fin 11264) : val_main_v43 (F := Ideal) A W (ix3 0 s q)
    = W (ix2 0 q) * val_main_v6 (F := Ideal) A (ix3 0 s q) := by
  unfold val_main_v43
  generalize val_main_v6 (F := Ideal) A = v
  pointwise [val_main_v42, val_main_v15, val_main_v13, val_main_v12, val_main_v11]

/-- The reference's convolution gradient. -/
theorem dpre_apply (s : Fin 8192) (q : Fin 11264) : val_main_v47 (F := Ideal) A W (ix3 0 s q)
    = KernelIdeal.ConvArray.dpreCol A W s.val q := by
  unfold KernelIdeal.ConvArray.dpreCol KernelIdeal.ConvBlocks.dpre KernelIdeal.ConvBlocks.rowOr0
  have t2 := tap2 A W
  have t1 := tap1 A W
  have t0 := tap0 A W
  unfold val_main_v47 val_main_v45 val_main_v44 val_main_v41 val_main_v40 val_main_v37
  generalize val_main_v36 (F := Ideal) A W = x2 at t2 ⊢
  generalize val_main_v39 (F := Ideal) A W = x1 at t1 ⊢
  generalize val_main_v43 (F := Ideal) A W = x0 at t0 ⊢
  pointwise [val_main_cst_3, val_main_cst_4, val_main_cst_5]
  rw [t2, ct_apply]
  have e1 : (if h : 1 ≤ 2 + s.val ∧ 2 + s.val - 1 < 8192 then x1 (ix3 0 ⟨2 + s.val - 1, h.2⟩ q) else (0 : EReal))
      = W (ix2 1 q) * if hs : s.val + 1 < 8192 then A (ix3 ⟨q.val / 5632, by omega⟩ ⟨s.val + 1, hs⟩ ⟨q.val % 5632, by omega⟩) else (0 : EReal) := by
    by_cases h : s.val + 1 < 8192
    · rw [dif_pos h, dif_pos (by omega), t1, ct_apply]
      have e : (⟨2 + s.val - 1, by omega⟩ : Fin 8192) = ⟨s.val + 1, h⟩ := Fin.ext (by show 2 + s.val - 1 = s.val + 1; omega)
      rw [e]
    · rw [dif_neg h, dif_neg (by omega), mul_zero]
  have e0 : (if h : 2 + s.val < 8192 then x0 (ix3 0 ⟨2 + s.val, h⟩ q) else (0 : EReal))
      = W (ix2 0 q) * if hs : s.val + 2 < 8192 then A (ix3 ⟨q.val / 5632, by omega⟩ ⟨s.val + 2, hs⟩ ⟨q.val % 5632, by omega⟩) else (0 : EReal) := by
    by_cases h : s.val + 2 < 8192
    · rw [dif_pos h, dif_pos (by omega), t0, ct_apply]
      have e : (⟨2 + s.val, by omega⟩ : Fin 8192) = ⟨s.val + 2, h⟩ := Fin.ext (by show 2 + s.val = s.val + 2; omega)
      rw [e]
    · rw [dif_neg h, dif_neg (by omega), mul_zero]
  rw [← e1, ← e0]

/-- The reference's first result. -/
theorem res58 : val_main_v58 (F := Ideal) A W = KernelIdeal.ConvArray.G4 A W := by
  funext j
  obtain ⟨h, s, l, rfl⟩ : ∃ (h : Fin 2) (s : Fin 8192) (l : Fin 5632), j = ix3 h s l := ⟨j 0, j 1, j 2, by
    funext b; match b with | ⟨0, _⟩ => rfl | ⟨1, _⟩ => rfl | ⟨2, _⟩ => rfl⟩
  have e : ∀ q : Fin 11264, q.val = 5632 * h.val + l.val → val_main_v47 (F := Ideal) A W (ix3 0 s q) = KernelIdeal.ConvArray.G4 A W (ix3 h s l) := by
    intro q hq
    rw [dpre_apply]
    unfold KernelIdeal.ConvArray.dpreCol KernelIdeal.ConvArray.G4
    have e1 : (⟨q.val / 5632, by omega⟩ : Fin 2) = h := Fin.ext (by show q.val / 5632 = h.val; omega)
    have e2 : (⟨q.val % 5632, by omega⟩ : Fin 5632) = l := Fin.ext (by show q.val % 5632 = l.val; omega)
    have e3 : q = ⟨5632 * h.val + l.val, by omega⟩ := Fin.ext hq
    rw [e1, e2, e3]
    rfl
  revert e
  unfold val_main_v58 val_main_v57 val_main_v56 val_main_v55 val_main_v54 val_main_v53 val_main_v52 val_main_v51
  generalize val_main_v47 (F := Ideal) A W = x
  generalize KernelIdeal.ConvArray.G4 A W (ix3 h s l) = y
  intro e
  pointwise []
  split
  · rename_i hh
    exact e _ (by show l.val = 5632 * h.val + l.val; omega)
  · rename_i hh
    exact e _ (by show 5632 + l.val = 5632 * h.val + l.val; omega)

/-- The reference's second result. -/
theorem res60 : val_main_v60 (F := Ideal) A W U = KernelIdeal.ConvArray.G5 A W U := by
  funext j
  obtain ⟨s, n, rfl⟩ := Kit.pair j
  have e := dpre_apply A W s
  unfold val_main_v60 val_main_v59 val_main_v50
  generalize val_main_v47 (F := Ideal) A W = x at e ⊢
  refine Eq.trans (b := ∑ q : Fin 11264, x (ix3 0 s q) * U (ix2 n q)) ?_ ?_
  · pointwise []
  · unfold KernelIdeal.ConvArray.G5
    exact Finset.sum_congr rfl fun q _ => by rw [e]; rfl

end Cert.ReferenceIdeal.ConvRef

end
-- ==== Proof.ConvClaims.lean ====
module

public import proofs.«01_k».proof.Proof.Kit
public import proofs.«01_k».proof.Proof.ConvRef

@[expose] public section

set_option maxRecDepth 16384

noncomputable section

namespace Cert.Proof.Conv

open Idealize.ShloMosaic TcCoe Idealize.SL.Sem

/-- The reference leaves its arguments as they were; it has no semaphore. -/
theorem frame_reference : quiescent_ReferenceIdeal := fun m ρ _ =>
  (θ_run ReferenceIdeal.defs _ _).mono (fun r h => ⟨fun c => (h c).2.2, sem_eq_zero_of_no_sems (by decide) r.2⟩)
    (ReferenceIdeal.Value.run m ρ)

/-- The kernel and the reference leave the same two arrays: the convolution's input gradient, and that gradient times the transposed
    weight. -/
theorem algebraic : algebraic_KernelIdeal_ReferenceIdeal := by
  intro m ρ m' ρ' _ hag
  refine ⟨_, _, (θ_run KernelIdeal.defs _ _).mono
    (fun _ h c => ⟨(h c).1.trans (KernelIdeal.ConvArray.final4 m c), (h c).2.1.trans (KernelIdeal.ConvArray.final5 m c), (h c).2.2⟩)
    (KernelIdeal.Value.run_blocks m ρ), ?_⟩
  · refine (θ_run ReferenceIdeal.defs _ _).mono (fun _ h c => ⟨(h c).1.trans ?_, (h c).2.1.trans ?_, (h c).2.2⟩)
      (ReferenceIdeal.Value.run m' ρ')
    · refine (ReferenceIdeal.Read.val_main_v58_eq m' c).trans ((ReferenceIdeal.ConvRef.res58 _ _).trans ?_)
      rw [(hag c).1, (hag c).2.1]
    · refine (ReferenceIdeal.Read.val_main_v60_eq _ _ _).trans ((ReferenceIdeal.ConvRef.res60 _ _ _).trans ?_)
      rw [(hag c).1, (hag c).2.1, (hag c).2.2]

end Cert.Proof.Conv

end
-- ==== Proof.Product2.lean ====
module

public import proofs.«01_k».proof.Proof.Kit
public import proofs.«01_k».proof.Proof.Gen.Kernel2Ideal.Value
public import proofs.«01_k».proof.Proof.Gen.Reference2Ideal.Read

@[expose] public section

set_option maxRecDepth 16384

noncomputable section

namespace Cert.Kernel2Ideal.Product

open Gen Idealize.ShloMosaic TcCoe Idealize.SL.Sem
open Idealize.ShloMosaic.Pipeline (Dat)

section Points

variable {F : FTy → Type} [FloatOps F]

variable (c : Dev nD) (i : grid0.Coords) (arg3 : Memref sig .tc .vmem S1x2048x512 .bf16) (harg3 : arg3.IsWhole) (arg4 : Memref sig .tc .vmem S2048x2048 .bf16) (harg4 : arg4.IsWhole) (arg5 : Memref sig .tc .vmem S512x2048 .bf16) (harg5 : arg5.IsWhole) (arg6 : Memref sig .tc .vmem S512x2048 .f32) (harg6 : arg6.IsWhole)
    (x0 : Vec F S1x2048x512 .bf16) (x1 : Vec F S2048x2048 .bf16) (acc : Vec F S512x2048 .f32)

/-- What case A leaves in the accumulator. -/
theorem acc_A (hc0 : cond0_0 i) (hc1 : ¬cond0_1 i) (hc2 : ¬cond0_2 i) :
    sout0_A_0 c i arg3 harg3 arg4 harg4 arg5 harg5 arg6 harg6 hc0 hc1 hc2 x0 x1 = k0_pay2 x0 x1 := by
  unfold sout0_A_0
  rw [View.read_writes_eq_canon _ _ _ (scover0_A_0 c i arg3 harg3 arg4 harg4 arg5 harg5 arg6 harg6 hc0 hc1 hc2 x0 x1)]
  unfold kernelRun0_A
  dsimp only
  sl_unfold_words
  rw [View.canon_unit_zero hz2]
  simp only [View.readAt_eq_ld, Memref.IsWhole.read_unread, View.ld_unit_zero (S := S1x2048x512) hz3, Kit.ld, View.readCov_unit_zero (S := S512x2048) _ hz2]

/-- What case B leaves in the accumulator. -/
theorem acc_B (hc0 : ¬cond0_0 i) (hc1 : cond0_1 i) (hc2 : ¬cond0_2 i) :
    sout0_B_0 c i arg3 harg3 arg4 harg4 arg5 harg5 arg6 harg6 hc0 hc1 hc2 x0 x1 acc = k0_pay3 x0 x1 acc := by
  unfold sout0_B_0
  rw [View.read_writes_eq_canon _ _ _ (scover0_B_0 c i arg3 harg3 arg4 harg4 arg5 harg5 arg6 harg6 hc0 hc1 hc2 x0 x1 acc)]
  unfold kernelRun0_B
  dsimp only
  sl_unfold_words
  rw [View.canon_unit_zero hz2]
  simp only [View.readAt_eq_ld, Memref.IsWhole.read_unread, View.ld_unit_zero (S := S1x2048x512) hz3, Kit.ld, View.readCov_unit_zero (S := S512x2048) _ hz2]

/-- What case C leaves in the accumulator. -/
theorem acc_C (hc0 : ¬cond0_0 i) (hc1 : cond0_1 i) (hc2 : cond0_2 i) :
    sout0_C_0 c i arg3 harg3 arg4 harg4 arg5 harg5 arg6 harg6 hc0 hc1 hc2 x0 x1 acc = k0_pay3 x0 x1 acc := by
  unfold sout0_C_0
  rw [View.read_writes_eq_canon _ _ _ (scover0_C_0 c i arg3 harg3 arg4 harg4 arg5 harg5 arg6 harg6 hc0 hc1 hc2 x0 x1 acc)]
  unfold kernelRun0_C
  dsimp only
  sl_unfold_words
  rw [View.canon_unit_zero hz2]
  simp only [View.readAt_eq_ld, Memref.IsWhole.read_unread, View.ld_unit_zero (S := S1x2048x512) hz3, Kit.ld, View.readCov_unit_zero (S := S512x2048) _ hz2]

/-- The last point of a run writes its block of the result from the accumulator. -/
theorem out_last (hc0 : ¬cond0_0 i) (hc1 : cond0_1 i) (hc2 : cond0_2 i) :
    out0_C_2 c i arg3 harg3 arg4 harg4 arg5 harg5 arg6 harg6 hc0 hc1 hc2 x0 x1 acc = k0_pay4 (k0_pay3 x0 x1 acc) := by
  unfold out0_C_2
  rw [View.read_writes_eq_canon _ _ _ (cover0_C_2 _ _ _ _ _ _ _ _ _ _ _ _ _ _ _ _)]
  unfold kernelRun0_C
  dsimp only
  sl_unfold_words
  rw [View.canon_unit_zero hz2]
  simp only [View.readAt_eq_ld, Memref.IsWhole.read_unread, View.ld_unit_zero (S := S1x2048x512) hz3, Kit.ld, View.readCov_unit_zero (S := S512x2048) _ hz2]

end Points

variable (m : (ℓ : Loc nD τ sig) → Buf (Elt Ideal) ℓ)

/-- The arguments at launch. -/
abbrev a0 (c : Dev nD) : Vec Ideal S2x8192x5632 .bf16 := m ((c : Thread nD τ).loc main_arg0)
@[inherit_doc a0] abbrev a1 (c : Dev nD) : Vec Ideal S8192x2048 .bf16 := m ((c : Thread nD τ).loc main_arg1)

/-- Which blocks a point reads and writes. -/
theorem idx : ∀ t : Fin grid0.N, (win0_0.index t 0 = (t.val / 4) / 11 ∧ win0_0.index t 1 = t.val % 4 ∧ win0_0.index t 2 = (t.val / 4) % 11) ∧ (win0_1.index t 0 = t.val % 4 ∧ win0_1.index t 1 = 0) ∧ (win0_2.index t 0 = t.val / 4 ∧ win0_2.index t 1 = 0) := by
  decide +kernel

/-- A point's number is below 88. -/
theorem lt_all (t : Fin cfg0.N) : t.val < 88 := lt_of_lt_of_eq t.isLt N_0

/-- A row or column of a point's block, in the whole array. -/
abbrev row (t : Fin cfg0.N) (r : Fin 512) : Fin 11264 := ⟨t.val / 4 * 512 + r.val, by have := lt_all t; omega⟩

/-- A row or column of a point's block, in the whole array. -/
abbrev row1 (t : Fin cfg0.N) (r : Fin 2048) : Fin 8192 := ⟨t.val % 4 * 2048 + r.val, by have := lt_all t; omega⟩

/-- One summand of the product, at a row and a column. -/
def prod (A : Vec Ideal S2x8192x5632 .bf16) (B : Vec Ideal S8192x2048 .bf16) (r : Fin 11264) (n : Fin 2048) (q : Fin 8192) : EReal :=
  A (ix3 ⟨(r).val / 5632, by omega⟩ q ⟨(r).val % 5632, by omega⟩) * B (ix2 q n)

/-- The product, at a row and a column. -/
def entry (A : Vec Ideal S2x8192x5632 .bf16) (B : Vec Ideal S8192x2048 .bf16) (r : Fin 11264) (n : Fin 2048) : EReal :=
  ∑ q : Fin 8192, prod A B r n q

/-- The result: the gradient of the up projection's weight, transposed. -/
def G (A : Vec Ideal S2x8192x5632 .bf16) (B : Vec Ideal S8192x2048 .bf16) : Vec Ideal S11264x2048 .bf16 := fun j => entry A B (j 0) (j 1)

/-- Block 0 of a point, at an element. -/
theorem blk0 (c : Dev nD) (t : Fin cfg0.N) (r : Fin 512) (l : Fin 2048) :
    (iblk m c 0 t : Vec Ideal S1x2048x512 .bf16) (ix3 0 l r) = a0 m c (ix3 ⟨((row t r)).val / 5632, by omega⟩ (row1 t l) ⟨((row t r)).val % 5632, by omega⟩) := by
  have h := (idx t).1
  have ht := lt_all t
  exact (congrFun (V_main_arg0 m c) _).trans (congrArg _ (Kit.e3 (by show win0_0.index t 0 * 1 + 1 * 0 = (t.val / 4 * 512 + r.val) / 5632; rw [h.1]; omega) (Kit.at_ 2048 h.2.1 l) (by show win0_0.index t 2 * 512 + 1 * r.val = (t.val / 4 * 512 + r.val) % 5632; rw [h.2.2]; omega)))

/-- Block 1 of a point, at an element. -/
theorem blk1 (c : Dev nD) (t : Fin cfg0.N) (l : Fin 2048) (n : Fin 2048) :
    (iblk m c 1 t : Vec Ideal S2048x2048 .bf16) (ix2 l n) = a1 m c (ix2 (row1 t l) (⟨0 * 2048 + n.val, by have := lt_all t; omega⟩ : Fin 2048)) := by
  have h := (idx t).2.1
  exact (congrFun (V_main_arg1 m c) _).trans (congrArg _ (Kit.e2 (Kit.at_ 2048 h.1 l) (Kit.at_ 2048 h.2 n)))

/-- The product of two blocks, at an element. -/
theorem mm_apply (a : Vec Ideal S1x2048x512 .bf16) (b : Vec Ideal S2048x2048 .bf16) (r : Fin 512) (n : Fin 2048) :
    k0_pay1 a b (ix2 r n) = ∑ l : Fin 2048, (a (ix3 0 l r) * b (ix2 l n) : EReal) := by
  pointwise [k0_pay1]

/-- One point's share of the product. -/
def term (c : Dev nD) (t : Fin cfg0.N) : S512x2048.Idx → EReal := k0_pay1 (iblk m c 0 t) (iblk m c 1 t)

/-- A point's share, at an element, in the whole arrays. -/
theorem term_apply (c : Dev nD) (t : Fin cfg0.N) (r : Fin 512) (n : Fin 2048) :
    term m c t (ix2 r n) = ∑ l : Fin 2048, prod (a0 m c) (a1 m c) (row t r) (⟨0 * 2048 + n.val, by have := lt_all t; omega⟩ : Fin 2048) (row1 t l) := by
  unfold term
  rw [mm_apply]
  refine Finset.sum_congr rfl fun l _ => ?_
  rw [blk0, blk1]
  rfl

/-- A run's first point sets the accumulator. -/
theorem acc_first (c : Dev nD) (t : Fin cfg0.N) (h0 : t.val % 4 = 0) (i : S512x2048.Idx) :
    (outsAt0 m c t.val t.isLt).2 i = 0 + term m c t i := by
  rw [outsAt0_A m c t h0 (by omega) (by omega)]
  dsimp only
  rw [acc_A]
  rw [zero_add]
  unfold k0_pay2 term
  rw [shapeCast_self]

/-- Every other point adds to it. -/
theorem acc_next (c : Dev nD) (t : Fin cfg0.N) (h0 : ¬t.val % 4 = 0) (i : S512x2048.Idx) :
    (outsAt0 m c t.val t.isLt).2 i
      = (outsAt0 m c (t.val - 1) (Nat.lt_of_le_of_lt (Nat.sub_le _ _) t.isLt)).2 i + term m c t i := by
  by_cases h2 : t.val % 4 = 3
  · rw [outsAt0_C m c t h0 (by omega) h2]
    dsimp only
    rw [acc_C]
    unfold k0_pay3 term
    rw [shapeCast_self]
    rfl
  · rw [outsAt0_B m c t h0 (by omega) h2]
    dsimp only
    rw [acc_B]
    unfold k0_pay3 term
    rw [shapeCast_self]
    rfl

/-- The accumulator at the end of a run holds the whole product. -/
theorem acc_last (c : Dev nD) (t : Fin cfg0.N) (h : t.val % 4 = 3) (r : Fin 512) (n : Fin 2048) :
    (outsAt0 m c t.val t.isLt).2 (ix2 r n) = entry (a0 m c) (a1 m c) (row t r) (⟨0 * 2048 + n.val, by have := lt_all t; omega⟩ : Fin 2048) := by
  have key := Pipeline.eq_sum_fin_of_reset_step_apply_of_flush (fun n h => (outsAt0 m c n h).2) 4 (fun _ => (0 : EReal)) (term m c)
    (acc_first m c) (acc_next m c) t h (ix2 r n)
  refine key.trans ?_
  rw [zero_add]
  unfold entry
  refine Eq.trans ?_ (Fin.sum_mul_add_fin 4 2048 (prod (a0 m c) (a1 m c) (row t r) (⟨0 * 2048 + n.val, by have := lt_all t; omega⟩ : Fin 2048)))
  refine Finset.sum_congr rfl fun s _ => ?_
  rw [term_apply]
  refine Finset.sum_congr rfl fun l _ => ?_
  have e : (4 * (t.val / 4) + s.val) % 4 = s.val := by omega
  have e' : (4 * (t.val / 4) + s.val) / 4 = t.val / 4 := by omega

  simp only [row, row1, e, e']

/-- What the last point of a run writes back. -/
theorem outs_last (c : Dev nD) (t : Fin cfg0.N) (h : t.val % 4 = 3) (r : Fin 512) (n : Fin 2048) :
    (outsAt0 m c t.val t.isLt).1 (ix2 r n) = G (a0 m c) (a1 m c) (ix2 (row t r) (⟨0 * 2048 + n.val, by have := lt_all t; omega⟩ : Fin 2048)) := by
  unfold G
  show _ = entry (a0 m c) (a1 m c) (row t r) (⟨0 * 2048 + n.val, by have := lt_all t; omega⟩ : Fin 2048)
  rw [← acc_last m c t h, outsAt0_C m c t (by omega) (by omega) h]
  dsimp only
  rw [out_last, acc_C]
  pointwise [k0_pay4]

/-- What a point writes back is its block of `G`. -/
theorem flushed_G (c : Dev nD) (t : Fin cfg0.N) (hf : (cfg0.win 2).flush t = true) : (dats m 0 c).flushed 2 t =
    ((cfg0.win 2).blk t).view.read (Elt Ideal) (G (a0 m c) (a1 m c)) := by
  have hk : t.val % 4 = 3 := (flush0_2 t).mp hf
  have h := (idx t).2.2
  have ht := lt_all t
  rw [Value.flushed2]
  funext (j : S512x2048.Idx)
  rw [View.read_apply]
  obtain ⟨r, n, rfl⟩ := Kit.pair j
  have e : (((cfg0.win 2).blk t).view.emb (ix2 r n) : S11264x2048.Idx) = ix2 ⟨t.val / 4 * 512 + r.val, by omega⟩ ⟨0 * 2048 + n.val, by omega⟩ :=
    Kit.e2 (Kit.at_ 512 h.1 r) (Kit.at_ 2048 h.2 n)
  refine Eq.trans ?_ (congrArg (G (a0 m c) (a1 m c)) e).symm
  exact outs_last m c t hk r n

/-- An index of the result lies in a block that is written back. -/
theorem cover (i : S11264x2048.Idx) : ∃ t : Fin cfg0.N, (cfg0.win 2).flush t = true ∧ i ∈ ((cfg0.win 2).blk t).view.set := by
  have h0 : (i 0).val < 11264 := (i 0).isLt
  have h1 : (i 1).val < 2048 := (i 1).isLt
  obtain ⟨t, ht⟩ : ∃ t : Fin cfg0.N, t.val = (i 0).val / 512 * 4 + 3 :=
    ⟨⟨_, by show _ < grid0.N; rw [Gen.N_0]; omega⟩, rfl⟩
  have h := (idx t).2.2
  refine ⟨t, (flush0_2 t).mpr (by omega), ?_⟩
  exact Kit.cov (Fin.forall_fin_two.2 ⟨Kit.mem 512 _ h.1 (by omega), Kit.mem 2048 _ h.2 (by omega)⟩)

/-- The result array after the run. -/
theorem final (c : Dev nD) : (dats m 0 c).arrAt 2 cfg0.N = G (a0 m c) (a1 m c) :=
  (dats m 0 c).arrAt_eq_of_cover 2 _ (flushed_G m c) cover

end Cert.Kernel2Ideal.Product

namespace Cert.Reference2Ideal.Product

open Gen Read Idealize.ShloMosaic TcCoe Idealize.SL.Sem

/-- The reference computes the same array. -/
theorem result (A : Vec Ideal S2x8192x5632 .bf16) (B : Vec Ideal S8192x2048 .bf16) : val_main_v12 (F := Ideal) A B = Kernel2Ideal.Product.G A B := by
  funext j
  obtain ⟨r, n, rfl⟩ := Kit.pair j
  unfold Kernel2Ideal.Product.G Kernel2Ideal.Product.entry Kernel2Ideal.Product.prod
  refine Eq.trans (b := ∑ q : Fin 8192, val_main_v4 (F := Ideal) A (ix2 q r) * B (ix2 q n)) ?_ ?_
  · unfold val_main_v12 val_main_v11 val_main_v10 val_main_v9 val_main_v5
    generalize val_main_v4 (F := Ideal) A = x
    pointwise [val_main_v7]
  · refine Finset.sum_congr rfl fun q _ => ?_
    congr 1
    pointwise [val_main_v4, val_main_v3, val_main_v2, val_main_v1, val_main_v0]
    split
    · rename_i h
      congr 1
      funext a
      match a with
      | ⟨0, _⟩ => exact Fin.ext (by show 0 = r.val / 5632; omega)
      | ⟨1, _⟩ => rfl
      | ⟨2, _⟩ => exact Fin.ext (by show r.val = r.val % 5632; omega)
    · rename_i h
      congr 1
      funext a
      match a with
      | ⟨0, _⟩ => exact Fin.ext (by show 1 = r.val / 5632; omega)
      | ⟨1, _⟩ => rfl
      | ⟨2, _⟩ => exact Fin.ext (by show r.val - 5632 = r.val % 5632; omega)

end Cert.Reference2Ideal.Product

namespace Cert.Proof.Product2

open Idealize.ShloMosaic TcCoe Idealize.SL.Sem

/-- The reference leaves its arguments as they were; it has no semaphore. -/
theorem frame_reference : quiescent_Reference2Ideal := fun m ρ _ =>
  (θ_run Reference2Ideal.defs _ _).mono (fun r h => ⟨fun c => (h c).2, sem_eq_zero_of_no_sems (by decide) r.2⟩)
    (Reference2Ideal.Value.run m ρ)

/-- The kernel and the reference leave the same array, the gradient of the up projection's weight, transposed. -/
theorem algebraic : algebraic_Kernel2Ideal_Reference2Ideal := by
  intro m ρ m' ρ' _ hag
  refine ⟨_, (θ_run Kernel2Ideal.defs _ _).mono
    (fun _ h c => ⟨(h c).1.trans (Kernel2Ideal.Product.final m c), (h c).2⟩)
    (Kernel2Ideal.Value.run_blocks m ρ), ?_⟩
  · refine (θ_run Reference2Ideal.defs _ _).mono (fun _ h c => ⟨(h c).1.trans ?_, (h c).2⟩)
      (Reference2Ideal.Value.run m' ρ')
    refine (Reference2Ideal.Read.val_main_v12_eq _ _).trans ((Reference2Ideal.Product.result _ _).trans ?_)
    rw [(hag c).1, (hag c).2]

end Cert.Proof.Product2

end
-- ==== Proof.ActPoint.lean ====
module

public import proofs.«01_k».proof.Proof.Kit
public import proofs.«01_k».proof.Proof.Gen.Kernel3Ideal.Value

@[expose] public section

set_option maxRecDepth 16384

noncomputable section

namespace Cert.Kernel3Ideal.ActPoint

open Gen Idealize.ShloMosaic TcCoe Idealize.SL.Sem
open Idealize.ShloMosaic.Pipeline (Dat)

variable {F : FTy → Type} [FloatOps F]

/-- The rows a point works on, for both halves: the 16 rows before its block, then its own 512 rows. -/
def ext (i : grid0.Coords) (x0 : Vec F S2x512x512 .bf16) (x1 : Vec F S2x16x512 .bf16) : Vec F S2x528x512 .f32 :=
  View.canon [⟨Rect.unit ![1, 16, 0] ![1, 512, 512] inb_S2x528x512_S1x512x512_1_16_0, k0_pay7 (k0_pay6 (View.ld x0 (Rect.unit ![1, 0, 0] ![1, 512, 512] inb_S2x512x512_S1x512x512_1_0_0)))⟩,
    ⟨Rect.unit ![1, 0, 0] ![1, 16, 512] inb_S2x528x512_S1x16x512_1_0_0, k0_pay5 i (View.ld x1 (Rect.unit ![1, 0, 0] ![1, 16, 512] inb_S2x16x512_S1x16x512_1_0_0))⟩,
    ⟨Rect.unit ![0, 16, 0] ![1, 512, 512] inb_S2x528x512_S1x512x512_0_16_0, k0_pay4 (View.ld x0 (Rect.unit ![0, 0, 0] ![1, 512, 512] inb_S2x512x512_S1x512x512_0_0_0))⟩,
    ⟨Rect.unit ![0, 0, 0] ![1, 16, 512] inb_S2x528x512_S1x16x512_0_0_0, k0_pay3 i (View.ld x1 (Rect.unit ![0, 0, 0] ![1, 16, 512] inb_S2x16x512_S1x16x512_0_0_0))⟩]

/-- The gradient of the activation in the first 256 columns. -/
def dactL (x2 : Vec F S512x2048 .bf16) (x3 : Vec F S512x2048 .bf16) : FVec F S512x256 .f32 :=
  k0_pay12 x2 (View.ld x3 (Rect.unit ![0, 0] ![256, 2048] inb_S512x2048_S256x2048_0_0))
/-- One half's rows in the first 256 columns. -/
def e0L (e : Vec F S2x528x512 .f32) : Vec F S1x528x256 .f32 := (View.ld e (Rect.unit ![0, 0, 0] ![1, 528, 256] inb_S2x528x512_S1x528x256_0_0_0))
/-- The other half's rows in the first 256 columns. -/
def e1L (e : Vec F S2x528x512 .f32) : Vec F S1x528x256 .f32 := (View.ld e (Rect.unit ![1, 0, 0] ![1, 528, 256] inb_S2x528x512_S1x528x256_1_0_0))
/-- The convolved first half in the first 256 columns. -/
def aL (e : Vec F S2x528x512 .f32) (w : Vec F S3x512 .f32) (b : Vec F S1x512 .f32) : FVec F S512x256 .f32 :=
  k0_pay17 (e0L e) (View.ld b (Rect.unit ![0, 0] ![1, 256] inb_S1x512_S1x256_0_0)) (View.ld w (Rect.unit ![0, 0] ![1, 256] inb_S3x512_S1x256_0_0)) (View.ld w (Rect.unit ![1, 0] ![1, 256] inb_S3x512_S1x256_1_0)) (View.ld w (Rect.unit ![2, 0] ![1, 256] inb_S3x512_S1x256_2_0))
/-- The gradient of the convolved first half in the first 256 columns. -/
def daL (d a : FVec F S512x256 .f32) (e : Vec F S2x528x512 .f32) (w : Vec F S3x512 .f32) (b : Vec F S1x512 .f32) : FVec F S512x256 .f32 :=
  k0_pay23 d a (k0_pay18 (e1L e)) (k0_pay19 (e1L e)) 1#32 (View.ld b (Rect.unit ![0, 0] ![1, 256] inb_S1x512_S1x256_0_0)) (View.ld w (Rect.unit ![0, 0] ![1, 256] inb_S3x512_S1x256_0_0)) (View.ld w (Rect.unit ![1, 0] ![1, 256] inb_S3x512_S1x256_1_0)) (View.ld w (Rect.unit ![2, 0] ![1, 256] inb_S3x512_S1x256_2_0))

/-- The gradient of the activation in the last 256 columns. -/
def dactH (x2 : Vec F S512x2048 .bf16) (x3 : Vec F S512x2048 .bf16) : FVec F S512x256 .f32 :=
  k0_pay32 x2 (View.ld x3 (Rect.unit ![256, 0] ![256, 2048] inb_S512x2048_S256x2048_256_0))
/-- One half's rows in the last 256 columns. -/
def e0H (e : Vec F S2x528x512 .f32) : Vec F S1x528x256 .f32 := (View.ld e (Rect.unit ![0, 0, 256] ![1, 528, 256] inb_S2x528x512_S1x528x256_0_0_256))
/-- The other half's rows in the last 256 columns. -/
def e1H (e : Vec F S2x528x512 .f32) : Vec F S1x528x256 .f32 := (View.ld e (Rect.unit ![1, 0, 256] ![1, 528, 256] inb_S2x528x512_S1x528x256_1_0_256))
/-- The convolved first half in the last 256 columns. -/
def aH (e : Vec F S2x528x512 .f32) (w : Vec F S3x512 .f32) (b : Vec F S1x512 .f32) : FVec F S512x256 .f32 :=
  k0_pay37 (e0H e) (View.ld b (Rect.unit ![0, 256] ![1, 256] inb_S1x512_S1x256_0_256)) (View.ld w (Rect.unit ![0, 256] ![1, 256] inb_S3x512_S1x256_0_256)) (View.ld w (Rect.unit ![1, 256] ![1, 256] inb_S3x512_S1x256_1_256)) (View.ld w (Rect.unit ![2, 256] ![1, 256] inb_S3x512_S1x256_2_256))
/-- The gradient of the convolved first half in the last 256 columns. -/
def daH (d a : FVec F S512x256 .f32) (e : Vec F S2x528x512 .f32) (w : Vec F S3x512 .f32) (b : Vec F S1x512 .f32) : FVec F S512x256 .f32 :=
  k0_pay43 d a (e1H e) (View.ld b (Rect.unit ![0, 256] ![1, 256] inb_S1x512_S1x256_0_256)) (View.ld w (Rect.unit ![0, 256] ![1, 256] inb_S3x512_S1x256_0_256)) (View.ld w (Rect.unit ![1, 256] ![1, 256] inb_S3x512_S1x256_1_256)) (View.ld w (Rect.unit ![2, 256] ![1, 256] inb_S3x512_S1x256_2_256))

/-- The gradients of both convolved halves, as a point writes them. -/
def dupBlk (i : grid0.Coords) (x0 : Vec F S2x512x512 .bf16) (x1 : Vec F S2x16x512 .bf16) (x2 : Vec F S512x2048 .bf16) (x3 : Vec F S512x2048 .bf16) (x4 : Vec F S3x512 .f32) (x5 : Vec F S3x512 .f32) (x6 : Vec F S1x512 .f32) (x7 : Vec F S1x512 .f32) : Vec F S2x512x512 .bf16 :=
  View.canon [⟨Rect.unit ![1, 0, 256] ![1, 512, 256] inb_S2x512x512_S1x512x256_1_0_256, k0_pay47 (k0_pay44 (dactH x2 x3) (aH (ext i x0 x1) x4 x6))⟩,
    ⟨Rect.unit ![0, 0, 256] ![1, 512, 256] inb_S2x512x512_S1x512x256_0_0_256, k0_pay46 (k0_pay45 (dactH x2 x3) (aH (ext i x0 x1) x4 x6) (e1H (ext i x0 x1)) (View.ld x7 (Rect.unit ![0, 256] ![1, 256] inb_S1x512_S1x256_0_256)) (View.ld x5 (Rect.unit ![0, 256] ![1, 256] inb_S3x512_S1x256_0_256)) (View.ld x5 (Rect.unit ![1, 256] ![1, 256] inb_S3x512_S1x256_1_256)) (View.ld x5 (Rect.unit ![2, 256] ![1, 256] inb_S3x512_S1x256_2_256)))⟩,
    ⟨Rect.unit ![1, 0, 0] ![1, 512, 256] inb_S2x512x512_S1x512x256_1_0_0, k0_pay27 (k0_pay26 (dactL x2 x3) (aL (ext i x0 x1) x4 x6))⟩,
    ⟨Rect.unit ![0, 0, 0] ![1, 512, 256] inb_S2x512x512_S1x512x256_0_0_0, k0_pay25 (dactL x2 x3) (aL (ext i x0 x1) x4 x6) (k0_pay18 (e1L (ext i x0 x1))) (k0_pay19 (e1L (ext i x0 x1))) 1#32 (View.ld x7 (Rect.unit ![0, 0] ![1, 256] inb_S1x512_S1x256_0_0)) (View.ld x5 (Rect.unit ![0, 0] ![1, 256] inb_S3x512_S1x256_0_0)) (View.ld x5 (Rect.unit ![1, 0] ![1, 256] inb_S3x512_S1x256_1_0)) (View.ld x5 (Rect.unit ![2, 0] ![1, 256] inb_S3x512_S1x256_2_0))⟩]

/-- What a later point leaves of the tap gradients of the first half, from what was there before. -/
def acc9 (i : grid0.Coords) (x0 : Vec F S2x512x512 .bf16) (x1 : Vec F S2x16x512 .bf16) (x2 : Vec F S512x2048 .bf16) (x3 : Vec F S512x2048 .bf16) (x4 : Vec F S3x512 .f32) (x5 : Vec F S3x512 .f32) (x6 : Vec F S1x512 .f32) (x7 : Vec F S1x512 .f32) (y : Vec F S3x512 .f32) : Vec F S3x512 .f32 :=
  View.canon [⟨Rect.unit ![0, 256] ![3, 256] inb_S3x512_S3x256_0_256, k0_pay48 (k0_pay34 (e0H (ext i x0 x1))) (k0_pay35 (e0H (ext i x0 x1))) (k0_pay36 (e0H (ext i x0 x1))) (daH (dactH x2 x3) (aH (ext i x0 x1) x4 x6) (ext i x0 x1) x5 x7) (View.ld y (Rect.unit ![0, 256] ![3, 256] inb_S3x512_S3x256_0_256))⟩,
    ⟨Rect.unit ![0, 0] ![3, 256] inb_S3x512_S3x256_0_0, k0_pay28 (k0_pay14 (e0L (ext i x0 x1))) (k0_pay15 (e0L (ext i x0 x1))) (k0_pay16 (e0L (ext i x0 x1))) (daL (dactL x2 x3) (aL (ext i x0 x1) x4 x6) (ext i x0 x1) x5 x7) (View.ld y (Rect.unit ![0, 0] ![3, 256] inb_S3x512_S3x256_0_0))⟩]
/-- What the first point of a column block leaves of the tap gradients of the first half. -/
def first9 (i : grid0.Coords) (x0 : Vec F S2x512x512 .bf16) (x1 : Vec F S2x16x512 .bf16) (x2 : Vec F S512x2048 .bf16) (x3 : Vec F S512x2048 .bf16) (x4 : Vec F S3x512 .f32) (x5 : Vec F S3x512 .f32) (x6 : Vec F S1x512 .f32) (x7 : Vec F S1x512 .f32) : Vec F S3x512 .f32 :=
  View.canon [⟨Rect.unit ![0, 256] ![3, 256] inb_S3x512_S3x256_0_256, k0_pay48 (k0_pay34 (e0H (ext i x0 x1))) (k0_pay35 (e0H (ext i x0 x1))) (k0_pay36 (e0H (ext i x0 x1))) (daH (dactH x2 x3) (aH (ext i x0 x1) x4 x6) (ext i x0 x1) x5 x7) (View.ld (View.canon [⟨Rect.unit ![0, 0] ![3, 256] inb_S3x512_S3x256_0_0, k0_pay28 (k0_pay14 (e0L (ext i x0 x1))) (k0_pay15 (e0L (ext i x0 x1))) (k0_pay16 (e0L (ext i x0 x1))) (daL (dactL x2 x3) (aL (ext i x0 x1) x4 x6) (ext i x0 x1) x5 x7) (View.ld (View.canon [⟨Rect.unit ![0, 0] ![3, 512] inb_S3x512_S3x512_0_0, k0_pay8⟩] : Vec F S3x512 .f32) (Rect.unit ![0, 0] ![3, 256] inb_S3x512_S3x256_0_0))⟩, ⟨Rect.unit ![0, 0] ![3, 512] inb_S3x512_S3x512_0_0, k0_pay8⟩] : Vec F S3x512 .f32) (Rect.unit ![0, 256] ![3, 256] inb_S3x512_S3x256_0_256))⟩,
    ⟨Rect.unit ![0, 0] ![3, 256] inb_S3x512_S3x256_0_0, k0_pay28 (k0_pay14 (e0L (ext i x0 x1))) (k0_pay15 (e0L (ext i x0 x1))) (k0_pay16 (e0L (ext i x0 x1))) (daL (dactL x2 x3) (aL (ext i x0 x1) x4 x6) (ext i x0 x1) x5 x7) (View.ld (View.canon [⟨Rect.unit ![0, 0] ![3, 512] inb_S3x512_S3x512_0_0, k0_pay8⟩] : Vec F S3x512 .f32) (Rect.unit ![0, 0] ![3, 256] inb_S3x512_S3x256_0_0))⟩, ⟨Rect.unit ![0, 0] ![3, 512] inb_S3x512_S3x512_0_0, k0_pay8⟩]

/-- What a later point leaves of the tap gradients of the second half, from what was there before. -/
def acc10 (i : grid0.Coords) (x0 : Vec F S2x512x512 .bf16) (x1 : Vec F S2x16x512 .bf16) (x2 : Vec F S512x2048 .bf16) (x3 : Vec F S512x2048 .bf16) (x4 : Vec F S3x512 .f32) (x5 : Vec F S3x512 .f32) (x6 : Vec F S1x512 .f32) (x7 : Vec F S1x512 .f32) (y : Vec F S3x512 .f32) : Vec F S3x512 .f32 :=
  View.canon [⟨Rect.unit ![0, 256] ![3, 256] inb_S3x512_S3x256_0_256, k0_pay1 (k0_pay50 (View.ld y (Rect.unit ![0, 256] ![3, 256] inb_S3x512_S3x256_0_256))) (k0_pay51 (k0_pay39 (e1H (ext i x0 x1))) (k0_pay44 (dactH x2 x3) (aH (ext i x0 x1) x4 x6))) (k0_pay52 (k0_pay40 (e1H (ext i x0 x1))) (k0_pay44 (dactH x2 x3) (aH (ext i x0 x1) x4 x6))) (k0_pay53 (k0_pay41 (e1H (ext i x0 x1))) (k0_pay44 (dactH x2 x3) (aH (ext i x0 x1) x4 x6)))⟩,
    ⟨Rect.unit ![0, 0] ![3, 256] inb_S3x512_S3x256_0_0, k0_pay30 (k0_pay19 (e1L (ext i x0 x1))) (k0_pay20 (k0_pay18 (e1L (ext i x0 x1))) 1#32) (k0_pay21 (k0_pay18 (e1L (ext i x0 x1)))) (k0_pay24 (dactL x2 x3) (aL (ext i x0 x1) x4 x6)) (View.ld y (Rect.unit ![0, 0] ![3, 256] inb_S3x512_S3x256_0_0))⟩]
/-- What the first point of a column block leaves of the tap gradients of the second half. -/
def first10 (i : grid0.Coords) (x0 : Vec F S2x512x512 .bf16) (x1 : Vec F S2x16x512 .bf16) (x2 : Vec F S512x2048 .bf16) (x3 : Vec F S512x2048 .bf16) (x4 : Vec F S3x512 .f32) (x5 : Vec F S3x512 .f32) (x6 : Vec F S1x512 .f32) (x7 : Vec F S1x512 .f32) : Vec F S3x512 .f32 :=
  View.canon [⟨Rect.unit ![0, 256] ![3, 256] inb_S3x512_S3x256_0_256, k0_pay1 (k0_pay50 (View.ld (View.canon [⟨Rect.unit ![0, 0] ![3, 256] inb_S3x512_S3x256_0_0, k0_pay30 (k0_pay19 (e1L (ext i x0 x1))) (k0_pay20 (k0_pay18 (e1L (ext i x0 x1))) 1#32) (k0_pay21 (k0_pay18 (e1L (ext i x0 x1)))) (k0_pay24 (dactL x2 x3) (aL (ext i x0 x1) x4 x6)) (View.ld (View.canon [⟨Rect.unit ![0, 0] ![3, 512] inb_S3x512_S3x512_0_0, k0_pay9⟩] : Vec F S3x512 .f32) (Rect.unit ![0, 0] ![3, 256] inb_S3x512_S3x256_0_0))⟩, ⟨Rect.unit ![0, 0] ![3, 512] inb_S3x512_S3x512_0_0, k0_pay9⟩] : Vec F S3x512 .f32) (Rect.unit ![0, 256] ![3, 256] inb_S3x512_S3x256_0_256))) (k0_pay51 (k0_pay39 (e1H (ext i x0 x1))) (k0_pay44 (dactH x2 x3) (aH (ext i x0 x1) x4 x6))) (k0_pay52 (k0_pay40 (e1H (ext i x0 x1))) (k0_pay44 (dactH x2 x3) (aH (ext i x0 x1) x4 x6))) (k0_pay53 (k0_pay41 (e1H (ext i x0 x1))) (k0_pay44 (dactH x2 x3) (aH (ext i x0 x1) x4 x6)))⟩,
    ⟨Rect.unit ![0, 0] ![3, 256] inb_S3x512_S3x256_0_0, k0_pay30 (k0_pay19 (e1L (ext i x0 x1))) (k0_pay20 (k0_pay18 (e1L (ext i x0 x1))) 1#32) (k0_pay21 (k0_pay18 (e1L (ext i x0 x1)))) (k0_pay24 (dactL x2 x3) (aL (ext i x0 x1) x4 x6)) (View.ld (View.canon [⟨Rect.unit ![0, 0] ![3, 512] inb_S3x512_S3x512_0_0, k0_pay9⟩] : Vec F S3x512 .f32) (Rect.unit ![0, 0] ![3, 256] inb_S3x512_S3x256_0_0))⟩, ⟨Rect.unit ![0, 0] ![3, 512] inb_S3x512_S3x512_0_0, k0_pay9⟩]

/-- What a later point leaves of the bias gradient of the first half, from what was there before. -/
def acc11 (i : grid0.Coords) (x0 : Vec F S2x512x512 .bf16) (x1 : Vec F S2x16x512 .bf16) (x2 : Vec F S512x2048 .bf16) (x3 : Vec F S512x2048 .bf16) (x4 : Vec F S3x512 .f32) (x5 : Vec F S3x512 .f32) (x6 : Vec F S1x512 .f32) (x7 : Vec F S1x512 .f32) (y : Vec F S1x512 .f32) : Vec F S1x512 .f32 :=
  View.canon [⟨Rect.unit ![0, 256] ![1, 256] inb_S1x512_S1x256_0_256, k0_pay49 (daH (dactH x2 x3) (aH (ext i x0 x1) x4 x6) (ext i x0 x1) x5 x7) (View.ld y (Rect.unit ![0, 256] ![1, 256] inb_S1x512_S1x256_0_256))⟩,
    ⟨Rect.unit ![0, 0] ![1, 256] inb_S1x512_S1x256_0_0, k0_pay29 (daL (dactL x2 x3) (aL (ext i x0 x1) x4 x6) (ext i x0 x1) x5 x7) (View.ld y (Rect.unit ![0, 0] ![1, 256] inb_S1x512_S1x256_0_0))⟩]
/-- What the first point of a column block leaves of the bias gradient of the first half. -/
def first11 (i : grid0.Coords) (x0 : Vec F S2x512x512 .bf16) (x1 : Vec F S2x16x512 .bf16) (x2 : Vec F S512x2048 .bf16) (x3 : Vec F S512x2048 .bf16) (x4 : Vec F S3x512 .f32) (x5 : Vec F S3x512 .f32) (x6 : Vec F S1x512 .f32) (x7 : Vec F S1x512 .f32) : Vec F S1x512 .f32 :=
  View.canon [⟨Rect.unit ![0, 256] ![1, 256] inb_S1x512_S1x256_0_256, k0_pay49 (daH (dactH x2 x3) (aH (ext i x0 x1) x4 x6) (ext i x0 x1) x5 x7) (View.ld (View.canon [⟨Rect.unit ![0, 0] ![1, 256] inb_S1x512_S1x256_0_0, k0_pay29 (daL (dactL x2 x3) (aL (ext i x0 x1) x4 x6) (ext i x0 x1) x5 x7) (View.ld (View.canon [⟨Rect.unit ![0, 0] ![1, 512] inb_S1x512_S1x512_0_0, k0_pay10⟩] : Vec F S1x512 .f32) (Rect.unit ![0, 0] ![1, 256] inb_S1x512_S1x256_0_0))⟩, ⟨Rect.unit ![0, 0] ![1, 512] inb_S1x512_S1x512_0_0, k0_pay10⟩] : Vec F S1x512 .f32) (Rect.unit ![0, 256] ![1, 256] inb_S1x512_S1x256_0_256))⟩,
    ⟨Rect.unit ![0, 0] ![1, 256] inb_S1x512_S1x256_0_0, k0_pay29 (daL (dactL x2 x3) (aL (ext i x0 x1) x4 x6) (ext i x0 x1) x5 x7) (View.ld (View.canon [⟨Rect.unit ![0, 0] ![1, 512] inb_S1x512_S1x512_0_0, k0_pay10⟩] : Vec F S1x512 .f32) (Rect.unit ![0, 0] ![1, 256] inb_S1x512_S1x256_0_0))⟩, ⟨Rect.unit ![0, 0] ![1, 512] inb_S1x512_S1x512_0_0, k0_pay10⟩]

/-- What a later point leaves of the bias gradient of the second half, from what was there before. -/
def acc12 (i : grid0.Coords) (x0 : Vec F S2x512x512 .bf16) (x1 : Vec F S2x16x512 .bf16) (x2 : Vec F S512x2048 .bf16) (x3 : Vec F S512x2048 .bf16) (x4 : Vec F S3x512 .f32) (x5 : Vec F S3x512 .f32) (x6 : Vec F S1x512 .f32) (x7 : Vec F S1x512 .f32) (y : Vec F S1x512 .f32) : Vec F S1x512 .f32 :=
  View.canon [⟨Rect.unit ![0, 256] ![1, 256] inb_S1x512_S1x256_0_256, k0_pay2 (k0_pay44 (dactH x2 x3) (aH (ext i x0 x1) x4 x6)) (View.ld y (Rect.unit ![0, 256] ![1, 256] inb_S1x512_S1x256_0_256))⟩,
    ⟨Rect.unit ![0, 0] ![1, 256] inb_S1x512_S1x256_0_0, k0_pay31 (k0_pay24 (dactL x2 x3) (aL (ext i x0 x1) x4 x6)) (View.ld y (Rect.unit ![0, 0] ![1, 256] inb_S1x512_S1x256_0_0))⟩]
/-- What the first point of a column block leaves of the bias gradient of the second half. -/
def first12 (i : grid0.Coords) (x0 : Vec F S2x512x512 .bf16) (x1 : Vec F S2x16x512 .bf16) (x2 : Vec F S512x2048 .bf16) (x3 : Vec F S512x2048 .bf16) (x4 : Vec F S3x512 .f32) (x5 : Vec F S3x512 .f32) (x6 : Vec F S1x512 .f32) (x7 : Vec F S1x512 .f32) : Vec F S1x512 .f32 :=
  View.canon [⟨Rect.unit ![0, 256] ![1, 256] inb_S1x512_S1x256_0_256, k0_pay2 (k0_pay44 (dactH x2 x3) (aH (ext i x0 x1) x4 x6)) (View.ld (View.canon [⟨Rect.unit ![0, 0] ![1, 256] inb_S1x512_S1x256_0_0, k0_pay31 (k0_pay24 (dactL x2 x3) (aL (ext i x0 x1) x4 x6)) (View.ld (View.canon [⟨Rect.unit ![0, 0] ![1, 512] inb_S1x512_S1x512_0_0, k0_pay11⟩] : Vec F S1x512 .f32) (Rect.unit ![0, 0] ![1, 256] inb_S1x512_S1x256_0_0))⟩, ⟨Rect.unit ![0, 0] ![1, 512] inb_S1x512_S1x512_0_0, k0_pay11⟩] : Vec F S1x512 .f32) (Rect.unit ![0, 256] ![1, 256] inb_S1x512_S1x256_0_256))⟩,
    ⟨Rect.unit ![0, 0] ![1, 256] inb_S1x512_S1x256_0_0, k0_pay31 (k0_pay24 (dactL x2 x3) (aL (ext i x0 x1) x4 x6)) (View.ld (View.canon [⟨Rect.unit ![0, 0] ![1, 512] inb_S1x512_S1x512_0_0, k0_pay11⟩] : Vec F S1x512 .f32) (Rect.unit ![0, 0] ![1, 256] inb_S1x512_S1x256_0_0))⟩, ⟨Rect.unit ![0, 0] ![1, 512] inb_S1x512_S1x512_0_0, k0_pay11⟩]

variable (c : Dev nD) (i : grid0.Coords) (arg2 : Memref sig .tc .vmem S2x512x512 .bf16) (harg2 : arg2.IsWhole) (arg3 : Memref sig .tc .vmem S2x16x512 .bf16) (harg3 : arg3.IsWhole) (arg4 : Memref sig .tc .vmem S512x2048 .bf16) (harg4 : arg4.IsWhole) (arg5 : Memref sig .tc .vmem S512x2048 .bf16) (harg5 : arg5.IsWhole) (arg6 : Memref sig .tc .vmem S3x512 .f32) (harg6 : arg6.IsWhole) (arg7 : Memref sig .tc .vmem S3x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S2x512x512 .bf16) (harg10 : arg10.IsWhole) (arg11 : Memref sig .tc .vmem S3x512 .f32) (harg11 : arg11.IsWhole) (arg12 : Memref sig .tc .vmem S3x512 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S2x528x512 .f32) (harg15 : arg15.IsWhole)
    (x0 : Vec F S2x512x512 .bf16) (x1 : Vec F S2x16x512 .bf16) (x2 : Vec F S512x2048 .bf16) (x3 : Vec F S512x2048 .bf16) (x4 : Vec F S3x512 .f32) (x5 : Vec F S3x512 .f32) (x6 : Vec F S1x512 .f32) (x7 : Vec F S1x512 .f32)
    (y9 : Vec F S3x512 .f32) (y10 : Vec F S3x512 .f32) (y11 : Vec F S1x512 .f32) (y12 : Vec F S1x512 .f32)

/-- What the first point of a column block leaves in output 8. -/
theorem out8_A (hc0 : cond0_0 i) :
    out0_A_8 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 = dupBlk i x0 x1 x2 x3 x4 x5 x6 x7 := by
  unfold out0_A_8
  rw [View.read_writes_eq_canon _ _ _ (cover0_A_8 _ _ _ _ _ _ _ _ _ _ _ _ _ _ _ _ _ _ _ _ _ _ _ _ _ _ _ _ _ _ _ _ _ _ _ _ _ _ _)]
  unfold kernelRun0_A
  dsimp only
  sl_unfold_words
  unfold dupBlk aL aH dactL dactH e0L e0H e1L e1H ext
  simp only [View.readAt_eq_ld, Memref.IsWhole.read_unread, View.readCov_eq_canon',
    Kit.ld]

/-- What the first point of a column block leaves in output 9. -/
theorem out9_A (hc0 : cond0_0 i) :
    out0_A_9 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 = first9 i x0 x1 x2 x3 x4 x5 x6 x7 := by
  unfold out0_A_9
  rw [View.read_writes_eq_canon _ _ _ (cover0_A_9 _ _ _ _ _ _ _ _ _ _ _ _ _ _ _ _ _ _ _ _ _ _ _ _ _ _ _ _ _ _ _ _ _ _ _ _ _ _ _)]
  unfold kernelRun0_A
  dsimp only
  sl_unfold_words
  unfold first9 daL daH aL aH dactL dactH e0L e0H e1L e1H ext
  simp only [View.readAt_eq_ld, Memref.IsWhole.read_unread, View.readCov_eq_canon',
    Kit.ld]

/-- What the first point of a column block leaves in output 10. -/
theorem out10_A (hc0 : cond0_0 i) :
    out0_A_10 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 = first10 i x0 x1 x2 x3 x4 x5 x6 x7 := by
  unfold out0_A_10
  rw [View.read_writes_eq_canon _ _ _ (cover0_A_10 _ _ _ _ _ _ _ _ _ _ _ _ _ _ _ _ _ _ _ _ _ _ _ _ _ _ _ _ _ _ _ _ _ _ _ _ _ _ _)]
  unfold kernelRun0_A
  dsimp only
  sl_unfold_words
  unfold first10 aL aH dactL dactH e0L e0H e1L e1H ext
  simp only [View.readAt_eq_ld, Memref.IsWhole.read_unread, View.readCov_eq_canon',
    Kit.ld]

/-- What the first point of a column block leaves in output 11. -/
theorem out11_A (hc0 : cond0_0 i) :
    out0_A_11 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 = first11 i x0 x1 x2 x3 x4 x5 x6 x7 := by
  unfold out0_A_11
  rw [View.read_writes_eq_canon _ _ _ (cover0_A_11 _ _ _ _ _ _ _ _ _ _ _ _ _ _ _ _ _ _ _ _ _ _ _ _ _ _ _ _ _ _ _ _ _ _ _ _ _ _ _)]
  unfold kernelRun0_A
  dsimp only
  sl_unfold_words
  unfold first11 daL daH aL aH dactL dactH e0L e0H e1L e1H ext
  simp only [View.readAt_eq_ld, Memref.IsWhole.read_unread, View.readCov_eq_canon',
    Kit.ld]

/-- What the first point of a column block leaves in output 12. -/
theorem out12_A (hc0 : cond0_0 i) :
    out0_A_12 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 = first12 i x0 x1 x2 x3 x4 x5 x6 x7 := by
  unfold out0_A_12
  rw [View.read_writes_eq_canon _ _ _ (cover0_A_12 _ _ _ _ _ _ _ _ _ _ _ _ _ _ _ _ _ _ _ _ _ _ _ _ _ _ _ _ _ _ _ _ _ _ _ _ _ _ _)]
  unfold kernelRun0_A
  dsimp only
  sl_unfold_words
  unfold first12 aL aH dactL dactH e0L e0H ext
  simp only [View.readAt_eq_ld, Memref.IsWhole.read_unread, View.readCov_eq_canon',
    Kit.ld]

/-- What a later point leaves in output 8. -/
theorem out8_B (hc0 : ¬cond0_0 i) :
    out0_B_8 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 y9 y10 y11 y12 = dupBlk i x0 x1 x2 x3 x4 x5 x6 x7 := by
  unfold out0_B_8
  rw [View.read_writes_eq_canon _ _ _ (cover0_B_8 _ _ _ _ _ _ _ _ _ _ _ _ _ _ _ _ _ _ _ _ _ _ _ _ _ _ _ _ _ _ _ _ _ _ _ _ _ _ _ _ _ _ _)]
  unfold kernelRun0_B
  dsimp only
  sl_unfold_words
  unfold dupBlk aL aH dactL dactH e0L e0H e1L e1H ext
  simp only [View.readAt_eq_ld, Memref.IsWhole.read_unread, View.readCov_eq_canon',
    Kit.ld]

/-- What a later point leaves in output 9. -/
theorem out9_B (hc0 : ¬cond0_0 i) :
    out0_B_9 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 y9 y10 y11 y12 = acc9 i x0 x1 x2 x3 x4 x5 x6 x7 y9 := by
  unfold out0_B_9
  rw [View.read_writes_eq_canon _ _ _ (cover0_B_9 _ _ _ _ _ _ _ _ _ _ _ _ _ _ _ _ _ _ _ _ _ _ _ _ _ _ _ _ _ _ _ _ _ _ _ _ _ _ _ _ _ _ _)]
  unfold kernelRun0_B
  dsimp only
  sl_unfold_words
  unfold acc9 daL daH aL aH dactL dactH e0L e0H e1L e1H ext
  simp only [View.readAt_eq_ld, Memref.IsWhole.read_unread, View.readCov_eq_canon',
    Kit.ld]

/-- What a later point leaves in output 10. -/
theorem out10_B (hc0 : ¬cond0_0 i) :
    out0_B_10 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 y9 y10 y11 y12 = acc10 i x0 x1 x2 x3 x4 x5 x6 x7 y10 := by
  unfold out0_B_10
  rw [View.read_writes_eq_canon _ _ _ (cover0_B_10 _ _ _ _ _ _ _ _ _ _ _ _ _ _ _ _ _ _ _ _ _ _ _ _ _ _ _ _ _ _ _ _ _ _ _ _ _ _ _ _ _ _ _)]
  unfold kernelRun0_B
  dsimp only
  sl_unfold_words
  unfold acc10 aL aH dactL dactH e0L e0H e1L e1H ext
  simp only [View.readAt_eq_ld, Memref.IsWhole.read_unread, View.readCov_eq_canon',
    Kit.ld]

/-- What a later point leaves in output 11. -/
theorem out11_B (hc0 : ¬cond0_0 i) :
    out0_B_11 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 y9 y10 y11 y12 = acc11 i x0 x1 x2 x3 x4 x5 x6 x7 y11 := by
  unfold out0_B_11
  rw [View.read_writes_eq_canon _ _ _ (cover0_B_11 _ _ _ _ _ _ _ _ _ _ _ _ _ _ _ _ _ _ _ _ _ _ _ _ _ _ _ _ _ _ _ _ _ _ _ _ _ _ _ _ _ _ _)]
  unfold kernelRun0_B
  dsimp only
  sl_unfold_words
  unfold acc11 daL daH aL aH dactL dactH e0L e0H e1L e1H ext
  simp only [View.readAt_eq_ld, Memref.IsWhole.read_unread, View.readCov_eq_canon',
    Kit.ld]

/-- What a later point leaves in output 12. -/
theorem out12_B (hc0 : ¬cond0_0 i) :
    out0_B_12 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 y9 y10 y11 y12 = acc12 i x0 x1 x2 x3 x4 x5 x6 x7 y12 := by
  unfold out0_B_12
  rw [View.read_writes_eq_canon _ _ _ (cover0_B_12 _ _ _ _ _ _ _ _ _ _ _ _ _ _ _ _ _ _ _ _ _ _ _ _ _ _ _ _ _ _ _ _ _ _ _ _ _ _ _ _ _ _ _)]
  unfold kernelRun0_B
  dsimp only
  sl_unfold_words
  unfold acc12 aL aH dactL dactH e0L e0H ext
  simp only [View.readAt_eq_ld, Memref.IsWhole.read_unread, View.readCov_eq_canon',
    Kit.ld]

end Cert.Kernel3Ideal.ActPoint

end
-- ==== Proof.ActRead.lean ====
module

public import proofs.«01_k».proof.Proof.Kit
public import proofs.«01_k».proof.Proof.ActPoint

@[expose] public section

set_option maxRecDepth 16384

noncomputable section

namespace Cert.Kernel3Ideal.ActRead

open Gen ActPoint Idealize.ShloMosaic TcCoe Idealize.SL.Sem

/-- The normal distribution function, as the kernel computes it. -/
def cdf (a : EReal) : EReal := Ideal.ofBits .f32 0x3F000000#32 * (1 + Ideal.erf (a * Ideal.ofBits .f32 0x3F3504F3#32))
/-- The derivative of the activation, as the kernel computes it. -/
def dgelu (a : EReal) : EReal := cdf a + a * (Ideal.exp (Ideal.ofBits .f32 0xBF000000#32 * a * a) * Ideal.ofBits .f32 0x3ECC422A#32)
/-- The gradient of the activated half, from the activation's gradient and both convolved halves. -/
def daf (d a b : EReal) : EReal := d * b * dgelu a
/-- The gradient of the gating half. -/
def dbf (d a : EReal) : EReal := d * (a * cdf a)
/-- One convolved row: three taps over the rows before it. -/
def cv (e : Vec Ideal S2x528x512 .f32) (h : Fin 2) (w : Vec Ideal S3x512 .f32) (b : Vec Ideal S1x512 .f32) (r n : Fin 512) : EReal :=
  b (ix2 0 n) + w (ix2 0 n) * e (ix3 h ⟨r.val + 14, by omega⟩ n) + w (ix2 1 n) * e (ix3 h ⟨r.val + 15, by omega⟩ n)
    + w (ix2 2 n) * e (ix3 h ⟨r.val + 16, by omega⟩ n)
/-- One entry of the activation's gradient. -/
def dactf (x2 : Vec Ideal S512x2048 .bf16) (x3 : Vec Ideal S512x2048 .bf16) (r n : Fin 512) : EReal := ∑ l : Fin 2048, x2 (ix2 r l) * x3 (ix2 n l)

theorem dactL_apply (x2 : Vec Ideal S512x2048 .bf16) (x3 : Vec Ideal S512x2048 .bf16) (r : Fin 512) (n : Fin 256) :
    dactL x2 x3 (ix2 r n) = dactf x2 x3 r ⟨n.val, by omega⟩ := by
  unfold dactL dactf
  have e : ∀ l : Fin 2048, (View.ld x3 (Rect.unit ![0, 0] ![256, 2048] inb_S512x2048_S256x2048_0_0)) (ix2 n l) = x3 (ix2 ⟨n.val, by omega⟩ l) := by
    intro l
    refine congrArg x3 ?_
    funext a; apply Fin.ext
    match a with
    | ⟨0, _⟩ => show 0 + 1 * n.val = _; simp
    | ⟨1, _⟩ => show 0 + 1 * l.val = l.val; omega
  generalize (View.ld x3 (Rect.unit ![0, 0] ![256, 2048] inb_S512x2048_S256x2048_0_0)) = w at e ⊢
  pointwise [k0_pay12]
  exact Finset.sum_congr rfl fun l _ => by rw [e]

theorem e0L_apply (e : Vec Ideal S2x528x512 .f32) (r : Fin 528) (n : Fin 256) : e0L e (ix3 0 r n) = e (ix3 0 r ⟨n.val, by omega⟩) := by
  refine congrArg e ?_
  funext a; apply Fin.ext
  match a with
  | ⟨0, _⟩ => show 0 + 1 * 0 = _; simp
  | ⟨1, _⟩ => show 0 + 1 * r.val = r.val; omega
  | ⟨2, _⟩ => show 0 + 1 * n.val = _; simp

theorem e1L_apply (e : Vec Ideal S2x528x512 .f32) (r : Fin 528) (n : Fin 256) : e1L e (ix3 0 r n) = e (ix3 1 r ⟨n.val, by omega⟩) := by
  refine congrArg e ?_
  funext a; apply Fin.ext
  match a with
  | ⟨0, _⟩ => show 1 + 1 * 0 = _; simp
  | ⟨1, _⟩ => show 0 + 1 * r.val = r.val; omega
  | ⟨2, _⟩ => show 0 + 1 * n.val = _; simp

theorem wL_apply (w : Vec Ideal S3x512 .f32) (n : Fin 256) :
    (View.ld w (Rect.unit ![0, 0] ![1, 256] inb_S3x512_S1x256_0_0) : Vec Ideal S1x256 .f32) (ix2 0 n) = w (ix2 0 ⟨n.val, by omega⟩)
    ∧ (View.ld w (Rect.unit ![1, 0] ![1, 256] inb_S3x512_S1x256_1_0) : Vec Ideal S1x256 .f32) (ix2 0 n) = w (ix2 1 ⟨n.val, by omega⟩)
    ∧ (View.ld w (Rect.unit ![2, 0] ![1, 256] inb_S3x512_S1x256_2_0) : Vec Ideal S1x256 .f32) (ix2 0 n) = w (ix2 2 ⟨n.val, by omega⟩) := by
  refine ⟨congrArg w ?_, congrArg w ?_, congrArg w ?_⟩ <;>
  · funext a; apply Fin.ext
    match a with
    | ⟨0, _⟩ => rfl
    | ⟨1, _⟩ => show 0 + 1 * n.val = _; simp

theorem bL_apply (b : Vec Ideal S1x512 .f32) (n : Fin 256) :
    (View.ld b (Rect.unit ![0, 0] ![1, 256] inb_S1x512_S1x256_0_0) : Vec Ideal S1x256 .f32) (ix2 0 n) = b (ix2 0 ⟨n.val, by omega⟩) := by
  refine congrArg b ?_
  funext a; apply Fin.ext
  match a with
  | ⟨0, _⟩ => rfl
  | ⟨1, _⟩ => show 0 + 1 * n.val = _; simp

theorem aL_apply (e : Vec Ideal S2x528x512 .f32) (w : Vec Ideal S3x512 .f32) (b : Vec Ideal S1x512 .f32) (r : Fin 512) (n : Fin 256) :
    aL e w b (ix2 r n) = cv e 0 w b r ⟨n.val, by omega⟩ := by
  unfold aL cv
  have hw := wL_apply w n
  have hb := bL_apply b n
  have he := e0L_apply e
  generalize (View.ld b (Rect.unit ![0, 0] ![1, 256] inb_S1x512_S1x256_0_0) : Vec Ideal S1x256 .f32) = b0 at hb ⊢
  generalize (View.ld w (Rect.unit ![0, 0] ![1, 256] inb_S3x512_S1x256_0_0) : Vec Ideal S1x256 .f32) = w0 at hw ⊢
  generalize (View.ld w (Rect.unit ![1, 0] ![1, 256] inb_S3x512_S1x256_1_0) : Vec Ideal S1x256 .f32) = w1 at hw ⊢
  generalize (View.ld w (Rect.unit ![2, 0] ![1, 256] inb_S3x512_S1x256_2_0) : Vec Ideal S1x256 .f32) = w2 at hw ⊢
  generalize e0L e = e0 at he ⊢
  pointwise [k0_pay17, k0_pay14, k0_pay15, k0_pay16, k0_pay13]
  have h1 : (r.val + 16 + 528 - 2) % 528 = r.val + 14 := by omega
  have h2 : (r.val + 16 + 528 - 1) % 528 = r.val + 15 := by omega
  have h3 : 16 + r.val = r.val + 16 := by omega
  simp only [h1, h2, h3, hw.1, hw.2.1, hw.2.2, hb, he]

theorem daL_apply (d a : FVec Ideal S512x256 .f32) (e : Vec Ideal S2x528x512 .f32) (w : Vec Ideal S3x512 .f32) (b : Vec Ideal S1x512 .f32) (r : Fin 512) (n : Fin 256) :
    daL d a e w b (ix2 r n) = daf (d (ix2 r n)) (a (ix2 r n)) (cv e 1 w b r ⟨n.val, by omega⟩) := by
  unfold daL cv daf dgelu cdf
  have hw := wL_apply w n
  have hb := bL_apply b n
  have he := e1L_apply e
  generalize (View.ld b (Rect.unit ![0, 0] ![1, 256] inb_S1x512_S1x256_0_0) : Vec Ideal S1x256 .f32) = b0 at hb ⊢
  generalize (View.ld w (Rect.unit ![0, 0] ![1, 256] inb_S3x512_S1x256_0_0) : Vec Ideal S1x256 .f32) = w0 at hw ⊢
  generalize (View.ld w (Rect.unit ![1, 0] ![1, 256] inb_S3x512_S1x256_1_0) : Vec Ideal S1x256 .f32) = w1 at hw ⊢
  generalize (View.ld w (Rect.unit ![2, 0] ![1, 256] inb_S3x512_S1x256_2_0) : Vec Ideal S1x256 .f32) = w2 at hw ⊢
  generalize e1L e = e0 at he ⊢
  pointwise [k0_pay23, k0_pay22, k0_pay19, k0_pay20, k0_pay21, k0_pay18]
  have h1 : (r.val + 16 + 528 - 2) % 528 = r.val + 14 := by omega
  have h2 : (r.val + 16 + 528 - 1) % 528 = r.val + 15 := by omega
  have h3 : 16 + r.val = r.val + 16 := by omega
  simp only [h1, h2, h3, hw.1, hw.2.1, hw.2.2, hb, he]
  rfl

theorem dbL_apply (d a : FVec Ideal S512x256 .f32) (r : Fin 512) (n : Fin 256) :
    k0_pay24 d a (ix2 r n) = dbf (d (ix2 r n)) (a (ix2 r n)) := by
  unfold dbf cdf
  pointwise [k0_pay24, k0_pay22]
  rfl

theorem dactH_apply (x2 : Vec Ideal S512x2048 .bf16) (x3 : Vec Ideal S512x2048 .bf16) (r : Fin 512) (n : Fin 256) :
    dactH x2 x3 (ix2 r n) = dactf x2 x3 r ⟨256 + n.val, by omega⟩ := by
  unfold dactH dactf
  have e : ∀ l : Fin 2048, (View.ld x3 (Rect.unit ![256, 0] ![256, 2048] inb_S512x2048_S256x2048_256_0)) (ix2 n l) = x3 (ix2 ⟨256 + n.val, by omega⟩ l) := by
    intro l
    refine congrArg x3 ?_
    funext a; apply Fin.ext
    match a with
    | ⟨0, _⟩ => show 256 + 1 * n.val = _; simp
    | ⟨1, _⟩ => show 0 + 1 * l.val = l.val; omega
  generalize (View.ld x3 (Rect.unit ![256, 0] ![256, 2048] inb_S512x2048_S256x2048_256_0)) = w at e ⊢
  pointwise [k0_pay32]
  exact Finset.sum_congr rfl fun l _ => by rw [e]

theorem e0H_apply (e : Vec Ideal S2x528x512 .f32) (r : Fin 528) (n : Fin 256) : e0H e (ix3 0 r n) = e (ix3 0 r ⟨256 + n.val, by omega⟩) := by
  refine congrArg e ?_
  funext a; apply Fin.ext
  match a with
  | ⟨0, _⟩ => show 0 + 1 * 0 = _; simp
  | ⟨1, _⟩ => show 0 + 1 * r.val = r.val; omega
  | ⟨2, _⟩ => show 256 + 1 * n.val = _; simp

theorem e1H_apply (e : Vec Ideal S2x528x512 .f32) (r : Fin 528) (n : Fin 256) : e1H e (ix3 0 r n) = e (ix3 1 r ⟨256 + n.val, by omega⟩) := by
  refine congrArg e ?_
  funext a; apply Fin.ext
  match a with
  | ⟨0, _⟩ => show 1 + 1 * 0 = _; simp
  | ⟨1, _⟩ => show 0 + 1 * r.val = r.val; omega
  | ⟨2, _⟩ => show 256 + 1 * n.val = _; simp

theorem wH_apply (w : Vec Ideal S3x512 .f32) (n : Fin 256) :
    (View.ld w (Rect.unit ![0, 256] ![1, 256] inb_S3x512_S1x256_0_256) : Vec Ideal S1x256 .f32) (ix2 0 n) = w (ix2 0 ⟨256 + n.val, by omega⟩)
    ∧ (View.ld w (Rect.unit ![1, 256] ![1, 256] inb_S3x512_S1x256_1_256) : Vec Ideal S1x256 .f32) (ix2 0 n) = w (ix2 1 ⟨256 + n.val, by omega⟩)
    ∧ (View.ld w (Rect.unit ![2, 256] ![1, 256] inb_S3x512_S1x256_2_256) : Vec Ideal S1x256 .f32) (ix2 0 n) = w (ix2 2 ⟨256 + n.val, by omega⟩) := by
  refine ⟨congrArg w ?_, congrArg w ?_, congrArg w ?_⟩ <;>
  · funext a; apply Fin.ext
    match a with
    | ⟨0, _⟩ => rfl
    | ⟨1, _⟩ => show 256 + 1 * n.val = _; simp

theorem bH_apply (b : Vec Ideal S1x512 .f32) (n : Fin 256) :
    (View.ld b (Rect.unit ![0, 256] ![1, 256] inb_S1x512_S1x256_0_256) : Vec Ideal S1x256 .f32) (ix2 0 n) = b (ix2 0 ⟨256 + n.val, by omega⟩) := by
  refine congrArg b ?_
  funext a; apply Fin.ext
  match a with
  | ⟨0, _⟩ => rfl
  | ⟨1, _⟩ => show 256 + 1 * n.val = _; simp

theorem aH_apply (e : Vec Ideal S2x528x512 .f32) (w : Vec Ideal S3x512 .f32) (b : Vec Ideal S1x512 .f32) (r : Fin 512) (n : Fin 256) :
    aH e w b (ix2 r n) = cv e 0 w b r ⟨256 + n.val, by omega⟩ := by
  unfold aH cv
  have hw := wH_apply w n
  have hb := bH_apply b n
  have he := e0H_apply e
  generalize (View.ld b (Rect.unit ![0, 256] ![1, 256] inb_S1x512_S1x256_0_256) : Vec Ideal S1x256 .f32) = b0 at hb ⊢
  generalize (View.ld w (Rect.unit ![0, 256] ![1, 256] inb_S3x512_S1x256_0_256) : Vec Ideal S1x256 .f32) = w0 at hw ⊢
  generalize (View.ld w (Rect.unit ![1, 256] ![1, 256] inb_S3x512_S1x256_1_256) : Vec Ideal S1x256 .f32) = w1 at hw ⊢
  generalize (View.ld w (Rect.unit ![2, 256] ![1, 256] inb_S3x512_S1x256_2_256) : Vec Ideal S1x256 .f32) = w2 at hw ⊢
  generalize e0H e = e0 at he ⊢
  pointwise [k0_pay37, k0_pay34, k0_pay35, k0_pay36, k0_pay33]
  have h1 : (r.val + 16 + 528 - 2) % 528 = r.val + 14 := by omega
  have h2 : (r.val + 16 + 528 - 1) % 528 = r.val + 15 := by omega
  have h3 : 16 + r.val = r.val + 16 := by omega
  simp only [h1, h2, h3, hw.1, hw.2.1, hw.2.2, hb, he]

theorem daH_apply (d a : FVec Ideal S512x256 .f32) (e : Vec Ideal S2x528x512 .f32) (w : Vec Ideal S3x512 .f32) (b : Vec Ideal S1x512 .f32) (r : Fin 512) (n : Fin 256) :
    daH d a e w b (ix2 r n) = daf (d (ix2 r n)) (a (ix2 r n)) (cv e 1 w b r ⟨256 + n.val, by omega⟩) := by
  unfold daH cv daf dgelu cdf
  have hw := wH_apply w n
  have hb := bH_apply b n
  have he := e1H_apply e
  generalize (View.ld b (Rect.unit ![0, 256] ![1, 256] inb_S1x512_S1x256_0_256) : Vec Ideal S1x256 .f32) = b0 at hb ⊢
  generalize (View.ld w (Rect.unit ![0, 256] ![1, 256] inb_S3x512_S1x256_0_256) : Vec Ideal S1x256 .f32) = w0 at hw ⊢
  generalize (View.ld w (Rect.unit ![1, 256] ![1, 256] inb_S3x512_S1x256_1_256) : Vec Ideal S1x256 .f32) = w1 at hw ⊢
  generalize (View.ld w (Rect.unit ![2, 256] ![1, 256] inb_S3x512_S1x256_2_256) : Vec Ideal S1x256 .f32) = w2 at hw ⊢
  generalize e1H e = e0 at he ⊢
  pointwise [k0_pay43, k0_pay42, k0_pay39, k0_pay40, k0_pay41, k0_pay38]
  have h1 : (r.val + 16 + 528 - 2) % 528 = r.val + 14 := by omega
  have h2 : (r.val + 16 + 528 - 1) % 528 = r.val + 15 := by omega
  have h3 : 16 + r.val = r.val + 16 := by omega
  simp only [h1, h2, h3, hw.1, hw.2.1, hw.2.2, hb, he]
  rfl

theorem dbH_apply (d a : FVec Ideal S512x256 .f32) (r : Fin 512) (n : Fin 256) :
    k0_pay44 d a (ix2 r n) = dbf (d (ix2 r n)) (a (ix2 r n)) := by
  unfold dbf cdf
  pointwise [k0_pay44, k0_pay42]
  rfl

theorem tap00L (e : Vec Ideal S2x528x512 .f32) (r : Fin 512) (n : Fin 256) :
    (k0_pay14 (e0L e)) (ix2 r n) = e (ix3 0 ⟨r.val + 14, by omega⟩ ⟨n.val, by omega⟩) := by
  have he := e0L_apply e
  generalize e0L e = e0 at he ⊢
  pointwise [k0_pay14, k0_pay13]
  have h1 : (r.val + 16 + 528 - 2) % 528 = r.val + 14 := by omega
  have h2 : (r.val + 16 + 528 - 1) % 528 = r.val + 15 := by omega
  have h3 : 16 + r.val = r.val + 16 := by omega
  simp only [h1, h2, h3, he]

theorem tap01L (e : Vec Ideal S2x528x512 .f32) (r : Fin 512) (n : Fin 256) :
    (k0_pay15 (e0L e)) (ix2 r n) = e (ix3 0 ⟨r.val + 15, by omega⟩ ⟨n.val, by omega⟩) := by
  have he := e0L_apply e
  generalize e0L e = e0 at he ⊢
  pointwise [k0_pay15, k0_pay13]
  have h1 : (r.val + 16 + 528 - 2) % 528 = r.val + 14 := by omega
  have h2 : (r.val + 16 + 528 - 1) % 528 = r.val + 15 := by omega
  have h3 : 16 + r.val = r.val + 16 := by omega
  simp only [h1, h2, h3, he]

theorem tap02L (e : Vec Ideal S2x528x512 .f32) (r : Fin 512) (n : Fin 256) :
    (k0_pay16 (e0L e)) (ix2 r n) = e (ix3 0 ⟨r.val + 16, by omega⟩ ⟨n.val, by omega⟩) := by
  have he := e0L_apply e
  generalize e0L e = e0 at he ⊢
  pointwise [k0_pay16, k0_pay13]
  have h1 : (r.val + 16 + 528 - 2) % 528 = r.val + 14 := by omega
  have h2 : (r.val + 16 + 528 - 1) % 528 = r.val + 15 := by omega
  have h3 : 16 + r.val = r.val + 16 := by omega
  simp only [h1, h2, h3, he]

theorem tap10L (e : Vec Ideal S2x528x512 .f32) (r : Fin 512) (n : Fin 256) :
    (k0_pay19 (e1L e)) (ix2 r n) = e (ix3 1 ⟨r.val + 14, by omega⟩ ⟨n.val, by omega⟩) := by
  have he := e1L_apply e
  generalize e1L e = e0 at he ⊢
  pointwise [k0_pay19, k0_pay18]
  have h1 : (r.val + 16 + 528 - 2) % 528 = r.val + 14 := by omega
  have h2 : (r.val + 16 + 528 - 1) % 528 = r.val + 15 := by omega
  have h3 : 16 + r.val = r.val + 16 := by omega
  simp only [h1, h2, h3, he]

theorem tap11L (e : Vec Ideal S2x528x512 .f32) (r : Fin 512) (n : Fin 256) :
    (k0_pay20 (k0_pay18 (e1L e)) 1#32) (ix2 r n) = e (ix3 1 ⟨r.val + 15, by omega⟩ ⟨n.val, by omega⟩) := by
  have he := e1L_apply e
  generalize e1L e = e0 at he ⊢
  pointwise [k0_pay20, k0_pay18]
  have h1 : (r.val + 16 + 528 - 2) % 528 = r.val + 14 := by omega
  have h2 : (r.val + 16 + 528 - 1) % 528 = r.val + 15 := by omega
  have h3 : 16 + r.val = r.val + 16 := by omega
  simp only [h1, h2, h3, he]

theorem tap12L (e : Vec Ideal S2x528x512 .f32) (r : Fin 512) (n : Fin 256) :
    (k0_pay21 (k0_pay18 (e1L e))) (ix2 r n) = e (ix3 1 ⟨r.val + 16, by omega⟩ ⟨n.val, by omega⟩) := by
  have he := e1L_apply e
  generalize e1L e = e0 at he ⊢
  pointwise [k0_pay21, k0_pay18]
  have h1 : (r.val + 16 + 528 - 2) % 528 = r.val + 14 := by omega
  have h2 : (r.val + 16 + 528 - 1) % 528 = r.val + 15 := by omega
  have h3 : 16 + r.val = r.val + 16 := by omega
  simp only [h1, h2, h3, he]

theorem tap00H (e : Vec Ideal S2x528x512 .f32) (r : Fin 512) (n : Fin 256) :
    (k0_pay34 (e0H e)) (ix2 r n) = e (ix3 0 ⟨r.val + 14, by omega⟩ ⟨256 + n.val, by omega⟩) := by
  have he := e0H_apply e
  generalize e0H e = e0 at he ⊢
  pointwise [k0_pay34, k0_pay33]
  have h1 : (r.val + 16 + 528 - 2) % 528 = r.val + 14 := by omega
  have h2 : (r.val + 16 + 528 - 1) % 528 = r.val + 15 := by omega
  have h3 : 16 + r.val = r.val + 16 := by omega
  simp only [h1, h2, h3, he]

theorem tap01H (e : Vec Ideal S2x528x512 .f32) (r : Fin 512) (n : Fin 256) :
    (k0_pay35 (e0H e)) (ix2 r n) = e (ix3 0 ⟨r.val + 15, by omega⟩ ⟨256 + n.val, by omega⟩) := by
  have he := e0H_apply e
  generalize e0H e = e0 at he ⊢
  pointwise [k0_pay35, k0_pay33]
  have h1 : (r.val + 16 + 528 - 2) % 528 = r.val + 14 := by omega
  have h2 : (r.val + 16 + 528 - 1) % 528 = r.val + 15 := by omega
  have h3 : 16 + r.val = r.val + 16 := by omega
  simp only [h1, h2, h3, he]

theorem tap02H (e : Vec Ideal S2x528x512 .f32) (r : Fin 512) (n : Fin 256) :
    (k0_pay36 (e0H e)) (ix2 r n) = e (ix3 0 ⟨r.val + 16, by omega⟩ ⟨256 + n.val, by omega⟩) := by
  have he := e0H_apply e
  generalize e0H e = e0 at he ⊢
  pointwise [k0_pay36, k0_pay33]
  have h1 : (r.val + 16 + 528 - 2) % 528 = r.val + 14 := by omega
  have h2 : (r.val + 16 + 528 - 1) % 528 = r.val + 15 := by omega
  have h3 : 16 + r.val = r.val + 16 := by omega
  simp only [h1, h2, h3, he]

theorem tap10H (e : Vec Ideal S2x528x512 .f32) (r : Fin 512) (n : Fin 256) :
    (k0_pay39 (e1H e)) (ix2 r n) = e (ix3 1 ⟨r.val + 14, by omega⟩ ⟨256 + n.val, by omega⟩) := by
  have he := e1H_apply e
  generalize e1H e = e0 at he ⊢
  pointwise [k0_pay39, k0_pay38]
  have h1 : (r.val + 16 + 528 - 2) % 528 = r.val + 14 := by omega
  have h2 : (r.val + 16 + 528 - 1) % 528 = r.val + 15 := by omega
  have h3 : 16 + r.val = r.val + 16 := by omega
  simp only [h1, h2, h3, he]

theorem tap11H (e : Vec Ideal S2x528x512 .f32) (r : Fin 512) (n : Fin 256) :
    (k0_pay40 (e1H e)) (ix2 r n) = e (ix3 1 ⟨r.val + 15, by omega⟩ ⟨256 + n.val, by omega⟩) := by
  have he := e1H_apply e
  generalize e1H e = e0 at he ⊢
  pointwise [k0_pay40, k0_pay38]
  have h1 : (r.val + 16 + 528 - 2) % 528 = r.val + 14 := by omega
  have h2 : (r.val + 16 + 528 - 1) % 528 = r.val + 15 := by omega
  have h3 : 16 + r.val = r.val + 16 := by omega
  simp only [h1, h2, h3, he]

theorem tap12H (e : Vec Ideal S2x528x512 .f32) (r : Fin 512) (n : Fin 256) :
    (k0_pay41 (e1H e)) (ix2 r n) = e (ix3 1 ⟨r.val + 16, by omega⟩ ⟨256 + n.val, by omega⟩) := by
  have he := e1H_apply e
  generalize e1H e = e0 at he ⊢
  pointwise [k0_pay41, k0_pay38]
  have h1 : (r.val + 16 + 528 - 2) % 528 = r.val + 14 := by omega
  have h2 : (r.val + 16 + 528 - 1) % 528 = r.val + 15 := by omega
  have h3 : 16 + r.val = r.val + 16 := by omega
  simp only [h1, h2, h3, he]

theorem sum9L (t0 t1 t2 d : FVec Ideal S512x256 .f32) (y : Vec Ideal S3x256 .f32) (q : Fin 3) (n : Fin 256) :
    k0_pay28 t0 t1 t2 d y (ix2 q n) = y (ix2 q n) + ∑ r : Fin 512, d (ix2 r n) * (![t0, t1, t2] q) (ix2 r n) := by
  match q with
  | ⟨0, _⟩ => pointwise [k0_pay28]
  | ⟨1, _⟩ => pointwise [k0_pay28]
  | ⟨2, _⟩ => pointwise [k0_pay28]

theorem sum10L (t0 t1 t2 d : FVec Ideal S512x256 .f32) (y : Vec Ideal S3x256 .f32) (q : Fin 3) (n : Fin 256) :
    k0_pay30 t0 t1 t2 d y (ix2 q n) = y (ix2 q n) + ∑ r : Fin 512, d (ix2 r n) * (![t0, t1, t2] q) (ix2 r n) := by
  match q with
  | ⟨0, _⟩ => pointwise [k0_pay30]
  | ⟨1, _⟩ => pointwise [k0_pay30]
  | ⟨2, _⟩ => pointwise [k0_pay30]

theorem sum9H (t0 t1 t2 d : FVec Ideal S512x256 .f32) (y : Vec Ideal S3x256 .f32) (q : Fin 3) (n : Fin 256) :
    k0_pay48 t0 t1 t2 d y (ix2 q n) = y (ix2 q n) + ∑ r : Fin 512, d (ix2 r n) * (![t0, t1, t2] q) (ix2 r n) := by
  match q with
  | ⟨0, _⟩ => pointwise [k0_pay48]
  | ⟨1, _⟩ => pointwise [k0_pay48]
  | ⟨2, _⟩ => pointwise [k0_pay48]

theorem sum10H (t0 t1 t2 d : FVec Ideal S512x256 .f32) (y : Vec Ideal S3x256 .f32) (q : Fin 3) (n : Fin 256) :
    k0_pay1 (k0_pay50 y) (k0_pay51 t0 d) (k0_pay52 t1 d) (k0_pay53 t2 d) (ix2 q n) = y (ix2 q n) + ∑ r : Fin 512, d (ix2 r n) * (![t0, t1, t2] q) (ix2 r n) := by
  match q with
  | ⟨0, _⟩ => pointwise [k0_pay1, k0_pay50, k0_pay51, k0_pay52, k0_pay53]
  | ⟨1, _⟩ => pointwise [k0_pay1, k0_pay50, k0_pay51, k0_pay52, k0_pay53]
  | ⟨2, _⟩ => pointwise [k0_pay1, k0_pay50, k0_pay51, k0_pay52, k0_pay53]

theorem sum11L (d : FVec Ideal S512x256 .f32) (y : Vec Ideal S1x256 .f32) (n : Fin 256) :
    k0_pay29 d y (ix2 0 n) = y (ix2 0 n) + ∑ r : Fin 512, d (ix2 r n) := by
  pointwise [k0_pay29]

theorem sum12L (d : FVec Ideal S512x256 .f32) (y : Vec Ideal S1x256 .f32) (n : Fin 256) :
    k0_pay31 d y (ix2 0 n) = y (ix2 0 n) + ∑ r : Fin 512, d (ix2 r n) := by
  pointwise [k0_pay31]

theorem sum11H (d : FVec Ideal S512x256 .f32) (y : Vec Ideal S1x256 .f32) (n : Fin 256) :
    k0_pay49 d y (ix2 0 n) = y (ix2 0 n) + ∑ r : Fin 512, d (ix2 r n) := by
  pointwise [k0_pay49]

theorem sum12H (d : FVec Ideal S512x256 .f32) (y : Vec Ideal S1x256 .f32) (n : Fin 256) :
    k0_pay2 d y (ix2 0 n) = y (ix2 0 n) + ∑ r : Fin 512, d (ix2 r n) := by
  pointwise [k0_pay2]

/-- The point's own rows of half 0. -/
theorem ext_hi0 (i : grid0.Coords) (x0 : Vec Ideal S2x512x512 .bf16) (x1 : Vec Ideal S2x16x512 .bf16) (r : Fin 528) (q : Fin 512) (hr : r.val = 16 + q.val) (n : Fin 512) :
    ext i x0 x1 (ix3 0 r n) = x0 (ix3 0 q n) := by
  unfold ext
  rw [View.canon_cons_of_not_mem _ _ (by rw [Rect.mem_set_unit]; intro h; have h0 := (h 0).1; change 1 ≤ 0 at h0; omega)]
  rw [View.canon_cons_of_not_mem _ _ (by rw [Rect.mem_set_unit]; intro h; have h0 := (h 0).1; change 1 ≤ 0 at h0; omega)]
  have e : ix3 0 r n = (Rect.unit (s := S2x528x512) ![0, 16, 0] ![1, 512, 512] inb_S2x528x512_S1x512x512_0_16_0).emb (ix3 0 q n) := by
    funext a; apply Fin.ext
    match a with
    | ⟨0, _⟩ => rfl
    | ⟨1, _⟩ => show r.val = 16 + 1 * q.val; omega
    | ⟨2, _⟩ => show n.val = 0 + 1 * n.val; omega
  rw [e, View.canon_cons_emb]
  have e' : (View.ld x0 (Rect.unit ![0, 0, 0] ![1, 512, 512] inb_S2x512x512_S1x512x512_0_0_0)) (ix3 0 q n) = x0 (ix3 0 q n) := by
    refine congrArg x0 ?_
    funext a; apply Fin.ext
    match a with
    | ⟨0, _⟩ => rfl
    | ⟨1, _⟩ => show 0 + 1 * q.val = q.val; omega
    | ⟨2, _⟩ => show 0 + 1 * n.val = n.val; omega
  rw [← e']
  generalize (View.ld x0 (Rect.unit ![0, 0, 0] ![1, 512, 512] inb_S2x512x512_S1x512x512_0_0_0)) = y
  pointwise [k0_pay4]

/-- The rows before the point's own rows of half 0: none before the first row of the array. -/
theorem ext_lo0 (i : grid0.Coords) (x0 : Vec Ideal S2x512x512 .bf16) (x1 : Vec Ideal S2x16x512 .bf16) (r : Fin 528) (q : Fin 16) (hr : r.val = q.val) (n : Fin 512) :
    ext i x0 x1 (ix3 0 r n) = if (i 1).val = 0 then (0 : EReal) else x1 (ix3 0 q n) := by
  unfold ext
  rw [View.canon_cons_of_not_mem _ _ (by rw [Rect.mem_set_unit]; intro h; have h0 := (h 0).1; change 1 ≤ 0 at h0; omega)]
  rw [View.canon_cons_of_not_mem _ _ (by rw [Rect.mem_set_unit]; intro h; have h0 := (h 0).1; change 1 ≤ 0 at h0; omega)]
  rw [View.canon_cons_of_not_mem _ _ (by rw [Rect.mem_set_unit]; intro h; have h0 := (h 1).1; change 16 ≤ r.val at h0; omega)]
  have e : ix3 0 r n = (Rect.unit (s := S2x528x512) ![0, 0, 0] ![1, 16, 512] inb_S2x528x512_S1x16x512_0_0_0).emb (ix3 0 q n) := by
    funext a; apply Fin.ext
    match a with
    | ⟨0, _⟩ => rfl
    | ⟨1, _⟩ => show r.val = 0 + 1 * q.val; omega
    | ⟨2, _⟩ => show n.val = 0 + 1 * n.val; omega
  rw [e, View.canon_cons_emb]
  have e' : (View.ld x1 (Rect.unit ![0, 0, 0] ![1, 16, 512] inb_S2x16x512_S1x16x512_0_0_0)) (ix3 0 q n) = x1 (ix3 0 q n) := by
    refine congrArg x1 ?_
    funext a; apply Fin.ext
    match a with
    | ⟨0, _⟩ => rfl
    | ⟨1, _⟩ => show 0 + 1 * q.val = q.val; omega
    | ⟨2, _⟩ => show 0 + 1 * n.val = n.val; omega
  rw [← e']
  generalize (View.ld x1 (Rect.unit ![0, 0, 0] ![1, 16, 512] inb_S2x16x512_S1x16x512_0_0_0)) = y
  pointwise [k0_pay3]
  have key : ∀ n < 16, Scalar.cmpi CmpIPredicate.eq (BitVec.ofNat 32 n) 0#32 = if n = 0 then 1#1 else 0#1 := by decide
  rw [key _ (i 1).isLt]
  split <;> rfl

/-- The point's own rows of half 1. -/
theorem ext_hi1 (i : grid0.Coords) (x0 : Vec Ideal S2x512x512 .bf16) (x1 : Vec Ideal S2x16x512 .bf16) (r : Fin 528) (q : Fin 512) (hr : r.val = 16 + q.val) (n : Fin 512) :
    ext i x0 x1 (ix3 1 r n) = x0 (ix3 1 q n) := by
  unfold ext
  have e : ix3 1 r n = (Rect.unit (s := S2x528x512) ![1, 16, 0] ![1, 512, 512] inb_S2x528x512_S1x512x512_1_16_0).emb (ix3 0 q n) := by
    funext a; apply Fin.ext
    match a with
    | ⟨0, _⟩ => rfl
    | ⟨1, _⟩ => show r.val = 16 + 1 * q.val; omega
    | ⟨2, _⟩ => show n.val = 0 + 1 * n.val; omega
  rw [e, View.canon_cons_emb]
  have e' : (View.ld x0 (Rect.unit ![1, 0, 0] ![1, 512, 512] inb_S2x512x512_S1x512x512_1_0_0)) (ix3 0 q n) = x0 (ix3 1 q n) := by
    refine congrArg x0 ?_
    funext a; apply Fin.ext
    match a with
    | ⟨0, _⟩ => rfl
    | ⟨1, _⟩ => show 0 + 1 * q.val = q.val; omega
    | ⟨2, _⟩ => show 0 + 1 * n.val = n.val; omega
  rw [← e']
  generalize (View.ld x0 (Rect.unit ![1, 0, 0] ![1, 512, 512] inb_S2x512x512_S1x512x512_1_0_0)) = y
  pointwise [k0_pay7, k0_pay6]

/-- The rows before the point's own rows of half 1: none before the first row of the array. -/
theorem ext_lo1 (i : grid0.Coords) (x0 : Vec Ideal S2x512x512 .bf16) (x1 : Vec Ideal S2x16x512 .bf16) (r : Fin 528) (q : Fin 16) (hr : r.val = q.val) (n : Fin 512) :
    ext i x0 x1 (ix3 1 r n) = if (i 1).val = 0 then (0 : EReal) else x1 (ix3 1 q n) := by
  unfold ext
  rw [View.canon_cons_of_not_mem _ _ (by rw [Rect.mem_set_unit]; intro h; have h0 := (h 1).1; change 16 ≤ r.val at h0; omega)]
  have e : ix3 1 r n = (Rect.unit (s := S2x528x512) ![1, 0, 0] ![1, 16, 512] inb_S2x528x512_S1x16x512_1_0_0).emb (ix3 0 q n) := by
    funext a; apply Fin.ext
    match a with
    | ⟨0, _⟩ => rfl
    | ⟨1, _⟩ => show r.val = 0 + 1 * q.val; omega
    | ⟨2, _⟩ => show n.val = 0 + 1 * n.val; omega
  rw [e, View.canon_cons_emb]
  have e' : (View.ld x1 (Rect.unit ![1, 0, 0] ![1, 16, 512] inb_S2x16x512_S1x16x512_1_0_0)) (ix3 0 q n) = x1 (ix3 1 q n) := by
    refine congrArg x1 ?_
    funext a; apply Fin.ext
    match a with
    | ⟨0, _⟩ => rfl
    | ⟨1, _⟩ => show 0 + 1 * q.val = q.val; omega
    | ⟨2, _⟩ => show 0 + 1 * n.val = n.val; omega
  rw [← e']
  generalize (View.ld x1 (Rect.unit ![1, 0, 0] ![1, 16, 512] inb_S2x16x512_S1x16x512_1_0_0)) = y
  pointwise [k0_pay5]
  have key : ∀ n < 16, Scalar.cmpi CmpIPredicate.eq (BitVec.ofNat 32 n) 0#32 = if n = 0 then 1#1 else 0#1 := by decide
  rw [key _ (i 1).isLt]
  split <;> rfl

/-- The gradient of the convolved first half that a point computes. -/
def DA (i : grid0.Coords) (x0 : Vec Ideal S2x512x512 .bf16) (x1 : Vec Ideal S2x16x512 .bf16) (x2 : Vec Ideal S512x2048 .bf16) (x3 : Vec Ideal S512x2048 .bf16) (x4 : Vec Ideal S3x512 .f32) (x5 : Vec Ideal S3x512 .f32) (x6 : Vec Ideal S1x512 .f32) (x7 : Vec Ideal S1x512 .f32) (r n : Fin 512) : EReal := daf (dactf x2 x3 r n) (cv (ext i x0 x1) 0 x4 x6 r n) (cv (ext i x0 x1) 1 x5 x7 r n)
/-- The gradient of the convolved second half that a point computes. -/
def DB (i : grid0.Coords) (x0 : Vec Ideal S2x512x512 .bf16) (x1 : Vec Ideal S2x16x512 .bf16) (x2 : Vec Ideal S512x2048 .bf16) (x3 : Vec Ideal S512x2048 .bf16) (x4 : Vec Ideal S3x512 .f32) (x6 : Vec Ideal S1x512 .f32) (r n : Fin 512) : EReal := dbf (dactf x2 x3 r n) (cv (ext i x0 x1) 0 x4 x6 r n)

theorem DAL (i : grid0.Coords) (x0 : Vec Ideal S2x512x512 .bf16) (x1 : Vec Ideal S2x16x512 .bf16) (x2 : Vec Ideal S512x2048 .bf16) (x3 : Vec Ideal S512x2048 .bf16) (x4 : Vec Ideal S3x512 .f32) (x5 : Vec Ideal S3x512 .f32) (x6 : Vec Ideal S1x512 .f32) (x7 : Vec Ideal S1x512 .f32) (r : Fin 512) (n : Fin 256) : daL (dactL x2 x3) (aL (ext i x0 x1) x4 x6) (ext i x0 x1) x5 x7 (ix2 r n) = DA i x0 x1 x2 x3 x4 x5 x6 x7 r ⟨n.val, by omega⟩ := by
  rw [daL_apply, dactL_apply, aL_apply]; rfl

theorem DBL (i : grid0.Coords) (x0 : Vec Ideal S2x512x512 .bf16) (x1 : Vec Ideal S2x16x512 .bf16) (x2 : Vec Ideal S512x2048 .bf16) (x3 : Vec Ideal S512x2048 .bf16) (x4 : Vec Ideal S3x512 .f32) (x5 : Vec Ideal S3x512 .f32) (x6 : Vec Ideal S1x512 .f32) (x7 : Vec Ideal S1x512 .f32) (r : Fin 512) (n : Fin 256) : k0_pay24 (dactL x2 x3) (aL (ext i x0 x1) x4 x6) (ix2 r n) = DB i x0 x1 x2 x3 x4 x6 r ⟨n.val, by omega⟩ := by
  rw [dbL_apply, dactL_apply, aL_apply]; rfl

theorem DAH (i : grid0.Coords) (x0 : Vec Ideal S2x512x512 .bf16) (x1 : Vec Ideal S2x16x512 .bf16) (x2 : Vec Ideal S512x2048 .bf16) (x3 : Vec Ideal S512x2048 .bf16) (x4 : Vec Ideal S3x512 .f32) (x5 : Vec Ideal S3x512 .f32) (x6 : Vec Ideal S1x512 .f32) (x7 : Vec Ideal S1x512 .f32) (r : Fin 512) (n : Fin 256) : daH (dactH x2 x3) (aH (ext i x0 x1) x4 x6) (ext i x0 x1) x5 x7 (ix2 r n) = DA i x0 x1 x2 x3 x4 x5 x6 x7 r ⟨256 + n.val, by omega⟩ := by
  rw [daH_apply, dactH_apply, aH_apply]; rfl

theorem DBH (i : grid0.Coords) (x0 : Vec Ideal S2x512x512 .bf16) (x1 : Vec Ideal S2x16x512 .bf16) (x2 : Vec Ideal S512x2048 .bf16) (x3 : Vec Ideal S512x2048 .bf16) (x4 : Vec Ideal S3x512 .f32) (x5 : Vec Ideal S3x512 .f32) (x6 : Vec Ideal S1x512 .f32) (x7 : Vec Ideal S1x512 .f32) (r : Fin 512) (n : Fin 256) : k0_pay44 (dactH x2 x3) (aH (ext i x0 x1) x4 x6) (ix2 r n) = DB i x0 x1 x2 x3 x4 x6 r ⟨256 + n.val, by omega⟩ := by
  rw [dbH_apply, dactH_apply, aH_apply]; rfl

theorem part9L (i : grid0.Coords) (x0 : Vec Ideal S2x512x512 .bf16) (x1 : Vec Ideal S2x16x512 .bf16) (x2 : Vec Ideal S512x2048 .bf16) (x3 : Vec Ideal S512x2048 .bf16) (x4 : Vec Ideal S3x512 .f32) (x5 : Vec Ideal S3x512 .f32) (x6 : Vec Ideal S1x512 .f32) (x7 : Vec Ideal S1x512 .f32) (y : Vec Ideal S3x256 .f32) (q : Fin 3) (n : Fin 256) :
    (k0_pay28 (k0_pay14 (e0L (ext i x0 x1))) (k0_pay15 (e0L (ext i x0 x1))) (k0_pay16 (e0L (ext i x0 x1))) (daL (dactL x2 x3) (aL (ext i x0 x1) x4 x6) (ext i x0 x1) x5 x7) y) (ix2 q n)
      = y (ix2 q n) + ∑ r : Fin 512, DA i x0 x1 x2 x3 x4 x5 x6 x7 r ⟨n.val, by omega⟩ * ext i x0 x1 (ix3 0 ⟨r.val + 14 + q.val, by omega⟩ ⟨n.val, by omega⟩) := by
  rw [sum9L]
  have ht0 := tap00L (ext i x0 x1)
  generalize k0_pay14 (e0L (ext i x0 x1)) = t0 at ht0 ⊢
  have ht1 := tap01L (ext i x0 x1)
  generalize k0_pay15 (e0L (ext i x0 x1)) = t1 at ht1 ⊢
  have ht2 := tap02L (ext i x0 x1)
  generalize k0_pay16 (e0L (ext i x0 x1)) = t2 at ht2 ⊢
  refine congrArg (y (ix2 q n) + ·) (Finset.sum_congr rfl fun r _ => ?_)
  rw [DAL i x0 x1 x2 x3 x4 x5 x6 x7]
  refine congrArg (DA i x0 x1 x2 x3 x4 x5 x6 x7 r ⟨n.val, by omega⟩ * ·) ?_
  match q with
  | ⟨0, _⟩ => exact ht0 r n
  | ⟨1, _⟩ => exact ht1 r n
  | ⟨2, _⟩ => exact ht2 r n

theorem part9H (i : grid0.Coords) (x0 : Vec Ideal S2x512x512 .bf16) (x1 : Vec Ideal S2x16x512 .bf16) (x2 : Vec Ideal S512x2048 .bf16) (x3 : Vec Ideal S512x2048 .bf16) (x4 : Vec Ideal S3x512 .f32) (x5 : Vec Ideal S3x512 .f32) (x6 : Vec Ideal S1x512 .f32) (x7 : Vec Ideal S1x512 .f32) (y : Vec Ideal S3x256 .f32) (q : Fin 3) (n : Fin 256) :
    (k0_pay48 (k0_pay34 (e0H (ext i x0 x1))) (k0_pay35 (e0H (ext i x0 x1))) (k0_pay36 (e0H (ext i x0 x1))) (daH (dactH x2 x3) (aH (ext i x0 x1) x4 x6) (ext i x0 x1) x5 x7) y) (ix2 q n)
      = y (ix2 q n) + ∑ r : Fin 512, DA i x0 x1 x2 x3 x4 x5 x6 x7 r ⟨256 + n.val, by omega⟩ * ext i x0 x1 (ix3 0 ⟨r.val + 14 + q.val, by omega⟩ ⟨256 + n.val, by omega⟩) := by
  rw [sum9H]
  have ht0 := tap00H (ext i x0 x1)
  generalize k0_pay34 (e0H (ext i x0 x1)) = t0 at ht0 ⊢
  have ht1 := tap01H (ext i x0 x1)
  generalize k0_pay35 (e0H (ext i x0 x1)) = t1 at ht1 ⊢
  have ht2 := tap02H (ext i x0 x1)
  generalize k0_pay36 (e0H (ext i x0 x1)) = t2 at ht2 ⊢
  refine congrArg (y (ix2 q n) + ·) (Finset.sum_congr rfl fun r _ => ?_)
  rw [DAH i x0 x1 x2 x3 x4 x5 x6 x7]
  refine congrArg (DA i x0 x1 x2 x3 x4 x5 x6 x7 r ⟨256 + n.val, by omega⟩ * ·) ?_
  match q with
  | ⟨0, _⟩ => exact ht0 r n
  | ⟨1, _⟩ => exact ht1 r n
  | ⟨2, _⟩ => exact ht2 r n

theorem part10L (i : grid0.Coords) (x0 : Vec Ideal S2x512x512 .bf16) (x1 : Vec Ideal S2x16x512 .bf16) (x2 : Vec Ideal S512x2048 .bf16) (x3 : Vec Ideal S512x2048 .bf16) (x4 : Vec Ideal S3x512 .f32) (x5 : Vec Ideal S3x512 .f32) (x6 : Vec Ideal S1x512 .f32) (x7 : Vec Ideal S1x512 .f32) (y : Vec Ideal S3x256 .f32) (q : Fin 3) (n : Fin 256) :
    (k0_pay30 (k0_pay19 (e1L (ext i x0 x1))) (k0_pay20 (k0_pay18 (e1L (ext i x0 x1))) 1#32) (k0_pay21 (k0_pay18 (e1L (ext i x0 x1)))) (k0_pay24 (dactL x2 x3) (aL (ext i x0 x1) x4 x6)) y) (ix2 q n)
      = y (ix2 q n) + ∑ r : Fin 512, DB i x0 x1 x2 x3 x4 x6 r ⟨n.val, by omega⟩ * ext i x0 x1 (ix3 1 ⟨r.val + 14 + q.val, by omega⟩ ⟨n.val, by omega⟩) := by
  rw [sum10L]
  have ht0 := tap10L (ext i x0 x1)
  generalize k0_pay19 (e1L (ext i x0 x1)) = t0 at ht0 ⊢
  have ht1 := tap11L (ext i x0 x1)
  generalize k0_pay20 (k0_pay18 (e1L (ext i x0 x1))) 1#32 = t1 at ht1 ⊢
  have ht2 := tap12L (ext i x0 x1)
  generalize k0_pay21 (k0_pay18 (e1L (ext i x0 x1))) = t2 at ht2 ⊢
  refine congrArg (y (ix2 q n) + ·) (Finset.sum_congr rfl fun r _ => ?_)
  rw [DBL i x0 x1 x2 x3 x4 x5 x6 x7]
  refine congrArg (DB i x0 x1 x2 x3 x4 x6 r ⟨n.val, by omega⟩ * ·) ?_
  match q with
  | ⟨0, _⟩ => exact ht0 r n
  | ⟨1, _⟩ => exact ht1 r n
  | ⟨2, _⟩ => exact ht2 r n

theorem part10H (i : grid0.Coords) (x0 : Vec Ideal S2x512x512 .bf16) (x1 : Vec Ideal S2x16x512 .bf16) (x2 : Vec Ideal S512x2048 .bf16) (x3 : Vec Ideal S512x2048 .bf16) (x4 : Vec Ideal S3x512 .f32) (x5 : Vec Ideal S3x512 .f32) (x6 : Vec Ideal S1x512 .f32) (x7 : Vec Ideal S1x512 .f32) (y : Vec Ideal S3x256 .f32) (q : Fin 3) (n : Fin 256) :
    (k0_pay1 (k0_pay50 y) (k0_pay51 (k0_pay39 (e1H (ext i x0 x1))) (k0_pay44 (dactH x2 x3) (aH (ext i x0 x1) x4 x6))) (k0_pay52 (k0_pay40 (e1H (ext i x0 x1))) (k0_pay44 (dactH x2 x3) (aH (ext i x0 x1) x4 x6))) (k0_pay53 (k0_pay41 (e1H (ext i x0 x1))) (k0_pay44 (dactH x2 x3) (aH (ext i x0 x1) x4 x6)))) (ix2 q n)
      = y (ix2 q n) + ∑ r : Fin 512, DB i x0 x1 x2 x3 x4 x6 r ⟨256 + n.val, by omega⟩ * ext i x0 x1 (ix3 1 ⟨r.val + 14 + q.val, by omega⟩ ⟨256 + n.val, by omega⟩) := by
  rw [sum10H]
  have ht0 := tap10H (ext i x0 x1)
  generalize k0_pay39 (e1H (ext i x0 x1)) = t0 at ht0 ⊢
  have ht1 := tap11H (ext i x0 x1)
  generalize k0_pay40 (e1H (ext i x0 x1)) = t1 at ht1 ⊢
  have ht2 := tap12H (ext i x0 x1)
  generalize k0_pay41 (e1H (ext i x0 x1)) = t2 at ht2 ⊢
  refine congrArg (y (ix2 q n) + ·) (Finset.sum_congr rfl fun r _ => ?_)
  rw [DBH i x0 x1 x2 x3 x4 x5 x6 x7]
  refine congrArg (DB i x0 x1 x2 x3 x4 x6 r ⟨256 + n.val, by omega⟩ * ·) ?_
  match q with
  | ⟨0, _⟩ => exact ht0 r n
  | ⟨1, _⟩ => exact ht1 r n
  | ⟨2, _⟩ => exact ht2 r n

theorem part11L (i : grid0.Coords) (x0 : Vec Ideal S2x512x512 .bf16) (x1 : Vec Ideal S2x16x512 .bf16) (x2 : Vec Ideal S512x2048 .bf16) (x3 : Vec Ideal S512x2048 .bf16) (x4 : Vec Ideal S3x512 .f32) (x5 : Vec Ideal S3x512 .f32) (x6 : Vec Ideal S1x512 .f32) (x7 : Vec Ideal S1x512 .f32) (y : Vec Ideal S1x256 .f32) (n : Fin 256) :
    (k0_pay29 (daL (dactL x2 x3) (aL (ext i x0 x1) x4 x6) (ext i x0 x1) x5 x7) y) (ix2 0 n)
      = y (ix2 0 n) + ∑ r : Fin 512, DA i x0 x1 x2 x3 x4 x5 x6 x7 r ⟨n.val, by omega⟩ := by
  rw [sum11L]
  exact congrArg (y (ix2 0 n) + ·) (Finset.sum_congr rfl fun r _ => DAL i x0 x1 x2 x3 x4 x5 x6 x7 r n)

theorem part11H (i : grid0.Coords) (x0 : Vec Ideal S2x512x512 .bf16) (x1 : Vec Ideal S2x16x512 .bf16) (x2 : Vec Ideal S512x2048 .bf16) (x3 : Vec Ideal S512x2048 .bf16) (x4 : Vec Ideal S3x512 .f32) (x5 : Vec Ideal S3x512 .f32) (x6 : Vec Ideal S1x512 .f32) (x7 : Vec Ideal S1x512 .f32) (y : Vec Ideal S1x256 .f32) (n : Fin 256) :
    (k0_pay49 (daH (dactH x2 x3) (aH (ext i x0 x1) x4 x6) (ext i x0 x1) x5 x7) y) (ix2 0 n)
      = y (ix2 0 n) + ∑ r : Fin 512, DA i x0 x1 x2 x3 x4 x5 x6 x7 r ⟨256 + n.val, by omega⟩ := by
  rw [sum11H]
  exact congrArg (y (ix2 0 n) + ·) (Finset.sum_congr rfl fun r _ => DAH i x0 x1 x2 x3 x4 x5 x6 x7 r n)

theorem part12L (i : grid0.Coords) (x0 : Vec Ideal S2x512x512 .bf16) (x1 : Vec Ideal S2x16x512 .bf16) (x2 : Vec Ideal S512x2048 .bf16) (x3 : Vec Ideal S512x2048 .bf16) (x4 : Vec Ideal S3x512 .f32) (x5 : Vec Ideal S3x512 .f32) (x6 : Vec Ideal S1x512 .f32) (x7 : Vec Ideal S1x512 .f32) (y : Vec Ideal S1x256 .f32) (n : Fin 256) :
    (k0_pay31 (k0_pay24 (dactL x2 x3) (aL (ext i x0 x1) x4 x6)) y) (ix2 0 n)
      = y (ix2 0 n) + ∑ r : Fin 512, DB i x0 x1 x2 x3 x4 x6 r ⟨n.val, by omega⟩ := by
  rw [sum12L]
  exact congrArg (y (ix2 0 n) + ·) (Finset.sum_congr rfl fun r _ => DBL i x0 x1 x2 x3 x4 x5 x6 x7 r n)

theorem part12H (i : grid0.Coords) (x0 : Vec Ideal S2x512x512 .bf16) (x1 : Vec Ideal S2x16x512 .bf16) (x2 : Vec Ideal S512x2048 .bf16) (x3 : Vec Ideal S512x2048 .bf16) (x4 : Vec Ideal S3x512 .f32) (x5 : Vec Ideal S3x512 .f32) (x6 : Vec Ideal S1x512 .f32) (x7 : Vec Ideal S1x512 .f32) (y : Vec Ideal S1x256 .f32) (n : Fin 256) :
    (k0_pay2 (k0_pay44 (dactH x2 x3) (aH (ext i x0 x1) x4 x6)) y) (ix2 0 n)
      = y (ix2 0 n) + ∑ r : Fin 512, DB i x0 x1 x2 x3 x4 x6 r ⟨256 + n.val, by omega⟩ := by
  rw [sum12H]
  exact congrArg (y (ix2 0 n) + ·) (Finset.sum_congr rfl fun r _ => DBH i x0 x1 x2 x3 x4 x5 x6 x7 r n)

theorem acc9_apply (i : grid0.Coords) (x0 : Vec Ideal S2x512x512 .bf16) (x1 : Vec Ideal S2x16x512 .bf16) (x2 : Vec Ideal S512x2048 .bf16) (x3 : Vec Ideal S512x2048 .bf16) (x4 : Vec Ideal S3x512 .f32) (x5 : Vec Ideal S3x512 .f32) (x6 : Vec Ideal S1x512 .f32) (x7 : Vec Ideal S1x512 .f32) (y : Vec Ideal S3x512 .f32) (q : Fin 3) (n : Fin 512) :
    acc9 i x0 x1 x2 x3 x4 x5 x6 x7 y (ix2 q n) = y (ix2 q n) + ∑ r : Fin 512, DA i x0 x1 x2 x3 x4 x5 x6 x7 r n * ext i x0 x1 (ix3 0 ⟨r.val + 14 + q.val, by omega⟩ n) := by
  unfold acc9
  by_cases hn : n.val < 256
  · rw [View.canon_cons_of_not_mem _ _ (by rw [Rect.mem_set_unit]; intro h; have h0 := (h 1).1; change 256 ≤ n.val at h0; omega)]
    have e : ix2 q n = (Rect.unit (s := S3x512) ![0, 0] ![3, 256] inb_S3x512_S3x256_0_0).emb (ix2 q (⟨n.val, hn⟩ : Fin 256)) := by
      funext a; apply Fin.ext
      match a with
      | ⟨0, _⟩ => show q.val = 0 + 1 * q.val; omega
      | ⟨1, _⟩ => show n.val = 0 + 1 * n.val; omega
    refine (congrArg (View.canon _ : Vec Ideal S3x512 .f32) e).trans ?_
    rw [View.canon_cons_emb]
    rw [part9L i x0 x1 x2 x3 x4 x5 x6 x7]
    refine congrArg (· + _) (congrArg y ?_)
    exact e.symm
  · have e : ix2 q n = (Rect.unit (s := S3x512) ![0, 256] ![3, 256] inb_S3x512_S3x256_0_256).emb (ix2 q (⟨n.val - 256, by omega⟩ : Fin 256)) := by
      funext a; apply Fin.ext
      match a with
      | ⟨0, _⟩ => show q.val = 0 + 1 * q.val; omega
      | ⟨1, _⟩ => show n.val = 256 + 1 * (n.val - 256); omega
    refine (congrArg (View.canon _ : Vec Ideal S3x512 .f32) e).trans ?_
    rw [View.canon_cons_emb]
    rw [part9H i x0 x1 x2 x3 x4 x5 x6 x7]
    have e2 : (⟨256 + (n.val - 256), by omega⟩ : Fin 512) = n := Fin.ext (by show 256 + (n.val - 256) = n.val; omega)
    simp only [e2]
    refine congrArg (· + _) (congrArg y ?_)
    exact e.symm

theorem first9_apply (i : grid0.Coords) (x0 : Vec Ideal S2x512x512 .bf16) (x1 : Vec Ideal S2x16x512 .bf16) (x2 : Vec Ideal S512x2048 .bf16) (x3 : Vec Ideal S512x2048 .bf16) (x4 : Vec Ideal S3x512 .f32) (x5 : Vec Ideal S3x512 .f32) (x6 : Vec Ideal S1x512 .f32) (x7 : Vec Ideal S1x512 .f32) (q : Fin 3) (n : Fin 512) :
    first9 i x0 x1 x2 x3 x4 x5 x6 x7 (ix2 q n) = 0 + ∑ r : Fin 512, DA i x0 x1 x2 x3 x4 x5 x6 x7 r n * ext i x0 x1 (ix3 0 ⟨r.val + 14 + q.val, by omega⟩ n) := by
  unfold first9
  by_cases hn : n.val < 256
  · rw [View.canon_cons_of_not_mem _ _ (by rw [Rect.mem_set_unit]; intro h; have h0 := (h 1).1; change 256 ≤ n.val at h0; omega)]
    have e : ix2 q n = (Rect.unit (s := S3x512) ![0, 0] ![3, 256] inb_S3x512_S3x256_0_0).emb (ix2 q (⟨n.val, hn⟩ : Fin 256)) := by
      funext a; apply Fin.ext
      match a with
      | ⟨0, _⟩ => show q.val = 0 + 1 * q.val; omega
      | ⟨1, _⟩ => show n.val = 0 + 1 * n.val; omega
    refine (congrArg (View.canon _ : Vec Ideal S3x512 .f32) e).trans ?_
    rw [View.canon_cons_emb]
    rw [part9L i x0 x1 x2 x3 x4 x5 x6 x7]
    refine congrArg (· + _) ?_
    refine (congrArg (View.canon [⟨Rect.unit ![0, 0] ![3, 512] inb_S3x512_S3x512_0_0, k0_pay8 (F := Ideal)⟩] : Vec Ideal S3x512 .f32) e.symm).trans ?_
    rw [View.canon_unit_zero (S := S3x512) hz2]
    pointwise [k0_pay8]
  · have e : ix2 q n = (Rect.unit (s := S3x512) ![0, 256] ![3, 256] inb_S3x512_S3x256_0_256).emb (ix2 q (⟨n.val - 256, by omega⟩ : Fin 256)) := by
      funext a; apply Fin.ext
      match a with
      | ⟨0, _⟩ => show q.val = 0 + 1 * q.val; omega
      | ⟨1, _⟩ => show n.val = 256 + 1 * (n.val - 256); omega
    refine (congrArg (View.canon _ : Vec Ideal S3x512 .f32) e).trans ?_
    rw [View.canon_cons_emb]
    rw [part9H i x0 x1 x2 x3 x4 x5 x6 x7]
    have e2 : (⟨256 + (n.val - 256), by omega⟩ : Fin 512) = n := Fin.ext (by show 256 + (n.val - 256) = n.val; omega)
    simp only [e2]
    refine congrArg (· + _) ?_
    refine (congrArg (View.canon _ : Vec Ideal S3x512 .f32) e.symm).trans ?_
    rw [View.canon_cons_of_not_mem _ _ (by rw [Rect.mem_set_unit]; intro h; have h0 := (h 1).2; change n.val < 0 + 256 at h0; omega)]
    rw [View.canon_unit_zero (S := S3x512) hz2]
    pointwise [k0_pay8]

theorem acc10_apply (i : grid0.Coords) (x0 : Vec Ideal S2x512x512 .bf16) (x1 : Vec Ideal S2x16x512 .bf16) (x2 : Vec Ideal S512x2048 .bf16) (x3 : Vec Ideal S512x2048 .bf16) (x4 : Vec Ideal S3x512 .f32) (x5 : Vec Ideal S3x512 .f32) (x6 : Vec Ideal S1x512 .f32) (x7 : Vec Ideal S1x512 .f32) (y : Vec Ideal S3x512 .f32) (q : Fin 3) (n : Fin 512) :
    acc10 i x0 x1 x2 x3 x4 x5 x6 x7 y (ix2 q n) = y (ix2 q n) + ∑ r : Fin 512, DB i x0 x1 x2 x3 x4 x6 r n * ext i x0 x1 (ix3 1 ⟨r.val + 14 + q.val, by omega⟩ n) := by
  unfold acc10
  by_cases hn : n.val < 256
  · rw [View.canon_cons_of_not_mem _ _ (by rw [Rect.mem_set_unit]; intro h; have h0 := (h 1).1; change 256 ≤ n.val at h0; omega)]
    have e : ix2 q n = (Rect.unit (s := S3x512) ![0, 0] ![3, 256] inb_S3x512_S3x256_0_0).emb (ix2 q (⟨n.val, hn⟩ : Fin 256)) := by
      funext a; apply Fin.ext
      match a with
      | ⟨0, _⟩ => show q.val = 0 + 1 * q.val; omega
      | ⟨1, _⟩ => show n.val = 0 + 1 * n.val; omega
    refine (congrArg (View.canon _ : Vec Ideal S3x512 .f32) e).trans ?_
    rw [View.canon_cons_emb]
    rw [part10L i x0 x1 x2 x3 x4 x5 x6 x7]
    refine congrArg (· + _) (congrArg y ?_)
    exact e.symm
  · have e : ix2 q n = (Rect.unit (s := S3x512) ![0, 256] ![3, 256] inb_S3x512_S3x256_0_256).emb (ix2 q (⟨n.val - 256, by omega⟩ : Fin 256)) := by
      funext a; apply Fin.ext
      match a with
      | ⟨0, _⟩ => show q.val = 0 + 1 * q.val; omega
      | ⟨1, _⟩ => show n.val = 256 + 1 * (n.val - 256); omega
    refine (congrArg (View.canon _ : Vec Ideal S3x512 .f32) e).trans ?_
    rw [View.canon_cons_emb]
    rw [part10H i x0 x1 x2 x3 x4 x5 x6 x7]
    have e2 : (⟨256 + (n.val - 256), by omega⟩ : Fin 512) = n := Fin.ext (by show 256 + (n.val - 256) = n.val; omega)
    simp only [e2]
    refine congrArg (· + _) (congrArg y ?_)
    exact e.symm

theorem first10_apply (i : grid0.Coords) (x0 : Vec Ideal S2x512x512 .bf16) (x1 : Vec Ideal S2x16x512 .bf16) (x2 : Vec Ideal S512x2048 .bf16) (x3 : Vec Ideal S512x2048 .bf16) (x4 : Vec Ideal S3x512 .f32) (x5 : Vec Ideal S3x512 .f32) (x6 : Vec Ideal S1x512 .f32) (x7 : Vec Ideal S1x512 .f32) (q : Fin 3) (n : Fin 512) :
    first10 i x0 x1 x2 x3 x4 x5 x6 x7 (ix2 q n) = 0 + ∑ r : Fin 512, DB i x0 x1 x2 x3 x4 x6 r n * ext i x0 x1 (ix3 1 ⟨r.val + 14 + q.val, by omega⟩ n) := by
  unfold first10
  by_cases hn : n.val < 256
  · rw [View.canon_cons_of_not_mem _ _ (by rw [Rect.mem_set_unit]; intro h; have h0 := (h 1).1; change 256 ≤ n.val at h0; omega)]
    have e : ix2 q n = (Rect.unit (s := S3x512) ![0, 0] ![3, 256] inb_S3x512_S3x256_0_0).emb (ix2 q (⟨n.val, hn⟩ : Fin 256)) := by
      funext a; apply Fin.ext
      match a with
      | ⟨0, _⟩ => show q.val = 0 + 1 * q.val; omega
      | ⟨1, _⟩ => show n.val = 0 + 1 * n.val; omega
    refine (congrArg (View.canon _ : Vec Ideal S3x512 .f32) e).trans ?_
    rw [View.canon_cons_emb]
    rw [part10L i x0 x1 x2 x3 x4 x5 x6 x7]
    refine congrArg (· + _) ?_
    refine (congrArg (View.canon [⟨Rect.unit ![0, 0] ![3, 512] inb_S3x512_S3x512_0_0, k0_pay9 (F := Ideal)⟩] : Vec Ideal S3x512 .f32) e.symm).trans ?_
    rw [View.canon_unit_zero (S := S3x512) hz2]
    pointwise [k0_pay9]
  · have e : ix2 q n = (Rect.unit (s := S3x512) ![0, 256] ![3, 256] inb_S3x512_S3x256_0_256).emb (ix2 q (⟨n.val - 256, by omega⟩ : Fin 256)) := by
      funext a; apply Fin.ext
      match a with
      | ⟨0, _⟩ => show q.val = 0 + 1 * q.val; omega
      | ⟨1, _⟩ => show n.val = 256 + 1 * (n.val - 256); omega
    refine (congrArg (View.canon _ : Vec Ideal S3x512 .f32) e).trans ?_
    rw [View.canon_cons_emb]
    rw [part10H i x0 x1 x2 x3 x4 x5 x6 x7]
    have e2 : (⟨256 + (n.val - 256), by omega⟩ : Fin 512) = n := Fin.ext (by show 256 + (n.val - 256) = n.val; omega)
    simp only [e2]
    refine congrArg (· + _) ?_
    refine (congrArg (View.canon _ : Vec Ideal S3x512 .f32) e.symm).trans ?_
    rw [View.canon_cons_of_not_mem _ _ (by rw [Rect.mem_set_unit]; intro h; have h0 := (h 1).2; change n.val < 0 + 256 at h0; omega)]
    rw [View.canon_unit_zero (S := S3x512) hz2]
    pointwise [k0_pay9]

theorem acc11_apply (i : grid0.Coords) (x0 : Vec Ideal S2x512x512 .bf16) (x1 : Vec Ideal S2x16x512 .bf16) (x2 : Vec Ideal S512x2048 .bf16) (x3 : Vec Ideal S512x2048 .bf16) (x4 : Vec Ideal S3x512 .f32) (x5 : Vec Ideal S3x512 .f32) (x6 : Vec Ideal S1x512 .f32) (x7 : Vec Ideal S1x512 .f32) (y : Vec Ideal S1x512 .f32) (n : Fin 512) :
    acc11 i x0 x1 x2 x3 x4 x5 x6 x7 y (ix2 0 n) = y (ix2 0 n) + ∑ r : Fin 512, DA i x0 x1 x2 x3 x4 x5 x6 x7 r n := by
  unfold acc11
  by_cases hn : n.val < 256
  · rw [View.canon_cons_of_not_mem _ _ (by rw [Rect.mem_set_unit]; intro h; have h0 := (h 1).1; change 256 ≤ n.val at h0; omega)]
    have e : ix2 0 n = (Rect.unit (s := S1x512) ![0, 0] ![1, 256] inb_S1x512_S1x256_0_0).emb (ix2 0 (⟨n.val, hn⟩ : Fin 256)) := by
      funext a; apply Fin.ext
      match a with
      | ⟨0, _⟩ => rfl
      | ⟨1, _⟩ => show n.val = 0 + 1 * n.val; omega
    refine (congrArg (View.canon _ : Vec Ideal S1x512 .f32) e).trans ?_
    rw [View.canon_cons_emb]
    rw [part11L i x0 x1 x2 x3 x4 x5 x6 x7]
    refine congrArg (· + _) (congrArg y ?_)
    exact e.symm
  · have e : ix2 0 n = (Rect.unit (s := S1x512) ![0, 256] ![1, 256] inb_S1x512_S1x256_0_256).emb (ix2 0 (⟨n.val - 256, by omega⟩ : Fin 256)) := by
      funext a; apply Fin.ext
      match a with
      | ⟨0, _⟩ => rfl
      | ⟨1, _⟩ => show n.val = 256 + 1 * (n.val - 256); omega
    refine (congrArg (View.canon _ : Vec Ideal S1x512 .f32) e).trans ?_
    rw [View.canon_cons_emb]
    rw [part11H i x0 x1 x2 x3 x4 x5 x6 x7]
    have e2 : (⟨256 + (n.val - 256), by omega⟩ : Fin 512) = n := Fin.ext (by show 256 + (n.val - 256) = n.val; omega)
    simp only [e2]
    refine congrArg (· + _) (congrArg y ?_)
    exact e.symm

theorem first11_apply (i : grid0.Coords) (x0 : Vec Ideal S2x512x512 .bf16) (x1 : Vec Ideal S2x16x512 .bf16) (x2 : Vec Ideal S512x2048 .bf16) (x3 : Vec Ideal S512x2048 .bf16) (x4 : Vec Ideal S3x512 .f32) (x5 : Vec Ideal S3x512 .f32) (x6 : Vec Ideal S1x512 .f32) (x7 : Vec Ideal S1x512 .f32) (n : Fin 512) :
    first11 i x0 x1 x2 x3 x4 x5 x6 x7 (ix2 0 n) = 0 + ∑ r : Fin 512, DA i x0 x1 x2 x3 x4 x5 x6 x7 r n := by
  unfold first11
  by_cases hn : n.val < 256
  · rw [View.canon_cons_of_not_mem _ _ (by rw [Rect.mem_set_unit]; intro h; have h0 := (h 1).1; change 256 ≤ n.val at h0; omega)]
    have e : ix2 0 n = (Rect.unit (s := S1x512) ![0, 0] ![1, 256] inb_S1x512_S1x256_0_0).emb (ix2 0 (⟨n.val, hn⟩ : Fin 256)) := by
      funext a; apply Fin.ext
      match a with
      | ⟨0, _⟩ => rfl
      | ⟨1, _⟩ => show n.val = 0 + 1 * n.val; omega
    refine (congrArg (View.canon _ : Vec Ideal S1x512 .f32) e).trans ?_
    rw [View.canon_cons_emb]
    rw [part11L i x0 x1 x2 x3 x4 x5 x6 x7]
    refine congrArg (· + _) ?_
    refine (congrArg (View.canon [⟨Rect.unit ![0, 0] ![1, 512] inb_S1x512_S1x512_0_0, k0_pay10 (F := Ideal)⟩] : Vec Ideal S1x512 .f32) e.symm).trans ?_
    rw [View.canon_unit_zero (S := S1x512) hz2]
    pointwise [k0_pay10]
  · have e : ix2 0 n = (Rect.unit (s := S1x512) ![0, 256] ![1, 256] inb_S1x512_S1x256_0_256).emb (ix2 0 (⟨n.val - 256, by omega⟩ : Fin 256)) := by
      funext a; apply Fin.ext
      match a with
      | ⟨0, _⟩ => rfl
      | ⟨1, _⟩ => show n.val = 256 + 1 * (n.val - 256); omega
    refine (congrArg (View.canon _ : Vec Ideal S1x512 .f32) e).trans ?_
    rw [View.canon_cons_emb]
    rw [part11H i x0 x1 x2 x3 x4 x5 x6 x7]
    have e2 : (⟨256 + (n.val - 256), by omega⟩ : Fin 512) = n := Fin.ext (by show 256 + (n.val - 256) = n.val; omega)
    simp only [e2]
    refine congrArg (· + _) ?_
    refine (congrArg (View.canon _ : Vec Ideal S1x512 .f32) e.symm).trans ?_
    rw [View.canon_cons_of_not_mem _ _ (by rw [Rect.mem_set_unit]; intro h; have h0 := (h 1).2; change n.val < 0 + 256 at h0; omega)]
    rw [View.canon_unit_zero (S := S1x512) hz2]
    pointwise [k0_pay10]

theorem acc12_apply (i : grid0.Coords) (x0 : Vec Ideal S2x512x512 .bf16) (x1 : Vec Ideal S2x16x512 .bf16) (x2 : Vec Ideal S512x2048 .bf16) (x3 : Vec Ideal S512x2048 .bf16) (x4 : Vec Ideal S3x512 .f32) (x5 : Vec Ideal S3x512 .f32) (x6 : Vec Ideal S1x512 .f32) (x7 : Vec Ideal S1x512 .f32) (y : Vec Ideal S1x512 .f32) (n : Fin 512) :
    acc12 i x0 x1 x2 x3 x4 x5 x6 x7 y (ix2 0 n) = y (ix2 0 n) + ∑ r : Fin 512, DB i x0 x1 x2 x3 x4 x6 r n := by
  unfold acc12
  by_cases hn : n.val < 256
  · rw [View.canon_cons_of_not_mem _ _ (by rw [Rect.mem_set_unit]; intro h; have h0 := (h 1).1; change 256 ≤ n.val at h0; omega)]
    have e : ix2 0 n = (Rect.unit (s := S1x512) ![0, 0] ![1, 256] inb_S1x512_S1x256_0_0).emb (ix2 0 (⟨n.val, hn⟩ : Fin 256)) := by
      funext a; apply Fin.ext
      match a with
      | ⟨0, _⟩ => rfl
      | ⟨1, _⟩ => show n.val = 0 + 1 * n.val; omega
    refine (congrArg (View.canon _ : Vec Ideal S1x512 .f32) e).trans ?_
    rw [View.canon_cons_emb]
    rw [part12L i x0 x1 x2 x3 x4 x5 x6 x7]
    refine congrArg (· + _) (congrArg y ?_)
    exact e.symm
  · have e : ix2 0 n = (Rect.unit (s := S1x512) ![0, 256] ![1, 256] inb_S1x512_S1x256_0_256).emb (ix2 0 (⟨n.val - 256, by omega⟩ : Fin 256)) := by
      funext a; apply Fin.ext
      match a with
      | ⟨0, _⟩ => rfl
      | ⟨1, _⟩ => show n.val = 256 + 1 * (n.val - 256); omega
    refine (congrArg (View.canon _ : Vec Ideal S1x512 .f32) e).trans ?_
    rw [View.canon_cons_emb]
    rw [part12H i x0 x1 x2 x3 x4 x5 x6 x7]
    have e2 : (⟨256 + (n.val - 256), by omega⟩ : Fin 512) = n := Fin.ext (by show 256 + (n.val - 256) = n.val; omega)
    simp only [e2]
    refine congrArg (· + _) (congrArg y ?_)
    exact e.symm

theorem first12_apply (i : grid0.Coords) (x0 : Vec Ideal S2x512x512 .bf16) (x1 : Vec Ideal S2x16x512 .bf16) (x2 : Vec Ideal S512x2048 .bf16) (x3 : Vec Ideal S512x2048 .bf16) (x4 : Vec Ideal S3x512 .f32) (x5 : Vec Ideal S3x512 .f32) (x6 : Vec Ideal S1x512 .f32) (x7 : Vec Ideal S1x512 .f32) (n : Fin 512) :
    first12 i x0 x1 x2 x3 x4 x5 x6 x7 (ix2 0 n) = 0 + ∑ r : Fin 512, DB i x0 x1 x2 x3 x4 x6 r n := by
  unfold first12
  by_cases hn : n.val < 256
  · rw [View.canon_cons_of_not_mem _ _ (by rw [Rect.mem_set_unit]; intro h; have h0 := (h 1).1; change 256 ≤ n.val at h0; omega)]
    have e : ix2 0 n = (Rect.unit (s := S1x512) ![0, 0] ![1, 256] inb_S1x512_S1x256_0_0).emb (ix2 0 (⟨n.val, hn⟩ : Fin 256)) := by
      funext a; apply Fin.ext
      match a with
      | ⟨0, _⟩ => rfl
      | ⟨1, _⟩ => show n.val = 0 + 1 * n.val; omega
    refine (congrArg (View.canon _ : Vec Ideal S1x512 .f32) e).trans ?_
    rw [View.canon_cons_emb]
    rw [part12L i x0 x1 x2 x3 x4 x5 x6 x7]
    refine congrArg (· + _) ?_
    refine (congrArg (View.canon [⟨Rect.unit ![0, 0] ![1, 512] inb_S1x512_S1x512_0_0, k0_pay11 (F := Ideal)⟩] : Vec Ideal S1x512 .f32) e.symm).trans ?_
    rw [View.canon_unit_zero (S := S1x512) hz2]
    pointwise [k0_pay11]
  · have e : ix2 0 n = (Rect.unit (s := S1x512) ![0, 256] ![1, 256] inb_S1x512_S1x256_0_256).emb (ix2 0 (⟨n.val - 256, by omega⟩ : Fin 256)) := by
      funext a; apply Fin.ext
      match a with
      | ⟨0, _⟩ => rfl
      | ⟨1, _⟩ => show n.val = 256 + 1 * (n.val - 256); omega
    refine (congrArg (View.canon _ : Vec Ideal S1x512 .f32) e).trans ?_
    rw [View.canon_cons_emb]
    rw [part12H i x0 x1 x2 x3 x4 x5 x6 x7]
    have e2 : (⟨256 + (n.val - 256), by omega⟩ : Fin 512) = n := Fin.ext (by show 256 + (n.val - 256) = n.val; omega)
    simp only [e2]
    refine congrArg (· + _) ?_
    refine (congrArg (View.canon _ : Vec Ideal S1x512 .f32) e.symm).trans ?_
    rw [View.canon_cons_of_not_mem _ _ (by rw [Rect.mem_set_unit]; intro h; have h0 := (h 1).2; change n.val < 0 + 256 at h0; omega)]
    rw [View.canon_unit_zero (S := S1x512) hz2]
    pointwise [k0_pay11]

/-- What a point writes of half 0 of the gradient. -/
theorem dup0_apply (i : grid0.Coords) (x0 : Vec Ideal S2x512x512 .bf16) (x1 : Vec Ideal S2x16x512 .bf16) (x2 : Vec Ideal S512x2048 .bf16) (x3 : Vec Ideal S512x2048 .bf16) (x4 : Vec Ideal S3x512 .f32) (x5 : Vec Ideal S3x512 .f32) (x6 : Vec Ideal S1x512 .f32) (x7 : Vec Ideal S1x512 .f32) (r n : Fin 512) : dupBlk i x0 x1 x2 x3 x4 x5 x6 x7 (ix3 0 r n) = DA i x0 x1 x2 x3 x4 x5 x6 x7 r n := by
  unfold dupBlk
  by_cases hn : n.val < 256
  · rw [View.canon_cons_of_not_mem _ _ (by rw [Rect.mem_set_unit]; intro h; have h0 := (h 2).1; change 256 ≤ n.val at h0; omega)]
    rw [View.canon_cons_of_not_mem _ _ (by rw [Rect.mem_set_unit]; intro h; have h0 := (h 2).1; change 256 ≤ n.val at h0; omega)]
    rw [View.canon_cons_of_not_mem _ _ (by rw [Rect.mem_set_unit]; intro h; have h0 := (h 0).1; change 1 ≤ 0 at h0; omega)]
    have e : ix3 0 r n = (Rect.unit (s := S2x512x512) ![0, 0, 0] ![1, 512, 256] inb_S2x512x512_S1x512x256_0_0_0).emb (ix3 0 r (⟨n.val, hn⟩ : Fin 256)) := by
      funext a; apply Fin.ext
      match a with
      | ⟨0, _⟩ => rfl
      | ⟨1, _⟩ => show r.val = 0 + 1 * r.val; omega
      | ⟨2, _⟩ => show n.val = 0 + 1 * n.val; omega
    refine (congrArg (View.canon _ : Vec Ideal S2x512x512 .bf16) e).trans ?_
    rw [View.canon_cons_emb]
    refine Eq.trans ?_ (DAL i x0 x1 x2 x3 x4 x5 x6 x7 r ⟨n.val, hn⟩)
    have p : ∀ d a v58 v60 v64 v65 v70 v74, k0_pay25 (F := Ideal) d a v58 v60 1#32 v64 v65 v70 v74 (ix3 0 r ⟨n.val, hn⟩) = k0_pay23 d a v58 v60 1#32 v64 v65 v70 v74 (ix2 r ⟨n.val, hn⟩) := by
      intros; pointwise [k0_pay25]
    exact p _ _ _ _ _ _ _ _
  · rw [View.canon_cons_of_not_mem _ _ (by rw [Rect.mem_set_unit]; intro h; have h0 := (h 0).1; change 1 ≤ 0 at h0; omega)]
    have e : ix3 0 r n = (Rect.unit (s := S2x512x512) ![0, 0, 256] ![1, 512, 256] inb_S2x512x512_S1x512x256_0_0_256).emb (ix3 0 r (⟨n.val - 256, by omega⟩ : Fin 256)) := by
      funext a; apply Fin.ext
      match a with
      | ⟨0, _⟩ => rfl
      | ⟨1, _⟩ => show r.val = 0 + 1 * r.val; omega
      | ⟨2, _⟩ => show n.val = 256 + 1 * (n.val - 256); omega
    refine (congrArg (View.canon _ : Vec Ideal S2x512x512 .bf16) e).trans ?_
    rw [View.canon_cons_emb]
    have e2 : (⟨256 + (n.val - 256), by omega⟩ : Fin 512) = n := Fin.ext (by show 256 + (n.val - 256) = n.val; omega)
    refine Eq.trans ?_ ((DAH i x0 x1 x2 x3 x4 x5 x6 x7 r ⟨n.val - 256, by omega⟩).trans (by rw [e2]))
    have p : ∀ y : FVec Ideal S512x256 .bf16, k0_pay46 y (ix3 0 r ⟨n.val - 256, by omega⟩) = y (ix2 r ⟨n.val - 256, by omega⟩) := by intro y; pointwise [k0_pay46]
    exact p _

/-- What a point writes of half 1 of the gradient. -/
theorem dup1_apply (i : grid0.Coords) (x0 : Vec Ideal S2x512x512 .bf16) (x1 : Vec Ideal S2x16x512 .bf16) (x2 : Vec Ideal S512x2048 .bf16) (x3 : Vec Ideal S512x2048 .bf16) (x4 : Vec Ideal S3x512 .f32) (x5 : Vec Ideal S3x512 .f32) (x6 : Vec Ideal S1x512 .f32) (x7 : Vec Ideal S1x512 .f32) (r n : Fin 512) : dupBlk i x0 x1 x2 x3 x4 x5 x6 x7 (ix3 1 r n) = DB i x0 x1 x2 x3 x4 x6 r n := by
  unfold dupBlk
  by_cases hn : n.val < 256
  · rw [View.canon_cons_of_not_mem _ _ (by rw [Rect.mem_set_unit]; intro h; have h0 := (h 2).1; change 256 ≤ n.val at h0; omega)]
    rw [View.canon_cons_of_not_mem _ _ (by rw [Rect.mem_set_unit]; intro h; have h0 := (h 2).1; change 256 ≤ n.val at h0; omega)]
    have e : ix3 1 r n = (Rect.unit (s := S2x512x512) ![1, 0, 0] ![1, 512, 256] inb_S2x512x512_S1x512x256_1_0_0).emb (ix3 0 r (⟨n.val, hn⟩ : Fin 256)) := by
      funext a; apply Fin.ext
      match a with
      | ⟨0, _⟩ => rfl
      | ⟨1, _⟩ => show r.val = 0 + 1 * r.val; omega
      | ⟨2, _⟩ => show n.val = 0 + 1 * n.val; omega
    refine (congrArg (View.canon _ : Vec Ideal S2x512x512 .bf16) e).trans ?_
    rw [View.canon_cons_emb]
    refine Eq.trans ?_ (DBL i x0 x1 x2 x3 x4 x5 x6 x7 r ⟨n.val, hn⟩)
    have p : ∀ y : FVec Ideal S512x256 .bf16, k0_pay27 y (ix3 0 r ⟨n.val, hn⟩) = y (ix2 r ⟨n.val, hn⟩) := by intro y; pointwise [k0_pay27]
    exact p _
  · skip
    have e : ix3 1 r n = (Rect.unit (s := S2x512x512) ![1, 0, 256] ![1, 512, 256] inb_S2x512x512_S1x512x256_1_0_256).emb (ix3 0 r (⟨n.val - 256, by omega⟩ : Fin 256)) := by
      funext a; apply Fin.ext
      match a with
      | ⟨0, _⟩ => rfl
      | ⟨1, _⟩ => show r.val = 0 + 1 * r.val; omega
      | ⟨2, _⟩ => show n.val = 256 + 1 * (n.val - 256); omega
    refine (congrArg (View.canon _ : Vec Ideal S2x512x512 .bf16) e).trans ?_
    rw [View.canon_cons_emb]
    have e2 : (⟨256 + (n.val - 256), by omega⟩ : Fin 512) = n := Fin.ext (by show 256 + (n.val - 256) = n.val; omega)
    refine Eq.trans ?_ ((DBH i x0 x1 x2 x3 x4 x5 x6 x7 r ⟨n.val - 256, by omega⟩).trans (by rw [e2]))
    have p : ∀ y : FVec Ideal S512x256 .f32, k0_pay47 y (ix3 0 r ⟨n.val - 256, by omega⟩) = y (ix2 r ⟨n.val - 256, by omega⟩) := by intro y; pointwise [k0_pay47]
    exact p _

end Cert.Kernel3Ideal.ActRead

end
-- ==== Proof.ActBlocks.lean ====
module

public import proofs.«01_k».proof.Proof.Kit
public import proofs.«01_k».proof.Proof.ActRead

@[expose] public section

set_option maxRecDepth 16384

noncomputable section

namespace Cert.Kernel3Ideal.ActBlocks

open Gen ActPoint ActRead Idealize.ShloMosaic TcCoe Idealize.SL.Sem
open Idealize.ShloMosaic.Pipeline (Dat)

variable (m : (ℓ : Loc nD τ sig) → Buf (Elt Ideal) ℓ)

/-- The arguments at launch. -/
abbrev a0 (c : Dev nD) : Vec Ideal S2x8192x5632 .bf16 := m ((c : Thread nD τ).loc main_arg0)
@[inherit_doc a0] abbrev a1 (c : Dev nD) : Vec Ideal S8192x2048 .bf16 := m ((c : Thread nD τ).loc main_arg1)
@[inherit_doc a0] abbrev a2 (c : Dev nD) : Vec Ideal S5632x2048 .f32 := m ((c : Thread nD τ).loc main_arg2)
@[inherit_doc a0] abbrev a3 (c : Dev nD) : Vec Ideal S3x11264 .f32 := m ((c : Thread nD τ).loc main_arg3)
@[inherit_doc a0] abbrev a4 (c : Dev nD) : Vec Ideal S1x11264 .f32 := m ((c : Thread nD τ).loc main_arg4)

/-- The rows of a half with two rows of zeros before them. -/
def rowp (U : Vec Ideal S2x8192x5632 .bf16) (h : Fin 2) (s : ℕ) (c : Fin 5632) : EReal :=
  if hs : 2 ≤ s ∧ s < 8194 then U (ix3 h ⟨s - 2, by omega⟩ c) else 0
/-- One convolved row of half `h`; `q` is the column's place in the taps. -/
def conv (U : Vec Ideal S2x8192x5632 .bf16) (W : Vec Ideal S3x11264 .f32) (B : Vec Ideal S1x11264 .f32) (h : Fin 2) (s : ℕ) (c : Fin 5632) (q : Fin 11264) : EReal :=
  B (ix2 0 q) + W (ix2 0 q) * rowp U h s c + W (ix2 1 q) * rowp U h (s + 1) c + W (ix2 2 q) * rowp U h (s + 2) c
/-- The gradient of the activation. -/
def dact (X : Vec Ideal S8192x2048 .bf16) (D : Vec Ideal S5632x2048 .f32) (s : Fin 8192) (c : Fin 5632) : EReal := ∑ l : Fin 2048, X (ix2 s l) * D (ix2 c l)
/-- The gradient of the convolved first half. -/
def gA (U : Vec Ideal S2x8192x5632 .bf16) (X : Vec Ideal S8192x2048 .bf16) (D : Vec Ideal S5632x2048 .f32) (W : Vec Ideal S3x11264 .f32) (B : Vec Ideal S1x11264 .f32) (s : Fin 8192) (c : Fin 5632) : EReal :=
  daf (dact X D s c) (conv U W B 0 s.val c ⟨c.val, by omega⟩) (conv U W B 1 s.val c ⟨5632 + c.val, by omega⟩)
/-- The gradient of the convolved second half. -/
def gB (U : Vec Ideal S2x8192x5632 .bf16) (X : Vec Ideal S8192x2048 .bf16) (D : Vec Ideal S5632x2048 .f32) (W : Vec Ideal S3x11264 .f32) (B : Vec Ideal S1x11264 .f32) (s : Fin 8192) (c : Fin 5632) : EReal := dbf (dact X D s c) (conv U W B 0 s.val c ⟨c.val, by omega⟩)

/-- Which blocks a point reads and writes. -/
theorem idx (t : Fin cfg0.N) :
    (win0_0.index t 0 = 0 ∧ win0_0.index t 1 = t.val % 16 ∧ win0_0.index t 2 = t.val / 16)
    ∧ (win0_1.index t 0 = 0 ∧ win0_1.index t 1 = t.val % 16 * 32 - 1 ∧ win0_1.index t 2 = t.val / 16)
    ∧ (win0_2.index t 0 = t.val % 16 ∧ win0_2.index t 1 = 0)
    ∧ (win0_3.index t 0 = t.val / 16 ∧ win0_3.index t 1 = 0)
    ∧ (win0_4.index t 0 = 0 ∧ win0_4.index t 1 = t.val / 16)
    ∧ (win0_5.index t 0 = 0 ∧ win0_5.index t 1 = t.val / 16 + 11)
    ∧ (win0_6.index t 0 = 0 ∧ win0_6.index t 1 = t.val / 16)
    ∧ (win0_7.index t 0 = 0 ∧ win0_7.index t 1 = t.val / 16 + 11)
    ∧ (win0_8.index t 0 = 0 ∧ win0_8.index t 1 = t.val % 16 ∧ win0_8.index t 2 = t.val / 16)
    ∧ (win0_9.index t 0 = 0 ∧ win0_9.index t 1 = t.val / 16)
    ∧ (win0_10.index t 0 = 0 ∧ win0_10.index t 1 = t.val / 16)
    ∧ (win0_11.index t 0 = 0 ∧ win0_11.index t 1 = t.val / 16)
    ∧ (win0_12.index t 0 = 0 ∧ win0_12.index t 1 = t.val / 16)
    ∧ (grid0.coords t 1).val = t.val % 16 :=
  (by decide +kernel : ∀ t : Fin grid0.N,
    (win0_0.index t 0 = 0 ∧ win0_0.index t 1 = t.val % 16 ∧ win0_0.index t 2 = t.val / 16)
    ∧ (win0_1.index t 0 = 0 ∧ win0_1.index t 1 = t.val % 16 * 32 - 1 ∧ win0_1.index t 2 = t.val / 16)
    ∧ (win0_2.index t 0 = t.val % 16 ∧ win0_2.index t 1 = 0)
    ∧ (win0_3.index t 0 = t.val / 16 ∧ win0_3.index t 1 = 0)
    ∧ (win0_4.index t 0 = 0 ∧ win0_4.index t 1 = t.val / 16)
    ∧ (win0_5.index t 0 = 0 ∧ win0_5.index t 1 = t.val / 16 + 11)
    ∧ (win0_6.index t 0 = 0 ∧ win0_6.index t 1 = t.val / 16)
    ∧ (win0_7.index t 0 = 0 ∧ win0_7.index t 1 = t.val / 16 + 11)
    ∧ (win0_8.index t 0 = 0 ∧ win0_8.index t 1 = t.val % 16 ∧ win0_8.index t 2 = t.val / 16)
    ∧ (win0_9.index t 0 = 0 ∧ win0_9.index t 1 = t.val / 16)
    ∧ (win0_10.index t 0 = 0 ∧ win0_10.index t 1 = t.val / 16)
    ∧ (win0_11.index t 0 = 0 ∧ win0_11.index t 1 = t.val / 16)
    ∧ (win0_12.index t 0 = 0 ∧ win0_12.index t 1 = t.val / 16)
    ∧ (grid0.coords t 1).val = t.val % 16) t

/-- A point's number is below 176. -/
theorem lt176 (t : Fin cfg0.N) : t.val < 176 := lt_of_lt_of_eq t.isLt N_0

/-- The weight as the kernel finds it: rounded, which is nothing over the reals. -/
theorem V_w (c : Dev nD) : @Eq (FVec Ideal S5632x2048 .bf16) (V m c main_v0)
    (truncf .bf16 (m ((c : Thread nD τ).loc main_arg2) : FVec Ideal S5632x2048 .f32) bitsLt_bf16_f32) := by
  show StableHlo.after hostOps0 _ (Proc.devRef .tc main_v0) = _
  after_results

theorem blk0 (c : Dev nD) (t : Fin cfg0.N) (a : Fin 2) (r n : Fin 512) :
    (iblk m c 0 t : Vec Ideal S2x512x512 .bf16) (ix3 a r n) = (a0 m c)
      (ix3 a ⟨t.val % 16 * 512 + r.val, by have := lt176 t; omega⟩ ⟨t.val / 16 * 512 + n.val, by have := lt176 t; omega⟩) := by
  have ht := lt176 t
  have h := (idx t).1
  exact (congrFun (V_main_arg0 m c) _).trans (congrArg _ (Kit.e3 (Kit.at0 2 h.1 a) (Kit.at_ 512 h.2.1 r) (Kit.at_ 512 h.2.2 n)))

theorem blk1 (c : Dev nD) (t : Fin cfg0.N) (a : Fin 2) (r : Fin 16) (n : Fin 512) :
    (iblk m c 1 t : Vec Ideal S2x16x512 .bf16) (ix3 a r n) = (a0 m c)
      (ix3 a ⟨(t.val % 16 * 32 - 1) * 16 + r.val, by have := lt176 t; omega⟩ ⟨t.val / 16 * 512 + n.val, by have := lt176 t; omega⟩) := by
  have ht := lt176 t
  have h := (idx t).2.1
  exact (congrFun (V_main_arg0 m c) _).trans (congrArg _ (Kit.e3 (Kit.at0 2 h.1 a) (Kit.at_ 16 h.2.1 r) (Kit.at_ 512 h.2.2 n)))

theorem blk2 (c : Dev nD) (t : Fin cfg0.N) (r : Fin 512) (n : Fin 2048) :
    (iblk m c 2 t : Vec Ideal S512x2048 .bf16) (ix2 r n) = (a1 m c)
      (ix2 ⟨t.val % 16 * 512 + r.val, by have := lt176 t; omega⟩ n) := by
  have ht := lt176 t
  have h := (idx t).2.2.1
  exact (congrFun (V_main_arg1 m c) _).trans (congrArg _ (Kit.e2 (Kit.at_ 512 h.1 r) (Kit.at0 2048 h.2 n)))

theorem blk3 (c : Dev nD) (t : Fin cfg0.N) (n : Fin 512) (l : Fin 2048) :
    (iblk m c 3 t : Vec Ideal S512x2048 .bf16) (ix2 n l) = (a2 m c)
      (ix2 ⟨t.val / 16 * 512 + n.val, by have := lt176 t; omega⟩ l) := by
  have ht := lt176 t
  have h := (idx t).2.2.2.1
  unfold iblk
  rw [View.read_apply]
  show V m c main_v0 _ = _
  refine (congrFun (V_w m c) _).trans ?_
  have e : (((cfg0.win 3).blk t).view.emb (ix2 n l) : S5632x2048.Idx) = (ix2 ⟨t.val / 16 * 512 + n.val, by have := lt176 t; omega⟩ l) :=
    Kit.e2 (Kit.at_ 512 h.1 n) (Kit.at0 2048 h.2 l)
  exact congrArg (a2 m c) e

theorem blk4 (c : Dev nD) (t : Fin cfg0.N) (q : Fin 3) (n : Fin 512) :
    (iblk m c 4 t : Vec Ideal S3x512 .f32) (ix2 q n) = (a3 m c)
      (ix2 q ⟨t.val / 16 * 512 + n.val, by have := lt176 t; omega⟩) := by
  have ht := lt176 t
  have h := (idx t).2.2.2.2.1
  exact (congrFun (V_main_arg3 m c) _).trans (congrArg _ (Kit.e2 (Kit.at0 3 h.1 q) (Kit.at_ 512 h.2 n)))

theorem blk5 (c : Dev nD) (t : Fin cfg0.N) (q : Fin 3) (n : Fin 512) :
    (iblk m c 5 t : Vec Ideal S3x512 .f32) (ix2 q n) = (a3 m c)
      (ix2 q ⟨(t.val / 16 + 11) * 512 + n.val, by have := lt176 t; omega⟩) := by
  have ht := lt176 t
  have h := (idx t).2.2.2.2.2.1
  exact (congrFun (V_main_arg3 m c) _).trans (congrArg _ (Kit.e2 (Kit.at0 3 h.1 q) (Kit.at_ 512 h.2 n)))

theorem blk6 (c : Dev nD) (t : Fin cfg0.N) (q : Fin 1) (n : Fin 512) :
    (iblk m c 6 t : Vec Ideal S1x512 .f32) (ix2 q n) = (a4 m c)
      (ix2 q ⟨t.val / 16 * 512 + n.val, by have := lt176 t; omega⟩) := by
  have ht := lt176 t
  have h := (idx t).2.2.2.2.2.2.1
  exact (congrFun (V_main_arg4 m c) _).trans (congrArg _ (Kit.e2 (Kit.at0 1 h.1 q) (Kit.at_ 512 h.2 n)))

theorem blk7 (c : Dev nD) (t : Fin cfg0.N) (q : Fin 1) (n : Fin 512) :
    (iblk m c 7 t : Vec Ideal S1x512 .f32) (ix2 q n) = (a4 m c)
      (ix2 q ⟨(t.val / 16 + 11) * 512 + n.val, by have := lt176 t; omega⟩) := by
  have ht := lt176 t
  have h := (idx t).2.2.2.2.2.2.2.1
  exact (congrFun (V_main_arg4 m c) _).trans (congrArg _ (Kit.e2 (Kit.at0 1 h.1 q) (Kit.at_ 512 h.2 n)))

/-- The extended rows of a point are rows of half 0, with zeros before the first. -/
theorem ext_point0 (c : Dev nD) (t : Fin cfg0.N) (r : Fin 528) (hr : 14 ≤ r.val) (n : Fin 512) :
    ext (grid0.coords t) (iblk m c 0 t) (iblk m c 1 t) (ix3 0 r n) = rowp (a0 m c) 0 (t.val % 16 * 512 + (r.val - 14)) ⟨t.val / 16 * 512 + n.val, by have := lt176 t; omega⟩ := by
  have ht := lt176 t
  have h := (idx t).2.2.2.2.2.2.2.2.2.2.2.2.2
  unfold rowp
  by_cases h16 : 16 ≤ r.val
  · rw [ext_hi0 _ _ _ r ⟨r.val - 16, by omega⟩ (by show r.val = 16 + (r.val - 16); omega), blk0, dif_pos (by omega)]
    congr 1
    exact Kit.e3 rfl (by show t.val % 16 * 512 + (r.val - 16) = t.val % 16 * 512 + (r.val - 14) - 2; omega) rfl
  · rw [ext_lo0 _ _ _ r ⟨r.val, by omega⟩ rfl, h]
    by_cases h0 : t.val % 16 = 0
    · rw [if_pos h0, dif_neg (by omega)]
    · rw [if_neg h0, blk1, dif_pos (by omega)]
      congr 1
      exact Kit.e3 rfl (by show (t.val % 16 * 32 - 1) * 16 + r.val = t.val % 16 * 512 + (r.val - 14) - 2; omega) rfl

/-- A point's convolved rows of half 0 are those of the whole arrays. -/
theorem cv_point0 (c : Dev nD) (t : Fin cfg0.N) (r n : Fin 512) :
    cv (ext (grid0.coords t) (iblk m c 0 t) (iblk m c 1 t)) 0 (iblk m c 4 t) (iblk m c 6 t) r n
      = conv (a0 m c) (a3 m c) (a4 m c) 0 (t.val % 16 * 512 + r.val) ⟨t.val / 16 * 512 + n.val, by have := lt176 t; omega⟩ ⟨t.val / 16 * 512 + n.val, by have := lt176 t; omega⟩ := by
  have ht := lt176 t
  unfold cv conv
  rw [ext_point0 _ _ _ _ (by show 14 ≤ r.val + 14; omega), ext_point0 _ _ _ _ (by show 14 ≤ r.val + 15; omega), ext_point0 _ _ _ _ (by show 14 ≤ r.val + 16; omega),
    blk4, blk4, blk4, blk6]
  have e0 : t.val % 16 * 512 + (r.val + 14 - 14) = t.val % 16 * 512 + r.val := by omega
  have e1 : t.val % 16 * 512 + (r.val + 15 - 14) = t.val % 16 * 512 + r.val + 1 := by omega
  have e2 : t.val % 16 * 512 + (r.val + 16 - 14) = t.val % 16 * 512 + r.val + 2 := by omega

  simp only [e0, e1, e2]

/-- The extended rows of a point are rows of half 1, with zeros before the first. -/
theorem ext_point1 (c : Dev nD) (t : Fin cfg0.N) (r : Fin 528) (hr : 14 ≤ r.val) (n : Fin 512) :
    ext (grid0.coords t) (iblk m c 0 t) (iblk m c 1 t) (ix3 1 r n) = rowp (a0 m c) 1 (t.val % 16 * 512 + (r.val - 14)) ⟨t.val / 16 * 512 + n.val, by have := lt176 t; omega⟩ := by
  have ht := lt176 t
  have h := (idx t).2.2.2.2.2.2.2.2.2.2.2.2.2
  unfold rowp
  by_cases h16 : 16 ≤ r.val
  · rw [ext_hi1 _ _ _ r ⟨r.val - 16, by omega⟩ (by show r.val = 16 + (r.val - 16); omega), blk0, dif_pos (by omega)]
    congr 1
    exact Kit.e3 rfl (by show t.val % 16 * 512 + (r.val - 16) = t.val % 16 * 512 + (r.val - 14) - 2; omega) rfl
  · rw [ext_lo1 _ _ _ r ⟨r.val, by omega⟩ rfl, h]
    by_cases h0 : t.val % 16 = 0
    · rw [if_pos h0, dif_neg (by omega)]
    · rw [if_neg h0, blk1, dif_pos (by omega)]
      congr 1
      exact Kit.e3 rfl (by show (t.val % 16 * 32 - 1) * 16 + r.val = t.val % 16 * 512 + (r.val - 14) - 2; omega) rfl

/-- A point's convolved rows of half 1 are those of the whole arrays. -/
theorem cv_point1 (c : Dev nD) (t : Fin cfg0.N) (r n : Fin 512) :
    cv (ext (grid0.coords t) (iblk m c 0 t) (iblk m c 1 t)) 1 (iblk m c 5 t) (iblk m c 7 t) r n
      = conv (a0 m c) (a3 m c) (a4 m c) 1 (t.val % 16 * 512 + r.val) ⟨t.val / 16 * 512 + n.val, by have := lt176 t; omega⟩ ⟨5632 + (t.val / 16 * 512 + n.val), by have := lt176 t; omega⟩ := by
  have ht := lt176 t
  unfold cv conv
  rw [ext_point1 _ _ _ _ (by show 14 ≤ r.val + 14; omega), ext_point1 _ _ _ _ (by show 14 ≤ r.val + 15; omega), ext_point1 _ _ _ _ (by show 14 ≤ r.val + 16; omega),
    blk5, blk5, blk5, blk7]
  have e0 : t.val % 16 * 512 + (r.val + 14 - 14) = t.val % 16 * 512 + r.val := by omega
  have e1 : t.val % 16 * 512 + (r.val + 15 - 14) = t.val % 16 * 512 + r.val + 1 := by omega
  have e2 : t.val % 16 * 512 + (r.val + 16 - 14) = t.val % 16 * 512 + r.val + 2 := by omega
  have e3 : (t.val / 16 + 11) * 512 + n.val = 5632 + (t.val / 16 * 512 + n.val) := by omega
  simp only [e0, e1, e2, e3]

theorem dact_point (c : Dev nD) (t : Fin cfg0.N) (r n : Fin 512) :
    dactf (iblk m c 2 t) (iblk m c 3 t) r n = dact (a1 m c) (a2 m c) ⟨t.val % 16 * 512 + r.val, by have := lt176 t; omega⟩ ⟨t.val / 16 * 512 + n.val, by have := lt176 t; omega⟩ := by
  unfold dactf dact
  refine Finset.sum_congr rfl fun l _ => ?_
  rw [blk2, blk3]

/-- A point's gradient of the first half is that of the whole arrays. -/
theorem DA_point (c : Dev nD) (t : Fin cfg0.N) (r n : Fin 512) :
    DA (grid0.coords t) (iblk m c 0 t) (iblk m c 1 t) (iblk m c 2 t) (iblk m c 3 t) (iblk m c 4 t) (iblk m c 5 t) (iblk m c 6 t) (iblk m c 7 t) r n = gA (a0 m c) (a1 m c) (a2 m c) (a3 m c) (a4 m c) ⟨t.val % 16 * 512 + r.val, by have := lt176 t; omega⟩ ⟨t.val / 16 * 512 + n.val, by have := lt176 t; omega⟩ := by
  unfold DA gA
  rw [dact_point, cv_point0, cv_point1]

/-- A point's gradient of the second half is that of the whole arrays. -/
theorem DB_point (c : Dev nD) (t : Fin cfg0.N) (r n : Fin 512) :
    DB (grid0.coords t) (iblk m c 0 t) (iblk m c 1 t) (iblk m c 2 t) (iblk m c 3 t) (iblk m c 4 t) (iblk m c 6 t) r n = gB (a0 m c) (a1 m c) (a2 m c) (a3 m c) (a4 m c) ⟨t.val % 16 * 512 + r.val, by have := lt176 t; omega⟩ ⟨t.val / 16 * 512 + n.val, by have := lt176 t; omega⟩ := by
  unfold DB gB
  rw [dact_point, cv_point0]

end Cert.Kernel3Ideal.ActBlocks

end
-- ==== Proof.ActArray.lean ====
module

public import proofs.«01_k».proof.Proof.Kit
public import proofs.«01_k».proof.Proof.ActBlocks

@[expose] public section

set_option maxRecDepth 16384

noncomputable section

namespace Cert.Kernel3Ideal.ActArray

open Gen ActPoint ActRead ActBlocks Idealize.ShloMosaic TcCoe Idealize.SL.Sem
open Idealize.ShloMosaic.Pipeline (Dat)

variable (m : (ℓ : Loc nD τ sig) → Buf (Elt Ideal) ℓ)

/-- The first result: the gradients of both convolved halves. -/
def G8 (U : Vec Ideal S2x8192x5632 .bf16) (X : Vec Ideal S8192x2048 .bf16) (D : Vec Ideal S5632x2048 .f32) (W : Vec Ideal S3x11264 .f32) (B : Vec Ideal S1x11264 .f32) : Vec Ideal S2x8192x5632 .bf16 := fun j => if (j 0).val = 0 then gA U X D W B (j 1) (j 2) else gB U X D W B (j 1) (j 2)
/-- One summand of the tap gradients of the first half. -/
def tA (U : Vec Ideal S2x8192x5632 .bf16) (X : Vec Ideal S8192x2048 .bf16) (D : Vec Ideal S5632x2048 .f32) (W : Vec Ideal S3x11264 .f32) (B : Vec Ideal S1x11264 .f32) (q : ℕ) (c : Fin 5632) (s : Fin 8192) : EReal := gA U X D W B s c * rowp U 0 (s.val + q) c
/-- One summand of the tap gradients of the second half. -/
def tB (U : Vec Ideal S2x8192x5632 .bf16) (X : Vec Ideal S8192x2048 .bf16) (D : Vec Ideal S5632x2048 .f32) (W : Vec Ideal S3x11264 .f32) (B : Vec Ideal S1x11264 .f32) (q : ℕ) (c : Fin 5632) (s : Fin 8192) : EReal := gB U X D W B s c * rowp U 1 (s.val + q) c
/-- The tap gradients of the first half. -/
def G9 (U : Vec Ideal S2x8192x5632 .bf16) (X : Vec Ideal S8192x2048 .bf16) (D : Vec Ideal S5632x2048 .f32) (W : Vec Ideal S3x11264 .f32) (B : Vec Ideal S1x11264 .f32) : Vec Ideal S3x5632 .f32 := fun j => ∑ s : Fin 8192, tA U X D W B (j 0).val (j 1) s
/-- The tap gradients of the second half. -/
def G10 (U : Vec Ideal S2x8192x5632 .bf16) (X : Vec Ideal S8192x2048 .bf16) (D : Vec Ideal S5632x2048 .f32) (W : Vec Ideal S3x11264 .f32) (B : Vec Ideal S1x11264 .f32) : Vec Ideal S3x5632 .f32 := fun j => ∑ s : Fin 8192, tB U X D W B (j 0).val (j 1) s
/-- The bias gradient of the first half. -/
def G11 (U : Vec Ideal S2x8192x5632 .bf16) (X : Vec Ideal S8192x2048 .bf16) (D : Vec Ideal S5632x2048 .f32) (W : Vec Ideal S3x11264 .f32) (B : Vec Ideal S1x11264 .f32) : Vec Ideal S1x5632 .f32 := fun j => ∑ s : Fin 8192, gA U X D W B s (j 1)
/-- The bias gradient of the second half. -/
def G12 (U : Vec Ideal S2x8192x5632 .bf16) (X : Vec Ideal S8192x2048 .bf16) (D : Vec Ideal S5632x2048 .f32) (W : Vec Ideal S3x11264 .f32) (B : Vec Ideal S1x11264 .f32) : Vec Ideal S1x5632 .f32 := fun j => ∑ s : Fin 8192, gB U X D W B s (j 1)

/-- The gradient block a point leaves. -/
theorem outs8 (c : Dev nD) (t : Fin cfg0.N) : (outsAt0 m c t.val t.isLt).1 = dupBlk (grid0.coords t) (iblk m c 0 t) (iblk m c 1 t) (iblk m c 2 t) (iblk m c 3 t) (iblk m c 4 t) (iblk m c 5 t) (iblk m c 6 t) (iblk m c 7 t) := by
  by_cases h0 : t.val % 16 = 0
  · rw [outsAt0_A m c t h0]
    dsimp only
    rw [out8_A]
  · rw [outsAt0_B m c t h0]
    dsimp only
    rw [out8_B]

/-- What a point writes back of the first result is its block of `G8`. -/
theorem flushed_eq8 (c : Dev nD) (t : Fin cfg0.N) : (dats m 0 c).flushed 8 t = ((cfg0.win 8).blk t).view.read (Elt Ideal) (G8 (m ((c : Thread nD τ).loc main_arg0)) (m ((c : Thread nD τ).loc main_arg1)) (m ((c : Thread nD τ).loc main_arg2)) (m ((c : Thread nD τ).loc main_arg3)) (m ((c : Thread nD τ).loc main_arg4))) := by
  have h := (idx t).2.2.2.2.2.2.2.2.1
  have ht := lt176 t
  rw [Value.flushed8, outs8]
  funext (j : S2x512x512.Idx)
  rw [View.read_apply]
  obtain ⟨a, r, n, rfl⟩ : ∃ (a : Fin 2) (r : Fin 512) (n : Fin 512), j = ix3 a r n := ⟨j 0, j 1, j 2, by
    funext b; match b with | ⟨0, _⟩ => rfl | ⟨1, _⟩ => rfl | ⟨2, _⟩ => rfl⟩
  have e : (((cfg0.win 8).blk t).view.emb (ix3 a r n) : S2x8192x5632.Idx) = ix3 a ⟨t.val % 16 * 512 + r.val, by omega⟩ ⟨t.val / 16 * 512 + n.val, by omega⟩ := by
    exact Kit.e3 (Kit.at0 2 h.1 a) (Kit.at_ 512 h.2.1 r) (Kit.at_ 512 h.2.2 n)
  refine Eq.trans ?_ (congrArg (G8 (m ((c : Thread nD τ).loc main_arg0)) (m ((c : Thread nD τ).loc main_arg1)) (m ((c : Thread nD τ).loc main_arg2)) (m ((c : Thread nD τ).loc main_arg3)) (m ((c : Thread nD τ).loc main_arg4))) e).symm
  show dupBlk (grid0.coords t) (iblk m c 0 t) (iblk m c 1 t) (iblk m c 2 t) (iblk m c 3 t) (iblk m c 4 t) (iblk m c 5 t) (iblk m c 6 t) (iblk m c 7 t) (ix3 a r n) = _
  match a with
  | ⟨0, _⟩ => exact (dup0_apply _ _ _ _ _ _ _ _ _ r n).trans (DA_point m c t r n)
  | ⟨1, _⟩ => exact (dup1_apply _ _ _ _ _ _ _ _ _ r n).trans (DB_point m c t r n)

/-- An index of the first result lies in the block of the point that owns its rows and columns. -/
theorem cover8 (i : S2x8192x5632.Idx) : ∃ t : Fin cfg0.N, (cfg0.win 8).flush t = true ∧ i ∈ ((cfg0.win 8).blk t).view.set := by
  have h0 : (i 0).val < 2 := (i 0).isLt
  have h1 : (i 1).val < 8192 := (i 1).isLt
  have h2 : (i 2).val < 5632 := (i 2).isLt
  obtain ⟨t, ht⟩ : ∃ t : Fin cfg0.N, t.val = (i 2).val / 512 * 16 + (i 1).val / 512 :=
    ⟨⟨_, by show _ < grid0.N; rw [Gen.N_0]; omega⟩, rfl⟩
  have h := (idx t).2.2.2.2.2.2.2.2.1
  refine ⟨t, flush0_8 t, ?_⟩
  show i ∈ ((View.whole main_v1_0).slice (win0_8.rect t)).set
  rw [View.set_slice_whole, Rect.mem_set_unit]
  intro a
  match a with
  | ⟨0, _⟩ => exact Kit.mem 2 (i 0).val h.1 (by omega)
  | ⟨1, _⟩ => exact Kit.mem 512 (i 1).val h.2.1 (by omega)
  | ⟨2, _⟩ => exact Kit.mem 512 (i 2).val h.2.2 (by omega)

/-- The first result array after the run. -/
theorem final8 (c : Dev nD) : (dats m 0 c).arrAt 8 cfg0.N = G8 (m ((c : Thread nD τ).loc main_arg0)) (m ((c : Thread nD τ).loc main_arg1)) (m ((c : Thread nD τ).loc main_arg2)) (m ((c : Thread nD τ).loc main_arg3)) (m ((c : Thread nD τ).loc main_arg4)) :=
  (dats m 0 c).arrAt_eq_of_cover 8 _ (fun t _ => flushed_eq8 m c t) cover8

/-- One point's share of output 9. -/
def term9 (c : Dev nD) (t : Fin cfg0.N) : S3x512.Idx → EReal := fun i => ∑ r : Fin 512, DA (grid0.coords t) (iblk m c 0 t) (iblk m c 1 t) (iblk m c 2 t) (iblk m c 3 t) (iblk m c 4 t) (iblk m c 5 t) (iblk m c 6 t) (iblk m c 7 t) r (i 1) * ext (grid0.coords t) (iblk m c 0 t) (iblk m c 1 t) (ix3 0 ⟨r.val + 14 + (i 0).val, by have h3 : (i 0).val < 3 := (i 0).isLt; omega⟩ (i 1))

theorem acc9_first (c : Dev nD) (t : Fin cfg0.N) (h0 : t.val % 16 = 0) (i : S3x512.Idx) :
    (outsAt0 m c t.val t.isLt).2.1 i = 0 + term9 m c t i := by
  rw [outsAt0_A m c t h0]
  dsimp only
  rw [out9_A]
  obtain ⟨q, n, rfl⟩ := Kit.pair i

  exact first9_apply _ _ _ _ _ _ _ _ _ q n

theorem acc9_next (c : Dev nD) (t : Fin cfg0.N) (h0 : ¬t.val % 16 = 0) (i : S3x512.Idx) :
    (outsAt0 m c t.val t.isLt).2.1 i
      = (outsAt0 m c (t.val - 1) (Nat.lt_of_le_of_lt (Nat.sub_le _ _) t.isLt)).2.1 i + term9 m c t i := by
  rw [outsAt0_B m c t h0]
  dsimp only
  rw [out9_B]
  obtain ⟨q, n, rfl⟩ := Kit.pair i

  exact acc9_apply _ _ _ _ _ _ _ _ _ _ q n

theorem term9_apply (c : Dev nD) (t : Fin cfg0.N) (q : Fin 3) (n : Fin 512) :
    term9 m c t (ix2 q n) = ∑ r : Fin 512, tA (m ((c : Thread nD τ).loc main_arg0)) (m ((c : Thread nD τ).loc main_arg1)) (m ((c : Thread nD τ).loc main_arg2)) (m ((c : Thread nD τ).loc main_arg3)) (m ((c : Thread nD τ).loc main_arg4)) q.val ⟨t.val / 16 * 512 + n.val, by have := lt176 t; omega⟩ ⟨t.val % 16 * 512 + r.val, by have := lt176 t; omega⟩ := by
  unfold term9 tA
  refine Finset.sum_congr rfl fun r _ => ?_
  show DA (grid0.coords t) (iblk m c 0 t) (iblk m c 1 t) (iblk m c 2 t) (iblk m c 3 t) (iblk m c 4 t) (iblk m c 5 t) (iblk m c 6 t) (iblk m c 7 t) r n * ext (grid0.coords t) (iblk m c 0 t) (iblk m c 1 t) (ix3 0 ⟨r.val + 14 + q.val, by omega⟩ n) = _
  rw [DA_point, ext_point0 _ _ _ _ (by show 14 ≤ r.val + 14 + q.val; omega)]
  have e : t.val % 16 * 512 + (r.val + 14 + q.val - 14) = t.val % 16 * 512 + r.val + q.val := by omega
  simp only [e]

/-- Output 9 at the end of a column block's points. -/
theorem acc9_last (c : Dev nD) (t : Fin cfg0.N) (h : t.val % 16 = 15) (q : Fin 3) (n : Fin 512) :
    (outsAt0 m c t.val t.isLt).2.1 (ix2 q n) = ∑ s : Fin 8192, tA (m ((c : Thread nD τ).loc main_arg0)) (m ((c : Thread nD τ).loc main_arg1)) (m ((c : Thread nD τ).loc main_arg2)) (m ((c : Thread nD τ).loc main_arg3)) (m ((c : Thread nD τ).loc main_arg4)) q.val ⟨t.val / 16 * 512 + n.val, by have := lt176 t; omega⟩ s := by
  have ht := lt176 t
  have key := Pipeline.eq_sum_fin_of_reset_step_apply_of_flush (fun n h => (outsAt0 m c n h).2.1) 16 (fun _ => (0 : EReal)) (term9 m c)
    (acc9_first m c) (acc9_next m c) t h (ix2 q n)
  refine key.trans ?_
  rw [zero_add]
  refine Eq.trans ?_ (Fin.sum_mul_add_fin 16 512 (tA (m ((c : Thread nD τ).loc main_arg0)) (m ((c : Thread nD τ).loc main_arg1)) (m ((c : Thread nD τ).loc main_arg2)) (m ((c : Thread nD τ).loc main_arg3)) (m ((c : Thread nD τ).loc main_arg4)) q.val ⟨t.val / 16 * 512 + n.val, by have := lt176 t; omega⟩))
  refine Finset.sum_congr rfl fun s _ => ?_
  rw [term9_apply]
  refine Finset.sum_congr rfl fun l _ => ?_
  have e : (16 * (t.val / 16) + s.val) % 16 = s.val := by omega
  have e' : (16 * (t.val / 16) + s.val) / 16 = t.val / 16 := by omega
  simp only [e, e']

theorem flushed_eq9 (c : Dev nD) (t : Fin cfg0.N) (hf : (cfg0.win 9).flush t = true) : (dats m 0 c).flushed 9 t =
    ((cfg0.win 9).blk t).view.read (Elt Ideal) (G9 (m ((c : Thread nD τ).loc main_arg0)) (m ((c : Thread nD τ).loc main_arg1)) (m ((c : Thread nD τ).loc main_arg2)) (m ((c : Thread nD τ).loc main_arg3)) (m ((c : Thread nD τ).loc main_arg4))) := by
  have h7 : t.val % 16 = 15 := (flush0_9 t).mp hf
  have h := (idx t).2.2.2.2.2.2.2.2.2.1
  have ht := lt176 t
  rw [Value.flushed9]
  funext (j : S3x512.Idx)
  rw [View.read_apply]
  obtain ⟨q, n, rfl⟩ := Kit.pair j

  have e : (((cfg0.win 9).blk t).view.emb (ix2 q n) : S3x5632.Idx) = ix2 q ⟨t.val / 16 * 512 + n.val, by omega⟩ :=
    Kit.e2 (Kit.at0 3 h.1 q) (Kit.at_ 512 h.2 n)
  refine Eq.trans ?_ (congrArg (G9 (m ((c : Thread nD τ).loc main_arg0)) (m ((c : Thread nD τ).loc main_arg1)) (m ((c : Thread nD τ).loc main_arg2)) (m ((c : Thread nD τ).loc main_arg3)) (m ((c : Thread nD τ).loc main_arg4))) e).symm
  exact acc9_last m c t h7 q n

theorem cover9 (i : S3x5632.Idx) : ∃ t : Fin cfg0.N, (cfg0.win 9).flush t = true ∧ i ∈ ((cfg0.win 9).blk t).view.set := by
  have h0 : (i 0).val < 3 := (i 0).isLt
  have h1 : (i 1).val < 5632 := (i 1).isLt
  obtain ⟨t, ht⟩ : ∃ t : Fin cfg0.N, t.val = (i 1).val / 512 * 16 + 15 :=
    ⟨⟨_, by show _ < grid0.N; rw [Gen.N_0]; omega⟩, rfl⟩
  have h := (idx t).2.2.2.2.2.2.2.2.2.1
  refine ⟨t, (flush0_9 t).mpr (by omega), ?_⟩
  exact Kit.cov (Fin.forall_fin_two.2 ⟨Kit.mem 3 _ h.1 (by omega), Kit.mem 512 _ h.2 (by omega)⟩)

/-- Output 9 after the run. -/
theorem final9 (c : Dev nD) : (dats m 0 c).arrAt 9 cfg0.N = G9 (m ((c : Thread nD τ).loc main_arg0)) (m ((c : Thread nD τ).loc main_arg1)) (m ((c : Thread nD τ).loc main_arg2)) (m ((c : Thread nD τ).loc main_arg3)) (m ((c : Thread nD τ).loc main_arg4)) :=
  (dats m 0 c).arrAt_eq_of_cover 9 _ (flushed_eq9 m c) cover9

/-- One point's share of output 10. -/
def term10 (c : Dev nD) (t : Fin cfg0.N) : S3x512.Idx → EReal := fun i => ∑ r : Fin 512, DB (grid0.coords t) (iblk m c 0 t) (iblk m c 1 t) (iblk m c 2 t) (iblk m c 3 t) (iblk m c 4 t) (iblk m c 6 t) r (i 1) * ext (grid0.coords t) (iblk m c 0 t) (iblk m c 1 t) (ix3 1 ⟨r.val + 14 + (i 0).val, by have h3 : (i 0).val < 3 := (i 0).isLt; omega⟩ (i 1))

theorem acc10_first (c : Dev nD) (t : Fin cfg0.N) (h0 : t.val % 16 = 0) (i : S3x512.Idx) :
    (outsAt0 m c t.val t.isLt).2.2.1 i = 0 + term10 m c t i := by
  rw [outsAt0_A m c t h0]
  dsimp only
  rw [out10_A]
  obtain ⟨q, n, rfl⟩ := Kit.pair i

  exact first10_apply _ _ _ _ _ _ _ _ _ q n

theorem acc10_next (c : Dev nD) (t : Fin cfg0.N) (h0 : ¬t.val % 16 = 0) (i : S3x512.Idx) :
    (outsAt0 m c t.val t.isLt).2.2.1 i
      = (outsAt0 m c (t.val - 1) (Nat.lt_of_le_of_lt (Nat.sub_le _ _) t.isLt)).2.2.1 i + term10 m c t i := by
  rw [outsAt0_B m c t h0]
  dsimp only
  rw [out10_B]
  obtain ⟨q, n, rfl⟩ := Kit.pair i

  exact acc10_apply _ _ _ _ _ _ _ _ _ _ q n

theorem term10_apply (c : Dev nD) (t : Fin cfg0.N) (q : Fin 3) (n : Fin 512) :
    term10 m c t (ix2 q n) = ∑ r : Fin 512, tB (m ((c : Thread nD τ).loc main_arg0)) (m ((c : Thread nD τ).loc main_arg1)) (m ((c : Thread nD τ).loc main_arg2)) (m ((c : Thread nD τ).loc main_arg3)) (m ((c : Thread nD τ).loc main_arg4)) q.val ⟨t.val / 16 * 512 + n.val, by have := lt176 t; omega⟩ ⟨t.val % 16 * 512 + r.val, by have := lt176 t; omega⟩ := by
  unfold term10 tB
  refine Finset.sum_congr rfl fun r _ => ?_
  show DB (grid0.coords t) (iblk m c 0 t) (iblk m c 1 t) (iblk m c 2 t) (iblk m c 3 t) (iblk m c 4 t) (iblk m c 6 t) r n * ext (grid0.coords t) (iblk m c 0 t) (iblk m c 1 t) (ix3 1 ⟨r.val + 14 + q.val, by omega⟩ n) = _
  rw [DB_point, ext_point1 _ _ _ _ (by show 14 ≤ r.val + 14 + q.val; omega)]
  have e : t.val % 16 * 512 + (r.val + 14 + q.val - 14) = t.val % 16 * 512 + r.val + q.val := by omega
  simp only [e]

/-- Output 10 at the end of a column block's points. -/
theorem acc10_last (c : Dev nD) (t : Fin cfg0.N) (h : t.val % 16 = 15) (q : Fin 3) (n : Fin 512) :
    (outsAt0 m c t.val t.isLt).2.2.1 (ix2 q n) = ∑ s : Fin 8192, tB (m ((c : Thread nD τ).loc main_arg0)) (m ((c : Thread nD τ).loc main_arg1)) (m ((c : Thread nD τ).loc main_arg2)) (m ((c : Thread nD τ).loc main_arg3)) (m ((c : Thread nD τ).loc main_arg4)) q.val ⟨t.val / 16 * 512 + n.val, by have := lt176 t; omega⟩ s := by
  have ht := lt176 t
  have key := Pipeline.eq_sum_fin_of_reset_step_apply_of_flush (fun n h => (outsAt0 m c n h).2.2.1) 16 (fun _ => (0 : EReal)) (term10 m c)
    (acc10_first m c) (acc10_next m c) t h (ix2 q n)
  refine key.trans ?_
  rw [zero_add]
  refine Eq.trans ?_ (Fin.sum_mul_add_fin 16 512 (tB (m ((c : Thread nD τ).loc main_arg0)) (m ((c : Thread nD τ).loc main_arg1)) (m ((c : Thread nD τ).loc main_arg2)) (m ((c : Thread nD τ).loc main_arg3)) (m ((c : Thread nD τ).loc main_arg4)) q.val ⟨t.val / 16 * 512 + n.val, by have := lt176 t; omega⟩))
  refine Finset.sum_congr rfl fun s _ => ?_
  rw [term10_apply]
  refine Finset.sum_congr rfl fun l _ => ?_
  have e : (16 * (t.val / 16) + s.val) % 16 = s.val := by omega
  have e' : (16 * (t.val / 16) + s.val) / 16 = t.val / 16 := by omega
  simp only [e, e']

theorem flushed_eq10 (c : Dev nD) (t : Fin cfg0.N) (hf : (cfg0.win 10).flush t = true) : (dats m 0 c).flushed 10 t =
    ((cfg0.win 10).blk t).view.read (Elt Ideal) (G10 (m ((c : Thread nD τ).loc main_arg0)) (m ((c : Thread nD τ).loc main_arg1)) (m ((c : Thread nD τ).loc main_arg2)) (m ((c : Thread nD τ).loc main_arg3)) (m ((c : Thread nD τ).loc main_arg4))) := by
  have h7 : t.val % 16 = 15 := (flush0_10 t).mp hf
  have h := (idx t).2.2.2.2.2.2.2.2.2.2.1
  have ht := lt176 t
  rw [Value.flushed10]
  funext (j : S3x512.Idx)
  rw [View.read_apply]
  obtain ⟨q, n, rfl⟩ := Kit.pair j

  have e : (((cfg0.win 10).blk t).view.emb (ix2 q n) : S3x5632.Idx) = ix2 q ⟨t.val / 16 * 512 + n.val, by omega⟩ :=
    Kit.e2 (Kit.at0 3 h.1 q) (Kit.at_ 512 h.2 n)
  refine Eq.trans ?_ (congrArg (G10 (m ((c : Thread nD τ).loc main_arg0)) (m ((c : Thread nD τ).loc main_arg1)) (m ((c : Thread nD τ).loc main_arg2)) (m ((c : Thread nD τ).loc main_arg3)) (m ((c : Thread nD τ).loc main_arg4))) e).symm
  exact acc10_last m c t h7 q n

theorem cover10 (i : S3x5632.Idx) : ∃ t : Fin cfg0.N, (cfg0.win 10).flush t = true ∧ i ∈ ((cfg0.win 10).blk t).view.set := by
  have h0 : (i 0).val < 3 := (i 0).isLt
  have h1 : (i 1).val < 5632 := (i 1).isLt
  obtain ⟨t, ht⟩ : ∃ t : Fin cfg0.N, t.val = (i 1).val / 512 * 16 + 15 :=
    ⟨⟨_, by show _ < grid0.N; rw [Gen.N_0]; omega⟩, rfl⟩
  have h := (idx t).2.2.2.2.2.2.2.2.2.2.1
  refine ⟨t, (flush0_10 t).mpr (by omega), ?_⟩
  exact Kit.cov (Fin.forall_fin_two.2 ⟨Kit.mem 3 _ h.1 (by omega), Kit.mem 512 _ h.2 (by omega)⟩)

/-- Output 10 after the run. -/
theorem final10 (c : Dev nD) : (dats m 0 c).arrAt 10 cfg0.N = G10 (m ((c : Thread nD τ).loc main_arg0)) (m ((c : Thread nD τ).loc main_arg1)) (m ((c : Thread nD τ).loc main_arg2)) (m ((c : Thread nD τ).loc main_arg3)) (m ((c : Thread nD τ).loc main_arg4)) :=
  (dats m 0 c).arrAt_eq_of_cover 10 _ (flushed_eq10 m c) cover10

/-- One point's share of output 11. -/
def term11 (c : Dev nD) (t : Fin cfg0.N) : S1x512.Idx → EReal := fun i => ∑ r : Fin 512, DA (grid0.coords t) (iblk m c 0 t) (iblk m c 1 t) (iblk m c 2 t) (iblk m c 3 t) (iblk m c 4 t) (iblk m c 5 t) (iblk m c 6 t) (iblk m c 7 t) r (i 1)

theorem acc11_first (c : Dev nD) (t : Fin cfg0.N) (h0 : t.val % 16 = 0) (i : S1x512.Idx) :
    (outsAt0 m c t.val t.isLt).2.2.2.1 i = 0 + term11 m c t i := by
  rw [outsAt0_A m c t h0]
  dsimp only
  rw [out11_A]
  obtain ⟨q, n, rfl⟩ := Kit.pair i
  obtain rfl : q = 0 := Subsingleton.elim _ _
  exact first11_apply _ _ _ _ _ _ _ _ _ n

theorem acc11_next (c : Dev nD) (t : Fin cfg0.N) (h0 : ¬t.val % 16 = 0) (i : S1x512.Idx) :
    (outsAt0 m c t.val t.isLt).2.2.2.1 i
      = (outsAt0 m c (t.val - 1) (Nat.lt_of_le_of_lt (Nat.sub_le _ _) t.isLt)).2.2.2.1 i + term11 m c t i := by
  rw [outsAt0_B m c t h0]
  dsimp only
  rw [out11_B]
  obtain ⟨q, n, rfl⟩ := Kit.pair i
  obtain rfl : q = 0 := Subsingleton.elim _ _
  exact acc11_apply _ _ _ _ _ _ _ _ _ _ n

theorem term11_apply (c : Dev nD) (t : Fin cfg0.N) (n : Fin 512) :
    term11 m c t (ix2 0 n) = ∑ r : Fin 512, gA (m ((c : Thread nD τ).loc main_arg0)) (m ((c : Thread nD τ).loc main_arg1)) (m ((c : Thread nD τ).loc main_arg2)) (m ((c : Thread nD τ).loc main_arg3)) (m ((c : Thread nD τ).loc main_arg4)) ⟨t.val % 16 * 512 + r.val, by have := lt176 t; omega⟩ ⟨t.val / 16 * 512 + n.val, by have := lt176 t; omega⟩ := by
  unfold term11
  refine Finset.sum_congr rfl fun r _ => ?_
  show DA (grid0.coords t) (iblk m c 0 t) (iblk m c 1 t) (iblk m c 2 t) (iblk m c 3 t) (iblk m c 4 t) (iblk m c 5 t) (iblk m c 6 t) (iblk m c 7 t) r n = _
  rw [DA_point]

/-- Output 11 at the end of a column block's points. -/
theorem acc11_last (c : Dev nD) (t : Fin cfg0.N) (h : t.val % 16 = 15) (n : Fin 512) :
    (outsAt0 m c t.val t.isLt).2.2.2.1 (ix2 0 n) = ∑ s : Fin 8192, gA (m ((c : Thread nD τ).loc main_arg0)) (m ((c : Thread nD τ).loc main_arg1)) (m ((c : Thread nD τ).loc main_arg2)) (m ((c : Thread nD τ).loc main_arg3)) (m ((c : Thread nD τ).loc main_arg4)) s ⟨t.val / 16 * 512 + n.val, by have := lt176 t; omega⟩ := by
  have ht := lt176 t
  have key := Pipeline.eq_sum_fin_of_reset_step_apply_of_flush (fun n h => (outsAt0 m c n h).2.2.2.1) 16 (fun _ => (0 : EReal)) (term11 m c)
    (acc11_first m c) (acc11_next m c) t h (ix2 0 n)
  refine key.trans ?_
  rw [zero_add]
  refine Eq.trans ?_ (Fin.sum_mul_add_fin 16 512 (fun s => gA (m ((c : Thread nD τ).loc main_arg0)) (m ((c : Thread nD τ).loc main_arg1)) (m ((c : Thread nD τ).loc main_arg2)) (m ((c : Thread nD τ).loc main_arg3)) (m ((c : Thread nD τ).loc main_arg4)) s ⟨t.val / 16 * 512 + n.val, by have := lt176 t; omega⟩))
  refine Finset.sum_congr rfl fun s _ => ?_
  rw [term11_apply]
  refine Finset.sum_congr rfl fun l _ => ?_
  have e : (16 * (t.val / 16) + s.val) % 16 = s.val := by omega
  have e' : (16 * (t.val / 16) + s.val) / 16 = t.val / 16 := by omega
  simp only [e, e']

theorem flushed_eq11 (c : Dev nD) (t : Fin cfg0.N) (hf : (cfg0.win 11).flush t = true) : (dats m 0 c).flushed 11 t =
    ((cfg0.win 11).blk t).view.read (Elt Ideal) (G11 (m ((c : Thread nD τ).loc main_arg0)) (m ((c : Thread nD τ).loc main_arg1)) (m ((c : Thread nD τ).loc main_arg2)) (m ((c : Thread nD τ).loc main_arg3)) (m ((c : Thread nD τ).loc main_arg4))) := by
  have h7 : t.val % 16 = 15 := (flush0_11 t).mp hf
  have h := (idx t).2.2.2.2.2.2.2.2.2.2.2.1
  have ht := lt176 t
  rw [Value.flushed11]
  funext (j : S1x512.Idx)
  rw [View.read_apply]
  obtain ⟨q, n, rfl⟩ := Kit.pair j
  obtain rfl : q = 0 := Subsingleton.elim _ _
  have e : (((cfg0.win 11).blk t).view.emb (ix2 0 n) : S1x5632.Idx) = ix2 0 ⟨t.val / 16 * 512 + n.val, by omega⟩ :=
    Kit.e2 (by show win0_11.index t 0 * 1 + 1 * 0 = 0; rw [h.1]) (Kit.at_ 512 h.2 n)
  refine Eq.trans ?_ (congrArg (G11 (m ((c : Thread nD τ).loc main_arg0)) (m ((c : Thread nD τ).loc main_arg1)) (m ((c : Thread nD τ).loc main_arg2)) (m ((c : Thread nD τ).loc main_arg3)) (m ((c : Thread nD τ).loc main_arg4))) e).symm
  exact acc11_last m c t h7 n

theorem cover11 (i : S1x5632.Idx) : ∃ t : Fin cfg0.N, (cfg0.win 11).flush t = true ∧ i ∈ ((cfg0.win 11).blk t).view.set := by
  have h0 : (i 0).val < 1 := (i 0).isLt
  have h1 : (i 1).val < 5632 := (i 1).isLt
  obtain ⟨t, ht⟩ : ∃ t : Fin cfg0.N, t.val = (i 1).val / 512 * 16 + 15 :=
    ⟨⟨_, by show _ < grid0.N; rw [Gen.N_0]; omega⟩, rfl⟩
  have h := (idx t).2.2.2.2.2.2.2.2.2.2.2.1
  refine ⟨t, (flush0_11 t).mpr (by omega), ?_⟩
  exact Kit.cov (Fin.forall_fin_two.2 ⟨Kit.mem 1 _ h.1 (by omega), Kit.mem 512 _ h.2 (by omega)⟩)

/-- Output 11 after the run. -/
theorem final11 (c : Dev nD) : (dats m 0 c).arrAt 11 cfg0.N = G11 (m ((c : Thread nD τ).loc main_arg0)) (m ((c : Thread nD τ).loc main_arg1)) (m ((c : Thread nD τ).loc main_arg2)) (m ((c : Thread nD τ).loc main_arg3)) (m ((c : Thread nD τ).loc main_arg4)) :=
  (dats m 0 c).arrAt_eq_of_cover 11 _ (flushed_eq11 m c) cover11

/-- One point's share of output 12. -/
def term12 (c : Dev nD) (t : Fin cfg0.N) : S1x512.Idx → EReal := fun i => ∑ r : Fin 512, DB (grid0.coords t) (iblk m c 0 t) (iblk m c 1 t) (iblk m c 2 t) (iblk m c 3 t) (iblk m c 4 t) (iblk m c 6 t) r (i 1)

theorem acc12_first (c : Dev nD) (t : Fin cfg0.N) (h0 : t.val % 16 = 0) (i : S1x512.Idx) :
    (outsAt0 m c t.val t.isLt).2.2.2.2 i = 0 + term12 m c t i := by
  rw [outsAt0_A m c t h0]
  dsimp only
  rw [out12_A]
  obtain ⟨q, n, rfl⟩ := Kit.pair i
  obtain rfl : q = 0 := Subsingleton.elim _ _
  exact first12_apply _ _ _ _ _ _ _ _ _ n

theorem acc12_next (c : Dev nD) (t : Fin cfg0.N) (h0 : ¬t.val % 16 = 0) (i : S1x512.Idx) :
    (outsAt0 m c t.val t.isLt).2.2.2.2 i
      = (outsAt0 m c (t.val - 1) (Nat.lt_of_le_of_lt (Nat.sub_le _ _) t.isLt)).2.2.2.2 i + term12 m c t i := by
  rw [outsAt0_B m c t h0]
  dsimp only
  rw [out12_B]
  obtain ⟨q, n, rfl⟩ := Kit.pair i
  obtain rfl : q = 0 := Subsingleton.elim _ _
  exact acc12_apply _ _ _ _ _ _ _ _ _ _ n

theorem term12_apply (c : Dev nD) (t : Fin cfg0.N) (n : Fin 512) :
    term12 m c t (ix2 0 n) = ∑ r : Fin 512, gB (m ((c : Thread nD τ).loc main_arg0)) (m ((c : Thread nD τ).loc main_arg1)) (m ((c : Thread nD τ).loc main_arg2)) (m ((c : Thread nD τ).loc main_arg3)) (m ((c : Thread nD τ).loc main_arg4)) ⟨t.val % 16 * 512 + r.val, by have := lt176 t; omega⟩ ⟨t.val / 16 * 512 + n.val, by have := lt176 t; omega⟩ := by
  unfold term12
  refine Finset.sum_congr rfl fun r _ => ?_
  show DB (grid0.coords t) (iblk m c 0 t) (iblk m c 1 t) (iblk m c 2 t) (iblk m c 3 t) (iblk m c 4 t) (iblk m c 6 t) r n = _
  rw [DB_point]

/-- Output 12 at the end of a column block's points. -/
theorem acc12_last (c : Dev nD) (t : Fin cfg0.N) (h : t.val % 16 = 15) (n : Fin 512) :
    (outsAt0 m c t.val t.isLt).2.2.2.2 (ix2 0 n) = ∑ s : Fin 8192, gB (m ((c : Thread nD τ).loc main_arg0)) (m ((c : Thread nD τ).loc main_arg1)) (m ((c : Thread nD τ).loc main_arg2)) (m ((c : Thread nD τ).loc main_arg3)) (m ((c : Thread nD τ).loc main_arg4)) s ⟨t.val / 16 * 512 + n.val, by have := lt176 t; omega⟩ := by
  have ht := lt176 t
  have key := Pipeline.eq_sum_fin_of_reset_step_apply_of_flush (fun n h => (outsAt0 m c n h).2.2.2.2) 16 (fun _ => (0 : EReal)) (term12 m c)
    (acc12_first m c) (acc12_next m c) t h (ix2 0 n)
  refine key.trans ?_
  rw [zero_add]
  refine Eq.trans ?_ (Fin.sum_mul_add_fin 16 512 (fun s => gB (m ((c : Thread nD τ).loc main_arg0)) (m ((c : Thread nD τ).loc main_arg1)) (m ((c : Thread nD τ).loc main_arg2)) (m ((c : Thread nD τ).loc main_arg3)) (m ((c : Thread nD τ).loc main_arg4)) s ⟨t.val / 16 * 512 + n.val, by have := lt176 t; omega⟩))
  refine Finset.sum_congr rfl fun s _ => ?_
  rw [term12_apply]
  refine Finset.sum_congr rfl fun l _ => ?_
  have e : (16 * (t.val / 16) + s.val) % 16 = s.val := by omega
  have e' : (16 * (t.val / 16) + s.val) / 16 = t.val / 16 := by omega
  simp only [e, e']

theorem flushed_eq12 (c : Dev nD) (t : Fin cfg0.N) (hf : (cfg0.win 12).flush t = true) : (dats m 0 c).flushed 12 t =
    ((cfg0.win 12).blk t).view.read (Elt Ideal) (G12 (m ((c : Thread nD τ).loc main_arg0)) (m ((c : Thread nD τ).loc main_arg1)) (m ((c : Thread nD τ).loc main_arg2)) (m ((c : Thread nD τ).loc main_arg3)) (m ((c : Thread nD τ).loc main_arg4))) := by
  have h7 : t.val % 16 = 15 := (flush0_12 t).mp hf
  have h := (idx t).2.2.2.2.2.2.2.2.2.2.2.2.1
  have ht := lt176 t
  rw [Value.flushed12]
  funext (j : S1x512.Idx)
  rw [View.read_apply]
  obtain ⟨q, n, rfl⟩ := Kit.pair j
  obtain rfl : q = 0 := Subsingleton.elim _ _
  have e : (((cfg0.win 12).blk t).view.emb (ix2 0 n) : S1x5632.Idx) = ix2 0 ⟨t.val / 16 * 512 + n.val, by omega⟩ :=
    Kit.e2 (by show win0_12.index t 0 * 1 + 1 * 0 = 0; rw [h.1]) (Kit.at_ 512 h.2 n)
  refine Eq.trans ?_ (congrArg (G12 (m ((c : Thread nD τ).loc main_arg0)) (m ((c : Thread nD τ).loc main_arg1)) (m ((c : Thread nD τ).loc main_arg2)) (m ((c : Thread nD τ).loc main_arg3)) (m ((c : Thread nD τ).loc main_arg4))) e).symm
  exact acc12_last m c t h7 n

theorem cover12 (i : S1x5632.Idx) : ∃ t : Fin cfg0.N, (cfg0.win 12).flush t = true ∧ i ∈ ((cfg0.win 12).blk t).view.set := by
  have h0 : (i 0).val < 1 := (i 0).isLt
  have h1 : (i 1).val < 5632 := (i 1).isLt
  obtain ⟨t, ht⟩ : ∃ t : Fin cfg0.N, t.val = (i 1).val / 512 * 16 + 15 :=
    ⟨⟨_, by show _ < grid0.N; rw [Gen.N_0]; omega⟩, rfl⟩
  have h := (idx t).2.2.2.2.2.2.2.2.2.2.2.2.1
  refine ⟨t, (flush0_12 t).mpr (by omega), ?_⟩
  exact Kit.cov (Fin.forall_fin_two.2 ⟨Kit.mem 1 _ h.1 (by omega), Kit.mem 512 _ h.2 (by omega)⟩)

/-- Output 12 after the run. -/
theorem final12 (c : Dev nD) : (dats m 0 c).arrAt 12 cfg0.N = G12 (m ((c : Thread nD τ).loc main_arg0)) (m ((c : Thread nD τ).loc main_arg1)) (m ((c : Thread nD τ).loc main_arg2)) (m ((c : Thread nD τ).loc main_arg3)) (m ((c : Thread nD τ).loc main_arg4)) :=
  (dats m 0 c).arrAt_eq_of_cover 12 _ (flushed_eq12 m c) cover12

end Cert.Kernel3Ideal.ActArray

end
-- ==== Proof.ActRef.lean ====
module

public import proofs.«01_k».proof.Proof.Kit
public import proofs.«01_k».proof.Proof.ActArray
public import proofs.«01_k».proof.Proof.Gen.Reference3Ideal.Read
public import Idealize.ShloMosaic.PureOps.Ideal.Laws

@[expose] public section

set_option maxRecDepth 16384

noncomputable section

namespace Cert.Reference3Ideal.ActRef

open Gen Read Idealize.ShloMosaic TcCoe Idealize.SL.Sem
open Kernel3Ideal.ActRead Kernel3Ideal.ActBlocks Kernel3Ideal.ActArray

/-- An extended real that is a real. -/
def IsReal (x : EReal) : Prop := ∃ r : ℝ, x = r

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.zero : IsReal 0 := ⟨0, EReal.coe_zero.symm⟩

theorem IsReal.one : IsReal 1 := ⟨1, EReal.coe_one.symm⟩

theorem IsReal.sum {ι : Type} (s : Finset ι) (f : ι → EReal) (h : ∀ i, IsReal (f i)) : IsReal (∑ i ∈ s, f i) :=
  Finset.sum_induction f IsReal (fun _ _ => IsReal.add) IsReal.zero (fun i _ => h i)

theorem IsReal.exp {x : EReal} (hx : IsReal x) : IsReal (Ideal.exp x) := by
  obtain ⟨a, rfl⟩ := hx; exact ⟨_, Ideal.exp_coe a⟩

theorem IsReal.erf {x : EReal} (hx : IsReal x) : IsReal (Ideal.erf x) := by
  obtain ⟨a, rfl⟩ := hx; exact ⟨_, Ideal.erf_coe a⟩

theorem real_half : IsReal (Ideal.ofBits .f32 0x3F000000#32) := ⟨1 / 2, by simp [Ideal.ofBits, Ideal.ieee, -EReal.coe_mul]; norm_num⟩

theorem real_neg_half : IsReal (Ideal.ofBits .f32 0xBF000000#32) := ⟨-(1 / 2), by simp [Ideal.ofBits, Ideal.ieee, -EReal.coe_mul]; norm_num⟩

theorem real_root_half : IsReal (Ideal.ofBits .f32 0x3F3504F3#32) := ⟨_, by simp [Ideal.ofBits, Ideal.ieee, -EReal.coe_mul]; rfl⟩

theorem real_density : IsReal (Ideal.ofBits .f32 0x3ECC422A#32) := ⟨_, by simp [Ideal.ofBits, Ideal.ieee, -EReal.coe_mul]; rfl⟩

theorem IsReal.cdf {a : EReal} (ha : IsReal a) : IsReal (cdf a) := by
  unfold Kernel3Ideal.ActRead.cdf
  exact real_half.mul (IsReal.one.add (ha.mul real_root_half).erf)

/-- The product rule as the reference applies it is the kernel's factored form, on real numbers. -/
theorem daf_of_real {d a b : EReal} (hd : IsReal d) (ha : IsReal a) (hb : IsReal b) :
    d * b * cdf a + Ideal.exp (Ideal.ofBits .f32 0xBF000000#32 * a * a) * Ideal.ofBits .f32 0x3ECC422A#32 * (a * (d * b)) = daf d a b := by
  unfold daf dgelu
  have hc := ha.cdf
  have he := (((real_neg_half.mul ha).mul ha).exp).mul real_density
  generalize Kernel3Ideal.ActRead.cdf a = p at hc ⊢
  generalize Ideal.exp (Ideal.ofBits .f32 0xBF000000#32 * a * a) * Ideal.ofBits .f32 0x3ECC422A#32 = e at he ⊢
  obtain ⟨d, rfl⟩ := hd; obtain ⟨a, rfl⟩ := ha; obtain ⟨b, rfl⟩ := hb; obtain ⟨p, rfl⟩ := hc; obtain ⟨e, rfl⟩ := he
  norm_cast
  ring

variable (U : Vec Ideal S2x8192x5632 .bf16) (X : Vec Ideal S8192x2048 .bf16) (D : Vec Ideal S5632x2048 .f32)
  (W : Vec Ideal S3x11264 .f32) (B : Vec Ideal S1x11264 .f32)

/-- The two halves side by side. -/
theorem u_apply (s : Fin 8192) (q : Fin 11264) : val_main_v6 (F := Ideal) U (ix3 0 s q)
    = U (ix3 ⟨q.val / 5632, by omega⟩ s ⟨q.val % 5632, by omega⟩) := by
  pointwise [val_main_v6, val_main_v5, val_main_v4, val_main_v3, val_main_v2, val_main_v1, val_main_v0]
  split
  · rename_i h
    congr 1
    funext a
    match a with
    | ⟨0, _⟩ => exact Fin.ext (by show 0 = q.val / 5632; omega)
    | ⟨1, _⟩ => rfl
    | ⟨2, _⟩ => exact Fin.ext (by show q.val = q.val % 5632; omega)
  · rename_i h
    congr 1
    funext a
    match a with
    | ⟨0, _⟩ => exact Fin.ext (by show 1 = q.val / 5632; omega)
    | ⟨1, _⟩ => rfl
    | ⟨2, _⟩ => exact Fin.ext (by show q.val - 5632 = q.val % 5632; omega)

/-- The rows with two zero rows before them. -/
theorem ext_apply (s : Fin 8194) (q : Fin 11264) : val_main_v11 (F := Ideal) U (ix3 0 s q)
    = rowp U ⟨q.val / 5632, by omega⟩ s.val ⟨q.val % 5632, by omega⟩ := by
  have hu := u_apply U
  unfold val_main_v11
  generalize val_main_v6 (F := Ideal) U = u at hu ⊢
  unfold rowp
  pointwise [val_main_v10, val_main_cst]
  by_cases h : s.val < 2
  · rw [dif_pos h, dif_neg (by omega)]
  · rw [dif_neg h, dif_pos (by omega), hu]

/-- The same rows, as the second convolution gradient writes them again. -/
theorem ext_again : val_main_v64 (F := Ideal) U = val_main_v11 (F := Ideal) U := rfl

/-- The convolution. -/
theorem conv_apply (s : Fin 8192) (q : Fin 11264) : val_main_v34 (F := Ideal) U W B (ix3 0 s q)
    = conv U W B ⟨q.val / 5632, by omega⟩ s.val ⟨q.val % 5632, by omega⟩ q := by
  have hu := ext_apply U
  unfold val_main_v34 val_main_v33 val_main_v30 val_main_v27 val_main_v26 val_main_v23 val_main_v20 val_main_v17 val_main_v14
  generalize val_main_v11 (F := Ideal) U = u at hu ⊢
  unfold conv
  pointwise [val_main_v32, val_main_v31, val_main_v29, val_main_v28, val_main_v25, val_main_v24, val_main_v22, val_main_v21, val_main_v19, val_main_v18, val_main_v9,
    val_main_v16, val_main_v15, val_main_v13, val_main_v12]
  rw [hu, hu, hu]
  show B (ix2 0 q) + W (ix2 0 q) * rowp U _ s.val _ + W (ix2 1 q) * rowp U _ (1 + s.val) _ + W (ix2 2 q) * rowp U _ (2 + s.val) _ = _
  rw [Nat.add_comm 1, Nat.add_comm 2]

/-- The gradient of the activation. -/
theorem dact_apply (s : Fin 8192) (c : Fin 5632) : val_main_v52 (F := Ideal) X D (ix3 0 s c) = dact X D s c := by
  unfold dact
  pointwise [val_main_v52, val_main_v8, val_main_v7]

/-- The convolved first half. -/
theorem a_apply (s : Fin 8192) (c : Fin 5632) : val_main_v35 (F := Ideal) U W B (ix3 0 s c) = conv U W B 0 s.val c ⟨c.val, by omega⟩ := by
  have h := conv_apply U W B s ⟨c.val, by omega⟩
  unfold val_main_v35
  generalize val_main_v34 (F := Ideal) U W B = v at h ⊢
  refine Eq.trans (b := v (ix3 0 s ⟨c.val, by omega⟩)) (by pointwise []) (h.trans ?_)
  have e1 : (⟨c.val / 5632, by omega⟩ : Fin 2) = 0 := Fin.ext (by show c.val / 5632 = 0; omega)
  have e2 : (⟨c.val % 5632, by omega⟩ : Fin 5632) = c := Fin.ext (by show c.val % 5632 = c.val; omega)
  simp only [e1, e2]

/-- The convolved second half. -/
theorem b_apply (s : Fin 8192) (c : Fin 5632) : val_main_v36 (F := Ideal) U W B (ix3 0 s c) = conv U W B 1 s.val c ⟨5632 + c.val, by omega⟩ := by
  have h := conv_apply U W B s ⟨5632 + c.val, by omega⟩
  unfold val_main_v36
  generalize val_main_v34 (F := Ideal) U W B = v at h ⊢
  refine Eq.trans (b := v (ix3 0 s ⟨5632 + c.val, by omega⟩)) (by pointwise []) (h.trans ?_)
  have e1 : (⟨(5632 + c.val) / 5632, by omega⟩ : Fin 2) = 1 := Fin.ext (by show (5632 + c.val) / 5632 = 1; omega)
  have e2 : (⟨(5632 + c.val) % 5632, by omega⟩ : Fin 5632) = c := Fin.ext (by show (5632 + c.val) % 5632 = c.val; omega)
  simp only [e1, e2]

/-- The normal distribution function of the convolved first half. -/
theorem cdf_apply (s : Fin 8192) (c : Fin 5632) : val_main_v42 (F := Ideal) U W B (ix3 0 s c) = cdf (val_main_v35 (F := Ideal) U W B (ix3 0 s c)) := by
  unfold val_main_v42 val_main_v40 val_main_v39 val_main_v37
  generalize val_main_v35 (F := Ideal) U W B = v
  unfold cdf
  simp only [mulf, Host.erfc, Host.negf, val_main_v41, val_main_v38, val_main_cst_0, val_main_cst_1, broadcastInDim, constant, Ideal.mulf_def, Ideal.addf_def,
      Ideal.hostUnary_erf_def, Ideal.hostUnary_erfc_def, Ideal.hostNegf_def, Ideal.negf_def, Ideal.ofBits_def, neg_mul, Ideal.erfc_neg]

/-- The gradient of the gating half. -/
theorem gB_apply (s : Fin 8192) (c : Fin 5632) : val_main_v53 (F := Ideal) U X D W B (ix3 0 s c) = gB U X D W B s c := by
  have h1 := cdf_apply U W B s c
  unfold gB dbf
  rw [← a_apply, ← dact_apply, ← h1]
  unfold val_main_v53 val_main_v49
  exact mul_comm _ _

/-- The gradient of the activated half, when the arguments hold reals. -/
theorem gA_apply (hd : ∀ s c, IsReal (dact X D s c)) (hc : ∀ h s c q, IsReal (conv U W B h s c q)) (s : Fin 8192) (c : Fin 5632) :
    val_main_v58 (F := Ideal) U X D W B (ix3 0 s c) = gA U X D W B s c := by
  have h1 := cdf_apply U W B s c
  unfold gA
  rw [← daf_of_real (hd _ _) (hc _ _ _ _) (hc _ _ _ _), ← b_apply, ← a_apply, ← dact_apply, ← h1]
  rfl

/-- The gradient of the convolution's output, its halves side by side. -/
theorem dup_apply (hd : ∀ s c, IsReal (dact X D s c)) (hc : ∀ h s c q, IsReal (conv U W B h s c q)) (s : Fin 8192) (q : Fin 11264) :
    val_main_v61 (F := Ideal) U X D W B (ix3 0 s q)
      = if h : q.val < 5632 then gA U X D W B s ⟨q.val, h⟩ else gB U X D W B s ⟨q.val - 5632, by omega⟩ := by
  have hA := gA_apply U X D W B hd hc
  have hB := gB_apply U X D W B
  unfold val_main_v61 val_main_v60 val_main_v59
  generalize val_main_v58 (F := Ideal) U X D W B = x at hA ⊢
  generalize val_main_v53 (F := Ideal) U X D W B = y at hB ⊢
  pointwise [val_main_cst_4, val_main_cst_5]
  by_cases h : q.val < 5632
  · rw [dif_pos h, dif_pos h, dif_neg (by omega), zero_add, hA]
  · rw [dif_neg h, dif_neg h, dif_pos (by omega), add_zero, hB]

/-- The first result: the gradient of the convolution's output, half by half. -/
theorem res118 (hd : ∀ s c, IsReal (dact X D s c)) (hc : ∀ h s c q, IsReal (conv U W B h s c q)) :
    val_main_v118 (F := Ideal) U X D W B = G8 U X D W B := by
  funext j
  obtain ⟨h, s, l, rfl⟩ : ∃ (h : Fin 2) (s : Fin 8192) (l : Fin 5632), j = ix3 h s l := ⟨j 0, j 1, j 2, by
    funext b; match b with | ⟨0, _⟩ => rfl | ⟨1, _⟩ => rfl | ⟨2, _⟩ => rfl⟩
  have e0 := dup_apply U X D W B hd hc s ⟨l.val, by omega⟩
  have e1 := dup_apply U X D W B hd hc s ⟨5632 + l.val, by omega⟩
  rw [dif_pos (show l.val < 5632 by omega)] at e0
  rw [dif_neg (show ¬5632 + l.val < 5632 by omega)] at e1
  have el : (⟨5632 + l.val - 5632, by omega⟩ : Fin 5632) = l := Fin.ext (by show 5632 + l.val - 5632 = l.val; omega)
  rw [el] at e1
  show _ = if h.val = 0 then gA U X D W B s l else gB U X D W B s l
  rw [← e0, ← e1]
  unfold val_main_v118 val_main_v117 val_main_v116 val_main_v115 val_main_v114 val_main_v113 val_main_v112 val_main_v111
  generalize val_main_v61 (F := Ideal) U X D W B = x
  pointwise []
  by_cases hh : h.val = 0
  · rw [if_pos hh, dif_pos (by omega)]
  · rw [if_neg hh, dif_neg (by omega)]

/-- A sum over two axes of extent one. -/
theorem sum_ones (h : S1x1x11264.ReducesTo [0, 1] S11264) (v : S1x1x11264.Idx → EReal) (init : EReal) (q : Fin 11264) :
    Ideal.hostReduceAdd h v init (ix1 q) = init + v (ix3 0 0 q) := by
  refine congrArg (init + ·) ?_
  refine Finset.sum_eq_single_of_mem (ix3 0 0 q) (Finset.mem_filter.2 ⟨Finset.mem_univ _, ?_⟩) ?_
  · funext b
    apply Fin.ext
    match b with
    | ⟨0, _⟩ => rfl
  · intro i hi hne
    refine absurd ?_ hne
    have e := (Finset.mem_filter.1 hi).2
    funext a
    match a with
    | ⟨0, _⟩ => exact Subsingleton.elim (α := Fin 1) _ _
    | ⟨1, _⟩ => exact Subsingleton.elim (α := Fin 1) _ _
    | ⟨2, _⟩ => exact Fin.ext (congrArg Fin.val (congrFun e 0))

/-- The bias gradient. -/
theorem bias_apply (q : Fin 11264) : val_main_v103 (F := Ideal) U X D W B (ix1 q) = ∑ s : Fin 8192, val_main_v61 (F := Ideal) U X D W B (ix3 0 s q) := by
  unfold val_main_v103 val_main_v102 val_main_v101
  generalize val_main_v61 (F := Ideal) U X D W B = x
  pointwise [val_main_cst_13, val_main_cst_14]
  rw [sum_ones]
  pointwise []

/-- The tap gradients. -/
theorem taps_apply (k : Fin 3) (q : Fin 11264) : val_main_v110 (F := Ideal) U X D W B (ix2 k q)
    = ∑ s : Fin 8192, val_main_v61 (F := Ideal) U X D W B (ix3 0 s q) * val_main_v11 (F := Ideal) U (ix3 0 ⟨s.val + k.val, by omega⟩ q) := by
  unfold val_main_v110 val_main_v109 val_main_v108 val_main_v107 val_main_v106 val_main_v105 val_main_v104 val_main_v100 val_main_v99 val_main_v98 val_main_v97 val_main_v96 val_main_v95 val_main_v94 val_main_v93 val_main_v92 val_main_v91 val_main_v90 val_main_v89 val_main_v88 val_main_v83 val_main_v76 val_main_v67
  rw [ext_again]
  generalize val_main_v61 (F := Ideal) U X D W B = x
  generalize val_main_v11 (F := Ideal) U = y
  match k with
  | ⟨0, _⟩ =>
    pointwise [val_main_cst_7, val_main_cst_8, val_main_cst_9, val_main_cst_10, val_main_cst_11, val_main_cst_12, val_main_cst_15, val_main_cst_16, val_main_cst_17]
    rw [sum_ones]
    pointwise []
  | ⟨1, _⟩ =>
    pointwise [val_main_cst_7, val_main_cst_8, val_main_cst_9, val_main_cst_10, val_main_cst_11, val_main_cst_12, val_main_cst_15, val_main_cst_16, val_main_cst_17]
    rw [sum_ones]
    pointwise []
    refine Finset.sum_congr rfl fun s _ => ?_
    have e : (⟨1 + s.val, by omega⟩ : Fin 8194) = ⟨s.val + 1, by omega⟩ := Fin.ext (Nat.add_comm _ _)
    rw [e]
  | ⟨2, _⟩ =>
    pointwise [val_main_cst_7, val_main_cst_8, val_main_cst_9, val_main_cst_10, val_main_cst_11, val_main_cst_12, val_main_cst_15, val_main_cst_16, val_main_cst_17]
    rw [sum_ones]
    pointwise []
    refine Finset.sum_congr rfl fun s _ => ?_
    have e : (⟨2 + s.val, by omega⟩ : Fin 8194) = ⟨s.val + 2, by omega⟩ := Fin.ext (Nat.add_comm _ _)
    rw [e]

/-- A tap gradient column by column. -/
theorem taps_col (hd : ∀ s c, IsReal (dact X D s c)) (hc : ∀ h s c q, IsReal (conv U W B h s c q)) (k : Fin 3) (q : Fin 11264) :
    val_main_v110 (F := Ideal) U X D W B (ix2 k q) = if h : q.val < 5632 then G9 U X D W B (ix2 k ⟨q.val, h⟩) else G10 U X D W B (ix2 k ⟨q.val - 5632, by omega⟩) := by
  rw [taps_apply]
  by_cases h : q.val < 5632
  · rw [dif_pos h]
    refine Finset.sum_congr rfl fun s _ => ?_
    rw [dup_apply U X D W B hd hc, ext_apply, dif_pos h]
    have e1 : (⟨q.val / 5632, by omega⟩ : Fin 2) = 0 := Fin.ext (by show q.val / 5632 = 0; omega)
    have e2 : (⟨q.val % 5632, by omega⟩ : Fin 5632) = ⟨q.val, h⟩ := Fin.ext (by show q.val % 5632 = q.val; omega)
    rw [e1, e2]
    rfl
  · rw [dif_neg h]
    refine Finset.sum_congr rfl fun s _ => ?_
    rw [dup_apply U X D W B hd hc, ext_apply, dif_neg h]
    have e1 : (⟨q.val / 5632, by omega⟩ : Fin 2) = 1 := Fin.ext (by show q.val / 5632 = 1; omega)
    have e2 : (⟨q.val % 5632, by omega⟩ : Fin 5632) = ⟨q.val - 5632, by omega⟩ := Fin.ext (by show q.val % 5632 = q.val - 5632; omega)
    rw [e1, e2]
    rfl

/-- A bias gradient column by column. -/
theorem bias_col (hd : ∀ s c, IsReal (dact X D s c)) (hc : ∀ h s c q, IsReal (conv U W B h s c q)) (q : Fin 11264) :
    val_main_v103 (F := Ideal) U X D W B (ix1 q) = if h : q.val < 5632 then G11 U X D W B (ix2 0 ⟨q.val, h⟩) else G12 U X D W B (ix2 0 ⟨q.val - 5632, by omega⟩) := by
  rw [bias_apply]
  by_cases h : q.val < 5632
  · rw [dif_pos h]
    exact Finset.sum_congr rfl fun s _ => by rw [dup_apply U X D W B hd hc, dif_pos h]; rfl
  · rw [dif_neg h]
    exact Finset.sum_congr rfl fun s _ => by rw [dup_apply U X D W B hd hc, dif_neg h]; rfl

/-- The second result: the tap gradients of the first half. -/
theorem res119 (hd : ∀ s c, IsReal (dact X D s c)) (hc : ∀ h s c q, IsReal (conv U W B h s c q)) :
    val_main_v119 (F := Ideal) U X D W B = G9 U X D W B := by
  funext j
  obtain ⟨k, l, rfl⟩ := Kit.pair j
  have e := taps_col U X D W B hd hc k ⟨l.val, by omega⟩
  rw [dif_pos (show l.val < 5632 by omega)] at e
  refine Eq.trans ?_ e
  unfold val_main_v119
  generalize val_main_v110 (F := Ideal) U X D W B = x
  pointwise []

/-- The third result: the tap gradients of the second half. -/
theorem res120 (hd : ∀ s c, IsReal (dact X D s c)) (hc : ∀ h s c q, IsReal (conv U W B h s c q)) :
    val_main_v120 (F := Ideal) U X D W B = G10 U X D W B := by
  funext j
  obtain ⟨k, l, rfl⟩ := Kit.pair j
  have e := taps_col U X D W B hd hc k ⟨5632 + l.val, by omega⟩
  rw [dif_neg (show ¬5632 + l.val < 5632 by omega)] at e
  have el : (⟨5632 + l.val - 5632, by omega⟩ : Fin 5632) = l := Fin.ext (by show 5632 + l.val - 5632 = l.val; omega)
  rw [el] at e
  refine Eq.trans ?_ e
  unfold val_main_v120
  generalize val_main_v110 (F := Ideal) U X D W B = x
  pointwise []

/-- The fourth result: the bias gradient of the first half. -/
theorem res122 (hd : ∀ s c, IsReal (dact X D s c)) (hc : ∀ h s c q, IsReal (conv U W B h s c q)) :
    val_main_v122 (F := Ideal) U X D W B = G11 U X D W B := by
  funext j
  obtain ⟨k, l, rfl⟩ := Kit.pair j
  obtain rfl : k = 0 := Subsingleton.elim _ _
  have e := bias_col U X D W B hd hc ⟨l.val, by omega⟩
  rw [dif_pos (show l.val < 5632 by omega)] at e
  refine Eq.trans ?_ e
  unfold val_main_v122 val_main_v121
  generalize val_main_v103 (F := Ideal) U X D W B = x
  pointwise []

/-- The fifth result: the bias gradient of the second half. -/
theorem res124 (hd : ∀ s c, IsReal (dact X D s c)) (hc : ∀ h s c q, IsReal (conv U W B h s c q)) :
    val_main_v124 (F := Ideal) U X D W B = G12 U X D W B := by
  funext j
  obtain ⟨k, l, rfl⟩ := Kit.pair j
  obtain rfl : k = 0 := Subsingleton.elim _ _
  have e := bias_col U X D W B hd hc ⟨5632 + l.val, by omega⟩
  rw [dif_neg (show ¬5632 + l.val < 5632 by omega)] at e
  have el : (⟨5632 + l.val - 5632, by omega⟩ : Fin 5632) = l := Fin.ext (by show 5632 + l.val - 5632 = l.val; omega)
  rw [el] at e
  refine Eq.trans ?_ e
  unfold val_main_v124 val_main_v123
  generalize val_main_v103 (F := Ideal) U X D W B = x
  pointwise []

/-- The activation's gradient is real when its factors are. -/
theorem dact_real (hX : ∀ i, IsReal (X i)) (hD : ∀ i, IsReal (D i)) (s : Fin 8192) (c : Fin 5632) : IsReal (dact X D s c) :=
  IsReal.sum _ _ fun _ => (hX _).mul (hD _)

/-- The convolution is real when its rows, taps and bias are. -/
theorem conv_real (hU : ∀ i, IsReal (U i)) (hW : ∀ i, IsReal (W i)) (hB : ∀ i, IsReal (B i)) (h : Fin 2) (s : ℕ) (c : Fin 5632) (q : Fin 11264) :
    IsReal (conv U W B h s c q) := by
  have hr : ∀ n, IsReal (rowp U h n c) := fun n => by
    unfold rowp
    split
    · exact hU _
    · exact IsReal.zero
  exact (((hB _).add ((hW _).mul (hr _))).add ((hW _).mul (hr _))).add ((hW _).mul (hr _))

end Cert.Reference3Ideal.ActRef

end
-- ==== Proof.ActFinite.lean ====
module

public import proofs.«01_k».proof.Proof.Kit
public import proofs.«01_k».proof.Proof.ActRef
public import Idealize.ShloMosaic.Lib.ReduceAll

@[expose] public section

set_option maxRecDepth 16384

noncomputable section

namespace Cert.Kernel3Ideal.ActFinite

open Idealize.ShloMosaic TcCoe Idealize.SL.Sem
open Reference3Ideal.ActRef

/-- What the bit pattern of infinity denotes. -/
theorem ofBits_inf : Ideal.ofBits .f32 0x7F800000#32 = ⊤ := by
  simp [Ideal.ofBits, Ideal.ieee]

/-- An extended real whose absolute value is below infinity is a real. -/
theorem real_of_abs (x : EReal) (h : Ideal.cmp .olt (max x (-x)) (Ideal.ofBits .f32 0x7F800000#32) = 1#1) : IsReal x := by
  rw [ofBits_inf] at h
  have h' : max x (-x) < ⊤ := (Ideal.cmp_olt_eq_one _ _).1 h
  induction x using EReal.rec with
  | bot => simp at h'
  | top => simp at h'
  | coe r => exact ⟨r, rfl⟩

variable [Pre_finite3.Facts]
open Pre_finite3 Pre_finite3.Facts

/-- Five truth values stacked are all true when the stack is. -/
theorem stacked (a b c d e : IVec Pre_finite3.S_ 1) (h : concatenate S5 0 [⟨S1, broadcastInDim S1 ![] bcast_S_S1 a⟩, ⟨S1, broadcastInDim S1 ![] bcast_S_S1 b⟩,
      ⟨S1, broadcastInDim S1 ![] bcast_S_S1 c⟩, ⟨S1, broadcastInDim S1 ![] bcast_S_S1 d⟩, ⟨S1, broadcastInDim S1 ![] bcast_S_S1 e⟩]
      concatenates_S1_S1_S1_S1_S1_S5_d0 = fun _ => 1#1) :
    a ix0 = 1#1 ∧ b ix0 = 1#1 ∧ c ix0 = 1#1 ∧ d ix0 = 1#1 ∧ e ix0 = 1#1 := by
  refine ⟨Eq.trans ?_ (congrFun h (ix1 0)), Eq.trans ?_ (congrFun h (ix1 1)), Eq.trans ?_ (congrFun h (ix1 2)), Eq.trans ?_ (congrFun h (ix1 3)),
    Eq.trans ?_ (congrFun h (ix1 4))⟩
  · pointwise []
  · pointwise []
  · pointwise []
  · pointwise []
  · pointwise []

/-- The precondition, argument by argument: every entry is a real. -/
theorem real_of_pre (U : Vec Ideal Pre_finite3.S2x8192x5632 .bf16) (X : Vec Ideal Pre_finite3.S8192x2048 .bf16) (D : Vec Ideal Pre_finite3.S5632x2048 .f32)
    (W : Vec Ideal Pre_finite3.S3x11264 .f32) (B : Vec Ideal Pre_finite3.S1x11264 .f32) (h : Pre_finite3.fn (F := Ideal) U X D W B = fun _ => 1#1) :
    (∀ i, IsReal (U i)) ∧ (∀ i, IsReal (X i)) ∧ (∀ i, IsReal (D i)) ∧ (∀ i, IsReal (W i)) ∧ (∀ i, IsReal (B i)) := by
  have : Subsingleton Pre_finite3.S_.Idx := ⟨fun a b => funext fun k => k.elim0⟩
  unfold Pre_finite3.fn Pre_finite3.fn_part1 at h
  obtain ⟨h0, h1, h2, h3, h4⟩ := stacked _ _ _ _ _ h
  exact ⟨fun i => real_of_abs _ (Host.reduce_andi_all _ _ _ _ _ h0 i), fun i => real_of_abs _ (Host.reduce_andi_all _ _ _ _ _ h1 i),
    fun i => real_of_abs _ (Host.reduce_andi_all _ _ _ _ _ h2 i), fun i => real_of_abs _ (Host.reduce_andi_all _ _ _ _ _ h3 i),
    fun i => real_of_abs _ (Host.reduce_andi_all _ _ _ _ _ h4 i)⟩

end Cert.Kernel3Ideal.ActFinite

end
-- ==== Proof.ActClaims.lean ====
module

public import proofs.«01_k».proof.Proof.Kit
public import proofs.«01_k».proof.Proof.ActFinite

@[expose] public section

set_option maxRecDepth 16384

noncomputable section

namespace Cert.Proof.Act

open Idealize.ShloMosaic TcCoe Idealize.SL.Sem

/-- The shape relations that the precondition states. -/
instance facts : Pre_finite3.Facts where
  bitsLt_bf16_f32 := by decide
  bcast_S_S2x8192x5632 := by decide
  reducesTo_S2x8192x5632_S_d0_1_2 := by decide
  h_S_ := by decide
  bcast_S_S8192x2048 := by decide
  reducesTo_S8192x2048_S_d0_1 := by decide
  bcast_S_S5632x2048 := by decide
  reducesTo_S5632x2048_S_d0_1 := by decide
  bcast_S_S3x11264 := by decide
  reducesTo_S3x11264_S_d0_1 := by decide
  bcast_S_S1x11264 := by decide
  reducesTo_S1x11264_S_d0_1 := by decide
  bcast_S_S1 := by decide
  concatenates_S1_S1_S1_S1_S1_S5_d0 := by decide

/-- The reference leaves its arguments as they were; it has no semaphore. -/
theorem frame_reference : quiescent_Reference3Ideal := fun m ρ _ =>
  (θ_run Reference3Ideal.defs _ _).mono (fun r h => ⟨fun c => (h c).2.2.2.2.2, sem_eq_zero_of_no_sems (by decide) r.2⟩)
    (Reference3Ideal.Value.run m ρ)

/-- The same frame, stated under the precondition. -/
theorem frame_reference_pre : quiescent_Reference3Ideal_pre_finite3 := fun m ρ _ => frame_reference m ρ trivial

/-- On arguments that hold reals the kernel and the reference leave the same five arrays: the gradient of the convolution's output, and
    the gradients of its taps and of its bias for both halves of the columns. -/
theorem algebraic : algebraic_Kernel3Ideal_Reference3Ideal_pre_finite3 := by
  intro m ρ m' ρ' hpre hag
  refine ⟨_, _, _, _, _, (θ_run Kernel3Ideal.defs _ _).mono
    (fun _ h c => ⟨(h c).1.trans (Kernel3Ideal.ActArray.final8 m c), (h c).2.1.trans (Kernel3Ideal.ActArray.final9 m c), (h c).2.2.1.trans (Kernel3Ideal.ActArray.final10 m c),
    (h c).2.2.2.1.trans (Kernel3Ideal.ActArray.final11 m c), (h c).2.2.2.2.1.trans (Kernel3Ideal.ActArray.final12 m c), (h c).2.2.2.2.2⟩)
    (Kernel3Ideal.Value.run_blocks m ρ), ?_⟩
  · refine (θ_run Reference3Ideal.defs _ _).mono (fun _ h c => ⟨(h c).1.trans ?_, (h c).2.1.trans ?_, (h c).2.2.1.trans ?_, (h c).2.2.2.1.trans ?_,
        (h c).2.2.2.2.1.trans ?_, (h c).2.2.2.2.2⟩)
      (Reference3Ideal.Value.run m' ρ')
    · obtain ⟨hU, hX, hD, hW, hB⟩ := Kernel3Ideal.ActFinite.real_of_pre _ _ _ _ _ (hpre c)
      rw [← (hag c).1] at hU
      rw [← (hag c).2.1] at hX
      rw [← (hag c).2.2.1] at hD
      rw [← (hag c).2.2.2.1] at hW
      rw [← (hag c).2.2.2.2] at hB
      refine (Reference3Ideal.Read.val_main_v118_eq m' c).trans ((Reference3Ideal.ActRef.res118 _ _ _ _ _ (Reference3Ideal.ActRef.dact_real _ _ hX hD) (Reference3Ideal.ActRef.conv_real _ _ _ hU hW hB)).trans ?_)
      rw [(hag c).1, (hag c).2.1, (hag c).2.2.1, (hag c).2.2.2.1, (hag c).2.2.2.2]
    · obtain ⟨hU, hX, hD, hW, hB⟩ := Kernel3Ideal.ActFinite.real_of_pre _ _ _ _ _ (hpre c)
      rw [← (hag c).1] at hU
      rw [← (hag c).2.1] at hX
      rw [← (hag c).2.2.1] at hD
      rw [← (hag c).2.2.2.1] at hW
      rw [← (hag c).2.2.2.2] at hB
      refine (Reference3Ideal.Read.val_main_v119_eq m' c).trans ((Reference3Ideal.ActRef.res119 _ _ _ _ _ (Reference3Ideal.ActRef.dact_real _ _ hX hD) (Reference3Ideal.ActRef.conv_real _ _ _ hU hW hB)).trans ?_)
      rw [(hag c).1, (hag c).2.1, (hag c).2.2.1, (hag c).2.2.2.1, (hag c).2.2.2.2]
    · obtain ⟨hU, hX, hD, hW, hB⟩ := Kernel3Ideal.ActFinite.real_of_pre _ _ _ _ _ (hpre c)
      rw [← (hag c).1] at hU
      rw [← (hag c).2.1] at hX
      rw [← (hag c).2.2.1] at hD
      rw [← (hag c).2.2.2.1] at hW
      rw [← (hag c).2.2.2.2] at hB
      refine (Reference3Ideal.Read.val_main_v120_eq m' c).trans ((Reference3Ideal.ActRef.res120 _ _ _ _ _ (Reference3Ideal.ActRef.dact_real _ _ hX hD) (Reference3Ideal.ActRef.conv_real _ _ _ hU hW hB)).trans ?_)
      rw [(hag c).1, (hag c).2.1, (hag c).2.2.1, (hag c).2.2.2.1, (hag c).2.2.2.2]
    · obtain ⟨hU, hX, hD, hW, hB⟩ := Kernel3Ideal.ActFinite.real_of_pre _ _ _ _ _ (hpre c)
      rw [← (hag c).1] at hU
      rw [← (hag c).2.1] at hX
      rw [← (hag c).2.2.1] at hD
      rw [← (hag c).2.2.2.1] at hW
      rw [← (hag c).2.2.2.2] at hB
      refine (Reference3Ideal.Read.val_main_v122_eq m' c).trans ((Reference3Ideal.ActRef.res122 _ _ _ _ _ (Reference3Ideal.ActRef.dact_real _ _ hX hD) (Reference3Ideal.ActRef.conv_real _ _ _ hU hW hB)).trans ?_)
      rw [(hag c).1, (hag c).2.1, (hag c).2.2.1, (hag c).2.2.2.1, (hag c).2.2.2.2]
    · obtain ⟨hU, hX, hD, hW, hB⟩ := Kernel3Ideal.ActFinite.real_of_pre _ _ _ _ _ (hpre c)
      rw [← (hag c).1] at hU
      rw [← (hag c).2.1] at hX
      rw [← (hag c).2.2.1] at hD
      rw [← (hag c).2.2.2.1] at hW
      rw [← (hag c).2.2.2.2] at hB
      refine (Reference3Ideal.Read.val_main_v124_eq m' c).trans ((Reference3Ideal.ActRef.res124 _ _ _ _ _ (Reference3Ideal.ActRef.dact_real _ _ hX hD) (Reference3Ideal.ActRef.conv_real _ _ _ hU hW hB)).trans ?_)
      rw [(hag c).1, (hag c).2.1, (hag c).2.2.1, (hag c).2.2.2.1, (hag c).2.2.2.2]

end Cert.Proof.Act

end
-- ==== Proof.Product4.lean ====
module

public import proofs.«01_k».proof.Proof.Kit
public import proofs.«01_k».proof.Proof.Gen.Kernel4Ideal.Value
public import proofs.«01_k».proof.Proof.Gen.Reference4Ideal.Read

@[expose] public section

set_option maxRecDepth 16384

noncomputable section

namespace Cert.Kernel4Ideal.Product

open Gen Idealize.ShloMosaic TcCoe Idealize.SL.Sem
open Idealize.ShloMosaic.Pipeline (Dat)

section Points

variable {F : FTy → Type} [FloatOps F]

variable (c : Dev nD) (i : grid0.Coords) (arg3 : Memref sig .tc .vmem S2048x512 .bf16) (harg3 : arg3.IsWhole) (arg4 : Memref sig .tc .vmem S2048x2048 .bf16) (harg4 : arg4.IsWhole) (arg5 : Memref sig .tc .vmem S512x2048 .bf16) (harg5 : arg5.IsWhole) (arg6 : Memref sig .tc .vmem S512x2048 .f32) (harg6 : arg6.IsWhole)
    (x0 : Vec F S2048x512 .bf16) (x1 : Vec F S2048x2048 .bf16) (acc : Vec F S512x2048 .f32)

/-- What case A leaves in the accumulator. -/
theorem acc_A (hc0 : cond0_0 i) (hc1 : ¬cond0_1 i) (hc2 : ¬cond0_2 i) :
    sout0_A_0 c i arg3 harg3 arg4 harg4 arg5 harg5 arg6 harg6 hc0 hc1 hc2 x0 x1 = k0_pay2 x0 x1 := by
  unfold sout0_A_0
  rw [View.read_writes_eq_canon _ _ _ (scover0_A_0 c i arg3 harg3 arg4 harg4 arg5 harg5 arg6 harg6 hc0 hc1 hc2 x0 x1)]
  unfold kernelRun0_A
  dsimp only
  sl_unfold_words
  rw [View.canon_unit_zero hz2]
  simp only [View.readAt_eq_ld, Memref.IsWhole.read_unread, Kit.ld, View.readCov_unit_zero (S := S512x2048) _ hz2]

/-- What case B leaves in the accumulator. -/
theorem acc_B (hc0 : ¬cond0_0 i) (hc1 : cond0_1 i) (hc2 : ¬cond0_2 i) :
    sout0_B_0 c i arg3 harg3 arg4 harg4 arg5 harg5 arg6 harg6 hc0 hc1 hc2 x0 x1 acc = k0_pay3 x0 x1 acc := by
  unfold sout0_B_0
  rw [View.read_writes_eq_canon _ _ _ (scover0_B_0 c i arg3 harg3 arg4 harg4 arg5 harg5 arg6 harg6 hc0 hc1 hc2 x0 x1 acc)]
  unfold kernelRun0_B
  dsimp only
  sl_unfold_words
  rw [View.canon_unit_zero hz2]
  simp only [View.readAt_eq_ld, Memref.IsWhole.read_unread, Kit.ld, View.readCov_unit_zero (S := S512x2048) _ hz2]

/-- What case C leaves in the accumulator. -/
theorem acc_C (hc0 : ¬cond0_0 i) (hc1 : cond0_1 i) (hc2 : cond0_2 i) :
    sout0_C_0 c i arg3 harg3 arg4 harg4 arg5 harg5 arg6 harg6 hc0 hc1 hc2 x0 x1 acc = k0_pay3 x0 x1 acc := by
  unfold sout0_C_0
  rw [View.read_writes_eq_canon _ _ _ (scover0_C_0 c i arg3 harg3 arg4 harg4 arg5 harg5 arg6 harg6 hc0 hc1 hc2 x0 x1 acc)]
  unfold kernelRun0_C
  dsimp only
  sl_unfold_words
  rw [View.canon_unit_zero hz2]
  simp only [View.readAt_eq_ld, Memref.IsWhole.read_unread, Kit.ld, View.readCov_unit_zero (S := S512x2048) _ hz2]

/-- The last point of a run writes its block of the result from the accumulator. -/
theorem out_last (hc0 : ¬cond0_0 i) (hc1 : cond0_1 i) (hc2 : cond0_2 i) :
    out0_C_2 c i arg3 harg3 arg4 harg4 arg5 harg5 arg6 harg6 hc0 hc1 hc2 x0 x1 acc = k0_pay4 (k0_pay3 x0 x1 acc) := by
  unfold out0_C_2
  rw [View.read_writes_eq_canon _ _ _ (cover0_C_2 _ _ _ _ _ _ _ _ _ _ _ _ _ _ _ _)]
  unfold kernelRun0_C
  dsimp only
  sl_unfold_words
  rw [View.canon_unit_zero hz2]
  simp only [View.readAt_eq_ld, Memref.IsWhole.read_unread, Kit.ld, View.readCov_unit_zero (S := S512x2048) _ hz2]

end Points

variable (m : (ℓ : Loc nD τ sig) → Buf (Elt Ideal) ℓ)

/-- The arguments at launch. -/
abbrev a0 (c : Dev nD) : Vec Ideal S8192x9728 .bf16 := m ((c : Thread nD τ).loc main_arg0)
@[inherit_doc a0] abbrev a1 (c : Dev nD) : Vec Ideal S8192x2048 .bf16 := m ((c : Thread nD τ).loc main_arg1)

/-- Which blocks a point reads and writes. -/
theorem idx : ∀ t : Fin grid0.N, (win0_0.index t 0 = t.val % 4 ∧ win0_0.index t 1 = t.val / 4) ∧ (win0_1.index t 0 = t.val % 4 ∧ win0_1.index t 1 = 0) ∧ (win0_2.index t 0 = t.val / 4 ∧ win0_2.index t 1 = 0) := by
  decide +kernel

/-- A point's number is below 76. -/
theorem lt_all (t : Fin cfg0.N) : t.val < 76 := lt_of_lt_of_eq t.isLt N_0

/-- A row or column of a point's block, in the whole array. -/
abbrev row (t : Fin cfg0.N) (r : Fin 2048) : Fin 8192 := ⟨t.val % 4 * 2048 + r.val, by have := lt_all t; omega⟩

/-- A row or column of a point's block, in the whole array. -/
abbrev row1 (t : Fin cfg0.N) (r : Fin 512) : Fin 9728 := ⟨t.val / 4 * 512 + r.val, by have := lt_all t; omega⟩

/-- One summand of the product, at a row and a column. -/
def prod (A : Vec Ideal S8192x9728 .bf16) (B : Vec Ideal S8192x2048 .bf16) (r : Fin 9728) (n : Fin 2048) (q : Fin 8192) : EReal :=
  A (ix2 q r) * B (ix2 q n)

/-- The product, at a row and a column. -/
def entry (A : Vec Ideal S8192x9728 .bf16) (B : Vec Ideal S8192x2048 .bf16) (r : Fin 9728) (n : Fin 2048) : EReal :=
  ∑ q : Fin 8192, prod A B r n q

/-- The result: the gradient of the input projection's weight, transposed. -/
def G (A : Vec Ideal S8192x9728 .bf16) (B : Vec Ideal S8192x2048 .bf16) : Vec Ideal S9728x2048 .bf16 := fun j => entry A B (j 0) (j 1)

/-- Block 0 of a point, at an element. -/
theorem blk0 (c : Dev nD) (t : Fin cfg0.N) (r : Fin 512) (l : Fin 2048) :
    (iblk m c 0 t : Vec Ideal S2048x512 .bf16) (ix2 l r) = a0 m c (ix2 (row t l) (row1 t r)) := by
  have h := (idx t).1
  exact (congrFun (V_main_arg0 m c) _).trans (congrArg _ (Kit.e2 (Kit.at_ 2048 h.1 l) (Kit.at_ 512 h.2 r)))

/-- Block 1 of a point, at an element. -/
theorem blk1 (c : Dev nD) (t : Fin cfg0.N) (l : Fin 2048) (n : Fin 2048) :
    (iblk m c 1 t : Vec Ideal S2048x2048 .bf16) (ix2 l n) = a1 m c (ix2 (row t l) (⟨0 * 2048 + n.val, by have := lt_all t; omega⟩ : Fin 2048)) := by
  have h := (idx t).2.1
  exact (congrFun (V_main_arg1 m c) _).trans (congrArg _ (Kit.e2 (Kit.at_ 2048 h.1 l) (Kit.at_ 2048 h.2 n)))

/-- The product of two blocks, at an element. -/
theorem mm_apply (a : Vec Ideal S2048x512 .bf16) (b : Vec Ideal S2048x2048 .bf16) (r : Fin 512) (n : Fin 2048) :
    k0_pay1 a b (ix2 r n) = ∑ l : Fin 2048, (a (ix2 l r) * b (ix2 l n) : EReal) := by
  pointwise [k0_pay1]

/-- One point's share of the product. -/
def term (c : Dev nD) (t : Fin cfg0.N) : S512x2048.Idx → EReal := k0_pay1 (iblk m c 0 t) (iblk m c 1 t)

/-- A point's share, at an element, in the whole arrays. -/
theorem term_apply (c : Dev nD) (t : Fin cfg0.N) (r : Fin 512) (n : Fin 2048) :
    term m c t (ix2 r n) = ∑ l : Fin 2048, prod (a0 m c) (a1 m c) (row1 t r) (⟨0 * 2048 + n.val, by have := lt_all t; omega⟩ : Fin 2048) (row t l) := by
  unfold term
  rw [mm_apply]
  refine Finset.sum_congr rfl fun l _ => ?_
  rw [blk0, blk1]
  rfl

/-- A run's first point sets the accumulator. -/
theorem acc_first (c : Dev nD) (t : Fin cfg0.N) (h0 : t.val % 4 = 0) (i : S512x2048.Idx) :
    (outsAt0 m c t.val t.isLt).2 i = 0 + term m c t i := by
  rw [outsAt0_A m c t h0 (by omega) (by omega)]
  dsimp only
  rw [acc_A]
  rw [zero_add]
  unfold k0_pay2 term
  rw [shapeCast_self]

/-- Every other point adds to it. -/
theorem acc_next (c : Dev nD) (t : Fin cfg0.N) (h0 : ¬t.val % 4 = 0) (i : S512x2048.Idx) :
    (outsAt0 m c t.val t.isLt).2 i
      = (outsAt0 m c (t.val - 1) (Nat.lt_of_le_of_lt (Nat.sub_le _ _) t.isLt)).2 i + term m c t i := by
  by_cases h2 : t.val % 4 = 3
  · rw [outsAt0_C m c t h0 (by omega) h2]
    dsimp only
    rw [acc_C]
    unfold k0_pay3 term
    rw [shapeCast_self]
    rfl
  · rw [outsAt0_B m c t h0 (by omega) h2]
    dsimp only
    rw [acc_B]
    unfold k0_pay3 term
    rw [shapeCast_self]
    rfl

/-- The accumulator at the end of a run holds the whole product. -/
theorem acc_last (c : Dev nD) (t : Fin cfg0.N) (h : t.val % 4 = 3) (r : Fin 512) (n : Fin 2048) :
    (outsAt0 m c t.val t.isLt).2 (ix2 r n) = entry (a0 m c) (a1 m c) (row1 t r) (⟨0 * 2048 + n.val, by have := lt_all t; omega⟩ : Fin 2048) := by
  have key := Pipeline.eq_sum_fin_of_reset_step_apply_of_flush (fun n h => (outsAt0 m c n h).2) 4 (fun _ => (0 : EReal)) (term m c)
    (acc_first m c) (acc_next m c) t h (ix2 r n)
  refine key.trans ?_
  rw [zero_add]
  unfold entry
  refine Eq.trans ?_ (Fin.sum_mul_add_fin 4 2048 (prod (a0 m c) (a1 m c) (row1 t r) (⟨0 * 2048 + n.val, by have := lt_all t; omega⟩ : Fin 2048)))
  refine Finset.sum_congr rfl fun s _ => ?_
  rw [term_apply]
  refine Finset.sum_congr rfl fun l _ => ?_
  have e : (4 * (t.val / 4) + s.val) % 4 = s.val := by omega
  have e' : (4 * (t.val / 4) + s.val) / 4 = t.val / 4 := by omega

  simp only [row, row1, e, e']

/-- What the last point of a run writes back. -/
theorem outs_last (c : Dev nD) (t : Fin cfg0.N) (h : t.val % 4 = 3) (r : Fin 512) (n : Fin 2048) :
    (outsAt0 m c t.val t.isLt).1 (ix2 r n) = G (a0 m c) (a1 m c) (ix2 (row1 t r) (⟨0 * 2048 + n.val, by have := lt_all t; omega⟩ : Fin 2048)) := by
  unfold G
  show _ = entry (a0 m c) (a1 m c) (row1 t r) (⟨0 * 2048 + n.val, by have := lt_all t; omega⟩ : Fin 2048)
  rw [← acc_last m c t h, outsAt0_C m c t (by omega) (by omega) h]
  dsimp only
  rw [out_last, acc_C]
  pointwise [k0_pay4]

/-- What a point writes back is its block of `G`. -/
theorem flushed_G (c : Dev nD) (t : Fin cfg0.N) (hf : (cfg0.win 2).flush t = true) : (dats m 0 c).flushed 2 t =
    ((cfg0.win 2).blk t).view.read (Elt Ideal) (G (a0 m c) (a1 m c)) := by
  have hk : t.val % 4 = 3 := (flush0_2 t).mp hf
  have h := (idx t).2.2
  have ht := lt_all t
  rw [Value.flushed2]
  funext (j : S512x2048.Idx)
  rw [View.read_apply]
  obtain ⟨r, n, rfl⟩ := Kit.pair j
  have e : (((cfg0.win 2).blk t).view.emb (ix2 r n) : S9728x2048.Idx) = ix2 ⟨t.val / 4 * 512 + r.val, by omega⟩ ⟨0 * 2048 + n.val, by omega⟩ :=
    Kit.e2 (Kit.at_ 512 h.1 r) (Kit.at_ 2048 h.2 n)
  refine Eq.trans ?_ (congrArg (G (a0 m c) (a1 m c)) e).symm
  exact outs_last m c t hk r n

/-- An index of the result lies in a block that is written back. -/
theorem cover (i : S9728x2048.Idx) : ∃ t : Fin cfg0.N, (cfg0.win 2).flush t = true ∧ i ∈ ((cfg0.win 2).blk t).view.set := by
  have h0 : (i 0).val < 9728 := (i 0).isLt
  have h1 : (i 1).val < 2048 := (i 1).isLt
  obtain ⟨t, ht⟩ : ∃ t : Fin cfg0.N, t.val = (i 0).val / 512 * 4 + 3 :=
    ⟨⟨_, by show _ < grid0.N; rw [Gen.N_0]; omega⟩, rfl⟩
  have h := (idx t).2.2
  refine ⟨t, (flush0_2 t).mpr (by omega), ?_⟩
  exact Kit.cov (Fin.forall_fin_two.2 ⟨Kit.mem 512 _ h.1 (by omega), Kit.mem 2048 _ h.2 (by omega)⟩)

/-- The result array after the run. -/
theorem final (c : Dev nD) : (dats m 0 c).arrAt 2 cfg0.N = G (a0 m c) (a1 m c) :=
  (dats m 0 c).arrAt_eq_of_cover 2 _ (flushed_G m c) cover

end Cert.Kernel4Ideal.Product

namespace Cert.Reference4Ideal.Product

open Gen Read Idealize.ShloMosaic TcCoe Idealize.SL.Sem

/-- The reference computes the same array. -/
theorem result (A : Vec Ideal S8192x9728 .bf16) (B : Vec Ideal S8192x2048 .bf16) : val_main_v7 (F := Ideal) A B = Kernel4Ideal.Product.G A B := by
  funext j
  obtain ⟨r, n, rfl⟩ := Kit.pair j
  unfold Kernel4Ideal.Product.G Kernel4Ideal.Product.entry Kernel4Ideal.Product.prod
  pointwise [val_main_v7, val_main_v6, val_main_v5, val_main_v4, val_main_v3, val_main_v2, val_main_v1, val_main_v0, val_main_cst]

end Cert.Reference4Ideal.Product

namespace Cert.Proof.Product4

open Idealize.ShloMosaic TcCoe Idealize.SL.Sem

/-- The reference leaves its arguments as they were; it has no semaphore. -/
theorem frame_reference : quiescent_Reference4Ideal := fun m ρ _ =>
  (θ_run Reference4Ideal.defs _ _).mono (fun r h => ⟨fun c => (h c).2, sem_eq_zero_of_no_sems (by decide) r.2⟩)
    (Reference4Ideal.Value.run m ρ)

/-- The kernel and the reference leave the same array, the gradient of the input projection's weight, transposed. -/
theorem algebraic : algebraic_Kernel4Ideal_Reference4Ideal := by
  intro m ρ m' ρ' _ hag
  refine ⟨_, (θ_run Kernel4Ideal.defs _ _).mono
    (fun _ h c => ⟨(h c).1.trans (Kernel4Ideal.Product.final m c), (h c).2⟩)
    (Kernel4Ideal.Value.run_blocks m ρ), ?_⟩
  · refine (θ_run Reference4Ideal.defs _ _).mono (fun _ h c => ⟨(h c).1.trans ?_, (h c).2⟩)
      (Reference4Ideal.Value.run m' ρ')
    refine (Reference4Ideal.Read.val_main_v7_eq _ _).trans ((Reference4Ideal.Product.result _ _).trans ?_)
    rw [(hag c).1, (hag c).2]

end Cert.Proof.Product4

end
-- ==== Proof.Product5.lean ====
module

public import proofs.«01_k».proof.Proof.Kit
public import proofs.«01_k».proof.Proof.Gen.Kernel5Ideal.Value
public import proofs.«01_k».proof.Proof.Gen.Reference5Ideal.Read

@[expose] public section

set_option maxRecDepth 16384

noncomputable section

namespace Cert.Kernel5Ideal.Product

open Gen Idealize.ShloMosaic TcCoe Idealize.SL.Sem
open Idealize.ShloMosaic.Pipeline (Dat)

section Points

variable {F : FTy → Type} [FloatOps F]

variable (c : Dev nD) (i : grid0.Coords) (arg3 : Memref sig .tc .vmem S1024x2432 .bf16) (harg3 : arg3.IsWhole) (arg4 : Memref sig .tc .vmem S2432x1024 .bf16) (harg4 : arg4.IsWhole) (arg5 : Memref sig .tc .vmem S8x128 .f32) (harg5 : arg5.IsWhole) (arg6 : Memref sig .tc .vmem S1024x1024 .bf16) (harg6 : arg6.IsWhole) (arg7 : Memref sig .tc .vmem S1024x1024 .f32) (harg7 : arg7.IsWhole)
    (x0 : Vec F S1024x2432 .bf16) (x1 : Vec F S2432x1024 .bf16) (x2 : Vec F S8x128 .f32) (acc : Vec F S1024x1024 .f32)

/-- What case A leaves in the accumulator. -/
theorem acc_A (hc0 : cond0_0 i) (hc1 : ¬cond0_1 i) (hc2 : ¬cond0_2 i) :
    sout0_A_0 c i arg3 harg3 arg4 harg4 arg5 harg5 arg6 harg6 arg7 harg7 hc0 hc1 hc2 x0 x1 x2 = k0_pay2 x0 x1 := by
  unfold sout0_A_0
  rw [View.read_writes_eq_canon _ _ _ (scover0_A_0 c i arg3 harg3 arg4 harg4 arg5 harg5 arg6 harg6 arg7 harg7 hc0 hc1 hc2 x0 x1 x2)]
  unfold kernelRun0_A
  dsimp only
  sl_unfold_words
  rw [View.canon_unit_zero hz2]
  simp only [View.readAt_eq_ld, Memref.IsWhole.read_unread, Kit.ld, View.readCov_unit_zero (S := S1024x1024) _ hz2]

/-- What case B leaves in the accumulator. -/
theorem acc_B (hc0 : ¬cond0_0 i) (hc1 : cond0_1 i) (hc2 : ¬cond0_2 i) :
    sout0_B_0 c i arg3 harg3 arg4 harg4 arg5 harg5 arg6 harg6 arg7 harg7 hc0 hc1 hc2 x0 x1 x2 acc = k0_pay3 x0 x1 acc := by
  unfold sout0_B_0
  rw [View.read_writes_eq_canon _ _ _ (scover0_B_0 c i arg3 harg3 arg4 harg4 arg5 harg5 arg6 harg6 arg7 harg7 hc0 hc1 hc2 x0 x1 x2 acc)]
  unfold kernelRun0_B
  dsimp only
  sl_unfold_words
  rw [View.canon_unit_zero hz2]
  simp only [View.readAt_eq_ld, Memref.IsWhole.read_unread, Kit.ld, View.readCov_unit_zero (S := S1024x1024) _ hz2]

/-- What case C leaves in the accumulator. -/
theorem acc_C (hc0 : ¬cond0_0 i) (hc1 : cond0_1 i) (hc2 : cond0_2 i) :
    sout0_C_0 c i arg3 harg3 arg4 harg4 arg5 harg5 arg6 harg6 arg7 harg7 hc0 hc1 hc2 x0 x1 x2 acc = k0_pay3 x0 x1 acc := by
  unfold sout0_C_0
  rw [View.read_writes_eq_canon _ _ _ (scover0_C_0 c i arg3 harg3 arg4 harg4 arg5 harg5 arg6 harg6 arg7 harg7 hc0 hc1 hc2 x0 x1 x2 acc)]
  unfold kernelRun0_C
  dsimp only
  sl_unfold_words
  rw [View.canon_unit_zero hz2]
  simp only [View.readAt_eq_ld, Memref.IsWhole.read_unread, Kit.ld, View.readCov_unit_zero (S := S1024x1024) _ hz2]

/-- The last point of a run writes its block of the result from the accumulator. -/
theorem out_last (hc0 : ¬cond0_0 i) (hc1 : cond0_1 i) (hc2 : cond0_2 i) :
    out0_C_3 c i arg3 harg3 arg4 harg4 arg5 harg5 arg6 harg6 arg7 harg7 hc0 hc1 hc2 x0 x1 x2 acc = k0_pay4 (k0_pay3 x0 x1 acc) := by
  unfold out0_C_3
  rw [View.read_writes_eq_canon _ _ _ (cover0_C_3 _ _ _ _ _ _ _ _ _ _ _ _ _ _ _ _ _ _ _)]
  unfold kernelRun0_C
  dsimp only
  sl_unfold_words
  rw [View.canon_unit_zero hz2]
  simp only [View.readAt_eq_ld, Memref.IsWhole.read_unread, Kit.ld, View.readCov_unit_zero (S := S1024x1024) _ hz2]

end Points

variable (m : (ℓ : Loc nD τ sig) → Buf (Elt Ideal) ℓ)

/-- The arguments at launch. -/
abbrev a0 (c : Dev nD) : Vec Ideal S8192x9728 .bf16 := m ((c : Thread nD τ).loc main_arg0)
@[inherit_doc a0] abbrev a1 (c : Dev nD) : Vec Ideal S2048x9728 .f32 := m ((c : Thread nD τ).loc main_arg1)

/-- Which blocks a point reads and writes. -/
theorem idx : ∀ t : Fin grid0.N, (win0_0.index t 0 = t.val / 8 ∧ win0_0.index t 1 = t.val % 4) ∧ (win0_1.index t 0 = t.val % 4 ∧ win0_1.index t 1 = t.val / 4 % 2) ∧ (win0_3.index t 0 = t.val / 8 ∧ win0_3.index t 1 = t.val / 4 % 2) := by
  decide +kernel

/-- A point's number is below 64. -/
theorem lt_all (t : Fin cfg0.N) : t.val < 64 := lt_of_lt_of_eq t.isLt N_0

/-- A row or column of a point's block, in the whole array. -/
abbrev row (t : Fin cfg0.N) (r : Fin 1024) : Fin 8192 := ⟨t.val / 8 * 1024 + r.val, by have := lt_all t; omega⟩

/-- A row or column of a point's block, in the whole array. -/
abbrev row1 (t : Fin cfg0.N) (r : Fin 2432) : Fin 9728 := ⟨t.val % 4 * 2432 + r.val, by have := lt_all t; omega⟩

/-- A row or column of a point's block, in the whole array. -/
abbrev row2 (t : Fin cfg0.N) (r : Fin 1024) : Fin 2048 := ⟨t.val / 4 % 2 * 1024 + r.val, by have := lt_all t; omega⟩

/-- One summand of the product, at a row and a column. -/
def prod (A : Vec Ideal S8192x9728 .bf16) (B : Vec Ideal S2048x9728 .f32) (r : Fin 8192) (n : Fin 2048) (q : Fin 9728) : EReal :=
  A (ix2 r q) * B (ix2 n q)

/-- The product, at a row and a column. -/
def entry (A : Vec Ideal S8192x9728 .bf16) (B : Vec Ideal S2048x9728 .f32) (r : Fin 8192) (n : Fin 2048) : EReal :=
  ∑ q : Fin 9728, prod A B r n q

/-- The result: the gradient of the normalised input. -/
def G (A : Vec Ideal S8192x9728 .bf16) (B : Vec Ideal S2048x9728 .f32) : Vec Ideal S8192x2048 .bf16 := fun j => entry A B (j 0) (j 1)

/-- Block 0 of a point, at an element. -/
theorem blk0 (c : Dev nD) (t : Fin cfg0.N) (r : Fin 1024) (l : Fin 2432) :
    (iblk m c 0 t : Vec Ideal S1024x2432 .bf16) (ix2 r l) = a0 m c (ix2 (row t r) (row1 t l)) := by
  have h := (idx t).1
  exact (congrFun (V_main_arg0 m c) _).trans (congrArg _ (Kit.e2 (Kit.at_ 1024 h.1 r) (Kit.at_ 2432 h.2 l)))

/-- The weight as the kernel finds it: transposed (and rounded, which is nothing over the reals). -/
theorem V_w (c : Dev nD) : @Eq (FVec Ideal S9728x2048 .bf16) (V m c main_v1)
    (truncf .bf16 (transpose S9728x2048 [1, 0] (m ((c : Thread nD τ).loc main_arg1) : FVec Ideal S2048x9728 .f32) transposes_S2048x9728_S9728x2048_1_0) bitsLt_bf16_f32) := by
  show StableHlo.after hostOps0 _ (Proc.devRef .tc main_v1) = _
  after_results

/-- Block 1 of a point, at an element. -/
theorem blk1 (c : Dev nD) (t : Fin cfg0.N) (l : Fin 2432) (n : Fin 1024) :
    (iblk m c 1 t : Vec Ideal S2432x1024 .bf16) (ix2 l n) = a1 m c (ix2 (row2 t n) (row1 t l)) := by
  have h := (idx t).2.1
  have ht := lt_all t
  unfold iblk
  rw [View.read_apply]
  show V m c main_v1 _ = _
  refine (congrFun (V_w m c) _).trans ?_
  have e : (((cfg0.win 1).blk t).view.emb (ix2 l n) : S9728x2048.Idx) = ix2 ⟨t.val % 4 * 2432 + l.val, by omega⟩ ⟨t.val / 4 % 2 * 1024 + n.val, by omega⟩ :=
    Kit.e2 (Kit.at_ 2432 h.1 l) (Kit.at_ 1024 h.2 n)
  refine Eq.trans (congrArg _ e) ?_
  pointwise []

/-- The product of two blocks, at an element. -/
theorem mm_apply (a : Vec Ideal S1024x2432 .bf16) (b : Vec Ideal S2432x1024 .bf16) (r : Fin 1024) (n : Fin 1024) :
    k0_pay1 a b (ix2 r n) = ∑ l : Fin 2432, (a (ix2 r l) * b (ix2 l n) : EReal) := by
  pointwise [k0_pay1]

/-- One point's share of the product. -/
def term (c : Dev nD) (t : Fin cfg0.N) : S1024x1024.Idx → EReal := k0_pay1 (iblk m c 0 t) (iblk m c 1 t)

/-- A point's share, at an element, in the whole arrays. -/
theorem term_apply (c : Dev nD) (t : Fin cfg0.N) (r : Fin 1024) (n : Fin 1024) :
    term m c t (ix2 r n) = ∑ l : Fin 2432, prod (a0 m c) (a1 m c) (row t r) (row2 t n) (row1 t l) := by
  unfold term
  rw [mm_apply]
  refine Finset.sum_congr rfl fun l _ => ?_
  rw [blk0, blk1]
  rfl

/-- A run's first point sets the accumulator. -/
theorem acc_first (c : Dev nD) (t : Fin cfg0.N) (h0 : t.val % 4 = 0) (i : S1024x1024.Idx) :
    (outsAt0 m c t.val t.isLt).2 i = 0 + term m c t i := by
  rw [outsAt0_A m c t h0 (by omega) (by omega)]
  dsimp only
  rw [acc_A]
  rw [zero_add]
  unfold k0_pay2 term
  rw [shapeCast_self]

/-- Every other point adds to it. -/
theorem acc_next (c : Dev nD) (t : Fin cfg0.N) (h0 : ¬t.val % 4 = 0) (i : S1024x1024.Idx) :
    (outsAt0 m c t.val t.isLt).2 i
      = (outsAt0 m c (t.val - 1) (Nat.lt_of_le_of_lt (Nat.sub_le _ _) t.isLt)).2 i + term m c t i := by
  by_cases h2 : t.val % 4 = 3
  · rw [outsAt0_C m c t h0 (by omega) h2]
    dsimp only
    rw [acc_C]
    unfold k0_pay3 term
    rw [shapeCast_self]
    rfl
  · rw [outsAt0_B m c t h0 (by omega) h2]
    dsimp only
    rw [acc_B]
    unfold k0_pay3 term
    rw [shapeCast_self]
    rfl

/-- The accumulator at the end of a run holds the whole product. -/
theorem acc_last (c : Dev nD) (t : Fin cfg0.N) (h : t.val % 4 = 3) (r : Fin 1024) (n : Fin 1024) :
    (outsAt0 m c t.val t.isLt).2 (ix2 r n) = entry (a0 m c) (a1 m c) (row t r) (row2 t n) := by
  have key := Pipeline.eq_sum_fin_of_reset_step_apply_of_flush (fun n h => (outsAt0 m c n h).2) 4 (fun _ => (0 : EReal)) (term m c)
    (acc_first m c) (acc_next m c) t h (ix2 r n)
  refine key.trans ?_
  rw [zero_add]
  unfold entry
  refine Eq.trans ?_ (Fin.sum_mul_add_fin 4 2432 (prod (a0 m c) (a1 m c) (row t r) (row2 t n)))
  refine Finset.sum_congr rfl fun s _ => ?_
  rw [term_apply]
  refine Finset.sum_congr rfl fun l _ => ?_
  have e : (4 * (t.val / 4) + s.val) % 4 = s.val := by omega
  have e' : (4 * (t.val / 4) + s.val) / 4 = t.val / 4 := by omega

  have e'' : (4 * (t.val / 4) + s.val) / 8 = t.val / 8 := by omega
  simp only [row, row1, row2, e, e', e'']

/-- What the last point of a run writes back. -/
theorem outs_last (c : Dev nD) (t : Fin cfg0.N) (h : t.val % 4 = 3) (r : Fin 1024) (n : Fin 1024) :
    (outsAt0 m c t.val t.isLt).1 (ix2 r n) = G (a0 m c) (a1 m c) (ix2 (row t r) (row2 t n)) := by
  unfold G
  show _ = entry (a0 m c) (a1 m c) (row t r) (row2 t n)
  rw [← acc_last m c t h, outsAt0_C m c t (by omega) (by omega) h]
  dsimp only
  rw [out_last, acc_C]
  pointwise [k0_pay4]

/-- What a point writes back is its block of `G`. -/
theorem flushed_G (c : Dev nD) (t : Fin cfg0.N) (hf : (cfg0.win 3).flush t = true) : (dats m 0 c).flushed 3 t =
    ((cfg0.win 3).blk t).view.read (Elt Ideal) (G (a0 m c) (a1 m c)) := by
  have hk : t.val % 4 = 3 := (flush0_3 t).mp hf
  have h := (idx t).2.2
  have ht := lt_all t
  rw [Value.flushed3]
  funext (j : S1024x1024.Idx)
  rw [View.read_apply]
  obtain ⟨r, n, rfl⟩ := Kit.pair j
  have e : (((cfg0.win 3).blk t).view.emb (ix2 r n) : S8192x2048.Idx) = ix2 ⟨t.val / 8 * 1024 + r.val, by omega⟩ ⟨t.val / 4 % 2 * 1024 + n.val, by omega⟩ :=
    Kit.e2 (Kit.at_ 1024 h.1 r) (Kit.at_ 1024 h.2 n)
  refine Eq.trans ?_ (congrArg (G (a0 m c) (a1 m c)) e).symm
  exact outs_last m c t hk r n

/-- An index of the result lies in a block that is written back. -/
theorem cover (i : S8192x2048.Idx) : ∃ t : Fin cfg0.N, (cfg0.win 3).flush t = true ∧ i ∈ ((cfg0.win 3).blk t).view.set := by
  have h0 : (i 0).val < 8192 := (i 0).isLt
  have h1 : (i 1).val < 2048 := (i 1).isLt
  obtain ⟨t, ht⟩ : ∃ t : Fin cfg0.N, t.val = (i 0).val / 1024 * 8 + (i 1).val / 1024 * 4 + 3 :=
    ⟨⟨_, by show _ < grid0.N; rw [Gen.N_0]; omega⟩, rfl⟩
  have h := (idx t).2.2
  refine ⟨t, (flush0_3 t).mpr (by omega), ?_⟩
  exact Kit.cov (Fin.forall_fin_two.2 ⟨Kit.mem 1024 _ h.1 (by omega), Kit.mem 1024 _ h.2 (by omega)⟩)

/-- The result array after the run. -/
theorem final (c : Dev nD) : (dats m 0 c).arrAt 3 cfg0.N = G (a0 m c) (a1 m c) :=
  (dats m 0 c).arrAt_eq_of_cover 3 _ (flushed_G m c) cover

end Cert.Kernel5Ideal.Product

namespace Cert.Reference5Ideal.Product

open Gen Read Idealize.ShloMosaic TcCoe Idealize.SL.Sem

/-- The reference computes the same array. -/
theorem result (A : Vec Ideal S8192x9728 .bf16) (B : Vec Ideal S2048x9728 .f32) : val_main_v4 (F := Ideal) A B = Kernel5Ideal.Product.G A B := by
  funext j
  obtain ⟨r, n, rfl⟩ := Kit.pair j
  unfold Kernel5Ideal.Product.G Kernel5Ideal.Product.entry Kernel5Ideal.Product.prod
  pointwise [val_main_v4, val_main_v3, val_main_v2, val_main_v1, val_main_v0, val_main_cst]

end Cert.Reference5Ideal.Product

namespace Cert.Proof.Product5

open Idealize.ShloMosaic TcCoe Idealize.SL.Sem

/-- The reference leaves its arguments as they were; it has no semaphore. -/
theorem frame_reference : quiescent_Reference5Ideal := fun m ρ _ =>
  (θ_run Reference5Ideal.defs _ _).mono (fun r h => ⟨fun c => (h c).2, sem_eq_zero_of_no_sems (by decide) r.2⟩)
    (Reference5Ideal.Value.run m ρ)

/-- The kernel and the reference leave the same array, the gradient of the normalised input. -/
theorem algebraic : algebraic_Kernel5Ideal_Reference5Ideal := by
  intro m ρ m' ρ' _ hag
  refine ⟨_, (θ_run Kernel5Ideal.defs _ _).mono
    (fun _ h c => ⟨(h c).1.trans (Kernel5Ideal.Product.final m c), (h c).2⟩)
    (Kernel5Ideal.Value.run_blocks m ρ), ?_⟩
  · refine (θ_run Reference5Ideal.defs _ _).mono (fun _ h c => ⟨(h c).1.trans ?_, (h c).2⟩)
      (Reference5Ideal.Value.run m' ρ')
    refine (Reference5Ideal.Read.val_main_v4_eq _ _).trans ((Reference5Ideal.Product.result _ _).trans ?_)
    rw [(hag c).1, (hag c).2.1]

end Cert.Proof.Product5

end
-- ==== Proof.Product6.lean ====
module

public import proofs.«01_k».proof.Proof.Kit
public import proofs.«01_k».proof.Proof.Gen.Kernel6Ideal.Value
public import proofs.«01_k».proof.Proof.Gen.Reference6Ideal.Read

@[expose] public section

set_option maxRecDepth 16384

noncomputable section

namespace Cert.Kernel6Ideal.Product

open Gen Idealize.ShloMosaic TcCoe Idealize.SL.Sem
open Idealize.ShloMosaic.Pipeline (Dat)

section Points

variable {F : FTy → Type} [FloatOps F]

variable (c : Dev nD) (i : grid0.Coords) (arg3 : Memref sig .tc .vmem S2048x512 .bf16) (harg3 : arg3.IsWhole) (arg4 : Memref sig .tc .vmem S2048x2048 .bf16) (harg4 : arg4.IsWhole) (arg5 : Memref sig .tc .vmem S512x2048 .bf16) (harg5 : arg5.IsWhole) (arg6 : Memref sig .tc .vmem S512x2048 .f32) (harg6 : arg6.IsWhole)
    (x0 : Vec F S2048x512 .bf16) (x1 : Vec F S2048x2048 .bf16) (acc : Vec F S512x2048 .f32)

/-- What case A leaves in the accumulator. -/
theorem acc_A (hc0 : cond0_0 i) (hc1 : ¬cond0_1 i) (hc2 : ¬cond0_2 i) :
    sout0_A_0 c i arg3 harg3 arg4 harg4 arg5 harg5 arg6 harg6 hc0 hc1 hc2 x0 x1 = k0_pay2 x0 x1 := by
  unfold sout0_A_0
  rw [View.read_writes_eq_canon _ _ _ (scover0_A_0 c i arg3 harg3 arg4 harg4 arg5 harg5 arg6 harg6 hc0 hc1 hc2 x0 x1)]
  unfold kernelRun0_A
  dsimp only
  sl_unfold_words
  rw [View.canon_unit_zero hz2]
  simp only [View.readAt_eq_ld, Memref.IsWhole.read_unread, Kit.ld, View.readCov_unit_zero (S := S512x2048) _ hz2]

/-- What case B leaves in the accumulator. -/
theorem acc_B (hc0 : ¬cond0_0 i) (hc1 : cond0_1 i) (hc2 : ¬cond0_2 i) :
    sout0_B_0 c i arg3 harg3 arg4 harg4 arg5 harg5 arg6 harg6 hc0 hc1 hc2 x0 x1 acc = k0_pay3 x0 x1 acc := by
  unfold sout0_B_0
  rw [View.read_writes_eq_canon _ _ _ (scover0_B_0 c i arg3 harg3 arg4 harg4 arg5 harg5 arg6 harg6 hc0 hc1 hc2 x0 x1 acc)]
  unfold kernelRun0_B
  dsimp only
  sl_unfold_words
  rw [View.canon_unit_zero hz2]
  simp only [View.readAt_eq_ld, Memref.IsWhole.read_unread, Kit.ld, View.readCov_unit_zero (S := S512x2048) _ hz2]

/-- What case C leaves in the accumulator. -/
theorem acc_C (hc0 : ¬cond0_0 i) (hc1 : cond0_1 i) (hc2 : cond0_2 i) :
    sout0_C_0 c i arg3 harg3 arg4 harg4 arg5 harg5 arg6 harg6 hc0 hc1 hc2 x0 x1 acc = k0_pay3 x0 x1 acc := by
  unfold sout0_C_0
  rw [View.read_writes_eq_canon _ _ _ (scover0_C_0 c i arg3 harg3 arg4 harg4 arg5 harg5 arg6 harg6 hc0 hc1 hc2 x0 x1 acc)]
  unfold kernelRun0_C
  dsimp only
  sl_unfold_words
  rw [View.canon_unit_zero hz2]
  simp only [View.readAt_eq_ld, Memref.IsWhole.read_unread, Kit.ld, View.readCov_unit_zero (S := S512x2048) _ hz2]

/-- The last point of a run writes its block of the result from the accumulator. -/
theorem out_last (hc0 : ¬cond0_0 i) (hc1 : cond0_1 i) (hc2 : cond0_2 i) :
    out0_C_2 c i arg3 harg3 arg4 harg4 arg5 harg5 arg6 harg6 hc0 hc1 hc2 x0 x1 acc = k0_pay4 (k0_pay3 x0 x1 acc) := by
  unfold out0_C_2
  rw [View.read_writes_eq_canon _ _ _ (cover0_C_2 _ _ _ _ _ _ _ _ _ _ _ _ _ _ _ _)]
  unfold kernelRun0_C
  dsimp only
  sl_unfold_words
  rw [View.canon_unit_zero hz2]
  simp only [View.readAt_eq_ld, Memref.IsWhole.read_unread, Kit.ld, View.readCov_unit_zero (S := S512x2048) _ hz2]

end Points

variable (m : (ℓ : Loc nD τ sig) → Buf (Elt Ideal) ℓ)

/-- The arguments at launch. -/
abbrev a0 (c : Dev nD) : Vec Ideal S8192x5632 .bf16 := m ((c : Thread nD τ).loc main_arg0)
@[inherit_doc a0] abbrev a1 (c : Dev nD) : Vec Ideal S8192x2048 .bf16 := m ((c : Thread nD τ).loc main_arg1)

/-- Which blocks a point reads and writes. -/
theorem idx : ∀ t : Fin grid0.N, (win0_0.index t 0 = t.val % 4 ∧ win0_0.index t 1 = t.val / 4) ∧ (win0_1.index t 0 = t.val % 4 ∧ win0_1.index t 1 = 0) ∧ (win0_2.index t 0 = t.val / 4 ∧ win0_2.index t 1 = 0) := by
  decide +kernel

/-- A point's number is below 44. -/
theorem lt_all (t : Fin cfg0.N) : t.val < 44 := lt_of_lt_of_eq t.isLt N_0

/-- A row or column of a point's block, in the whole array. -/
abbrev row (t : Fin cfg0.N) (r : Fin 2048) : Fin 8192 := ⟨t.val % 4 * 2048 + r.val, by have := lt_all t; omega⟩

/-- A row or column of a point's block, in the whole array. -/
abbrev row1 (t : Fin cfg0.N) (r : Fin 512) : Fin 5632 := ⟨t.val / 4 * 512 + r.val, by have := lt_all t; omega⟩

/-- One summand of the product, at a row and a column. -/
def prod (A : Vec Ideal S8192x5632 .bf16) (B : Vec Ideal S8192x2048 .bf16) (r : Fin 5632) (n : Fin 2048) (q : Fin 8192) : EReal :=
  A (ix2 q r) * B (ix2 q n)

/-- The product, at a row and a column. -/
def entry (A : Vec Ideal S8192x5632 .bf16) (B : Vec Ideal S8192x2048 .bf16) (r : Fin 5632) (n : Fin 2048) : EReal :=
  ∑ q : Fin 8192, prod A B r n q

/-- The result: the gradient of the down projection's weight. -/
def G (A : Vec Ideal S8192x5632 .bf16) (B : Vec Ideal S8192x2048 .bf16) : Vec Ideal S5632x2048 .bf16 := fun j => entry A B (j 0) (j 1)

/-- Block 0 of a point, at an element. -/
theorem blk0 (c : Dev nD) (t : Fin cfg0.N) (r : Fin 512) (l : Fin 2048) :
    (iblk m c 0 t : Vec Ideal S2048x512 .bf16) (ix2 l r) = a0 m c (ix2 (row t l) (row1 t r)) := by
  have h := (idx t).1
  exact (congrFun (V_main_arg0 m c) _).trans (congrArg _ (Kit.e2 (Kit.at_ 2048 h.1 l) (Kit.at_ 512 h.2 r)))

/-- Block 1 of a point, at an element. -/
theorem blk1 (c : Dev nD) (t : Fin cfg0.N) (l : Fin 2048) (n : Fin 2048) :
    (iblk m c 1 t : Vec Ideal S2048x2048 .bf16) (ix2 l n) = a1 m c (ix2 (row t l) (⟨0 * 2048 + n.val, by have := lt_all t; omega⟩ : Fin 2048)) := by
  have h := (idx t).2.1
  exact (congrFun (V_main_arg1 m c) _).trans (congrArg _ (Kit.e2 (Kit.at_ 2048 h.1 l) (Kit.at_ 2048 h.2 n)))

/-- The product of two blocks, at an element. -/
theorem mm_apply (a : Vec Ideal S2048x512 .bf16) (b : Vec Ideal S2048x2048 .bf16) (r : Fin 512) (n : Fin 2048) :
    k0_pay1 a b (ix2 r n) = ∑ l : Fin 2048, (a (ix2 l r) * b (ix2 l n) : EReal) := by
  pointwise [k0_pay1]

/-- One point's share of the product. -/
def term (c : Dev nD) (t : Fin cfg0.N) : S512x2048.Idx → EReal := k0_pay1 (iblk m c 0 t) (iblk m c 1 t)

/-- A point's share, at an element, in the whole arrays. -/
theorem term_apply (c : Dev nD) (t : Fin cfg0.N) (r : Fin 512) (n : Fin 2048) :
    term m c t (ix2 r n) = ∑ l : Fin 2048, prod (a0 m c) (a1 m c) (row1 t r) (⟨0 * 2048 + n.val, by have := lt_all t; omega⟩ : Fin 2048) (row t l) := by
  unfold term
  rw [mm_apply]
  refine Finset.sum_congr rfl fun l _ => ?_
  rw [blk0, blk1]
  rfl

/-- A run's first point sets the accumulator. -/
theorem acc_first (c : Dev nD) (t : Fin cfg0.N) (h0 : t.val % 4 = 0) (i : S512x2048.Idx) :
    (outsAt0 m c t.val t.isLt).2 i = 0 + term m c t i := by
  rw [outsAt0_A m c t h0 (by omega) (by omega)]
  dsimp only
  rw [acc_A]
  rw [zero_add]
  unfold k0_pay2 term
  rw [shapeCast_self]

/-- Every other point adds to it. -/
theorem acc_next (c : Dev nD) (t : Fin cfg0.N) (h0 : ¬t.val % 4 = 0) (i : S512x2048.Idx) :
    (outsAt0 m c t.val t.isLt).2 i
      = (outsAt0 m c (t.val - 1) (Nat.lt_of_le_of_lt (Nat.sub_le _ _) t.isLt)).2 i + term m c t i := by
  by_cases h2 : t.val % 4 = 3
  · rw [outsAt0_C m c t h0 (by omega) h2]
    dsimp only
    rw [acc_C]
    unfold k0_pay3 term
    rw [shapeCast_self]
    rfl
  · rw [outsAt0_B m c t h0 (by omega) h2]
    dsimp only
    rw [acc_B]
    unfold k0_pay3 term
    rw [shapeCast_self]
    rfl

/-- The accumulator at the end of a run holds the whole product. -/
theorem acc_last (c : Dev nD) (t : Fin cfg0.N) (h : t.val % 4 = 3) (r : Fin 512) (n : Fin 2048) :
    (outsAt0 m c t.val t.isLt).2 (ix2 r n) = entry (a0 m c) (a1 m c) (row1 t r) (⟨0 * 2048 + n.val, by have := lt_all t; omega⟩ : Fin 2048) := by
  have key := Pipeline.eq_sum_fin_of_reset_step_apply_of_flush (fun n h => (outsAt0 m c n h).2) 4 (fun _ => (0 : EReal)) (term m c)
    (acc_first m c) (acc_next m c) t h (ix2 r n)
  refine key.trans ?_
  rw [zero_add]
  unfold entry
  refine Eq.trans ?_ (Fin.sum_mul_add_fin 4 2048 (prod (a0 m c) (a1 m c) (row1 t r) (⟨0 * 2048 + n.val, by have := lt_all t; omega⟩ : Fin 2048)))
  refine Finset.sum_congr rfl fun s _ => ?_
  rw [term_apply]
  refine Finset.sum_congr rfl fun l _ => ?_
  have e : (4 * (t.val / 4) + s.val) % 4 = s.val := by omega
  have e' : (4 * (t.val / 4) + s.val) / 4 = t.val / 4 := by omega

  simp only [row, row1, e, e']

/-- What the last point of a run writes back. -/
theorem outs_last (c : Dev nD) (t : Fin cfg0.N) (h : t.val % 4 = 3) (r : Fin 512) (n : Fin 2048) :
    (outsAt0 m c t.val t.isLt).1 (ix2 r n) = G (a0 m c) (a1 m c) (ix2 (row1 t r) (⟨0 * 2048 + n.val, by have := lt_all t; omega⟩ : Fin 2048)) := by
  unfold G
  show _ = entry (a0 m c) (a1 m c) (row1 t r) (⟨0 * 2048 + n.val, by have := lt_all t; omega⟩ : Fin 2048)
  rw [← acc_last m c t h, outsAt0_C m c t (by omega) (by omega) h]
  dsimp only
  rw [out_last, acc_C]
  pointwise [k0_pay4]

/-- What a point writes back is its block of `G`. -/
theorem flushed_G (c : Dev nD) (t : Fin cfg0.N) (hf : (cfg0.win 2).flush t = true) : (dats m 0 c).flushed 2 t =
    ((cfg0.win 2).blk t).view.read (Elt Ideal) (G (a0 m c) (a1 m c)) := by
  have hk : t.val % 4 = 3 := (flush0_2 t).mp hf
  have h := (idx t).2.2
  have ht := lt_all t
  rw [Value.flushed2]
  funext (j : S512x2048.Idx)
  rw [View.read_apply]
  obtain ⟨r, n, rfl⟩ := Kit.pair j
  have e : (((cfg0.win 2).blk t).view.emb (ix2 r n) : S5632x2048.Idx) = ix2 ⟨t.val / 4 * 512 + r.val, by omega⟩ ⟨0 * 2048 + n.val, by omega⟩ :=
    Kit.e2 (Kit.at_ 512 h.1 r) (Kit.at_ 2048 h.2 n)
  refine Eq.trans ?_ (congrArg (G (a0 m c) (a1 m c)) e).symm
  exact outs_last m c t hk r n

/-- An index of the result lies in a block that is written back. -/
theorem cover (i : S5632x2048.Idx) : ∃ t : Fin cfg0.N, (cfg0.win 2).flush t = true ∧ i ∈ ((cfg0.win 2).blk t).view.set := by
  have h0 : (i 0).val < 5632 := (i 0).isLt
  have h1 : (i 1).val < 2048 := (i 1).isLt
  obtain ⟨t, ht⟩ : ∃ t : Fin cfg0.N, t.val = (i 0).val / 512 * 4 + 3 :=
    ⟨⟨_, by show _ < grid0.N; rw [Gen.N_0]; omega⟩, rfl⟩
  have h := (idx t).2.2
  refine ⟨t, (flush0_2 t).mpr (by omega), ?_⟩
  exact Kit.cov (Fin.forall_fin_two.2 ⟨Kit.mem 512 _ h.1 (by omega), Kit.mem 2048 _ h.2 (by omega)⟩)

/-- The result array after the run. -/
theorem final (c : Dev nD) : (dats m 0 c).arrAt 2 cfg0.N = G (a0 m c) (a1 m c) :=
  (dats m 0 c).arrAt_eq_of_cover 2 _ (flushed_G m c) cover

end Cert.Kernel6Ideal.Product

namespace Cert.Reference6Ideal.Product

open Gen Read Idealize.ShloMosaic TcCoe Idealize.SL.Sem

/-- The reference computes the same array. -/
theorem result (A : Vec Ideal S8192x5632 .bf16) (B : Vec Ideal S8192x2048 .bf16) : val_main_v6 (F := Ideal) A B = Kernel6Ideal.Product.G A B := by
  funext j
  obtain ⟨r, n, rfl⟩ := Kit.pair j
  unfold Kernel6Ideal.Product.G Kernel6Ideal.Product.entry Kernel6Ideal.Product.prod
  pointwise [val_main_v6, val_main_v5, val_main_v4, val_main_v3, val_main_v2, val_main_v1, val_main_v0, val_main_cst]
  exact Finset.sum_congr rfl fun q _ => mul_comm _ _

end Cert.Reference6Ideal.Product

namespace Cert.Proof.Product6

open Idealize.ShloMosaic TcCoe Idealize.SL.Sem

/-- The reference leaves its arguments as they were; it has no semaphore. -/
theorem frame_reference : quiescent_Reference6Ideal := fun m ρ _ =>
  (θ_run Reference6Ideal.defs _ _).mono (fun r h => ⟨fun c => (h c).2, sem_eq_zero_of_no_sems (by decide) r.2⟩)
    (Reference6Ideal.Value.run m ρ)

/-- The kernel and the reference leave the same array, the gradient of the down projection's weight. -/
theorem algebraic : algebraic_Kernel6Ideal_Reference6Ideal := by
  intro m ρ m' ρ' _ hag
  refine ⟨_, (θ_run Kernel6Ideal.defs _ _).mono
    (fun _ h c => ⟨(h c).1.trans (Kernel6Ideal.Product.final m c), (h c).2⟩)
    (Kernel6Ideal.Value.run_blocks m ρ), ?_⟩
  · refine (θ_run Reference6Ideal.defs _ _).mono (fun _ h c => ⟨(h c).1.trans ?_, (h c).2⟩)
      (Reference6Ideal.Value.run m' ρ')
    refine (Reference6Ideal.Read.val_main_v6_eq _ _).trans ((Reference6Ideal.Product.result _ _).trans ?_)
    rw [(hag c).1, (hag c).2]

end Cert.Proof.Product6

end
-- ==== Proof.Product7.lean ====
module

public import proofs.«01_k».proof.Proof.Kit
public import proofs.«01_k».proof.Proof.Gen.Kernel7Ideal.Value
public import proofs.«01_k».proof.Proof.Gen.Reference7Ideal.Read

@[expose] public section

set_option maxRecDepth 16384

noncomputable section

namespace Cert.Kernel7Ideal.Product

open Gen Idealize.ShloMosaic TcCoe Idealize.SL.Sem
open Idealize.ShloMosaic.Pipeline (Dat)

section Points

variable {F : FTy → Type} [FloatOps F]

variable (c : Dev nD) (i : grid0.Coords) (arg3 : Memref sig .tc .vmem S2048x512 .bf16) (harg3 : arg3.IsWhole) (arg4 : Memref sig .tc .vmem S2048x2048 .bf16) (harg4 : arg4.IsWhole) (arg5 : Memref sig .tc .vmem S512x2048 .bf16) (harg5 : arg5.IsWhole) (arg6 : Memref sig .tc .vmem S512x2048 .f32) (harg6 : arg6.IsWhole)
    (x0 : Vec F S2048x512 .bf16) (x1 : Vec F S2048x2048 .bf16) (acc : Vec F S512x2048 .f32)

/-- What case A leaves in the accumulator. -/
theorem acc_A (hc0 : cond0_0 i) (hc1 : ¬cond0_1 i) (hc2 : ¬cond0_2 i) :
    sout0_A_0 c i arg3 harg3 arg4 harg4 arg5 harg5 arg6 harg6 hc0 hc1 hc2 x0 x1 = k0_pay2 x0 x1 := by
  unfold sout0_A_0
  rw [View.read_writes_eq_canon _ _ _ (scover0_A_0 c i arg3 harg3 arg4 harg4 arg5 harg5 arg6 harg6 hc0 hc1 hc2 x0 x1)]
  unfold kernelRun0_A
  dsimp only
  sl_unfold_words
  rw [View.canon_unit_zero hz2]
  simp only [View.readAt_eq_ld, Memref.IsWhole.read_unread, Kit.ld, View.readCov_unit_zero (S := S512x2048) _ hz2]

/-- What case B leaves in the accumulator. -/
theorem acc_B (hc0 : ¬cond0_0 i) (hc1 : cond0_1 i) (hc2 : ¬cond0_2 i) :
    sout0_B_0 c i arg3 harg3 arg4 harg4 arg5 harg5 arg6 harg6 hc0 hc1 hc2 x0 x1 acc = k0_pay3 x0 x1 acc := by
  unfold sout0_B_0
  rw [View.read_writes_eq_canon _ _ _ (scover0_B_0 c i arg3 harg3 arg4 harg4 arg5 harg5 arg6 harg6 hc0 hc1 hc2 x0 x1 acc)]
  unfold kernelRun0_B
  dsimp only
  sl_unfold_words
  rw [View.canon_unit_zero hz2]
  simp only [View.readAt_eq_ld, Memref.IsWhole.read_unread, Kit.ld, View.readCov_unit_zero (S := S512x2048) _ hz2]

/-- What case C leaves in the accumulator. -/
theorem acc_C (hc0 : ¬cond0_0 i) (hc1 : cond0_1 i) (hc2 : cond0_2 i) :
    sout0_C_0 c i arg3 harg3 arg4 harg4 arg5 harg5 arg6 harg6 hc0 hc1 hc2 x0 x1 acc = k0_pay3 x0 x1 acc := by
  unfold sout0_C_0
  rw [View.read_writes_eq_canon _ _ _ (scover0_C_0 c i arg3 harg3 arg4 harg4 arg5 harg5 arg6 harg6 hc0 hc1 hc2 x0 x1 acc)]
  unfold kernelRun0_C
  dsimp only
  sl_unfold_words
  rw [View.canon_unit_zero hz2]
  simp only [View.readAt_eq_ld, Memref.IsWhole.read_unread, Kit.ld, View.readCov_unit_zero (S := S512x2048) _ hz2]

/-- The last point of a run writes its block of the result from the accumulator. -/
theorem out_last (hc0 : ¬cond0_0 i) (hc1 : cond0_1 i) (hc2 : cond0_2 i) :
    out0_C_2 c i arg3 harg3 arg4 harg4 arg5 harg5 arg6 harg6 hc0 hc1 hc2 x0 x1 acc = k0_pay4 (k0_pay3 x0 x1 acc) := by
  unfold out0_C_2
  rw [View.read_writes_eq_canon _ _ _ (cover0_C_2 _ _ _ _ _ _ _ _ _ _ _ _ _ _ _ _)]
  unfold kernelRun0_C
  dsimp only
  sl_unfold_words
  rw [View.canon_unit_zero hz2]
  simp only [View.readAt_eq_ld, Memref.IsWhole.read_unread, Kit.ld, View.readCov_unit_zero (S := S512x2048) _ hz2]

end Points

variable (m : (ℓ : Loc nD τ sig) → Buf (Elt Ideal) ℓ)

/-- The arguments at launch. -/
abbrev a0 (c : Dev nD) : Vec Ideal S8192x2048 .bf16 := m ((c : Thread nD τ).loc main_arg0)
@[inherit_doc a0] abbrev a1 (c : Dev nD) : Vec Ideal S8192x2048 .bf16 := m ((c : Thread nD τ).loc main_arg1)

/-- Which blocks a point reads and writes. -/
theorem idx : ∀ t : Fin grid0.N, (win0_0.index t 0 = t.val % 4 ∧ win0_0.index t 1 = t.val / 4) ∧ (win0_1.index t 0 = t.val % 4 ∧ win0_1.index t 1 = 0) ∧ (win0_2.index t 0 = t.val / 4 ∧ win0_2.index t 1 = 0) := by
  decide +kernel

/-- A point's number is below 16. -/
theorem lt_all (t : Fin cfg0.N) : t.val < 16 := lt_of_lt_of_eq t.isLt N_0

/-- A row or column of a point's block, in the whole array. -/
abbrev row (t : Fin cfg0.N) (r : Fin 2048) : Fin 8192 := ⟨t.val % 4 * 2048 + r.val, by have := lt_all t; omega⟩

/-- A row or column of a point's block, in the whole array. -/
abbrev row1 (t : Fin cfg0.N) (r : Fin 512) : Fin 2048 := ⟨t.val / 4 * 512 + r.val, by have := lt_all t; omega⟩

/-- One summand of the product, at a row and a column. -/
def prod (A : Vec Ideal S8192x2048 .bf16) (B : Vec Ideal S8192x2048 .bf16) (r : Fin 2048) (n : Fin 2048) (q : Fin 8192) : EReal :=
  A (ix2 q r) * B (ix2 q n)

/-- The product, at a row and a column. -/
def entry (A : Vec Ideal S8192x2048 .bf16) (B : Vec Ideal S8192x2048 .bf16) (r : Fin 2048) (n : Fin 2048) : EReal :=
  ∑ q : Fin 8192, prod A B r n q

/-- The result: the gradient of the output projection's weight. -/
def G (A : Vec Ideal S8192x2048 .bf16) (B : Vec Ideal S8192x2048 .bf16) : Vec Ideal S2048x2048 .bf16 := fun j => entry A B (j 0) (j 1)

/-- Block 0 of a point, at an element. -/
theorem blk0 (c : Dev nD) (t : Fin cfg0.N) (r : Fin 512) (l : Fin 2048) :
    (iblk m c 0 t : Vec Ideal S2048x512 .bf16) (ix2 l r) = a0 m c (ix2 (row t l) (row1 t r)) := by
  have h := (idx t).1
  exact (congrFun (V_main_arg0 m c) _).trans (congrArg _ (Kit.e2 (Kit.at_ 2048 h.1 l) (Kit.at_ 512 h.2 r)))

/-- Block 1 of a point, at an element. -/
theorem blk1 (c : Dev nD) (t : Fin cfg0.N) (l : Fin 2048) (n : Fin 2048) :
    (iblk m c 1 t : Vec Ideal S2048x2048 .bf16) (ix2 l n) = a1 m c (ix2 (row t l) (⟨0 * 2048 + n.val, by have := lt_all t; omega⟩ : Fin 2048)) := by
  have h := (idx t).2.1
  exact (congrFun (V_main_arg1 m c) _).trans (congrArg _ (Kit.e2 (Kit.at_ 2048 h.1 l) (Kit.at_ 2048 h.2 n)))

/-- The product of two blocks, at an element. -/
theorem mm_apply (a : Vec Ideal S2048x512 .bf16) (b : Vec Ideal S2048x2048 .bf16) (r : Fin 512) (n : Fin 2048) :
    k0_pay1 a b (ix2 r n) = ∑ l : Fin 2048, (a (ix2 l r) * b (ix2 l n) : EReal) := by
  pointwise [k0_pay1]

/-- One point's share of the product. -/
def term (c : Dev nD) (t : Fin cfg0.N) : S512x2048.Idx → EReal := k0_pay1 (iblk m c 0 t) (iblk m c 1 t)

/-- A point's share, at an element, in the whole arrays. -/
theorem term_apply (c : Dev nD) (t : Fin cfg0.N) (r : Fin 512) (n : Fin 2048) :
    term m c t (ix2 r n) = ∑ l : Fin 2048, prod (a0 m c) (a1 m c) (row1 t r) (⟨0 * 2048 + n.val, by have := lt_all t; omega⟩ : Fin 2048) (row t l) := by
  unfold term
  rw [mm_apply]
  refine Finset.sum_congr rfl fun l _ => ?_
  rw [blk0, blk1]
  rfl

/-- A run's first point sets the accumulator. -/
theorem acc_first (c : Dev nD) (t : Fin cfg0.N) (h0 : t.val % 4 = 0) (i : S512x2048.Idx) :
    (outsAt0 m c t.val t.isLt).2 i = 0 + term m c t i := by
  rw [outsAt0_A m c t h0 (by omega) (by omega)]
  dsimp only
  rw [acc_A]
  rw [zero_add]
  unfold k0_pay2 term
  rw [shapeCast_self]

/-- Every other point adds to it. -/
theorem acc_next (c : Dev nD) (t : Fin cfg0.N) (h0 : ¬t.val % 4 = 0) (i : S512x2048.Idx) :
    (outsAt0 m c t.val t.isLt).2 i
      = (outsAt0 m c (t.val - 1) (Nat.lt_of_le_of_lt (Nat.sub_le _ _) t.isLt)).2 i + term m c t i := by
  by_cases h2 : t.val % 4 = 3
  · rw [outsAt0_C m c t h0 (by omega) h2]
    dsimp only
    rw [acc_C]
    unfold k0_pay3 term
    rw [shapeCast_self]
    rfl
  · rw [outsAt0_B m c t h0 (by omega) h2]
    dsimp only
    rw [acc_B]
    unfold k0_pay3 term
    rw [shapeCast_self]
    rfl

/-- The accumulator at the end of a run holds the whole product. -/
theorem acc_last (c : Dev nD) (t : Fin cfg0.N) (h : t.val % 4 = 3) (r : Fin 512) (n : Fin 2048) :
    (outsAt0 m c t.val t.isLt).2 (ix2 r n) = entry (a0 m c) (a1 m c) (row1 t r) (⟨0 * 2048 + n.val, by have := lt_all t; omega⟩ : Fin 2048) := by
  have key := Pipeline.eq_sum_fin_of_reset_step_apply_of_flush (fun n h => (outsAt0 m c n h).2) 4 (fun _ => (0 : EReal)) (term m c)
    (acc_first m c) (acc_next m c) t h (ix2 r n)
  refine key.trans ?_
  rw [zero_add]
  unfold entry
  refine Eq.trans ?_ (Fin.sum_mul_add_fin 4 2048 (prod (a0 m c) (a1 m c) (row1 t r) (⟨0 * 2048 + n.val, by have := lt_all t; omega⟩ : Fin 2048)))
  refine Finset.sum_congr rfl fun s _ => ?_
  rw [term_apply]
  refine Finset.sum_congr rfl fun l _ => ?_
  have e : (4 * (t.val / 4) + s.val) % 4 = s.val := by omega
  have e' : (4 * (t.val / 4) + s.val) / 4 = t.val / 4 := by omega

  simp only [row, row1, e, e']

/-- What the last point of a run writes back. -/
theorem outs_last (c : Dev nD) (t : Fin cfg0.N) (h : t.val % 4 = 3) (r : Fin 512) (n : Fin 2048) :
    (outsAt0 m c t.val t.isLt).1 (ix2 r n) = G (a0 m c) (a1 m c) (ix2 (row1 t r) (⟨0 * 2048 + n.val, by have := lt_all t; omega⟩ : Fin 2048)) := by
  unfold G
  show _ = entry (a0 m c) (a1 m c) (row1 t r) (⟨0 * 2048 + n.val, by have := lt_all t; omega⟩ : Fin 2048)
  rw [← acc_last m c t h, outsAt0_C m c t (by omega) (by omega) h]
  dsimp only
  rw [out_last, acc_C]
  pointwise [k0_pay4]

/-- What a point writes back is its block of `G`. -/
theorem flushed_G (c : Dev nD) (t : Fin cfg0.N) (hf : (cfg0.win 2).flush t = true) : (dats m 0 c).flushed 2 t =
    ((cfg0.win 2).blk t).view.read (Elt Ideal) (G (a0 m c) (a1 m c)) := by
  have hk : t.val % 4 = 3 := (flush0_2 t).mp hf
  have h := (idx t).2.2
  have ht := lt_all t
  rw [Value.flushed2]
  funext (j : S512x2048.Idx)
  rw [View.read_apply]
  obtain ⟨r, n, rfl⟩ := Kit.pair j
  have e : (((cfg0.win 2).blk t).view.emb (ix2 r n) : S2048x2048.Idx) = ix2 ⟨t.val / 4 * 512 + r.val, by omega⟩ ⟨0 * 2048 + n.val, by omega⟩ :=
    Kit.e2 (Kit.at_ 512 h.1 r) (Kit.at_ 2048 h.2 n)
  refine Eq.trans ?_ (congrArg (G (a0 m c) (a1 m c)) e).symm
  exact outs_last m c t hk r n

/-- An index of the result lies in a block that is written back. -/
theorem cover (i : S2048x2048.Idx) : ∃ t : Fin cfg0.N, (cfg0.win 2).flush t = true ∧ i ∈ ((cfg0.win 2).blk t).view.set := by
  have h0 : (i 0).val < 2048 := (i 0).isLt
  have h1 : (i 1).val < 2048 := (i 1).isLt
  obtain ⟨t, ht⟩ : ∃ t : Fin cfg0.N, t.val = (i 0).val / 512 * 4 + 3 :=
    ⟨⟨_, by show _ < grid0.N; rw [Gen.N_0]; omega⟩, rfl⟩
  have h := (idx t).2.2
  refine ⟨t, (flush0_2 t).mpr (by omega), ?_⟩
  exact Kit.cov (Fin.forall_fin_two.2 ⟨Kit.mem 512 _ h.1 (by omega), Kit.mem 2048 _ h.2 (by omega)⟩)

/-- The result array after the run. -/
theorem final (c : Dev nD) : (dats m 0 c).arrAt 2 cfg0.N = G (a0 m c) (a1 m c) :=
  (dats m 0 c).arrAt_eq_of_cover 2 _ (flushed_G m c) cover

end Cert.Kernel7Ideal.Product

namespace Cert.Reference7Ideal.Product

open Gen Read Idealize.ShloMosaic TcCoe Idealize.SL.Sem

/-- The reference computes the same array. -/
theorem result (A : Vec Ideal S8192x2048 .bf16) (B : Vec Ideal S8192x2048 .bf16) : val_main_v6 (F := Ideal) A B = Kernel7Ideal.Product.G A B := by
  funext j
  obtain ⟨r, n, rfl⟩ := Kit.pair j
  unfold Kernel7Ideal.Product.G Kernel7Ideal.Product.entry Kernel7Ideal.Product.prod
  pointwise [val_main_v6, val_main_v5, val_main_v4, val_main_v3, val_main_v2, val_main_v1, val_main_v0, val_main_cst]
  exact Finset.sum_congr rfl fun q _ => mul_comm _ _

end Cert.Reference7Ideal.Product

namespace Cert.Proof.Product7

open Idealize.ShloMosaic TcCoe Idealize.SL.Sem

/-- The reference leaves its arguments as they were; it has no semaphore. -/
theorem frame_reference : quiescent_Reference7Ideal := fun m ρ _ =>
  (θ_run Reference7Ideal.defs _ _).mono (fun r h => ⟨fun c => (h c).2, sem_eq_zero_of_no_sems (by decide) r.2⟩)
    (Reference7Ideal.Value.run m ρ)

/-- The kernel and the reference leave the same array, the gradient of the output projection's weight. -/
theorem algebraic : algebraic_Kernel7Ideal_Reference7Ideal := by
  intro m ρ m' ρ' _ hag
  refine ⟨_, (θ_run Kernel7Ideal.defs _ _).mono
    (fun _ h c => ⟨(h c).1.trans (Kernel7Ideal.Product.final m c), (h c).2⟩)
    (Kernel7Ideal.Value.run_blocks m ρ), ?_⟩
  · refine (θ_run Reference7Ideal.defs _ _).mono (fun _ h c => ⟨(h c).1.trans ?_, (h c).2⟩)
      (Reference7Ideal.Value.run m' ρ')
    refine (Reference7Ideal.Read.val_main_v6_eq _ _).trans ((Reference7Ideal.Product.result _ _).trans ?_)
    rw [(hag c).1, (hag c).2]

end Cert.Proof.Product7

end
-- ==== Proof.Product8.lean ====
module

public import proofs.«01_k».proof.Proof.Kit
public import proofs.«01_k».proof.Proof.Gen.Kernel8Ideal.Value
public import proofs.«01_k».proof.Proof.Gen.Reference8Ideal.Read

@[expose] public section

set_option maxRecDepth 16384

noncomputable section

namespace Cert.Kernel8Ideal.Product

open Gen Idealize.ShloMosaic TcCoe Idealize.SL.Sem
open Idealize.ShloMosaic.Pipeline (Dat)

section Points

variable {F : FTy → Type} [FloatOps F]

/-- The block a point writes. -/
theorem out_point (x0 : Vec F S2048x2048 .bf16) (x1 : Vec F S512x2048 .bf16) (x2 : Vec F S8x128 .f32) : out0_3 x0 x1 x2 = k0_pay1 x0 x1 := by
  unfold out0_3 r0_0 r0_1 r0_2
  rw [View.canon_unit_zero hz2]
  simp only [Kit.ld]

end Points

variable (m : (ℓ : Loc nD τ sig) → Buf (Elt Ideal) ℓ)

/-- The arguments at launch. -/
abbrev a0 (c : Dev nD) : Vec Ideal S8192x2048 .bf16 := m ((c : Thread nD τ).loc main_arg0)
@[inherit_doc a0] abbrev a1 (c : Dev nD) : Vec Ideal S2048x9728 .f32 := m ((c : Thread nD τ).loc main_arg1)

/-- Which blocks a point reads and writes. -/
theorem idx : ∀ t : Fin grid0.N, (win0_0.index t 0 = t.val / 2 ∧ win0_0.index t 1 = 0) ∧ (win0_1.index t 0 = t.val % 2 ∧ win0_1.index t 1 = 0) ∧ (win0_3.index t 0 = t.val / 2 ∧ win0_3.index t 1 = t.val % 2) := by
  decide +kernel

/-- A point's number is below 8. -/
theorem lt_all (t : Fin cfg0.N) : t.val < 8 := lt_of_lt_of_eq t.isLt N_0

/-- A row or column of a point's block, in the whole array. -/
abbrev row (t : Fin cfg0.N) (r : Fin 2048) : Fin 8192 := ⟨t.val / 2 * 2048 + r.val, by have := lt_all t; omega⟩

/-- A row or column of a point's block, in the whole array. -/
abbrev row1 (t : Fin cfg0.N) (r : Fin 512) : Fin 1024 := ⟨t.val % 2 * 512 + r.val, by have := lt_all t; omega⟩

/-- One summand of the product, at a row and a column. -/
def prod (A : Vec Ideal S8192x2048 .bf16) (B : Vec Ideal S2048x9728 .f32) (r : Fin 8192) (n : Fin 1024) (q : Fin 2048) : EReal :=
  A (ix2 r q) * B (ix2 q ⟨0 + (n).val, by omega⟩)

/-- The product, at a row and a column. -/
def entry (A : Vec Ideal S8192x2048 .bf16) (B : Vec Ideal S2048x9728 .f32) (r : Fin 8192) (n : Fin 1024) : EReal :=
  ∑ q : Fin 2048, prod A B r n q

/-- The result: the pooling mixer's columns of the input projection. -/
def G (A : Vec Ideal S8192x2048 .bf16) (B : Vec Ideal S2048x9728 .f32) : Vec Ideal S8192x1024 .f32 := fun j => entry A B (j 0) (j 1)

/-- Block 0 of a point, at an element. -/
theorem blk0 (c : Dev nD) (t : Fin cfg0.N) (r : Fin 2048) (l : Fin 2048) :
    (iblk m c 0 t : Vec Ideal S2048x2048 .bf16) (ix2 r l) = a0 m c (ix2 (row t r) l) := by
  have h := (idx t).1
  exact (congrFun (V_main_arg0 m c) _).trans (congrArg _ (Kit.e2 (Kit.at_ 2048 h.1 r) (Kit.at0 2048 h.2 l)))

/-- The weight as the kernel finds it: transposed (and rounded, which is nothing over the reals). -/
theorem V_w (c : Dev nD) : @Eq (FVec Ideal S9728x2048 .bf16) (V m c main_v1)
    (truncf .bf16 (transpose S9728x2048 [1, 0] (m ((c : Thread nD τ).loc main_arg1) : FVec Ideal S2048x9728 .f32) transposes_S2048x9728_S9728x2048_1_0) bitsLt_bf16_f32) := by
  show StableHlo.after hostOps0 _ (Proc.devRef .tc main_v1) = _
  after_results

/-- Block 1 of a point, at an element. -/
theorem blk1 (c : Dev nD) (t : Fin cfg0.N) (l : Fin 2048) (n : Fin 512) :
    (iblk m c 1 t : Vec Ideal S512x2048 .bf16) (ix2 n l) = a1 m c (ix2 l ⟨0 + ((row1 t n)).val, by omega⟩) := by
  have h := (idx t).2.1
  have ht := lt_all t
  unfold iblk
  rw [View.read_apply]
  show V m c main_v1 _ = _
  refine (congrFun (V_w m c) _).trans ?_
  have e : (((cfg0.win 1).blk t).view.emb (ix2 n l) : S9728x2048.Idx) = ix2 ⟨0 + (t.val % 2 * 512 + n.val), by omega⟩ ⟨l.val, by omega⟩ :=
    Kit.e2 (by show win0_1.index t 0 * 512 + 1 * n.val = 0 + (t.val % 2 * 512 + n.val); rw [h.1]; omega) (Kit.at0 2048 h.2 l)
  refine Eq.trans (congrArg _ e) ?_
  pointwise []

/-- The product of two blocks, at an element. -/
theorem mm_apply (a : Vec Ideal S2048x2048 .bf16) (b : Vec Ideal S512x2048 .bf16) (r : Fin 2048) (n : Fin 512) :
    k0_pay1 a b (ix2 r n) = ∑ l : Fin 2048, (a (ix2 r l) * b (ix2 n l) : EReal) := by
  pointwise [k0_pay1]

/-- One point's share of the product. -/
def term (c : Dev nD) (t : Fin cfg0.N) : S2048x512.Idx → EReal := k0_pay1 (iblk m c 0 t) (iblk m c 1 t)

/-- A point's share, at an element, in the whole arrays. -/
theorem term_apply (c : Dev nD) (t : Fin cfg0.N) (r : Fin 2048) (n : Fin 512) :
    term m c t (ix2 r n) = ∑ l : Fin 2048, prod (a0 m c) (a1 m c) (row t r) (row1 t n) l := by
  unfold term
  rw [mm_apply]
  refine Finset.sum_congr rfl fun l _ => ?_
  rw [blk0, blk1]
  rfl

/-- What a point writes back is its block of `G`. -/
theorem flushed_G (c : Dev nD) (t : Fin cfg0.N) : (dats m 0 c).flushed 3 t =
    ((cfg0.win 3).blk t).view.read (Elt Ideal) (G (a0 m c) (a1 m c)) := by
  have h := (idx t).2.2
  have ht := lt_all t
  rw [Value.flushed3, out_point]
  funext (j : S2048x512.Idx)
  rw [View.read_apply]
  obtain ⟨r, n, rfl⟩ := Kit.pair j
  have e : (((cfg0.win 3).blk t).view.emb (ix2 r n) : S8192x1024.Idx) = ix2 ⟨t.val / 2 * 2048 + r.val, by omega⟩ ⟨t.val % 2 * 512 + n.val, by omega⟩ :=
    Kit.e2 (Kit.at_ 2048 h.1 r) (Kit.at_ 512 h.2 n)
  refine Eq.trans ?_ (congrArg (G (a0 m c) (a1 m c)) e).symm
  show k0_pay1 (iblk m c 0 t) (iblk m c 1 t) (ix2 r n) = entry (a0 m c) (a1 m c) (row t r) (row1 t n)
  unfold entry
  refine Eq.trans ?_ (term_apply m c t r n)
  unfold term
  rfl

/-- An index of the result lies in a block that is written back. -/
theorem cover (i : S8192x1024.Idx) : ∃ t : Fin cfg0.N, (cfg0.win 3).flush t = true ∧ i ∈ ((cfg0.win 3).blk t).view.set := by
  have h0 : (i 0).val < 8192 := (i 0).isLt
  have h1 : (i 1).val < 1024 := (i 1).isLt
  obtain ⟨t, ht⟩ : ∃ t : Fin cfg0.N, t.val = (i 0).val / 2048 * 2 + (i 1).val / 512 :=
    ⟨⟨_, by show _ < grid0.N; rw [Gen.N_0]; omega⟩, rfl⟩
  have h := (idx t).2.2
  refine ⟨t, flush0_3 t, ?_⟩
  exact Kit.cov (Fin.forall_fin_two.2 ⟨Kit.mem 2048 _ h.1 (by omega), Kit.mem 512 _ h.2 (by omega)⟩)

/-- The result array after the run. -/
theorem final (c : Dev nD) : (dats m 0 c).arrAt 3 cfg0.N = G (a0 m c) (a1 m c) :=
  (dats m 0 c).arrAt_eq_of_cover 3 _ (fun t _ => flushed_G m c t) cover

end Cert.Kernel8Ideal.Product

namespace Cert.Reference8Ideal.Product

open Gen Read Idealize.ShloMosaic TcCoe Idealize.SL.Sem

/-- The reference computes the same array. -/
theorem result (A : Vec Ideal S8192x2048 .bf16) (B : Vec Ideal S2048x9728 .f32) : val_main_v2 (F := Ideal) A B = Kernel8Ideal.Product.G A B := by
  funext j
  obtain ⟨r, n, rfl⟩ := Kit.pair j
  unfold Kernel8Ideal.Product.G Kernel8Ideal.Product.entry Kernel8Ideal.Product.prod
  pointwise [val_main_v2, val_main_v1, val_main_v0]

end Cert.Reference8Ideal.Product

namespace Cert.Proof.Product8

open Idealize.ShloMosaic TcCoe Idealize.SL.Sem

/-- The reference leaves its arguments as they were; it has no semaphore. -/
theorem frame_reference : quiescent_Reference8Ideal := fun m ρ _ =>
  (θ_run Reference8Ideal.defs _ _).mono (fun r h => ⟨fun c => (h c).2, sem_eq_zero_of_no_sems (by decide) r.2⟩)
    (Reference8Ideal.Value.run m ρ)

/-- The kernel and the reference leave the same array, the pooling mixer's columns of the input projection. -/
theorem algebraic : algebraic_Kernel8Ideal_Reference8Ideal := by
  intro m ρ m' ρ' _ hag
  refine ⟨_, (θ_run Kernel8Ideal.defs _ _).mono
    (fun _ h c => ⟨(h c).1.trans (Kernel8Ideal.Product.final m c), (h c).2⟩)
    (Kernel8Ideal.Value.run_blocks m ρ), ?_⟩
  · refine (θ_run Reference8Ideal.defs _ _).mono (fun _ h c => ⟨(h c).1.trans ?_, (h c).2⟩)
      (Reference8Ideal.Value.run m' ρ')
    refine (Reference8Ideal.Read.val_main_v2_eq _ _).trans ((Reference8Ideal.Product.result _ _).trans ?_)
    rw [(hag c).1, (hag c).2.1]

end Cert.Proof.Product8

end
-- ==== Proof.Product9.lean ====
module

public import proofs.«01_k».proof.Proof.Kit
public import proofs.«01_k».proof.Proof.Gen.Kernel9Ideal.Value
public import proofs.«01_k».proof.Proof.Gen.Reference9Ideal.Read

@[expose] public section

set_option maxRecDepth 16384

noncomputable section

namespace Cert.Kernel9Ideal.Product

open Gen Idealize.ShloMosaic TcCoe Idealize.SL.Sem
open Idealize.ShloMosaic.Pipeline (Dat)

section Points

variable {F : FTy → Type} [FloatOps F]

/-- The block a point writes. -/
theorem out_point (x0 : Vec F S2048x2048 .bf16) (x1 : Vec F S512x2048 .bf16) (x2 : Vec F S8x128 .f32) : out0_3 x0 x1 x2 = k0_pay1 x0 x1 := by
  unfold out0_3 r0_0 r0_1 r0_2
  rw [View.canon_unit_zero hz2]
  simp only [Kit.ld]

end Points

variable (m : (ℓ : Loc nD τ sig) → Buf (Elt Ideal) ℓ)

/-- The arguments at launch. -/
abbrev a0 (c : Dev nD) : Vec Ideal S8192x2048 .bf16 := m ((c : Thread nD τ).loc main_arg0)
@[inherit_doc a0] abbrev a1 (c : Dev nD) : Vec Ideal S2048x9728 .f32 := m ((c : Thread nD τ).loc main_arg1)

/-- Which blocks a point reads and writes. -/
theorem idx : ∀ t : Fin grid0.N, (win0_0.index t 0 = t.val / 9 ∧ win0_0.index t 1 = 0) ∧ (win0_1.index t 0 = (t.val % 9) + 2 ∧ win0_1.index t 1 = 0) ∧ (win0_3.index t 0 = t.val / 9 ∧ win0_3.index t 1 = t.val % 9) := by
  decide +kernel

/-- A point's number is below 36. -/
theorem lt_all (t : Fin cfg0.N) : t.val < 36 := lt_of_lt_of_eq t.isLt N_0

/-- A row or column of a point's block, in the whole array. -/
abbrev row (t : Fin cfg0.N) (r : Fin 2048) : Fin 8192 := ⟨t.val / 9 * 2048 + r.val, by have := lt_all t; omega⟩

/-- A row or column of a point's block, in the whole array. -/
abbrev row1 (t : Fin cfg0.N) (r : Fin 512) : Fin 4608 := ⟨t.val % 9 * 512 + r.val, by have := lt_all t; omega⟩

/-- One summand of the product, at a row and a column. -/
def prod (A : Vec Ideal S8192x2048 .bf16) (B : Vec Ideal S2048x9728 .f32) (r : Fin 8192) (n : Fin 4608) (q : Fin 2048) : EReal :=
  A (ix2 r q) * B (ix2 q ⟨1024 + (n).val, by omega⟩)

/-- The product, at a row and a column. -/
def entry (A : Vec Ideal S8192x2048 .bf16) (B : Vec Ideal S2048x9728 .f32) (r : Fin 8192) (n : Fin 4608) : EReal :=
  ∑ q : Fin 2048, prod A B r n q

/-- The result: the attention's columns of the input projection. -/
def G (A : Vec Ideal S8192x2048 .bf16) (B : Vec Ideal S2048x9728 .f32) : Vec Ideal S8192x4608 .bf16 := fun j => entry A B (j 0) (j 1)

/-- Block 0 of a point, at an element. -/
theorem blk0 (c : Dev nD) (t : Fin cfg0.N) (r : Fin 2048) (l : Fin 2048) :
    (iblk m c 0 t : Vec Ideal S2048x2048 .bf16) (ix2 r l) = a0 m c (ix2 (row t r) l) := by
  have h := (idx t).1
  exact (congrFun (V_main_arg0 m c) _).trans (congrArg _ (Kit.e2 (Kit.at_ 2048 h.1 r) (Kit.at0 2048 h.2 l)))

/-- The weight as the kernel finds it: transposed (and rounded, which is nothing over the reals). -/
theorem V_w (c : Dev nD) : @Eq (FVec Ideal S9728x2048 .bf16) (V m c main_v1)
    (truncf .bf16 (transpose S9728x2048 [1, 0] (m ((c : Thread nD τ).loc main_arg1) : FVec Ideal S2048x9728 .f32) transposes_S2048x9728_S9728x2048_1_0) bitsLt_bf16_f32) := by
  show StableHlo.after hostOps0 _ (Proc.devRef .tc main_v1) = _
  after_results

/-- Block 1 of a point, at an element. -/
theorem blk1 (c : Dev nD) (t : Fin cfg0.N) (l : Fin 2048) (n : Fin 512) :
    (iblk m c 1 t : Vec Ideal S512x2048 .bf16) (ix2 n l) = a1 m c (ix2 l ⟨1024 + ((row1 t n)).val, by omega⟩) := by
  have h := (idx t).2.1
  have ht := lt_all t
  unfold iblk
  rw [View.read_apply]
  show V m c main_v1 _ = _
  refine (congrFun (V_w m c) _).trans ?_
  have e : (((cfg0.win 1).blk t).view.emb (ix2 n l) : S9728x2048.Idx) = ix2 ⟨1024 + (t.val % 9 * 512 + n.val), by omega⟩ ⟨l.val, by omega⟩ :=
    Kit.e2 (by show win0_1.index t 0 * 512 + 1 * n.val = 1024 + (t.val % 9 * 512 + n.val); rw [h.1]; omega) (Kit.at0 2048 h.2 l)
  refine Eq.trans (congrArg _ e) ?_
  pointwise []

/-- The product of two blocks, at an element. -/
theorem mm_apply (a : Vec Ideal S2048x2048 .bf16) (b : Vec Ideal S512x2048 .bf16) (r : Fin 2048) (n : Fin 512) :
    k0_pay1 a b (ix2 r n) = ∑ l : Fin 2048, (a (ix2 r l) * b (ix2 n l) : EReal) := by
  pointwise [k0_pay1]

/-- One point's share of the product. -/
def term (c : Dev nD) (t : Fin cfg0.N) : S2048x512.Idx → EReal := k0_pay1 (iblk m c 0 t) (iblk m c 1 t)

/-- A point's share, at an element, in the whole arrays. -/
theorem term_apply (c : Dev nD) (t : Fin cfg0.N) (r : Fin 2048) (n : Fin 512) :
    term m c t (ix2 r n) = ∑ l : Fin 2048, prod (a0 m c) (a1 m c) (row t r) (row1 t n) l := by
  unfold term
  rw [mm_apply]
  refine Finset.sum_congr rfl fun l _ => ?_
  rw [blk0, blk1]
  rfl

/-- What a point writes back is its block of `G`. -/
theorem flushed_G (c : Dev nD) (t : Fin cfg0.N) : (dats m 0 c).flushed 3 t =
    ((cfg0.win 3).blk t).view.read (Elt Ideal) (G (a0 m c) (a1 m c)) := by
  have h := (idx t).2.2
  have ht := lt_all t
  rw [Value.flushed3, out_point]
  funext (j : S2048x512.Idx)
  rw [View.read_apply]
  obtain ⟨r, n, rfl⟩ := Kit.pair j
  have e : (((cfg0.win 3).blk t).view.emb (ix2 r n) : S8192x4608.Idx) = ix2 ⟨t.val / 9 * 2048 + r.val, by omega⟩ ⟨t.val % 9 * 512 + n.val, by omega⟩ :=
    Kit.e2 (Kit.at_ 2048 h.1 r) (Kit.at_ 512 h.2 n)
  refine Eq.trans ?_ (congrArg (G (a0 m c) (a1 m c)) e).symm
  show k0_pay1 (iblk m c 0 t) (iblk m c 1 t) (ix2 r n) = entry (a0 m c) (a1 m c) (row t r) (row1 t n)
  unfold entry
  refine Eq.trans ?_ (term_apply m c t r n)
  unfold term
  rfl

/-- An index of the result lies in a block that is written back. -/
theorem cover (i : S8192x4608.Idx) : ∃ t : Fin cfg0.N, (cfg0.win 3).flush t = true ∧ i ∈ ((cfg0.win 3).blk t).view.set := by
  have h0 : (i 0).val < 8192 := (i 0).isLt
  have h1 : (i 1).val < 4608 := (i 1).isLt
  obtain ⟨t, ht⟩ : ∃ t : Fin cfg0.N, t.val = (i 0).val / 2048 * 9 + (i 1).val / 512 :=
    ⟨⟨_, by show _ < grid0.N; rw [Gen.N_0]; omega⟩, rfl⟩
  have h := (idx t).2.2
  refine ⟨t, flush0_3 t, ?_⟩
  exact Kit.cov (Fin.forall_fin_two.2 ⟨Kit.mem 2048 _ h.1 (by omega), Kit.mem 512 _ h.2 (by omega)⟩)

/-- The result array after the run. -/
theorem final (c : Dev nD) : (dats m 0 c).arrAt 3 cfg0.N = G (a0 m c) (a1 m c) :=
  (dats m 0 c).arrAt_eq_of_cover 3 _ (fun t _ => flushed_G m c t) cover

end Cert.Kernel9Ideal.Product

namespace Cert.Reference9Ideal.Product

open Gen Read Idealize.ShloMosaic TcCoe Idealize.SL.Sem

/-- The reference computes the same array. -/
theorem result (A : Vec Ideal S8192x2048 .bf16) (B : Vec Ideal S2048x9728 .f32) : val_main_v3 (F := Ideal) A B = Kernel9Ideal.Product.G A B := by
  funext j
  obtain ⟨r, n, rfl⟩ := Kit.pair j
  unfold Kernel9Ideal.Product.G Kernel9Ideal.Product.entry Kernel9Ideal.Product.prod
  pointwise [val_main_v3, val_main_v2, val_main_v1, val_main_v0]

end Cert.Reference9Ideal.Product

namespace Cert.Proof.Product9

open Idealize.ShloMosaic TcCoe Idealize.SL.Sem

/-- The reference leaves its arguments as they were; it has no semaphore. -/
theorem frame_reference : quiescent_Reference9Ideal := fun m ρ _ =>
  (θ_run Reference9Ideal.defs _ _).mono (fun r h => ⟨fun c => (h c).2, sem_eq_zero_of_no_sems (by decide) r.2⟩)
    (Reference9Ideal.Value.run m ρ)

/-- The kernel and the reference leave the same array, the attention's columns of the input projection. -/
theorem algebraic : algebraic_Kernel9Ideal_Reference9Ideal := by
  intro m ρ m' ρ' _ hag
  refine ⟨_, (θ_run Kernel9Ideal.defs _ _).mono
    (fun _ h c => ⟨(h c).1.trans (Kernel9Ideal.Product.final m c), (h c).2⟩)
    (Kernel9Ideal.Value.run_blocks m ρ), ?_⟩
  · refine (θ_run Reference9Ideal.defs _ _).mono (fun _ h c => ⟨(h c).1.trans ?_, (h c).2⟩)
      (Reference9Ideal.Value.run m' ρ')
    refine (Reference9Ideal.Read.val_main_v3_eq _ _).trans ((Reference9Ideal.Product.result _ _).trans ?_)
    rw [(hag c).1, (hag c).2.1]

end Cert.Proof.Product9

end
-- ==== Proof.Product10.lean ====
module

public import proofs.«01_k».proof.Proof.Kit
public import proofs.«01_k».proof.Proof.Gen.Kernel10Ideal.Value
public import proofs.«01_k».proof.Proof.Gen.Reference10Ideal.Read

@[expose] public section

set_option maxRecDepth 16384

noncomputable section

namespace Cert.Kernel10Ideal.Product

open Gen Idealize.ShloMosaic TcCoe Idealize.SL.Sem
open Idealize.ShloMosaic.Pipeline (Dat)

section Points

variable {F : FTy → Type} [FloatOps F]

/-- The block a point writes. -/
theorem out_point (x0 : Vec F S2048x2048 .bf16) (x1 : Vec F S512x2048 .bf16) (x2 : Vec F S8x128 .f32) : out0_3 x0 x1 x2 = k0_pay1 x0 x1 := by
  unfold out0_3 r0_0 r0_1 r0_2
  rw [View.canon_unit_zero hz2]
  simp only [Kit.ld]

end Points

variable (m : (ℓ : Loc nD τ sig) → Buf (Elt Ideal) ℓ)

/-- The arguments at launch. -/
abbrev a0 (c : Dev nD) : Vec Ideal S8192x2048 .bf16 := m ((c : Thread nD τ).loc main_arg0)
@[inherit_doc a0] abbrev a1 (c : Dev nD) : Vec Ideal S2048x9728 .f32 := m ((c : Thread nD τ).loc main_arg1)

/-- Which blocks a point reads and writes. -/
theorem idx : ∀ t : Fin grid0.N, (win0_0.index t 0 = t.val / 8 ∧ win0_0.index t 1 = 0) ∧ (win0_1.index t 0 = (t.val % 8) + 11 ∧ win0_1.index t 1 = 0) ∧ (win0_3.index t 0 = t.val / 8 ∧ win0_3.index t 1 = t.val % 8) := by
  decide +kernel

/-- A point's number is below 32. -/
theorem lt_all (t : Fin cfg0.N) : t.val < 32 := lt_of_lt_of_eq t.isLt N_0

/-- A row or column of a point's block, in the whole array. -/
abbrev row (t : Fin cfg0.N) (r : Fin 2048) : Fin 8192 := ⟨t.val / 8 * 2048 + r.val, by have := lt_all t; omega⟩

/-- A row or column of a point's block, in the whole array. -/
abbrev row1 (t : Fin cfg0.N) (r : Fin 512) : Fin 4096 := ⟨t.val % 8 * 512 + r.val, by have := lt_all t; omega⟩

/-- One summand of the product, at a row and a column. -/
def prod (A : Vec Ideal S8192x2048 .bf16) (B : Vec Ideal S2048x9728 .f32) (r : Fin 8192) (n : Fin 4096) (q : Fin 2048) : EReal :=
  A (ix2 r q) * B (ix2 q ⟨5632 + (n).val, by omega⟩)

/-- The product, at a row and a column. -/
def entry (A : Vec Ideal S8192x2048 .bf16) (B : Vec Ideal S2048x9728 .f32) (r : Fin 8192) (n : Fin 4096) : EReal :=
  ∑ q : Fin 2048, prod A B r n q

/-- The result: the gates' columns of the input projection. -/
def G (A : Vec Ideal S8192x2048 .bf16) (B : Vec Ideal S2048x9728 .f32) : Vec Ideal S8192x4096 .bf16 := fun j => entry A B (j 0) (j 1)

/-- Block 0 of a point, at an element. -/
theorem blk0 (c : Dev nD) (t : Fin cfg0.N) (r : Fin 2048) (l : Fin 2048) :
    (iblk m c 0 t : Vec Ideal S2048x2048 .bf16) (ix2 r l) = a0 m c (ix2 (row t r) l) := by
  have h := (idx t).1
  exact (congrFun (V_main_arg0 m c) _).trans (congrArg _ (Kit.e2 (Kit.at_ 2048 h.1 r) (Kit.at0 2048 h.2 l)))

/-- The weight as the kernel finds it: transposed (and rounded, which is nothing over the reals). -/
theorem V_w (c : Dev nD) : @Eq (FVec Ideal S9728x2048 .bf16) (V m c main_v1)
    (truncf .bf16 (transpose S9728x2048 [1, 0] (m ((c : Thread nD τ).loc main_arg1) : FVec Ideal S2048x9728 .f32) transposes_S2048x9728_S9728x2048_1_0) bitsLt_bf16_f32) := by
  show StableHlo.after hostOps0 _ (Proc.devRef .tc main_v1) = _
  after_results

/-- Block 1 of a point, at an element. -/
theorem blk1 (c : Dev nD) (t : Fin cfg0.N) (l : Fin 2048) (n : Fin 512) :
    (iblk m c 1 t : Vec Ideal S512x2048 .bf16) (ix2 n l) = a1 m c (ix2 l ⟨5632 + ((row1 t n)).val, by omega⟩) := by
  have h := (idx t).2.1
  have ht := lt_all t
  unfold iblk
  rw [View.read_apply]
  show V m c main_v1 _ = _
  refine (congrFun (V_w m c) _).trans ?_
  have e : (((cfg0.win 1).blk t).view.emb (ix2 n l) : S9728x2048.Idx) = ix2 ⟨5632 + (t.val % 8 * 512 + n.val), by omega⟩ ⟨l.val, by omega⟩ :=
    Kit.e2 (by show win0_1.index t 0 * 512 + 1 * n.val = 5632 + (t.val % 8 * 512 + n.val); rw [h.1]; omega) (Kit.at0 2048 h.2 l)
  refine Eq.trans (congrArg _ e) ?_
  pointwise []

/-- The product of two blocks, at an element. -/
theorem mm_apply (a : Vec Ideal S2048x2048 .bf16) (b : Vec Ideal S512x2048 .bf16) (r : Fin 2048) (n : Fin 512) :
    k0_pay1 a b (ix2 r n) = ∑ l : Fin 2048, (a (ix2 r l) * b (ix2 n l) : EReal) := by
  pointwise [k0_pay1]

/-- One point's share of the product. -/
def term (c : Dev nD) (t : Fin cfg0.N) : S2048x512.Idx → EReal := k0_pay1 (iblk m c 0 t) (iblk m c 1 t)

/-- A point's share, at an element, in the whole arrays. -/
theorem term_apply (c : Dev nD) (t : Fin cfg0.N) (r : Fin 2048) (n : Fin 512) :
    term m c t (ix2 r n) = ∑ l : Fin 2048, prod (a0 m c) (a1 m c) (row t r) (row1 t n) l := by
  unfold term
  rw [mm_apply]
  refine Finset.sum_congr rfl fun l _ => ?_
  rw [blk0, blk1]
  rfl

/-- What a point writes back is its block of `G`. -/
theorem flushed_G (c : Dev nD) (t : Fin cfg0.N) : (dats m 0 c).flushed 3 t =
    ((cfg0.win 3).blk t).view.read (Elt Ideal) (G (a0 m c) (a1 m c)) := by
  have h := (idx t).2.2
  have ht := lt_all t
  rw [Value.flushed3, out_point]
  funext (j : S2048x512.Idx)
  rw [View.read_apply]
  obtain ⟨r, n, rfl⟩ := Kit.pair j
  have e : (((cfg0.win 3).blk t).view.emb (ix2 r n) : S8192x4096.Idx) = ix2 ⟨t.val / 8 * 2048 + r.val, by omega⟩ ⟨t.val % 8 * 512 + n.val, by omega⟩ :=
    Kit.e2 (Kit.at_ 2048 h.1 r) (Kit.at_ 512 h.2 n)
  refine Eq.trans ?_ (congrArg (G (a0 m c) (a1 m c)) e).symm
  show k0_pay1 (iblk m c 0 t) (iblk m c 1 t) (ix2 r n) = entry (a0 m c) (a1 m c) (row t r) (row1 t n)
  unfold entry
  refine Eq.trans ?_ (term_apply m c t r n)
  unfold term
  rfl

/-- An index of the result lies in a block that is written back. -/
theorem cover (i : S8192x4096.Idx) : ∃ t : Fin cfg0.N, (cfg0.win 3).flush t = true ∧ i ∈ ((cfg0.win 3).blk t).view.set := by
  have h0 : (i 0).val < 8192 := (i 0).isLt
  have h1 : (i 1).val < 4096 := (i 1).isLt
  obtain ⟨t, ht⟩ : ∃ t : Fin cfg0.N, t.val = (i 0).val / 2048 * 8 + (i 1).val / 512 :=
    ⟨⟨_, by show _ < grid0.N; rw [Gen.N_0]; omega⟩, rfl⟩
  have h := (idx t).2.2
  refine ⟨t, flush0_3 t, ?_⟩
  exact Kit.cov (Fin.forall_fin_two.2 ⟨Kit.mem 2048 _ h.1 (by omega), Kit.mem 512 _ h.2 (by omega)⟩)

/-- The result array after the run. -/
theorem final (c : Dev nD) : (dats m 0 c).arrAt 3 cfg0.N = G (a0 m c) (a1 m c) :=
  (dats m 0 c).arrAt_eq_of_cover 3 _ (fun t _ => flushed_G m c t) cover

end Cert.Kernel10Ideal.Product

namespace Cert.Reference10Ideal.Product

open Gen Read Idealize.ShloMosaic TcCoe Idealize.SL.Sem

/-- The reference computes the same array. -/
theorem result (A : Vec Ideal S8192x2048 .bf16) (B : Vec Ideal S2048x9728 .f32) : val_main_v3 (F := Ideal) A B = Kernel10Ideal.Product.G A B := by
  funext j
  obtain ⟨r, n, rfl⟩ := Kit.pair j
  unfold Kernel10Ideal.Product.G Kernel10Ideal.Product.entry Kernel10Ideal.Product.prod
  pointwise [val_main_v3, val_main_v2, val_main_v1, val_main_v0]

end Cert.Reference10Ideal.Product

namespace Cert.Proof.Product10

open Idealize.ShloMosaic TcCoe Idealize.SL.Sem

/-- The reference leaves its arguments as they were; it has no semaphore. -/
theorem frame_reference : quiescent_Reference10Ideal := fun m ρ _ =>
  (θ_run Reference10Ideal.defs _ _).mono (fun r h => ⟨fun c => (h c).2, sem_eq_zero_of_no_sems (by decide) r.2⟩)
    (Reference10Ideal.Value.run m ρ)

/-- The kernel and the reference leave the same array, the gates' columns of the input projection. -/
theorem algebraic : algebraic_Kernel10Ideal_Reference10Ideal := by
  intro m ρ m' ρ' _ hag
  refine ⟨_, (θ_run Kernel10Ideal.defs _ _).mono
    (fun _ h c => ⟨(h c).1.trans (Kernel10Ideal.Product.final m c), (h c).2⟩)
    (Kernel10Ideal.Value.run_blocks m ρ), ?_⟩
  · refine (θ_run Reference10Ideal.defs _ _).mono (fun _ h c => ⟨(h c).1.trans ?_, (h c).2⟩)
      (Reference10Ideal.Value.run m' ρ')
    refine (Reference10Ideal.Read.val_main_v3_eq _ _).trans ((Reference10Ideal.Product.result _ _).trans ?_)
    rw [(hag c).1, (hag c).2.1]

end Cert.Proof.Product10

end
-- ==== Proof.Product11.lean ====
module

public import proofs.«01_k».proof.Proof.Kit
public import proofs.«01_k».proof.Proof.Gen.Kernel11Ideal.Value
public import proofs.«01_k».proof.Proof.Gen.Reference11Ideal.Read

@[expose] public section

set_option maxRecDepth 16384

noncomputable section

namespace Cert.Kernel11Ideal.Product

open Gen Idealize.ShloMosaic TcCoe Idealize.SL.Sem
open Idealize.ShloMosaic.Pipeline (Dat)

section Points

variable {F : FTy → Type} [FloatOps F]

variable (c : Dev nD) (i : grid0.Coords) (arg3 : Memref sig .tc .vmem S1024x2816 .bf16) (harg3 : arg3.IsWhole) (arg4 : Memref sig .tc .vmem S2816x1024 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole)
    (x0 : Vec F S1024x2816 .bf16) (x1 : Vec F S2816x1024 .bf16) (x2 : Vec F S1024x1024 .f32) (acc : Vec F S1024x1024 .f32)

/-- What case A leaves in the accumulator. -/
theorem acc_A (hc0 : cond0_0 i) (hc1 : ¬cond0_1 i) (hc2 : ¬cond0_2 i) :
    sout0_A_0 c i arg3 harg3 arg4 harg4 arg5 harg5 arg6 harg6 arg7 harg7 hc0 hc1 hc2 x0 x1 x2 = k0_pay2 x0 x1 := by
  unfold sout0_A_0
  rw [View.read_writes_eq_canon _ _ _ (scover0_A_0 c i arg3 harg3 arg4 harg4 arg5 harg5 arg6 harg6 arg7 harg7 hc0 hc1 hc2 x0 x1 x2)]
  unfold kernelRun0_A
  dsimp only
  sl_unfold_words
  rw [View.canon_unit_zero hz2]
  simp only [View.readAt_eq_ld, Memref.IsWhole.read_unread, Kit.ld, View.readCov_unit_zero (S := S1024x1024) _ hz2]

/-- What case B leaves in the accumulator. -/
theorem acc_B (hc0 : ¬cond0_0 i) (hc1 : cond0_1 i) (hc2 : cond0_2 i) :
    sout0_B_0 c i arg3 harg3 arg4 harg4 arg5 harg5 arg6 harg6 arg7 harg7 hc0 hc1 hc2 x0 x1 x2 acc = k0_pay3 x0 x1 acc := by
  unfold sout0_B_0
  rw [View.read_writes_eq_canon _ _ _ (scover0_B_0 c i arg3 harg3 arg4 harg4 arg5 harg5 arg6 harg6 arg7 harg7 hc0 hc1 hc2 x0 x1 x2 acc)]
  unfold kernelRun0_B
  dsimp only
  sl_unfold_words
  rw [View.canon_unit_zero hz2]
  simp only [View.readAt_eq_ld, Memref.IsWhole.read_unread, Kit.ld, View.readCov_unit_zero (S := S1024x1024) _ hz2]

/-- The last point of a run writes its block of the result from the accumulator. -/
theorem out_last (hc0 : ¬cond0_0 i) (hc1 : cond0_1 i) (hc2 : cond0_2 i) :
    out0_B_3 c i arg3 harg3 arg4 harg4 arg5 harg5 arg6 harg6 arg7 harg7 hc0 hc1 hc2 x0 x1 x2 acc = k0_pay4 (k0_pay3 x0 x1 acc) x2 := by
  unfold out0_B_3
  rw [View.read_writes_eq_canon _ _ _ (cover0_B_3 _ _ _ _ _ _ _ _ _ _ _ _ _ _ _ _ _ _ _)]
  unfold kernelRun0_B
  dsimp only
  sl_unfold_words
  rw [View.canon_unit_zero hz2]
  simp only [View.readAt_eq_ld, Memref.IsWhole.read_unread, Kit.ld, View.readCov_unit_zero (S := S1024x1024) _ hz2]

end Points

variable (m : (ℓ : Loc nD τ sig) → Buf (Elt Ideal) ℓ)

/-- The arguments at launch. -/
abbrev a0 (c : Dev nD) : Vec Ideal S8192x5632 .bf16 := m ((c : Thread nD τ).loc main_arg0)
@[inherit_doc a0] abbrev a1 (c : Dev nD) : Vec Ideal S5632x2048 .f32 := m ((c : Thread nD τ).loc main_arg1)
@[inherit_doc a0] abbrev a2 (c : Dev nD) : Vec Ideal S8192x2048 .f32 := m ((c : Thread nD τ).loc main_arg2)

/-- Which blocks a point reads and writes. -/
theorem idx : ∀ t : Fin grid0.N, (win0_0.index t 0 = t.val / 4 ∧ win0_0.index t 1 = t.val % 2) ∧ (win0_1.index t 0 = t.val % 2 ∧ win0_1.index t 1 = t.val / 2 % 2) ∧ (win0_2.index t 0 = t.val / 4 ∧ win0_2.index t 1 = t.val / 2 % 2) ∧ (win0_3.index t 0 = t.val / 4 ∧ win0_3.index t 1 = t.val / 2 % 2) := by
  decide +kernel

/-- A point's number is below 32. -/
theorem lt_all (t : Fin cfg0.N) : t.val < 32 := lt_of_lt_of_eq t.isLt N_0

/-- A row or column of a point's block, in the whole array. -/
abbrev row (t : Fin cfg0.N) (r : Fin 1024) : Fin 8192 := ⟨t.val / 4 * 1024 + r.val, by have := lt_all t; omega⟩

/-- A row or column of a point's block, in the whole array. -/
abbrev row1 (t : Fin cfg0.N) (r : Fin 2816) : Fin 5632 := ⟨t.val % 2 * 2816 + r.val, by have := lt_all t; omega⟩

/-- A row or column of a point's block, in the whole array. -/
abbrev row2 (t : Fin cfg0.N) (r : Fin 1024) : Fin 2048 := ⟨t.val / 2 % 2 * 1024 + r.val, by have := lt_all t; omega⟩

/-- One summand of the product, at a row and a column. -/
def prod (A : Vec Ideal S8192x5632 .bf16) (B : Vec Ideal S5632x2048 .f32) (r : Fin 8192) (n : Fin 2048) (q : Fin 5632) : EReal :=
  A (ix2 r q) * B (ix2 q n)

/-- The product, at a row and a column. -/
def entry (A : Vec Ideal S8192x5632 .bf16) (B : Vec Ideal S5632x2048 .f32) (r : Fin 8192) (n : Fin 2048) : EReal :=
  ∑ q : Fin 5632, prod A B r n q

/-- The residual plus the product, at a row and a column. -/
def total (A : Vec Ideal S8192x5632 .bf16) (B : Vec Ideal S5632x2048 .f32) (X : Vec Ideal S8192x2048 .f32) (r : Fin 8192) (n : Fin 2048) : EReal := X (ix2 r n) + entry A B r n

/-- The result: the residual plus the down projection. -/
def G (A : Vec Ideal S8192x5632 .bf16) (B : Vec Ideal S5632x2048 .f32) (X : Vec Ideal S8192x2048 .f32) : Vec Ideal S8192x2048 .f32 := fun j => total A B X (j 0) (j 1)

/-- Block 0 of a point, at an element. -/
theorem blk0 (c : Dev nD) (t : Fin cfg0.N) (r : Fin 1024) (l : Fin 2816) :
    (iblk m c 0 t : Vec Ideal S1024x2816 .bf16) (ix2 r l) = a0 m c (ix2 (row t r) (row1 t l)) := by
  have h := (idx t).1
  exact (congrFun (V_main_arg0 m c) _).trans (congrArg _ (Kit.e2 (Kit.at_ 1024 h.1 r) (Kit.at_ 2816 h.2 l)))

/-- The weight as the kernel finds it: rounded, which is nothing over the reals. -/
theorem V_w (c : Dev nD) : @Eq (FVec Ideal S5632x2048 .bf16) (V m c main_v0)
    (truncf .bf16 (m ((c : Thread nD τ).loc main_arg1) : FVec Ideal S5632x2048 .f32) bitsLt_bf16_f32) := by
  show StableHlo.after hostOps0 _ (Proc.devRef .tc main_v0) = _
  after_results

/-- Block 1 of a point, at an element. -/
theorem blk1 (c : Dev nD) (t : Fin cfg0.N) (l : Fin 2816) (n : Fin 1024) :
    (iblk m c 1 t : Vec Ideal S2816x1024 .bf16) (ix2 l n) = a1 m c (ix2 (row1 t l) (row2 t n)) := by
  have h := (idx t).2.1
  have ht := lt_all t
  unfold iblk
  rw [View.read_apply]
  show V m c main_v0 _ = _
  refine (congrFun (V_w m c) _).trans ?_
  have e : (((cfg0.win 1).blk t).view.emb (ix2 l n) : S5632x2048.Idx) = ix2 ⟨t.val % 2 * 2816 + l.val, by omega⟩ ⟨t.val / 2 % 2 * 1024 + n.val, by omega⟩ :=
    Kit.e2 (Kit.at_ 2816 h.1 l) (Kit.at_ 1024 h.2 n)
  refine Eq.trans (congrArg _ e) ?_
  pointwise []

/-- Block 2 of a point (the residual), at an element. -/
theorem blk2 (c : Dev nD) (t : Fin cfg0.N) (r : Fin 1024) (n : Fin 1024) :
    (iblk m c 2 t : Vec Ideal S1024x1024 .f32) (ix2 r n) = a2 m c (ix2 (row t r) (row2 t n)) := by
  have h := (idx t).2.2.1
  exact (congrFun (V_main_arg2 m c) _).trans (congrArg _ (Kit.e2 (Kit.at_ 1024 h.1 r) (Kit.at_ 1024 h.2 n)))

/-- The product of two blocks, at an element. -/
theorem mm_apply (a : Vec Ideal S1024x2816 .bf16) (b : Vec Ideal S2816x1024 .bf16) (r : Fin 1024) (n : Fin 1024) :
    k0_pay1 a b (ix2 r n) = ∑ l : Fin 2816, (a (ix2 r l) * b (ix2 l n) : EReal) := by
  pointwise [k0_pay1]

/-- One point's share of the product. -/
def term (c : Dev nD) (t : Fin cfg0.N) : S1024x1024.Idx → EReal := k0_pay1 (iblk m c 0 t) (iblk m c 1 t)

/-- A point's share, at an element, in the whole arrays. -/
theorem term_apply (c : Dev nD) (t : Fin cfg0.N) (r : Fin 1024) (n : Fin 1024) :
    term m c t (ix2 r n) = ∑ l : Fin 2816, prod (a0 m c) (a1 m c) (row t r) (row2 t n) (row1 t l) := by
  unfold term
  rw [mm_apply]
  refine Finset.sum_congr rfl fun l _ => ?_
  rw [blk0, blk1]
  rfl

/-- A run's first point sets the accumulator. -/
theorem acc_first (c : Dev nD) (t : Fin cfg0.N) (h0 : t.val % 2 = 0) (i : S1024x1024.Idx) :
    (outsAt0 m c t.val t.isLt).2 i = 0 + term m c t i := by
  rw [outsAt0_A m c t h0 (by omega) (by omega)]
  dsimp only
  rw [acc_A]
  rw [zero_add]
  unfold k0_pay2 term
  rw [shapeCast_self]

/-- Every other point adds to it. -/
theorem acc_next (c : Dev nD) (t : Fin cfg0.N) (h0 : ¬t.val % 2 = 0) (i : S1024x1024.Idx) :
    (outsAt0 m c t.val t.isLt).2 i
      = (outsAt0 m c (t.val - 1) (Nat.lt_of_le_of_lt (Nat.sub_le _ _) t.isLt)).2 i + term m c t i := by
  rw [outsAt0_B m c t h0 (by omega) (by omega)]
  dsimp only
  rw [acc_B]
  unfold k0_pay3 term
  rw [shapeCast_self]
  rfl

/-- The accumulator at the end of a run holds the whole product. -/
theorem acc_last (c : Dev nD) (t : Fin cfg0.N) (h : t.val % 2 = 1) (r : Fin 1024) (n : Fin 1024) :
    (outsAt0 m c t.val t.isLt).2 (ix2 r n) = entry (a0 m c) (a1 m c) (row t r) (row2 t n) := by
  have key := Pipeline.eq_sum_fin_of_reset_step_apply_of_flush (fun n h => (outsAt0 m c n h).2) 2 (fun _ => (0 : EReal)) (term m c)
    (acc_first m c) (acc_next m c) t h (ix2 r n)
  refine key.trans ?_
  rw [zero_add]
  unfold entry
  refine Eq.trans ?_ (Fin.sum_mul_add_fin 2 2816 (prod (a0 m c) (a1 m c) (row t r) (row2 t n)))
  refine Finset.sum_congr rfl fun s _ => ?_
  rw [term_apply]
  refine Finset.sum_congr rfl fun l _ => ?_
  have e : (2 * (t.val / 2) + s.val) % 2 = s.val := by omega
  have e' : (2 * (t.val / 2) + s.val) / 2 = t.val / 2 := by omega

  have e'' : (2 * (t.val / 2) + s.val) / 4 = t.val / 4 := by omega
  simp only [row, row1, row2, e, e', e'']

/-- The residual is added to the accumulator. -/
theorem pay4_apply (a x : Vec Ideal S1024x1024 .f32) (r : Fin 1024) (n : Fin 1024) :
    k0_pay4 a x (ix2 r n) = (x (ix2 r n) + a (ix2 r n) : EReal) := by
  pointwise [k0_pay4]
  exact add_comm _ _

/-- What the last point of a run writes back. -/
theorem outs_last (c : Dev nD) (t : Fin cfg0.N) (h : t.val % 2 = 1) (r : Fin 1024) (n : Fin 1024) :
    (outsAt0 m c t.val t.isLt).1 (ix2 r n) = G (a0 m c) (a1 m c) (a2 m c) (ix2 (row t r) (row2 t n)) := by
  unfold G
  show _ = total (a0 m c) (a1 m c) (a2 m c) (row t r) (row2 t n)
  unfold total
  rw [← acc_last m c t h, outsAt0_B m c t (by omega) (by omega) (by omega)]
  dsimp only
  rw [out_last, acc_B]
  rw [pay4_apply, blk2]

/-- What a point writes back is its block of `G`. -/
theorem flushed_G (c : Dev nD) (t : Fin cfg0.N) (hf : (cfg0.win 3).flush t = true) : (dats m 0 c).flushed 3 t =
    ((cfg0.win 3).blk t).view.read (Elt Ideal) (G (a0 m c) (a1 m c) (a2 m c)) := by
  have hk : t.val % 2 = 1 := (flush0_3 t).mp hf
  have h := (idx t).2.2.2
  have ht := lt_all t
  rw [Value.flushed3]
  funext (j : S1024x1024.Idx)
  rw [View.read_apply]
  obtain ⟨r, n, rfl⟩ := Kit.pair j
  have e : (((cfg0.win 3).blk t).view.emb (ix2 r n) : S8192x2048.Idx) = ix2 ⟨t.val / 4 * 1024 + r.val, by omega⟩ ⟨t.val / 2 % 2 * 1024 + n.val, by omega⟩ :=
    Kit.e2 (Kit.at_ 1024 h.1 r) (Kit.at_ 1024 h.2 n)
  refine Eq.trans ?_ (congrArg (G (a0 m c) (a1 m c) (a2 m c)) e).symm
  exact outs_last m c t hk r n

/-- An index of the result lies in a block that is written back. -/
theorem cover (i : S8192x2048.Idx) : ∃ t : Fin cfg0.N, (cfg0.win 3).flush t = true ∧ i ∈ ((cfg0.win 3).blk t).view.set := by
  have h0 : (i 0).val < 8192 := (i 0).isLt
  have h1 : (i 1).val < 2048 := (i 1).isLt
  obtain ⟨t, ht⟩ : ∃ t : Fin cfg0.N, t.val = (i 0).val / 1024 * 4 + (i 1).val / 1024 * 2 + 1 :=
    ⟨⟨_, by show _ < grid0.N; rw [Gen.N_0]; omega⟩, rfl⟩
  have h := (idx t).2.2.2
  refine ⟨t, (flush0_3 t).mpr (by omega), ?_⟩
  exact Kit.cov (Fin.forall_fin_two.2 ⟨Kit.mem 1024 _ h.1 (by omega), Kit.mem 1024 _ h.2 (by omega)⟩)

/-- The result array after the run. -/
theorem final (c : Dev nD) : (dats m 0 c).arrAt 3 cfg0.N = G (a0 m c) (a1 m c) (a2 m c) :=
  (dats m 0 c).arrAt_eq_of_cover 3 _ (flushed_G m c) cover

end Cert.Kernel11Ideal.Product

namespace Cert.Reference11Ideal.Product

open Gen Read Idealize.ShloMosaic TcCoe Idealize.SL.Sem

/-- The reference computes the same array. -/
theorem result (A : Vec Ideal S8192x5632 .bf16) (B : Vec Ideal S5632x2048 .f32) (X : Vec Ideal S8192x2048 .f32) : val_main_v2 (F := Ideal) A B X = Kernel11Ideal.Product.G A B X := by
  funext j
  obtain ⟨r, n, rfl⟩ := Kit.pair j
  unfold Kernel11Ideal.Product.G Kernel11Ideal.Product.total Kernel11Ideal.Product.entry Kernel11Ideal.Product.prod
  pointwise [val_main_v2, val_main_v1, val_main_v0]

end Cert.Reference11Ideal.Product

namespace Cert.Proof.Product11

open Idealize.ShloMosaic TcCoe Idealize.SL.Sem

/-- The reference leaves its arguments as they were; it has no semaphore. -/
theorem frame_reference : quiescent_Reference11Ideal := fun m ρ _ =>
  (θ_run Reference11Ideal.defs _ _).mono (fun r h => ⟨fun c => (h c).2, sem_eq_zero_of_no_sems (by decide) r.2⟩)
    (Reference11Ideal.Value.run m ρ)

/-- The kernel and the reference leave the same array, the residual plus the down projection. -/
theorem algebraic : algebraic_Kernel11Ideal_Reference11Ideal := by
  intro m ρ m' ρ' _ hag
  refine ⟨_, (θ_run Kernel11Ideal.defs _ _).mono
    (fun _ h c => ⟨(h c).1.trans (Kernel11Ideal.Product.final m c), (h c).2⟩)
    (Kernel11Ideal.Value.run_blocks m ρ), ?_⟩
  · refine (θ_run Reference11Ideal.defs _ _).mono (fun _ h c => ⟨(h c).1.trans ?_, (h c).2⟩)
      (Reference11Ideal.Value.run m' ρ')
    refine (Reference11Ideal.Read.val_main_v2_eq _ _ _).trans ((Reference11Ideal.Product.result _ _ _).trans ?_)
    rw [(hag c).1, (hag c).2.1, (hag c).2.2]

end Cert.Proof.Product11

end
-- ==== Proof.CarryBody.lean ====
module

public import proofs.«01_k».proof.Proof.Kit
public import proofs.«01_k».proof.Proof.Gen.Kernel12Ideal.Frame
public import proofs.«01_k».proof.Proof.Gen.Kernel12Ideal.Skeleton

@[expose] public section

set_option maxRecDepth 16384

noncomputable section

namespace Cert.Kernel12Ideal.Carry

open Idealize.ShloMosaic TcCoe Tactic
open Idealize.SL Idealize.SL.RA Idealize.SL.BI
open scoped Idealize.SL.BI
open Idealize.SL.BI.BIBase Idealize.SL.BI.Laws Idealize.SL.ProofMode Idealize.SL.Sem
open Gen

variable {F : FTy → Type} [FloatOps F]

set_option maxHeartbeats 2000000 in
/-- The body's stores: what it leaves in the two outputs and in the carried rows, as pieces, with the proof that from the
    inputs at `x0 …`, the carried rows at `v` and the rest at anything it ends with these pieces written. -/
def run (c : Dev nD) (i : grid0.Coords) (arg2 : Memref sig .tc .vmem S1024x2048 .bf16) (harg2 : arg2.IsWhole) (arg3 : Memref sig .tc .vmem S512x2048 .bf16) (harg3 : arg3.IsWhole) (arg4 : Memref sig .tc .vmem S512x2048 .bf16) (harg4 : arg4.IsWhole) (arg5 : Memref sig .tc .vmem S3x512 .f32) (harg5 : arg5.IsWhole) (arg6 : Memref sig .tc .vmem S3x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S2x1024x512 .bf16) (harg9 : arg9.IsWhole) (arg10 : Memref sig .tc .vmem S1024x512 .bf16) (harg10 : arg10.IsWhole) (arg11 : Memref sig .tc .vmem S2x1040x512 .f32) (harg11 : arg11.IsWhole) (arg12 : Memref sig .tc .vmem S11x2x16x512 .f32) (harg12 : arg12.IsWhole)
    (x0 : Vec F S1024x2048 .bf16) (x1 : Vec F S512x2048 .bf16) (x2 : Vec F S512x2048 .bf16) (x3 : Vec F S3x512 .f32) (x4 : Vec F S3x512 .f32) (x5 : Vec F S1x512 .f32) (x6 : Vec F S1x512 .f32) (v : Vec F S11x2x16x512 .f32) :
    Σ' (L7 : List (View.Piece (Elt F) S2x1024x512 .bf16)) (L8 : List (View.Piece (Elt F) S1024x512 .bf16)), { L12 : List (View.Piece (Elt F) S11x2x16x512 .f32) //
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ owns (c : Thread nD τ) arg12 fullShare v
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ d, owns (c : Thread nD τ) arg11 fullShare d) ∗ (arg12.view.loc (c : Thread nD τ) ↦[arg12.view.set]{fullShare} arg12.view.writes (Elt F) (harg12.unread v) L12)) -∗ K ⟨⟩))
          ⊢ wp frame (wpE (defs₀ (F := F)) Variants.none c none) E (cc0_up_proj_convffn i arg2 harg2 arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc0_up_proj_convffn_eq_skeleton]; unfold cc0_up_proj_convffn_skel
    simp only [k0_part1_eq_skeleton, k0_part2_eq_skeleton, k0_part3_eq_skeleton]
    unfold owns
    iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%d7, %f7, -, H7⟩, ⟨%d8, %f8, -, H8⟩, ⟨%d9, %f9, -, H9⟩, ⟨%f10, %e10, H10⟩, Hk⟩
    obtain rfl := harg2.eq_unread e0; obtain rfl := harg3.eq_unread e1; obtain rfl := harg4.eq_unread e2; obtain rfl := harg5.eq_unread e3; obtain rfl := harg6.eq_unread e4; obtain rfl := harg7.eq_unread e5; obtain rfl := harg8.eq_unread e6; obtain rfl := harg12.eq_unread e10
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]; · iexists _; iexact H8
    isplitl [H9]
    · iexists _; iexists _; isplitr; swap; · iexact H9
      ipureintro; rfl
    iexact H10

end Cert.Kernel12Ideal.Carry

end
-- ==== Proof.CarryPoint.lean ====
module

public import proofs.«01_k».proof.Proof.CarryBody
public import proofs.«01_k».proof.Proof.Kit
public import Idealize.ShloMosaic.Lib.WritesUnit

@[expose] public section

set_option maxRecDepth 16384

noncomputable section

namespace Cert.Kernel12Ideal.Carry

open Idealize.ShloMosaic TcCoe Tactic
open Idealize.SL Idealize.SL.RA Idealize.SL.BI
open scoped Idealize.SL.BI
open Idealize.SL.BI.BIBase Idealize.SL.BI.Laws Idealize.SL.ProofMode Idealize.SL.Sem
open Gen

variable {F : FTy → Type} [FloatOps F]

/-- The rows carried for half `k` of column block `j`. -/
def slab (k : Fin 2) (j : Fin 11) (v : Vec F S11x2x16x512 .f32) : Vec F S1x1x16x512 .f32 := fun y => v (ix4 j k (y 2) (y 3))
/-- The carried rows once column block `j` has been given new ones. -/
def next (j : Fin 11) (p q : Vec F S1x1x16x512 .f32) (v : Vec F S11x2x16x512 .f32) : Vec F S11x2x16x512 .f32 := fun y =>
  if (y 0).val = j.val then (if (y 1).val = 0 then p (ix4 0 0 (y 2) (y 3)) else q (ix4 0 0 (y 2) (y 3))) else v y

/-- The rows a point works on, for both halves: the 16 carried rows, then its own 1024 rows. -/
def ext (i : grid0.Coords) (x0 : Vec F S1024x2048 .bf16) (x1 x2 : Vec F S512x2048 .bf16) (p q : Vec F S1x1x16x512 .f32) : Vec F S2x1040x512 .f32 :=
  View.canon [⟨Rect.unit ![1, 16, 0] ![1, 1024, 512] inb_S2x1040x512_S1x1024x512_1_16_0, k0_pay10 x0 x2⟩,
    ⟨Rect.unit ![1, 0, 0] ![1, 16, 512] inb_S2x1040x512_S1x16x512_1_0_0, k0_pay9 (BitVec.ofNat 32 (i 0).val) q⟩,
    ⟨Rect.unit ![0, 16, 0] ![1, 1024, 512] inb_S2x1040x512_S1x1024x512_0_16_0, k0_pay5 x0 x1⟩,
    ⟨Rect.unit ![0, 0, 0] ![1, 16, 512] inb_S2x1040x512_S1x16x512_0_0_0, k0_pay4 i p⟩]
/-- Half `k` of what a point works on. -/
def e0 (e : Vec F S2x1040x512 .f32) : Vec F S1x1040x512 .f32 := View.ld e (Rect.unit ![0, 0, 0] ![1, 1040, 512] inb_S2x1040x512_S1x1040x512_0_0_0)
def e1 (e : Vec F S2x1040x512 .f32) : Vec F S1x1040x512 .f32 := View.ld e (Rect.unit ![1, 0, 0] ![1, 1040, 512] inb_S2x1040x512_S1x1040x512_1_0_0)
/-- Row `k` of the taps. -/
def w0 (w : Vec F S3x512 .f32) : Vec F S1x512 .f32 := View.ld w (Rect.unit ![0, 0] ![1, 512] inb_S3x512_S1x512_0_0)
def w1 (w : Vec F S3x512 .f32) : Vec F S1x512 .f32 := View.ld w (Rect.unit ![1, 0] ![1, 512] inb_S3x512_S1x512_1_0)
def w2 (w : Vec F S3x512 .f32) : Vec F S1x512 .f32 := View.ld w (Rect.unit ![2, 0] ![1, 512] inb_S3x512_S1x512_2_0)
/-- The last 16 rows of the first half, as a point carries them on. -/
def tail0 (x0 : Vec F S1024x2048 .bf16) (x1 : Vec F S512x2048 .bf16) : Vec F S1x1x16x512 .f32 := fun y =>
  k0_pay5 x0 x1 (ix3 0 ⟨(y 2).val + 1008, by have : (y 2).val < 16 := (y 2).isLt; omega⟩ (y 3))
/-- The last 16 rows of the second half, as a point carries them on. -/
def tail1 (x0 : Vec F S1024x2048 .bf16) (x2 : Vec F S512x2048 .bf16) : Vec F S1x1x16x512 .f32 := fun y =>
  k0_pay10 x0 x2 (ix3 0 ⟨(y 2).val + 1008, by have : (y 2).val < 16 := (y 2).isLt; omega⟩ (y 3))
/-- Both halves of the product, as a point writes them. -/
def up (x0 : Vec F S1024x2048 .bf16) (x1 x2 : Vec F S512x2048 .bf16) : Vec F S2x1024x512 .bf16 :=
  View.canon [⟨Rect.unit ![1, 0, 0] ![1, 1024, 512] inb_S2x1024x512_S1x1024x512_1_0_0, k0_pay8 x0 x2⟩,
    ⟨Rect.unit ![0, 0, 0] ![1, 1024, 512] inb_S2x1024x512_S1x1024x512_0_0_0, k0_pay3 x0 x1⟩]
/-- The activation, as a point writes it. -/
def act (e : Vec F S2x1040x512 .f32) (x3 x4 : Vec F S3x512 .f32) (x5 x6 : Vec F S1x512 .f32) : Vec F S1024x512 .bf16 :=
  k0_pay1 (k0_pay13 (k0_pay12 (e0 e)) 2#32 x5 (w0 x3) (w1 x3) (w2 x3)) (k0_pay15 (e1 e)) (k0_pay16 (e1 e) x6 (w0 x4) (w1 x4)) (k0_pay17 (w2 x4))

theorem off1 (i : grid0.Coords) : k0_off1 i = ![(i 1).val, 0, 0, 0] := by
  unfold k0_off1
  have h : (i 1).val < 11 := (i 1).isLt
  simp [Scalar.indexCast]
  try omega
theorem off2 (i : grid0.Coords) : k0_off2 i = ![(i 1).val, 1, 0, 0] := by
  unfold k0_off2
  have h : (i 1).val < 11 := (i 1).isLt
  simp [Scalar.indexCast]
  try omega

theorem ld_off1 (i : grid0.Coords) (inb) (v : Vec F S11x2x16x512 .f32) :
    View.ld v (Rect.unit (k0_off1 i) S1x1x16x512.size inb) = slab 0 (i 1) v := by
  funext y
  refine congrArg v ?_
  funext a; apply Fin.ext
  refine (congrArg (· + 1 * (y a).val) (congrFun (off1 i) a)).trans ?_
  match a with
  | ⟨0, _⟩ => show (i 1).val + 1 * (y 0).val = (i 1).val; have : (y 0).val < 1 := (y 0).isLt; omega
  | ⟨1, _⟩ => show 0 + 1 * (y 1).val = 0; have : (y 1).val < 1 := (y 1).isLt; omega
  | ⟨2, _⟩ => exact Kit.z _
  | ⟨3, _⟩ => exact Kit.z _

theorem ld_off2 (i : grid0.Coords) (inb) (v : Vec F S11x2x16x512 .f32) :
    View.ld v (Rect.unit (k0_off2 i) S1x1x16x512.size inb) = slab 1 (i 1) v := by
  funext y
  refine congrArg v ?_
  funext a; apply Fin.ext
  refine (congrArg (· + 1 * (y a).val) (congrFun (off2 i) a)).trans ?_
  match a with
  | ⟨0, _⟩ => show (i 1).val + 1 * (y 0).val = (i 1).val; have : (y 0).val < 1 := (y 0).isLt; omega
  | ⟨1, _⟩ => show 1 + 1 * (y 1).val = 1; have : (y 1).val < 1 := (y 1).isLt; omega
  | ⟨2, _⟩ => exact Kit.z _
  | ⟨3, _⟩ => exact Kit.z _

/-- The two stores of new rows leave `next`. -/
theorem read_next (i : grid0.Coords) (a : Memref sig .tc .vmem S11x2x16x512 .f32) (ha : a.IsWhole) (inb1) (inb2) (p q : Vec F S1x1x16x512 .f32)
    (v : Vec F S11x2x16x512 .f32) :
    a.view.read (Elt F) (a.view.writes (Elt F) (ha.unread v)
      [(⟨Rect.unit (k0_off2 i) ![1, 1, 16, 512] inb2, q⟩ : View.Piece (Elt F) S11x2x16x512 .f32), ⟨Rect.unit (k0_off1 i) ![1, 1, 16, 512] inb1, p⟩]) = next (i 1) p q v := by
  funext y
  have h0 : (y 0).val < 11 := (y 0).isLt
  have h1 : (y 1).val < 2 := (y 1).isLt
  have h2 : (y 2).val < 16 := (y 2).isLt
  have h3 : (y 3).val < 512 := (y 3).isLt
  unfold next
  by_cases hj : (y 0).val = (i 1).val
  · rw [if_pos hj]
    by_cases hk : (y 1).val = 0
    · rw [if_pos hk, View.read_writes_cons_unit_of_not_mem _ _ inb2 q _ y (off2 i) 1 (.inl (show (y 1).val < 1 by omega))]
      refine View.read_writes_cons_unit_of_mem _ _ inb1 p _ y (ix4 0 0 (y 2) (y 3)) (off1 i) fun b => ?_
      match b with
      | ⟨0, _⟩ => exact hj
      | ⟨1, _⟩ => exact hk
      | ⟨2, _⟩ => exact (Nat.zero_add _).symm
      | ⟨3, _⟩ => exact (Nat.zero_add _).symm
    · rw [if_neg hk]
      refine View.read_writes_cons_unit_of_mem _ _ inb2 q _ y (ix4 0 0 (y 2) (y 3)) (off2 i) fun b => ?_
      match b with
      | ⟨0, _⟩ => exact hj
      | ⟨1, _⟩ => show (y 1).val = 1; omega
      | ⟨2, _⟩ => exact (Nat.zero_add _).symm
      | ⟨3, _⟩ => exact (Nat.zero_add _).symm
  · have h : (y 0).val < (i 1).val ∨ (i 1).val + 1 ≤ (y 0).val := by omega
    rw [if_neg hj, View.read_writes_cons_unit_of_not_mem _ _ inb2 q _ y (off2 i) 0 h, View.read_writes_cons_unit_of_not_mem _ _ inb1 p _ y (off1 i) 0 h]
    exact congrFun (ha.read_unread v) y

theorem eta (y : S1x1x16x512.Idx) : ix4 0 0 (y 2) (y 3) = y := by
  funext a; apply Fin.ext
  match a with
  | ⟨0, _⟩ => show 0 = (y 0).val; have : (y 0).val < 1 := (y 0).isLt; omega
  | ⟨1, _⟩ => show 0 = (y 1).val; have : (y 1).val < 1 := (y 1).isLt; omega
  | ⟨2, _⟩ => rfl
  | ⟨3, _⟩ => rfl

theorem slab_next (j : Fin 11) (p q : Vec F S1x1x16x512 .f32) (v : Vec F S11x2x16x512 .f32) :
    slab 0 j (next j p q v) = p ∧ slab 1 j (next j p q v) = q := by
  constructor
  · funext y; exact ((if_pos rfl).trans (if_pos rfl)).trans (congrArg p (eta y))
  · funext y; exact ((if_pos rfl).trans (if_neg Nat.one_ne_zero)).trans (congrArg q (eta y))

theorem slab_next_ne (k : Fin 2) (j j' : Fin 11) (h : j'.val ≠ j.val) (p q : Vec F S1x1x16x512 .f32) (v : Vec F S11x2x16x512 .f32) :
    slab k j' (next j p q v) = slab k j' v := funext fun _ => if_neg h

/-- The rows carried on of half 0 are the last rows of what the point works on. -/
theorem tails0 (x0 : Vec F S1024x2048 .bf16) (x1 : Vec F S512x2048 .bf16) (L : List (View.Piece (Elt F) S2x1040x512 .f32)) :
    k0_pay6 (View.ld (View.canon ((⟨Rect.unit ![0, 16, 0] ![1, 1024, 512] inb_S2x1040x512_S1x1024x512_0_16_0, k0_pay5 x0 x1⟩ : View.Piece (Elt F) S2x1040x512 .f32) :: L))
      (Rect.unit ![0, 1024, 0] ![1, 16, 512] inb_S2x1040x512_S1x16x512_0_1024_0)) = tail0 x0 x1 := by
  funext y
  obtain ⟨r, n, rfl⟩ : ∃ (r : Fin 16) (n : Fin 512), y = ix4 0 0 r n := ⟨y 2, y 3, (eta y).symm⟩
  pointwise [k0_pay6]
  refine Eq.trans (congrArg _ ?_) (View.canon_cons_emb (Rect.unit ![0, 16, 0] ![1, 1024, 512] inb_S2x1040x512_S1x1024x512_0_16_0) (k0_pay5 x0 x1) L (ix3 0 ⟨r.val + 1008, by omega⟩ n))
  funext a; apply Fin.ext
  match a with
  | ⟨0, _⟩ => rfl
  | ⟨1, _⟩ => show 1024 + r.val = 16 + 1 * (r.val + 1008); omega
  | ⟨2, _⟩ => show n.val = 0 + 1 * n.val; omega

/-- The rows carried on of half 1 are the last rows of what the point works on. -/
theorem tails1 (x0 : Vec F S1024x2048 .bf16) (x2 : Vec F S512x2048 .bf16) (L : List (View.Piece (Elt F) S2x1040x512 .f32)) :
    k0_pay11 (View.ld (View.canon ((⟨Rect.unit ![1, 16, 0] ![1, 1024, 512] inb_S2x1040x512_S1x1024x512_1_16_0, k0_pay10 x0 x2⟩ : View.Piece (Elt F) S2x1040x512 .f32) :: L))
      (Rect.unit ![1, 1024, 0] ![1, 16, 512] inb_S2x1040x512_S1x16x512_1_1024_0)) = tail1 x0 x2 := by
  funext y
  obtain ⟨r, n, rfl⟩ : ∃ (r : Fin 16) (n : Fin 512), y = ix4 0 0 r n := ⟨y 2, y 3, (eta y).symm⟩
  pointwise [k0_pay11]
  refine Eq.trans (congrArg _ ?_) (View.canon_cons_emb (Rect.unit ![1, 16, 0] ![1, 1024, 512] inb_S2x1040x512_S1x1024x512_1_16_0) (k0_pay10 x0 x2) L (ix3 0 ⟨r.val + 1008, by omega⟩ n))
  funext a; apply Fin.ext
  match a with
  | ⟨0, _⟩ => rfl
  | ⟨1, _⟩ => show 1024 + r.val = 16 + 1 * (r.val + 1008); omega
  | ⟨2, _⟩ => show n.val = 0 + 1 * n.val; omega

variable (c : Dev nD) (i : grid0.Coords) (arg2 : Memref sig .tc .vmem S1024x2048 .bf16) (harg2 : arg2.IsWhole) (arg3 : Memref sig .tc .vmem S512x2048 .bf16) (harg3 : arg3.IsWhole) (arg4 : Memref sig .tc .vmem S512x2048 .bf16) (harg4 : arg4.IsWhole) (arg5 : Memref sig .tc .vmem S3x512 .f32) (harg5 : arg5.IsWhole) (arg6 : Memref sig .tc .vmem S3x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S2x1024x512 .bf16) (harg9 : arg9.IsWhole) (arg10 : Memref sig .tc .vmem S1024x512 .bf16) (harg10 : arg10.IsWhole) (arg11 : Memref sig .tc .vmem S2x1040x512 .f32) (harg11 : arg11.IsWhole) (arg12 : Memref sig .tc .vmem S11x2x16x512 .f32) (harg12 : arg12.IsWhole)
    (x0 : Vec F S1024x2048 .bf16) (x1 : Vec F S512x2048 .bf16) (x2 : Vec F S512x2048 .bf16) (x3 : Vec F S3x512 .f32) (x4 : Vec F S3x512 .f32) (x5 : Vec F S1x512 .f32) (x6 : Vec F S1x512 .f32) (v : Vec F S11x2x16x512 .f32)

theorem out7 (a : View sig .tc .vmem S2x1024x512 .bf16) (f) : a.read (Elt F) (a.writes (Elt F) f (run c i arg2 harg2 arg3 harg3 arg4 harg4 arg5 harg5 arg6 harg6 arg7 harg7 arg8 harg8 arg9 harg9 arg10 harg10 arg11 harg11 arg12 harg12 x0 x1 x2 x3 x4 x5 x6 v).1) = up x0 x1 x2 := by
  rw [View.read_writes_eq_canon _ _ _ (View.cover_of_tiledL (run c i arg2 harg2 arg3 harg3 arg4 harg4 arg5 harg5 arg6 harg6 arg7 harg7 arg8 harg8 arg9 harg9 arg10 harg10 arg11 harg11 arg12 harg12 x0 x1 x2 x3 x4 x5 x6 v).1 S1x1024x512.size (by sl_kernel_rfl))]
  unfold run
  dsimp only
  sl_unfold_words
  unfold up
  simp only [View.readAt_eq_ld, Memref.IsWhole.read_unread, View.readCov_eq_canon', Kit.ld]

theorem out8 (a : View sig .tc .vmem S1024x512 .bf16) (f) :
    a.read (Elt F) (a.writes (Elt F) f (run c i arg2 harg2 arg3 harg3 arg4 harg4 arg5 harg5 arg6 harg6 arg7 harg7 arg8 harg8 arg9 harg9 arg10 harg10 arg11 harg11 arg12 harg12 x0 x1 x2 x3 x4 x5 x6 v).2.1) = act (ext i x0 x1 x2 (slab 0 (i 1) v) (slab 1 (i 1) v)) x3 x4 x5 x6 := by
  rw [View.read_writes_eq_canon _ _ _ (View.cover_of_tiledL (run c i arg2 harg2 arg3 harg3 arg4 harg4 arg5 harg5 arg6 harg6 arg7 harg7 arg8 harg8 arg9 harg9 arg10 harg10 arg11 harg11 arg12 harg12 x0 x1 x2 x3 x4 x5 x6 v).2.1 S1024x512.size (by sl_kernel_rfl))]
  unfold run
  dsimp only
  sl_unfold_words
  simp only [View.readAt_eq_ld, Memref.IsWhole.read_unread, View.readCov_eq_canon', Kit.ld,
    View.canon_unit_zero (S := S1024x512) hz2]
  rw [← ld_off1 i (k0_off1_inb i), ← ld_off2 i (k0_off2_inb i)]
  unfold act e0 e1 w0 w1 w2 ext
  rfl

theorem out12 : arg12.view.read (Elt F) (arg12.view.writes (Elt F) (harg12.unread v) (run c i arg2 harg2 arg3 harg3 arg4 harg4 arg5 harg5 arg6 harg6 arg7 harg7 arg8 harg8 arg9 harg9 arg10 harg10 arg11 harg11 arg12 harg12 x0 x1 x2 x3 x4 x5 x6 v).2.2.1) = next (i 1) (tail0 x0 x1) (tail1 x0 x2) v := by
  refine Eq.trans ?_ (read_next i arg12 harg12 (k0_off1_inb i) (k0_off2_inb i) _ _ v)
  unfold run
  dsimp only
  sl_unfold_words
  simp only [View.readAt_eq_ld, Memref.IsWhole.read_unread, View.readCov_eq_canon', Kit.ld]
  exact congrArg (fun L => arg12.view.read (Elt F) (arg12.view.writes (Elt F) (harg12.unread v) L))
    (congrArg₂ (fun q p => [(⟨Rect.unit (k0_off2 i) ![1, 1, 16, 512] (k0_off2_inb i), q⟩ : View.Piece (Elt F) S11x2x16x512 .f32), ⟨Rect.unit (k0_off1 i) ![1, 1, 16, 512] (k0_off1_inb i), p⟩])
      (tails1 x0 x2 _) (tails0 x0 x1 _))

end Cert.Kernel12Ideal.Carry

end
-- ==== Proof.CarryFrame.lean ====
module

public import proofs.«01_k».proof.Proof.Kit
public import proofs.«01_k».proof.Proof.CarryPoint

@[expose] public section

set_option maxRecDepth 16384

noncomputable section

namespace Cert.Kernel12Ideal.Carry

open Idealize.ShloMosaic TcCoe Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Gen

variable {F : FTy → Type} [FloatOps F]

/-- The assertions these proofs are about. -/
abbrev Asrt (F : FTy → Type) := sProp (MT nD τ sig Unit (Elt F) ℕ (UR sig nD τ) ℕ)

/-- The body at a point: it leaves the product's block, the activation's block and the new carried rows. -/
theorem point (c : Dev nD) (i : grid0.Coords) (arg2 : Memref sig .tc .vmem S1024x2048 .bf16) (harg2 : arg2.IsWhole) (arg3 : Memref sig .tc .vmem S512x2048 .bf16) (harg3 : arg3.IsWhole) (arg4 : Memref sig .tc .vmem S512x2048 .bf16) (harg4 : arg4.IsWhole) (arg5 : Memref sig .tc .vmem S3x512 .f32) (harg5 : arg5.IsWhole) (arg6 : Memref sig .tc .vmem S3x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S2x1024x512 .bf16) (harg9 : arg9.IsWhole) (arg10 : Memref sig .tc .vmem S1024x512 .bf16) (harg10 : arg10.IsWhole) (arg11 : Memref sig .tc .vmem S2x1040x512 .f32) (harg11 : arg11.IsWhole) (arg12 : Memref sig .tc .vmem S11x2x16x512 .f32) (harg12 : arg12.IsWhole)
    (x0 : Vec F S1024x2048 .bf16) (x1 : Vec F S512x2048 .bf16) (x2 : Vec F S512x2048 .bf16) (x3 : Vec F S3x512 .f32) (x4 : Vec F S3x512 .f32) (x5 : Vec F S1x512 .f32) (x6 : Vec F S1x512 .f32) (v : Vec F S11x2x16x512 .f32) (K : PUnit → Asrt F) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ owns (c : Thread nD τ) arg12 fullShare v
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (up x0 x1 x2) ∗ owns (c : Thread nD τ) arg10 fullShare (act (ext i x0 x1 x2 (slab 0 (i 1) v) (slab 1 (i 1) v)) x3 x4 x5 x6) ∗ (∃ d, owns (c : Thread nD τ) arg11 fullShare d) ∗ owns (c : Thread nD τ) arg12 fullShare (next (i 1) (tail0 x0 x1) (tail1 x0 x2) v)) -∗ K ⟨⟩))
      ⊢ wp frame (wpE (defs₀ (F := F)) Variants.none c none) Set.univ (cc0_up_proj_convffn i arg2 harg2 arg3 harg3 arg4 harg4 arg5 harg5 arg6 harg6 arg7 harg7 arg8 harg8 arg9 harg9 arg10 harg10 arg11 harg11 arg12 harg12) K := by
  iintro ⟨H0, H1, H2, H3, H4, H5, H6, H7, H8, H9, H10, Hk⟩
  iapply ((run c i arg2 harg2 arg3 harg3 arg4 harg4 arg5 harg5 arg6 harg6 arg7 harg7 arg8 harg8 arg9 harg9 arg10 harg10 arg11 harg11 arg12 harg12 x0 x1 x2 x3 x4 x5 x6 v).2.2.2 Set.univ K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iintro ⟨H0, H1, H2, H3, H4, H5, H6, ⟨%f7, H7⟩, ⟨%f8, H8⟩, H9, H10⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr; swap; · iexact H7
    ipureintro; exact out7 c i arg2 harg2 arg3 harg3 arg4 harg4 arg5 harg5 arg6 harg6 arg7 harg7 arg8 harg8 arg9 harg9 arg10 harg10 arg11 harg11 arg12 harg12 x0 x1 x2 x3 x4 x5 x6 v _ _
  isplitl [H8]
  · unfold owns; iexists _; isplitr; swap; · iexact H8
    ipureintro; exact out8 c i arg2 harg2 arg3 harg3 arg4 harg4 arg5 harg5 arg6 harg6 arg7 harg7 arg8 harg8 arg9 harg9 arg10 harg10 arg11 harg11 arg12 harg12 x0 x1 x2 x3 x4 x5 x6 v _ _
  isplitl [H9]; · iexact H9
  unfold owns; iexists _; isplitr; swap; · iexact H10
  ipureintro; exact out12 c i arg2 harg2 arg3 harg3 arg4 harg4 arg5 harg5 arg6 harg6 arg7 harg7 arg8 harg8 arg9 harg9 arg10 harg10 arg11 harg11 arg12 harg12 x0 x1 x2 x3 x4 x5 x6 v

variable (m : (ℓ : Loc nD τ sig) → Buf (Elt F) ℓ) (ρ : Dev nD → PrngReg)

/-- A point's coordinates. -/
theorem co (t : Fin cfg0.N) : (grid0.coords t 0).val = t.val / 11 ∧ (grid0.coords t 1).val = t.val % 11 :=
  (by decide +kernel : ∀ t : Fin grid0.N, (grid0.coords t 0).val = t.val / 11 ∧ (grid0.coords t 1).val = t.val % 11) t

/-- The point of the row block before, in the same column block. -/
def prev (t : Fin cfg0.N) : Fin cfg0.N := ⟨t.val - 11, lt_of_le_of_lt (Nat.sub_le _ _) t.isLt⟩
/-- The rows a point carries on, of either half. -/
def T0 (c : Dev nD) (t : Fin cfg0.N) : Vec F S1x1x16x512 .f32 := tail0 (iblk m c 0 t) (iblk m c 1 t)
def T1 (c : Dev nD) (t : Fin cfg0.N) : Vec F S1x1x16x512 .f32 := tail1 (iblk m c 0 t) (iblk m c 2 t)
/-- The rows a point works on. -/
def extAt (c : Dev nD) (t : Fin cfg0.N) : Vec F S2x1040x512 .f32 :=
  ext (grid0.coords t) (iblk m c 0 t) (iblk m c 1 t) (iblk m c 2 t) (T0 m c (prev t)) (T1 m c (prev t))
/-- What is known of the carried rows before point `n`: of each of the last eleven points, its last rows. -/
def Good (c : Dev nD) (n : ℕ) (v : Vec F S11x2x16x512 .f32) : Prop := ∀ s : Fin cfg0.N, s.val < n → n ≤ s.val + 11 →
  slab 0 (grid0.coords s 1) v = T0 m c s ∧ slab 1 (grid0.coords s 1) v = T1 m c s
/-- What holds between points: the carried rows are good, the working rows and the generator at anything. -/
def Phi (c : Dev nD) (n : ℕ) : Asrt F :=
  iprop((∃ d, owns (c : Thread nD τ) (Memref.whole cc0_scratch0 : Memref sig .tc .vmem S2x1040x512 .f32) fullShare d)
    ∗ (∃ v, ⌜Good m c n v⌝ ∗ owns (c : Thread nD τ) (Memref.whole cc0_scratch1 : Memref sig .tc .vmem S11x2x16x512 .f32) fullShare v) ∗ (∃ r, prngReg c r))

theorem pay4_zero (i : grid0.Coords) (h : (i 0).val = 0) (p p' : Vec F S1x1x16x512 .f32) : k0_pay4 i p = k0_pay4 i p' := by
  unfold k0_pay4; rw [h]; rfl
theorem pay9_zero (i : grid0.Coords) (h : (i 0).val = 0) (p p' : Vec F S1x1x16x512 .f32) :
    k0_pay9 (BitVec.ofNat 32 (i 0).val) p = k0_pay9 (BitVec.ofNat 32 (i 0).val) p' := by
  unfold k0_pay9; rw [h]; rfl

/-- With good carried rows a point works on the rows it should. -/
theorem ext_good (c : Dev nD) (t : Fin cfg0.N) (v : Vec F S11x2x16x512 .f32) (h : Good m c t.val v) :
    ext (grid0.coords t) (iblk m c 0 t) (iblk m c 1 t) (iblk m c 2 t) (slab 0 (grid0.coords t 1) v) (slab 1 (grid0.coords t 1) v) = extAt m c t := by
  unfold extAt
  by_cases ht : t.val < 11
  · have h0 : (grid0.coords t 0).val = 0 := (co t).1.trans (Nat.div_eq_of_lt ht)
    unfold ext
    rw [pay4_zero _ h0 _ (T0 m c (prev t)), pay9_zero _ h0 _ (T1 m c (prev t))]
  · have hc : grid0.coords (prev t) 1 = grid0.coords t 1 := Fin.ext ((co _).2.trans (Eq.trans (by show (t.val - 11) % 11 = t.val % 11; omega) (co t).2.symm))
    have g := h (prev t) (by show t.val - 11 < _; omega) (by show _ ≤ t.val - 11 + 11; omega)
    rw [hc] at g
    rw [g.1, g.2]

/-- A point's new carried rows are good for the next. -/
theorem good_next (c : Dev nD) (t : Fin cfg0.N) (v : Vec F S11x2x16x512 .f32) (h : Good m c t.val v) :
    Good m c (t.val + 1) (next (grid0.coords t 1) (T0 m c t) (T1 m c t) v) := by
  intro s h1 h2
  by_cases hs : s = t
  · subst hs; exact slab_next _ _ _ _
  · have hv : s.val ≠ t.val := fun e => hs (Fin.ext e)
    have hne : (grid0.coords s 1).val ≠ (grid0.coords t 1).val := by rw [(co s).2, (co t).2]; omega
    have g := h s (by omega) (by omega)
    exact ⟨(slab_next_ne _ _ _ hne _ _ _).trans g.1, (slab_next_ne _ _ _ hne _ _ _).trans g.2⟩

/-- What every buffer holds after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => up (iblk m c 0 t) (iblk m c 1 t) (iblk m c 2 t)
    | ⟨8, _⟩ => act (extAt m c t) (iblk m c 3 t) (iblk m c 4 t) (iblk m c 5 t) (iblk m c 6 t)
  Φ t := Phi m c t.val
  q w := Pipeline.shareOf spec0 w
  owed _ := 0

theorem A_eq (c : Dev nD) (w : Fin cfg0.W) : (dats m 0 c).A w = V m c (Pipeline.arrRef spec0 w) := by dsimp only [dats]
theorem after7 (c : Dev nD) (t : Fin cfg0.N) : (dats m 0 c).after 7 t = up (iblk m c 0 t) (iblk m c 1 t) (iblk m c 2 t) := by dsimp only [dats]
theorem after8 (c : Dev nD) (t : Fin cfg0.N) : (dats m 0 c).after 8 t = act (extAt m c t) (iblk m c 3 t) (iblk m c 4 t) (iblk m c 5 t) (iblk m c 6 t) := by dsimp only [dats]
theorem after0 (c : Dev nD) (t : Fin cfg0.N) : (dats m 0 c).after 0 t = iblk m c 0 t := by dsimp only [dats]
theorem before0 (c : Dev nD) (t : Fin cfg0.N) (d) : (dats m 0 c).before 0 t d = iblk m c 0 t := before0_0_of m (dats m 0 c) (A_eq m c 0) (after0 m c) t d
theorem after1 (c : Dev nD) (t : Fin cfg0.N) : (dats m 0 c).after 1 t = iblk m c 1 t := by dsimp only [dats]
theorem before1 (c : Dev nD) (t : Fin cfg0.N) (d) : (dats m 0 c).before 1 t d = iblk m c 1 t := before0_1_of m (dats m 0 c) (A_eq m c 1) (after1 m c) t d
theorem after2 (c : Dev nD) (t : Fin cfg0.N) : (dats m 0 c).after 2 t = iblk m c 2 t := by dsimp only [dats]
theorem before2 (c : Dev nD) (t : Fin cfg0.N) (d) : (dats m 0 c).before 2 t d = iblk m c 2 t := before0_2_of m (dats m 0 c) (A_eq m c 2) (after2 m c) t d
theorem after3 (c : Dev nD) (t : Fin cfg0.N) : (dats m 0 c).after 3 t = iblk m c 3 t := by dsimp only [dats]
theorem before3 (c : Dev nD) (t : Fin cfg0.N) (d) : (dats m 0 c).before 3 t d = iblk m c 3 t := before0_3_of m (dats m 0 c) (A_eq m c 3) (after3 m c) t d
theorem after4 (c : Dev nD) (t : Fin cfg0.N) : (dats m 0 c).after 4 t = iblk m c 4 t := by dsimp only [dats]
theorem before4 (c : Dev nD) (t : Fin cfg0.N) (d) : (dats m 0 c).before 4 t d = iblk m c 4 t := before0_4_of m (dats m 0 c) (A_eq m c 4) (after4 m c) t d
theorem after5 (c : Dev nD) (t : Fin cfg0.N) : (dats m 0 c).after 5 t = iblk m c 5 t := by dsimp only [dats]
theorem before5 (c : Dev nD) (t : Fin cfg0.N) (d) : (dats m 0 c).before 5 t d = iblk m c 5 t := before0_5_of m (dats m 0 c) (A_eq m c 5) (after5 m c) t d
theorem after6 (c : Dev nD) (t : Fin cfg0.N) : (dats m 0 c).after 6 t = iblk m c 6 t := by dsimp only [dats]
theorem before6 (c : Dev nD) (t : Fin cfg0.N) (d) : (dats m 0 c).before 6 t d = iblk m c 6 t := before0_6_of m (dats m 0 c) (A_eq m c 6) (after6 m c) t d

/-- The body at any point of the grid, from what is known before it to what is known after it. -/
theorem body (c : Dev nD) (t : Fin cfg0.N) :
    iprop((dats m 0 c).Φ t.castSucc ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)))
      ⊢ wp frame (wpE (defs₀ (F := F)) Variants.none c none) Set.univ (bodyAt0 t)
        (fun _ => iprop((dats m 0 c).Φ t.succ ∗ (dats m 0 c).owesAt () t.succ ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t))) := by
  unfold bodyAt0
  simp only [before0, before1, before2, before3, before4, before5, before6]
  rw [show (dats m 0 c).Φ t.castSucc = Phi m c t.val from rfl, show (dats m 0 c).Φ t.succ = Phi m c (t.val + 1) from rfl,
    show (dats m 0 c).owesAt () t.succ = (dats m 0 c).owesAt () t.castSucc from rfl, after0, after1, after2, after3, after4, after5, after6, after7, after8]
  unfold Phi
  iintro ⟨⟨HA, ⟨%v, %hv, HB⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  rw [← ext_good m c t v hv]
  iapply (point c (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t) v _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [HA]; · iexact HA
  isplitl [HB]; · iexact HB
  iintro ⟨H0, H1, H2, H3, H4, H5, H6, H7, H8, HA, HB⟩
  isplitl [HA HB Hg]
  · isplitl [HA]; · iexact HA
    isplitl [HB]
    · iexists _; isplitr; swap; · iexact HB
      ipureintro; exact good_next m c t v hv
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t from by unfold defs₀; rw [Defs.onTc_tc]]
  exact triple_restated (body m c t) rfl .rfl fun _ => .rfl

/-- The scoped rest of the launch, spelt out. -/
theorem rest_eq (c : Dev nD) : (Pipeline.ΦA spec0 c : Asrt F)
    = iprop(((∃ d, owns (c : Thread nD τ) (Memref.whole cc0_scratch0 : Memref sig .tc .vmem S2x1040x512 .f32) fullShare d)
      ∗ (∃ d, owns (c : Thread nD τ) (Memref.whole cc0_scratch1 : Memref sig .tc .vmem S11x2x16x512 .f32) fullShare d)) ∗ (∃ r, prngReg c r)) := by
  unfold Pipeline.ΦA; rw [scopedRest0_eq]; simp only [owns_whole]; try rfl

theorem rest_in (c : Dev nD) : (Pipeline.ΦA spec0 c : Asrt F) ⊢ Phi m c 0 := by
  rw [rest_eq]; unfold Phi
  iintro ⟨⟨HA, ⟨%v, HB⟩⟩, Hg⟩
  isplitl [HA]; · iexact HA
  isplitl [HB]
  · iexists v; isplitr; swap; · iexact HB
    ipureintro; exact fun s h => absurd h (Nat.not_lt_zero _)
  iexact Hg

theorem rest_out (c : Dev nD) (n : ℕ) : Phi m c n ⊢ (Pipeline.ΦA spec0 c : Asrt F) := by
  rw [rest_eq]; unfold Phi
  iintro ⟨HA, ⟨%v, -, HB⟩, Hg⟩
  isplitl [HA HB]
  · isplitl [HA]; · iexact HA
    iexists v; iexact HB
  iexact Hg

set_option backward.isDefEq.respectTransparency.types false in
/-- The run of the whole program: every array ends at what the points leave, and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m)
    (hin := fun c => rest_in m c) (hout := fun c => rest_out m c _)

theorem run_main : θ_run defs (onTc (τ := τ) (main (F := F))) (s₀ m ρ) (Pipeline.FramePost cfgs (dats m) 0 (V m)) :=
  (θ_run defs _ _).mono (fun _ h => h.1) (run_main_quiescent m ρ)

/-- The frame: the program ends, its arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.Kernel12Ideal.Carry

end
-- ==== Proof.CarryRead.lean ====
/- The up-projection with its convolution: what a point computes, entry by entry. -/
module

public import proofs.«01_k».proof.Proof.Kit
public import proofs.«01_k».proof.Proof.CarryFrame

@[expose] public section

set_option maxRecDepth 16384

noncomputable section

namespace Cert.Kernel12Ideal.Carry

open Gen Idealize.ShloMosaic TcCoe Idealize.SL.Sem

/-- The normal distribution function, as the kernel computes it. -/
def cdf (a : EReal) : EReal := Ideal.ofBits .f32 0x3F000000#32 * (1 + Ideal.erf (a * Ideal.ofBits .f32 0x3F3504F3#32))
/-- One entry of a block's product. -/
def dp (x : Vec Ideal S1024x2048 .bf16) (w : Vec Ideal S512x2048 .bf16) (r : Fin 1024) (n : Fin 512) : EReal := ∑ l : Fin 2048, x (ix2 r l) * w (ix2 n l)
/-- One convolved row: three taps over the rows before it. -/
def cv (e : Vec Ideal S2x1040x512 .f32) (h : Fin 2) (w : Vec Ideal S3x512 .f32) (b : Vec Ideal S1x512 .f32) (r : Fin 1024) (n : Fin 512) : EReal :=
  b (ix2 0 n) + w (ix2 0 n) * e (ix3 h ⟨r.val + 14, by omega⟩ n) + w (ix2 1 n) * e (ix3 h ⟨r.val + 15, by omega⟩ n)
    + w (ix2 2 n) * e (ix3 h ⟨r.val + 16, by omega⟩ n)

variable (i : grid0.Coords) (x0 : Vec Ideal S1024x2048 .bf16) (x1 x2 : Vec Ideal S512x2048 .bf16) (p q : Vec Ideal S1x1x16x512 .f32)

theorem p3 (r : Fin 1024) (n : Fin 512) : k0_pay3 x0 x1 (ix3 0 r n) = dp x0 x1 r n := by
  unfold dp; pointwise [k0_pay3, k0_pay2]
theorem p5 (r : Fin 1024) (n : Fin 512) : k0_pay5 x0 x1 (ix3 0 r n) = dp x0 x1 r n := by
  unfold dp; pointwise [k0_pay5, k0_pay2]
theorem p8 (r : Fin 1024) (n : Fin 512) : k0_pay8 x0 x2 (ix3 0 r n) = dp x0 x2 r n := by
  unfold dp; pointwise [k0_pay8, k0_pay7]
theorem p10 (r : Fin 1024) (n : Fin 512) : k0_pay10 x0 x2 (ix3 0 r n) = dp x0 x2 r n := by
  unfold dp; pointwise [k0_pay10, k0_pay7]

theorem first : ∀ n < 8, Scalar.cmpi CmpIPredicate.eq (BitVec.ofNat 32 n) 0#32 = if n = 0 then 1#1 else 0#1 := by decide

theorem p4 (r : Fin 16) (n : Fin 512) : k0_pay4 i p (ix3 0 r n) = if (i 0).val = 0 then (0 : EReal) else p (ix4 0 0 r n) := by
  unfold k0_pay4
  rw [first _ (i 0).isLt]
  split
  · pointwise []
  · pointwise []
theorem p9 (r : Fin 16) (n : Fin 512) : k0_pay9 (BitVec.ofNat 32 (i 0).val) q (ix3 0 r n) = if (i 0).val = 0 then (0 : EReal) else q (ix4 0 0 r n) := by
  unfold k0_pay9
  rw [first _ (i 0).isLt]
  split
  · pointwise []
  · pointwise []

/-- The product's first half, as a point writes it. -/
theorem up0 (r : Fin 1024) (n : Fin 512) : up x0 x1 x2 (ix3 0 r n) = dp x0 x1 r n := by
  unfold up
  rw [View.canon_cons_of_not_mem _ _ (by rw [Rect.mem_set_unit]; intro h; have h0 := (h 0).1; change 1 ≤ 0 at h0; omega)]
  rw [← Kit.e3 (f := (Rect.unit (s := S2x1024x512) ![0, 0, 0] ![1, 1024, 512] inb_S2x1024x512_S1x1024x512_0_0_0).emb (ix3 0 r n)) (i := 0) (j := r) (k := n) rfl (Kit.z r) (Kit.z n),
    View.canon_cons_emb, p3]
/-- The product's second half. -/
theorem up1 (r : Fin 1024) (n : Fin 512) : up x0 x1 x2 (ix3 1 r n) = dp x0 x2 r n := by
  unfold up
  rw [← Kit.e3 (f := (Rect.unit (s := S2x1024x512) ![1, 0, 0] ![1, 1024, 512] inb_S2x1024x512_S1x1024x512_1_0_0).emb (ix3 0 r n)) (i := 1) (j := r) (k := n) rfl (Kit.z r) (Kit.z n),
    View.canon_cons_emb, p8]

/-- Element `r` of what begins at 16. -/
theorem at16 {n : ℕ} (r : Fin n) : 16 + 1 * r.val = r.val + 16 := by omega

/-- The rows a point works on: its own, -/
theorem ext_hi0 (r : Fin 1024) (n : Fin 512) : ext i x0 x1 x2 p q (ix3 0 ⟨r.val + 16, by omega⟩ n) = dp x0 x1 r n := by
  unfold ext
  rw [View.canon_cons_of_not_mem _ _ (by rw [Rect.mem_set_unit]; intro h; have h0 := (h 0).1; change 1 ≤ 0 at h0; omega),
    View.canon_cons_of_not_mem _ _ (by rw [Rect.mem_set_unit]; intro h; have h0 := (h 0).1; change 1 ≤ 0 at h0; omega),
    ← Kit.e3 (f := (Rect.unit (s := S2x1040x512) ![0, 16, 0] ![1, 1024, 512] inb_S2x1040x512_S1x1024x512_0_16_0).emb (ix3 0 r n)) (i := 0) (j := ⟨r.val + 16, by omega⟩) (k := n) rfl (at16 r) (Kit.z n),
    View.canon_cons_emb, p5]
theorem ext_hi1 (r : Fin 1024) (n : Fin 512) : ext i x0 x1 x2 p q (ix3 1 ⟨r.val + 16, by omega⟩ n) = dp x0 x2 r n := by
  unfold ext
  rw [← Kit.e3 (f := (Rect.unit (s := S2x1040x512) ![1, 16, 0] ![1, 1024, 512] inb_S2x1040x512_S1x1024x512_1_16_0).emb (ix3 0 r n)) (i := 1) (j := ⟨r.val + 16, by omega⟩) (k := n) rfl (at16 r) (Kit.z n),
    View.canon_cons_emb, p10]
/-- and before them the 16 carried rows, or zeros in the first row block. -/
theorem ext_lo0 (r : Fin 16) (n : Fin 512) : ext i x0 x1 x2 p q (ix3 0 ⟨r.val, by omega⟩ n) = if (i 0).val = 0 then (0 : EReal) else p (ix4 0 0 r n) := by
  unfold ext
  rw [View.canon_cons_of_not_mem _ _ (by rw [Rect.mem_set_unit]; intro h; have h0 := (h 0).1; change 1 ≤ 0 at h0; omega),
    View.canon_cons_of_not_mem _ _ (by rw [Rect.mem_set_unit]; intro h; have h0 := (h 0).1; change 1 ≤ 0 at h0; omega),
    View.canon_cons_of_not_mem _ _ (by rw [Rect.mem_set_unit]; intro h; have h0 := (h 1).1; change 16 ≤ r.val at h0; omega),
    ← Kit.e3 (f := (Rect.unit (s := S2x1040x512) ![0, 0, 0] ![1, 16, 512] inb_S2x1040x512_S1x16x512_0_0_0).emb (ix3 0 r n)) (i := 0) (j := ⟨r.val, by omega⟩) (k := n) rfl (Kit.z r) (Kit.z n),
    View.canon_cons_emb, p4]
theorem ext_lo1 (r : Fin 16) (n : Fin 512) : ext i x0 x1 x2 p q (ix3 1 ⟨r.val, by omega⟩ n) = if (i 0).val = 0 then (0 : EReal) else q (ix4 0 0 r n) := by
  unfold ext
  rw [View.canon_cons_of_not_mem _ _ (by rw [Rect.mem_set_unit]; intro h; have h0 := (h 1).1; change 16 ≤ r.val at h0; omega),
    ← Kit.e3 (f := (Rect.unit (s := S2x1040x512) ![1, 0, 0] ![1, 16, 512] inb_S2x1040x512_S1x16x512_1_0_0).emb (ix3 0 r n)) (i := 1) (j := ⟨r.val, by omega⟩) (k := n) rfl (Kit.z r) (Kit.z n),
    View.canon_cons_emb, p9]

/-- The activation, as a point writes it. -/
theorem act_apply (e : Vec Ideal S2x1040x512 .f32) (x3 x4 : Vec Ideal S3x512 .f32) (x5 x6 : Vec Ideal S1x512 .f32) (r : Fin 1024) (n : Fin 512) :
    act e x3 x4 x5 x6 (ix2 r n) = cv e 0 x3 x5 r n * cdf (cv e 0 x3 x5 r n) * cv e 1 x4 x6 r n := by
  unfold act cv cdf
  have h0 : ∀ s k, e0 e (ix3 0 s k) = e (ix3 0 s k) := fun s k => congrArg e (Kit.e3 rfl (Kit.z s) (Kit.z k))
  have h1 : ∀ s k, e1 e (ix3 0 s k) = e (ix3 1 s k) := fun s k => congrArg e (Kit.e3 rfl (Kit.z s) (Kit.z k))
  have g : ∀ (w : Vec Ideal S3x512 .f32) k, w0 w (ix2 0 k) = w (ix2 0 k) ∧ w1 w (ix2 0 k) = w (ix2 1 k) ∧ w2 w (ix2 0 k) = w (ix2 2 k) := fun w k =>
    ⟨congrArg w (Kit.e2 rfl (Kit.z k)), congrArg w (Kit.e2 rfl (Kit.z k)), congrArg w (Kit.e2 rfl (Kit.z k))⟩
  have g3 := g x3
  have g4 := g x4
  generalize e0 e = a at h0 ⊢
  generalize e1 e = b at h1 ⊢
  generalize w0 x3 = u0 at g3 ⊢
  generalize w1 x3 = u1 at g3 ⊢
  generalize w2 x3 = u2 at g3 ⊢
  generalize w0 x4 = v0 at g4 ⊢
  generalize w1 x4 = v1 at g4 ⊢
  generalize w2 x4 = v2 at g4 ⊢
  pointwise [k0_pay1, k0_pay13, k0_pay12, k0_pay15, k0_pay14, k0_pay16, k0_pay17]
  have e1 : (r.val + 16 + 1040 - 2) % 1040 = r.val + 14 := by omega
  have e2 : (r.val + 16 + 1040 - 1) % 1040 = r.val + 15 := by omega
  have e3 : 16 + r.val = r.val + 16 := by omega
  simp only [e1, e2, e3, h0, h1, (g3 _).1, (g3 _).2.1, (g3 _).2.2, (g4 _).1, (g4 _).2.1, (g4 _).2.2]
  rfl

end Cert.Kernel12Ideal.Carry

end
-- ==== Proof.CarryArray.lean ====
/- The up-projection with its convolution: from the points to the arrays. -/
module

public import proofs.«01_k».proof.Proof.Kit
public import proofs.«01_k».proof.Proof.CarryRead

@[expose] public section

set_option maxRecDepth 16384

noncomputable section

namespace Cert.Kernel12Ideal.Carry

open Gen Idealize.ShloMosaic TcCoe Idealize.SL.Sem

/-- One entry of the product. -/
def pre (X : Vec Ideal S8192x2048 .bf16) (W : Vec Ideal S2048x11264 .f32) (s : Fin 8192) (q : Fin 11264) : EReal := ∑ l : Fin 2048, X (ix2 s l) * W (ix2 l q)
/-- Its rows with two rows of zeros before them. -/
def rowp (X : Vec Ideal S8192x2048 .bf16) (W : Vec Ideal S2048x11264 .f32) (s : ℕ) (q : Fin 11264) : EReal :=
  if h : 2 ≤ s ∧ s < 8194 then pre X W ⟨s - 2, by omega⟩ q else 0
/-- One convolved row. -/
def conv (X : Vec Ideal S8192x2048 .bf16) (W : Vec Ideal S2048x11264 .f32) (C : Vec Ideal S3x11264 .f32) (B : Vec Ideal S1x11264 .f32) (s : ℕ) (q : Fin 11264) : EReal :=
  B (ix2 0 q) + C (ix2 0 q) * rowp X W s q + C (ix2 1 q) * rowp X W (s + 1) q + C (ix2 2 q) * rowp X W (s + 2) q
/-- Column `n` of half `k`. -/
def col (k : Fin 2) (n : Fin 5632) : Fin 11264 := ⟨k.val * 5632 + n.val, by omega⟩
/-- The first result: the product's two halves. -/
def G7 (X : Vec Ideal S8192x2048 .bf16) (W : Vec Ideal S2048x11264 .f32) : Vec Ideal S2x8192x5632 .bf16 := fun y => pre X W (y 1) (col (y 0) (y 2))
/-- The second result: the activation. -/
def G8 (X : Vec Ideal S8192x2048 .bf16) (W : Vec Ideal S2048x11264 .f32) (C : Vec Ideal S3x11264 .f32) (B : Vec Ideal S1x11264 .f32) : Vec Ideal S8192x5632 .bf16 := fun y =>
  conv X W C B (y 0).val (col 0 (y 1)) * cdf (conv X W C B (y 0).val (col 0 (y 1))) * conv X W C B (y 0).val (col 1 (y 1))

/-- Which blocks a point reads and writes. -/
def Idx (t : Fin grid0.N) : Prop := (win0_0.index t 0 = t.val / 11 ∧ win0_0.index t 1 = 0)
    ∧ (win0_1.index t 0 = t.val % 11 ∧ win0_1.index t 1 = 0) ∧ (win0_2.index t 0 = t.val % 11 + 11 ∧ win0_2.index t 1 = 0)
    ∧ (win0_3.index t 0 = 0 ∧ win0_3.index t 1 = t.val % 11) ∧ (win0_4.index t 0 = 0 ∧ win0_4.index t 1 = t.val % 11 + 11)
    ∧ (win0_5.index t 0 = 0 ∧ win0_5.index t 1 = t.val % 11) ∧ (win0_6.index t 0 = 0 ∧ win0_6.index t 1 = t.val % 11 + 11)
    ∧ (win0_7.index t 0 = 0 ∧ win0_7.index t 1 = t.val / 11 ∧ win0_7.index t 2 = t.val % 11)
    ∧ (win0_8.index t 0 = t.val / 11 ∧ win0_8.index t 1 = t.val % 11)
instance (t) : Decidable (Idx t) := by unfold Idx; infer_instance
theorem idx (t : Fin cfg0.N) : Idx t := (by decide +kernel : ∀ t : Fin grid0.N, Idx t) t

theorem lt88 (t : Fin cfg0.N) : t.val < 88 := lt_of_lt_of_eq t.isLt N_0

variable (m : (ℓ : Loc nD τ sig) → Buf (Elt Ideal) ℓ) (c : Dev nD) (t : Fin cfg0.N)

abbrev aX : Vec Ideal S8192x2048 .bf16 := m ((c : Thread nD τ).loc main_arg0)
abbrev aW : Vec Ideal S2048x11264 .f32 := m ((c : Thread nD τ).loc main_arg1)
abbrev aC : Vec Ideal S3x11264 .f32 := m ((c : Thread nD τ).loc main_arg2)
abbrev aB : Vec Ideal S1x11264 .f32 := m ((c : Thread nD τ).loc main_arg3)

/-- Row `r` of a point's row block, and column `n` of half `k` of its column block. -/
def row (r : Fin 1024) : Fin 8192 := ⟨t.val / 11 * 1024 + r.val, by have := lt88 t; omega⟩
def cl (n : Fin 512) : Fin 5632 := ⟨t.val % 11 * 512 + n.val, by omega⟩

/-- The weights the launch reads are the argument's, turned. -/
theorem V_arr : @Eq (FVec Ideal S11264x2048 .bf16) (V m c main_v1) (truncf .bf16 (transpose S11264x2048 [1, 0] (aW m c : FVec Ideal S2048x11264 .f32) transposes_S2048x11264_S11264x2048_1_0) bitsLt_bf16_f32) := by
  show StableHlo.after hostOps0 _ (Proc.devRef .tc main_v1) = _
  after_results
theorem V_w (q : Fin 11264) (l : Fin 2048) : (V m c main_v1 : Vec Ideal S11264x2048 .bf16) (ix2 q l) = aW m c (ix2 l q) := by
  refine (congrFun (V_arr m c) _).trans ?_
  pointwise []

theorem blk0 (r : Fin 1024) (l : Fin 2048) : (iblk m c 0 t : Vec Ideal S1024x2048 .bf16) (ix2 r l) = aX m c (ix2 (row t r) l) := by
  have h := (idx t).1
  unfold iblk
  rw [View.read_apply]
  show V m c main_arg0 _ = _
  rw [V_main_arg0]
  exact congrArg (aX m c) (Kit.e2 (Kit.at_ 1024 h.1 r) (Kit.at0 2048 h.2 l))
theorem blk1 (n : Fin 512) (l : Fin 2048) : (iblk m c 1 t : Vec Ideal S512x2048 .bf16) (ix2 n l) = aW m c (ix2 l (col 0 (cl t n))) := by
  have h := (idx t).2.1
  unfold iblk
  rw [View.read_apply, ← V_w]
  exact congrArg (V m c main_v1) (Kit.e2 ((Kit.at_ 512 h.1 n).trans (by show _ = 0 * 5632 + (t.val % 11 * 512 + n.val); omega)) (Kit.at0 2048 h.2 l))
theorem blk2 (n : Fin 512) (l : Fin 2048) : (iblk m c 2 t : Vec Ideal S512x2048 .bf16) (ix2 n l) = aW m c (ix2 l (col 1 (cl t n))) := by
  have h := (idx t).2.2.1
  unfold iblk
  rw [View.read_apply, ← V_w]
  exact congrArg (V m c main_v1) (Kit.e2 ((Kit.at_ 512 h.1 n).trans (by show _ = 1 * 5632 + (t.val % 11 * 512 + n.val); omega)) (Kit.at0 2048 h.2 l))
theorem blk3 (k : Fin 3) (n : Fin 512) : (iblk m c 3 t : Vec Ideal S3x512 .f32) (ix2 k n) = aC m c (ix2 k (col 0 (cl t n))) := by
  have h := (idx t).2.2.2.1
  unfold iblk
  rw [View.read_apply]
  show V m c main_arg2 _ = _
  rw [V_main_arg2]
  exact congrArg (aC m c) (Kit.e2 (Kit.at0 3 h.1 k) ((Kit.at_ 512 h.2 n).trans (by show _ = 0 * 5632 + (t.val % 11 * 512 + n.val); omega)))
theorem blk4 (k : Fin 3) (n : Fin 512) : (iblk m c 4 t : Vec Ideal S3x512 .f32) (ix2 k n) = aC m c (ix2 k (col 1 (cl t n))) := by
  have h := (idx t).2.2.2.2.1
  unfold iblk
  rw [View.read_apply]
  show V m c main_arg2 _ = _
  rw [V_main_arg2]
  exact congrArg (aC m c) (Kit.e2 (Kit.at0 3 h.1 k) ((Kit.at_ 512 h.2 n).trans (by show _ = 1 * 5632 + (t.val % 11 * 512 + n.val); omega)))
theorem blk5 (n : Fin 512) : (iblk m c 5 t : Vec Ideal S1x512 .f32) (ix2 0 n) = aB m c (ix2 0 (col 0 (cl t n))) := by
  have h := (idx t).2.2.2.2.2.1
  unfold iblk
  rw [View.read_apply]
  show V m c main_arg3 _ = _
  rw [V_main_arg3]
  exact congrArg (aB m c) (Kit.e2 (Kit.at0 1 h.1 (0 : Fin 1)) ((Kit.at_ 512 h.2 n).trans (by show _ = 0 * 5632 + (t.val % 11 * 512 + n.val); omega)))
theorem blk6 (n : Fin 512) : (iblk m c 6 t : Vec Ideal S1x512 .f32) (ix2 0 n) = aB m c (ix2 0 (col 1 (cl t n))) := by
  have h := (idx t).2.2.2.2.2.2.1
  unfold iblk
  rw [View.read_apply]
  show V m c main_arg3 _ = _
  rw [V_main_arg3]
  exact congrArg (aB m c) (Kit.e2 (Kit.at0 1 h.1 (0 : Fin 1)) ((Kit.at_ 512 h.2 n).trans (by show _ = 1 * 5632 + (t.val % 11 * 512 + n.val); omega)))

/-- A point's product is the whole arrays' product. -/
theorem dp0 (r : Fin 1024) (n : Fin 512) : dp (iblk m c 0 t) (iblk m c 1 t) r n = pre (aX m c) (aW m c) (row t r) (col 0 (cl t n)) := by
  unfold dp pre; simp only [blk0, blk1]
theorem dp1 (r : Fin 1024) (n : Fin 512) : dp (iblk m c 0 t) (iblk m c 2 t) r n = pre (aX m c) (aW m c) (row t r) (col 1 (cl t n)) := by
  unfold dp pre; simp only [blk0, blk2]

/-- The carried rows are the rows just before the point's own. -/
theorem carried0 (r : Fin 16) (n : Fin 512) (h : 11 ≤ t.val) : T0 m c (prev t) (ix4 0 0 r n)
    = pre (aX m c) (aW m c) ⟨t.val / 11 * 1024 + r.val - 16, by have := lt88 t; omega⟩ (col 0 (cl t n)) := by
  unfold T0 tail0
  refine (p5 _ _ ⟨r.val + 1008, by omega⟩ n).trans ((dp0 m c (prev t) _ n).trans ?_)
  exact congrArg₂ (pre (aX m c) (aW m c)) (Fin.ext (by show (t.val - 11) / 11 * 1024 + (r.val + 1008) = t.val / 11 * 1024 + r.val - 16; omega))
    (congrArg (col 0) (Fin.ext (by show (t.val - 11) % 11 * 512 + n.val = t.val % 11 * 512 + n.val; omega)))
theorem carried1 (r : Fin 16) (n : Fin 512) (h : 11 ≤ t.val) : T1 m c (prev t) (ix4 0 0 r n)
    = pre (aX m c) (aW m c) ⟨t.val / 11 * 1024 + r.val - 16, by have := lt88 t; omega⟩ (col 1 (cl t n)) := by
  unfold T1 tail1
  refine (p10 _ _ ⟨r.val + 1008, by omega⟩ n).trans ((dp1 m c (prev t) _ n).trans ?_)
  exact congrArg₂ (pre (aX m c) (aW m c)) (Fin.ext (by show (t.val - 11) / 11 * 1024 + (r.val + 1008) = t.val / 11 * 1024 + r.val - 16; omega))
    (congrArg (col 1) (Fin.ext (by show (t.val - 11) % 11 * 512 + n.val = t.val % 11 * 512 + n.val; omega)))

/-- Own rows of the product, and before them the rows of the row block before or zeros, are rows of the product with zeros before the first. -/
theorem rows (k : Fin 2) (e : Vec Ideal S2x1040x512 .f32) (T : Vec Ideal S1x1x16x512 .f32) (n : Fin 512)
    (hi : ∀ r : Fin 1024, e (ix3 k ⟨r.val + 16, by omega⟩ n) = pre (aX m c) (aW m c) (row t r) (col k (cl t n)))
    (lo : ∀ r : Fin 16, e (ix3 k ⟨r.val, by omega⟩ n) = if t.val / 11 = 0 then (0 : EReal) else T (ix4 0 0 r n))
    (hT : ∀ r : Fin 16, 11 ≤ t.val → T (ix4 0 0 r n) = pre (aX m c) (aW m c) ⟨t.val / 11 * 1024 + r.val - 16, by have := lt88 t; omega⟩ (col k (cl t n)))
    (d : ℕ) (hd : d < 1040) (h14 : 14 ≤ d) : e (ix3 k ⟨d, hd⟩ n) = rowp (aX m c) (aW m c) (t.val / 11 * 1024 + (d - 14)) (col k (cl t n)) := by
  have ht := lt88 t
  unfold rowp
  by_cases h16 : 16 ≤ d
  · obtain ⟨r, rfl⟩ : ∃ r : Fin 1024, d = r.val + 16 := ⟨⟨d - 16, by omega⟩, by dsimp only; omega⟩
    rw [hi, dif_pos (by omega)]
    exact congrArg (fun s => pre (aX m c) (aW m c) s _) (Fin.ext (by show t.val / 11 * 1024 + r.val = t.val / 11 * 1024 + (r.val + 16 - 14) - 2; omega))
  · obtain ⟨r, rfl⟩ : ∃ r : Fin 16, d = r.val := ⟨⟨d, by omega⟩, rfl⟩
    rw [lo]
    by_cases h0 : t.val / 11 = 0
    · rw [if_pos h0, dif_neg (by omega)]
    · rw [if_neg h0, hT r (by omega), dif_pos (by omega)]
      exact congrArg (fun s => pre (aX m c) (aW m c) s _) (Fin.ext (by show t.val / 11 * 1024 + r.val - 16 = t.val / 11 * 1024 + (r.val - 14) - 2; omega))

/-- The rows a point works on are those. -/
theorem ext_point0 (n : Fin 512) : ∀ (d : ℕ) (hd : d < 1040), 14 ≤ d → extAt m c t (ix3 0 ⟨d, hd⟩ n) = rowp (aX m c) (aW m c) (t.val / 11 * 1024 + (d - 14)) (col 0 (cl t n)) :=
  rows m c t 0 _ (T0 m c (prev t)) n (fun r => (ext_hi0 _ _ _ _ _ _ r n).trans (dp0 m c t r n)) (fun r => (co t).1 ▸ ext_lo0 _ _ _ _ _ _ r n) fun r h => carried0 m c t r n h
theorem ext_point1 (n : Fin 512) : ∀ (d : ℕ) (hd : d < 1040), 14 ≤ d → extAt m c t (ix3 1 ⟨d, hd⟩ n) = rowp (aX m c) (aW m c) (t.val / 11 * 1024 + (d - 14)) (col 1 (cl t n)) :=
  rows m c t 1 _ (T1 m c (prev t)) n (fun r => (ext_hi1 _ _ _ _ _ _ r n).trans (dp1 m c t r n)) (fun r => (co t).1 ▸ ext_lo1 _ _ _ _ _ _ r n) fun r h => carried1 m c t r n h

/-- A point's convolved rows are those of the whole arrays. -/
theorem cv0 (r : Fin 1024) (n : Fin 512) : cv (extAt m c t) 0 (iblk m c 3 t) (iblk m c 5 t) r n = conv (aX m c) (aW m c) (aC m c) (aB m c) (row t r).val (col 0 (cl t n)) := by
  unfold cv
  rw [ext_point0 _ _ _ _ _ _ (by omega), ext_point0 _ _ _ _ _ _ (by omega), ext_point0 _ _ _ _ _ _ (by omega),
    blk3, blk3, blk3, blk5]
  rfl
theorem cv1 (r : Fin 1024) (n : Fin 512) : cv (extAt m c t) 1 (iblk m c 4 t) (iblk m c 6 t) r n = conv (aX m c) (aW m c) (aC m c) (aB m c) (row t r).val (col 1 (cl t n)) := by
  unfold cv
  rw [ext_point1 _ _ _ _ _ _ (by omega), ext_point1 _ _ _ _ _ _ (by omega), ext_point1 _ _ _ _ _ _ (by omega),
    blk4, blk4, blk4, blk6]
  rfl

/-- What a point writes back of the first result is its block of `G7`. -/
theorem flushed7 : (dats m 0 c).flushed 7 t = ((cfg0.win 7).blk t).view.read (Elt Ideal) (G7 (aX m c) (aW m c)) := by
  have h := (idx t).2.2.2.2.2.2.2.1
  show (cfg0.win 7).cut (grid0.coords t) ((dats m 0 c).after 7 t) = _
  rw [after7]
  funext (j : S2x1024x512.Idx)
  rw [View.read_apply]
  obtain ⟨a, r, n, rfl⟩ : ∃ (a : Fin 2) (r : Fin 1024) (n : Fin 512), j = ix3 a r n := ⟨j 0, j 1, j 2, Kit.e3 rfl rfl rfl⟩
  have e : (((cfg0.win 7).blk t).view.emb (ix3 a r n) : S2x8192x5632.Idx) = ix3 a (row t r) (cl t n) :=
    Kit.e3 (Kit.at0 2 h.1 a) (Kit.at_ 1024 h.2.1 r) (Kit.at_ 512 h.2.2 n)
  refine Eq.trans ?_ (congrArg (G7 (aX m c) (aW m c)) e).symm
  match a with
  | ⟨0, _⟩ => exact (up0 _ _ _ r n).trans (dp0 m c t r n)
  | ⟨1, _⟩ => exact (up1 _ _ _ r n).trans (dp1 m c t r n)

/-- The same of the second result and `G8`. -/
theorem flushed8 : (dats m 0 c).flushed 8 t = ((cfg0.win 8).blk t).view.read (Elt Ideal) (G8 (aX m c) (aW m c) (aC m c) (aB m c)) := by
  have h := (idx t).2.2.2.2.2.2.2.2
  show (cfg0.win 8).cut (grid0.coords t) ((dats m 0 c).after 8 t) = _
  rw [after8]
  funext (j : S1024x512.Idx)
  rw [View.read_apply]
  obtain ⟨r, n, rfl⟩ : ∃ (r : Fin 1024) (n : Fin 512), j = ix2 r n := ⟨j 0, j 1, Kit.e2 rfl rfl⟩
  have e : (((cfg0.win 8).blk t).view.emb (ix2 r n) : S8192x5632.Idx) = ix2 (row t r) (cl t n) := Kit.e2 (Kit.at_ 1024 h.1 r) (Kit.at_ 512 h.2 n)
  refine Eq.trans ?_ (congrArg (G8 (aX m c) (aW m c) (aC m c) (aB m c)) e).symm
  refine (act_apply _ _ _ _ _ r n).trans ?_
  rw [cv0, cv1]
  rfl

/-- An entry lies in the block of the point that owns its row and column. -/
theorem owner (r : Fin 8192) (n : Fin 5632) : ∃ t : Fin cfg0.N, t.val / 11 = r.val / 1024 ∧ t.val % 11 = n.val / 512 :=
  ⟨⟨r.val / 1024 * 11 + n.val / 512, by show _ < grid0.N; rw [N_0]; omega⟩, by dsimp only; omega, by dsimp only; omega⟩

theorem cover7 (i : S2x8192x5632.Idx) : ∃ t : Fin cfg0.N, (cfg0.win 7).flush t = true ∧ i ∈ ((cfg0.win 7).blk t).view.set := by
  obtain ⟨t, h1, h2⟩ := owner (i 1) (i 2)
  have h0 : (i 0).val < 2 := (i 0).isLt
  have h := (idx t).2.2.2.2.2.2.2.1
  refine ⟨t, flush0_7 t, ?_⟩
  show i ∈ ((View.whole main_v2_0).slice (win0_7.rect t)).set
  rw [View.set_slice_whole, Rect.mem_set_unit]
  intro a
  match a with
  | ⟨0, _⟩ => exact Kit.mem (q := 0) 2 _ h.1 (by show 0 * 2 ≤ (i 0).val ∧ (i 0).val < 0 * 2 + 2; omega)
  | ⟨1, _⟩ => exact Kit.mem 1024 _ (h.2.1.trans h1) (by show (i 1).val / 1024 * 1024 ≤ (i 1).val ∧ (i 1).val < (i 1).val / 1024 * 1024 + 1024; omega)
  | ⟨2, _⟩ => exact Kit.mem 512 _ (h.2.2.trans h2) (by show (i 2).val / 512 * 512 ≤ (i 2).val ∧ (i 2).val < (i 2).val / 512 * 512 + 512; omega)
theorem cover8 (i : S8192x5632.Idx) : ∃ t : Fin cfg0.N, (cfg0.win 8).flush t = true ∧ i ∈ ((cfg0.win 8).blk t).view.set := by
  obtain ⟨t, h1, h2⟩ := owner (i 0) (i 1)
  have h := (idx t).2.2.2.2.2.2.2.2
  refine ⟨t, flush0_8 t, ?_⟩
  exact Kit.cov (Fin.forall_fin_two.2 ⟨Kit.mem 1024 _ (h.1.trans h1) (by show (i 0).val / 1024 * 1024 ≤ (i 0).val ∧ (i 0).val < (i 0).val / 1024 * 1024 + 1024; omega), Kit.mem 512 _ (h.2.trans h2) (by show (i 1).val / 512 * 512 ≤ (i 1).val ∧ (i 1).val < (i 1).val / 512 * 512 + 512; omega)⟩)

/-- The two result arrays after the run. -/
theorem final7 : (dats m 0 c).arrAt 7 cfg0.N = G7 (aX m c) (aW m c) := (dats m 0 c).arrAt_eq_of_cover 7 _ (fun t _ => flushed7 m c t) cover7
theorem final8 : (dats m 0 c).arrAt 8 cfg0.N = G8 (aX m c) (aW m c) (aC m c) (aB m c) := (dats m 0 c).arrAt_eq_of_cover 8 _ (fun t _ => flushed8 m c t) cover8

end Cert.Kernel12Ideal.Carry

end
-- ==== Proof.CarryClaims.lean ====
/- The up-projection with its convolution: the reference, and the claims. -/
module

public import proofs.«01_k».proof.Proof.Kit
public import proofs.«01_k».proof.Proof.CarryArray
public import proofs.«01_k».proof.Proof.Gen.Kernel12.Frame
public import proofs.«01_k».proof.Proof.Gen.Reference12Ideal.Read
public import Idealize.ShloMosaic.PureOps.Ideal.Laws

@[expose] public section

set_option maxRecDepth 16384

noncomputable section

namespace Cert.Reference12Ideal.Carry

open Gen Read Kernel12Ideal.Carry Idealize.ShloMosaic TcCoe Idealize.SL.Sem

variable (X : Vec Ideal S8192x2048 .bf16) (W : Vec Ideal S2048x11264 .f32) (C : Vec Ideal S3x11264 .f32) (B : Vec Ideal S1x11264 .f32)

/-- The reference's product. -/
theorem pre_apply (s : Fin 8192) (q : Fin 11264) : val_main_v1 (F := Ideal) X W (ix2 s q) = pre X W s q := by
  unfold pre
  pointwise [val_main_v1, val_main_v0]

/-- Its rows with two zero rows before them. -/
theorem rows_apply (s : Fin 8194) (q : Fin 11264) : val_main_v5 (F := Ideal) X W (ix3 0 s q) = rowp X W s.val q := by
  have hu := pre_apply X W
  unfold val_main_v5 val_main_v2
  generalize val_main_v1 (F := Ideal) X W = u at hu ⊢
  unfold rowp
  pointwise [val_main_v4, val_main_cst]
  by_cases h : s.val < 2
  · rw [dif_pos h, dif_neg (by omega)]
  · rw [dif_neg h, dif_pos (by omega), hu]

/-- The convolution. -/
theorem conv_apply (s : Fin 8192) (q : Fin 11264) : val_main_v28 (F := Ideal) X W C B (ix3 0 s q) = conv X W C B s.val q := by
  have hu := rows_apply X W
  unfold val_main_v28 val_main_v27 val_main_v24 val_main_v21 val_main_v20 val_main_v17 val_main_v14 val_main_v11 val_main_v8
  generalize val_main_v5 (F := Ideal) X W = u at hu ⊢
  unfold conv
  pointwise [val_main_v26, val_main_v25, val_main_v23, val_main_v22, val_main_v19, val_main_v18, val_main_v16, val_main_v15, val_main_v13, val_main_v12, val_main_v10, val_main_v9,
    val_main_v7, val_main_v6, val_main_v3]
  rw [hu, hu, hu]
  show B (ix2 0 q) + C (ix2 0 q) * rowp X W s.val _ + C (ix2 1 q) * rowp X W (1 + s.val) _ + C (ix2 2 q) * rowp X W (2 + s.val) _ = _
  rw [Nat.add_comm 1, Nat.add_comm 2]

/-- Its halves. -/
theorem half0 (s : Fin 8192) (n : Fin 5632) : val_main_v29 (F := Ideal) X W C B (ix3 0 s n) = conv X W C B s.val (col 0 n) := by
  refine Eq.trans ?_ (conv_apply X W C B s (col 0 n))
  unfold val_main_v29
  generalize val_main_v28 (F := Ideal) X W C B = u
  pointwise []
  exact congrArg (fun k => u (ix3 0 s k)) (Fin.ext (by show n.val = 0 * 5632 + n.val; omega))
theorem half1 (s : Fin 8192) (n : Fin 5632) : val_main_v30 (F := Ideal) X W C B (ix3 0 s n) = conv X W C B s.val (col 1 n) := by
  refine Eq.trans ?_ (conv_apply X W C B s (col 1 n))
  unfold val_main_v30
  generalize val_main_v28 (F := Ideal) X W C B = u
  pointwise []
  exact congrArg (fun k => u (ix3 0 s k)) (Fin.ext (by show 5632 + n.val = 1 * 5632 + n.val; omega))

/-- The activation: the complementary error function at a negated argument is one and the error function. -/
theorem gelu_apply (i : S1x8192x5632.Idx) : val_main_v38 (F := Ideal) X W C B i
    = val_main_v29 (F := Ideal) X W C B i * cdf (val_main_v29 (F := Ideal) X W C B i) * val_main_v30 (F := Ideal) X W C B i := by
  unfold val_main_v38 val_main_v37 val_main_v36 val_main_v35 val_main_v33 val_main_v32
  generalize val_main_v29 (F := Ideal) X W C B = v
  generalize val_main_v30 (F := Ideal) X W C B = u
  unfold cdf
  simp only [mulf, Host.erfc, Host.negf, val_main_v31, val_main_v34, val_main_cst_0, val_main_cst_1, broadcastInDim, constant, Ideal.mulf_def,
      Ideal.hostUnary_erfc_def, Ideal.hostNegf_def, Ideal.negf_def, Ideal.ofBits_def, neg_mul, Ideal.erfc_neg]
  rw [mul_comm (Ideal.ofBits .f32 0x3F000000#32) (v i), mul_assoc (v i)]

/-- The reference's results are the kernel's arrays. -/
theorem result7 : val_main_v44 (F := Ideal) X W = G7 X W := by
  funext j
  obtain ⟨a, s, n, rfl⟩ : ∃ (a : Fin 2) (s : Fin 8192) (n : Fin 5632), j = ix3 a s n := ⟨j 0, j 1, j 2, Kit.e3 rfl rfl rfl⟩
  refine Eq.trans ?_ (pre_apply X W s (col a n))
  unfold val_main_v44 val_main_v43 val_main_v42 val_main_v41 val_main_v40 val_main_v39
  generalize val_main_v1 (F := Ideal) X W = u
  match a with
  | ⟨0, _⟩ =>
    pointwise []
    exact congrArg (fun k => u (ix2 s k)) (Fin.ext (by show n.val = 0 * 5632 + n.val; omega))
  | ⟨1, _⟩ =>
    pointwise []
    exact congrArg (fun k => u (ix2 s k)) (Fin.ext (by show 5632 + n.val = 1 * 5632 + n.val; omega))
theorem result8 : val_main_v46 (F := Ideal) X W C B = G8 X W C B := by
  funext j
  obtain ⟨s, n, rfl⟩ : ∃ (s : Fin 8192) (n : Fin 5632), j = ix2 s n := ⟨j 0, j 1, Kit.e2 rfl rfl⟩
  have e : val_main_v46 (F := Ideal) X W C B (ix2 s n) = val_main_v38 (F := Ideal) X W C B (ix3 0 s n) := by
    unfold val_main_v46 val_main_v45
    generalize val_main_v38 (F := Ideal) X W C B = u
    pointwise []
  rw [e, gelu_apply, half0, half1]
  rfl

end Cert.Reference12Ideal.Carry

namespace Cert.Proof.Carry

open Idealize.ShloMosaic TcCoe Idealize.SL.Sem Kernel12Ideal.Carry

section
variable [h : Kernel12.Facts] [h' : Kernel12Ideal.Facts]

/-- The kernel as printed and the kernel read over the extended reals have one body. -/
theorem same_body : (@Kernel12.defs₀ Bits _ h) = (@Kernel12Ideal.defs₀ Bits _ h') := by
  unfold Kernel12.defs₀ Kernel12Ideal.defs₀
  refine congrArg Defs.onTc ?_
  funext p a
  match p, a with
  | 0, (t, s) => rfl
theorem same_defs : (@Kernel12.defs Bits _ h) = (@Kernel12Ideal.defs Bits _ h') := by
  unfold Kernel12.defs Kernel12Ideal.defs
  exact congrArg (Pipeline.defs _) same_body

/-- The kernel's frame over bits: the frame above holds at every type of floats. -/
theorem frame_kernel : quiescent_Kernel12 := fun m ρ _ => by
  refine Eq.mpr (congrArg (fun D => θ_run D (onTc (τ := Kernel12.τ) (Kernel12.main (F := Bits))) ⟨m, fun _ => 0, ρ⟩ _) same_defs) ?_
  exact frame (F := Bits) m ρ
end

/-- The reference leaves its arguments as they were; it has no semaphore. -/
theorem frame_reference : quiescent_Reference12Ideal := fun m ρ _ =>
  (θ_run Reference12Ideal.defs _ _).mono (fun r h => ⟨fun c => (h c).2.2, sem_eq_zero_of_no_sems (by decide) r.2⟩)
    (Reference12Ideal.Value.run m ρ)

/-- The kernel and the reference leave the same two arrays: the product's halves and the activation. -/
theorem algebraic : algebraic_Kernel12Ideal_Reference12Ideal := by
  intro m ρ m' ρ' _ hag
  refine ⟨_, _, (θ_run Kernel12Ideal.defs _ _).mono (fun _ h c => ⟨((h.1 c).1 7).trans (final7 m c), ((h.1 c).1 8).trans (final8 m c), h.2.1 c⟩)
    (θ_run_and (run_main (F := Ideal) m ρ) (frame (F := Ideal) m ρ)), ?_⟩
  · refine (θ_run Reference12Ideal.defs _ _).mono (fun _ h c => ?_) (Reference12Ideal.Value.run m' ρ')
    obtain ⟨h0, h1, hr⟩ := h c
    obtain ⟨e0, e1, e2, e3⟩ := hag c
    refine ⟨?_, ?_, hr⟩
    · refine h0.trans ((Reference12Ideal.Read.val_main_v44_eq _ _).trans ((Reference12Ideal.Carry.result7 _ _).trans ?_))
      rw [e0, e1]
    · refine h1.trans ((Reference12Ideal.Read.val_main_v46_eq _ _).trans ((Reference12Ideal.Carry.result8 _ _ _ _).trans ?_))
      rw [e0, e1, e2, e3]

end Cert.Proof.Carry

end
-- ==== Proof.Sum13.lean ====
/- The gradient of one parameter as the sum of the devices' partial gradients, and the optimiser's step (AdamW) with it. -/
module

public import proofs.«01_k».proof.Proof.Kit
public import proofs.«01_k».proof.Proof.Gen.Kernel13Ideal.Value
public import proofs.«01_k».proof.Proof.Gen.Reference13Ideal.Read

@[expose] public section

set_option maxRecDepth 16384

noncomputable section

namespace Cert.Kernel13Ideal.Sum

open Gen Idealize.ShloMosaic TcCoe Idealize.SL.Sem
open Idealize.ShloMosaic.Pipeline (Dat)

variable (m : (ℓ : Loc nD τ sig) → Buf (Elt Ideal) ℓ)

/-- The arguments at launch. -/
abbrev a0 (c : Dev nD) : Vec Ideal S8x704x2048 .bf16 := m ((c : Thread nD τ).loc main_arg0)
@[inherit_doc a0] abbrev a1 (c : Dev nD) : Vec Ideal S704x2048 .f32 := m ((c : Thread nD τ).loc main_arg1)
@[inherit_doc a0] abbrev a2 (c : Dev nD) : Vec Ideal S704x2048 .f32 := m ((c : Thread nD τ).loc main_arg2)
@[inherit_doc a0] abbrev a3 (c : Dev nD) : Vec Ideal S704x2048 .f32 := m ((c : Thread nD τ).loc main_arg3)

/-- Every point's number is below 4. -/
theorem lt_all (t : Fin cfg0.N) : t.val < 4 := lt_of_lt_of_eq t.isLt N_0

/-- A row or column of a point's block, in the whole array. -/
abbrev row (t : Fin cfg0.N) (r : Fin 176) : Fin 704 := ⟨t.val * 176 + r.val, by have := lt_all t; omega⟩

/-- Each window's block number at a point: the point's rows, and all columns. -/
theorem idx : ∀ t : Fin grid0.N, (win0_0.index t 0 = 0 ∧ win0_0.index t 1 = t.val ∧ win0_0.index t 2 = 0)
    ∧ (win0_1.index t 0 = t.val ∧ win0_1.index t 1 = 0)
    ∧ (win0_2.index t 0 = t.val ∧ win0_2.index t 1 = 0)
    ∧ (win0_3.index t 0 = t.val ∧ win0_3.index t 1 = 0)
    ∧ (win0_4.index t 0 = t.val ∧ win0_4.index t 1 = 0)
    ∧ (win0_5.index t 0 = t.val ∧ win0_5.index t 1 = 0)
    ∧ (win0_6.index t 0 = t.val ∧ win0_6.index t 1 = 0)
    ∧ (win0_7.index t 0 = t.val ∧ win0_7.index t 1 = 0) := by
  decide +kernel

/-- The sum of the partial gradients. -/
def G (A : Vec Ideal S8x704x2048 .bf16) : Vec Ideal S704x2048 .f32 := fun j => ∑ k : Fin 8, (A (ix3 k (j 0) (j 1)) : EReal)

/-- The partial gradients' block of a point, at an element. -/
theorem blk0 (c : Dev nD) (t : Fin cfg0.N) (k : Fin 8) (r : Fin 176) (n : Fin 2048) :
    (iblk m c 0 t : Vec Ideal S8x176x2048 .bf16) (ix3 k r n) = a0 m c (ix3 k (row t r) n) := by
  have h := (idx t).1
  exact (congrFun (V_main_arg0 m c) _).trans (congrArg _ (Kit.e3 (Kit.at0 8 h.1 k) (Kit.at_ 176 h.2.1 r) (Kit.at0 2048 h.2.2 n)))

/-- Argument 1's block of a point, at an element. -/
theorem blk1 (c : Dev nD) (t : Fin cfg0.N) (r : Fin 176) (n : Fin 2048) :
    (iblk m c 1 t : Vec Ideal S176x2048 .f32) (ix2 r n) = a1 m c (ix2 (row t r) n) := by
  have h := (idx t).2.1
  exact (congrFun (V_main_arg1 m c) _).trans (congrArg _ (Kit.e2 (Kit.at_ 176 h.1 r) (Kit.at0 2048 h.2 n)))

/-- Argument 2's block of a point, at an element. -/
theorem blk2 (c : Dev nD) (t : Fin cfg0.N) (r : Fin 176) (n : Fin 2048) :
    (iblk m c 2 t : Vec Ideal S176x2048 .f32) (ix2 r n) = a2 m c (ix2 (row t r) n) := by
  have h := (idx t).2.2.1
  exact (congrFun (V_main_arg2 m c) _).trans (congrArg _ (Kit.e2 (Kit.at_ 176 h.1 r) (Kit.at0 2048 h.2 n)))

/-- Argument 3's block of a point, at an element. -/
theorem blk3 (c : Dev nD) (t : Fin cfg0.N) (r : Fin 176) (n : Fin 2048) :
    (iblk m c 3 t : Vec Ideal S176x2048 .f32) (ix2 r n) = a3 m c (ix2 (row t r) n) := by
  have h := (idx t).2.2.2.1
  exact (congrFun (V_main_arg3 m c) _).trans (congrArg _ (Kit.e2 (Kit.at_ 176 h.1 r) (Kit.at0 2048 h.2 n)))

/-- The body's sum of the eight slices of its block, at an element. -/
theorem slices (x0 : Vec Ideal S8x176x2048 .bf16) (r : Fin 176) (n : Fin 2048) :
    k0_pay4 (View.ld x0 r0_0) (View.ld x0 r0_1) (View.ld x0 r0_2) (View.ld x0 r0_3) (View.ld x0 r0_4) (View.ld x0 r0_5) (View.ld x0 r0_6) (View.ld x0 r0_7) (ix2 r n) = ∑ k : Fin 8, (x0 (ix3 k r n) : EReal) := by
  have L0 : View.ld x0 r0_0 (ix3 0 r n) = x0 (ix3 0 r n) := congrArg x0 (Kit.e3 rfl (Kit.z r) (Kit.z n))
  have L1 : View.ld x0 r0_1 (ix3 0 r n) = x0 (ix3 1 r n) := congrArg x0 (Kit.e3 rfl (Kit.z r) (Kit.z n))
  have L2 : View.ld x0 r0_2 (ix3 0 r n) = x0 (ix3 2 r n) := congrArg x0 (Kit.e3 rfl (Kit.z r) (Kit.z n))
  have L3 : View.ld x0 r0_3 (ix3 0 r n) = x0 (ix3 3 r n) := congrArg x0 (Kit.e3 rfl (Kit.z r) (Kit.z n))
  have L4 : View.ld x0 r0_4 (ix3 0 r n) = x0 (ix3 4 r n) := congrArg x0 (Kit.e3 rfl (Kit.z r) (Kit.z n))
  have L5 : View.ld x0 r0_5 (ix3 0 r n) = x0 (ix3 5 r n) := congrArg x0 (Kit.e3 rfl (Kit.z r) (Kit.z n))
  have L6 : View.ld x0 r0_6 (ix3 0 r n) = x0 (ix3 6 r n) := congrArg x0 (Kit.e3 rfl (Kit.z r) (Kit.z n))
  have L7 : View.ld x0 r0_7 (ix3 0 r n) = x0 (ix3 7 r n) := congrArg x0 (Kit.e3 rfl (Kit.z r) (Kit.z n))
  rw [Fin.sum_univ_eight, ← L0, ← L1, ← L2, ← L3, ← L4, ← L5, ← L6, ← L7]
  pointwise [k0_pay4]

/-- The first moment after the step. -/
def M (A : Vec Ideal S8x704x2048 .bf16) (mo : Vec Ideal S704x2048 .f32) : Vec Ideal S704x2048 .f32 := fun j =>
  (Ideal.ofBits .f32 0x3F666666#32 * mo j + Ideal.ofBits .f32 0x3DCCCCCD#32 * G A j : EReal)

/-- The second moment after the step. -/
def U (A : Vec Ideal S8x704x2048 .bf16) (vo : Vec Ideal S704x2048 .f32) : Vec Ideal S704x2048 .f32 := fun j =>
  (Ideal.ofBits .f32 0x3F7FBE77#32 * vo j + Ideal.ofBits .f32 0x3A83126F#32 * (G A j * G A j) : EReal)

/-- The change of the parameter. -/
def D (A : Vec Ideal S8x704x2048 .bf16) (w mo vo : Vec Ideal S704x2048 .f32) : Vec Ideal S704x2048 .f32 := fun j =>
  (Ideal.ofBits .f32 0xBA83126F#32 * (Ideal.div (Ideal.div (M A mo j) (Ideal.ofBits .f32 0x3F26BD02#32)) (Ideal.sqrt (Ideal.div (U A vo j) (Ideal.ofBits .f32 0x3C231ACC#32)) + Ideal.ofBits .f32 0x322BCC77#32) + Ideal.ofBits .f32 0x3C23D70A#32 * w j) : EReal)

/-- What a point's body leaves for result 0, at an element. -/
theorem out_G (c : Dev nD) (t : Fin cfg0.N) (r : Fin 176) (n : Fin 2048) :
    out0_4 (iblk m c 0 t) (iblk m c 1 t) (iblk m c 2 t) (iblk m c 3 t) (ix2 r n) = G (a0 m c) (ix2 (row t r) n) := by
  unfold out0_4 k0_pay5
  rw [View.canon_unit_zero hz2]
  refine (slices _ r n).trans (Finset.sum_congr rfl fun k _ => ?_)
  exact blk0 m c t k r n

/-- What a point writes back of result 0 is its block of `G`. -/
theorem flushed_G (c : Dev nD) (t : Fin cfg0.N) : (dats m 0 c).flushed 4 t =
    ((cfg0.win 4).blk t).view.read (Elt Ideal) (G (a0 m c)) := by
  have h := (idx t).2.2.2.2.1
  rw [Value.flushed4]
  funext (j : S176x2048.Idx)
  rw [View.read_apply]
  obtain ⟨r, n, rfl⟩ := Kit.pair j
  have e : (((cfg0.win 4).blk t).view.emb (ix2 r n) : S704x2048.Idx) = ix2 (row t r) n :=
    Kit.e2 (Kit.at_ 176 h.1 r) (Kit.at0 2048 h.2 n)
  refine Eq.trans ?_ (congrArg (G (a0 m c)) e).symm
  exact out_G m c t r n

/-- The point that writes an index. -/
theorem point (i : S704x2048.Idx) : ∃ t : Fin cfg0.N, t.val = (i 0).val / 176 := by
  have h0 : (i 0).val < 704 := (i 0).isLt
  have h1 : (i 1).val < 2048 := (i 1).isLt
  exact ⟨⟨_, by show _ < grid0.N; rw [Gen.N_0]; omega⟩, rfl⟩

/-- An index of result 0 lies in a block that is written back. -/
theorem cover_G (i : S704x2048.Idx) : ∃ t : Fin cfg0.N, (cfg0.win 4).flush t = true ∧ i ∈ ((cfg0.win 4).blk t).view.set := by
  have h0 : (i 0).val < 704 := (i 0).isLt
  have h1 : (i 1).val < 2048 := (i 1).isLt
  obtain ⟨t, ht⟩ := point i
  have h := (idx t).2.2.2.2.1
  refine ⟨t, flush0_4 t, ?_⟩
  exact Kit.cov (Fin.forall_fin_two.2 ⟨Kit.mem 176 _ h.1 (by omega), Kit.mem 2048 _ h.2 (by omega)⟩)

/-- Result 0 after the run. -/
theorem final_G (c : Dev nD) : (dats m 0 c).arrAt 4 cfg0.N = G (a0 m c) :=
  (dats m 0 c).arrAt_eq_of_cover 4 _ (fun t _ => flushed_G m c t) cover_G

/-- What a point's body leaves for result 1, at an element. -/
theorem out_D (c : Dev nD) (t : Fin cfg0.N) (r : Fin 176) (n : Fin 2048) :
    out0_5 (iblk m c 0 t) (iblk m c 1 t) (iblk m c 2 t) (iblk m c 3 t) (ix2 r n) = D (a0 m c) (a1 m c) (a2 m c) (a3 m c) (ix2 (row t r) n) := by
  unfold out0_5 k0_pay5
  rw [View.canon_unit_zero hz2]
  have hs := (slices (iblk m c 0 t) r n).trans (Finset.sum_congr rfl fun k _ => blk0 m c t k r n)
  generalize k0_pay4 (View.ld (iblk m c 0 t) r0_0) (View.ld (iblk m c 0 t) r0_1) (View.ld (iblk m c 0 t) r0_2) (View.ld (iblk m c 0 t) r0_3) (View.ld (iblk m c 0 t) r0_4) (View.ld (iblk m c 0 t) r0_5) (View.ld (iblk m c 0 t) r0_6) (View.ld (iblk m c 0 t) r0_7) = g at hs ⊢
  have hG : g (ix2 r n) = G (a0 m c) (ix2 (row t r) n) := hs
  unfold D M U
  rw [← hG, ← blk1 m c t r n, ← blk2 m c t r n, ← blk3 m c t r n]
  simp only [View.ld_unit_zero (S := S176x2048) hz2]
  pointwise [k0_pay3, k0_pay1, k0_pay2]

/-- What a point writes back of result 1 is its block of `D`. -/
theorem flushed_D (c : Dev nD) (t : Fin cfg0.N) : (dats m 0 c).flushed 5 t =
    ((cfg0.win 5).blk t).view.read (Elt Ideal) (D (a0 m c) (a1 m c) (a2 m c) (a3 m c)) := by
  have h := (idx t).2.2.2.2.2.1
  rw [Value.flushed5]
  funext (j : S176x2048.Idx)
  rw [View.read_apply]
  obtain ⟨r, n, rfl⟩ := Kit.pair j
  have e : (((cfg0.win 5).blk t).view.emb (ix2 r n) : S704x2048.Idx) = ix2 (row t r) n :=
    Kit.e2 (Kit.at_ 176 h.1 r) (Kit.at0 2048 h.2 n)
  refine Eq.trans ?_ (congrArg (D (a0 m c) (a1 m c) (a2 m c) (a3 m c)) e).symm
  exact out_D m c t r n

/-- An index of result 1 lies in a block that is written back. -/
theorem cover_D (i : S704x2048.Idx) : ∃ t : Fin cfg0.N, (cfg0.win 5).flush t = true ∧ i ∈ ((cfg0.win 5).blk t).view.set := by
  have h0 : (i 0).val < 704 := (i 0).isLt
  have h1 : (i 1).val < 2048 := (i 1).isLt
  obtain ⟨t, ht⟩ := point i
  have h := (idx t).2.2.2.2.2.1
  refine ⟨t, flush0_5 t, ?_⟩
  exact Kit.cov (Fin.forall_fin_two.2 ⟨Kit.mem 176 _ h.1 (by omega), Kit.mem 2048 _ h.2 (by omega)⟩)

/-- Result 1 after the run. -/
theorem final_D (c : Dev nD) : (dats m 0 c).arrAt 5 cfg0.N = D (a0 m c) (a1 m c) (a2 m c) (a3 m c) :=
  (dats m 0 c).arrAt_eq_of_cover 5 _ (fun t _ => flushed_D m c t) cover_D

/-- What a point's body leaves for result 2, at an element. -/
theorem out_M (c : Dev nD) (t : Fin cfg0.N) (r : Fin 176) (n : Fin 2048) :
    out0_6 (iblk m c 0 t) (iblk m c 1 t) (iblk m c 2 t) (iblk m c 3 t) (ix2 r n) = M (a0 m c) (a2 m c) (ix2 (row t r) n) := by
  unfold out0_6 k0_pay5
  rw [View.canon_unit_zero hz2]
  have hs := (slices (iblk m c 0 t) r n).trans (Finset.sum_congr rfl fun k _ => blk0 m c t k r n)
  generalize k0_pay4 (View.ld (iblk m c 0 t) r0_0) (View.ld (iblk m c 0 t) r0_1) (View.ld (iblk m c 0 t) r0_2) (View.ld (iblk m c 0 t) r0_3) (View.ld (iblk m c 0 t) r0_4) (View.ld (iblk m c 0 t) r0_5) (View.ld (iblk m c 0 t) r0_6) (View.ld (iblk m c 0 t) r0_7) = g at hs ⊢
  have hG : g (ix2 r n) = G (a0 m c) (ix2 (row t r) n) := hs
  unfold M
  rw [← hG, ← blk2 m c t r n]
  simp only [View.ld_unit_zero (S := S176x2048) hz2]
  pointwise [k0_pay1]

/-- What a point writes back of result 2 is its block of `M`. -/
theorem flushed_M (c : Dev nD) (t : Fin cfg0.N) : (dats m 0 c).flushed 6 t =
    ((cfg0.win 6).blk t).view.read (Elt Ideal) (M (a0 m c) (a2 m c)) := by
  have h := (idx t).2.2.2.2.2.2.1
  rw [Value.flushed6]
  funext (j : S176x2048.Idx)
  rw [View.read_apply]
  obtain ⟨r, n, rfl⟩ := Kit.pair j
  have e : (((cfg0.win 6).blk t).view.emb (ix2 r n) : S704x2048.Idx) = ix2 (row t r) n :=
    Kit.e2 (Kit.at_ 176 h.1 r) (Kit.at0 2048 h.2 n)
  refine Eq.trans ?_ (congrArg (M (a0 m c) (a2 m c)) e).symm
  exact out_M m c t r n

/-- An index of result 2 lies in a block that is written back. -/
theorem cover_M (i : S704x2048.Idx) : ∃ t : Fin cfg0.N, (cfg0.win 6).flush t = true ∧ i ∈ ((cfg0.win 6).blk t).view.set := by
  have h0 : (i 0).val < 704 := (i 0).isLt
  have h1 : (i 1).val < 2048 := (i 1).isLt
  obtain ⟨t, ht⟩ := point i
  have h := (idx t).2.2.2.2.2.2.1
  refine ⟨t, flush0_6 t, ?_⟩
  exact Kit.cov (Fin.forall_fin_two.2 ⟨Kit.mem 176 _ h.1 (by omega), Kit.mem 2048 _ h.2 (by omega)⟩)

/-- Result 2 after the run. -/
theorem final_M (c : Dev nD) : (dats m 0 c).arrAt 6 cfg0.N = M (a0 m c) (a2 m c) :=
  (dats m 0 c).arrAt_eq_of_cover 6 _ (fun t _ => flushed_M m c t) cover_M

/-- What a point's body leaves for result 3, at an element. -/
theorem out_U (c : Dev nD) (t : Fin cfg0.N) (r : Fin 176) (n : Fin 2048) :
    out0_7 (iblk m c 0 t) (iblk m c 1 t) (iblk m c 2 t) (iblk m c 3 t) (ix2 r n) = U (a0 m c) (a3 m c) (ix2 (row t r) n) := by
  unfold out0_7 k0_pay5
  rw [View.canon_unit_zero hz2]
  have hs := (slices (iblk m c 0 t) r n).trans (Finset.sum_congr rfl fun k _ => blk0 m c t k r n)
  generalize k0_pay4 (View.ld (iblk m c 0 t) r0_0) (View.ld (iblk m c 0 t) r0_1) (View.ld (iblk m c 0 t) r0_2) (View.ld (iblk m c 0 t) r0_3) (View.ld (iblk m c 0 t) r0_4) (View.ld (iblk m c 0 t) r0_5) (View.ld (iblk m c 0 t) r0_6) (View.ld (iblk m c 0 t) r0_7) = g at hs ⊢
  have hG : g (ix2 r n) = G (a0 m c) (ix2 (row t r) n) := hs
  unfold U
  rw [← hG, ← blk3 m c t r n]
  simp only [View.ld_unit_zero (S := S176x2048) hz2]
  pointwise [k0_pay2]

/-- What a point writes back of result 3 is its block of `U`. -/
theorem flushed_U (c : Dev nD) (t : Fin cfg0.N) : (dats m 0 c).flushed 7 t =
    ((cfg0.win 7).blk t).view.read (Elt Ideal) (U (a0 m c) (a3 m c)) := by
  have h := (idx t).2.2.2.2.2.2.2
  rw [Value.flushed7]
  funext (j : S176x2048.Idx)
  rw [View.read_apply]
  obtain ⟨r, n, rfl⟩ := Kit.pair j
  have e : (((cfg0.win 7).blk t).view.emb (ix2 r n) : S704x2048.Idx) = ix2 (row t r) n :=
    Kit.e2 (Kit.at_ 176 h.1 r) (Kit.at0 2048 h.2 n)
  refine Eq.trans ?_ (congrArg (U (a0 m c) (a3 m c)) e).symm
  exact out_U m c t r n

/-- An index of result 3 lies in a block that is written back. -/
theorem cover_U (i : S704x2048.Idx) : ∃ t : Fin cfg0.N, (cfg0.win 7).flush t = true ∧ i ∈ ((cfg0.win 7).blk t).view.set := by
  have h0 : (i 0).val < 704 := (i 0).isLt
  have h1 : (i 1).val < 2048 := (i 1).isLt
  obtain ⟨t, ht⟩ := point i
  have h := (idx t).2.2.2.2.2.2.2
  refine ⟨t, flush0_7 t, ?_⟩
  exact Kit.cov (Fin.forall_fin_two.2 ⟨Kit.mem 176 _ h.1 (by omega), Kit.mem 2048 _ h.2 (by omega)⟩)

/-- Result 3 after the run. -/
theorem final_U (c : Dev nD) : (dats m 0 c).arrAt 7 cfg0.N = U (a0 m c) (a3 m c) :=
  (dats m 0 c).arrAt_eq_of_cover 7 _ (fun t _ => flushed_U m c t) cover_U

end Cert.Kernel13Ideal.Sum

namespace Cert.Reference13Ideal.Sum

open Gen Read Idealize.ShloMosaic TcCoe Idealize.SL.Sem

/-- The reference's result 0. -/
theorem result_v1 (x0 : Vec Ideal S8x704x2048 .bf16) : val_main_v1 (F := Ideal) x0 = Kernel13Ideal.Sum.G x0 := by
  funext j
  obtain ⟨r, n, rfl⟩ := Kit.pair j
  pointwise [val_main_v0, val_main_cst, val_main_v1]
  rfl

/-- The reference's result 1. -/
theorem result_v25 (x0 : Vec Ideal S8x704x2048 .bf16) (x1 : Vec Ideal S704x2048 .f32) (x2 : Vec Ideal S704x2048 .f32) (x3 : Vec Ideal S704x2048 .f32) : val_main_v25 (F := Ideal) x0 x1 x2 x3 = Kernel13Ideal.Sum.D x0 x1 x2 x3 := by
  funext j
  have h := congrFun (result_v1 x0) j
  unfold Kernel13Ideal.Sum.D Kernel13Ideal.Sum.M Kernel13Ideal.Sum.U
  rw [← h]
  pointwise [val_main_cst_0, val_main_v2, val_main_v3, val_main_cst_1, val_main_v4, val_main_v5, val_main_v6, val_main_cst_2, val_main_v7, val_main_v8, val_main_v9, val_main_cst_3, val_main_v10, val_main_v11, val_main_v12, val_main_cst_4, val_main_v13, val_main_v14, val_main_cst_5, val_main_v15, val_main_v16, val_main_v17, val_main_cst_6, val_main_v18, val_main_v19, val_main_v20, val_main_cst_7, val_main_v21, val_main_v22, val_main_v23, val_main_cst_8, val_main_v24, val_main_v25]

/-- The reference's result 2. -/
theorem result_v6 (x0 : Vec Ideal S8x704x2048 .bf16) (x2 : Vec Ideal S704x2048 .f32) : val_main_v6 (F := Ideal) x0 x2 = Kernel13Ideal.Sum.M x0 x2 := by
  funext j
  have h := congrFun (result_v1 x0) j
  unfold Kernel13Ideal.Sum.M
  rw [← h]
  pointwise [val_main_cst_0, val_main_v2, val_main_v3, val_main_cst_1, val_main_v4, val_main_v5, val_main_v6]

/-- The reference's result 3. -/
theorem result_v12 (x0 : Vec Ideal S8x704x2048 .bf16) (x3 : Vec Ideal S704x2048 .f32) : val_main_v12 (F := Ideal) x0 x3 = Kernel13Ideal.Sum.U x0 x3 := by
  funext j
  have h := congrFun (result_v1 x0) j
  unfold Kernel13Ideal.Sum.U
  rw [← h]
  pointwise [val_main_cst_2, val_main_v7, val_main_v8, val_main_v9, val_main_cst_3, val_main_v10, val_main_v11, val_main_v12]

end Cert.Reference13Ideal.Sum

namespace Cert.Proof.Sum13

open Idealize.ShloMosaic TcCoe Idealize.SL.Sem

/-- The reference leaves its arguments as they were. -/
theorem frame_reference : quiescent_Reference13Ideal := fun m ρ _ =>
  (θ_run Reference13Ideal.defs _ _).mono (fun r h => ⟨fun c => (h c).2.2.2.2, sem_eq_zero_of_no_sems (by decide) r.2⟩)
    (Reference13Ideal.Value.run m ρ)

/-- Kernel and reference end with the same arrays. -/
theorem algebraic : algebraic_Kernel13Ideal_Reference13Ideal := by
  intro m ρ m' ρ' _ hag
  refine ⟨_, _, _, _, (θ_run Kernel13Ideal.defs _ _).mono
    (fun _ h c => ⟨(h c).1.trans (Kernel13Ideal.Sum.final_G m c), (h c).2.1.trans (Kernel13Ideal.Sum.final_D m c), (h c).2.2.1.trans (Kernel13Ideal.Sum.final_M m c), (h c).2.2.2.1.trans (Kernel13Ideal.Sum.final_U m c), (h c).2.2.2.2⟩)
    (Kernel13Ideal.Value.run_blocks m ρ), ?_⟩
  · refine (θ_run Reference13Ideal.defs _ _).mono (fun _ h c => ?_) (Reference13Ideal.Value.run m' ρ')
    obtain ⟨h0, h1, h2, h3, hr⟩ := h c
    obtain ⟨e0, e1, e2, e3⟩ := hag c
    refine ⟨?_, ?_, ?_, ?_, hr⟩
    · refine h0.trans ((Reference13Ideal.Read.val_main_v1_eq _).trans ((Reference13Ideal.Sum.result_v1 _).trans ?_))
      rw [e0]
    · refine h1.trans ((Reference13Ideal.Read.val_main_v25_eq _ _ _ _).trans ((Reference13Ideal.Sum.result_v25 _ _ _ _).trans ?_))
      rw [e0, e1, e2, e3]
    · refine h2.trans ((Reference13Ideal.Read.val_main_v6_eq _ _).trans ((Reference13Ideal.Sum.result_v6 _ _).trans ?_))
      rw [e0, e2]
    · refine h3.trans ((Reference13Ideal.Read.val_main_v12_eq _ _).trans ((Reference13Ideal.Sum.result_v12 _ _).trans ?_))
      rw [e0, e3]

end Cert.Proof.Sum13

end
-- ==== Proof.Sum14.lean ====
/- The gradient of one parameter as the sum of the devices' partial gradients, and the optimiser's step (AdamW) with it. -/
module

public import proofs.«01_k».proof.Proof.Kit
public import proofs.«01_k».proof.Proof.Gen.Kernel14Ideal.Value
public import proofs.«01_k».proof.Proof.Gen.Reference14Ideal.Read

@[expose] public section

set_option maxRecDepth 16384

noncomputable section

namespace Cert.Kernel14Ideal.Sum

open Gen Idealize.ShloMosaic TcCoe Idealize.SL.Sem
open Idealize.ShloMosaic.Pipeline (Dat)

variable (m : (ℓ : Loc nD τ sig) → Buf (Elt Ideal) ℓ)

/-- The arguments at launch. -/
abbrev a0 (c : Dev nD) : Vec Ideal S8x256x2048 .bf16 := m ((c : Thread nD τ).loc main_arg0)
@[inherit_doc a0] abbrev a1 (c : Dev nD) : Vec Ideal S256x2048 .f32 := m ((c : Thread nD τ).loc main_arg1)
@[inherit_doc a0] abbrev a2 (c : Dev nD) : Vec Ideal S256x2048 .f32 := m ((c : Thread nD τ).loc main_arg2)
@[inherit_doc a0] abbrev a3 (c : Dev nD) : Vec Ideal S256x2048 .f32 := m ((c : Thread nD τ).loc main_arg3)

/-- Every point's number is below 1. -/
theorem lt_all (t : Fin cfg0.N) : t.val < 1 := lt_of_lt_of_eq t.isLt N_0

/-- A row or column of a point's block, in the whole array. -/
abbrev row (t : Fin cfg0.N) (r : Fin 256) : Fin 256 := ⟨t.val * 256 + r.val, by have := lt_all t; omega⟩

/-- Each window's block number at a point: the point's rows, and all columns. -/
theorem idx : ∀ t : Fin grid0.N, (win0_0.index t 0 = 0 ∧ win0_0.index t 1 = t.val ∧ win0_0.index t 2 = 0)
    ∧ (win0_1.index t 0 = t.val ∧ win0_1.index t 1 = 0)
    ∧ (win0_2.index t 0 = t.val ∧ win0_2.index t 1 = 0)
    ∧ (win0_3.index t 0 = t.val ∧ win0_3.index t 1 = 0)
    ∧ (win0_4.index t 0 = t.val ∧ win0_4.index t 1 = 0)
    ∧ (win0_5.index t 0 = t.val ∧ win0_5.index t 1 = 0)
    ∧ (win0_6.index t 0 = t.val ∧ win0_6.index t 1 = 0)
    ∧ (win0_7.index t 0 = t.val ∧ win0_7.index t 1 = 0) := by
  decide +kernel

/-- The sum of the partial gradients. -/
def G (A : Vec Ideal S8x256x2048 .bf16) : Vec Ideal S256x2048 .f32 := fun j => ∑ k : Fin 8, (A (ix3 k (j 0) (j 1)) : EReal)

/-- The partial gradients' block of a point, at an element. -/
theorem blk0 (c : Dev nD) (t : Fin cfg0.N) (k : Fin 8) (r : Fin 256) (n : Fin 2048) :
    (iblk m c 0 t : Vec Ideal S8x256x2048 .bf16) (ix3 k r n) = a0 m c (ix3 k (row t r) n) := by
  have h := (idx t).1
  exact (congrFun (V_main_arg0 m c) _).trans (congrArg _ (Kit.e3 (Kit.at0 8 h.1 k) (Kit.at_ 256 h.2.1 r) (Kit.at0 2048 h.2.2 n)))

/-- Argument 1's block of a point, at an element. -/
theorem blk1 (c : Dev nD) (t : Fin cfg0.N) (r : Fin 256) (n : Fin 2048) :
    (iblk m c 1 t : Vec Ideal S256x2048 .f32) (ix2 r n) = a1 m c (ix2 (row t r) n) := by
  have h := (idx t).2.1
  exact (congrFun (V_main_arg1 m c) _).trans (congrArg _ (Kit.e2 (Kit.at_ 256 h.1 r) (Kit.at0 2048 h.2 n)))

/-- Argument 2's block of a point, at an element. -/
theorem blk2 (c : Dev nD) (t : Fin cfg0.N) (r : Fin 256) (n : Fin 2048) :
    (iblk m c 2 t : Vec Ideal S256x2048 .f32) (ix2 r n) = a2 m c (ix2 (row t r) n) := by
  have h := (idx t).2.2.1
  exact (congrFun (V_main_arg2 m c) _).trans (congrArg _ (Kit.e2 (Kit.at_ 256 h.1 r) (Kit.at0 2048 h.2 n)))

/-- Argument 3's block of a point, at an element. -/
theorem blk3 (c : Dev nD) (t : Fin cfg0.N) (r : Fin 256) (n : Fin 2048) :
    (iblk m c 3 t : Vec Ideal S256x2048 .f32) (ix2 r n) = a3 m c (ix2 (row t r) n) := by
  have h := (idx t).2.2.2.1
  exact (congrFun (V_main_arg3 m c) _).trans (congrArg _ (Kit.e2 (Kit.at_ 256 h.1 r) (Kit.at0 2048 h.2 n)))

/-- The body's sum of the eight slices of its block, at an element. -/
theorem slices (x0 : Vec Ideal S8x256x2048 .bf16) (r : Fin 256) (n : Fin 2048) :
    k0_pay4 (View.ld x0 r0_0) (View.ld x0 r0_1) (View.ld x0 r0_2) (View.ld x0 r0_3) (View.ld x0 r0_4) (View.ld x0 r0_5) (View.ld x0 r0_6) (View.ld x0 r0_7) (ix2 r n) = ∑ k : Fin 8, (x0 (ix3 k r n) : EReal) := by
  have L0 : View.ld x0 r0_0 (ix3 0 r n) = x0 (ix3 0 r n) := congrArg x0 (Kit.e3 rfl (Kit.z r) (Kit.z n))
  have L1 : View.ld x0 r0_1 (ix3 0 r n) = x0 (ix3 1 r n) := congrArg x0 (Kit.e3 rfl (Kit.z r) (Kit.z n))
  have L2 : View.ld x0 r0_2 (ix3 0 r n) = x0 (ix3 2 r n) := congrArg x0 (Kit.e3 rfl (Kit.z r) (Kit.z n))
  have L3 : View.ld x0 r0_3 (ix3 0 r n) = x0 (ix3 3 r n) := congrArg x0 (Kit.e3 rfl (Kit.z r) (Kit.z n))
  have L4 : View.ld x0 r0_4 (ix3 0 r n) = x0 (ix3 4 r n) := congrArg x0 (Kit.e3 rfl (Kit.z r) (Kit.z n))
  have L5 : View.ld x0 r0_5 (ix3 0 r n) = x0 (ix3 5 r n) := congrArg x0 (Kit.e3 rfl (Kit.z r) (Kit.z n))
  have L6 : View.ld x0 r0_6 (ix3 0 r n) = x0 (ix3 6 r n) := congrArg x0 (Kit.e3 rfl (Kit.z r) (Kit.z n))
  have L7 : View.ld x0 r0_7 (ix3 0 r n) = x0 (ix3 7 r n) := congrArg x0 (Kit.e3 rfl (Kit.z r) (Kit.z n))
  rw [Fin.sum_univ_eight, ← L0, ← L1, ← L2, ← L3, ← L4, ← L5, ← L6, ← L7]
  pointwise [k0_pay4]

/-- The first moment after the step. -/
def M (A : Vec Ideal S8x256x2048 .bf16) (mo : Vec Ideal S256x2048 .f32) : Vec Ideal S256x2048 .f32 := fun j =>
  (Ideal.ofBits .f32 0x3F666666#32 * mo j + Ideal.ofBits .f32 0x3DCCCCCD#32 * G A j : EReal)

/-- The second moment after the step. -/
def U (A : Vec Ideal S8x256x2048 .bf16) (vo : Vec Ideal S256x2048 .f32) : Vec Ideal S256x2048 .f32 := fun j =>
  (Ideal.ofBits .f32 0x3F7FBE77#32 * vo j + Ideal.ofBits .f32 0x3A83126F#32 * (G A j * G A j) : EReal)

/-- The change of the parameter. -/
def D (A : Vec Ideal S8x256x2048 .bf16) (w mo vo : Vec Ideal S256x2048 .f32) : Vec Ideal S256x2048 .f32 := fun j =>
  (Ideal.ofBits .f32 0xBA83126F#32 * (Ideal.div (Ideal.div (M A mo j) (Ideal.ofBits .f32 0x3F26BD02#32)) (Ideal.sqrt (Ideal.div (U A vo j) (Ideal.ofBits .f32 0x3C231ACC#32)) + Ideal.ofBits .f32 0x322BCC77#32) + Ideal.ofBits .f32 0x3C23D70A#32 * w j) : EReal)

/-- What a point's body leaves for result 0, at an element. -/
theorem out_G (c : Dev nD) (t : Fin cfg0.N) (r : Fin 256) (n : Fin 2048) :
    out0_4 (iblk m c 0 t) (iblk m c 1 t) (iblk m c 2 t) (iblk m c 3 t) (ix2 r n) = G (a0 m c) (ix2 (row t r) n) := by
  unfold out0_4 k0_pay5
  rw [View.canon_unit_zero hz2]
  refine (slices _ r n).trans (Finset.sum_congr rfl fun k _ => ?_)
  exact blk0 m c t k r n

/-- What a point writes back of result 0 is its block of `G`. -/
theorem flushed_G (c : Dev nD) (t : Fin cfg0.N) : (dats m 0 c).flushed 4 t =
    ((cfg0.win 4).blk t).view.read (Elt Ideal) (G (a0 m c)) := by
  have h := (idx t).2.2.2.2.1
  rw [Value.flushed4]
  funext (j : S256x2048.Idx)
  rw [View.read_apply]
  obtain ⟨r, n, rfl⟩ := Kit.pair j
  have e : (((cfg0.win 4).blk t).view.emb (ix2 r n) : S256x2048.Idx) = ix2 (row t r) n :=
    Kit.e2 (Kit.at_ 256 h.1 r) (Kit.at0 2048 h.2 n)
  refine Eq.trans ?_ (congrArg (G (a0 m c)) e).symm
  exact out_G m c t r n

/-- The point that writes an index. -/
theorem point (i : S256x2048.Idx) : ∃ t : Fin cfg0.N, t.val = (i 0).val / 256 := by
  have h0 : (i 0).val < 256 := (i 0).isLt
  have h1 : (i 1).val < 2048 := (i 1).isLt
  exact ⟨⟨_, by show _ < grid0.N; rw [Gen.N_0]; omega⟩, rfl⟩

/-- An index of result 0 lies in a block that is written back. -/
theorem cover_G (i : S256x2048.Idx) : ∃ t : Fin cfg0.N, (cfg0.win 4).flush t = true ∧ i ∈ ((cfg0.win 4).blk t).view.set := by
  have h0 : (i 0).val < 256 := (i 0).isLt
  have h1 : (i 1).val < 2048 := (i 1).isLt
  obtain ⟨t, ht⟩ := point i
  have h := (idx t).2.2.2.2.1
  refine ⟨t, flush0_4 t, ?_⟩
  exact Kit.cov (Fin.forall_fin_two.2 ⟨Kit.mem 256 _ h.1 (by omega), Kit.mem 2048 _ h.2 (by omega)⟩)

/-- Result 0 after the run. -/
theorem final_G (c : Dev nD) : (dats m 0 c).arrAt 4 cfg0.N = G (a0 m c) :=
  (dats m 0 c).arrAt_eq_of_cover 4 _ (fun t _ => flushed_G m c t) cover_G

/-- What a point's body leaves for result 1, at an element. -/
theorem out_D (c : Dev nD) (t : Fin cfg0.N) (r : Fin 256) (n : Fin 2048) :
    out0_5 (iblk m c 0 t) (iblk m c 1 t) (iblk m c 2 t) (iblk m c 3 t) (ix2 r n) = D (a0 m c) (a1 m c) (a2 m c) (a3 m c) (ix2 (row t r) n) := by
  unfold out0_5 k0_pay5
  rw [View.canon_unit_zero hz2]
  have hs := (slices (iblk m c 0 t) r n).trans (Finset.sum_congr rfl fun k _ => blk0 m c t k r n)
  generalize k0_pay4 (View.ld (iblk m c 0 t) r0_0) (View.ld (iblk m c 0 t) r0_1) (View.ld (iblk m c 0 t) r0_2) (View.ld (iblk m c 0 t) r0_3) (View.ld (iblk m c 0 t) r0_4) (View.ld (iblk m c 0 t) r0_5) (View.ld (iblk m c 0 t) r0_6) (View.ld (iblk m c 0 t) r0_7) = g at hs ⊢
  have hG : g (ix2 r n) = G (a0 m c) (ix2 (row t r) n) := hs
  unfold D M U
  rw [← hG, ← blk1 m c t r n, ← blk2 m c t r n, ← blk3 m c t r n]
  simp only [View.ld_unit_zero (S := S256x2048) hz2]
  pointwise [k0_pay3, k0_pay1, k0_pay2]

/-- What a point writes back of result 1 is its block of `D`. -/
theorem flushed_D (c : Dev nD) (t : Fin cfg0.N) : (dats m 0 c).flushed 5 t =
    ((cfg0.win 5).blk t).view.read (Elt Ideal) (D (a0 m c) (a1 m c) (a2 m c) (a3 m c)) := by
  have h := (idx t).2.2.2.2.2.1
  rw [Value.flushed5]
  funext (j : S256x2048.Idx)
  rw [View.read_apply]
  obtain ⟨r, n, rfl⟩ := Kit.pair j
  have e : (((cfg0.win 5).blk t).view.emb (ix2 r n) : S256x2048.Idx) = ix2 (row t r) n :=
    Kit.e2 (Kit.at_ 256 h.1 r) (Kit.at0 2048 h.2 n)
  refine Eq.trans ?_ (congrArg (D (a0 m c) (a1 m c) (a2 m c) (a3 m c)) e).symm
  exact out_D m c t r n

/-- An index of result 1 lies in a block that is written back. -/
theorem cover_D (i : S256x2048.Idx) : ∃ t : Fin cfg0.N, (cfg0.win 5).flush t = true ∧ i ∈ ((cfg0.win 5).blk t).view.set := by
  have h0 : (i 0).val < 256 := (i 0).isLt
  have h1 : (i 1).val < 2048 := (i 1).isLt
  obtain ⟨t, ht⟩ := point i
  have h := (idx t).2.2.2.2.2.1
  refine ⟨t, flush0_5 t, ?_⟩
  exact Kit.cov (Fin.forall_fin_two.2 ⟨Kit.mem 256 _ h.1 (by omega), Kit.mem 2048 _ h.2 (by omega)⟩)

/-- Result 1 after the run. -/
theorem final_D (c : Dev nD) : (dats m 0 c).arrAt 5 cfg0.N = D (a0 m c) (a1 m c) (a2 m c) (a3 m c) :=
  (dats m 0 c).arrAt_eq_of_cover 5 _ (fun t _ => flushed_D m c t) cover_D

/-- What a point's body leaves for result 2, at an element. -/
theorem out_M (c : Dev nD) (t : Fin cfg0.N) (r : Fin 256) (n : Fin 2048) :
    out0_6 (iblk m c 0 t) (iblk m c 1 t) (iblk m c 2 t) (iblk m c 3 t) (ix2 r n) = M (a0 m c) (a2 m c) (ix2 (row t r) n) := by
  unfold out0_6 k0_pay5
  rw [View.canon_unit_zero hz2]
  have hs := (slices (iblk m c 0 t) r n).trans (Finset.sum_congr rfl fun k _ => blk0 m c t k r n)
  generalize k0_pay4 (View.ld (iblk m c 0 t) r0_0) (View.ld (iblk m c 0 t) r0_1) (View.ld (iblk m c 0 t) r0_2) (View.ld (iblk m c 0 t) r0_3) (View.ld (iblk m c 0 t) r0_4) (View.ld (iblk m c 0 t) r0_5) (View.ld (iblk m c 0 t) r0_6) (View.ld (iblk m c 0 t) r0_7) = g at hs ⊢
  have hG : g (ix2 r n) = G (a0 m c) (ix2 (row t r) n) := hs
  unfold M
  rw [← hG, ← blk2 m c t r n]
  simp only [View.ld_unit_zero (S := S256x2048) hz2]
  pointwise [k0_pay1]

/-- What a point writes back of result 2 is its block of `M`. -/
theorem flushed_M (c : Dev nD) (t : Fin cfg0.N) : (dats m 0 c).flushed 6 t =
    ((cfg0.win 6).blk t).view.read (Elt Ideal) (M (a0 m c) (a2 m c)) := by
  have h := (idx t).2.2.2.2.2.2.1
  rw [Value.flushed6]
  funext (j : S256x2048.Idx)
  rw [View.read_apply]
  obtain ⟨r, n, rfl⟩ := Kit.pair j
  have e : (((cfg0.win 6).blk t).view.emb (ix2 r n) : S256x2048.Idx) = ix2 (row t r) n :=
    Kit.e2 (Kit.at_ 256 h.1 r) (Kit.at0 2048 h.2 n)
  refine Eq.trans ?_ (congrArg (M (a0 m c) (a2 m c)) e).symm
  exact out_M m c t r n

/-- An index of result 2 lies in a block that is written back. -/
theorem cover_M (i : S256x2048.Idx) : ∃ t : Fin cfg0.N, (cfg0.win 6).flush t = true ∧ i ∈ ((cfg0.win 6).blk t).view.set := by
  have h0 : (i 0).val < 256 := (i 0).isLt
  have h1 : (i 1).val < 2048 := (i 1).isLt
  obtain ⟨t, ht⟩ := point i
  have h := (idx t).2.2.2.2.2.2.1
  refine ⟨t, flush0_6 t, ?_⟩
  exact Kit.cov (Fin.forall_fin_two.2 ⟨Kit.mem 256 _ h.1 (by omega), Kit.mem 2048 _ h.2 (by omega)⟩)

/-- Result 2 after the run. -/
theorem final_M (c : Dev nD) : (dats m 0 c).arrAt 6 cfg0.N = M (a0 m c) (a2 m c) :=
  (dats m 0 c).arrAt_eq_of_cover 6 _ (fun t _ => flushed_M m c t) cover_M

/-- What a point's body leaves for result 3, at an element. -/
theorem out_U (c : Dev nD) (t : Fin cfg0.N) (r : Fin 256) (n : Fin 2048) :
    out0_7 (iblk m c 0 t) (iblk m c 1 t) (iblk m c 2 t) (iblk m c 3 t) (ix2 r n) = U (a0 m c) (a3 m c) (ix2 (row t r) n) := by
  unfold out0_7 k0_pay5
  rw [View.canon_unit_zero hz2]
  have hs := (slices (iblk m c 0 t) r n).trans (Finset.sum_congr rfl fun k _ => blk0 m c t k r n)
  generalize k0_pay4 (View.ld (iblk m c 0 t) r0_0) (View.ld (iblk m c 0 t) r0_1) (View.ld (iblk m c 0 t) r0_2) (View.ld (iblk m c 0 t) r0_3) (View.ld (iblk m c 0 t) r0_4) (View.ld (iblk m c 0 t) r0_5) (View.ld (iblk m c 0 t) r0_6) (View.ld (iblk m c 0 t) r0_7) = g at hs ⊢
  have hG : g (ix2 r n) = G (a0 m c) (ix2 (row t r) n) := hs
  unfold U
  rw [← hG, ← blk3 m c t r n]
  simp only [View.ld_unit_zero (S := S256x2048) hz2]
  pointwise [k0_pay2]

/-- What a point writes back of result 3 is its block of `U`. -/
theorem flushed_U (c : Dev nD) (t : Fin cfg0.N) : (dats m 0 c).flushed 7 t =
    ((cfg0.win 7).blk t).view.read (Elt Ideal) (U (a0 m c) (a3 m c)) := by
  have h := (idx t).2.2.2.2.2.2.2
  rw [Value.flushed7]
  funext (j : S256x2048.Idx)
  rw [View.read_apply]
  obtain ⟨r, n, rfl⟩ := Kit.pair j
  have e : (((cfg0.win 7).blk t).view.emb (ix2 r n) : S256x2048.Idx) = ix2 (row t r) n :=
    Kit.e2 (Kit.at_ 256 h.1 r) (Kit.at0 2048 h.2 n)
  refine Eq.trans ?_ (congrArg (U (a0 m c) (a3 m c)) e).symm
  exact out_U m c t r n

/-- An index of result 3 lies in a block that is written back. -/
theorem cover_U (i : S256x2048.Idx) : ∃ t : Fin cfg0.N, (cfg0.win 7).flush t = true ∧ i ∈ ((cfg0.win 7).blk t).view.set := by
  have h0 : (i 0).val < 256 := (i 0).isLt
  have h1 : (i 1).val < 2048 := (i 1).isLt
  obtain ⟨t, ht⟩ := point i
  have h := (idx t).2.2.2.2.2.2.2
  refine ⟨t, flush0_7 t, ?_⟩
  exact Kit.cov (Fin.forall_fin_two.2 ⟨Kit.mem 256 _ h.1 (by omega), Kit.mem 2048 _ h.2 (by omega)⟩)

/-- Result 3 after the run. -/
theorem final_U (c : Dev nD) : (dats m 0 c).arrAt 7 cfg0.N = U (a0 m c) (a3 m c) :=
  (dats m 0 c).arrAt_eq_of_cover 7 _ (fun t _ => flushed_U m c t) cover_U

end Cert.Kernel14Ideal.Sum

namespace Cert.Reference14Ideal.Sum

open Gen Read Idealize.ShloMosaic TcCoe Idealize.SL.Sem

/-- The reference's result 0. -/
theorem result_v1 (x0 : Vec Ideal S8x256x2048 .bf16) : val_main_v1 (F := Ideal) x0 = Kernel14Ideal.Sum.G x0 := by
  funext j
  obtain ⟨r, n, rfl⟩ := Kit.pair j
  pointwise [val_main_v0, val_main_cst, val_main_v1]
  rfl

/-- The reference's result 1. -/
theorem result_v25 (x0 : Vec Ideal S8x256x2048 .bf16) (x1 : Vec Ideal S256x2048 .f32) (x2 : Vec Ideal S256x2048 .f32) (x3 : Vec Ideal S256x2048 .f32) : val_main_v25 (F := Ideal) x0 x1 x2 x3 = Kernel14Ideal.Sum.D x0 x1 x2 x3 := by
  funext j
  have h := congrFun (result_v1 x0) j
  unfold Kernel14Ideal.Sum.D Kernel14Ideal.Sum.M Kernel14Ideal.Sum.U
  rw [← h]
  pointwise [val_main_cst_0, val_main_v2, val_main_v3, val_main_cst_1, val_main_v4, val_main_v5, val_main_v6, val_main_cst_2, val_main_v7, val_main_v8, val_main_v9, val_main_cst_3, val_main_v10, val_main_v11, val_main_v12, val_main_cst_4, val_main_v13, val_main_v14, val_main_cst_5, val_main_v15, val_main_v16, val_main_v17, val_main_cst_6, val_main_v18, val_main_v19, val_main_v20, val_main_cst_7, val_main_v21, val_main_v22, val_main_v23, val_main_cst_8, val_main_v24, val_main_v25]

/-- The reference's result 2. -/
theorem result_v6 (x0 : Vec Ideal S8x256x2048 .bf16) (x2 : Vec Ideal S256x2048 .f32) : val_main_v6 (F := Ideal) x0 x2 = Kernel14Ideal.Sum.M x0 x2 := by
  funext j
  have h := congrFun (result_v1 x0) j
  unfold Kernel14Ideal.Sum.M
  rw [← h]
  pointwise [val_main_cst_0, val_main_v2, val_main_v3, val_main_cst_1, val_main_v4, val_main_v5, val_main_v6]

/-- The reference's result 3. -/
theorem result_v12 (x0 : Vec Ideal S8x256x2048 .bf16) (x3 : Vec Ideal S256x2048 .f32) : val_main_v12 (F := Ideal) x0 x3 = Kernel14Ideal.Sum.U x0 x3 := by
  funext j
  have h := congrFun (result_v1 x0) j
  unfold Kernel14Ideal.Sum.U
  rw [← h]
  pointwise [val_main_cst_2, val_main_v7, val_main_v8, val_main_v9, val_main_cst_3, val_main_v10, val_main_v11, val_main_v12]

end Cert.Reference14Ideal.Sum

namespace Cert.Proof.Sum14

open Idealize.ShloMosaic TcCoe Idealize.SL.Sem

/-- The reference leaves its arguments as they were. -/
theorem frame_reference : quiescent_Reference14Ideal := fun m ρ _ =>
  (θ_run Reference14Ideal.defs _ _).mono (fun r h => ⟨fun c => (h c).2.2.2.2, sem_eq_zero_of_no_sems (by decide) r.2⟩)
    (Reference14Ideal.Value.run m ρ)

/-- Kernel and reference end with the same arrays. -/
theorem algebraic : algebraic_Kernel14Ideal_Reference14Ideal := by
  intro m ρ m' ρ' _ hag
  refine ⟨_, _, _, _, (θ_run Kernel14Ideal.defs _ _).mono
    (fun _ h c => ⟨(h c).1.trans (Kernel14Ideal.Sum.final_G m c), (h c).2.1.trans (Kernel14Ideal.Sum.final_D m c), (h c).2.2.1.trans (Kernel14Ideal.Sum.final_M m c), (h c).2.2.2.1.trans (Kernel14Ideal.Sum.final_U m c), (h c).2.2.2.2⟩)
    (Kernel14Ideal.Value.run_blocks m ρ), ?_⟩
  · refine (θ_run Reference14Ideal.defs _ _).mono (fun _ h c => ?_) (Reference14Ideal.Value.run m' ρ')
    obtain ⟨h0, h1, h2, h3, hr⟩ := h c
    obtain ⟨e0, e1, e2, e3⟩ := hag c
    refine ⟨?_, ?_, ?_, ?_, hr⟩
    · refine h0.trans ((Reference14Ideal.Read.val_main_v1_eq _).trans ((Reference14Ideal.Sum.result_v1 _).trans ?_))
      rw [e0]
    · refine h1.trans ((Reference14Ideal.Read.val_main_v25_eq _ _ _ _).trans ((Reference14Ideal.Sum.result_v25 _ _ _ _).trans ?_))
      rw [e0, e1, e2, e3]
    · refine h2.trans ((Reference14Ideal.Read.val_main_v6_eq _ _).trans ((Reference14Ideal.Sum.result_v6 _ _).trans ?_))
      rw [e0, e2]
    · refine h3.trans ((Reference14Ideal.Read.val_main_v12_eq _ _).trans ((Reference14Ideal.Sum.result_v12 _ _).trans ?_))
      rw [e0, e3]

end Cert.Proof.Sum14

end
-- ==== Proof.Sum15.lean ====
/- The gradient of one parameter as the sum of the devices' partial gradients, and the optimiser's step (AdamW) with it. -/
module

public import proofs.«01_k».proof.Proof.Kit
public import proofs.«01_k».proof.Proof.Gen.Kernel15Ideal.Value
public import proofs.«01_k».proof.Proof.Gen.Reference15Ideal.Read

@[expose] public section

set_option maxRecDepth 16384

noncomputable section

namespace Cert.Kernel15Ideal.Sum

open Gen Idealize.ShloMosaic TcCoe Idealize.SL.Sem
open Idealize.ShloMosaic.Pipeline (Dat)

variable (m : (ℓ : Loc nD τ sig) → Buf (Elt Ideal) ℓ)

/-- The arguments at launch. -/
abbrev a0 (c : Dev nD) : Vec Ideal S8x128x256 .bf16 := m ((c : Thread nD τ).loc main_arg0)
@[inherit_doc a0] abbrev a1 (c : Dev nD) : Vec Ideal S128x256 .f32 := m ((c : Thread nD τ).loc main_arg1)
@[inherit_doc a0] abbrev a2 (c : Dev nD) : Vec Ideal S128x256 .f32 := m ((c : Thread nD τ).loc main_arg2)
@[inherit_doc a0] abbrev a3 (c : Dev nD) : Vec Ideal S128x256 .f32 := m ((c : Thread nD τ).loc main_arg3)

/-- Every point's number is below 1. -/
theorem lt_all (t : Fin cfg0.N) : t.val < 1 := lt_of_lt_of_eq t.isLt N_0

/-- A row or column of a point's block, in the whole array. -/
abbrev row (t : Fin cfg0.N) (r : Fin 128) : Fin 128 := ⟨t.val * 128 + r.val, by have := lt_all t; omega⟩

/-- Each window's block number at a point: the point's rows, and all columns. -/
theorem idx : ∀ t : Fin grid0.N, (win0_0.index t 0 = 0 ∧ win0_0.index t 1 = t.val ∧ win0_0.index t 2 = 0)
    ∧ (win0_1.index t 0 = t.val ∧ win0_1.index t 1 = 0)
    ∧ (win0_2.index t 0 = t.val ∧ win0_2.index t 1 = 0)
    ∧ (win0_3.index t 0 = t.val ∧ win0_3.index t 1 = 0)
    ∧ (win0_4.index t 0 = t.val ∧ win0_4.index t 1 = 0)
    ∧ (win0_5.index t 0 = t.val ∧ win0_5.index t 1 = 0)
    ∧ (win0_6.index t 0 = t.val ∧ win0_6.index t 1 = 0)
    ∧ (win0_7.index t 0 = t.val ∧ win0_7.index t 1 = 0) := by
  decide +kernel

/-- The sum of the partial gradients. -/
def G (A : Vec Ideal S8x128x256 .bf16) : Vec Ideal S128x256 .f32 := fun j => ∑ k : Fin 8, (A (ix3 k (j 0) (j 1)) : EReal)

/-- The partial gradients' block of a point, at an element. -/
theorem blk0 (c : Dev nD) (t : Fin cfg0.N) (k : Fin 8) (r : Fin 128) (n : Fin 256) :
    (iblk m c 0 t : Vec Ideal S8x128x256 .bf16) (ix3 k r n) = a0 m c (ix3 k (row t r) n) := by
  have h := (idx t).1
  exact (congrFun (V_main_arg0 m c) _).trans (congrArg _ (Kit.e3 (Kit.at0 8 h.1 k) (Kit.at_ 128 h.2.1 r) (Kit.at0 256 h.2.2 n)))

/-- Argument 1's block of a point, at an element. -/
theorem blk1 (c : Dev nD) (t : Fin cfg0.N) (r : Fin 128) (n : Fin 256) :
    (iblk m c 1 t : Vec Ideal S128x256 .f32) (ix2 r n) = a1 m c (ix2 (row t r) n) := by
  have h := (idx t).2.1
  exact (congrFun (V_main_arg1 m c) _).trans (congrArg _ (Kit.e2 (Kit.at_ 128 h.1 r) (Kit.at0 256 h.2 n)))

/-- Argument 2's block of a point, at an element. -/
theorem blk2 (c : Dev nD) (t : Fin cfg0.N) (r : Fin 128) (n : Fin 256) :
    (iblk m c 2 t : Vec Ideal S128x256 .f32) (ix2 r n) = a2 m c (ix2 (row t r) n) := by
  have h := (idx t).2.2.1
  exact (congrFun (V_main_arg2 m c) _).trans (congrArg _ (Kit.e2 (Kit.at_ 128 h.1 r) (Kit.at0 256 h.2 n)))

/-- Argument 3's block of a point, at an element. -/
theorem blk3 (c : Dev nD) (t : Fin cfg0.N) (r : Fin 128) (n : Fin 256) :
    (iblk m c 3 t : Vec Ideal S128x256 .f32) (ix2 r n) = a3 m c (ix2 (row t r) n) := by
  have h := (idx t).2.2.2.1
  exact (congrFun (V_main_arg3 m c) _).trans (congrArg _ (Kit.e2 (Kit.at_ 128 h.1 r) (Kit.at0 256 h.2 n)))

/-- The body's sum of the eight slices of its block, at an element. -/
theorem slices (x0 : Vec Ideal S8x128x256 .bf16) (r : Fin 128) (n : Fin 256) :
    k0_pay4 (View.ld x0 r0_0) (View.ld x0 r0_1) (View.ld x0 r0_2) (View.ld x0 r0_3) (View.ld x0 r0_4) (View.ld x0 r0_5) (View.ld x0 r0_6) (View.ld x0 r0_7) (ix2 r n) = ∑ k : Fin 8, (x0 (ix3 k r n) : EReal) := by
  have L0 : View.ld x0 r0_0 (ix3 0 r n) = x0 (ix3 0 r n) := congrArg x0 (Kit.e3 rfl (Kit.z r) (Kit.z n))
  have L1 : View.ld x0 r0_1 (ix3 0 r n) = x0 (ix3 1 r n) := congrArg x0 (Kit.e3 rfl (Kit.z r) (Kit.z n))
  have L2 : View.ld x0 r0_2 (ix3 0 r n) = x0 (ix3 2 r n) := congrArg x0 (Kit.e3 rfl (Kit.z r) (Kit.z n))
  have L3 : View.ld x0 r0_3 (ix3 0 r n) = x0 (ix3 3 r n) := congrArg x0 (Kit.e3 rfl (Kit.z r) (Kit.z n))
  have L4 : View.ld x0 r0_4 (ix3 0 r n) = x0 (ix3 4 r n) := congrArg x0 (Kit.e3 rfl (Kit.z r) (Kit.z n))
  have L5 : View.ld x0 r0_5 (ix3 0 r n) = x0 (ix3 5 r n) := congrArg x0 (Kit.e3 rfl (Kit.z r) (Kit.z n))
  have L6 : View.ld x0 r0_6 (ix3 0 r n) = x0 (ix3 6 r n) := congrArg x0 (Kit.e3 rfl (Kit.z r) (Kit.z n))
  have L7 : View.ld x0 r0_7 (ix3 0 r n) = x0 (ix3 7 r n) := congrArg x0 (Kit.e3 rfl (Kit.z r) (Kit.z n))
  rw [Fin.sum_univ_eight, ← L0, ← L1, ← L2, ← L3, ← L4, ← L5, ← L6, ← L7]
  pointwise [k0_pay4]

/-- The first moment after the step. -/
def M (A : Vec Ideal S8x128x256 .bf16) (mo : Vec Ideal S128x256 .f32) : Vec Ideal S128x256 .f32 := fun j =>
  (Ideal.ofBits .f32 0x3F666666#32 * mo j + Ideal.ofBits .f32 0x3DCCCCCD#32 * G A j : EReal)

/-- The second moment after the step. -/
def U (A : Vec Ideal S8x128x256 .bf16) (vo : Vec Ideal S128x256 .f32) : Vec Ideal S128x256 .f32 := fun j =>
  (Ideal.ofBits .f32 0x3F7FBE77#32 * vo j + Ideal.ofBits .f32 0x3A83126F#32 * (G A j * G A j) : EReal)

/-- The change of the parameter. -/
def D (A : Vec Ideal S8x128x256 .bf16) (w mo vo : Vec Ideal S128x256 .f32) : Vec Ideal S128x256 .f32 := fun j =>
  (Ideal.ofBits .f32 0xBA83126F#32 * (Ideal.div (Ideal.div (M A mo j) (Ideal.ofBits .f32 0x3F26BD02#32)) (Ideal.sqrt (Ideal.div (U A vo j) (Ideal.ofBits .f32 0x3C231ACC#32)) + Ideal.ofBits .f32 0x322BCC77#32) + Ideal.ofBits .f32 0x3C23D70A#32 * w j) : EReal)

/-- What a point's body leaves for result 0, at an element. -/
theorem out_G (c : Dev nD) (t : Fin cfg0.N) (r : Fin 128) (n : Fin 256) :
    out0_4 (iblk m c 0 t) (iblk m c 1 t) (iblk m c 2 t) (iblk m c 3 t) (ix2 r n) = G (a0 m c) (ix2 (row t r) n) := by
  unfold out0_4 k0_pay5
  rw [View.canon_unit_zero hz2]
  refine (slices _ r n).trans (Finset.sum_congr rfl fun k _ => ?_)
  exact blk0 m c t k r n

/-- What a point writes back of result 0 is its block of `G`. -/
theorem flushed_G (c : Dev nD) (t : Fin cfg0.N) : (dats m 0 c).flushed 4 t =
    ((cfg0.win 4).blk t).view.read (Elt Ideal) (G (a0 m c)) := by
  have h := (idx t).2.2.2.2.1
  rw [Value.flushed4]
  funext (j : S128x256.Idx)
  rw [View.read_apply]
  obtain ⟨r, n, rfl⟩ := Kit.pair j
  have e : (((cfg0.win 4).blk t).view.emb (ix2 r n) : S128x256.Idx) = ix2 (row t r) n :=
    Kit.e2 (Kit.at_ 128 h.1 r) (Kit.at0 256 h.2 n)
  refine Eq.trans ?_ (congrArg (G (a0 m c)) e).symm
  exact out_G m c t r n

/-- The point that writes an index. -/
theorem point (i : S128x256.Idx) : ∃ t : Fin cfg0.N, t.val = (i 0).val / 128 := by
  have h0 : (i 0).val < 128 := (i 0).isLt
  have h1 : (i 1).val < 256 := (i 1).isLt
  exact ⟨⟨_, by show _ < grid0.N; rw [Gen.N_0]; omega⟩, rfl⟩

/-- An index of result 0 lies in a block that is written back. -/
theorem cover_G (i : S128x256.Idx) : ∃ t : Fin cfg0.N, (cfg0.win 4).flush t = true ∧ i ∈ ((cfg0.win 4).blk t).view.set := by
  have h0 : (i 0).val < 128 := (i 0).isLt
  have h1 : (i 1).val < 256 := (i 1).isLt
  obtain ⟨t, ht⟩ := point i
  have h := (idx t).2.2.2.2.1
  refine ⟨t, flush0_4 t, ?_⟩
  exact Kit.cov (Fin.forall_fin_two.2 ⟨Kit.mem 128 _ h.1 (by omega), Kit.mem 256 _ h.2 (by omega)⟩)

/-- Result 0 after the run. -/
theorem final_G (c : Dev nD) : (dats m 0 c).arrAt 4 cfg0.N = G (a0 m c) :=
  (dats m 0 c).arrAt_eq_of_cover 4 _ (fun t _ => flushed_G m c t) cover_G

/-- What a point's body leaves for result 1, at an element. -/
theorem out_D (c : Dev nD) (t : Fin cfg0.N) (r : Fin 128) (n : Fin 256) :
    out0_5 (iblk m c 0 t) (iblk m c 1 t) (iblk m c 2 t) (iblk m c 3 t) (ix2 r n) = D (a0 m c) (a1 m c) (a2 m c) (a3 m c) (ix2 (row t r) n) := by
  unfold out0_5 k0_pay5
  rw [View.canon_unit_zero hz2]
  have hs := (slices (iblk m c 0 t) r n).trans (Finset.sum_congr rfl fun k _ => blk0 m c t k r n)
  generalize k0_pay4 (View.ld (iblk m c 0 t) r0_0) (View.ld (iblk m c 0 t) r0_1) (View.ld (iblk m c 0 t) r0_2) (View.ld (iblk m c 0 t) r0_3) (View.ld (iblk m c 0 t) r0_4) (View.ld (iblk m c 0 t) r0_5) (View.ld (iblk m c 0 t) r0_6) (View.ld (iblk m c 0 t) r0_7) = g at hs ⊢
  have hG : g (ix2 r n) = G (a0 m c) (ix2 (row t r) n) := hs
  unfold D M U
  rw [← hG, ← blk1 m c t r n, ← blk2 m c t r n, ← blk3 m c t r n]
  simp only [View.ld_unit_zero (S := S128x256) hz2]
  pointwise [k0_pay3, k0_pay1, k0_pay2]

/-- What a point writes back of result 1 is its block of `D`. -/
theorem flushed_D (c : Dev nD) (t : Fin cfg0.N) : (dats m 0 c).flushed 5 t =
    ((cfg0.win 5).blk t).view.read (Elt Ideal) (D (a0 m c) (a1 m c) (a2 m c) (a3 m c)) := by
  have h := (idx t).2.2.2.2.2.1
  rw [Value.flushed5]
  funext (j : S128x256.Idx)
  rw [View.read_apply]
  obtain ⟨r, n, rfl⟩ := Kit.pair j
  have e : (((cfg0.win 5).blk t).view.emb (ix2 r n) : S128x256.Idx) = ix2 (row t r) n :=
    Kit.e2 (Kit.at_ 128 h.1 r) (Kit.at0 256 h.2 n)
  refine Eq.trans ?_ (congrArg (D (a0 m c) (a1 m c) (a2 m c) (a3 m c)) e).symm
  exact out_D m c t r n

/-- An index of result 1 lies in a block that is written back. -/
theorem cover_D (i : S128x256.Idx) : ∃ t : Fin cfg0.N, (cfg0.win 5).flush t = true ∧ i ∈ ((cfg0.win 5).blk t).view.set := by
  have h0 : (i 0).val < 128 := (i 0).isLt
  have h1 : (i 1).val < 256 := (i 1).isLt
  obtain ⟨t, ht⟩ := point i
  have h := (idx t).2.2.2.2.2.1
  refine ⟨t, flush0_5 t, ?_⟩
  exact Kit.cov (Fin.forall_fin_two.2 ⟨Kit.mem 128 _ h.1 (by omega), Kit.mem 256 _ h.2 (by omega)⟩)

/-- Result 1 after the run. -/
theorem final_D (c : Dev nD) : (dats m 0 c).arrAt 5 cfg0.N = D (a0 m c) (a1 m c) (a2 m c) (a3 m c) :=
  (dats m 0 c).arrAt_eq_of_cover 5 _ (fun t _ => flushed_D m c t) cover_D

/-- What a point's body leaves for result 2, at an element. -/
theorem out_M (c : Dev nD) (t : Fin cfg0.N) (r : Fin 128) (n : Fin 256) :
    out0_6 (iblk m c 0 t) (iblk m c 1 t) (iblk m c 2 t) (iblk m c 3 t) (ix2 r n) = M (a0 m c) (a2 m c) (ix2 (row t r) n) := by
  unfold out0_6 k0_pay5
  rw [View.canon_unit_zero hz2]
  have hs := (slices (iblk m c 0 t) r n).trans (Finset.sum_congr rfl fun k _ => blk0 m c t k r n)
  generalize k0_pay4 (View.ld (iblk m c 0 t) r0_0) (View.ld (iblk m c 0 t) r0_1) (View.ld (iblk m c 0 t) r0_2) (View.ld (iblk m c 0 t) r0_3) (View.ld (iblk m c 0 t) r0_4) (View.ld (iblk m c 0 t) r0_5) (View.ld (iblk m c 0 t) r0_6) (View.ld (iblk m c 0 t) r0_7) = g at hs ⊢
  have hG : g (ix2 r n) = G (a0 m c) (ix2 (row t r) n) := hs
  unfold M
  rw [← hG, ← blk2 m c t r n]
  simp only [View.ld_unit_zero (S := S128x256) hz2]
  pointwise [k0_pay1]

/-- What a point writes back of result 2 is its block of `M`. -/
theorem flushed_M (c : Dev nD) (t : Fin cfg0.N) : (dats m 0 c).flushed 6 t =
    ((cfg0.win 6).blk t).view.read (Elt Ideal) (M (a0 m c) (a2 m c)) := by
  have h := (idx t).2.2.2.2.2.2.1
  rw [Value.flushed6]
  funext (j : S128x256.Idx)
  rw [View.read_apply]
  obtain ⟨r, n, rfl⟩ := Kit.pair j
  have e : (((cfg0.win 6).blk t).view.emb (ix2 r n) : S128x256.Idx) = ix2 (row t r) n :=
    Kit.e2 (Kit.at_ 128 h.1 r) (Kit.at0 256 h.2 n)
  refine Eq.trans ?_ (congrArg (M (a0 m c) (a2 m c)) e).symm
  exact out_M m c t r n

/-- An index of result 2 lies in a block that is written back. -/
theorem cover_M (i : S128x256.Idx) : ∃ t : Fin cfg0.N, (cfg0.win 6).flush t = true ∧ i ∈ ((cfg0.win 6).blk t).view.set := by
  have h0 : (i 0).val < 128 := (i 0).isLt
  have h1 : (i 1).val < 256 := (i 1).isLt
  obtain ⟨t, ht⟩ := point i
  have h := (idx t).2.2.2.2.2.2.1
  refine ⟨t, flush0_6 t, ?_⟩
  exact Kit.cov (Fin.forall_fin_two.2 ⟨Kit.mem 128 _ h.1 (by omega), Kit.mem 256 _ h.2 (by omega)⟩)

/-- Result 2 after the run. -/
theorem final_M (c : Dev nD) : (dats m 0 c).arrAt 6 cfg0.N = M (a0 m c) (a2 m c) :=
  (dats m 0 c).arrAt_eq_of_cover 6 _ (fun t _ => flushed_M m c t) cover_M

/-- What a point's body leaves for result 3, at an element. -/
theorem out_U (c : Dev nD) (t : Fin cfg0.N) (r : Fin 128) (n : Fin 256) :
    out0_7 (iblk m c 0 t) (iblk m c 1 t) (iblk m c 2 t) (iblk m c 3 t) (ix2 r n) = U (a0 m c) (a3 m c) (ix2 (row t r) n) := by
  unfold out0_7 k0_pay5
  rw [View.canon_unit_zero hz2]
  have hs := (slices (iblk m c 0 t) r n).trans (Finset.sum_congr rfl fun k _ => blk0 m c t k r n)
  generalize k0_pay4 (View.ld (iblk m c 0 t) r0_0) (View.ld (iblk m c 0 t) r0_1) (View.ld (iblk m c 0 t) r0_2) (View.ld (iblk m c 0 t) r0_3) (View.ld (iblk m c 0 t) r0_4) (View.ld (iblk m c 0 t) r0_5) (View.ld (iblk m c 0 t) r0_6) (View.ld (iblk m c 0 t) r0_7) = g at hs ⊢
  have hG : g (ix2 r n) = G (a0 m c) (ix2 (row t r) n) := hs
  unfold U
  rw [← hG, ← blk3 m c t r n]
  simp only [View.ld_unit_zero (S := S128x256) hz2]
  pointwise [k0_pay2]

/-- What a point writes back of result 3 is its block of `U`. -/
theorem flushed_U (c : Dev nD) (t : Fin cfg0.N) : (dats m 0 c).flushed 7 t =
    ((cfg0.win 7).blk t).view.read (Elt Ideal) (U (a0 m c) (a3 m c)) := by
  have h := (idx t).2.2.2.2.2.2.2
  rw [Value.flushed7]
  funext (j : S128x256.Idx)
  rw [View.read_apply]
  obtain ⟨r, n, rfl⟩ := Kit.pair j
  have e : (((cfg0.win 7).blk t).view.emb (ix2 r n) : S128x256.Idx) = ix2 (row t r) n :=
    Kit.e2 (Kit.at_ 128 h.1 r) (Kit.at0 256 h.2 n)
  refine Eq.trans ?_ (congrArg (U (a0 m c) (a3 m c)) e).symm
  exact out_U m c t r n

/-- An index of result 3 lies in a block that is written back. -/
theorem cover_U (i : S128x256.Idx) : ∃ t : Fin cfg0.N, (cfg0.win 7).flush t = true ∧ i ∈ ((cfg0.win 7).blk t).view.set := by
  have h0 : (i 0).val < 128 := (i 0).isLt
  have h1 : (i 1).val < 256 := (i 1).isLt
  obtain ⟨t, ht⟩ := point i
  have h := (idx t).2.2.2.2.2.2.2
  refine ⟨t, flush0_7 t, ?_⟩
  exact Kit.cov (Fin.forall_fin_two.2 ⟨Kit.mem 128 _ h.1 (by omega), Kit.mem 256 _ h.2 (by omega)⟩)

/-- Result 3 after the run. -/
theorem final_U (c : Dev nD) : (dats m 0 c).arrAt 7 cfg0.N = U (a0 m c) (a3 m c) :=
  (dats m 0 c).arrAt_eq_of_cover 7 _ (fun t _ => flushed_U m c t) cover_U

end Cert.Kernel15Ideal.Sum

namespace Cert.Reference15Ideal.Sum

open Gen Read Idealize.ShloMosaic TcCoe Idealize.SL.Sem

/-- The reference's result 0. -/
theorem result_v1 (x0 : Vec Ideal S8x128x256 .bf16) : val_main_v1 (F := Ideal) x0 = Kernel15Ideal.Sum.G x0 := by
  funext j
  obtain ⟨r, n, rfl⟩ := Kit.pair j
  pointwise [val_main_v0, val_main_cst, val_main_v1]
  rfl

/-- The reference's result 1. -/
theorem result_v25 (x0 : Vec Ideal S8x128x256 .bf16) (x1 : Vec Ideal S128x256 .f32) (x2 : Vec Ideal S128x256 .f32) (x3 : Vec Ideal S128x256 .f32) : val_main_v25 (F := Ideal) x0 x1 x2 x3 = Kernel15Ideal.Sum.D x0 x1 x2 x3 := by
  funext j
  have h := congrFun (result_v1 x0) j
  unfold Kernel15Ideal.Sum.D Kernel15Ideal.Sum.M Kernel15Ideal.Sum.U
  rw [← h]
  pointwise [val_main_cst_0, val_main_v2, val_main_v3, val_main_cst_1, val_main_v4, val_main_v5, val_main_v6, val_main_cst_2, val_main_v7, val_main_v8, val_main_v9, val_main_cst_3, val_main_v10, val_main_v11, val_main_v12, val_main_cst_4, val_main_v13, val_main_v14, val_main_cst_5, val_main_v15, val_main_v16, val_main_v17, val_main_cst_6, val_main_v18, val_main_v19, val_main_v20, val_main_cst_7, val_main_v21, val_main_v22, val_main_v23, val_main_cst_8, val_main_v24, val_main_v25]

/-- The reference's result 2. -/
theorem result_v6 (x0 : Vec Ideal S8x128x256 .bf16) (x2 : Vec Ideal S128x256 .f32) : val_main_v6 (F := Ideal) x0 x2 = Kernel15Ideal.Sum.M x0 x2 := by
  funext j
  have h := congrFun (result_v1 x0) j
  unfold Kernel15Ideal.Sum.M
  rw [← h]
  pointwise [val_main_cst_0, val_main_v2, val_main_v3, val_main_cst_1, val_main_v4, val_main_v5, val_main_v6]

/-- The reference's result 3. -/
theorem result_v12 (x0 : Vec Ideal S8x128x256 .bf16) (x3 : Vec Ideal S128x256 .f32) : val_main_v12 (F := Ideal) x0 x3 = Kernel15Ideal.Sum.U x0 x3 := by
  funext j
  have h := congrFun (result_v1 x0) j
  unfold Kernel15Ideal.Sum.U
  rw [← h]
  pointwise [val_main_cst_2, val_main_v7, val_main_v8, val_main_v9, val_main_cst_3, val_main_v10, val_main_v11, val_main_v12]

end Cert.Reference15Ideal.Sum

namespace Cert.Proof.Sum15

open Idealize.ShloMosaic TcCoe Idealize.SL.Sem

/-- The reference leaves its arguments as they were. -/
theorem frame_reference : quiescent_Reference15Ideal := fun m ρ _ =>
  (θ_run Reference15Ideal.defs _ _).mono (fun r h => ⟨fun c => (h c).2.2.2.2, sem_eq_zero_of_no_sems (by decide) r.2⟩)
    (Reference15Ideal.Value.run m ρ)

/-- Kernel and reference end with the same arrays. -/
theorem algebraic : algebraic_Kernel15Ideal_Reference15Ideal := by
  intro m ρ m' ρ' _ hag
  refine ⟨_, _, _, _, (θ_run Kernel15Ideal.defs _ _).mono
    (fun _ h c => ⟨(h c).1.trans (Kernel15Ideal.Sum.final_G m c), (h c).2.1.trans (Kernel15Ideal.Sum.final_D m c), (h c).2.2.1.trans (Kernel15Ideal.Sum.final_M m c), (h c).2.2.2.1.trans (Kernel15Ideal.Sum.final_U m c), (h c).2.2.2.2⟩)
    (Kernel15Ideal.Value.run_blocks m ρ), ?_⟩
  · refine (θ_run Reference15Ideal.defs _ _).mono (fun _ h c => ?_) (Reference15Ideal.Value.run m' ρ')
    obtain ⟨h0, h1, h2, h3, hr⟩ := h c
    obtain ⟨e0, e1, e2, e3⟩ := hag c
    refine ⟨?_, ?_, ?_, ?_, hr⟩
    · refine h0.trans ((Reference15Ideal.Read.val_main_v1_eq _).trans ((Reference15Ideal.Sum.result_v1 _).trans ?_))
      rw [e0]
    · refine h1.trans ((Reference15Ideal.Read.val_main_v25_eq _ _ _ _).trans ((Reference15Ideal.Sum.result_v25 _ _ _ _).trans ?_))
      rw [e0, e1, e2, e3]
    · refine h2.trans ((Reference15Ideal.Read.val_main_v6_eq _ _).trans ((Reference15Ideal.Sum.result_v6 _ _).trans ?_))
      rw [e0, e2]
    · refine h3.trans ((Reference15Ideal.Read.val_main_v12_eq _ _).trans ((Reference15Ideal.Sum.result_v12 _ _).trans ?_))
      rw [e0, e3]

end Cert.Proof.Sum15

end
-- ==== Proof.Sum16.lean ====
/- The gradient of one parameter as the sum of the devices' partial gradients. -/
module

public import proofs.«01_k».proof.Proof.Kit
public import proofs.«01_k».proof.Proof.Gen.Kernel16Ideal.Value
public import proofs.«01_k».proof.Proof.Gen.Reference16Ideal.Read

@[expose] public section

set_option maxRecDepth 16384

noncomputable section

namespace Cert.Kernel16Ideal.Sum

open Gen Idealize.ShloMosaic TcCoe Idealize.SL.Sem
open Idealize.ShloMosaic.Pipeline (Dat)

variable (m : (ℓ : Loc nD τ sig) → Buf (Elt Ideal) ℓ)

/-- The arguments at launch. -/
abbrev a0 (c : Dev nD) : Vec Ideal S8x1216x2048 .bf16 := m ((c : Thread nD τ).loc main_arg0)

/-- Every point's number is below 19. -/
theorem lt_all (t : Fin cfg0.N) : t.val < 19 := lt_of_lt_of_eq t.isLt N_0

/-- A row or column of a point's block, in the whole array. -/
abbrev row (t : Fin cfg0.N) (r : Fin 64) : Fin 1216 := ⟨t.val * 64 + r.val, by have := lt_all t; omega⟩

/-- Each window's block number at a point: the point's rows, and all columns. -/
theorem idx : ∀ t : Fin grid0.N, (win0_0.index t 0 = 0 ∧ win0_0.index t 1 = t.val ∧ win0_0.index t 2 = 0)
    ∧ (win0_1.index t 0 = t.val ∧ win0_1.index t 1 = 0) := by
  decide +kernel

/-- The sum of the partial gradients. -/
def G (A : Vec Ideal S8x1216x2048 .bf16) : Vec Ideal S1216x2048 .f32 := fun j => ∑ k : Fin 8, (A (ix3 k (j 0) (j 1)) : EReal)

/-- The partial gradients' block of a point, at an element. -/
theorem blk0 (c : Dev nD) (t : Fin cfg0.N) (k : Fin 8) (r : Fin 64) (n : Fin 2048) :
    (iblk m c 0 t : Vec Ideal S8x64x2048 .bf16) (ix3 k r n) = a0 m c (ix3 k (row t r) n) := by
  have h := (idx t).1
  exact (congrFun (V_main_arg0 m c) _).trans (congrArg _ (Kit.e3 (Kit.at0 8 h.1 k) (Kit.at_ 64 h.2.1 r) (Kit.at0 2048 h.2.2 n)))

/-- The body's sum of the eight slices of its block, at an element. -/
theorem slices (x0 : Vec Ideal S8x64x2048 .bf16) (r : Fin 64) (n : Fin 2048) :
    k0_pay1 (View.ld x0 r0_0) (View.ld x0 r0_1) (View.ld x0 r0_2) (View.ld x0 r0_3) (View.ld x0 r0_4) (View.ld x0 r0_5) (View.ld x0 r0_6) (View.ld x0 r0_7) (ix2 r n) = ∑ k : Fin 8, (x0 (ix3 k r n) : EReal) := by
  have L0 : View.ld x0 r0_0 (ix3 0 r n) = x0 (ix3 0 r n) := congrArg x0 (Kit.e3 rfl (Kit.z r) (Kit.z n))
  have L1 : View.ld x0 r0_1 (ix3 0 r n) = x0 (ix3 1 r n) := congrArg x0 (Kit.e3 rfl (Kit.z r) (Kit.z n))
  have L2 : View.ld x0 r0_2 (ix3 0 r n) = x0 (ix3 2 r n) := congrArg x0 (Kit.e3 rfl (Kit.z r) (Kit.z n))
  have L3 : View.ld x0 r0_3 (ix3 0 r n) = x0 (ix3 3 r n) := congrArg x0 (Kit.e3 rfl (Kit.z r) (Kit.z n))
  have L4 : View.ld x0 r0_4 (ix3 0 r n) = x0 (ix3 4 r n) := congrArg x0 (Kit.e3 rfl (Kit.z r) (Kit.z n))
  have L5 : View.ld x0 r0_5 (ix3 0 r n) = x0 (ix3 5 r n) := congrArg x0 (Kit.e3 rfl (Kit.z r) (Kit.z n))
  have L6 : View.ld x0 r0_6 (ix3 0 r n) = x0 (ix3 6 r n) := congrArg x0 (Kit.e3 rfl (Kit.z r) (Kit.z n))
  have L7 : View.ld x0 r0_7 (ix3 0 r n) = x0 (ix3 7 r n) := congrArg x0 (Kit.e3 rfl (Kit.z r) (Kit.z n))
  rw [Fin.sum_univ_eight, ← L0, ← L1, ← L2, ← L3, ← L4, ← L5, ← L6, ← L7]
  pointwise [k0_pay1]

/-- What a point's body leaves for result 0, at an element. -/
theorem out_G (c : Dev nD) (t : Fin cfg0.N) (r : Fin 64) (n : Fin 2048) :
    out0_1 (iblk m c 0 t) (ix2 r n) = G (a0 m c) (ix2 (row t r) n) := by
  unfold out0_1
  rw [View.canon_unit_zero hz2]
  refine (slices _ r n).trans (Finset.sum_congr rfl fun k _ => ?_)
  exact blk0 m c t k r n

/-- What a point writes back of result 0 is its block of `G`. -/
theorem flushed_G (c : Dev nD) (t : Fin cfg0.N) : (dats m 0 c).flushed 1 t =
    ((cfg0.win 1).blk t).view.read (Elt Ideal) (G (a0 m c)) := by
  have h := (idx t).2
  rw [Value.flushed1]
  funext (j : S64x2048.Idx)
  rw [View.read_apply]
  obtain ⟨r, n, rfl⟩ := Kit.pair j
  have e : (((cfg0.win 1).blk t).view.emb (ix2 r n) : S1216x2048.Idx) = ix2 (row t r) n :=
    Kit.e2 (Kit.at_ 64 h.1 r) (Kit.at0 2048 h.2 n)
  refine Eq.trans ?_ (congrArg (G (a0 m c)) e).symm
  exact out_G m c t r n

/-- An index of result 0 lies in a block that is written back. -/
theorem cover_G (i : S1216x2048.Idx) : ∃ t : Fin cfg0.N, (cfg0.win 1).flush t = true ∧ i ∈ ((cfg0.win 1).blk t).view.set := by
  have h0 : (i 0).val < 1216 := (i 0).isLt
  have h1 : (i 1).val < 2048 := (i 1).isLt
  obtain ⟨t, ht⟩ : ∃ t : Fin cfg0.N, t.val = (i 0).val / 64 :=
    ⟨⟨_, by show _ < grid0.N; rw [Gen.N_0]; omega⟩, rfl⟩
  have h := (idx t).2
  refine ⟨t, flush0_1 t, ?_⟩
  exact Kit.cov (Fin.forall_fin_two.2 ⟨Kit.mem 64 _ h.1 (by omega), Kit.mem 2048 _ h.2 (by omega)⟩)

/-- Result 0 after the run. -/
theorem final_G (c : Dev nD) : (dats m 0 c).arrAt 1 cfg0.N = G (a0 m c) :=
  (dats m 0 c).arrAt_eq_of_cover 1 _ (fun t _ => flushed_G m c t) cover_G

end Cert.Kernel16Ideal.Sum

namespace Cert.Reference16Ideal.Sum

open Gen Read Idealize.ShloMosaic TcCoe Idealize.SL.Sem

/-- The reference's result 0. -/
theorem result_v1 (x0 : Vec Ideal S8x1216x2048 .bf16) : val_main_v1 (F := Ideal) x0 = Kernel16Ideal.Sum.G x0 := by
  funext j
  obtain ⟨r, n, rfl⟩ := Kit.pair j
  pointwise [val_main_v0, val_main_cst, val_main_v1]
  rfl

end Cert.Reference16Ideal.Sum

namespace Cert.Proof.Sum16

open Idealize.ShloMosaic TcCoe Idealize.SL.Sem

/-- The reference leaves its arguments as they were. -/
theorem frame_reference : quiescent_Reference16Ideal := fun m ρ _ =>
  (θ_run Reference16Ideal.defs _ _).mono (fun r h => ⟨fun c => (h c).2, sem_eq_zero_of_no_sems (by decide) r.2⟩)
    (Reference16Ideal.Value.run m ρ)

/-- Kernel and reference end with the same arrays. -/
theorem algebraic : algebraic_Kernel16Ideal_Reference16Ideal := by
  intro m ρ m' ρ' _ hag
  refine ⟨_, (θ_run Kernel16Ideal.defs _ _).mono
    (fun _ h c => ⟨(h c).1.trans (Kernel16Ideal.Sum.final_G m c), (h c).2⟩)
    (Kernel16Ideal.Value.run_blocks m ρ), ?_⟩
  · refine (θ_run Reference16Ideal.defs _ _).mono (fun _ h c => ?_) (Reference16Ideal.Value.run m' ρ')
    obtain ⟨h0, hr⟩ := h c
    have e0 := hag c
    refine ⟨?_, hr⟩
    · refine h0.trans ((Reference16Ideal.Read.val_main_v1_eq _).trans ((Reference16Ideal.Sum.result_v1 _).trans ?_))
      rw [e0]

end Cert.Proof.Sum16

end
-- ==== Proof.Sum17.lean ====
/- The gradient of one parameter as the sum of the devices' partial gradients. -/
module

public import proofs.«01_k».proof.Proof.Kit
public import proofs.«01_k».proof.Proof.Gen.Kernel17Ideal.Value
public import proofs.«01_k».proof.Proof.Gen.Reference17Ideal.Read

@[expose] public section

set_option maxRecDepth 16384

noncomputable section

namespace Cert.Kernel17Ideal.Sum

open Gen Idealize.ShloMosaic TcCoe Idealize.SL.Sem
open Idealize.ShloMosaic.Pipeline (Dat)

variable (m : (ℓ : Loc nD τ sig) → Buf (Elt Ideal) ℓ)

/-- The arguments at launch. -/
abbrev a0 (c : Dev nD) : Vec Ideal S8x1408x2048 .bf16 := m ((c : Thread nD τ).loc main_arg0)

/-- Every point's number is below 8. -/
theorem lt_all (t : Fin cfg0.N) : t.val < 8 := lt_of_lt_of_eq t.isLt N_0

/-- A row or column of a point's block, in the whole array. -/
abbrev row (t : Fin cfg0.N) (r : Fin 176) : Fin 1408 := ⟨t.val * 176 + r.val, by have := lt_all t; omega⟩

/-- Each window's block number at a point: the point's rows, and all columns. -/
theorem idx : ∀ t : Fin grid0.N, (win0_0.index t 0 = 0 ∧ win0_0.index t 1 = t.val ∧ win0_0.index t 2 = 0)
    ∧ (win0_1.index t 0 = t.val ∧ win0_1.index t 1 = 0) := by
  decide +kernel

/-- The sum of the partial gradients. -/
def G (A : Vec Ideal S8x1408x2048 .bf16) : Vec Ideal S1408x2048 .f32 := fun j => ∑ k : Fin 8, (A (ix3 k (j 0) (j 1)) : EReal)

/-- The partial gradients' block of a point, at an element. -/
theorem blk0 (c : Dev nD) (t : Fin cfg0.N) (k : Fin 8) (r : Fin 176) (n : Fin 2048) :
    (iblk m c 0 t : Vec Ideal S8x176x2048 .bf16) (ix3 k r n) = a0 m c (ix3 k (row t r) n) := by
  have h := (idx t).1
  exact (congrFun (V_main_arg0 m c) _).trans (congrArg _ (Kit.e3 (Kit.at0 8 h.1 k) (Kit.at_ 176 h.2.1 r) (Kit.at0 2048 h.2.2 n)))

/-- The body's sum of the eight slices of its block, at an element. -/
theorem slices (x0 : Vec Ideal S8x176x2048 .bf16) (r : Fin 176) (n : Fin 2048) :
    k0_pay1 (View.ld x0 r0_0) (View.ld x0 r0_1) (View.ld x0 r0_2) (View.ld x0 r0_3) (View.ld x0 r0_4) (View.ld x0 r0_5) (View.ld x0 r0_6) (View.ld x0 r0_7) (ix2 r n) = ∑ k : Fin 8, (x0 (ix3 k r n) : EReal) := by
  have L0 : View.ld x0 r0_0 (ix3 0 r n) = x0 (ix3 0 r n) := congrArg x0 (Kit.e3 rfl (Kit.z r) (Kit.z n))
  have L1 : View.ld x0 r0_1 (ix3 0 r n) = x0 (ix3 1 r n) := congrArg x0 (Kit.e3 rfl (Kit.z r) (Kit.z n))
  have L2 : View.ld x0 r0_2 (ix3 0 r n) = x0 (ix3 2 r n) := congrArg x0 (Kit.e3 rfl (Kit.z r) (Kit.z n))
  have L3 : View.ld x0 r0_3 (ix3 0 r n) = x0 (ix3 3 r n) := congrArg x0 (Kit.e3 rfl (Kit.z r) (Kit.z n))
  have L4 : View.ld x0 r0_4 (ix3 0 r n) = x0 (ix3 4 r n) := congrArg x0 (Kit.e3 rfl (Kit.z r) (Kit.z n))
  have L5 : View.ld x0 r0_5 (ix3 0 r n) = x0 (ix3 5 r n) := congrArg x0 (Kit.e3 rfl (Kit.z r) (Kit.z n))
  have L6 : View.ld x0 r0_6 (ix3 0 r n) = x0 (ix3 6 r n) := congrArg x0 (Kit.e3 rfl (Kit.z r) (Kit.z n))
  have L7 : View.ld x0 r0_7 (ix3 0 r n) = x0 (ix3 7 r n) := congrArg x0 (Kit.e3 rfl (Kit.z r) (Kit.z n))
  rw [Fin.sum_univ_eight, ← L0, ← L1, ← L2, ← L3, ← L4, ← L5, ← L6, ← L7]
  pointwise [k0_pay1]

/-- What a point's body leaves for result 0, at an element. -/
theorem out_G (c : Dev nD) (t : Fin cfg0.N) (r : Fin 176) (n : Fin 2048) :
    out0_1 (iblk m c 0 t) (ix2 r n) = G (a0 m c) (ix2 (row t r) n) := by
  unfold out0_1
  rw [View.canon_unit_zero hz2]
  refine (slices _ r n).trans (Finset.sum_congr rfl fun k _ => ?_)
  exact blk0 m c t k r n

/-- What a point writes back of result 0 is its block of `G`. -/
theorem flushed_G (c : Dev nD) (t : Fin cfg0.N) : (dats m 0 c).flushed 1 t =
    ((cfg0.win 1).blk t).view.read (Elt Ideal) (G (a0 m c)) := by
  have h := (idx t).2
  rw [Value.flushed1]
  funext (j : S176x2048.Idx)
  rw [View.read_apply]
  obtain ⟨r, n, rfl⟩ := Kit.pair j
  have e : (((cfg0.win 1).blk t).view.emb (ix2 r n) : S1408x2048.Idx) = ix2 (row t r) n :=
    Kit.e2 (Kit.at_ 176 h.1 r) (Kit.at0 2048 h.2 n)
  refine Eq.trans ?_ (congrArg (G (a0 m c)) e).symm
  exact out_G m c t r n

/-- An index of result 0 lies in a block that is written back. -/
theorem cover_G (i : S1408x2048.Idx) : ∃ t : Fin cfg0.N, (cfg0.win 1).flush t = true ∧ i ∈ ((cfg0.win 1).blk t).view.set := by
  have h0 : (i 0).val < 1408 := (i 0).isLt
  have h1 : (i 1).val < 2048 := (i 1).isLt
  obtain ⟨t, ht⟩ : ∃ t : Fin cfg0.N, t.val = (i 0).val / 176 :=
    ⟨⟨_, by show _ < grid0.N; rw [Gen.N_0]; omega⟩, rfl⟩
  have h := (idx t).2
  refine ⟨t, flush0_1 t, ?_⟩
  exact Kit.cov (Fin.forall_fin_two.2 ⟨Kit.mem 176 _ h.1 (by omega), Kit.mem 2048 _ h.2 (by omega)⟩)

/-- Result 0 after the run. -/
theorem final_G (c : Dev nD) : (dats m 0 c).arrAt 1 cfg0.N = G (a0 m c) :=
  (dats m 0 c).arrAt_eq_of_cover 1 _ (fun t _ => flushed_G m c t) cover_G

end Cert.Kernel17Ideal.Sum

namespace Cert.Reference17Ideal.Sum

open Gen Read Idealize.ShloMosaic TcCoe Idealize.SL.Sem

/-- The reference's result 0. -/
theorem result_v1 (x0 : Vec Ideal S8x1408x2048 .bf16) : val_main_v1 (F := Ideal) x0 = Kernel17Ideal.Sum.G x0 := by
  funext j
  obtain ⟨r, n, rfl⟩ := Kit.pair j
  pointwise [val_main_v0, val_main_cst, val_main_v1]
  rfl

end Cert.Reference17Ideal.Sum

namespace Cert.Proof.Sum17

open Idealize.ShloMosaic TcCoe Idealize.SL.Sem

/-- The reference leaves its arguments as they were. -/
theorem frame_reference : quiescent_Reference17Ideal := fun m ρ _ =>
  (θ_run Reference17Ideal.defs _ _).mono (fun r h => ⟨fun c => (h c).2, sem_eq_zero_of_no_sems (by decide) r.2⟩)
    (Reference17Ideal.Value.run m ρ)

/-- Kernel and reference end with the same arrays. -/
theorem algebraic : algebraic_Kernel17Ideal_Reference17Ideal := by
  intro m ρ m' ρ' _ hag
  refine ⟨_, (θ_run Kernel17Ideal.defs _ _).mono
    (fun _ h c => ⟨(h c).1.trans (Kernel17Ideal.Sum.final_G m c), (h c).2⟩)
    (Kernel17Ideal.Value.run_blocks m ρ), ?_⟩
  · refine (θ_run Reference17Ideal.defs _ _).mono (fun _ h c => ?_) (Reference17Ideal.Value.run m' ρ')
    obtain ⟨h0, hr⟩ := h c
    have e0 := hag c
    refine ⟨?_, hr⟩
    · refine h0.trans ((Reference17Ideal.Read.val_main_v1_eq _).trans ((Reference17Ideal.Sum.result_v1 _).trans ?_))
      rw [e0]

end Cert.Proof.Sum17

end
-- ==== Proof.Sum18.lean ====
/- The gradient of one parameter as the sum of the devices' partial gradients. -/
module

public import proofs.«01_k».proof.Proof.Kit
public import proofs.«01_k».proof.Proof.Gen.Kernel18Ideal.Value
public import proofs.«01_k».proof.Proof.Gen.Reference18Ideal.Read

@[expose] public section

set_option maxRecDepth 16384

noncomputable section

namespace Cert.Kernel18Ideal.Sum

open Gen Idealize.ShloMosaic TcCoe Idealize.SL.Sem
open Idealize.ShloMosaic.Pipeline (Dat)

variable (m : (ℓ : Loc nD τ sig) → Buf (Elt Ideal) ℓ)

/-- The arguments at launch. -/
abbrev a0 (c : Dev nD) : Vec Ideal S8x256x1024 .bf16 := m ((c : Thread nD τ).loc main_arg0)

/-- Every point's number is below 1. -/
theorem lt_all (t : Fin cfg0.N) : t.val < 1 := lt_of_lt_of_eq t.isLt N_0

/-- A row or column of a point's block, in the whole array. -/
abbrev row (t : Fin cfg0.N) (r : Fin 256) : Fin 256 := ⟨t.val * 256 + r.val, by have := lt_all t; omega⟩

/-- Each window's block number at a point: the point's rows, and all columns. -/
theorem idx : ∀ t : Fin grid0.N, (win0_0.index t 0 = 0 ∧ win0_0.index t 1 = t.val ∧ win0_0.index t 2 = 0)
    ∧ (win0_1.index t 0 = t.val ∧ win0_1.index t 1 = 0) := by
  decide +kernel

/-- The sum of the partial gradients. -/
def G (A : Vec Ideal S8x256x1024 .bf16) : Vec Ideal S256x1024 .f32 := fun j => ∑ k : Fin 8, (A (ix3 k (j 0) (j 1)) : EReal)

/-- The partial gradients' block of a point, at an element. -/
theorem blk0 (c : Dev nD) (t : Fin cfg0.N) (k : Fin 8) (r : Fin 256) (n : Fin 1024) :
    (iblk m c 0 t : Vec Ideal S8x256x1024 .bf16) (ix3 k r n) = a0 m c (ix3 k (row t r) n) := by
  have h := (idx t).1
  exact (congrFun (V_main_arg0 m c) _).trans (congrArg _ (Kit.e3 (Kit.at0 8 h.1 k) (Kit.at_ 256 h.2.1 r) (Kit.at0 1024 h.2.2 n)))

/-- The body's sum of the eight slices of its block, at an element. -/
theorem slices (x0 : Vec Ideal S8x256x1024 .bf16) (r : Fin 256) (n : Fin 1024) :
    k0_pay1 (View.ld x0 r0_0) (View.ld x0 r0_1) (View.ld x0 r0_2) (View.ld x0 r0_3) (View.ld x0 r0_4) (View.ld x0 r0_5) (View.ld x0 r0_6) (View.ld x0 r0_7) (ix2 r n) = ∑ k : Fin 8, (x0 (ix3 k r n) : EReal) := by
  have L0 : View.ld x0 r0_0 (ix3 0 r n) = x0 (ix3 0 r n) := congrArg x0 (Kit.e3 rfl (Kit.z r) (Kit.z n))
  have L1 : View.ld x0 r0_1 (ix3 0 r n) = x0 (ix3 1 r n) := congrArg x0 (Kit.e3 rfl (Kit.z r) (Kit.z n))
  have L2 : View.ld x0 r0_2 (ix3 0 r n) = x0 (ix3 2 r n) := congrArg x0 (Kit.e3 rfl (Kit.z r) (Kit.z n))
  have L3 : View.ld x0 r0_3 (ix3 0 r n) = x0 (ix3 3 r n) := congrArg x0 (Kit.e3 rfl (Kit.z r) (Kit.z n))
  have L4 : View.ld x0 r0_4 (ix3 0 r n) = x0 (ix3 4 r n) := congrArg x0 (Kit.e3 rfl (Kit.z r) (Kit.z n))
  have L5 : View.ld x0 r0_5 (ix3 0 r n) = x0 (ix3 5 r n) := congrArg x0 (Kit.e3 rfl (Kit.z r) (Kit.z n))
  have L6 : View.ld x0 r0_6 (ix3 0 r n) = x0 (ix3 6 r n) := congrArg x0 (Kit.e3 rfl (Kit.z r) (Kit.z n))
  have L7 : View.ld x0 r0_7 (ix3 0 r n) = x0 (ix3 7 r n) := congrArg x0 (Kit.e3 rfl (Kit.z r) (Kit.z n))
  rw [Fin.sum_univ_eight, ← L0, ← L1, ← L2, ← L3, ← L4, ← L5, ← L6, ← L7]
  pointwise [k0_pay1]

/-- What a point's body leaves for result 0, at an element. -/
theorem out_G (c : Dev nD) (t : Fin cfg0.N) (r : Fin 256) (n : Fin 1024) :
    out0_1 (iblk m c 0 t) (ix2 r n) = G (a0 m c) (ix2 (row t r) n) := by
  unfold out0_1
  rw [View.canon_unit_zero hz2]
  refine (slices _ r n).trans (Finset.sum_congr rfl fun k _ => ?_)
  exact blk0 m c t k r n

/-- What a point writes back of result 0 is its block of `G`. -/
theorem flushed_G (c : Dev nD) (t : Fin cfg0.N) : (dats m 0 c).flushed 1 t =
    ((cfg0.win 1).blk t).view.read (Elt Ideal) (G (a0 m c)) := by
  have h := (idx t).2
  rw [Value.flushed1]
  funext (j : S256x1024.Idx)
  rw [View.read_apply]
  obtain ⟨r, n, rfl⟩ := Kit.pair j
  have e : (((cfg0.win 1).blk t).view.emb (ix2 r n) : S256x1024.Idx) = ix2 (row t r) n :=
    Kit.e2 (Kit.at_ 256 h.1 r) (Kit.at0 1024 h.2 n)
  refine Eq.trans ?_ (congrArg (G (a0 m c)) e).symm
  exact out_G m c t r n

/-- An index of result 0 lies in a block that is written back. -/
theorem cover_G (i : S256x1024.Idx) : ∃ t : Fin cfg0.N, (cfg0.win 1).flush t = true ∧ i ∈ ((cfg0.win 1).blk t).view.set := by
  have h0 : (i 0).val < 256 := (i 0).isLt
  have h1 : (i 1).val < 1024 := (i 1).isLt
  obtain ⟨t, ht⟩ : ∃ t : Fin cfg0.N, t.val = (i 0).val / 256 :=
    ⟨⟨_, by show _ < grid0.N; rw [Gen.N_0]; omega⟩, rfl⟩
  have h := (idx t).2
  refine ⟨t, flush0_1 t, ?_⟩
  exact Kit.cov (Fin.forall_fin_two.2 ⟨Kit.mem 256 _ h.1 (by omega), Kit.mem 1024 _ h.2 (by omega)⟩)

/-- Result 0 after the run. -/
theorem final_G (c : Dev nD) : (dats m 0 c).arrAt 1 cfg0.N = G (a0 m c) :=
  (dats m 0 c).arrAt_eq_of_cover 1 _ (fun t _ => flushed_G m c t) cover_G

end Cert.Kernel18Ideal.Sum

namespace Cert.Reference18Ideal.Sum

open Gen Read Idealize.ShloMosaic TcCoe Idealize.SL.Sem

/-- The reference's result 0. -/
theorem result_v1 (x0 : Vec Ideal S8x256x1024 .bf16) : val_main_v1 (F := Ideal) x0 = Kernel18Ideal.Sum.G x0 := by
  funext j
  obtain ⟨r, n, rfl⟩ := Kit.pair j
  pointwise [val_main_v0, val_main_cst, val_main_v1]
  rfl

end Cert.Reference18Ideal.Sum

namespace Cert.Proof.Sum18

open Idealize.ShloMosaic TcCoe Idealize.SL.Sem

/-- The reference leaves its arguments as they were. -/
theorem frame_reference : quiescent_Reference18Ideal := fun m ρ _ =>
  (θ_run Reference18Ideal.defs _ _).mono (fun r h => ⟨fun c => (h c).2, sem_eq_zero_of_no_sems (by decide) r.2⟩)
    (Reference18Ideal.Value.run m ρ)

/-- Kernel and reference end with the same arrays. -/
theorem algebraic : algebraic_Kernel18Ideal_Reference18Ideal := by
  intro m ρ m' ρ' _ hag
  refine ⟨_, (θ_run Kernel18Ideal.defs _ _).mono
    (fun _ h c => ⟨(h c).1.trans (Kernel18Ideal.Sum.final_G m c), (h c).2⟩)
    (Kernel18Ideal.Value.run_blocks m ρ), ?_⟩
  · refine (θ_run Reference18Ideal.defs _ _).mono (fun _ h c => ?_) (Reference18Ideal.Value.run m' ρ')
    obtain ⟨h0, hr⟩ := h c
    have e0 := hag c
    refine ⟨?_, hr⟩
    · refine h0.trans ((Reference18Ideal.Read.val_main_v1_eq _).trans ((Reference18Ideal.Sum.result_v1 _).trans ?_))
      rw [e0]

end Cert.Proof.Sum18

end
-- ==== Proof.Sum19.lean ====
/- The gradient of one parameter as the sum of the devices' partial gradients. -/
module

public import proofs.«01_k».proof.Proof.Kit
public import proofs.«01_k».proof.Proof.Gen.Kernel19Ideal.Value
public import proofs.«01_k».proof.Proof.Gen.Reference19Ideal.Read

@[expose] public section

set_option maxRecDepth 16384

noncomputable section

namespace Cert.Kernel19Ideal.Sum

open Gen Idealize.ShloMosaic TcCoe Idealize.SL.Sem
open Idealize.ShloMosaic.Pipeline (Dat)

variable (m : (ℓ : Loc nD τ sig) → Buf (Elt Ideal) ℓ)

/-- The arguments at launch. -/
abbrev a0 (c : Dev nD) : Vec Ideal S8x256x512 .bf16 := m ((c : Thread nD τ).loc main_arg0)

/-- Every point's number is below 1. -/
theorem lt_all (t : Fin cfg0.N) : t.val < 1 := lt_of_lt_of_eq t.isLt N_0

/-- A row or column of a point's block, in the whole array. -/
abbrev row (t : Fin cfg0.N) (r : Fin 256) : Fin 256 := ⟨t.val * 256 + r.val, by have := lt_all t; omega⟩

/-- Each window's block number at a point: the point's rows, and all columns. -/
theorem idx : ∀ t : Fin grid0.N, (win0_0.index t 0 = 0 ∧ win0_0.index t 1 = t.val ∧ win0_0.index t 2 = 0)
    ∧ (win0_1.index t 0 = t.val ∧ win0_1.index t 1 = 0) := by
  decide +kernel

/-- The sum of the partial gradients. -/
def G (A : Vec Ideal S8x256x512 .bf16) : Vec Ideal S256x512 .f32 := fun j => ∑ k : Fin 8, (A (ix3 k (j 0) (j 1)) : EReal)

/-- The partial gradients' block of a point, at an element. -/
theorem blk0 (c : Dev nD) (t : Fin cfg0.N) (k : Fin 8) (r : Fin 256) (n : Fin 512) :
    (iblk m c 0 t : Vec Ideal S8x256x512 .bf16) (ix3 k r n) = a0 m c (ix3 k (row t r) n) := by
  have h := (idx t).1
  exact (congrFun (V_main_arg0 m c) _).trans (congrArg _ (Kit.e3 (Kit.at0 8 h.1 k) (Kit.at_ 256 h.2.1 r) (Kit.at0 512 h.2.2 n)))

/-- The body's sum of the eight slices of its block, at an element. -/
theorem slices (x0 : Vec Ideal S8x256x512 .bf16) (r : Fin 256) (n : Fin 512) :
    k0_pay1 (View.ld x0 r0_0) (View.ld x0 r0_1) (View.ld x0 r0_2) (View.ld x0 r0_3) (View.ld x0 r0_4) (View.ld x0 r0_5) (View.ld x0 r0_6) (View.ld x0 r0_7) (ix2 r n) = ∑ k : Fin 8, (x0 (ix3 k r n) : EReal) := by
  have L0 : View.ld x0 r0_0 (ix3 0 r n) = x0 (ix3 0 r n) := congrArg x0 (Kit.e3 rfl (Kit.z r) (Kit.z n))
  have L1 : View.ld x0 r0_1 (ix3 0 r n) = x0 (ix3 1 r n) := congrArg x0 (Kit.e3 rfl (Kit.z r) (Kit.z n))
  have L2 : View.ld x0 r0_2 (ix3 0 r n) = x0 (ix3 2 r n) := congrArg x0 (Kit.e3 rfl (Kit.z r) (Kit.z n))
  have L3 : View.ld x0 r0_3 (ix3 0 r n) = x0 (ix3 3 r n) := congrArg x0 (Kit.e3 rfl (Kit.z r) (Kit.z n))
  have L4 : View.ld x0 r0_4 (ix3 0 r n) = x0 (ix3 4 r n) := congrArg x0 (Kit.e3 rfl (Kit.z r) (Kit.z n))
  have L5 : View.ld x0 r0_5 (ix3 0 r n) = x0 (ix3 5 r n) := congrArg x0 (Kit.e3 rfl (Kit.z r) (Kit.z n))
  have L6 : View.ld x0 r0_6 (ix3 0 r n) = x0 (ix3 6 r n) := congrArg x0 (Kit.e3 rfl (Kit.z r) (Kit.z n))
  have L7 : View.ld x0 r0_7 (ix3 0 r n) = x0 (ix3 7 r n) := congrArg x0 (Kit.e3 rfl (Kit.z r) (Kit.z n))
  rw [Fin.sum_univ_eight, ← L0, ← L1, ← L2, ← L3, ← L4, ← L5, ← L6, ← L7]
  pointwise [k0_pay1]

/-- What a point's body leaves for result 0, at an element. -/
theorem out_G (c : Dev nD) (t : Fin cfg0.N) (r : Fin 256) (n : Fin 512) :
    out0_1 (iblk m c 0 t) (ix2 r n) = G (a0 m c) (ix2 (row t r) n) := by
  unfold out0_1
  rw [View.canon_unit_zero hz2]
  refine (slices _ r n).trans (Finset.sum_congr rfl fun k _ => ?_)
  exact blk0 m c t k r n

/-- What a point writes back of result 0 is its block of `G`. -/
theorem flushed_G (c : Dev nD) (t : Fin cfg0.N) : (dats m 0 c).flushed 1 t =
    ((cfg0.win 1).blk t).view.read (Elt Ideal) (G (a0 m c)) := by
  have h := (idx t).2
  rw [Value.flushed1]
  funext (j : S256x512.Idx)
  rw [View.read_apply]
  obtain ⟨r, n, rfl⟩ := Kit.pair j
  have e : (((cfg0.win 1).blk t).view.emb (ix2 r n) : S256x512.Idx) = ix2 (row t r) n :=
    Kit.e2 (Kit.at_ 256 h.1 r) (Kit.at0 512 h.2 n)
  refine Eq.trans ?_ (congrArg (G (a0 m c)) e).symm
  exact out_G m c t r n

/-- An index of result 0 lies in a block that is written back. -/
theorem cover_G (i : S256x512.Idx) : ∃ t : Fin cfg0.N, (cfg0.win 1).flush t = true ∧ i ∈ ((cfg0.win 1).blk t).view.set := by
  have h0 : (i 0).val < 256 := (i 0).isLt
  have h1 : (i 1).val < 512 := (i 1).isLt
  obtain ⟨t, ht⟩ : ∃ t : Fin cfg0.N, t.val = (i 0).val / 256 :=
    ⟨⟨_, by show _ < grid0.N; rw [Gen.N_0]; omega⟩, rfl⟩
  have h := (idx t).2
  refine ⟨t, flush0_1 t, ?_⟩
  exact Kit.cov (Fin.forall_fin_two.2 ⟨Kit.mem 256 _ h.1 (by omega), Kit.mem 512 _ h.2 (by omega)⟩)

/-- Result 0 after the run. -/
theorem final_G (c : Dev nD) : (dats m 0 c).arrAt 1 cfg0.N = G (a0 m c) :=
  (dats m 0 c).arrAt_eq_of_cover 1 _ (fun t _ => flushed_G m c t) cover_G

end Cert.Kernel19Ideal.Sum

namespace Cert.Reference19Ideal.Sum

open Gen Read Idealize.ShloMosaic TcCoe Idealize.SL.Sem

/-- The reference's result 0. -/
theorem result_v1 (x0 : Vec Ideal S8x256x512 .bf16) : val_main_v1 (F := Ideal) x0 = Kernel19Ideal.Sum.G x0 := by
  funext j
  obtain ⟨r, n, rfl⟩ := Kit.pair j
  pointwise [val_main_v0, val_main_cst, val_main_v1]
  rfl

end Cert.Reference19Ideal.Sum

namespace Cert.Proof.Sum19

open Idealize.ShloMosaic TcCoe Idealize.SL.Sem

/-- The reference leaves its arguments as they were. -/
theorem frame_reference : quiescent_Reference19Ideal := fun m ρ _ =>
  (θ_run Reference19Ideal.defs _ _).mono (fun r h => ⟨fun c => (h c).2, sem_eq_zero_of_no_sems (by decide) r.2⟩)
    (Reference19Ideal.Value.run m ρ)

/-- Kernel and reference end with the same arrays. -/
theorem algebraic : algebraic_Kernel19Ideal_Reference19Ideal := by
  intro m ρ m' ρ' _ hag
  refine ⟨_, (θ_run Kernel19Ideal.defs _ _).mono
    (fun _ h c => ⟨(h c).1.trans (Kernel19Ideal.Sum.final_G m c), (h c).2⟩)
    (Kernel19Ideal.Value.run_blocks m ρ), ?_⟩
  · refine (θ_run Reference19Ideal.defs _ _).mono (fun _ h c => ?_) (Reference19Ideal.Value.run m' ρ')
    obtain ⟨h0, hr⟩ := h c
    have e0 := hag c
    refine ⟨?_, hr⟩
    · refine h0.trans ((Reference19Ideal.Read.val_main_v1_eq _).trans ((Reference19Ideal.Sum.result_v1 _).trans ?_))
      rw [e0]

end Cert.Proof.Sum19

end
-- ==== Proof.Sum20.lean ====
/- The gradient of one parameter as the sum of the devices' partial gradients. -/
module

public import proofs.«01_k».proof.Proof.Kit
public import proofs.«01_k».proof.Proof.Gen.Kernel20Ideal.Value
public import proofs.«01_k».proof.Proof.Gen.Reference20Ideal.Read

@[expose] public section

set_option maxRecDepth 16384

noncomputable section

namespace Cert.Kernel20Ideal.Sum

open Gen Idealize.ShloMosaic TcCoe Idealize.SL.Sem
open Idealize.ShloMosaic.Pipeline (Dat)

variable (m : (ℓ : Loc nD τ sig) → Buf (Elt Ideal) ℓ)

/-- The arguments at launch. -/
abbrev a0 (c : Dev nD) : Vec Ideal S8x8x1408 .bf16 := m ((c : Thread nD τ).loc main_arg0)

/-- Every point's number is below 1. -/
theorem lt_all (t : Fin cfg0.N) : t.val < 1 := lt_of_lt_of_eq t.isLt N_0

/-- A row or column of a point's block, in the whole array. -/
abbrev row (t : Fin cfg0.N) (r : Fin 8) : Fin 8 := ⟨t.val * 8 + r.val, by have := lt_all t; omega⟩

/-- Each window's block number at a point: the point's rows, and all columns. -/
theorem idx : ∀ t : Fin grid0.N, (win0_0.index t 0 = 0 ∧ win0_0.index t 1 = t.val ∧ win0_0.index t 2 = 0)
    ∧ (win0_1.index t 0 = t.val ∧ win0_1.index t 1 = 0) := by
  decide +kernel

/-- The sum of the partial gradients. -/
def G (A : Vec Ideal S8x8x1408 .bf16) : Vec Ideal S8x1408 .f32 := fun j => ∑ k : Fin 8, (A (ix3 k (j 0) (j 1)) : EReal)

/-- The partial gradients' block of a point, at an element. -/
theorem blk0 (c : Dev nD) (t : Fin cfg0.N) (k : Fin 8) (r : Fin 8) (n : Fin 1408) :
    (iblk m c 0 t : Vec Ideal S8x8x1408 .bf16) (ix3 k r n) = a0 m c (ix3 k (row t r) n) := by
  have h := (idx t).1
  exact (congrFun (V_main_arg0 m c) _).trans (congrArg _ (Kit.e3 (Kit.at0 8 h.1 k) (Kit.at_ 8 h.2.1 r) (Kit.at0 1408 h.2.2 n)))

/-- The body's sum of the eight slices of its block, at an element. -/
theorem slices (x0 : Vec Ideal S8x8x1408 .bf16) (r : Fin 8) (n : Fin 1408) :
    k0_pay1 (View.ld x0 r0_0) (View.ld x0 r0_1) (View.ld x0 r0_2) (View.ld x0 r0_3) (View.ld x0 r0_4) (View.ld x0 r0_5) (View.ld x0 r0_6) (View.ld x0 r0_7) (ix2 r n) = ∑ k : Fin 8, (x0 (ix3 k r n) : EReal) := by
  have L0 : View.ld x0 r0_0 (ix3 0 r n) = x0 (ix3 0 r n) := congrArg x0 (Kit.e3 rfl (Kit.z r) (Kit.z n))
  have L1 : View.ld x0 r0_1 (ix3 0 r n) = x0 (ix3 1 r n) := congrArg x0 (Kit.e3 rfl (Kit.z r) (Kit.z n))
  have L2 : View.ld x0 r0_2 (ix3 0 r n) = x0 (ix3 2 r n) := congrArg x0 (Kit.e3 rfl (Kit.z r) (Kit.z n))
  have L3 : View.ld x0 r0_3 (ix3 0 r n) = x0 (ix3 3 r n) := congrArg x0 (Kit.e3 rfl (Kit.z r) (Kit.z n))
  have L4 : View.ld x0 r0_4 (ix3 0 r n) = x0 (ix3 4 r n) := congrArg x0 (Kit.e3 rfl (Kit.z r) (Kit.z n))
  have L5 : View.ld x0 r0_5 (ix3 0 r n) = x0 (ix3 5 r n) := congrArg x0 (Kit.e3 rfl (Kit.z r) (Kit.z n))
  have L6 : View.ld x0 r0_6 (ix3 0 r n) = x0 (ix3 6 r n) := congrArg x0 (Kit.e3 rfl (Kit.z r) (Kit.z n))
  have L7 : View.ld x0 r0_7 (ix3 0 r n) = x0 (ix3 7 r n) := congrArg x0 (Kit.e3 rfl (Kit.z r) (Kit.z n))
  rw [Fin.sum_univ_eight, ← L0, ← L1, ← L2, ← L3, ← L4, ← L5, ← L6, ← L7]
  pointwise [k0_pay1]

/-- What a point's body leaves for result 0, at an element. -/
theorem out_G (c : Dev nD) (t : Fin cfg0.N) (r : Fin 8) (n : Fin 1408) :
    out0_1 (iblk m c 0 t) (ix2 r n) = G (a0 m c) (ix2 (row t r) n) := by
  unfold out0_1
  rw [View.canon_unit_zero hz2]
  refine (slices _ r n).trans (Finset.sum_congr rfl fun k _ => ?_)
  exact blk0 m c t k r n

/-- What a point writes back of result 0 is its block of `G`. -/
theorem flushed_G (c : Dev nD) (t : Fin cfg0.N) : (dats m 0 c).flushed 1 t =
    ((cfg0.win 1).blk t).view.read (Elt Ideal) (G (a0 m c)) := by
  have h := (idx t).2
  rw [Value.flushed1]
  funext (j : S8x1408.Idx)
  rw [View.read_apply]
  obtain ⟨r, n, rfl⟩ := Kit.pair j
  have e : (((cfg0.win 1).blk t).view.emb (ix2 r n) : S8x1408.Idx) = ix2 (row t r) n :=
    Kit.e2 (Kit.at_ 8 h.1 r) (Kit.at0 1408 h.2 n)
  refine Eq.trans ?_ (congrArg (G (a0 m c)) e).symm
  exact out_G m c t r n

/-- An index of result 0 lies in a block that is written back. -/
theorem cover_G (i : S8x1408.Idx) : ∃ t : Fin cfg0.N, (cfg0.win 1).flush t = true ∧ i ∈ ((cfg0.win 1).blk t).view.set := by
  have h0 : (i 0).val < 8 := (i 0).isLt
  have h1 : (i 1).val < 1408 := (i 1).isLt
  obtain ⟨t, ht⟩ : ∃ t : Fin cfg0.N, t.val = (i 0).val / 8 :=
    ⟨⟨_, by show _ < grid0.N; rw [Gen.N_0]; omega⟩, rfl⟩
  have h := (idx t).2
  refine ⟨t, flush0_1 t, ?_⟩
  exact Kit.cov (Fin.forall_fin_two.2 ⟨Kit.mem 8 _ h.1 (by omega), Kit.mem 1408 _ h.2 (by omega)⟩)

/-- Result 0 after the run. -/
theorem final_G (c : Dev nD) : (dats m 0 c).arrAt 1 cfg0.N = G (a0 m c) :=
  (dats m 0 c).arrAt_eq_of_cover 1 _ (fun t _ => flushed_G m c t) cover_G

end Cert.Kernel20Ideal.Sum

namespace Cert.Reference20Ideal.Sum

open Gen Read Idealize.ShloMosaic TcCoe Idealize.SL.Sem

/-- The reference's result 0. -/
theorem result_v1 (x0 : Vec Ideal S8x8x1408 .bf16) : val_main_v1 (F := Ideal) x0 = Kernel20Ideal.Sum.G x0 := by
  funext j
  obtain ⟨r, n, rfl⟩ := Kit.pair j
  pointwise [val_main_v0, val_main_cst, val_main_v1]
  rfl

end Cert.Reference20Ideal.Sum

namespace Cert.Proof.Sum20

open Idealize.ShloMosaic TcCoe Idealize.SL.Sem

/-- The reference leaves its arguments as they were. -/
theorem frame_reference : quiescent_Reference20Ideal := fun m ρ _ =>
  (θ_run Reference20Ideal.defs _ _).mono (fun r h => ⟨fun c => (h c).2, sem_eq_zero_of_no_sems (by decide) r.2⟩)
    (Reference20Ideal.Value.run m ρ)

/-- Kernel and reference end with the same arrays. -/
theorem algebraic : algebraic_Kernel20Ideal_Reference20Ideal := by
  intro m ρ m' ρ' _ hag
  refine ⟨_, (θ_run Kernel20Ideal.defs _ _).mono
    (fun _ h c => ⟨(h c).1.trans (Kernel20Ideal.Sum.final_G m c), (h c).2⟩)
    (Kernel20Ideal.Value.run_blocks m ρ), ?_⟩
  · refine (θ_run Reference20Ideal.defs _ _).mono (fun _ h c => ?_) (Reference20Ideal.Value.run m' ρ')
    obtain ⟨h0, hr⟩ := h c
    have e0 := hag c
    refine ⟨?_, hr⟩
    · refine h0.trans ((Reference20Ideal.Read.val_main_v1_eq _).trans ((Reference20Ideal.Sum.result_v1 _).trans ?_))
      rw [e0]

end Cert.Proof.Sum20

end
-- ==== Proof.Adam21.lean ====
/- The optimiser's step (AdamW) of one parameter: kernel and reference are the same expression, element by element. -/
module

public import proofs.«01_k».proof.Proof.Kit
public import proofs.«01_k».proof.Proof.Gen.Kernel21Ideal.Value
public import proofs.«01_k».proof.Proof.Gen.Reference21Ideal.Read

@[expose] public section

set_option maxRecDepth 16384

noncomputable section

namespace Cert.Reference21Ideal.Adam

open Gen Read Idealize.ShloMosaic TcCoe Idealize.SL.Sem

/-- The reference's result `v23` is the kernel's array. -/
theorem result_v23 (x0 x1 x2 x3 : Vec Ideal S2048x1216 .f32) : val_main_v23 (F := Ideal) x0 x1 x2 x3 = Kernel21Ideal.Value.G4 x0 x1 x2 x3 := by
  funext i
  pointwise [val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]

/-- The reference's result `v4` is the kernel's array. -/
theorem result_v4 (x1 x2 : Vec Ideal S2048x1216 .f32) : val_main_v4 (F := Ideal) x1 x2 = Kernel21Ideal.Value.G5 x1 x2 := by
  funext i
  pointwise [val_main_cst, val_main_v0, val_main_v1, val_main_cst_0, val_main_v2, val_main_v3, val_main_v4]

/-- The reference's result `v10` is the kernel's array. -/
theorem result_v10 (x1 x3 : Vec Ideal S2048x1216 .f32) : val_main_v10 (F := Ideal) x1 x3 = Kernel21Ideal.Value.G6 x1 x3 := by
  funext i
  pointwise [val_main_cst_1, val_main_v5, val_main_v6, val_main_v7, val_main_cst_2, val_main_v8, val_main_v9, val_main_v10]

end Cert.Reference21Ideal.Adam

namespace Cert.Proof.Adam21

open Idealize.ShloMosaic TcCoe Idealize.SL.Sem

/-- The reference leaves its arguments as they were. -/
theorem frame_reference : quiescent_Reference21Ideal := fun m ρ _ =>
  (θ_run Reference21Ideal.defs _ _).mono (fun r h => ⟨fun c => (h c).2.2.2, sem_eq_zero_of_no_sems (by decide) r.2⟩)
    (Reference21Ideal.Value.run m ρ)

/-- Kernel and reference end with the same arrays. -/
theorem algebraic : algebraic_Kernel21Ideal_Reference21Ideal := by
  intro m ρ m' ρ' _ hag
  refine ⟨_, _, _, Kernel21Ideal.Value.run m ρ, ?_⟩
  · refine (θ_run Reference21Ideal.defs _ _).mono (fun _ h c => ?_) (Reference21Ideal.Value.run m' ρ')
    obtain ⟨h0, h1, h2, hr⟩ := h c
    obtain ⟨e0, e1, e2, e3⟩ := hag c
    refine ⟨?_, ?_, ?_, hr⟩
    · refine h0.trans ((Reference21Ideal.Read.val_main_v23_eq _ _ _ _).trans ((Reference21Ideal.Adam.result_v23 _ _ _ _).trans ?_))
      rw [e0, e1, e2, e3]
    · refine h1.trans ((Reference21Ideal.Read.val_main_v4_eq _ _).trans ((Reference21Ideal.Adam.result_v4 _ _).trans ?_))
      rw [e1, e2]
    · refine h2.trans ((Reference21Ideal.Read.val_main_v10_eq _ _).trans ((Reference21Ideal.Adam.result_v10 _ _).trans ?_))
      rw [e1, e3]

end Cert.Proof.Adam21

end
-- ==== Proof.Adam22.lean ====
/- The optimiser's step (AdamW) of one parameter: kernel and reference are the same expression, element by element. -/
module

public import proofs.«01_k».proof.Proof.Kit
public import proofs.«01_k».proof.Proof.Gen.Kernel22Ideal.Value
public import proofs.«01_k».proof.Proof.Gen.Reference22Ideal.Read

@[expose] public section

set_option maxRecDepth 16384

noncomputable section

namespace Cert.Reference22Ideal.Adam

open Gen Read Idealize.ShloMosaic TcCoe Idealize.SL.Sem

/-- The reference's result `v23` is the kernel's array. -/
theorem result_v23 (x0 x1 x2 x3 : Vec Ideal S2048x1408 .f32) : val_main_v23 (F := Ideal) x0 x1 x2 x3 = Kernel22Ideal.Value.G4 x0 x1 x2 x3 := by
  funext i
  pointwise [val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]

/-- The reference's result `v4` is the kernel's array. -/
theorem result_v4 (x1 x2 : Vec Ideal S2048x1408 .f32) : val_main_v4 (F := Ideal) x1 x2 = Kernel22Ideal.Value.G5 x1 x2 := by
  funext i
  pointwise [val_main_cst, val_main_v0, val_main_v1, val_main_cst_0, val_main_v2, val_main_v3, val_main_v4]

/-- The reference's result `v10` is the kernel's array. -/
theorem result_v10 (x1 x3 : Vec Ideal S2048x1408 .f32) : val_main_v10 (F := Ideal) x1 x3 = Kernel22Ideal.Value.G6 x1 x3 := by
  funext i
  pointwise [val_main_cst_1, val_main_v5, val_main_v6, val_main_v7, val_main_cst_2, val_main_v8, val_main_v9, val_main_v10]

end Cert.Reference22Ideal.Adam

namespace Cert.Proof.Adam22

open Idealize.ShloMosaic TcCoe Idealize.SL.Sem

/-- The reference leaves its arguments as they were. -/
theorem frame_reference : quiescent_Reference22Ideal := fun m ρ _ =>
  (θ_run Reference22Ideal.defs _ _).mono (fun r h => ⟨fun c => (h c).2.2.2, sem_eq_zero_of_no_sems (by decide) r.2⟩)
    (Reference22Ideal.Value.run m ρ)

/-- Kernel and reference end with the same arrays. -/
theorem algebraic : algebraic_Kernel22Ideal_Reference22Ideal := by
  intro m ρ m' ρ' _ hag
  refine ⟨_, _, _, Kernel22Ideal.Value.run m ρ, ?_⟩
  · refine (θ_run Reference22Ideal.defs _ _).mono (fun _ h c => ?_) (Reference22Ideal.Value.run m' ρ')
    obtain ⟨h0, h1, h2, hr⟩ := h c
    obtain ⟨e0, e1, e2, e3⟩ := hag c
    refine ⟨?_, ?_, ?_, hr⟩
    · refine h0.trans ((Reference22Ideal.Read.val_main_v23_eq _ _ _ _).trans ((Reference22Ideal.Adam.result_v23 _ _ _ _).trans ?_))
      rw [e0, e1, e2, e3]
    · refine h1.trans ((Reference22Ideal.Read.val_main_v4_eq _ _).trans ((Reference22Ideal.Adam.result_v4 _ _).trans ?_))
      rw [e1, e2]
    · refine h2.trans ((Reference22Ideal.Read.val_main_v10_eq _ _).trans ((Reference22Ideal.Adam.result_v10 _ _).trans ?_))
      rw [e1, e3]

end Cert.Proof.Adam22

end
-- ==== Proof.Adam23.lean ====
/- The optimiser's step (AdamW) of one parameter: kernel and reference are the same expression, element by element. -/
module

public import proofs.«01_k».proof.Proof.Kit
public import proofs.«01_k».proof.Proof.Gen.Kernel23Ideal.Value
public import proofs.«01_k».proof.Proof.Gen.Reference23Ideal.Read

@[expose] public section

set_option maxRecDepth 16384

noncomputable section

namespace Cert.Reference23Ideal.Adam

open Gen Read Idealize.ShloMosaic TcCoe Idealize.SL.Sem

/-- The reference's result `v23` is the kernel's array. -/
theorem result_v23 (x0 x1 x2 x3 : Vec Ideal S1024x256 .f32) : val_main_v23 (F := Ideal) x0 x1 x2 x3 = Kernel23Ideal.Value.G4 x0 x1 x2 x3 := by
  funext i
  pointwise [val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]

/-- The reference's result `v4` is the kernel's array. -/
theorem result_v4 (x1 x2 : Vec Ideal S1024x256 .f32) : val_main_v4 (F := Ideal) x1 x2 = Kernel23Ideal.Value.G5 x1 x2 := by
  funext i
  pointwise [val_main_cst, val_main_v0, val_main_v1, val_main_cst_0, val_main_v2, val_main_v3, val_main_v4]

/-- The reference's result `v10` is the kernel's array. -/
theorem result_v10 (x1 x3 : Vec Ideal S1024x256 .f32) : val_main_v10 (F := Ideal) x1 x3 = Kernel23Ideal.Value.G6 x1 x3 := by
  funext i
  pointwise [val_main_cst_1, val_main_v5, val_main_v6, val_main_v7, val_main_cst_2, val_main_v8, val_main_v9, val_main_v10]

end Cert.Reference23Ideal.Adam

namespace Cert.Proof.Adam23

open Idealize.ShloMosaic TcCoe Idealize.SL.Sem

/-- The reference leaves its arguments as they were. -/
theorem frame_reference : quiescent_Reference23Ideal := fun m ρ _ =>
  (θ_run Reference23Ideal.defs _ _).mono (fun r h => ⟨fun c => (h c).2.2.2, sem_eq_zero_of_no_sems (by decide) r.2⟩)
    (Reference23Ideal.Value.run m ρ)

/-- Kernel and reference end with the same arrays. -/
theorem algebraic : algebraic_Kernel23Ideal_Reference23Ideal := by
  intro m ρ m' ρ' _ hag
  refine ⟨_, _, _, Kernel23Ideal.Value.run m ρ, ?_⟩
  · refine (θ_run Reference23Ideal.defs _ _).mono (fun _ h c => ?_) (Reference23Ideal.Value.run m' ρ')
    obtain ⟨h0, h1, h2, hr⟩ := h c
    obtain ⟨e0, e1, e2, e3⟩ := hag c
    refine ⟨?_, ?_, ?_, hr⟩
    · refine h0.trans ((Reference23Ideal.Read.val_main_v23_eq _ _ _ _).trans ((Reference23Ideal.Adam.result_v23 _ _ _ _).trans ?_))
      rw [e0, e1, e2, e3]
    · refine h1.trans ((Reference23Ideal.Read.val_main_v4_eq _ _).trans ((Reference23Ideal.Adam.result_v4 _ _).trans ?_))
      rw [e1, e2]
    · refine h2.trans ((Reference23Ideal.Read.val_main_v10_eq _ _).trans ((Reference23Ideal.Adam.result_v10 _ _).trans ?_))
      rw [e1, e3]

end Cert.Proof.Adam23

end
-- ==== Proof.Adam24.lean ====
/- The optimiser's step (AdamW) of one parameter: kernel and reference are the same expression, element by element. -/
module

public import proofs.«01_k».proof.Proof.Kit
public import proofs.«01_k».proof.Proof.Gen.Kernel24Ideal.Value
public import proofs.«01_k».proof.Proof.Gen.Reference24Ideal.Read

@[expose] public section

set_option maxRecDepth 16384

noncomputable section

namespace Cert.Reference24Ideal.Adam

open Gen Read Idealize.ShloMosaic TcCoe Idealize.SL.Sem

/-- The reference's result `v23` is the kernel's array. -/
theorem result_v23 (x0 x1 x2 x3 : Vec Ideal S512x256 .f32) : val_main_v23 (F := Ideal) x0 x1 x2 x3 = Kernel24Ideal.Value.G4 x0 x1 x2 x3 := by
  funext i
  pointwise [val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]

/-- The reference's result `v4` is the kernel's array. -/
theorem result_v4 (x1 x2 : Vec Ideal S512x256 .f32) : val_main_v4 (F := Ideal) x1 x2 = Kernel24Ideal.Value.G5 x1 x2 := by
  funext i
  pointwise [val_main_cst, val_main_v0, val_main_v1, val_main_cst_0, val_main_v2, val_main_v3, val_main_v4]

/-- The reference's result `v10` is the kernel's array. -/
theorem result_v10 (x1 x3 : Vec Ideal S512x256 .f32) : val_main_v10 (F := Ideal) x1 x3 = Kernel24Ideal.Value.G6 x1 x3 := by
  funext i
  pointwise [val_main_cst_1, val_main_v5, val_main_v6, val_main_v7, val_main_cst_2, val_main_v8, val_main_v9, val_main_v10]

end Cert.Reference24Ideal.Adam

namespace Cert.Proof.Adam24

open Idealize.ShloMosaic TcCoe Idealize.SL.Sem

/-- The reference leaves its arguments as they were. -/
theorem frame_reference : quiescent_Reference24Ideal := fun m ρ _ =>
  (θ_run Reference24Ideal.defs _ _).mono (fun r h => ⟨fun c => (h c).2.2.2, sem_eq_zero_of_no_sems (by decide) r.2⟩)
    (Reference24Ideal.Value.run m ρ)

/-- Kernel and reference end with the same arrays. -/
theorem algebraic : algebraic_Kernel24Ideal_Reference24Ideal := by
  intro m ρ m' ρ' _ hag
  refine ⟨_, _, _, Kernel24Ideal.Value.run m ρ, ?_⟩
  · refine (θ_run Reference24Ideal.defs _ _).mono (fun _ h c => ?_) (Reference24Ideal.Value.run m' ρ')
    obtain ⟨h0, h1, h2, hr⟩ := h c
    obtain ⟨e0, e1, e2, e3⟩ := hag c
    refine ⟨?_, ?_, ?_, hr⟩
    · refine h0.trans ((Reference24Ideal.Read.val_main_v23_eq _ _ _ _).trans ((Reference24Ideal.Adam.result_v23 _ _ _ _).trans ?_))
      rw [e0, e1, e2, e3]
    · refine h1.trans ((Reference24Ideal.Read.val_main_v4_eq _ _).trans ((Reference24Ideal.Adam.result_v4 _ _).trans ?_))
      rw [e1, e2]
    · refine h2.trans ((Reference24Ideal.Read.val_main_v10_eq _ _).trans ((Reference24Ideal.Adam.result_v10 _ _).trans ?_))
      rw [e1, e3]

end Cert.Proof.Adam24

end
-- ==== Proof.Adam25.lean ====
/- The optimiser's step (AdamW) of one parameter: kernel and reference are the same expression, element by element. -/
module

public import proofs.«01_k».proof.Proof.Kit
public import proofs.«01_k».proof.Proof.Gen.Kernel25Ideal.Value
public import proofs.«01_k».proof.Proof.Gen.Reference25Ideal.Read

@[expose] public section

set_option maxRecDepth 16384

noncomputable section

namespace Cert.Reference25Ideal.Adam

open Gen Read Idealize.ShloMosaic TcCoe Idealize.SL.Sem

/-- The reference's result `v23` is the kernel's array. -/
theorem result_v23 (x0 x1 x2 x3 : Vec Ideal S3x1408 .f32) : val_main_v23 (F := Ideal) x0 x1 x2 x3 = Kernel25Ideal.Value.G4 x0 x1 x2 x3 := by
  funext i
  pointwise [val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]

/-- The reference's result `v4` is the kernel's array. -/
theorem result_v4 (x1 x2 : Vec Ideal S3x1408 .f32) : val_main_v4 (F := Ideal) x1 x2 = Kernel25Ideal.Value.G5 x1 x2 := by
  funext i
  pointwise [val_main_cst, val_main_v0, val_main_v1, val_main_cst_0, val_main_v2, val_main_v3, val_main_v4]

/-- The reference's result `v10` is the kernel's array. -/
theorem result_v10 (x1 x3 : Vec Ideal S3x1408 .f32) : val_main_v10 (F := Ideal) x1 x3 = Kernel25Ideal.Value.G6 x1 x3 := by
  funext i
  pointwise [val_main_cst_1, val_main_v5, val_main_v6, val_main_v7, val_main_cst_2, val_main_v8, val_main_v9, val_main_v10]

end Cert.Reference25Ideal.Adam

namespace Cert.Proof.Adam25

open Idealize.ShloMosaic TcCoe Idealize.SL.Sem

/-- The reference leaves its arguments as they were. -/
theorem frame_reference : quiescent_Reference25Ideal := fun m ρ _ =>
  (θ_run Reference25Ideal.defs _ _).mono (fun r h => ⟨fun c => (h c).2.2.2, sem_eq_zero_of_no_sems (by decide) r.2⟩)
    (Reference25Ideal.Value.run m ρ)

/-- Kernel and reference end with the same arrays. -/
theorem algebraic : algebraic_Kernel25Ideal_Reference25Ideal := by
  intro m ρ m' ρ' _ hag
  refine ⟨_, _, _, Kernel25Ideal.Value.run m ρ, ?_⟩
  · refine (θ_run Reference25Ideal.defs _ _).mono (fun _ h c => ?_) (Reference25Ideal.Value.run m' ρ')
    obtain ⟨h0, h1, h2, hr⟩ := h c
    obtain ⟨e0, e1, e2, e3⟩ := hag c
    refine ⟨?_, ?_, ?_, hr⟩
    · refine h0.trans ((Reference25Ideal.Read.val_main_v23_eq _ _ _ _).trans ((Reference25Ideal.Adam.result_v23 _ _ _ _).trans ?_))
      rw [e0, e1, e2, e3]
    · refine h1.trans ((Reference25Ideal.Read.val_main_v4_eq _ _).trans ((Reference25Ideal.Adam.result_v4 _ _).trans ?_))
      rw [e1, e2]
    · refine h2.trans ((Reference25Ideal.Read.val_main_v10_eq _ _).trans ((Reference25Ideal.Adam.result_v10 _ _).trans ?_))
      rw [e1, e3]

end Cert.Proof.Adam25

end
-- ==== Proof.RmsArray.lean ====
/- The gradient of the root-mean-square norm: the kernel's arrays, and the reference's. -/
module

public import proofs.«01_k».proof.Proof.Kit
public import proofs.«01_k».proof.Proof.Gen.Kernel26Ideal.Value
public import proofs.«01_k».proof.Proof.Gen.Reference26Ideal.Read

@[expose] public section

set_option maxRecDepth 16384

noncomputable section

namespace Cert.Kernel26Ideal.Rms

open Gen Idealize.ShloMosaic TcCoe Idealize.SL.Sem
open Idealize.ShloMosaic.Pipeline (Dat)

section Points

variable {F : FTy → Type} [FloatOps F]
variable (c : Dev nD) (i : grid0.Coords) (arg1 : Memref sig .tc .vmem S512x2048 .f32) (harg1 : arg1.IsWhole) (arg2 : Memref sig .tc .vmem S1x2048 .f32) (harg2 : arg2.IsWhole) (arg3 : Memref sig .tc .vmem S512x2048 .bf16) (harg3 : arg3.IsWhole) (arg4 : Memref sig .tc .vmem S512x2048 .f32) (harg4 : arg4.IsWhole) (arg5 : Memref sig .tc .vmem S512x2048 .f32) (harg5 : arg5.IsWhole) (arg6 : Memref sig .tc .vmem S1x2048 .f32) (harg6 : arg6.IsWhole)
variable (x0 : Vec F S512x2048 .f32) (x1 : Vec F S1x2048 .f32) (x2 : Vec F S512x2048 .bf16) (x3 : Vec F S512x2048 .f32) (xo : Vec F S1x2048 .f32)

/-- What case A leaves for output 4. -/
theorem out_A_4 (hc0 : cond0_0 i) (hc1 : ¬cond0_1 i) :
    out0_A_4 c i arg1 harg1 arg2 harg2 arg3 harg3 arg4 harg4 arg5 harg5 arg6 harg6 hc0 hc1 x0 x1 x2 x3 = k0_pay5 x0 x2 x1 x3 := by
  unfold out0_A_4
  rw [View.read_writes_eq_canon _ _ _ (cover0_A_4 _ _ _ _ _ _ _ _ _ _ _ _ _ _ _ _ _ _ _ _)]
  unfold kernelRun0_A
  dsimp only
  sl_unfold_words
  rw [View.canon_unit_zero hz2]
  simp only [View.readAt_eq_ld, Memref.IsWhole.read_unread, Kit.ld]

/-- What case A leaves for output 5. -/
theorem out_A_5 (hc0 : cond0_0 i) (hc1 : ¬cond0_1 i) :
    out0_A_5 c i arg1 harg1 arg2 harg2 arg3 harg3 arg4 harg4 arg5 harg5 arg6 harg6 hc0 hc1 x0 x1 x2 x3 = k0_pay6 x0 x2 := by
  unfold out0_A_5
  rw [View.read_writes_eq_canon _ _ _ (cover0_A_5 _ _ _ _ _ _ _ _ _ _ _ _ _ _ _ _ _ _ _ _)]
  unfold kernelRun0_A
  dsimp only
  sl_unfold_words
  rw [View.canon_unit_zero hz2]
  simp only [View.readAt_eq_ld, Memref.IsWhole.read_unread, Kit.ld]

/-- What case B leaves for output 4. -/
theorem out_B_4 (hc0 : ¬cond0_0 i) (hc1 : cond0_1 i) :
    out0_B_4 c i arg1 harg1 arg2 harg2 arg3 harg3 arg4 harg4 arg5 harg5 arg6 harg6 hc0 hc1 x0 x1 x2 x3 xo = k0_pay5 x0 x2 x1 x3 := by
  unfold out0_B_4
  rw [View.read_writes_eq_canon _ _ _ (cover0_B_4 _ _ _ _ _ _ _ _ _ _ _ _ _ _ _ _ _ _ _ _ _)]
  unfold kernelRun0_B
  dsimp only
  sl_unfold_words
  rw [View.canon_unit_zero hz2]
  simp only [View.readAt_eq_ld, Memref.IsWhole.read_unread, Kit.ld]

/-- What case B leaves for output 5. -/
theorem out_B_5 (hc0 : ¬cond0_0 i) (hc1 : cond0_1 i) :
    out0_B_5 c i arg1 harg1 arg2 harg2 arg3 harg3 arg4 harg4 arg5 harg5 arg6 harg6 hc0 hc1 x0 x1 x2 x3 xo = k0_pay1 (k0_pay6 x0 x2) xo := by
  unfold out0_B_5
  rw [View.read_writes_eq_canon _ _ _ (cover0_B_5 _ _ _ _ _ _ _ _ _ _ _ _ _ _ _ _ _ _ _ _ _)]
  unfold kernelRun0_B
  dsimp only
  sl_unfold_words
  rw [View.canon_unit_zero hz2]
  simp only [View.readAt_eq_ld, Memref.IsWhole.read_unread, Kit.ld]

end Points

/-- The reciprocal root of a row's mean square. -/
def inv (x : Fin 2048 → EReal) : EReal :=
  Ideal.rsqrt (Ideal.div (∑ n, x n * x n) (Ideal.ofBits .f32 0x45000000#32) + Ideal.ofBits .f32 0x358637BD#32)

/-- One entry of the gradient in the row `x`: of the row's cotangent `u` (already times the gain). -/
def drow (x u : Fin 2048 → EReal) (n : Fin 2048) : EReal :=
  inv x * (u n - x n * inv x * Ideal.div (∑ k, x k * inv x * u k) (Ideal.ofBits .f32 0x45000000#32))

/-- The body's gradient in its rows, at an element. -/
theorem pay5_apply (x0 : Vec Ideal S512x2048 .f32) (x1 : Vec Ideal S1x2048 .f32) (x2 : Vec Ideal S512x2048 .bf16) (x3 : Vec Ideal S512x2048 .f32)
    (r : Fin 512) (n : Fin 2048) :
    k0_pay5 x0 x2 x1 x3 (ix2 r n) = (x3 (ix2 r n) + drow (fun k => x0 (ix2 r k)) (fun k => x2 (ix2 r k) * x1 (ix2 0 k)) n : EReal) := by
  unfold drow inv
  pointwise [k0_pay5, k0_pay2, k0_pay3, k0_pay4]

/-- The body's share of the gain's gradient, at a column. -/
theorem pay6_apply (x0 : Vec Ideal S512x2048 .f32) (x2 : Vec Ideal S512x2048 .bf16) (n : Fin 2048) :
    k0_pay6 x0 x2 (ix2 0 n) = (∑ r : Fin 512, x2 (ix2 r n) * (x0 (ix2 r n) * inv fun k => x0 (ix2 r k)) : EReal) := by
  unfold inv
  pointwise [k0_pay6, k0_pay2, k0_pay3, k0_pay4]

variable (m : (ℓ : Loc nD τ sig) → Buf (Elt Ideal) ℓ)

/-- The arguments at launch. -/
abbrev a0 (c : Dev nD) : Vec Ideal S8192x2048 .f32 := m ((c : Thread nD τ).loc main_arg0)
@[inherit_doc a0] abbrev a1 (c : Dev nD) : Vec Ideal S1x2048 .f32 := m ((c : Thread nD τ).loc main_arg1)
@[inherit_doc a0] abbrev a2 (c : Dev nD) : Vec Ideal S8192x2048 .bf16 := m ((c : Thread nD τ).loc main_arg2)
@[inherit_doc a0] abbrev a3 (c : Dev nD) : Vec Ideal S8192x2048 .f32 := m ((c : Thread nD τ).loc main_arg3)

/-- Every point's number is below 16. -/
theorem lt_all (t : Fin cfg0.N) : t.val < 16 := lt_of_lt_of_eq t.isLt N_0

/-- A row or column of a point's block, in the whole array. -/
abbrev row (t : Fin cfg0.N) (r : Fin 512) : Fin 8192 := ⟨t.val * 512 + r.val, by have := lt_all t; omega⟩

/-- Each window's block number at a point. -/
theorem idx : ∀ t : Fin grid0.N, (win0_0.index t 0 = t.val ∧ win0_0.index t 1 = 0) ∧ (win0_1.index t 0 = 0 ∧ win0_1.index t 1 = 0)
    ∧ (win0_2.index t 0 = t.val ∧ win0_2.index t 1 = 0) ∧ (win0_3.index t 0 = t.val ∧ win0_3.index t 1 = 0)
    ∧ (win0_4.index t 0 = t.val ∧ win0_4.index t 1 = 0) ∧ (win0_5.index t 0 = 0 ∧ win0_5.index t 1 = 0) := by
  decide +kernel

/-- Argument 0's rows of a point, at an element. -/
theorem blk0 (c : Dev nD) (t : Fin cfg0.N) (r : Fin 512) (n : Fin 2048) :
    (iblk m c 0 t : Vec Ideal S512x2048 .f32) (ix2 r n) = a0 m c (ix2 (row t r) n) := by
  have h := (idx t).1
  exact (congrFun (V_main_arg0 m c) _).trans (congrArg _ (Kit.e2 (Kit.at_ 512 h.1 r) (Kit.at0 2048 h.2 n)))

/-- Argument 2's rows of a point, at an element. -/
theorem blk2 (c : Dev nD) (t : Fin cfg0.N) (r : Fin 512) (n : Fin 2048) :
    (iblk m c 2 t : Vec Ideal S512x2048 .bf16) (ix2 r n) = a2 m c (ix2 (row t r) n) := by
  have h := (idx t).2.2.1
  exact (congrFun (V_main_arg2 m c) _).trans (congrArg _ (Kit.e2 (Kit.at_ 512 h.1 r) (Kit.at0 2048 h.2 n)))

/-- Argument 3's rows of a point, at an element. -/
theorem blk3 (c : Dev nD) (t : Fin cfg0.N) (r : Fin 512) (n : Fin 2048) :
    (iblk m c 3 t : Vec Ideal S512x2048 .f32) (ix2 r n) = a3 m c (ix2 (row t r) n) := by
  have h := (idx t).2.2.2.1
  exact (congrFun (V_main_arg3 m c) _).trans (congrArg _ (Kit.e2 (Kit.at_ 512 h.1 r) (Kit.at0 2048 h.2 n)))

/-- The gain at a point. -/
theorem blk1 (c : Dev nD) (t : Fin cfg0.N) (n : Fin 2048) :
    (iblk m c 1 t : Vec Ideal S1x2048 .f32) (ix2 0 n) = a1 m c (ix2 0 n) := by
  have h := (idx t).2.1
  exact (congrFun (V_main_arg1 m c) _).trans (congrArg _ (Kit.e2 (by show win0_1.index t 0 * 1 + 1 * 0 = 0; rw [h.1]) (Kit.at0 2048 h.2 n)))

/-- The gradient in the rows, with the residual's. -/
def DX (x : Vec Ideal S8192x2048 .f32) (g : Vec Ideal S1x2048 .f32) (dh : Vec Ideal S8192x2048 .bf16) (dres : Vec Ideal S8192x2048 .f32) : Vec Ideal S8192x2048 .f32 := fun j =>
  (dres j + drow (fun k => x (ix2 (j 0) k)) (fun k => dh (ix2 (j 0) k) * g (ix2 0 k)) (j 1) : EReal)

/-- One row's share of the gain's gradient. -/
def gterm (x : Vec Ideal S8192x2048 .f32) (dh : Vec Ideal S8192x2048 .bf16) (n : Fin 2048) (s : Fin 8192) : EReal :=
  dh (ix2 s n) * (x (ix2 s n) * inv fun k => x (ix2 s k))

/-- The gradient of the gain. -/
def DG (x : Vec Ideal S8192x2048 .f32) (dh : Vec Ideal S8192x2048 .bf16) : Vec Ideal S1x2048 .f32 := fun j => ∑ s, gterm x dh (j 1) s

/-- What a point leaves of its rows' gradient. -/
theorem rows (c : Dev nD) (t : Fin cfg0.N) : (outsAt0 m c t.val t.isLt).1 = k0_pay5 (iblk m c 0 t) (iblk m c 2 t) (iblk m c 1 t) (iblk m c 3 t) := by
  have ht := lt_all t
  by_cases h0 : t.val = 0
  · rw [outsAt0_A m c t (by omega) (by omega)]
    dsimp only
    rw [out_A_4]
  · rw [outsAt0_B m c t (by omega) (by omega)]
    dsimp only
    rw [out_B_4]

/-- What a point writes back of the rows' gradient is its block of `DX`. -/
theorem flushed_DX (c : Dev nD) (t : Fin cfg0.N) : (dats m 0 c).flushed 4 t =
    ((cfg0.win 4).blk t).view.read (Elt Ideal) (DX (a0 m c) (a1 m c) (a2 m c) (a3 m c)) := by
  have h := (idx t).2.2.2.2.1
  rw [Value.flushed4]
  funext (j : S512x2048.Idx)
  rw [View.read_apply]
  obtain ⟨r, n, rfl⟩ := Kit.pair j
  have e : (((cfg0.win 4).blk t).view.emb (ix2 r n) : S8192x2048.Idx) = ix2 (row t r) n :=
    Kit.e2 (Kit.at_ 512 h.1 r) (Kit.at0 2048 h.2 n)
  refine Eq.trans ?_ (congrArg (DX (a0 m c) (a1 m c) (a2 m c) (a3 m c)) e).symm
  show (outsAt0 m c t.val t.isLt).1 (ix2 r n) = _
  rw [rows, pay5_apply, blk3]
  simp only [blk0, blk1, blk2]
  rfl

/-- An index of the rows' gradient lies in a block that is written back. -/
theorem cover_DX (i : S8192x2048.Idx) : ∃ t : Fin cfg0.N, (cfg0.win 4).flush t = true ∧ i ∈ ((cfg0.win 4).blk t).view.set := by
  have h0 : (i 0).val < 8192 := (i 0).isLt
  have h1 : (i 1).val < 2048 := (i 1).isLt
  obtain ⟨t, ht⟩ : ∃ t : Fin cfg0.N, t.val = (i 0).val / 512 :=
    ⟨⟨_, by show _ < grid0.N; rw [Gen.N_0]; omega⟩, rfl⟩
  have h := (idx t).2.2.2.2.1
  refine ⟨t, flush0_4 t, ?_⟩
  exact Kit.cov (Fin.forall_fin_two.2 ⟨Kit.mem 512 _ h.1 (by omega), Kit.mem 2048 _ h.2 (by omega)⟩)

/-- The rows' gradient after the run. -/
theorem final_DX (c : Dev nD) : (dats m 0 c).arrAt 4 cfg0.N = DX (a0 m c) (a1 m c) (a2 m c) (a3 m c) :=
  (dats m 0 c).arrAt_eq_of_cover 4 _ (fun t _ => flushed_DX m c t) cover_DX

/-- One point's share of the gain's gradient. -/
def term (c : Dev nD) (t : Fin cfg0.N) : S1x2048.Idx → EReal := k0_pay6 (iblk m c 0 t) (iblk m c 2 t)

/-- A point's share, at a column, in the whole arrays. -/
theorem term_apply (c : Dev nD) (t : Fin cfg0.N) (n : Fin 2048) :
    term m c t (ix2 0 n) = ∑ r : Fin 512, gterm (a0 m c) (a2 m c) n (row t r) := by
  unfold term
  rw [pay6_apply]
  simp only [blk0, blk2]
  rfl

/-- The first point sets the sum. -/
theorem acc_first (c : Dev nD) (t : Fin cfg0.N) (h0 : t.val % 16 = 0) (i : S1x2048.Idx) :
    (outsAt0 m c t.val t.isLt).2 i = 0 + term m c t i := by
  have ht := lt_all t
  rw [outsAt0_A m c t h0 (by omega)]
  dsimp only
  rw [out_A_5, zero_add]
  rfl

/-- Every other point adds to it. -/
theorem acc_next (c : Dev nD) (t : Fin cfg0.N) (h0 : ¬t.val % 16 = 0) (i : S1x2048.Idx) :
    (outsAt0 m c t.val t.isLt).2 i
      = (outsAt0 m c (t.val - 1) (Nat.lt_of_le_of_lt (Nat.sub_le _ _) t.isLt)).2 i + term m c t i := by
  have ht := lt_all t
  rw [outsAt0_B m c t h0 (by omega)]
  dsimp only
  rw [out_B_5]
  unfold k0_pay1 term
  rw [shapeCast_self]
  rfl

/-- The last point holds the whole sum. -/
theorem acc_last (c : Dev nD) (t : Fin cfg0.N) (h : t.val % 16 = 15) (n : Fin 2048) :
    (outsAt0 m c t.val t.isLt).2 (ix2 0 n) = ∑ s, gterm (a0 m c) (a2 m c) n s := by
  have ht := lt_all t
  have key := Pipeline.eq_sum_fin_of_reset_step_apply_of_flush (fun n h => (outsAt0 m c n h).2) 16 (fun _ => (0 : EReal)) (term m c)
    (acc_first m c) (acc_next m c) t h (ix2 0 n)
  refine key.trans ?_
  rw [zero_add]
  refine Eq.trans ?_ (Fin.sum_mul_add_fin 16 512 (gterm (a0 m c) (a2 m c) n))
  refine Finset.sum_congr rfl fun s _ => ?_
  rw [term_apply]
  refine Finset.sum_congr rfl fun l _ => ?_
  have e : 16 * (t.val / 16) + s.val = s.val := by omega
  simp only [e]

/-- What the last point writes back is `DG`. -/
theorem flushed_DG (c : Dev nD) (t : Fin cfg0.N) (hf : (cfg0.win 5).flush t = true) : (dats m 0 c).flushed 5 t =
    ((cfg0.win 5).blk t).view.read (Elt Ideal) (DG (a0 m c) (a2 m c)) := by
  have hk : t.val % 16 = 15 := (flush0_5 t).mp hf
  have h := (idx t).2.2.2.2.2
  rw [Value.flushed5]
  funext (j : S1x2048.Idx)
  rw [View.read_apply]
  obtain ⟨n, rfl⟩ : ∃ (n : Fin 2048), j = ix2 0 n := ⟨j 1, by
    funext b; match b with | ⟨0, _⟩ => exact Fin.ext (by have : (j 0).val < 1 := (j 0).isLt; show (j 0).val = 0; omega) | ⟨1, _⟩ => rfl⟩
  have e : (((cfg0.win 5).blk t).view.emb (ix2 0 n) : S1x2048.Idx) = ix2 0 n :=
    Kit.e2 (by show win0_5.index t 0 * 1 + 1 * 0 = 0; rw [h.1]) (Kit.at0 2048 h.2 n)
  refine Eq.trans ?_ (congrArg (DG (a0 m c) (a2 m c)) e).symm
  exact acc_last m c t hk n

/-- The last point's block is the whole of the gain's gradient. -/
theorem cover_DG (i : S1x2048.Idx) : ∃ t : Fin cfg0.N, (cfg0.win 5).flush t = true ∧ i ∈ ((cfg0.win 5).blk t).view.set := by
  have h0 : (i 0).val < 1 := (i 0).isLt
  have h1 : (i 1).val < 2048 := (i 1).isLt
  obtain ⟨t, ht⟩ : ∃ t : Fin cfg0.N, t.val = 15 := ⟨⟨_, by show _ < grid0.N; rw [Gen.N_0]; omega⟩, rfl⟩
  have h := (idx t).2.2.2.2.2
  refine ⟨t, (flush0_5 t).mpr (by omega), ?_⟩
  exact Kit.cov (Fin.forall_fin_two.2 ⟨Kit.mem 1 _ h.1 (by omega), Kit.mem 2048 _ h.2 (by omega)⟩)

/-- The gain's gradient after the run. -/
theorem final_DG (c : Dev nD) : (dats m 0 c).arrAt 5 cfg0.N = DG (a0 m c) (a2 m c) :=
  (dats m 0 c).arrAt_eq_of_cover 5 _ (flushed_DG m c) cover_DG

end Cert.Kernel26Ideal.Rms

end
-- ==== Proof.RmsClaims.lean ====
/- The gradient of the root-mean-square norm: the reference, and the claims. -/
module

public import proofs.«01_k».proof.Proof.Kit
public import proofs.«01_k».proof.Proof.Gen.Kernel26Ideal.Value
public import proofs.«01_k».proof.Proof.Gen.Reference26Ideal.Read
public import proofs.«01_k».proof.Proof.RmsArray

@[expose] public section

set_option maxRecDepth 16384

noncomputable section

namespace Cert.Reference26Ideal.Rms

open Gen Read Kernel26Ideal.Rms Idealize.ShloMosaic TcCoe Idealize.SL.Sem

/-- The mean square of a row, with the norm's small term. -/
def ms (x : Fin 2048 → EReal) : EReal :=
  Ideal.div (∑ n, x n * x n) (Ideal.ofBits .f32 0x45000000#32) + Ideal.ofBits .f32 0x358637BD#32

/-- The row's length. -/
theorem len : Ideal.ofBits .f32 0x45000000#32 = ((2048 : ℝ) : EReal) := by
  simp [Ideal.ofBits, Ideal.ieee, -EReal.coe_mul]
  norm_num

/-- Minus a half. -/
theorem neg_half : Ideal.ofBits .f32 0xBF000000#32 = ((-(1 / 2) : ℝ) : EReal) := by
  simp [Ideal.ofBits, Ideal.ieee, -EReal.coe_mul]
  norm_num

/-- The norm's small term is a positive number. -/
theorem eps_pos : ∃ e : ℝ, 0 < e ∧ Ideal.ofBits .f32 0x358637BD#32 = (e : EReal) :=
  ⟨8796093 / 2 ^ 43, by positivity, by simp [Ideal.ofBits, Ideal.ieee, -EReal.coe_mul]; norm_num⟩

/-- A square is not negative. -/
theorem sq_nonneg (x : EReal) : 0 ≤ x * x := by
  rcases le_total 0 x with h | h
  · exact EReal.mul_nonneg h h
  · have h' : 0 ≤ -x := EReal.neg_nonneg.2 h
    have := EReal.mul_nonneg h' h'
    rwa [EReal.neg_mul, mul_comm, EReal.neg_mul, neg_neg] at this

/-- The mean square with its small term is a positive number, or infinite. -/
theorem ms_cases (x : Fin 2048 → EReal) : ms x = ⊤ ∨ ∃ s : ℝ, 0 < s ∧ ms x = (s : EReal) := by
  obtain ⟨e, he, h⟩ := eps_pos
  have h0 : 0 ≤ Ideal.div (∑ n, x n * x n) (Ideal.ofBits .f32 0x45000000#32) := by
    rw [len, Ideal.div_coe (by norm_num)]
    exact EReal.mul_nonneg (Finset.sum_nonneg fun n _ => sq_nonneg _) (EReal.coe_nonneg.2 (by norm_num))
  unfold ms
  rw [h]
  generalize Ideal.div (∑ n, x n * x n) (Ideal.ofBits .f32 0x45000000#32) = y at h0 ⊢
  induction y using EReal.rec with
  | bot => exact absurd h0 (by simp)
  | top => exact Or.inl (EReal.top_add_coe e)
  | coe y => exact Or.inr ⟨y + e, by have := EReal.coe_nonneg.1 h0; linarith, (EReal.coe_add y e).symm⟩

/-- The reciprocal root is a number `r` that is not negative, and a quotient by the mean square is its cube. -/
theorem inv_cases (x : Fin 2048 → EReal) : ∃ r : ℝ, 0 ≤ r ∧ inv x = (r : EReal) ∧ Ideal.div (inv x) (ms x) = ((r * r * r : ℝ) : EReal) := by
  have e : inv x = Ideal.rsqrt (ms x) := rfl
  rw [e]
  rcases ms_cases x with h | ⟨s, hs, h⟩
  · rw [h]
    refine ⟨0, le_refl _, rfl, ?_⟩
    show Ideal.div 0 ⊤ = _
    unfold Ideal.div
    rw [if_neg (by simp)]
    simp
  · rw [h, Ideal.rsqrt_coe, if_neg (by linarith), if_neg (by linarith), Ideal.div_coe (by linarith)]
    refine ⟨(√s)⁻¹, inv_nonneg.2 (Real.sqrt_nonneg s), rfl, ?_⟩
    rw [← EReal.coe_mul]
    congr 1
    have hq : (√s)⁻¹ * (√s)⁻¹ = 1 / s := by
      rw [← mul_inv, Real.mul_self_sqrt hs.le, one_div]
    rw [mul_assoc, hq]

/-- A number that is not negative goes into a sum. -/
theorem coe_mul_sum {ι : Type} [Fintype ι] (r : ℝ) (hr : 0 ≤ r) (f : ι → EReal) : (r : EReal) * ∑ k, f k = ∑ k, (r : EReal) * f k := by
  classical
  induction (Finset.univ : Finset ι) using Finset.induction_on with
  | empty => simp
  | insert a t ha ih =>
    rw [Finset.sum_insert ha, Finset.sum_insert ha, EReal.left_distrib_of_nonneg_of_ne_top (EReal.coe_nonneg.2 hr) (EReal.coe_ne_top r), ih]

/-- The reference's gradient in a row: the cotangent `u` times the reciprocal root, and twice the mean square's part. -/
def rrow (x u : Fin 2048 → EReal) (n : Fin 2048) : EReal :=
  let S : EReal := Ideal.div ((∑ k, x k * u k) * (Ideal.ofBits .f32 0xBF000000#32 * Ideal.div (inv x) (ms x))) (Ideal.ofBits .f32 0x45000000#32)
  u n * inv x + x n * S + S * x n

/-- The kernel's form of a row's gradient is the reference's. -/
theorem row_eq (x u : Fin 2048 → EReal) (n : Fin 2048) : rrow x u n = drow x u n := by
  obtain ⟨r, hr, h1, h2⟩ := inv_cases x
  unfold rrow drow
  dsimp only
  rw [h2, h1, len, neg_half]
  simp only [Ideal.div_coe (show (2048 : ℝ) ≠ 0 by norm_num)]
  have hP : (∑ k, x k * (r : EReal) * u k) = (r : EReal) * ∑ k, x k * u k := by
    rw [coe_mul_sum r hr]
    exact Finset.sum_congr rfl fun k _ => by rw [mul_comm (x k), mul_assoc]
  rw [hP]
  generalize (∑ k, x k * u k) = P
  generalize x n = X
  rw [sub_eq_add_neg, EReal.left_distrib_of_nonneg_of_ne_top (EReal.coe_nonneg.2 hr) (EReal.coe_ne_top r), mul_comm (u n), add_assoc]
  congr 1
  have hA : ∀ a : ℝ, X * (P * (a : EReal)) = (a : EReal) * (X * P) := fun a => by
    rw [mul_comm P, ← mul_assoc, mul_comm X, mul_assoc]
  have hS : P * (((-(1 / 2) : ℝ) : EReal) * ((r * r * r : ℝ) : EReal)) * ((1 / 2048 : ℝ) : EReal) = P * ((-(1 / 2) * (r * r * r) * (1 / 2048) : ℝ) : EReal) := by
    rw [mul_assoc, ← EReal.coe_mul, ← EReal.coe_mul]
  have hK : (r : EReal) * -(X * (r : EReal) * ((r : EReal) * P * ((1 / 2048 : ℝ) : EReal))) = -((r * r * r * (1 / 2048) : ℝ) : EReal) * (X * P) := by
    rw [mul_comm (r : EReal) (-_), EReal.neg_mul, EReal.neg_mul]
    congr 1
    rw [EReal.coe_mul, EReal.coe_mul, EReal.coe_mul]
    ac_rfl
  rw [hK, hS, mul_comm (P * _) X, hA]
  have hneg : ((-(1 / 2) * (r * r * r) * (1 / 2048) : ℝ) : EReal) = -(((r * r * r) * (1 / 4096) : ℝ) : EReal) := by
    rw [← EReal.coe_neg]
    congr 1
    ring
  have hsum : ((r * r * r * (1 / 2048) : ℝ) : EReal) = ((r * r * r * (1 / 4096) : ℝ) : EReal) + ((r * r * r * (1 / 4096) : ℝ) : EReal) := by
    rw [← EReal.coe_add]
    congr 1
    ring
  have h0 : (0 : EReal) ≤ ((r * r * r * (1 / 4096) : ℝ) : EReal) := EReal.coe_nonneg.2 (by positivity)
  rw [hneg, EReal.neg_mul, EReal.neg_mul, hsum, EReal.right_distrib_of_nonneg h0 h0, EReal.neg_add]
  · rfl
  · by_cases h : ((r * r * r * (1 / 4096) : ℝ) : EReal) * (X * P) = ⊥
    · exact Or.inr (by rw [h]; exact bot_ne_top)
    · exact Or.inl h
  · by_cases h : ((r * r * r * (1 / 4096) : ℝ) : EReal) * (X * P) = ⊤
    · exact Or.inr (by rw [h]; exact top_ne_bot)
    · exact Or.inl h

/-- The reference's gradient in the rows is the kernel's array. -/
theorem result_v38 (x0 : Vec Ideal S8192x2048 .f32) (x1 : Vec Ideal S1x2048 .f32) (x2 : Vec Ideal S8192x2048 .bf16) (x3 : Vec Ideal S8192x2048 .f32) :
    val_main_v38 (F := Ideal) x0 x1 x2 x3 = DX x0 x1 x2 x3 := by
  funext j
  obtain ⟨s, n, rfl⟩ := Kit.pair j
  refine Eq.trans ?_ (congrArg (fun y : EReal => (x3 (ix2 s n) + y : EReal)) (row_eq (fun k => x0 (ix2 s k)) (fun k => x2 (ix2 s k) * x1 (ix2 0 k)) n))
  unfold rrow Kernel26Ideal.Rms.inv ms
  pointwise [val_main_cst, val_main_cst_0, val_main_cst_1, val_main_cst_2, val_main_cst_3, val_main_cst_4, val_main_cst_5, val_main_cst_6, val_main_cst_7, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39]
  simp only [Fin.sum_univ_one]

/-- The reference's gradient of the gain is the kernel's array. -/
theorem result_v39 (x0 : Vec Ideal S8192x2048 .f32) (x2 : Vec Ideal S8192x2048 .bf16) :
    val_main_v39 (F := Ideal) x0 x2 = DG x0 x2 := by
  funext j
  obtain ⟨n, rfl⟩ : ∃ (n : Fin 2048), j = ix2 0 n := ⟨j 1, by
    funext b; match b with | ⟨0, _⟩ => exact Fin.ext (by have : (j 0).val < 1 := (j 0).isLt; show (j 0).val = 0; omega) | ⟨1, _⟩ => rfl⟩
  show _ = ∑ s, gterm x0 x2 n s
  unfold gterm Kernel26Ideal.Rms.inv
  pointwise [val_main_cst, val_main_cst_0, val_main_cst_1, val_main_cst_2, val_main_cst_3, val_main_cst_4, val_main_cst_5, val_main_cst_6, val_main_cst_7, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39]
  rw [Fin.sum_univ_one]
  exact Finset.sum_congr rfl fun s _ => mul_comm _ _

end Cert.Reference26Ideal.Rms

namespace Cert.Proof.Rms

open Idealize.ShloMosaic TcCoe Idealize.SL.Sem

/-- The reference leaves its arguments as they were. -/
theorem frame_reference : quiescent_Reference26Ideal := fun m ρ _ =>
  (θ_run Reference26Ideal.defs _ _).mono (fun r h => ⟨fun c => (h c).2.2, sem_eq_zero_of_no_sems (by decide) r.2⟩)
    (Reference26Ideal.Value.run m ρ)

/-- Kernel and reference end with the same arrays. -/
theorem algebraic : algebraic_Kernel26Ideal_Reference26Ideal := by
  intro m ρ m' ρ' _ hag
  refine ⟨_, _, (θ_run Kernel26Ideal.defs _ _).mono
    (fun _ h c => ⟨(h c).1.trans (Kernel26Ideal.Rms.final_DX m c), (h c).2.1.trans (Kernel26Ideal.Rms.final_DG m c), (h c).2.2⟩)
    (Kernel26Ideal.Value.run_blocks m ρ), ?_⟩
  · refine (θ_run Reference26Ideal.defs _ _).mono (fun _ h c => ?_) (Reference26Ideal.Value.run m' ρ')
    obtain ⟨h0, h1, hr⟩ := h c
    obtain ⟨e0, e1, e2, e3⟩ := hag c
    refine ⟨?_, ?_, hr⟩
    · refine h0.trans ((Reference26Ideal.Read.val_main_v38_eq _ _).trans ((Reference26Ideal.Rms.result_v38 _ _ _ _).trans ?_))
      rw [e0, e1, e2, e3]
    · refine h1.trans ((Reference26Ideal.Read.val_main_v39_eq _ _).trans ((Reference26Ideal.Rms.result_v39 _ _).trans ?_))
      rw [e0, e2]

end Cert.Proof.Rms

end
-- ==== Proof.Product28.lean ====
module

public import proofs.«01_k».proof.Proof.Kit
public import proofs.«01_k».proof.Proof.Gen.Kernel28Ideal.Value
public import proofs.«01_k».proof.Proof.Gen.Reference28Ideal.Read

@[expose] public section

set_option maxRecDepth 16384

noncomputable section

namespace Cert.Kernel28Ideal.Product

open Gen Idealize.ShloMosaic TcCoe Idealize.SL.Sem
open Idealize.ShloMosaic.Pipeline (Dat)

section Points

variable {F : FTy → Type} [FloatOps F]

variable (c : Dev nD) (i : grid0.Coords) (arg3 : Memref sig .tc .vmem S2048x1024 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .f32) (harg6 : arg6.IsWhole)
    (x0 : Vec F S2048x1024 .bf16) (x1 : Vec F S2048x1024 .bf16) (acc : Vec F S1024x1024 .f32)

/-- What case A leaves in the accumulator. -/
theorem acc_A (hc0 : cond0_0 i) (hc1 : ¬cond0_1 i) (hc2 : ¬cond0_2 i) :
    sout0_A_0 c i arg3 harg3 arg4 harg4 arg5 harg5 arg6 harg6 hc0 hc1 hc2 x0 x1 = k0_pay2 x0 x1 := by
  unfold sout0_A_0
  rw [View.read_writes_eq_canon _ _ _ (scover0_A_0 c i arg3 harg3 arg4 harg4 arg5 harg5 arg6 harg6 hc0 hc1 hc2 x0 x1)]
  unfold kernelRun0_A
  dsimp only
  sl_unfold_words
  rw [View.canon_unit_zero hz2]
  simp only [View.readAt_eq_ld, Memref.IsWhole.read_unread, Kit.ld, View.readCov_unit_zero (S := S1024x1024) _ hz2]

/-- What case B leaves in the accumulator. -/
theorem acc_B (hc0 : ¬cond0_0 i) (hc1 : cond0_1 i) (hc2 : ¬cond0_2 i) :
    sout0_B_0 c i arg3 harg3 arg4 harg4 arg5 harg5 arg6 harg6 hc0 hc1 hc2 x0 x1 acc = k0_pay3 x0 x1 acc := by
  unfold sout0_B_0
  rw [View.read_writes_eq_canon _ _ _ (scover0_B_0 c i arg3 harg3 arg4 harg4 arg5 harg5 arg6 harg6 hc0 hc1 hc2 x0 x1 acc)]
  unfold kernelRun0_B
  dsimp only
  sl_unfold_words
  rw [View.canon_unit_zero hz2]
  simp only [View.readAt_eq_ld, Memref.IsWhole.read_unread, Kit.ld, View.readCov_unit_zero (S := S1024x1024) _ hz2]

/-- What case C leaves in the accumulator. -/
theorem acc_C (hc0 : ¬cond0_0 i) (hc1 : cond0_1 i) (hc2 : cond0_2 i) :
    sout0_C_0 c i arg3 harg3 arg4 harg4 arg5 harg5 arg6 harg6 hc0 hc1 hc2 x0 x1 acc = k0_pay3 x0 x1 acc := by
  unfold sout0_C_0
  rw [View.read_writes_eq_canon _ _ _ (scover0_C_0 c i arg3 harg3 arg4 harg4 arg5 harg5 arg6 harg6 hc0 hc1 hc2 x0 x1 acc)]
  unfold kernelRun0_C
  dsimp only
  sl_unfold_words
  rw [View.canon_unit_zero hz2]
  simp only [View.readAt_eq_ld, Memref.IsWhole.read_unread, Kit.ld, View.readCov_unit_zero (S := S1024x1024) _ hz2]

/-- The last point of a run writes its block of the result from the accumulator. -/
theorem out_last (hc0 : ¬cond0_0 i) (hc1 : cond0_1 i) (hc2 : cond0_2 i) :
    out0_C_2 c i arg3 harg3 arg4 harg4 arg5 harg5 arg6 harg6 hc0 hc1 hc2 x0 x1 acc = k0_pay4 (k0_pay3 x0 x1 acc) := by
  unfold out0_C_2
  rw [View.read_writes_eq_canon _ _ _ (cover0_C_2 _ _ _ _ _ _ _ _ _ _ _ _ _ _ _ _)]
  unfold kernelRun0_C
  dsimp only
  sl_unfold_words
  rw [View.canon_unit_zero hz2]
  simp only [View.readAt_eq_ld, Memref.IsWhole.read_unread, Kit.ld, View.readCov_unit_zero (S := S1024x1024) _ hz2]

end Points

variable (m : (ℓ : Loc nD τ sig) → Buf (Elt Ideal) ℓ)

/-- The arguments at launch. -/
abbrev a0 (c : Dev nD) : Vec Ideal S8192x2048 .bf16 := m ((c : Thread nD τ).loc main_arg0)
@[inherit_doc a0] abbrev a1 (c : Dev nD) : Vec Ideal S8192x1024 .bf16 := m ((c : Thread nD τ).loc main_arg1)

/-- Which blocks a point reads and writes. -/
theorem idx : ∀ t : Fin grid0.N, (win0_0.index t 0 = t.val % 4 ∧ win0_0.index t 1 = t.val / 4) ∧ (win0_1.index t 0 = t.val % 4 ∧ win0_1.index t 1 = 0) ∧ (win0_2.index t 0 = t.val / 4 ∧ win0_2.index t 1 = 0) := by
  decide +kernel

/-- A point's number is below 8. -/
theorem lt_all (t : Fin cfg0.N) : t.val < 8 := lt_of_lt_of_eq t.isLt N_0

/-- A row or column of a point's block, in the whole array. -/
abbrev row (t : Fin cfg0.N) (r : Fin 2048) : Fin 8192 := ⟨t.val % 4 * 2048 + r.val, by have := lt_all t; omega⟩

/-- A row or column of a point's block, in the whole array. -/
abbrev row1 (t : Fin cfg0.N) (r : Fin 1024) : Fin 2048 := ⟨t.val / 4 * 1024 + r.val, by have := lt_all t; omega⟩

/-- One summand of the product, at a row and a column. -/
def prod (A : Vec Ideal S8192x2048 .bf16) (B : Vec Ideal S8192x1024 .bf16) (r : Fin 2048) (n : Fin 1024) (q : Fin 8192) : EReal :=
  A (ix2 q r) * B (ix2 q n)

/-- The product, at a row and a column. -/
def entry (A : Vec Ideal S8192x2048 .bf16) (B : Vec Ideal S8192x1024 .bf16) (r : Fin 2048) (n : Fin 1024) : EReal :=
  ∑ q : Fin 8192, prod A B r n q

/-- The result: the gradient of the pooling mixer's output weight, transposed. -/
def G (A : Vec Ideal S8192x2048 .bf16) (B : Vec Ideal S8192x1024 .bf16) : Vec Ideal S2048x1024 .bf16 := fun j => entry A B (j 0) (j 1)

/-- Block 0 of a point, at an element. -/
theorem blk0 (c : Dev nD) (t : Fin cfg0.N) (r : Fin 1024) (l : Fin 2048) :
    (iblk m c 0 t : Vec Ideal S2048x1024 .bf16) (ix2 l r) = a0 m c (ix2 (row t l) (row1 t r)) := by
  have h := (idx t).1
  exact (congrFun (V_main_arg0 m c) _).trans (congrArg _ (Kit.e2 (Kit.at_ 2048 h.1 l) (Kit.at_ 1024 h.2 r)))

/-- Block 1 of a point, at an element. -/
theorem blk1 (c : Dev nD) (t : Fin cfg0.N) (l : Fin 2048) (n : Fin 1024) :
    (iblk m c 1 t : Vec Ideal S2048x1024 .bf16) (ix2 l n) = a1 m c (ix2 (row t l) (⟨0 * 1024 + n.val, by have := lt_all t; omega⟩ : Fin 1024)) := by
  have h := (idx t).2.1
  exact (congrFun (V_main_arg1 m c) _).trans (congrArg _ (Kit.e2 (Kit.at_ 2048 h.1 l) (Kit.at_ 1024 h.2 n)))

/-- The product of two blocks, at an element. -/
theorem mm_apply (a : Vec Ideal S2048x1024 .bf16) (b : Vec Ideal S2048x1024 .bf16) (r : Fin 1024) (n : Fin 1024) :
    k0_pay1 a b (ix2 r n) = ∑ l : Fin 2048, (a (ix2 l r) * b (ix2 l n) : EReal) := by
  pointwise [k0_pay1]

/-- One point's share of the product. -/
def term (c : Dev nD) (t : Fin cfg0.N) : S1024x1024.Idx → EReal := k0_pay1 (iblk m c 0 t) (iblk m c 1 t)

/-- A point's share, at an element, in the whole arrays. -/
theorem term_apply (c : Dev nD) (t : Fin cfg0.N) (r : Fin 1024) (n : Fin 1024) :
    term m c t (ix2 r n) = ∑ l : Fin 2048, prod (a0 m c) (a1 m c) (row1 t r) (⟨0 * 1024 + n.val, by have := lt_all t; omega⟩ : Fin 1024) (row t l) := by
  unfold term
  rw [mm_apply]
  refine Finset.sum_congr rfl fun l _ => ?_
  rw [blk0, blk1]
  rfl

/-- A run's first point sets the accumulator. -/
theorem acc_first (c : Dev nD) (t : Fin cfg0.N) (h0 : t.val % 4 = 0) (i : S1024x1024.Idx) :
    (outsAt0 m c t.val t.isLt).2 i = 0 + term m c t i := by
  rw [outsAt0_A m c t h0 (by omega) (by omega)]
  dsimp only
  rw [acc_A]
  rw [zero_add]
  unfold k0_pay2 term
  rw [shapeCast_self]

/-- Every other point adds to it. -/
theorem acc_next (c : Dev nD) (t : Fin cfg0.N) (h0 : ¬t.val % 4 = 0) (i : S1024x1024.Idx) :
    (outsAt0 m c t.val t.isLt).2 i
      = (outsAt0 m c (t.val - 1) (Nat.lt_of_le_of_lt (Nat.sub_le _ _) t.isLt)).2 i + term m c t i := by
  by_cases h2 : t.val % 4 = 3
  · rw [outsAt0_C m c t h0 (by omega) h2]
    dsimp only
    rw [acc_C]
    unfold k0_pay3 term
    rw [shapeCast_self]
    rfl
  · rw [outsAt0_B m c t h0 (by omega) h2]
    dsimp only
    rw [acc_B]
    unfold k0_pay3 term
    rw [shapeCast_self]
    rfl

/-- The accumulator at the end of a run holds the whole product. -/
theorem acc_last (c : Dev nD) (t : Fin cfg0.N) (h : t.val % 4 = 3) (r : Fin 1024) (n : Fin 1024) :
    (outsAt0 m c t.val t.isLt).2 (ix2 r n) = entry (a0 m c) (a1 m c) (row1 t r) (⟨0 * 1024 + n.val, by have := lt_all t; omega⟩ : Fin 1024) := by
  have key := Pipeline.eq_sum_fin_of_reset_step_apply_of_flush (fun n h => (outsAt0 m c n h).2) 4 (fun _ => (0 : EReal)) (term m c)
    (acc_first m c) (acc_next m c) t h (ix2 r n)
  refine key.trans ?_
  rw [zero_add]
  unfold entry
  refine Eq.trans ?_ (Fin.sum_mul_add_fin 4 2048 (prod (a0 m c) (a1 m c) (row1 t r) (⟨0 * 1024 + n.val, by have := lt_all t; omega⟩ : Fin 1024)))
  refine Finset.sum_congr rfl fun s _ => ?_
  rw [term_apply]
  refine Finset.sum_congr rfl fun l _ => ?_
  have e : (4 * (t.val / 4) + s.val) % 4 = s.val := by omega
  have e' : (4 * (t.val / 4) + s.val) / 4 = t.val / 4 := by omega

  simp only [row, row1, e, e']

/-- What the last point of a run writes back. -/
theorem outs_last (c : Dev nD) (t : Fin cfg0.N) (h : t.val % 4 = 3) (r : Fin 1024) (n : Fin 1024) :
    (outsAt0 m c t.val t.isLt).1 (ix2 r n) = G (a0 m c) (a1 m c) (ix2 (row1 t r) (⟨0 * 1024 + n.val, by have := lt_all t; omega⟩ : Fin 1024)) := by
  unfold G
  show _ = entry (a0 m c) (a1 m c) (row1 t r) (⟨0 * 1024 + n.val, by have := lt_all t; omega⟩ : Fin 1024)
  rw [← acc_last m c t h, outsAt0_C m c t (by omega) (by omega) h]
  dsimp only
  rw [out_last, acc_C]
  pointwise [k0_pay4]

/-- What a point writes back is its block of `G`. -/
theorem flushed_G (c : Dev nD) (t : Fin cfg0.N) (hf : (cfg0.win 2).flush t = true) : (dats m 0 c).flushed 2 t =
    ((cfg0.win 2).blk t).view.read (Elt Ideal) (G (a0 m c) (a1 m c)) := by
  have hk : t.val % 4 = 3 := (flush0_2 t).mp hf
  have h := (idx t).2.2
  have ht := lt_all t
  rw [Value.flushed2]
  funext (j : S1024x1024.Idx)
  rw [View.read_apply]
  obtain ⟨r, n, rfl⟩ := Kit.pair j
  have e : (((cfg0.win 2).blk t).view.emb (ix2 r n) : S2048x1024.Idx) = ix2 ⟨t.val / 4 * 1024 + r.val, by omega⟩ ⟨0 * 1024 + n.val, by omega⟩ :=
    Kit.e2 (Kit.at_ 1024 h.1 r) (Kit.at_ 1024 h.2 n)
  refine Eq.trans ?_ (congrArg (G (a0 m c) (a1 m c)) e).symm
  exact outs_last m c t hk r n

/-- An index of the result lies in a block that is written back. -/
theorem cover (i : S2048x1024.Idx) : ∃ t : Fin cfg0.N, (cfg0.win 2).flush t = true ∧ i ∈ ((cfg0.win 2).blk t).view.set := by
  have h0 : (i 0).val < 2048 := (i 0).isLt
  have h1 : (i 1).val < 1024 := (i 1).isLt
  obtain ⟨t, ht⟩ : ∃ t : Fin cfg0.N, t.val = (i 0).val / 1024 * 4 + 3 :=
    ⟨⟨_, by show _ < grid0.N; rw [Gen.N_0]; omega⟩, rfl⟩
  have h := (idx t).2.2
  refine ⟨t, (flush0_2 t).mpr (by omega), ?_⟩
  exact Kit.cov (Fin.forall_fin_two.2 ⟨Kit.mem 1024 _ h.1 (by omega), Kit.mem 1024 _ h.2 (by omega)⟩)

/-- The result array after the run. -/
theorem final (c : Dev nD) : (dats m 0 c).arrAt 2 cfg0.N = G (a0 m c) (a1 m c) :=
  (dats m 0 c).arrAt_eq_of_cover 2 _ (flushed_G m c) cover

end Cert.Kernel28Ideal.Product

namespace Cert.Reference28Ideal.Product

open Gen Read Idealize.ShloMosaic TcCoe Idealize.SL.Sem

/-- The reference computes the same array. -/
theorem result (A : Vec Ideal S8192x2048 .bf16) (B : Vec Ideal S8192x1024 .bf16) : val_main_v7 (F := Ideal) A B = Kernel28Ideal.Product.G A B := by
  funext j
  obtain ⟨r, n, rfl⟩ := Kit.pair j
  unfold Kernel28Ideal.Product.G Kernel28Ideal.Product.entry Kernel28Ideal.Product.prod
  pointwise [val_main_v7, val_main_v6, val_main_v5, val_main_v4, val_main_v3, val_main_v2, val_main_v1, val_main_v0, val_main_cst]

end Cert.Reference28Ideal.Product

namespace Cert.Proof.Product28

open Idealize.ShloMosaic TcCoe Idealize.SL.Sem

/-- The reference leaves its arguments as they were; it has no semaphore. -/
theorem frame_reference : quiescent_Reference28Ideal := fun m ρ _ =>
  (θ_run Reference28Ideal.defs _ _).mono (fun r h => ⟨fun c => (h c).2, sem_eq_zero_of_no_sems (by decide) r.2⟩)
    (Reference28Ideal.Value.run m ρ)

/-- The kernel and the reference leave the same array, the gradient of the pooling mixer's output weight, transposed. -/
theorem algebraic : algebraic_Kernel28Ideal_Reference28Ideal := by
  intro m ρ m' ρ' _ hag
  refine ⟨_, (θ_run Kernel28Ideal.defs _ _).mono
    (fun _ h c => ⟨(h c).1.trans (Kernel28Ideal.Product.final m c), (h c).2⟩)
    (Kernel28Ideal.Value.run_blocks m ρ), ?_⟩
  · refine (θ_run Reference28Ideal.defs _ _).mono (fun _ h c => ⟨(h c).1.trans ?_, (h c).2⟩)
      (Reference28Ideal.Value.run m' ρ')
    refine (Reference28Ideal.Read.val_main_v7_eq _ _).trans ((Reference28Ideal.Product.result _ _).trans ?_)
    rw [(hag c).1, (hag c).2]

end Cert.Proof.Product28

end
-- ==== Proof.Product29.lean ====
module

public import proofs.«01_k».proof.Proof.Kit
public import proofs.«01_k».proof.Proof.Gen.Kernel29Ideal.Value
public import proofs.«01_k».proof.Proof.Gen.Reference29Ideal.Read

@[expose] public section

set_option maxRecDepth 16384

noncomputable section

namespace Cert.Kernel29Ideal.Product

open Gen Idealize.ShloMosaic TcCoe Idealize.SL.Sem
open Idealize.ShloMosaic.Pipeline (Dat)

section Points

variable {F : FTy → Type} [FloatOps F]

variable (c : Dev nD) (i : grid0.Coords) (arg3 : Memref sig .tc .vmem S2048x1024 .bf16) (harg3 : arg3.IsWhole) (arg4 : Memref sig .tc .vmem S2048x512 .bf16) (harg4 : arg4.IsWhole) (arg5 : Memref sig .tc .vmem S1024x512 .bf16) (harg5 : arg5.IsWhole) (arg6 : Memref sig .tc .vmem S1024x512 .f32) (harg6 : arg6.IsWhole)
    (x0 : Vec F S2048x1024 .bf16) (x1 : Vec F S2048x512 .bf16) (acc : Vec F S1024x512 .f32)

/-- What case A leaves in the accumulator. -/
theorem acc_A (hc0 : cond0_0 i) (hc1 : ¬cond0_1 i) (hc2 : ¬cond0_2 i) :
    sout0_A_0 c i arg3 harg3 arg4 harg4 arg5 harg5 arg6 harg6 hc0 hc1 hc2 x0 x1 = k0_pay2 x0 x1 := by
  unfold sout0_A_0
  rw [View.read_writes_eq_canon _ _ _ (scover0_A_0 c i arg3 harg3 arg4 harg4 arg5 harg5 arg6 harg6 hc0 hc1 hc2 x0 x1)]
  unfold kernelRun0_A
  dsimp only
  sl_unfold_words
  rw [View.canon_unit_zero hz2]
  simp only [View.readAt_eq_ld, Memref.IsWhole.read_unread, Kit.ld, View.readCov_unit_zero (S := S1024x512) _ hz2]

/-- What case B leaves in the accumulator. -/
theorem acc_B (hc0 : ¬cond0_0 i) (hc1 : cond0_1 i) (hc2 : ¬cond0_2 i) :
    sout0_B_0 c i arg3 harg3 arg4 harg4 arg5 harg5 arg6 harg6 hc0 hc1 hc2 x0 x1 acc = k0_pay3 x0 x1 acc := by
  unfold sout0_B_0
  rw [View.read_writes_eq_canon _ _ _ (scover0_B_0 c i arg3 harg3 arg4 harg4 arg5 harg5 arg6 harg6 hc0 hc1 hc2 x0 x1 acc)]
  unfold kernelRun0_B
  dsimp only
  sl_unfold_words
  rw [View.canon_unit_zero hz2]
  simp only [View.readAt_eq_ld, Memref.IsWhole.read_unread, Kit.ld, View.readCov_unit_zero (S := S1024x512) _ hz2]

/-- What case C leaves in the accumulator. -/
theorem acc_C (hc0 : ¬cond0_0 i) (hc1 : cond0_1 i) (hc2 : cond0_2 i) :
    sout0_C_0 c i arg3 harg3 arg4 harg4 arg5 harg5 arg6 harg6 hc0 hc1 hc2 x0 x1 acc = k0_pay3 x0 x1 acc := by
  unfold sout0_C_0
  rw [View.read_writes_eq_canon _ _ _ (scover0_C_0 c i arg3 harg3 arg4 harg4 arg5 harg5 arg6 harg6 hc0 hc1 hc2 x0 x1 acc)]
  unfold kernelRun0_C
  dsimp only
  sl_unfold_words
  rw [View.canon_unit_zero hz2]
  simp only [View.readAt_eq_ld, Memref.IsWhole.read_unread, Kit.ld, View.readCov_unit_zero (S := S1024x512) _ hz2]

/-- The last point of a run writes its block of the result from the accumulator. -/
theorem out_last (hc0 : ¬cond0_0 i) (hc1 : cond0_1 i) (hc2 : cond0_2 i) :
    out0_C_2 c i arg3 harg3 arg4 harg4 arg5 harg5 arg6 harg6 hc0 hc1 hc2 x0 x1 acc = k0_pay4 (k0_pay3 x0 x1 acc) := by
  unfold out0_C_2
  rw [View.read_writes_eq_canon _ _ _ (cover0_C_2 _ _ _ _ _ _ _ _ _ _ _ _ _ _ _ _)]
  unfold kernelRun0_C
  dsimp only
  sl_unfold_words
  rw [View.canon_unit_zero hz2]
  simp only [View.readAt_eq_ld, Memref.IsWhole.read_unread, Kit.ld, View.readCov_unit_zero (S := S1024x512) _ hz2]

end Points

variable (m : (ℓ : Loc nD τ sig) → Buf (Elt Ideal) ℓ)

/-- The arguments at launch. -/
abbrev a0 (c : Dev nD) : Vec Ideal S8192x2048 .bf16 := m ((c : Thread nD τ).loc main_arg0)
@[inherit_doc a0] abbrev a1 (c : Dev nD) : Vec Ideal S8192x512 .bf16 := m ((c : Thread nD τ).loc main_arg1)

/-- Which blocks a point reads and writes. -/
theorem idx : ∀ t : Fin grid0.N, (win0_0.index t 0 = t.val % 4 ∧ win0_0.index t 1 = t.val / 4) ∧ (win0_1.index t 0 = t.val % 4 ∧ win0_1.index t 1 = 0) ∧ (win0_2.index t 0 = t.val / 4 ∧ win0_2.index t 1 = 0) := by
  decide +kernel

/-- A point's number is below 8. -/
theorem lt_all (t : Fin cfg0.N) : t.val < 8 := lt_of_lt_of_eq t.isLt N_0

/-- A row or column of a point's block, in the whole array. -/
abbrev row (t : Fin cfg0.N) (r : Fin 2048) : Fin 8192 := ⟨t.val % 4 * 2048 + r.val, by have := lt_all t; omega⟩

/-- A row or column of a point's block, in the whole array. -/
abbrev row1 (t : Fin cfg0.N) (r : Fin 1024) : Fin 2048 := ⟨t.val / 4 * 1024 + r.val, by have := lt_all t; omega⟩

/-- One summand of the product, at a row and a column. -/
def prod (A : Vec Ideal S8192x2048 .bf16) (B : Vec Ideal S8192x512 .bf16) (r : Fin 2048) (n : Fin 512) (q : Fin 8192) : EReal :=
  A (ix2 q r) * B (ix2 q n)

/-- The product, at a row and a column. -/
def entry (A : Vec Ideal S8192x2048 .bf16) (B : Vec Ideal S8192x512 .bf16) (r : Fin 2048) (n : Fin 512) : EReal :=
  ∑ q : Fin 8192, prod A B r n q

/-- The result: the gradient of the attention mixer's output weight, transposed. -/
def G (A : Vec Ideal S8192x2048 .bf16) (B : Vec Ideal S8192x512 .bf16) : Vec Ideal S2048x512 .bf16 := fun j => entry A B (j 0) (j 1)

/-- Block 0 of a point, at an element. -/
theorem blk0 (c : Dev nD) (t : Fin cfg0.N) (r : Fin 1024) (l : Fin 2048) :
    (iblk m c 0 t : Vec Ideal S2048x1024 .bf16) (ix2 l r) = a0 m c (ix2 (row t l) (row1 t r)) := by
  have h := (idx t).1
  exact (congrFun (V_main_arg0 m c) _).trans (congrArg _ (Kit.e2 (Kit.at_ 2048 h.1 l) (Kit.at_ 1024 h.2 r)))

/-- Block 1 of a point, at an element. -/
theorem blk1 (c : Dev nD) (t : Fin cfg0.N) (l : Fin 2048) (n : Fin 512) :
    (iblk m c 1 t : Vec Ideal S2048x512 .bf16) (ix2 l n) = a1 m c (ix2 (row t l) (⟨0 * 512 + n.val, by have := lt_all t; omega⟩ : Fin 512)) := by
  have h := (idx t).2.1
  exact (congrFun (V_main_arg1 m c) _).trans (congrArg _ (Kit.e2 (Kit.at_ 2048 h.1 l) (Kit.at_ 512 h.2 n)))

/-- The product of two blocks, at an element. -/
theorem mm_apply (a : Vec Ideal S2048x1024 .bf16) (b : Vec Ideal S2048x512 .bf16) (r : Fin 1024) (n : Fin 512) :
    k0_pay1 a b (ix2 r n) = ∑ l : Fin 2048, (a (ix2 l r) * b (ix2 l n) : EReal) := by
  pointwise [k0_pay1]

/-- One point's share of the product. -/
def term (c : Dev nD) (t : Fin cfg0.N) : S1024x512.Idx → EReal := k0_pay1 (iblk m c 0 t) (iblk m c 1 t)

/-- A point's share, at an element, in the whole arrays. -/
theorem term_apply (c : Dev nD) (t : Fin cfg0.N) (r : Fin 1024) (n : Fin 512) :
    term m c t (ix2 r n) = ∑ l : Fin 2048, prod (a0 m c) (a1 m c) (row1 t r) (⟨0 * 512 + n.val, by have := lt_all t; omega⟩ : Fin 512) (row t l) := by
  unfold term
  rw [mm_apply]
  refine Finset.sum_congr rfl fun l _ => ?_
  rw [blk0, blk1]
  rfl

/-- A run's first point sets the accumulator. -/
theorem acc_first (c : Dev nD) (t : Fin cfg0.N) (h0 : t.val % 4 = 0) (i : S1024x512.Idx) :
    (outsAt0 m c t.val t.isLt).2 i = 0 + term m c t i := by
  rw [outsAt0_A m c t h0 (by omega) (by omega)]
  dsimp only
  rw [acc_A]
  rw [zero_add]
  unfold k0_pay2 term
  rw [shapeCast_self]

/-- Every other point adds to it. -/
theorem acc_next (c : Dev nD) (t : Fin cfg0.N) (h0 : ¬t.val % 4 = 0) (i : S1024x512.Idx) :
    (outsAt0 m c t.val t.isLt).2 i
      = (outsAt0 m c (t.val - 1) (Nat.lt_of_le_of_lt (Nat.sub_le _ _) t.isLt)).2 i + term m c t i := by
  by_cases h2 : t.val % 4 = 3
  · rw [outsAt0_C m c t h0 (by omega) h2]
    dsimp only
    rw [acc_C]
    unfold k0_pay3 term
    rw [shapeCast_self]
    rfl
  · rw [outsAt0_B m c t h0 (by omega) h2]
    dsimp only
    rw [acc_B]
    unfold k0_pay3 term
    rw [shapeCast_self]
    rfl

/-- The accumulator at the end of a run holds the whole product. -/
theorem acc_last (c : Dev nD) (t : Fin cfg0.N) (h : t.val % 4 = 3) (r : Fin 1024) (n : Fin 512) :
    (outsAt0 m c t.val t.isLt).2 (ix2 r n) = entry (a0 m c) (a1 m c) (row1 t r) (⟨0 * 512 + n.val, by have := lt_all t; omega⟩ : Fin 512) := by
  have key := Pipeline.eq_sum_fin_of_reset_step_apply_of_flush (fun n h => (outsAt0 m c n h).2) 4 (fun _ => (0 : EReal)) (term m c)
    (acc_first m c) (acc_next m c) t h (ix2 r n)
  refine key.trans ?_
  rw [zero_add]
  unfold entry
  refine Eq.trans ?_ (Fin.sum_mul_add_fin 4 2048 (prod (a0 m c) (a1 m c) (row1 t r) (⟨0 * 512 + n.val, by have := lt_all t; omega⟩ : Fin 512)))
  refine Finset.sum_congr rfl fun s _ => ?_
  rw [term_apply]
  refine Finset.sum_congr rfl fun l _ => ?_
  have e : (4 * (t.val / 4) + s.val) % 4 = s.val := by omega
  have e' : (4 * (t.val / 4) + s.val) / 4 = t.val / 4 := by omega

  simp only [row, row1, e, e']

/-- What the last point of a run writes back. -/
theorem outs_last (c : Dev nD) (t : Fin cfg0.N) (h : t.val % 4 = 3) (r : Fin 1024) (n : Fin 512) :
    (outsAt0 m c t.val t.isLt).1 (ix2 r n) = G (a0 m c) (a1 m c) (ix2 (row1 t r) (⟨0 * 512 + n.val, by have := lt_all t; omega⟩ : Fin 512)) := by
  unfold G
  show _ = entry (a0 m c) (a1 m c) (row1 t r) (⟨0 * 512 + n.val, by have := lt_all t; omega⟩ : Fin 512)
  rw [← acc_last m c t h, outsAt0_C m c t (by omega) (by omega) h]
  dsimp only
  rw [out_last, acc_C]
  pointwise [k0_pay4]

/-- What a point writes back is its block of `G`. -/
theorem flushed_G (c : Dev nD) (t : Fin cfg0.N) (hf : (cfg0.win 2).flush t = true) : (dats m 0 c).flushed 2 t =
    ((cfg0.win 2).blk t).view.read (Elt Ideal) (G (a0 m c) (a1 m c)) := by
  have hk : t.val % 4 = 3 := (flush0_2 t).mp hf
  have h := (idx t).2.2
  have ht := lt_all t
  rw [Value.flushed2]
  funext (j : S1024x512.Idx)
  rw [View.read_apply]
  obtain ⟨r, n, rfl⟩ := Kit.pair j
  have e : (((cfg0.win 2).blk t).view.emb (ix2 r n) : S2048x512.Idx) = ix2 ⟨t.val / 4 * 1024 + r.val, by omega⟩ ⟨0 * 512 + n.val, by omega⟩ :=
    Kit.e2 (Kit.at_ 1024 h.1 r) (Kit.at_ 512 h.2 n)
  refine Eq.trans ?_ (congrArg (G (a0 m c) (a1 m c)) e).symm
  exact outs_last m c t hk r n

/-- An index of the result lies in a block that is written back. -/
theorem cover (i : S2048x512.Idx) : ∃ t : Fin cfg0.N, (cfg0.win 2).flush t = true ∧ i ∈ ((cfg0.win 2).blk t).view.set := by
  have h0 : (i 0).val < 2048 := (i 0).isLt
  have h1 : (i 1).val < 512 := (i 1).isLt
  obtain ⟨t, ht⟩ : ∃ t : Fin cfg0.N, t.val = (i 0).val / 1024 * 4 + 3 :=
    ⟨⟨_, by show _ < grid0.N; rw [Gen.N_0]; omega⟩, rfl⟩
  have h := (idx t).2.2
  refine ⟨t, (flush0_2 t).mpr (by omega), ?_⟩
  exact Kit.cov (Fin.forall_fin_two.2 ⟨Kit.mem 1024 _ h.1 (by omega), Kit.mem 512 _ h.2 (by omega)⟩)

/-- The result array after the run. -/
theorem final (c : Dev nD) : (dats m 0 c).arrAt 2 cfg0.N = G (a0 m c) (a1 m c) :=
  (dats m 0 c).arrAt_eq_of_cover 2 _ (flushed_G m c) cover

end Cert.Kernel29Ideal.Product

namespace Cert.Reference29Ideal.Product

open Gen Read Idealize.ShloMosaic TcCoe Idealize.SL.Sem

/-- The reference computes the same array. -/
theorem result (A : Vec Ideal S8192x2048 .bf16) (B : Vec Ideal S8192x512 .bf16) : val_main_v7 (F := Ideal) A B = Kernel29Ideal.Product.G A B := by
  funext j
  obtain ⟨r, n, rfl⟩ := Kit.pair j
  unfold Kernel29Ideal.Product.G Kernel29Ideal.Product.entry Kernel29Ideal.Product.prod
  pointwise [val_main_v7, val_main_v6, val_main_v5, val_main_v4, val_main_v3, val_main_v2, val_main_v1, val_main_v0, val_main_cst]

end Cert.Reference29Ideal.Product

namespace Cert.Proof.Product29

open Idealize.ShloMosaic TcCoe Idealize.SL.Sem

/-- The reference leaves its arguments as they were; it has no semaphore. -/
theorem frame_reference : quiescent_Reference29Ideal := fun m ρ _ =>
  (θ_run Reference29Ideal.defs _ _).mono (fun r h => ⟨fun c => (h c).2, sem_eq_zero_of_no_sems (by decide) r.2⟩)
    (Reference29Ideal.Value.run m ρ)

/-- The kernel and the reference leave the same array, the gradient of the attention mixer's output weight, transposed. -/
theorem algebraic : algebraic_Kernel29Ideal_Reference29Ideal := by
  intro m ρ m' ρ' _ hag
  refine ⟨_, (θ_run Kernel29Ideal.defs _ _).mono
    (fun _ h c => ⟨(h c).1.trans (Kernel29Ideal.Product.final m c), (h c).2⟩)
    (Kernel29Ideal.Value.run_blocks m ρ), ?_⟩
  · refine (θ_run Reference29Ideal.defs _ _).mono (fun _ h c => ⟨(h c).1.trans ?_, (h c).2⟩)
      (Reference29Ideal.Value.run m' ρ')
    refine (Reference29Ideal.Read.val_main_v7_eq _ _).trans ((Reference29Ideal.Product.result _ _).trans ?_)
    rw [(hag c).1, (hag c).2]

end Cert.Proof.Product29

end
-- ==== Proof.MixArray.lean ====
/- The backward pass of the two gates and the product that mixes the branches: the kernel's arrays. -/
module

public import proofs.«01_k».proof.Proof.Kit
public import proofs.«01_k».proof.Proof.Gen.Kernel30Ideal.Value
public import proofs.«01_k».proof.Proof.Gen.Reference30Ideal.Read

@[expose] public section

set_option maxRecDepth 16384

noncomputable section

namespace Cert.Kernel30Ideal.Mix

open Gen Idealize.ShloMosaic TcCoe Idealize.SL.Sem
open Idealize.ShloMosaic.Pipeline (Dat)

section Points

variable {F : FTy → Type} [FloatOps F]
variable (c : Dev nD) (i : grid0.Coords) (arg1 : Memref sig .tc .vmem S256x2048 .bf16) (harg1 : arg1.IsWhole) (arg2 : Memref sig .tc .vmem S2048x2048 .bf16) (harg2 : arg2.IsWhole) (arg3 : Memref sig .tc .vmem S256x4096 .bf16) (harg3 : arg3.IsWhole) (arg4 : Memref sig .tc .vmem S1x4096 .f32) (harg4 : arg4.IsWhole) (arg5 : Memref sig .tc .vmem S256x2048 .bf16) (harg5 : arg5.IsWhole) (arg6 : Memref sig .tc .vmem S256x2048 .bf16) (harg6 : arg6.IsWhole) (arg7 : Memref sig .tc .vmem S256x2048 .bf16) (harg7 : arg7.IsWhole) (arg8 : Memref sig .tc .vmem S256x2048 .bf16) (harg8 : arg8.IsWhole) (arg9 : Memref sig .tc .vmem S256x4096 .bf16) (harg9 : arg9.IsWhole) (arg10 : Memref sig .tc .vmem S1x4096 .f32) (harg10 : arg10.IsWhole)
variable (x0 : Vec F S256x2048 .bf16) (x1 : Vec F S2048x2048 .bf16) (x2 : Vec F S256x4096 .bf16) (x3 : Vec F S1x4096 .f32) (x4 : Vec F S256x2048 .bf16) (x5 : Vec F S256x2048 .bf16) (xo : Vec F S1x4096 .f32)

/-- The gates of the first half of the columns, and of the second. -/
def gate0 (x2 : Vec F S256x4096 .bf16) (x3 : Vec F S1x4096 .f32) : FVec F S256x2048 .f32 :=
  k0_pay12 (View.ld x2 (Rect.unit ![0, 0] S256x2048.size inb_S256x4096_S256x2048_0_0)) (View.ld x3 (Rect.unit ![0, 0] S1x2048.size inb_S1x4096_S1x2048_0_0))
@[inherit_doc gate0]
def gate1 (x2 : Vec F S256x4096 .bf16) (x3 : Vec F S1x4096 .f32) : FVec F S256x2048 .f32 :=
  k0_pay12 (View.ld x2 (Rect.unit ![0, 2048] S256x2048.size inb_S256x4096_S256x2048_0_2048)) (View.ld x3 (Rect.unit ![0, 2048] S1x2048.size inb_S1x4096_S1x2048_0_2048))

/-- The gates' gradient in a block of rows: half by half. -/
def dgBlk (x0 : Vec F S256x2048 .bf16) (x1 : Vec F S2048x2048 .bf16) (x2 : Vec F S256x4096 .bf16) (x3 : Vec F S1x4096 .f32) (x4 : Vec F S256x2048 .bf16) (x5 : Vec F S256x2048 .bf16) : Vec F S256x4096 .bf16 :=
  View.canon [⟨Rect.unit ![0, 2048] S256x2048.size inb_S256x4096_S256x2048_0_2048, k0_pay2 (k0_pay6 x0 x1) (gate1 x2 x3) x5⟩,
    ⟨Rect.unit ![0, 0] S256x2048.size inb_S256x4096_S256x2048_0_0, k0_pay2 (k0_pay6 x0 x1) (gate0 x2 x3) x4⟩]

/-- Its column sums. -/
def dbBlk (x0 : Vec F S256x2048 .bf16) (x1 : Vec F S2048x2048 .bf16) (x2 : Vec F S256x4096 .bf16) (x3 : Vec F S1x4096 .f32) (x4 : Vec F S256x2048 .bf16) (x5 : Vec F S256x2048 .bf16) : Vec F S1x4096 .f32 :=
  View.canon [⟨Rect.unit ![0, 2048] S1x2048.size inb_S1x4096_S1x2048_0_2048, k0_pay3 (k0_pay6 x0 x1) (gate1 x2 x3) x5⟩,
    ⟨Rect.unit ![0, 0] S1x2048.size inb_S1x4096_S1x2048_0_0, k0_pay3 (k0_pay6 x0 x1) (gate0 x2 x3) x4⟩]

/-- Its column sums, added to what is there. -/
def dbAdd (x0 : Vec F S256x2048 .bf16) (x1 : Vec F S2048x2048 .bf16) (x2 : Vec F S256x4096 .bf16) (x3 : Vec F S1x4096 .f32) (x4 : Vec F S256x2048 .bf16) (x5 : Vec F S256x2048 .bf16) (xo : Vec F S1x4096 .f32) : Vec F S1x4096 .f32 :=
  View.canon [⟨Rect.unit ![0, 2048] S1x2048.size inb_S1x4096_S1x2048_0_2048, k0_pay5 (k0_pay6 x0 x1) (gate1 x2 x3) x5 (View.ld xo (Rect.unit ![0, 2048] S1x2048.size inb_S1x4096_S1x2048_0_2048))⟩,
    ⟨Rect.unit ![0, 0] S1x2048.size inb_S1x4096_S1x2048_0_0, k0_pay5 (k0_pay6 x0 x1) (gate0 x2 x3) x4 (View.ld xo (Rect.unit ![0, 0] S1x2048.size inb_S1x4096_S1x2048_0_0))⟩]

/-- What case A leaves for output 6. -/
theorem out_A_6 (hc0 : cond0_0 i) (hc1 : ¬cond0_1 i) :
    out0_A_6 c i arg1 harg1 arg2 harg2 arg3 harg3 arg4 harg4 arg5 harg5 arg6 harg6 arg7 harg7 arg8 harg8 arg9 harg9 arg10 harg10 hc0 hc1 x0 x1 x2 x3 x4 x5 = k0_pay13 x0 x1 (View.ld x2 (Rect.unit ![0, 0] S256x2048.size inb_S256x4096_S256x2048_0_0)) (View.ld x3 (Rect.unit ![0, 0] S1x2048.size inb_S1x4096_S1x2048_0_0)) := by
  unfold out0_A_6
  rw [View.read_writes_eq_canon _ _ _ (cover0_A_6 _ _ _ _ _ _ _ _ _ _ _ _ _ _ _ _ _ _ _ _ _ _ _ _ _ _ _ _ _ _)]
  unfold kernelRun0_A
  dsimp only
  sl_unfold_words
  rw [View.canon_unit_zero hz2]
  simp only [View.readAt_eq_ld, Memref.IsWhole.read_unread, Kit.ld]
  rfl

/-- What case A leaves for output 7. -/
theorem out_A_7 (hc0 : cond0_0 i) (hc1 : ¬cond0_1 i) :
    out0_A_7 c i arg1 harg1 arg2 harg2 arg3 harg3 arg4 harg4 arg5 harg5 arg6 harg6 arg7 harg7 arg8 harg8 arg9 harg9 arg10 harg10 hc0 hc1 x0 x1 x2 x3 x4 x5 = k0_pay13 x0 x1 (View.ld x2 (Rect.unit ![0, 2048] S256x2048.size inb_S256x4096_S256x2048_0_2048)) (View.ld x3 (Rect.unit ![0, 2048] S1x2048.size inb_S1x4096_S1x2048_0_2048)) := by
  unfold out0_A_7
  rw [View.read_writes_eq_canon _ _ _ (cover0_A_7 _ _ _ _ _ _ _ _ _ _ _ _ _ _ _ _ _ _ _ _ _ _ _ _ _ _ _ _ _ _)]
  unfold kernelRun0_A
  dsimp only
  sl_unfold_words
  rw [View.canon_unit_zero hz2]
  simp only [View.readAt_eq_ld, Memref.IsWhole.read_unread, Kit.ld]

/-- What case A leaves for output 8. -/
theorem out_A_8 (hc0 : cond0_0 i) (hc1 : ¬cond0_1 i) :
    out0_A_8 c i arg1 harg1 arg2 harg2 arg3 harg3 arg4 harg4 arg5 harg5 arg6 harg6 arg7 harg7 arg8 harg8 arg9 harg9 arg10 harg10 hc0 hc1 x0 x1 x2 x3 x4 x5 = dgBlk x0 x1 x2 x3 x4 x5 := by
  unfold out0_A_8
  rw [View.read_writes_eq_canon _ _ _ (cover0_A_8 _ _ _ _ _ _ _ _ _ _ _ _ _ _ _ _ _ _ _ _ _ _ _ _ _ _ _ _ _ _)]
  unfold kernelRun0_A
  dsimp only
  sl_unfold_words
  simp only [View.readAt_eq_ld, Memref.IsWhole.read_unread, Kit.ld]
  rfl

/-- What case A leaves for output 9. -/
theorem out_A_9 (hc0 : cond0_0 i) (hc1 : ¬cond0_1 i) :
    out0_A_9 c i arg1 harg1 arg2 harg2 arg3 harg3 arg4 harg4 arg5 harg5 arg6 harg6 arg7 harg7 arg8 harg8 arg9 harg9 arg10 harg10 hc0 hc1 x0 x1 x2 x3 x4 x5 = dbBlk x0 x1 x2 x3 x4 x5 := by
  unfold out0_A_9
  rw [View.read_writes_eq_canon _ _ _ (cover0_A_9 _ _ _ _ _ _ _ _ _ _ _ _ _ _ _ _ _ _ _ _ _ _ _ _ _ _ _ _ _ _)]
  unfold kernelRun0_A
  dsimp only
  sl_unfold_words
  simp only [View.readAt_eq_ld, Memref.IsWhole.read_unread, Kit.ld]
  rfl

/-- What case B leaves for output 6. -/
theorem out_B_6 (hc0 : ¬cond0_0 i) (hc1 : cond0_1 i) :
    out0_B_6 c i arg1 harg1 arg2 harg2 arg3 harg3 arg4 harg4 arg5 harg5 arg6 harg6 arg7 harg7 arg8 harg8 arg9 harg9 arg10 harg10 hc0 hc1 x0 x1 x2 x3 x4 x5 xo = k0_pay13 x0 x1 (View.ld x2 (Rect.unit ![0, 0] S256x2048.size inb_S256x4096_S256x2048_0_0)) (View.ld x3 (Rect.unit ![0, 0] S1x2048.size inb_S1x4096_S1x2048_0_0)) := by
  unfold out0_B_6
  rw [View.read_writes_eq_canon _ _ _ (cover0_B_6 _ _ _ _ _ _ _ _ _ _ _ _ _ _ _ _ _ _ _ _ _ _ _ _ _ _ _ _ _ _ _)]
  unfold kernelRun0_B
  dsimp only
  sl_unfold_words
  rw [View.canon_unit_zero hz2]
  simp only [View.readAt_eq_ld, Memref.IsWhole.read_unread, Kit.ld]
  rfl

/-- What case B leaves for output 7. -/
theorem out_B_7 (hc0 : ¬cond0_0 i) (hc1 : cond0_1 i) :
    out0_B_7 c i arg1 harg1 arg2 harg2 arg3 harg3 arg4 harg4 arg5 harg5 arg6 harg6 arg7 harg7 arg8 harg8 arg9 harg9 arg10 harg10 hc0 hc1 x0 x1 x2 x3 x4 x5 xo = k0_pay13 x0 x1 (View.ld x2 (Rect.unit ![0, 2048] S256x2048.size inb_S256x4096_S256x2048_0_2048)) (View.ld x3 (Rect.unit ![0, 2048] S1x2048.size inb_S1x4096_S1x2048_0_2048)) := by
  unfold out0_B_7
  rw [View.read_writes_eq_canon _ _ _ (cover0_B_7 _ _ _ _ _ _ _ _ _ _ _ _ _ _ _ _ _ _ _ _ _ _ _ _ _ _ _ _ _ _ _)]
  unfold kernelRun0_B
  dsimp only
  sl_unfold_words
  rw [View.canon_unit_zero hz2]
  simp only [View.readAt_eq_ld, Memref.IsWhole.read_unread, Kit.ld]

/-- What case B leaves for output 8. -/
theorem out_B_8 (hc0 : ¬cond0_0 i) (hc1 : cond0_1 i) :
    out0_B_8 c i arg1 harg1 arg2 harg2 arg3 harg3 arg4 harg4 arg5 harg5 arg6 harg6 arg7 harg7 arg8 harg8 arg9 harg9 arg10 harg10 hc0 hc1 x0 x1 x2 x3 x4 x5 xo = dgBlk x0 x1 x2 x3 x4 x5 := by
  unfold out0_B_8
  rw [View.read_writes_eq_canon _ _ _ (cover0_B_8 _ _ _ _ _ _ _ _ _ _ _ _ _ _ _ _ _ _ _ _ _ _ _ _ _ _ _ _ _ _ _)]
  unfold kernelRun0_B
  dsimp only
  sl_unfold_words
  simp only [View.readAt_eq_ld, Memref.IsWhole.read_unread, Kit.ld, harg10.read_unread]
  rfl

/-- What case B leaves for output 9. -/
theorem out_B_9 (hc0 : ¬cond0_0 i) (hc1 : cond0_1 i) :
    out0_B_9 c i arg1 harg1 arg2 harg2 arg3 harg3 arg4 harg4 arg5 harg5 arg6 harg6 arg7 harg7 arg8 harg8 arg9 harg9 arg10 harg10 hc0 hc1 x0 x1 x2 x3 x4 x5 xo = dbAdd x0 x1 x2 x3 x4 x5 xo := by
  unfold out0_B_9
  rw [View.read_writes_eq_canon _ _ _ (cover0_B_9 _ _ _ _ _ _ _ _ _ _ _ _ _ _ _ _ _ _ _ _ _ _ _ _ _ _ _ _ _ _ _)]
  unfold kernelRun0_B
  dsimp only
  sl_unfold_words
  simp only [View.readAt_eq_ld, Memref.IsWhole.read_unread, Kit.ld, harg10.read_unread]
  rfl

end Points

/-- Column `k` of the first half, and of the second. -/
def lo (k : Fin 2048) : Fin 4096 := ⟨k.val, by omega⟩
@[inherit_doc lo]
def hi (k : Fin 2048) : Fin 4096 := ⟨2048 + k.val, by omega⟩

/-- Where half `lo` of a block of columns lies. -/
theorem emb8_lo (r : Fin 256) (k : Fin 2048) : (Rect.unit (s := S256x4096) ![0, 0] S256x2048.size inb_S256x4096_S256x2048_0_0).emb (ix2 r k) = ix2 r (lo k) :=
    Kit.e2 (Kit.z r) (Kit.z k)

/-- A block read in half `lo`. -/
theorem ld8_lo {e : EltTy} (x : Vec Ideal S256x4096 e) (r : Fin 256) (k : Fin 2048) : (View.ld x (Rect.unit (s := S256x4096) ![0, 0] S256x2048.size inb_S256x4096_S256x2048_0_0) : Vec Ideal S256x2048 e) (ix2 r k) = x (ix2 r (lo k)) :=
  congrArg x (emb8_lo r k)

/-- Where half `hi` of a block of columns lies. -/
theorem emb8_hi (r : Fin 256) (k : Fin 2048) : (Rect.unit (s := S256x4096) ![0, 2048] S256x2048.size inb_S256x4096_S256x2048_0_2048).emb (ix2 r k) = ix2 r (hi k) :=
    Kit.e2 (Kit.z r) (by show 2048 + 1 * k.val = 2048 + k.val; omega)

/-- A block read in half `hi`. -/
theorem ld8_hi {e : EltTy} (x : Vec Ideal S256x4096 e) (r : Fin 256) (k : Fin 2048) : (View.ld x (Rect.unit (s := S256x4096) ![0, 2048] S256x2048.size inb_S256x4096_S256x2048_0_2048) : Vec Ideal S256x2048 e) (ix2 r k) = x (ix2 r (hi k)) :=
  congrArg x (emb8_hi r k)

/-- A block written half by half, in the second half. -/
theorem canon8_hi (p q : Vec Ideal S256x2048 .bf16) (r : Fin 256) (k : Fin 2048) :
    (View.canon [⟨Rect.unit (s := S256x4096) ![0, 2048] S256x2048.size inb_S256x4096_S256x2048_0_2048, p⟩, ⟨Rect.unit (s := S256x4096) ![0, 0] S256x2048.size inb_S256x4096_S256x2048_0_0, q⟩] : Vec Ideal S256x4096 .bf16) (ix2 r (hi k)) = p (ix2 r k) := by
  rw [← emb8_hi, View.canon_cons_emb]

/-- A block written half by half, in the first half. -/
theorem canon8_lo (p q : Vec Ideal S256x2048 .bf16) (r : Fin 256) (k : Fin 2048) :
    (View.canon [⟨Rect.unit (s := S256x4096) ![0, 2048] S256x2048.size inb_S256x4096_S256x2048_0_2048, p⟩, ⟨Rect.unit (s := S256x4096) ![0, 0] S256x2048.size inb_S256x4096_S256x2048_0_0, q⟩] : Vec Ideal S256x4096 .bf16) (ix2 r (lo k)) = q (ix2 r k) := by
  rw [View.canon_cons_of_not_mem _ _ (by rw [Rect.mem_set_unit]; intro h; have h0 := (h 1).1; change 2048 ≤ k.val at h0; omega)]
  rw [← emb8_lo, View.canon_cons_emb]

/-- Where half `lo` of a block of columns lies. -/
theorem emb9_lo (k : Fin 2048) : (Rect.unit (s := S1x4096) ![0, 0] S1x2048.size inb_S1x4096_S1x2048_0_0).emb (ix2 0 k) = ix2 0 (lo k) :=
    Kit.e2 (by show 0 + 1 * 0 = 0; omega) (Kit.z k)

/-- A block read in half `lo`. -/
theorem ld9_lo {e : EltTy} (x : Vec Ideal S1x4096 e) (k : Fin 2048) : (View.ld x (Rect.unit (s := S1x4096) ![0, 0] S1x2048.size inb_S1x4096_S1x2048_0_0) : Vec Ideal S1x2048 e) (ix2 0 k) = x (ix2 0 (lo k)) :=
  congrArg x (emb9_lo k)

/-- Where half `hi` of a block of columns lies. -/
theorem emb9_hi (k : Fin 2048) : (Rect.unit (s := S1x4096) ![0, 2048] S1x2048.size inb_S1x4096_S1x2048_0_2048).emb (ix2 0 k) = ix2 0 (hi k) :=
    Kit.e2 (by show 0 + 1 * 0 = 0; omega) (by show 2048 + 1 * k.val = 2048 + k.val; omega)

/-- A block read in half `hi`. -/
theorem ld9_hi {e : EltTy} (x : Vec Ideal S1x4096 e) (k : Fin 2048) : (View.ld x (Rect.unit (s := S1x4096) ![0, 2048] S1x2048.size inb_S1x4096_S1x2048_0_2048) : Vec Ideal S1x2048 e) (ix2 0 k) = x (ix2 0 (hi k)) :=
  congrArg x (emb9_hi k)

/-- A block written half by half, in the second half. -/
theorem canon9_hi (p q : Vec Ideal S1x2048 .f32) (k : Fin 2048) :
    (View.canon [⟨Rect.unit (s := S1x4096) ![0, 2048] S1x2048.size inb_S1x4096_S1x2048_0_2048, p⟩, ⟨Rect.unit (s := S1x4096) ![0, 0] S1x2048.size inb_S1x4096_S1x2048_0_0, q⟩] : Vec Ideal S1x4096 .f32) (ix2 0 (hi k)) = p (ix2 0 k) := by
  rw [← emb9_hi, View.canon_cons_emb]

/-- A block written half by half, in the first half. -/
theorem canon9_lo (p q : Vec Ideal S1x2048 .f32) (k : Fin 2048) :
    (View.canon [⟨Rect.unit (s := S1x4096) ![0, 2048] S1x2048.size inb_S1x4096_S1x2048_0_2048, p⟩, ⟨Rect.unit (s := S1x4096) ![0, 0] S1x2048.size inb_S1x4096_S1x2048_0_0, q⟩] : Vec Ideal S1x4096 .f32) (ix2 0 (lo k)) = q (ix2 0 k) := by
  rw [View.canon_cons_of_not_mem _ _ (by rw [Rect.mem_set_unit]; intro h; have h0 := (h 1).1; change 2048 ≤ k.val at h0; omega)]
  rw [← emb9_lo, View.canon_cons_emb]

/-- The gradient of a gate's argument: the mixed value's gradient `d`, the branch's value `y` and the gate `g`. -/
def dq (d g y : EReal) : EReal := d * y * g * (1 - g)

/-- The gate's derivative, as the body writes it. -/
theorem pay2_apply (v3 v29 : FVec Ideal S256x2048 .f32) (v33 : Vec Ideal S256x2048 .bf16) (r : Fin 256) (k : Fin 2048) :
    k0_pay2 v3 v29 v33 (ix2 r k) = dq (v3 (ix2 r k)) (v29 (ix2 r k)) (v33 (ix2 r k)) := by
  unfold dq
  pointwise [k0_pay2, k0_pay1]

/-- A block's column sums. -/
theorem pay3_apply (v3 v29 : FVec Ideal S256x2048 .f32) (v33 : Vec Ideal S256x2048 .bf16) (k : Fin 2048) :
    k0_pay3 v3 v29 v33 (ix2 0 k) = (∑ r : Fin 256, dq (v3 (ix2 r k)) (v29 (ix2 r k)) (v33 (ix2 r k)) : EReal) := by
  unfold dq
  pointwise [k0_pay3, k0_pay1]

/-- The mixed value's gradient in a block. -/
theorem pay6_apply (x0 : Vec Ideal S256x2048 .bf16) (x1 : Vec Ideal S2048x2048 .bf16) (r : Fin 256) (k : Fin 2048) :
    k0_pay6 x0 x1 (ix2 r k) = (∑ l : Fin 2048, x0 (ix2 r l) * x1 (ix2 k l) : EReal) := by
  pointwise [k0_pay6]

/-- The gates in a block. -/
theorem pay12_apply (v : Vec Ideal S256x2048 .bf16) (b : Vec Ideal S1x2048 .f32) (r : Fin 256) (k : Fin 2048) :
    k0_pay12 v b (ix2 r k) = Ideal.logistic (v (ix2 r k) + b (ix2 0 k)) := by
  pointwise [k0_pay12]

/-- A branch's gradient in a block. -/
theorem pay13_apply (x0 : Vec Ideal S256x2048 .bf16) (x1 : Vec Ideal S2048x2048 .bf16) (v : Vec Ideal S256x2048 .bf16) (b : Vec Ideal S1x2048 .f32)
    (r : Fin 256) (k : Fin 2048) : k0_pay13 x0 x1 v b (ix2 r k) = (k0_pay6 x0 x1 (ix2 r k) * k0_pay12 v b (ix2 r k) : EReal) := by
  unfold k0_pay13
  generalize k0_pay6 x0 x1 = p
  generalize k0_pay12 v b = q
  pointwise []

/-- The mixed value's gradient: the cotangent times the transposed weight. -/
def D (dx : Vec Ideal S8192x2048 .bf16) (w : Vec Ideal S2048x2048 .f32) (s : Fin 8192) (k : Fin 2048) : EReal :=
  ∑ l : Fin 2048, dx (ix2 s l) * w (ix2 k l)

/-- A gate. -/
def G (gp : Vec Ideal S8192x4096 .bf16) (b : Vec Ideal S1x4096 .f32) (s : Fin 8192) (n : Fin 4096) : EReal :=
  Ideal.logistic (gp (ix2 s n) + b (ix2 0 n))

/-- The first branch's gradient, and the second's. -/
def DY0 (dx : Vec Ideal S8192x2048 .bf16) (w : Vec Ideal S2048x2048 .f32) (gp : Vec Ideal S8192x4096 .bf16) (b : Vec Ideal S1x4096 .f32) : Vec Ideal S8192x2048 .bf16 :=
  fun j => D dx w (j 0) (j 1) * G gp b (j 0) (lo (j 1))
@[inherit_doc DY0]
def DY1 (dx : Vec Ideal S8192x2048 .bf16) (w : Vec Ideal S2048x2048 .f32) (gp : Vec Ideal S8192x4096 .bf16) (b : Vec Ideal S1x4096 .f32) : Vec Ideal S8192x2048 .bf16 :=
  fun j => D dx w (j 0) (j 1) * G gp b (j 0) (hi (j 1))

/-- The gradient of a gate's argument. -/
def dgv (dx : Vec Ideal S8192x2048 .bf16) (w : Vec Ideal S2048x2048 .f32) (gp : Vec Ideal S8192x4096 .bf16) (b : Vec Ideal S1x4096 .f32)
    (y0 y1 : Vec Ideal S8192x2048 .bf16) (s : Fin 8192) (n : Fin 4096) : EReal :=
  if h : n.val < 2048 then dq (D dx w s ⟨n.val, h⟩) (G gp b s n) (y0 (ix2 s ⟨n.val, h⟩))
  else dq (D dx w s ⟨n.val - 2048, by omega⟩) (G gp b s n) (y1 (ix2 s ⟨n.val - 2048, by omega⟩))

/-- The gradient of the gates' arguments. -/
def DG (dx : Vec Ideal S8192x2048 .bf16) (w : Vec Ideal S2048x2048 .f32) (gp : Vec Ideal S8192x4096 .bf16) (b : Vec Ideal S1x4096 .f32)
    (y0 y1 : Vec Ideal S8192x2048 .bf16) : Vec Ideal S8192x4096 .bf16 := fun j => dgv dx w gp b y0 y1 (j 0) (j 1)

/-- The gradient of the gates' bias. -/
def DB (dx : Vec Ideal S8192x2048 .bf16) (w : Vec Ideal S2048x2048 .f32) (gp : Vec Ideal S8192x4096 .bf16) (b : Vec Ideal S1x4096 .f32)
    (y0 y1 : Vec Ideal S8192x2048 .bf16) : Vec Ideal S1x4096 .f32 := fun j => ∑ s, dgv dx w gp b y0 y1 s (j 1)

/-- Every column lies in one of the two halves. -/
theorem halves (n : Fin 4096) : (∃ k, n = lo k) ∨ ∃ k, n = hi k := by
  by_cases h : n.val < 2048
  · exact Or.inl ⟨⟨n.val, h⟩, rfl⟩
  · exact Or.inr ⟨⟨n.val - 2048, by omega⟩, Fin.ext (by show n.val = 2048 + (n.val - 2048); omega)⟩

section Halves

variable (dx : Vec Ideal S8192x2048 .bf16) (w : Vec Ideal S2048x2048 .f32) (gp : Vec Ideal S8192x4096 .bf16) (b : Vec Ideal S1x4096 .f32)
  (y0 y1 : Vec Ideal S8192x2048 .bf16) (s : Fin 8192) (k : Fin 2048)

theorem dgv_lo : dgv dx w gp b y0 y1 s (lo k) = dq (D dx w s k) (G gp b s (lo k)) (y0 (ix2 s k)) :=
  dif_pos k.isLt

theorem dgv_hi : dgv dx w gp b y0 y1 s (hi k) = dq (D dx w s k) (G gp b s (hi k)) (y1 (ix2 s k)) := by
  have e : (⟨(hi k).val - 2048, by have := k.isLt; show 2048 + k.val - 2048 < 2048; omega⟩ : Fin 2048) = k := Fin.ext (by show 2048 + k.val - 2048 = k.val; omega)
  unfold dgv
  rw [dif_neg (by show ¬2048 + k.val < 2048; omega), e]

end Halves

variable (m : (ℓ : Loc nD τ sig) → Buf (Elt Ideal) ℓ)

/-- The arguments at launch. -/
abbrev a0 (c : Dev nD) : Vec Ideal S8192x2048 .bf16 := m ((c : Thread nD τ).loc main_arg0)
@[inherit_doc a0] abbrev a1 (c : Dev nD) : Vec Ideal S2048x2048 .f32 := m ((c : Thread nD τ).loc main_arg1)
@[inherit_doc a0] abbrev a2 (c : Dev nD) : Vec Ideal S8192x4096 .bf16 := m ((c : Thread nD τ).loc main_arg2)
@[inherit_doc a0] abbrev a3 (c : Dev nD) : Vec Ideal S1x4096 .f32 := m ((c : Thread nD τ).loc main_arg3)
@[inherit_doc a0] abbrev a4 (c : Dev nD) : Vec Ideal S8192x2048 .bf16 := m ((c : Thread nD τ).loc main_arg4)
@[inherit_doc a0] abbrev a5 (c : Dev nD) : Vec Ideal S8192x2048 .bf16 := m ((c : Thread nD τ).loc main_arg5)

/-- Every point's number is below 32. -/
theorem lt_all (t : Fin cfg0.N) : t.val < 32 := lt_of_lt_of_eq t.isLt N_0

/-- A row or column of a point's block, in the whole array. -/
abbrev row (t : Fin cfg0.N) (r : Fin 256) : Fin 8192 := ⟨t.val * 256 + r.val, by have := lt_all t; omega⟩

/-- Each window's block number at a point. -/
theorem idx : ∀ t : Fin grid0.N, (win0_0.index t 0 = t.val ∧ win0_0.index t 1 = 0)
    ∧ (win0_1.index t 0 = 0 ∧ win0_1.index t 1 = 0)
    ∧ (win0_2.index t 0 = t.val ∧ win0_2.index t 1 = 0)
    ∧ (win0_3.index t 0 = 0 ∧ win0_3.index t 1 = 0)
    ∧ (win0_4.index t 0 = t.val ∧ win0_4.index t 1 = 0)
    ∧ (win0_5.index t 0 = t.val ∧ win0_5.index t 1 = 0)
    ∧ (win0_6.index t 0 = t.val ∧ win0_6.index t 1 = 0)
    ∧ (win0_7.index t 0 = t.val ∧ win0_7.index t 1 = 0)
    ∧ (win0_8.index t 0 = t.val ∧ win0_8.index t 1 = 0)
    ∧ (win0_9.index t 0 = 0 ∧ win0_9.index t 1 = 0) := by
  decide +kernel

/-- The weight as the kernel finds it: rounded, which is nothing over the reals. -/
theorem V_w (c : Dev nD) : @Eq (FVec Ideal S2048x2048 .bf16) (V m c main_v0)
    (truncf .bf16 (m ((c : Thread nD τ).loc main_arg1) : FVec Ideal S2048x2048 .f32) bitsLt_bf16_f32) := by
  show StableHlo.after hostOps0 _ (Proc.devRef .tc main_v0) = _
  after_results

/-- Argument 0's block at a point. -/
theorem blk0 (c : Dev nD) (t : Fin cfg0.N) (r : Fin 256) (n : Fin 2048) :
    (iblk m c 0 t : Vec Ideal S256x2048 .bf16) (ix2 r n) = a0 m c (ix2 (row t r) n) := by
  have h := (idx t).1
  exact (congrFun (V_main_arg0 m c) _).trans (congrArg _ (Kit.e2 (Kit.at_ 256 h.1 r) (Kit.at0 2048 h.2 n)))

/-- Argument 1's block at a point. -/
theorem blk1 (c : Dev nD) (t : Fin cfg0.N) (r : Fin 2048) (n : Fin 2048) :
    (iblk m c 1 t : Vec Ideal S2048x2048 .bf16) (ix2 r n) = a1 m c (ix2 r n) := by
  have h := (idx t).2.1
  unfold iblk
  rw [View.read_apply]
  show V m c main_v0 _ = _
  refine (congrFun (V_w m c) _).trans ?_
  refine congrArg (a1 m c) ?_
  exact Kit.e2 (Kit.at0 2048 h.1 r) (Kit.at0 2048 h.2 n)

/-- Argument 2's block at a point. -/
theorem blk2 (c : Dev nD) (t : Fin cfg0.N) (r : Fin 256) (n : Fin 4096) :
    (iblk m c 2 t : Vec Ideal S256x4096 .bf16) (ix2 r n) = a2 m c (ix2 (row t r) n) := by
  have h := (idx t).2.2.1
  exact (congrFun (V_main_arg2 m c) _).trans (congrArg _ (Kit.e2 (Kit.at_ 256 h.1 r) (Kit.at0 4096 h.2 n)))

/-- Argument 3's block at a point. -/
theorem blk3 (c : Dev nD) (t : Fin cfg0.N) (n : Fin 4096) :
    (iblk m c 3 t : Vec Ideal S1x4096 .f32) (ix2 0 n) = a3 m c (ix2 0 n) := by
  have h := (idx t).2.2.2.1
  exact (congrFun (V_main_arg3 m c) _).trans (congrArg _ (Kit.e2 (by show win0_3.index t 0 * 1 + 1 * 0 = 0; rw [h.1]) (Kit.at0 4096 h.2 n)))

/-- Argument 4's block at a point. -/
theorem blk4 (c : Dev nD) (t : Fin cfg0.N) (r : Fin 256) (n : Fin 2048) :
    (iblk m c 4 t : Vec Ideal S256x2048 .bf16) (ix2 r n) = a4 m c (ix2 (row t r) n) := by
  have h := (idx t).2.2.2.2.1
  exact (congrFun (V_main_arg4 m c) _).trans (congrArg _ (Kit.e2 (Kit.at_ 256 h.1 r) (Kit.at0 2048 h.2 n)))

/-- Argument 5's block at a point. -/
theorem blk5 (c : Dev nD) (t : Fin cfg0.N) (r : Fin 256) (n : Fin 2048) :
    (iblk m c 5 t : Vec Ideal S256x2048 .bf16) (ix2 r n) = a5 m c (ix2 (row t r) n) := by
  have h := (idx t).2.2.2.2.2.1
  exact (congrFun (V_main_arg5 m c) _).trans (congrArg _ (Kit.e2 (Kit.at_ 256 h.1 r) (Kit.at0 2048 h.2 n)))

/-- The mixed value's gradient at a point. -/
theorem d_blk (c : Dev nD) (t : Fin cfg0.N) (r : Fin 256) (k : Fin 2048) :
    k0_pay6 (iblk m c 0 t) (iblk m c 1 t) (ix2 r k) = D (a0 m c) (a1 m c) (row t r) k := by
  rw [pay6_apply]
  simp only [blk0, blk1]
  rfl

/-- The gates of half `lo` at a point. -/
theorem g_blk0 (c : Dev nD) (t : Fin cfg0.N) (r : Fin 256) (k : Fin 2048) :
    gate0 (iblk m c 2 t) (iblk m c 3 t) (ix2 r k) = G (a2 m c) (a3 m c) (row t r) (lo k) := by
  unfold gate0
  rw [pay12_apply, ld8_lo, ld9_lo, blk2, blk3]
  rfl

/-- The gates of half `hi` at a point. -/
theorem g_blk1 (c : Dev nD) (t : Fin cfg0.N) (r : Fin 256) (k : Fin 2048) :
    gate1 (iblk m c 2 t) (iblk m c 3 t) (ix2 r k) = G (a2 m c) (a3 m c) (row t r) (hi k) := by
  unfold gate1
  rw [pay12_apply, ld8_hi, ld9_hi, blk2, blk3]
  rfl

/-- What a point leaves in output 6. -/
theorem rows6 (c : Dev nD) (t : Fin cfg0.N) : (outsAt0 m c t.val t.isLt).1 = k0_pay13 (iblk m c 0 t) (iblk m c 1 t) (View.ld (iblk m c 2 t) (Rect.unit ![0, 0] S256x2048.size inb_S256x4096_S256x2048_0_0)) (View.ld (iblk m c 3 t) (Rect.unit ![0, 0] S1x2048.size inb_S1x4096_S1x2048_0_0)) := by
  have ht := lt_all t
  by_cases h0 : t.val = 0
  · rw [outsAt0_A m c t (by omega) (by omega)]
    dsimp only
    rw [out_A_6]
    rfl
  · rw [outsAt0_B m c t (by omega) (by omega)]
    dsimp only
    rw [out_B_6]
    rfl

/-- What a point writes back of output 6 is its block of `DY0`. -/
theorem flushed_DY0 (c : Dev nD) (t : Fin cfg0.N) : (dats m 0 c).flushed 6 t =
    ((cfg0.win 6).blk t).view.read (Elt Ideal) (DY0 (a0 m c) (a1 m c) (a2 m c) (a3 m c)) := by
  have h := (idx t).2.2.2.2.2.2.1
  rw [Value.flushed6]
  funext (j : S256x2048.Idx)
  rw [View.read_apply]
  obtain ⟨r, n, rfl⟩ := Kit.pair j
  have e : (((cfg0.win 6).blk t).view.emb (ix2 r n) : S8192x2048.Idx) = ix2 (row t r) n :=
    Kit.e2 (Kit.at_ 256 h.1 r) (Kit.at0 2048 h.2 n)
  refine Eq.trans ?_ (congrArg (DY0 (a0 m c) (a1 m c) (a2 m c) (a3 m c)) e).symm
  show (outsAt0 m c t.val t.isLt).1 (ix2 r n) = _
  rw [rows6, pay13_apply, d_blk]
  exact congrArg (fun y : EReal => (D (a0 m c) (a1 m c) (row t r) n * y : EReal)) (g_blk0 m c t r n)

/-- An index of output 6 lies in a block that is written back. -/
theorem cover_DY0 (i : S8192x2048.Idx) : ∃ t : Fin cfg0.N, (cfg0.win 6).flush t = true ∧ i ∈ ((cfg0.win 6).blk t).view.set := by
  have h0 : (i 0).val < 8192 := (i 0).isLt
  have h1 : (i 1).val < 2048 := (i 1).isLt
  obtain ⟨t, ht⟩ : ∃ t : Fin cfg0.N, t.val = (i 0).val / 256 :=
    ⟨⟨_, by show _ < grid0.N; rw [Gen.N_0]; omega⟩, rfl⟩
  have h := (idx t).2.2.2.2.2.2.1
  refine ⟨t, flush0_6 t, ?_⟩
  exact Kit.cov (Fin.forall_fin_two.2 ⟨Kit.mem 256 _ h.1 (by omega), Kit.mem 2048 _ h.2 (by omega)⟩)

/-- Output 6 after the run. -/
theorem final_DY0 (c : Dev nD) : (dats m 0 c).arrAt 6 cfg0.N = DY0 (a0 m c) (a1 m c) (a2 m c) (a3 m c) :=
  (dats m 0 c).arrAt_eq_of_cover 6 _ (fun t _ => flushed_DY0 m c t) cover_DY0

/-- What a point leaves in output 7. -/
theorem rows7 (c : Dev nD) (t : Fin cfg0.N) : (outsAt0 m c t.val t.isLt).2.1 = k0_pay13 (iblk m c 0 t) (iblk m c 1 t) (View.ld (iblk m c 2 t) (Rect.unit ![0, 2048] S256x2048.size inb_S256x4096_S256x2048_0_2048)) (View.ld (iblk m c 3 t) (Rect.unit ![0, 2048] S1x2048.size inb_S1x4096_S1x2048_0_2048)) := by
  have ht := lt_all t
  by_cases h0 : t.val = 0
  · rw [outsAt0_A m c t (by omega) (by omega)]
    dsimp only
    rw [out_A_7]
    rfl
  · rw [outsAt0_B m c t (by omega) (by omega)]
    dsimp only
    rw [out_B_7]
    rfl

/-- What a point writes back of output 7 is its block of `DY1`. -/
theorem flushed_DY1 (c : Dev nD) (t : Fin cfg0.N) : (dats m 0 c).flushed 7 t =
    ((cfg0.win 7).blk t).view.read (Elt Ideal) (DY1 (a0 m c) (a1 m c) (a2 m c) (a3 m c)) := by
  have h := (idx t).2.2.2.2.2.2.2.1
  rw [Value.flushed7]
  funext (j : S256x2048.Idx)
  rw [View.read_apply]
  obtain ⟨r, n, rfl⟩ := Kit.pair j
  have e : (((cfg0.win 7).blk t).view.emb (ix2 r n) : S8192x2048.Idx) = ix2 (row t r) n :=
    Kit.e2 (Kit.at_ 256 h.1 r) (Kit.at0 2048 h.2 n)
  refine Eq.trans ?_ (congrArg (DY1 (a0 m c) (a1 m c) (a2 m c) (a3 m c)) e).symm
  show (outsAt0 m c t.val t.isLt).2.1 (ix2 r n) = _
  rw [rows7, pay13_apply, d_blk]
  exact congrArg (fun y : EReal => (D (a0 m c) (a1 m c) (row t r) n * y : EReal)) (g_blk1 m c t r n)

/-- An index of output 7 lies in a block that is written back. -/
theorem cover_DY1 (i : S8192x2048.Idx) : ∃ t : Fin cfg0.N, (cfg0.win 7).flush t = true ∧ i ∈ ((cfg0.win 7).blk t).view.set := by
  have h0 : (i 0).val < 8192 := (i 0).isLt
  have h1 : (i 1).val < 2048 := (i 1).isLt
  obtain ⟨t, ht⟩ : ∃ t : Fin cfg0.N, t.val = (i 0).val / 256 :=
    ⟨⟨_, by show _ < grid0.N; rw [Gen.N_0]; omega⟩, rfl⟩
  have h := (idx t).2.2.2.2.2.2.2.1
  refine ⟨t, flush0_7 t, ?_⟩
  exact Kit.cov (Fin.forall_fin_two.2 ⟨Kit.mem 256 _ h.1 (by omega), Kit.mem 2048 _ h.2 (by omega)⟩)

/-- Output 7 after the run. -/
theorem final_DY1 (c : Dev nD) : (dats m 0 c).arrAt 7 cfg0.N = DY1 (a0 m c) (a1 m c) (a2 m c) (a3 m c) :=
  (dats m 0 c).arrAt_eq_of_cover 7 _ (fun t _ => flushed_DY1 m c t) cover_DY1

/-- What a point leaves in output 8. -/
theorem rows8 (c : Dev nD) (t : Fin cfg0.N) : (outsAt0 m c t.val t.isLt).2.2.1 = dgBlk (iblk m c 0 t) (iblk m c 1 t) (iblk m c 2 t) (iblk m c 3 t) (iblk m c 4 t) (iblk m c 5 t) := by
  have ht := lt_all t
  by_cases h0 : t.val = 0
  · rw [outsAt0_A m c t (by omega) (by omega)]
    dsimp only
    rw [out_A_8]
  · rw [outsAt0_B m c t (by omega) (by omega)]
    dsimp only
    rw [out_B_8]

/-- What a point writes back of output 8 is its block of `DG`. -/
theorem flushed_DG (c : Dev nD) (t : Fin cfg0.N) : (dats m 0 c).flushed 8 t =
    ((cfg0.win 8).blk t).view.read (Elt Ideal) (DG (a0 m c) (a1 m c) (a2 m c) (a3 m c) (a4 m c) (a5 m c)) := by
  have h := (idx t).2.2.2.2.2.2.2.2.1
  rw [Value.flushed8]
  funext (j : S256x4096.Idx)
  rw [View.read_apply]
  obtain ⟨r, n, rfl⟩ := Kit.pair j
  have e : (((cfg0.win 8).blk t).view.emb (ix2 r n) : S8192x4096.Idx) = ix2 (row t r) n :=
    Kit.e2 (Kit.at_ 256 h.1 r) (Kit.at0 4096 h.2 n)
  refine Eq.trans ?_ (congrArg (DG (a0 m c) (a1 m c) (a2 m c) (a3 m c) (a4 m c) (a5 m c)) e).symm
  show (outsAt0 m c t.val t.isLt).2.2.1 (ix2 r n) = _
  rw [rows8]
  show _ = dgv (a0 m c) (a1 m c) (a2 m c) (a3 m c) (a4 m c) (a5 m c) (row t r) n
  obtain ⟨k, rfl⟩ | ⟨k, rfl⟩ := halves n
  · rw [dgv_lo]
    unfold dgBlk
    rw [canon8_lo, pay2_apply, d_blk, g_blk0, blk4]
  · rw [dgv_hi]
    unfold dgBlk
    rw [canon8_hi, pay2_apply, d_blk, g_blk1, blk5]

/-- An index of output 8 lies in a block that is written back. -/
theorem cover_DG (i : S8192x4096.Idx) : ∃ t : Fin cfg0.N, (cfg0.win 8).flush t = true ∧ i ∈ ((cfg0.win 8).blk t).view.set := by
  have h0 : (i 0).val < 8192 := (i 0).isLt
  have h1 : (i 1).val < 4096 := (i 1).isLt
  obtain ⟨t, ht⟩ : ∃ t : Fin cfg0.N, t.val = (i 0).val / 256 :=
    ⟨⟨_, by show _ < grid0.N; rw [Gen.N_0]; omega⟩, rfl⟩
  have h := (idx t).2.2.2.2.2.2.2.2.1
  refine ⟨t, flush0_8 t, ?_⟩
  exact Kit.cov (Fin.forall_fin_two.2 ⟨Kit.mem 256 _ h.1 (by omega), Kit.mem 4096 _ h.2 (by omega)⟩)

/-- Output 8 after the run. -/
theorem final_DG (c : Dev nD) : (dats m 0 c).arrAt 8 cfg0.N = DG (a0 m c) (a1 m c) (a2 m c) (a3 m c) (a4 m c) (a5 m c) :=
  (dats m 0 c).arrAt_eq_of_cover 8 _ (fun t _ => flushed_DG m c t) cover_DG

/-- One point's share of the bias's gradient. -/
def term (c : Dev nD) (t : Fin cfg0.N) : S1x4096.Idx → EReal := dbBlk (iblk m c 0 t) (iblk m c 1 t) (iblk m c 2 t) (iblk m c 3 t) (iblk m c 4 t) (iblk m c 5 t)

/-- A point's share, at a column, in the whole arrays. -/
theorem term_apply (c : Dev nD) (t : Fin cfg0.N) (n : Fin 4096) :
    term m c t (ix2 0 n) = ∑ r : Fin 256, dgv (a0 m c) (a1 m c) (a2 m c) (a3 m c) (a4 m c) (a5 m c) (row t r) n := by
  unfold term dbBlk
  obtain ⟨k, rfl⟩ | ⟨k, rfl⟩ := halves n
  · rw [canon9_lo, pay3_apply]
    exact Finset.sum_congr rfl fun r _ => by rw [dgv_lo, d_blk, g_blk0, blk4]
  · rw [canon9_hi, pay3_apply]
    exact Finset.sum_congr rfl fun r _ => by rw [dgv_hi, d_blk, g_blk1, blk5]

/-- What is added to a row of sums. -/
theorem add_apply (p q : FVec Ideal S256x2048 .f32) (y : Vec Ideal S256x2048 .bf16) (v : Vec Ideal S1x2048 .f32) (k : Fin 2048) :
    k0_pay5 p q y v (ix2 0 k) = (v (ix2 0 k) + k0_pay3 p q y (ix2 0 k) : EReal) := by
  unfold k0_pay5
  rw [shapeCast_self]
  rfl

/-- The first point sets the sum. -/
theorem acc_first (c : Dev nD) (t : Fin cfg0.N) (h0 : t.val % 32 = 0) (i : S1x4096.Idx) :
    (outsAt0 m c t.val t.isLt).2.2.2 i = 0 + term m c t i := by
  have ht := lt_all t
  rw [outsAt0_A m c t h0 (by omega)]
  dsimp only
  rw [out_A_9, zero_add]
  rfl

/-- Every column of a row of sums. -/
theorem col (i : S1x4096.Idx) : ∃ n : Fin 4096, i = ix2 0 n := ⟨i 1, by
  funext b; match b with | ⟨0, _⟩ => exact Fin.ext (by have : (i 0).val < 1 := (i 0).isLt; show (i 0).val = 0; omega) | ⟨1, _⟩ => rfl⟩

/-- Every other point adds to it. -/
theorem acc_next (c : Dev nD) (t : Fin cfg0.N) (h0 : ¬t.val % 32 = 0) (i : S1x4096.Idx) :
    (outsAt0 m c t.val t.isLt).2.2.2 i
      = (outsAt0 m c (t.val - 1) (Nat.lt_of_le_of_lt (Nat.sub_le _ _) t.isLt)).2.2.2 i + term m c t i := by
  have ht := lt_all t
  rw [outsAt0_B m c t h0 (by omega)]
  dsimp only
  rw [out_B_9]
  unfold dbAdd term dbBlk
  obtain ⟨n, rfl⟩ := col i
  obtain ⟨k, rfl⟩ | ⟨k, rfl⟩ := halves n
  · rw [canon9_lo, canon9_lo, add_apply, ld9_lo]
  · rw [canon9_hi, canon9_hi, add_apply, ld9_hi]

/-- The last point holds the whole sum. -/
theorem acc_last (c : Dev nD) (t : Fin cfg0.N) (h : t.val % 32 = 31) (n : Fin 4096) :
    (outsAt0 m c t.val t.isLt).2.2.2 (ix2 0 n) = ∑ s, dgv (a0 m c) (a1 m c) (a2 m c) (a3 m c) (a4 m c) (a5 m c) s n := by
  have ht := lt_all t
  refine (Pipeline.eq_sum_fin_of_reset_step_apply_of_flush (fun n h => (outsAt0 m c n h).2.2.2) 32 (fun _ => (0 : EReal)) (term m c)
    (acc_first m c) (acc_next m c) t h (ix2 0 n)).trans ?_
  rw [zero_add]
  refine Eq.trans ?_ (Fin.sum_mul_add_fin 32 256 (fun s => dgv (a0 m c) (a1 m c) (a2 m c) (a3 m c) (a4 m c) (a5 m c) s n))
  refine Finset.sum_congr rfl fun s _ => ?_
  rw [term_apply]
  refine Finset.sum_congr rfl fun l _ => ?_
  have e : 32 * (t.val / 32) + s.val = s.val := by omega
  simp only [e]

/-- What the last point writes back is `DB`. -/
theorem flushed_DB (c : Dev nD) (t : Fin cfg0.N) (hf : (cfg0.win 9).flush t = true) : (dats m 0 c).flushed 9 t =
    ((cfg0.win 9).blk t).view.read (Elt Ideal) (DB (a0 m c) (a1 m c) (a2 m c) (a3 m c) (a4 m c) (a5 m c)) := by
  have hk : t.val % 32 = 31 := (flush0_9 t).mp hf
  have h := (idx t).2.2.2.2.2.2.2.2.2
  rw [Value.flushed9]
  funext (j : S1x4096.Idx)
  rw [View.read_apply]
  obtain ⟨n, rfl⟩ := col j
  have e : (((cfg0.win 9).blk t).view.emb (ix2 0 n) : S1x4096.Idx) = ix2 0 n :=
    Kit.e2 (by show win0_9.index t 0 * 1 + 1 * 0 = 0; rw [h.1]) (Kit.at0 4096 h.2 n)
  refine Eq.trans ?_ (congrArg (DB (a0 m c) (a1 m c) (a2 m c) (a3 m c) (a4 m c) (a5 m c)) e).symm
  exact acc_last m c t hk n

/-- The last point's block is the whole of the bias's gradient. -/
theorem cover_DB (i : S1x4096.Idx) : ∃ t : Fin cfg0.N, (cfg0.win 9).flush t = true ∧ i ∈ ((cfg0.win 9).blk t).view.set := by
  have h0 : (i 0).val < 1 := (i 0).isLt
  have h1 : (i 1).val < 4096 := (i 1).isLt
  obtain ⟨t, ht⟩ : ∃ t : Fin cfg0.N, t.val = 31 := ⟨⟨_, by show _ < grid0.N; rw [Gen.N_0]; omega⟩, rfl⟩
  have h := (idx t).2.2.2.2.2.2.2.2.2
  refine ⟨t, (flush0_9 t).mpr (by omega), ?_⟩
  exact Kit.cov (Fin.forall_fin_two.2 ⟨Kit.mem 1 _ h.1 (by omega), Kit.mem 4096 _ h.2 (by omega)⟩)

/-- The bias's gradient after the run. -/
theorem final_DB (c : Dev nD) : (dats m 0 c).arrAt 9 cfg0.N = DB (a0 m c) (a1 m c) (a2 m c) (a3 m c) (a4 m c) (a5 m c) :=
  (dats m 0 c).arrAt_eq_of_cover 9 _ (flushed_DB m c) cover_DB

end Cert.Kernel30Ideal.Mix

end
-- ==== Proof.MixClaims.lean ====
/- The backward pass of the two gates and the product that mixes the branches: the reference, and the claims. -/
module

public import proofs.«01_k».proof.Proof.Kit
public import proofs.«01_k».proof.Proof.MixArray

@[expose] public section

set_option maxRecDepth 16384

noncomputable section

namespace Cert.Reference30Ideal.Mix

open Gen Read Kernel30Ideal.Mix Idealize.ShloMosaic TcCoe Idealize.SL.Sem

variable (x0 : Vec Ideal S8192x2048 .bf16) (x1 : Vec Ideal S2048x2048 .f32) (x2 : Vec Ideal S8192x4096 .bf16) (x3 : Vec Ideal S1x4096 .f32) (x4 x5 : Vec Ideal S8192x2048 .bf16)

/-- The constant one. -/
theorem one : Ideal.ofBits .f32 0x3F800000#32 = 1 := by
  simp [Ideal.ofBits, Ideal.ieee, -EReal.coe_mul]
  norm_num

/-- The reference's gates. -/
theorem gate (s : Fin 8192) (n : Fin 4096) : val_main_v12 (F := Ideal) x2 x3 (ix2 s n) = G x2 x3 s n := by
  unfold G Ideal.logistic
  rw [← one]
  pointwise [val_main_v2, val_main_v5, val_main_v6, val_main_v7, val_main_v8, val_main_cst, val_main_v9, val_main_v10, val_main_cst_0, val_main_v11, val_main_v12]

/-- The reference's gradient of the mixed value. -/
theorem dmix (s : Fin 8192) (k : Fin 2048) : val_main_v27 (F := Ideal) x0 x1 (ix3 0 s k) = D x0 x1 s k := by
  unfold D
  pointwise [val_main_v25, val_main_v26, val_main_v27]

/-- A gate of the first half, in its own axis. -/
theorem gate_lo (s : Fin 8192) (k : Fin 2048) : val_main_v18 (F := Ideal) x2 x3 (ix3 0 s k) = G x2 x3 s (lo k) := by
  rw [← gate]
  unfold val_main_v18 val_main_v17 val_main_v16
  generalize val_main_v12 (F := Ideal) x2 x3 = g
  pointwise []
  first | rfl | exact congrArg (fun n => g (ix2 s n)) (Fin.ext (by show _ = 2048 + k.val; simp only []; omega))

/-- A gate of the second half, in its own axis. -/
theorem gate_hi (s : Fin 8192) (k : Fin 2048) : val_main_v21 (F := Ideal) x2 x3 (ix3 0 s k) = G x2 x3 s (hi k) := by
  rw [← gate]
  unfold val_main_v21 val_main_v20 val_main_v16
  generalize val_main_v12 (F := Ideal) x2 x3 = g
  pointwise []
  first | rfl | exact congrArg (fun n => g (ix2 s n)) (Fin.ext (by show _ = 2048 + k.val; simp only []; omega))

/-- The reference's gradient of a branch is the kernel's array. -/
theorem result_v42 : val_main_v42 (F := Ideal) x0 x1 x2 x3 = DY0 x0 x1 x2 x3 := by
  funext j
  obtain ⟨s, k, rfl⟩ := Kit.pair j
  show _ = D x0 x1 s k * G x2 x3 s (lo k)
  rw [← dmix, ← gate_lo]
  unfold val_main_v42 val_main_v41 val_main_v32
  generalize val_main_v18 (F := Ideal) x2 x3 = g
  generalize val_main_v27 (F := Ideal) x0 x1 = d
  pointwise []
  exact mul_comm _ _

/-- The reference's gradient of a branch is the kernel's array. -/
theorem result_v44 : val_main_v44 (F := Ideal) x0 x1 x2 x3 = DY1 x0 x1 x2 x3 := by
  funext j
  obtain ⟨s, k, rfl⟩ := Kit.pair j
  show _ = D x0 x1 s k * G x2 x3 s (hi k)
  rw [← dmix, ← gate_hi]
  unfold val_main_v44 val_main_v43 val_main_v28
  generalize val_main_v21 (F := Ideal) x2 x3 = g
  generalize val_main_v27 (F := Ideal) x0 x1 = d
  pointwise []
  exact mul_comm _ _

/-- The gradient of a gate, in half `lo`: the other half's is zero there. -/
theorem pad_lo (s : Fin 8192) (k : Fin 2048) : val_main_v37 (F := Ideal) x0 x1 x4 x5 (ix2 s (lo k)) = (D x0 x1 s k * x4 (ix2 s k) : EReal) := by
  have e : val_main_v34 (F := Ideal) x0 x1 x4 (ix4 0 s 0 k) = (D x0 x1 s k * x4 (ix2 s k) : EReal) := by
    rw [← dmix]
    unfold val_main_v34 val_main_v33 val_main_v3 val_main_v0
    generalize val_main_v27 (F := Ideal) x0 x1 = d
    pointwise []
  refine Eq.trans ?_ e
  unfold val_main_v37 val_main_v36 val_main_v35 val_main_v31
  generalize val_main_v34 (F := Ideal) x0 x1 x4 = g
  generalize val_main_v30 (F := Ideal) x0 x1 x5 = d
  pointwise [val_main_cst_2, val_main_cst_3]
  rw [dif_neg (by show ¬((1 ≤ k.val / 2048 ∧ k.val / 2048 - 1 < 1) ∧ k.val % 2048 < 2048); omega), dif_pos (by show k.val / 2048 < 1 ∧ k.val % 2048 < 2048; omega), zero_add]
  exact congrArg₂ (fun a b => g (ix4 0 s a b)) (Subsingleton.elim _ _) (Fin.ext (by show k.val % 2048 = k.val; omega))

/-- The gradient of a gate, in half `hi`: the other half's is zero there. -/
theorem pad_hi (s : Fin 8192) (k : Fin 2048) : val_main_v37 (F := Ideal) x0 x1 x4 x5 (ix2 s (hi k)) = (D x0 x1 s k * x5 (ix2 s k) : EReal) := by
  have e : val_main_v30 (F := Ideal) x0 x1 x5 (ix4 0 s 0 k) = (D x0 x1 s k * x5 (ix2 s k) : EReal) := by
    rw [← dmix]
    unfold val_main_v30 val_main_v29 val_main_v4 val_main_v1
    generalize val_main_v27 (F := Ideal) x0 x1 = d
    pointwise []
  refine Eq.trans ?_ e
  unfold val_main_v37 val_main_v36 val_main_v35 val_main_v31
  generalize val_main_v34 (F := Ideal) x0 x1 x4 = g
  generalize val_main_v30 (F := Ideal) x0 x1 x5 = d
  pointwise [val_main_cst_2, val_main_cst_3]
  rw [dif_pos (by show (1 ≤ (2048 + k.val) / 2048 ∧ (2048 + k.val) / 2048 - 1 < 1) ∧ (2048 + k.val) % 2048 < 2048; omega), dif_neg (by show ¬((2048 + k.val) / 2048 < 1 ∧ (2048 + k.val) % 2048 < 2048); omega), add_zero]
  exact congrArg₂ (fun a b => d (ix4 0 s a b)) (Subsingleton.elim _ _) (Fin.ext (by show (2048 + k.val) % 2048 = k.val; omega))

/-- The gradient of a gate's argument. -/
theorem arg (s : Fin 8192) (n : Fin 4096) : val_main_v38 (F := Ideal) x0 x1 x2 x3 x4 x5 (ix2 s n) = dgv x0 x1 x2 x3 x4 x5 s n := by
  have e : val_main_v38 (F := Ideal) x0 x1 x2 x3 x4 x5 (ix2 s n)
      = (val_main_v37 (F := Ideal) x0 x1 x4 x5 (ix2 s n) * (G x2 x3 s n * (1 - G x2 x3 s n)) : EReal) := by
    rw [← gate, ← one]
    unfold val_main_v38 val_main_v15 val_main_v14 val_main_v13 val_main_cst_1
    generalize val_main_v12 (F := Ideal) x2 x3 = g
    generalize val_main_v37 (F := Ideal) x0 x1 x4 x5 = d
    pointwise []
  rw [e]
  obtain ⟨k, rfl⟩ | ⟨k, rfl⟩ := halves n
  · rw [pad_lo, dgv_lo]
    exact (mul_assoc _ _ _).symm
  · rw [pad_hi, dgv_hi]
    exact (mul_assoc _ _ _).symm

/-- The reference's gradient of the gates' arguments is the kernel's array. -/
theorem result_v45 : val_main_v45 (F := Ideal) x0 x1 x2 x3 x4 x5 = DG x0 x1 x2 x3 x4 x5 := by
  funext j
  obtain ⟨s, n, rfl⟩ := Kit.pair j
  exact arg x0 x1 x2 x3 x4 x5 s n

/-- The reference's gradient of the gates' bias is the kernel's array. -/
theorem result_v40 : val_main_v40 (F := Ideal) x0 x1 x2 x3 x4 x5 = DB x0 x1 x2 x3 x4 x5 := by
  funext j
  obtain ⟨n, rfl⟩ := col j
  show _ = ∑ s, dgv x0 x1 x2 x3 x4 x5 s n
  simp only [← arg]
  unfold val_main_v40 val_main_v39 val_main_cst_4
  generalize val_main_v38 (F := Ideal) x0 x1 x2 x3 x4 x5 = d
  pointwise []

end Cert.Reference30Ideal.Mix

namespace Cert.Proof.Mix

open Idealize.ShloMosaic TcCoe Idealize.SL.Sem

/-- The reference leaves its arguments as they were. -/
theorem frame_reference : quiescent_Reference30Ideal := fun m ρ _ =>
  (θ_run Reference30Ideal.defs _ _).mono (fun r h => ⟨fun c => (h c).2.2.2.2, sem_eq_zero_of_no_sems (by decide) r.2⟩)
    (Reference30Ideal.Value.run m ρ)

open Cert.Kernel30Ideal.Mix in
/-- Kernel and reference end with the same arrays. -/
theorem algebraic : algebraic_Kernel30Ideal_Reference30Ideal := by
  intro m ρ m' ρ' _ hag
  refine ⟨_, _, _, _, (θ_run Kernel30Ideal.defs _ _).mono
    (fun _ h c => ⟨(h c).1.trans (final_DY0 m c), (h c).2.1.trans (final_DY1 m c), (h c).2.2.1.trans (final_DG m c), (h c).2.2.2.1.trans (final_DB m c), (h c).2.2.2.2⟩)
    (Kernel30Ideal.Value.run_blocks m ρ), ?_⟩
  · refine (θ_run Reference30Ideal.defs _ _).mono (fun _ h c => ?_) (Reference30Ideal.Value.run m' ρ')
    obtain ⟨h0, h1, h2, h3, hr⟩ := h c
    obtain ⟨e0, e1, e2, e3, e4, e5⟩ := hag c
    refine ⟨?_, ?_, ?_, ?_, hr⟩
    · refine h0.trans ((Reference30Ideal.Read.val_main_v42_eq _ _ _ _).trans ((Reference30Ideal.Mix.result_v42 _ _ _ _).trans ?_))
      rw [e0, e1, e2, e3]
    · refine h1.trans ((Reference30Ideal.Read.val_main_v44_eq _ _ _ _).trans ((Reference30Ideal.Mix.result_v44 _ _ _ _).trans ?_))
      rw [e0, e1, e2, e3]
    · refine h2.trans ((Reference30Ideal.Read.val_main_v45_eq _ _ _ _ _ _).trans ((Reference30Ideal.Mix.result_v45 _ _ _ _ _ _).trans ?_))
      rw [e0, e1, e2, e3, e4, e5]
    · refine h3.trans ((Reference30Ideal.Read.val_main_v40_eq _ _ _ _ _ _).trans ((Reference30Ideal.Mix.result_v40 _ _ _ _ _ _).trans ?_))
      rw [e0, e1, e2, e3, e4, e5]

end Cert.Proof.Mix

end
-- ==== Proof.Fwd33.lean ====
/- The root-mean-square norm of the forward pass. -/
module

public import proofs.«01_k».proof.Proof.Kit
public import proofs.«01_k».proof.Proof.Gen.Kernel33Ideal.Value
public import proofs.«01_k».proof.Proof.Gen.Reference33Ideal.Read

@[expose] public section

set_option maxRecDepth 16384

noncomputable section

namespace Cert.Kit

open Idealize.ShloMosaic

/-- An entry of the root-mean-square norm of the row `x`, with the gain `g`. -/
def rms (x g : Fin 2048 → EReal) (n : Fin 2048) : EReal :=
  x n * Ideal.rsqrt (Ideal.div (∑ k, x k * x k) (Ideal.ofBits .f32 0x45000000#32) + Ideal.ofBits .f32 0x358637BD#32) * g n

end Cert.Kit

namespace Cert.Kernel33Ideal.Fwd

open Gen Idealize.ShloMosaic TcCoe Idealize.SL.Sem

variable (m : (ℓ : Loc nD τ sig) → Buf (Elt Ideal) ℓ) (c : Dev nD) (t : Fin cfg0.N)

/-- Every point's number is below 16. -/
theorem lt_all : t.val < 16 := lt_of_lt_of_eq t.isLt N_0

/-- Each window's block number at a point. -/
theorem idx : ∀ t : Fin grid0.N, (win0_0.index t 0 = t.val ∧ win0_0.index t 1 = 0) ∧ (win0_1.index t 0 = 0 ∧ win0_1.index t 1 = 0)
    ∧ (win0_2.index t 0 = t.val ∧ win0_2.index t 1 = 0) := by
  decide +kernel

/-- The normed rows. -/
def H (x : Vec Ideal S8192x2048 .f32) (g : Vec Ideal S1x2048 .f32) : Vec Ideal S8192x2048 .bf16 := fun j =>
  Kit.rms (fun k => x (ix2 (j 0) k)) (fun k => g (ix2 0 k)) (j 1)

/-- The rows' block of a point, at an element. -/
theorem blk0 (r : Fin 512) (n : Fin 2048) :
    (iblk m c 0 t : Vec Ideal S512x2048 .f32) (ix2 r n) = (m ((c : Thread nD τ).loc main_arg0) : Vec Ideal S8192x2048 .f32) (ix2 ⟨t.val * 512 + r.val, by have := lt_all t; omega⟩ n) := by
  have h := (idx t).1
  exact (congrFun (V_main_arg0 m c) _).trans (congrArg _ (Kit.e2 (Kit.at_ 512 h.1 r) (Kit.at0 2048 h.2 n)))

/-- The gain at a point. -/
theorem blk1 (n : Fin 2048) :
    (iblk m c 1 t : Vec Ideal S1x2048 .f32) (ix2 0 n) = (m ((c : Thread nD τ).loc main_arg1) : Vec Ideal S1x2048 .f32) (ix2 0 n) := by
  have h := (idx t).2.1
  exact (congrFun (V_main_arg1 m c) _).trans (congrArg _ (Kit.e2 (Kit.at0 1 h.1 (0 : Fin 1)) (Kit.at0 2048 h.2 n)))

/-- The body's norm of its rows, at an element. -/
theorem pay1_apply (x : Vec Ideal S512x2048 .f32) (g : Vec Ideal S1x2048 .f32) (r : Fin 512) (n : Fin 2048) :
    k0_pay1 x g (ix2 r n) = Kit.rms (fun k => x (ix2 r k)) (fun k => g (ix2 0 k)) n := by
  unfold Kit.rms
  pointwise [k0_pay1]

/-- What a point writes back is its block of `H`. -/
theorem flushed_H : (dats m 0 c).flushed 2 t =
    ((cfg0.win 2).blk t).view.read (Elt Ideal) (H (m ((c : Thread nD τ).loc main_arg0)) (m ((c : Thread nD τ).loc main_arg1))) := by
  have h := (idx t).2.2
  rw [Value.flushed2]
  unfold out0_2 r0_0 r0_1
  rw [View.canon_unit_zero hz2, View.ld_unit_zero (S := S512x2048) hz2, View.ld_unit_zero (S := S1x2048) hz2]
  funext (j : S512x2048.Idx)
  rw [View.read_apply]
  obtain ⟨r, n, rfl⟩ := Kit.pair j
  have e : (((cfg0.win 2).blk t).view.emb (ix2 r n) : S8192x2048.Idx) = ix2 ⟨t.val * 512 + r.val, by have := lt_all t; omega⟩ n :=
    Kit.e2 (Kit.at_ 512 h.1 r) (Kit.at0 2048 h.2 n)
  refine Eq.trans ?_ (congrArg (H (m ((c : Thread nD τ).loc main_arg0)) (m ((c : Thread nD τ).loc main_arg1))) e).symm
  refine (pay1_apply _ _ r n).trans ?_
  simp only [blk0, blk1]
  rfl

/-- An index of the result lies in a block that is written back. -/
theorem cover (i : S8192x2048.Idx) : ∃ t : Fin cfg0.N, (cfg0.win 2).flush t = true ∧ i ∈ ((cfg0.win 2).blk t).view.set := by
  have h0 : (i 0).val < 8192 := (i 0).isLt
  have h1 : (i 1).val < 2048 := (i 1).isLt
  obtain ⟨t, ht⟩ : ∃ t : Fin cfg0.N, t.val = (i 0).val / 512 :=
    ⟨⟨_, by show _ < grid0.N; rw [Gen.N_0]; omega⟩, rfl⟩
  have h := (idx t).2.2
  refine ⟨t, flush0_2 t, ?_⟩
  exact Kit.cov (Fin.forall_fin_two.2 ⟨Kit.mem 512 _ h.1 (by omega), Kit.mem 2048 _ h.2 (by omega)⟩)

/-- The result after the run. -/
theorem final2 : (dats m 0 c).arrAt 2 cfg0.N = H (m ((c : Thread nD τ).loc main_arg0)) (m ((c : Thread nD τ).loc main_arg1)) :=
  (dats m 0 c).arrAt_eq_of_cover 2 _ (fun t _ => flushed_H m c t) cover

end Cert.Kernel33Ideal.Fwd

namespace Cert.Reference33Ideal.Fwd

open Gen Read Idealize.ShloMosaic TcCoe Idealize.SL.Sem

/-- The reference computes the same array. -/
theorem result14 (x0 : Vec Ideal S8192x2048 .f32) (x1 : Vec Ideal S1x2048 .f32) : val_main_v14 (F := Ideal) x0 x1 = Kernel33Ideal.Fwd.H x0 x1 := by
  funext j
  obtain ⟨s, n, rfl⟩ := Kit.pair j
  unfold Kernel33Ideal.Fwd.H Kit.rms
  pointwise [val_main_v0, val_main_v1, val_main_cst, val_main_v2, val_main_v3, val_main_cst_0, val_main_v4, val_main_v5, val_main_cst_1, val_main_v6, val_main_v7, val_main_v8, val_main_v9, val_main_v10, val_main_v11, val_main_v12, val_main_v13, val_main_v14]

end Cert.Reference33Ideal.Fwd

namespace Cert.Proof.Fwd33

open Idealize.ShloMosaic TcCoe Idealize.SL.Sem

/-- The reference leaves its arguments as they were. -/
theorem frame_reference : quiescent_Reference33Ideal := fun m ρ _ =>
  (θ_run Reference33Ideal.defs _ _).mono (fun r h => ⟨fun c => (h c).2, sem_eq_zero_of_no_sems (by decide) r.2⟩)
    (Reference33Ideal.Value.run m ρ)

/-- Kernel and reference end with the same arrays. -/
theorem algebraic : algebraic_Kernel33Ideal_Reference33Ideal := by
  intro m ρ m' ρ' _ hag
  refine ⟨_, (θ_run Kernel33Ideal.defs _ _).mono
    (fun _ h c => ⟨(h c).1.trans (Kernel33Ideal.Fwd.final2 m c), (h c).2⟩) (Kernel33Ideal.Value.run_blocks m ρ), ?_⟩
  · refine (θ_run Reference33Ideal.defs _ _).mono (fun _ h c => ?_) (Reference33Ideal.Value.run m' ρ')
    obtain ⟨h0, hr⟩ := h c
    obtain ⟨e0, e1⟩ := hag c
    refine ⟨?_, hr⟩
    · refine h0.trans ((Reference33Ideal.Read.val_main_v14_eq _ _).trans ((Reference33Ideal.Fwd.result14 _ _).trans ?_))
      rw [e0, e1]

end Cert.Proof.Fwd33

end
-- ==== Proof.Fwd31.lean ====
/- The projection of the mixed branches, with the residual, and its norm. -/
module

public import proofs.«01_k».proof.Proof.Kit
public import proofs.«01_k».proof.Proof.Fwd33
public import proofs.«01_k».proof.Proof.Gen.Kernel31Ideal.Value
public import proofs.«01_k».proof.Proof.Gen.Reference31Ideal.Read

@[expose] public section

set_option maxRecDepth 16384

noncomputable section

namespace Cert.Kernel31Ideal.Fwd

open Gen Idealize.ShloMosaic TcCoe Idealize.SL.Sem

variable (m : (ℓ : Loc nD τ sig) → Buf (Elt Ideal) ℓ) (c : Dev nD) (t : Fin cfg0.N)

/-- Every point's number is below 16. -/
theorem lt_all : t.val < 16 := lt_of_lt_of_eq t.isLt N_0

/-- A row or column of a point's block, in the whole array. -/
abbrev pos (t : Fin cfg0.N) (r : Fin 512) : Fin 8192 := ⟨t.val * 512 + r.val, by have := lt_all t; omega⟩

/-- Each window's block number at a point. -/
theorem idx : ∀ t : Fin grid0.N, (win0_0.index t 0 = t.val ∧ win0_0.index t 1 = 0) ∧ (win0_1.index t 0 = 0 ∧ win0_1.index t 1 = 0)
    ∧ (win0_2.index t 0 = t.val ∧ win0_2.index t 1 = 0) ∧ (win0_3.index t 0 = 0 ∧ win0_3.index t 1 = 0)
    ∧ (win0_4.index t 0 = t.val ∧ win0_4.index t 1 = 0) ∧ (win0_5.index t 0 = t.val ∧ win0_5.index t 1 = 0) := by
  decide +kernel

/-- The rows `x` with the product `y @ w` added. -/
def X (y : Vec Ideal S8192x2048 .bf16) (w : Vec Ideal S2048x2048 .f32) (x : Vec Ideal S8192x2048 .f32) : Vec Ideal S8192x2048 .f32 := fun j =>
  (x (ix2 (j 0) (j 1)) + ∑ q : Fin 2048, y (ix2 (j 0) q) * w (ix2 q (j 1)) : EReal)

/-- Their norm. -/
def H (y : Vec Ideal S8192x2048 .bf16) (w : Vec Ideal S2048x2048 .f32) (x : Vec Ideal S8192x2048 .f32) (g : Vec Ideal S1x2048 .f32) : Vec Ideal S8192x2048 .bf16 := fun j =>
  Kit.rms (fun k => X y w x (ix2 (j 0) k)) (fun k => g (ix2 0 k)) (j 1)

/-- The arguments at launch. -/
abbrev aY : Vec Ideal S8192x2048 .bf16 := m ((c : Thread nD τ).loc main_arg0)
@[inherit_doc aY] abbrev aW : Vec Ideal S2048x2048 .f32 := m ((c : Thread nD τ).loc main_arg1)
@[inherit_doc aY] abbrev aX : Vec Ideal S8192x2048 .f32 := m ((c : Thread nD τ).loc main_arg2)
@[inherit_doc aY] abbrev aG : Vec Ideal S1x2048 .f32 := m ((c : Thread nD τ).loc main_arg3)

/-- The branches' block of a point, at an element. -/
theorem blk0 (r : Fin 512) (n : Fin 2048) :
    (iblk m c 0 t : Vec Ideal S512x2048 .bf16) (ix2 r n) = aY m c (ix2 (pos t r) n) := by
  have h := (idx t).1
  exact (congrFun (V_main_arg0 m c) _).trans (congrArg _ (Kit.e2 (Kit.at_ 512 h.1 r) (Kit.at0 2048 h.2 n)))

/-- The weight as the kernel finds it: rounded, which is nothing over the reals. -/
theorem V_w : @Eq (FVec Ideal S2048x2048 .bf16) (V m c main_v0) (truncf .bf16 (aW m c : FVec Ideal S2048x2048 .f32) bitsLt_bf16_f32) := by
  show StableHlo.after hostOps0 _ (Proc.devRef .tc main_v0) = _
  after_results

/-- The weight at a point. -/
theorem blk1 (q n : Fin 2048) : (iblk m c 1 t : Vec Ideal S2048x2048 .bf16) (ix2 q n) = aW m c (ix2 q n) := by
  have h := (idx t).2.1
  unfold iblk
  rw [View.read_apply]
  show V m c main_v0 _ = _
  refine (congrFun (V_w m c) _).trans ?_
  exact congrArg (aW m c) (Kit.e2 (Kit.at0 2048 h.1 q) (Kit.at0 2048 h.2 n))

/-- The residual's block of a point, at an element. -/
theorem blk2 (r : Fin 512) (n : Fin 2048) :
    (iblk m c 2 t : Vec Ideal S512x2048 .f32) (ix2 r n) = aX m c (ix2 (pos t r) n) := by
  have h := (idx t).2.2.1
  exact (congrFun (V_main_arg2 m c) _).trans (congrArg _ (Kit.e2 (Kit.at_ 512 h.1 r) (Kit.at0 2048 h.2 n)))

/-- The gain at a point. -/
theorem blk3 (n : Fin 2048) : (iblk m c 3 t : Vec Ideal S1x2048 .f32) (ix2 0 n) = aG m c (ix2 0 n) := by
  have h := (idx t).2.2.2.1
  exact (congrFun (V_main_arg3 m c) _).trans (congrArg _ (Kit.e2 (Kit.at0 1 h.1 (0 : Fin 1)) (Kit.at0 2048 h.2 n)))

/-- The body's sum in its rows, at an element. -/
theorem pay1_apply (x : Vec Ideal S512x2048 .f32) (y : Vec Ideal S512x2048 .bf16) (w : Vec Ideal S2048x2048 .bf16) (r : Fin 512) (n : Fin 2048) :
    k0_pay1 x y w (ix2 r n) = (x (ix2 r n) + ∑ q : Fin 2048, y (ix2 r q) * w (ix2 q n) : EReal) := by
  pointwise [k0_pay1]

/-- The body's norm of its rows, at an element. -/
theorem pay2_apply (x : Vec Ideal S512x2048 .f32) (y : Vec Ideal S512x2048 .bf16) (w : Vec Ideal S2048x2048 .bf16) (g : Vec Ideal S1x2048 .f32) (r : Fin 512) (n : Fin 2048) :
    k0_pay2 x y w g (ix2 r n) = Kit.rms (fun k => k0_pay1 x y w (ix2 r k)) (fun k => g (ix2 0 k)) n := by
  unfold Kit.rms k0_pay2
  generalize k0_pay1 x y w = z
  pointwise []

/-- A row's sum at a point, in the whole arrays. -/
theorem sum_apply (r : Fin 512) (n : Fin 2048) : k0_pay1 (iblk m c 2 t) (iblk m c 0 t) (iblk m c 1 t) (ix2 r n)
    = X (aY m c) (aW m c) (aX m c) (ix2 (pos t r) n) := by
  refine (pay1_apply _ _ _ r n).trans ?_
  simp only [blk0, blk1, blk2]
  rfl

/-- What a point writes back of the sum is its block of `X`. -/
theorem flushed_X : (dats m 0 c).flushed 4 t = ((cfg0.win 4).blk t).view.read (Elt Ideal) (X (aY m c) (aW m c) (aX m c)) := by
  have h := (idx t).2.2.2.2.1
  rw [Value.flushed4]
  unfold out0_4 r0_0 r0_1
  rw [View.canon_unit_zero hz2]
  simp only [Kit.ld]
  funext (j : S512x2048.Idx)
  rw [View.read_apply]
  obtain ⟨r, n, rfl⟩ := Kit.pair j
  exact (sum_apply m c t r n).trans (congrArg (X (aY m c) (aW m c) (aX m c)) (Kit.e2 (Kit.at_ 512 h.1 r) (Kit.at0 2048 h.2 n)).symm)

/-- What a point writes back of the norm is its block of `H`. -/
theorem flushed_H : (dats m 0 c).flushed 5 t = ((cfg0.win 5).blk t).view.read (Elt Ideal) (H (aY m c) (aW m c) (aX m c) (aG m c)) := by
  have h := (idx t).2.2.2.2.2
  rw [Value.flushed5]
  unfold out0_5 r0_0 r0_1 r0_2
  rw [View.canon_unit_zero hz2]
  simp only [Kit.ld]
  funext (j : S512x2048.Idx)
  rw [View.read_apply]
  obtain ⟨r, n, rfl⟩ := Kit.pair j
  have e : (((cfg0.win 5).blk t).view.emb (ix2 r n) : S8192x2048.Idx) = ix2 (pos t r) n :=
    Kit.e2 (Kit.at_ 512 h.1 r) (Kit.at0 2048 h.2 n)
  refine Eq.trans ?_ (congrArg (H (aY m c) (aW m c) (aX m c) (aG m c)) e).symm
  refine (pay2_apply _ _ _ _ r n).trans ?_
  simp only [sum_apply, blk3]
  rfl

/-- The point that writes a row. -/
theorem row (i : S8192x2048.Idx) : ∃ t : Fin cfg0.N, t.val = (i 0).val / 512 := by
  have h0 : (i 0).val < 8192 := (i 0).isLt
  exact ⟨⟨_, by show _ < grid0.N; rw [Gen.N_0]; omega⟩, rfl⟩

/-- The sum after the run. -/
theorem final4 : (dats m 0 c).arrAt 4 cfg0.N = X (aY m c) (aW m c) (aX m c) :=
  (dats m 0 c).arrAt_eq_of_cover 4 _ (fun t _ => flushed_X m c t) fun i => by
  have h1 : (i 1).val < 2048 := (i 1).isLt
  obtain ⟨t, ht⟩ := row i
  have h := (idx t).2.2.2.2.1
  refine ⟨t, flush0_4 t, ?_⟩
  exact Kit.cov (Fin.forall_fin_two.2 ⟨Kit.mem 512 _ h.1 (by omega), Kit.mem 2048 _ h.2 (by omega)⟩)

/-- The norm after the run. -/
theorem final5 : (dats m 0 c).arrAt 5 cfg0.N = H (aY m c) (aW m c) (aX m c) (aG m c) :=
  (dats m 0 c).arrAt_eq_of_cover 5 _ (fun t _ => flushed_H m c t) fun i => by
  have h1 : (i 1).val < 2048 := (i 1).isLt
  obtain ⟨t, ht⟩ := row i
  have h := (idx t).2.2.2.2.2
  refine ⟨t, flush0_5 t, ?_⟩
  exact Kit.cov (Fin.forall_fin_two.2 ⟨Kit.mem 512 _ h.1 (by omega), Kit.mem 2048 _ h.2 (by omega)⟩)

end Cert.Kernel31Ideal.Fwd

namespace Cert.Reference31Ideal.Fwd

open Gen Read Idealize.ShloMosaic TcCoe Idealize.SL.Sem

variable (x0 : Vec Ideal S8192x2048 .bf16) (x1 : Vec Ideal S2048x2048 .f32) (x2 : Vec Ideal S8192x2048 .f32) (x3 : Vec Ideal S1x2048 .f32)

/-- The reference computes the same sum. -/
theorem result2 : val_main_v2 (F := Ideal) x0 x1 x2 = Kernel31Ideal.Fwd.X x0 x1 x2 := by
  funext j
  obtain ⟨s, n, rfl⟩ := Kit.pair j
  unfold Kernel31Ideal.Fwd.X
  pointwise [val_main_v0, val_main_v1, val_main_v2]

/-- The reference computes the same norm. -/
theorem result17 : val_main_v17 (F := Ideal) x0 x1 x2 x3 = Kernel31Ideal.Fwd.H x0 x1 x2 x3 := by
  funext j
  obtain ⟨s, n, rfl⟩ := Kit.pair j
  unfold Kernel31Ideal.Fwd.H Kit.rms
  rw [← result2]
  pointwise [val_main_v3, val_main_v4, val_main_cst, val_main_v5, val_main_v6, val_main_cst_0, val_main_v7, val_main_v8, val_main_cst_1, val_main_v9, val_main_v10, val_main_v11, val_main_v12, val_main_v13, val_main_v14, val_main_v15, val_main_v16, val_main_v17]

end Cert.Reference31Ideal.Fwd

namespace Cert.Proof.Fwd31

open Idealize.ShloMosaic TcCoe Idealize.SL.Sem

/-- The reference leaves its arguments as they were. -/
theorem frame_reference : quiescent_Reference31Ideal := fun m ρ _ =>
  (θ_run Reference31Ideal.defs _ _).mono (fun r h => ⟨fun c => (h c).2.2, sem_eq_zero_of_no_sems (by decide) r.2⟩)
    (Reference31Ideal.Value.run m ρ)

/-- Kernel and reference end with the same arrays. -/
theorem algebraic : algebraic_Kernel31Ideal_Reference31Ideal := by
  intro m ρ m' ρ' _ hag
  refine ⟨_, _, (θ_run Kernel31Ideal.defs _ _).mono
    (fun _ h c => ⟨(h c).1.trans (Kernel31Ideal.Fwd.final4 m c), (h c).2.1.trans (Kernel31Ideal.Fwd.final5 m c), (h c).2.2⟩) (Kernel31Ideal.Value.run_blocks m ρ), ?_⟩
  · refine (θ_run Reference31Ideal.defs _ _).mono (fun _ h c => ?_) (Reference31Ideal.Value.run m' ρ')
    obtain ⟨h0, h1, hr⟩ := h c
    obtain ⟨e0, e1, e2, e3⟩ := hag c
    refine ⟨?_, ?_, hr⟩
    · refine h0.trans ((Reference31Ideal.Read.val_main_v2_eq _ _ _).trans ((Reference31Ideal.Fwd.result2 _ _ _).trans ?_))
      rw [e0, e1, e2]
    · refine h1.trans ((Reference31Ideal.Read.val_main_v17_eq _ _ _ _).trans ((Reference31Ideal.Fwd.result17 _ _ _ _).trans ?_))
      rw [e0, e1, e2, e3]

end Cert.Proof.Fwd31

end
-- ==== Proof.Fwd32.lean ====
/- The gated mix of the two branches, and their products. -/
module

public import proofs.«01_k».proof.Proof.Kit
public import proofs.«01_k».proof.Proof.Gen.Kernel32Ideal.Value
public import proofs.«01_k».proof.Proof.Gen.Reference32Ideal.Read

@[expose] public section

set_option maxRecDepth 16384

noncomputable section

namespace Cert.Kernel32Ideal.Fwd

open Gen Idealize.ShloMosaic TcCoe Idealize.SL.Sem

variable (m : (ℓ : Loc nD τ sig) → Buf (Elt Ideal) ℓ) (c : Dev nD) (t : Fin cfg0.N)

/-- Every point's number is below 32. -/
theorem lt_all : t.val < 32 := lt_of_lt_of_eq t.isLt N_0

/-- Each window's block number at a point. -/
theorem idx : ∀ t : Fin grid0.N, (win0_0.index t 0 = t.val / 4 ∧ win0_0.index t 1 = 0) ∧ (win0_1.index t 0 = t.val / 4 ∧ win0_1.index t 1 = 0)
    ∧ (win0_2.index t 0 = t.val % 4 ∧ win0_2.index t 1 = 0) ∧ (win0_3.index t 0 = t.val % 4 ∧ win0_3.index t 1 = 0)
    ∧ (win0_4.index t 0 = t.val / 4 ∧ win0_4.index t 1 = t.val % 4) ∧ (win0_5.index t 0 = t.val / 4 ∧ win0_5.index t 1 = t.val % 4 + 4)
    ∧ (win0_6.index t 0 = 0 ∧ win0_6.index t 1 = t.val % 4) ∧ (win0_7.index t 0 = 0 ∧ win0_7.index t 1 = t.val % 4 + 4)
    ∧ (win0_8.index t 0 = t.val / 4 ∧ win0_8.index t 1 = t.val % 4) ∧ (win0_9.index t 0 = t.val / 4 ∧ win0_9.index t 1 = t.val % 4)
    ∧ (win0_10.index t 0 = t.val / 4 ∧ win0_10.index t 1 = t.val % 4) := by
  decide +kernel

/-- A row of a point's block, and a column, in the whole arrays. -/
def row (r : Fin 1024) : Fin 8192 := ⟨t.val / 4 * 1024 + r.val, by have := lt_all t; omega⟩
@[inherit_doc row] def col (n : Fin 512) : Fin 2048 := ⟨t.val % 4 * 512 + n.val, by omega⟩

/-- A column among the gates of the first branch, and of the second. -/
def lo (n : Fin 2048) : Fin 4096 := ⟨n.val, by omega⟩
@[inherit_doc lo] def hi (n : Fin 2048) : Fin 4096 := ⟨2048 + n.val, by omega⟩

/-- The product of the first branch. -/
def P (y : Vec Ideal S8192x1024 .bf16) (w : Vec Ideal S1024x2048 .f32) : Vec Ideal S8192x2048 .bf16 := fun j =>
  (∑ q : Fin 1024, y (ix2 (j 0) q) * w (ix2 q (j 1)) : EReal)

/-- The product of the second branch. -/
def Q (y : Vec Ideal S8192x512 .bf16) (w : Vec Ideal S512x2048 .f32) : Vec Ideal S8192x2048 .bf16 := fun j =>
  (∑ q : Fin 512, y (ix2 (j 0) q) * w (ix2 q (j 1)) : EReal)

/-- A gate. -/
def G (g : Vec Ideal S8192x4096 .bf16) (b : Vec Ideal S1x4096 .f32) (s : Fin 8192) (n : Fin 4096) : EReal := Ideal.logistic (g (ix2 s n) + b (ix2 0 n))

/-- The branches' products, each times its gate, added. -/
def M (y : Vec Ideal S8192x1024 .bf16) (z : Vec Ideal S8192x512 .bf16) (w : Vec Ideal S1024x2048 .f32) (u : Vec Ideal S512x2048 .f32)
    (g : Vec Ideal S8192x4096 .bf16) (b : Vec Ideal S1x4096 .f32) : Vec Ideal S8192x2048 .bf16 := fun j =>
  (G g b (j 0) (lo (j 1)) * P y w (ix2 (j 0) (j 1)) + G g b (j 0) (hi (j 1)) * Q z u (ix2 (j 0) (j 1)) : EReal)

/-- The arguments at launch. -/
abbrev aY : Vec Ideal S8192x1024 .bf16 := m ((c : Thread nD τ).loc main_arg0)
@[inherit_doc aY] abbrev aZ : Vec Ideal S8192x512 .bf16 := m ((c : Thread nD τ).loc main_arg1)
@[inherit_doc aY] abbrev aW : Vec Ideal S1024x2048 .f32 := m ((c : Thread nD τ).loc main_arg2)
@[inherit_doc aY] abbrev aU : Vec Ideal S512x2048 .f32 := m ((c : Thread nD τ).loc main_arg3)
@[inherit_doc aY] abbrev aG : Vec Ideal S8192x4096 .bf16 := m ((c : Thread nD τ).loc main_arg4)
@[inherit_doc aY] abbrev aB : Vec Ideal S1x4096 .f32 := m ((c : Thread nD τ).loc main_arg5)

/-- The first weight as the kernel finds it: transposed, and rounded, which is nothing over the reals. -/
theorem V_w : @Eq (FVec Ideal S2048x1024 .bf16) (V m c main_v1) (truncf .bf16 (transpose S2048x1024 [1, 0] (aW m c : FVec Ideal S1024x2048 .f32) transposes_S1024x2048_S2048x1024_1_0) bitsLt_bf16_f32) := by
  show StableHlo.after hostOps0 _ (Proc.devRef .tc main_v1) = _
  after_results

/-- The second weight as the kernel finds it. -/
theorem V_u : @Eq (FVec Ideal S2048x512 .bf16) (V m c main_v3) (truncf .bf16 (transpose S2048x512 [1, 0] (aU m c : FVec Ideal S512x2048 .f32) transposes_S512x2048_S2048x512_1_0) bitsLt_bf16_f32) := by
  show StableHlo.after hostOps0 _ (Proc.devRef .tc main_v3) = _
  after_results

/-- The first branch's block of a point, at an element. -/
theorem blk0 (r q : Fin 1024) :
    (iblk m c 0 t : Vec Ideal S1024x1024 .bf16) (ix2 r q) = aY m c (ix2 (row t r) q) := by
  have h := (idx t).1
  exact (congrFun (V_main_arg0 m c) _).trans (congrArg _ (Kit.e2 (Kit.at_ 1024 h.1 r) (Kit.at0 1024 h.2 q)))

/-- The second branch's block. -/
theorem blk1 (r : Fin 1024) (q : Fin 512) :
    (iblk m c 1 t : Vec Ideal S1024x512 .bf16) (ix2 r q) = aZ m c (ix2 (row t r) q) := by
  have h := (idx t).2.1
  exact (congrFun (V_main_arg1 m c) _).trans (congrArg _ (Kit.e2 (Kit.at_ 1024 h.1 r) (Kit.at0 512 h.2 q)))

/-- The first weight's block. -/
theorem blk2 (q : Fin 1024) (n : Fin 512) :
    (iblk m c 2 t : Vec Ideal S512x1024 .bf16) (ix2 n q) = aW m c (ix2 q (col t n)) := by
  have h := (idx t).2.2.1
  unfold iblk
  rw [View.read_apply]
  show V m c main_v1 _ = _
  refine (congrFun (V_w m c) _).trans ?_
  refine (congrArg _ (Kit.e2 (i := col t n) (j := q) (Kit.at_ 512 h.1 n) (Kit.at0 1024 h.2 q))).trans ?_
  pointwise []

/-- The second weight's block. -/
theorem blk3 (q n : Fin 512) :
    (iblk m c 3 t : Vec Ideal S512x512 .bf16) (ix2 n q) = aU m c (ix2 q (col t n)) := by
  have h := (idx t).2.2.2.1
  unfold iblk
  rw [View.read_apply]
  show V m c main_v3 _ = _
  refine (congrFun (V_u m c) _).trans ?_
  refine (congrArg _ (Kit.e2 (i := col t n) (j := q) (Kit.at_ 512 h.1 n) (Kit.at0 512 h.2 q))).trans ?_
  pointwise []

/-- The block of the first branch's gates. -/
theorem blk4 (r : Fin 1024) (n : Fin 512) :
    (iblk m c 4 t : Vec Ideal S1024x512 .bf16) (ix2 r n) = aG m c (ix2 (row t r) (lo (col t n))) := by
  have h := (idx t).2.2.2.2.1
  exact (congrFun (V_main_arg4 m c) _).trans (congrArg _ (Kit.e2 (Kit.at_ 1024 h.1 r) (Kit.at_ 512 h.2 n)))

/-- The block of the second branch's gates. -/
theorem blk5 (r : Fin 1024) (n : Fin 512) :
    (iblk m c 5 t : Vec Ideal S1024x512 .bf16) (ix2 r n) = aG m c (ix2 (row t r) (hi (col t n))) := by
  have h := (idx t).2.2.2.2.2.1
  exact (congrFun (V_main_arg4 m c) _).trans (congrArg _ (Kit.e2 (Kit.at_ 1024 h.1 r) ((Kit.at_ 512 h.2 n).trans (by show (_ : ℕ) = 2048 + (t.val % 4 * 512 + n.val); omega))))

/-- The bias of the first branch's gates. -/
theorem blk6 (n : Fin 512) :
    (iblk m c 6 t : Vec Ideal S1x512 .f32) (ix2 0 n) = aB m c (ix2 0 (lo (col t n))) := by
  have h := (idx t).2.2.2.2.2.2.1
  exact (congrFun (V_main_arg5 m c) _).trans (congrArg _ (Kit.e2 (Kit.at0 1 h.1 (0 : Fin 1)) (Kit.at_ 512 h.2 n)))

/-- The bias of the second branch's gates. -/
theorem blk7 (n : Fin 512) :
    (iblk m c 7 t : Vec Ideal S1x512 .f32) (ix2 0 n) = aB m c (ix2 0 (hi (col t n))) := by
  have h := (idx t).2.2.2.2.2.2.2.1
  exact (congrFun (V_main_arg5 m c) _).trans (congrArg _ (Kit.e2 (Kit.at0 1 h.1 (0 : Fin 1)) ((Kit.at_ 512 h.2 n).trans (by show (_ : ℕ) = 2048 + (t.val % 4 * 512 + n.val); omega))))

/-- The body's product of the first branch, at an element. -/
theorem pay1_apply (y : Vec Ideal S1024x1024 .bf16) (w : Vec Ideal S512x1024 .bf16) (r : Fin 1024) (n : Fin 512) :
    k0_pay1 y w (ix2 r n) = (∑ q : Fin 1024, y (ix2 r q) * w (ix2 n q) : EReal) := by
  pointwise [k0_pay1]

/-- The body's product of the second branch, at an element. -/
theorem pay2_apply (y : Vec Ideal S1024x512 .bf16) (w : Vec Ideal S512x512 .bf16) (r : Fin 1024) (n : Fin 512) :
    k0_pay2 y w (ix2 r n) = (∑ q : Fin 512, y (ix2 r q) * w (ix2 n q) : EReal) := by
  pointwise [k0_pay2]

/-- The body's mix, at an element. -/
theorem pay3_apply (y : Vec Ideal S1024x1024 .bf16) (w : Vec Ideal S512x1024 .bf16) (z : Vec Ideal S1024x512 .bf16) (u : Vec Ideal S512x512 .bf16)
    (g : Vec Ideal S1024x512 .bf16) (b : Vec Ideal S1x512 .f32) (g' : Vec Ideal S1024x512 .bf16) (b' : Vec Ideal S1x512 .f32) (r : Fin 1024) (n : Fin 512) :
    k0_pay3 y w z u g b g' b' (ix2 r n) = (Ideal.logistic (g (ix2 r n) + b (ix2 0 n)) * k0_pay1 y w (ix2 r n)
      + Ideal.logistic (g' (ix2 r n) + b' (ix2 0 n)) * k0_pay2 z u (ix2 r n) : EReal) := by
  unfold k0_pay3
  generalize k0_pay1 y w = p
  generalize k0_pay2 z u = q
  pointwise []

/-- The first product at a point, in the whole arrays. -/
theorem prodP (r : Fin 1024) (n : Fin 512) : k0_pay1 (iblk m c 0 t) (iblk m c 2 t) (ix2 r n) = P (aY m c) (aW m c) (ix2 (row t r) (col t n)) := by
  refine (pay1_apply _ _ r n).trans ?_
  simp only [blk0, blk2]
  rfl

/-- The second product at a point. -/
theorem prodQ (r : Fin 1024) (n : Fin 512) : k0_pay2 (iblk m c 1 t) (iblk m c 3 t) (ix2 r n) = Q (aZ m c) (aU m c) (ix2 (row t r) (col t n)) := by
  refine (pay2_apply _ _ r n).trans ?_
  simp only [blk1, blk3]
  rfl

/-- The point that writes an index. -/
theorem point (i : S8192x2048.Idx) : ∃ t : Fin cfg0.N, t.val = (i 0).val / 1024 * 4 + (i 1).val / 512 := by
  have h0 : (i 0).val < 8192 := (i 0).isLt
  have h1 : (i 1).val < 2048 := (i 1).isLt
  exact ⟨⟨_, by show _ < grid0.N; rw [Gen.N_0]; omega⟩, rfl⟩

/-- What a point writes back of the mix is its block of `M`. -/
theorem flushed_M : (dats m 0 c).flushed 8 t = ((cfg0.win 8).blk t).view.read (Elt Ideal) (M (aY m c) (aZ m c) (aW m c) (aU m c) (aG m c) (aB m c)) := by
  have h := (idx t).2.2.2.2.2.2.2.2.1
  rw [Value.flushed8]
  unfold out0_8 r0_0 r0_1 r0_2 r0_3 r0_4
  rw [View.canon_unit_zero hz2]
  simp only [Kit.ld]
  funext (j : S1024x512.Idx)
  rw [View.read_apply]
  obtain ⟨r, n, rfl⟩ := Kit.pair j
  have e : (((cfg0.win 8).blk t).view.emb (ix2 r n) : S8192x2048.Idx) = ix2 (row t r) (col t n) :=
    Kit.e2 (Kit.at_ 1024 h.1 r) (Kit.at_ 512 h.2 n)
  refine Eq.trans ?_ (congrArg (M (aY m c) (aZ m c) (aW m c) (aU m c) (aG m c) (aB m c)) e).symm
  refine (pay3_apply _ _ _ _ _ _ _ _ r n).trans ?_
  simp only [prodP, prodQ, blk4, blk5, blk6, blk7]
  rfl

/-- The array of the mix after the run. -/
theorem final8 : (dats m 0 c).arrAt 8 cfg0.N = M (aY m c) (aZ m c) (aW m c) (aU m c) (aG m c) (aB m c) :=
  (dats m 0 c).arrAt_eq_of_cover 8 _ (fun t _ => flushed_M m c t) fun i => by
  have h1 : (i 1).val < 2048 := (i 1).isLt
  obtain ⟨t, ht⟩ := point i
  have h := (idx t).2.2.2.2.2.2.2.2.1
  refine ⟨t, flush0_8 t, ?_⟩
  exact Kit.cov (Fin.forall_fin_two.2 ⟨Kit.mem 1024 _ h.1 (by omega), Kit.mem 512 _ h.2 (by omega)⟩)

/-- What a point writes back of the first product is its block of `P`. -/
theorem flushed_P : (dats m 0 c).flushed 9 t = ((cfg0.win 9).blk t).view.read (Elt Ideal) (P (aY m c) (aW m c)) := by
  have h := (idx t).2.2.2.2.2.2.2.2.2.1
  rw [Value.flushed9]
  unfold out0_9 r0_0 r0_1 r0_2
  rw [View.canon_unit_zero hz2]
  simp only [Kit.ld]
  funext (j : S1024x512.Idx)
  rw [View.read_apply]
  obtain ⟨r, n, rfl⟩ := Kit.pair j
  have e : (((cfg0.win 9).blk t).view.emb (ix2 r n) : S8192x2048.Idx) = ix2 (row t r) (col t n) :=
    Kit.e2 (Kit.at_ 1024 h.1 r) (Kit.at_ 512 h.2 n)
  refine Eq.trans ?_ (congrArg (P (aY m c) (aW m c)) e).symm
  exact prodP m c t r n

/-- The array of the first product after the run. -/
theorem final9 : (dats m 0 c).arrAt 9 cfg0.N = P (aY m c) (aW m c) :=
  (dats m 0 c).arrAt_eq_of_cover 9 _ (fun t _ => flushed_P m c t) fun i => by
  have h1 : (i 1).val < 2048 := (i 1).isLt
  obtain ⟨t, ht⟩ := point i
  have h := (idx t).2.2.2.2.2.2.2.2.2.1
  refine ⟨t, flush0_9 t, ?_⟩
  exact Kit.cov (Fin.forall_fin_two.2 ⟨Kit.mem 1024 _ h.1 (by omega), Kit.mem 512 _ h.2 (by omega)⟩)

/-- What a point writes back of the second product is its block of `Q`. -/
theorem flushed_Q : (dats m 0 c).flushed 10 t = ((cfg0.win 10).blk t).view.read (Elt Ideal) (Q (aZ m c) (aU m c)) := by
  have h := (idx t).2.2.2.2.2.2.2.2.2.2
  rw [Value.flushed10]
  unfold out0_10 r0_2 r0_3
  rw [View.canon_unit_zero hz2]
  simp only [Kit.ld]
  funext (j : S1024x512.Idx)
  rw [View.read_apply]
  obtain ⟨r, n, rfl⟩ := Kit.pair j
  have e : (((cfg0.win 10).blk t).view.emb (ix2 r n) : S8192x2048.Idx) = ix2 (row t r) (col t n) :=
    Kit.e2 (Kit.at_ 1024 h.1 r) (Kit.at_ 512 h.2 n)
  refine Eq.trans ?_ (congrArg (Q (aZ m c) (aU m c)) e).symm
  exact prodQ m c t r n

/-- The array of the second product after the run. -/
theorem final10 : (dats m 0 c).arrAt 10 cfg0.N = Q (aZ m c) (aU m c) :=
  (dats m 0 c).arrAt_eq_of_cover 10 _ (fun t _ => flushed_Q m c t) fun i => by
  have h1 : (i 1).val < 2048 := (i 1).isLt
  obtain ⟨t, ht⟩ := point i
  have h := (idx t).2.2.2.2.2.2.2.2.2.2
  refine ⟨t, flush0_10 t, ?_⟩
  exact Kit.cov (Fin.forall_fin_two.2 ⟨Kit.mem 1024 _ h.1 (by omega), Kit.mem 512 _ h.2 (by omega)⟩)

end Cert.Kernel32Ideal.Fwd

namespace Cert.Reference32Ideal.Fwd

open Gen Read Kernel32Ideal.Fwd Idealize.ShloMosaic TcCoe Idealize.SL.Sem

variable (x0 : Vec Ideal S8192x1024 .bf16) (x1 : Vec Ideal S8192x512 .bf16) (x2 : Vec Ideal S1024x2048 .f32) (x3 : Vec Ideal S512x2048 .f32)
  (x4 : Vec Ideal S8192x4096 .bf16) (x5 : Vec Ideal S1x4096 .f32)

/-- The reference computes the first product. -/
theorem result24 : val_main_v24 (F := Ideal) x0 x2 = P x0 x2 := by
  funext j
  obtain ⟨s, n, rfl⟩ := Kit.pair j
  unfold P
  pointwise [val_main_v12, val_main_v13, val_main_v24]

/-- The reference computes the second product. -/
theorem result25 : val_main_v25 (F := Ideal) x1 x3 = Q x1 x3 := by
  funext j
  obtain ⟨s, n, rfl⟩ := Kit.pair j
  unfold Q
  pointwise [val_main_v14, val_main_v15, val_main_v25]

/-- The constant one. -/
theorem one : Ideal.ofBits .f32 0x3F800000#32 = 1 := by
  simp [Ideal.ofBits, Ideal.ieee, -EReal.coe_mul]
  norm_num

/-- The reference's gates. -/
theorem gate (s : Fin 8192) (n : Fin 4096) : val_main_v10 (F := Ideal) x4 x5 (ix2 s n) = G x4 x5 s n := by
  unfold G Ideal.logistic
  rw [← one]
  pointwise [val_main_v0, val_main_v1, val_main_v2, val_main_v3, val_main_v4, val_main_v5, val_main_v6, val_main_cst, val_main_v7, val_main_v8, val_main_cst_0, val_main_v9, val_main_v10]

/-- A gate of the first branch, in its own axis. -/
theorem gate_lo (s : Fin 8192) (k : Fin 2048) : val_main_v17 (F := Ideal) x4 x5 (ix2 s k) = G x4 x5 s (lo k) := by
  rw [← gate]
  unfold val_main_v17 val_main_v16 val_main_v11
  generalize val_main_v10 (F := Ideal) x4 x5 = g
  pointwise []
  rfl

/-- A gate of the second branch, in its own axis. -/
theorem gate_hi (s : Fin 8192) (k : Fin 2048) : val_main_v20 (F := Ideal) x4 x5 (ix2 s k) = G x4 x5 s (hi k) := by
  rw [← gate]
  unfold val_main_v20 val_main_v19 val_main_v11
  generalize val_main_v10 (F := Ideal) x4 x5 = g
  pointwise []
  rfl

/-- The reference computes the mix. -/
theorem result23 : val_main_v23 (F := Ideal) x0 x1 x2 x3 x4 x5 = M x0 x1 x2 x3 x4 x5 := by
  funext j
  obtain ⟨s, n, rfl⟩ := Kit.pair j
  show _ = (G x4 x5 s (lo n) * P x0 x2 (ix2 s n) + G x4 x5 s (hi n) * Q x1 x3 (ix2 s n) : EReal)
  rw [← gate_lo, ← gate_hi, ← result24, ← result25]
  unfold val_main_v23 val_main_v22 val_main_v21 val_main_v18 val_main_v24 val_main_v25
  generalize val_main_v17 (F := Ideal) x4 x5 = a
  generalize val_main_v20 (F := Ideal) x4 x5 = b
  generalize val_main_v13 (F := Ideal) x0 x2 = p
  generalize val_main_v15 (F := Ideal) x1 x3 = q
  pointwise []

end Cert.Reference32Ideal.Fwd

namespace Cert.Proof.Fwd32

open Idealize.ShloMosaic TcCoe Idealize.SL.Sem

/-- The reference leaves its arguments as they were. -/
theorem frame_reference : quiescent_Reference32Ideal := fun m ρ _ =>
  (θ_run Reference32Ideal.defs _ _).mono (fun r h => ⟨fun c => (h c).2.2.2, sem_eq_zero_of_no_sems (by decide) r.2⟩)
    (Reference32Ideal.Value.run m ρ)

/-- Kernel and reference end with the same arrays. -/
theorem algebraic : algebraic_Kernel32Ideal_Reference32Ideal := by
  intro m ρ m' ρ' _ hag
  refine ⟨_, _, _, (θ_run Kernel32Ideal.defs _ _).mono
    (fun _ h c => ⟨(h c).1.trans (Kernel32Ideal.Fwd.final8 m c), (h c).2.1.trans (Kernel32Ideal.Fwd.final9 m c), (h c).2.2.1.trans (Kernel32Ideal.Fwd.final10 m c), (h c).2.2.2⟩) (Kernel32Ideal.Value.run_blocks m ρ), ?_⟩
  · refine (θ_run Reference32Ideal.defs _ _).mono (fun _ h c => ?_) (Reference32Ideal.Value.run m' ρ')
    obtain ⟨h0, h1, h2, hr⟩ := h c
    obtain ⟨e0, e1, e2, e3, e4, e5⟩ := hag c
    refine ⟨?_, ?_, ?_, hr⟩
    · refine h0.trans ((Reference32Ideal.Read.val_main_v23_eq _ _ _ _ _ _).trans ((Reference32Ideal.Fwd.result23 _ _ _ _ _ _).trans ?_))
      rw [e0, e1, e2, e3, e4, e5]
    · refine h1.trans ((Reference32Ideal.Read.val_main_v24_eq _ _).trans ((Reference32Ideal.Fwd.result24 _ _).trans ?_))
      rw [e0, e2]
    · refine h2.trans ((Reference32Ideal.Read.val_main_v25_eq _ _).trans ((Reference32Ideal.Fwd.result25 _ _).trans ?_))
      rw [e1, e3]

end Cert.Proof.Fwd32

end
-- ==== Proof.Fwd34.lean ====
/- The gradient of the second norm: the kernel's arrays, the reference's, and the claims. -/
module

public import proofs.«01_k».proof.Proof.RmsClaims
public import proofs.«01_k».proof.Proof.Gen.Kernel34Ideal.Value
public import proofs.«01_k».proof.Proof.Gen.Reference34Ideal.Read

@[expose] public section

set_option maxRecDepth 16384

noncomputable section

namespace Cert.Kernel34Ideal.Rms

open Gen Idealize.ShloMosaic TcCoe Idealize.SL.Sem
open Idealize.ShloMosaic.Pipeline (Dat)
open Kernel26Ideal.Rms (DX DG gterm pay5_apply pay6_apply)

section Points

variable {F : FTy → Type} [FloatOps F]
variable (c : Dev nD) (i : grid0.Coords) (arg1 : Memref sig .tc .vmem S512x2048 .f32) (harg1 : arg1.IsWhole) (arg2 : Memref sig .tc .vmem S1x2048 .f32) (harg2 : arg2.IsWhole) (arg3 : Memref sig .tc .vmem S512x2048 .bf16) (harg3 : arg3.IsWhole) (arg4 : Memref sig .tc .vmem S512x2048 .f32) (harg4 : arg4.IsWhole) (arg5 : Memref sig .tc .vmem S512x2048 .f32) (harg5 : arg5.IsWhole) (arg6 : Memref sig .tc .vmem S512x2048 .bf16) (harg6 : arg6.IsWhole) (arg7 : Memref sig .tc .vmem S1x2048 .f32) (harg7 : arg7.IsWhole)
variable (x0 : Vec F S512x2048 .f32) (x1 : Vec F S1x2048 .f32) (x2 : Vec F S512x2048 .bf16) (x3 : Vec F S512x2048 .f32) (xo : Vec F S1x2048 .f32)

/-- What case A leaves for the three outputs. -/
theorem out_A (hc0 : cond0_0 i) (hc1 : ¬cond0_1 i) : out0_A_4 c i arg1 harg1 arg2 harg2 arg3 harg3 arg4 harg4 arg5 harg5 arg6 harg6 arg7 harg7 hc0 hc1 x0 x1 x2 x3 = k0_pay5 x0 x2 x1 x3
    ∧ out0_A_5 c i arg1 harg1 arg2 harg2 arg3 harg3 arg4 harg4 arg5 harg5 arg6 harg6 arg7 harg7 hc0 hc1 x0 x1 x2 x3 = k0_pay6 x0 x2 x1 x3
    ∧ out0_A_6 c i arg1 harg1 arg2 harg2 arg3 harg3 arg4 harg4 arg5 harg5 arg6 harg6 arg7 harg7 hc0 hc1 x0 x1 x2 x3 = k0_pay7 x0 x2 := by
  unfold out0_A_4 out0_A_5 out0_A_6
  rw [View.read_writes_eq_canon _ _ _ (cover0_A_4 _ _ _ _ _ _ _ _ _ _ _ _ _ _ _ _ _ _ _ _ _ _), View.read_writes_eq_canon _ _ _ (cover0_A_5 _ _ _ _ _ _ _ _ _ _ _ _ _ _ _ _ _ _ _ _ _ _), View.read_writes_eq_canon _ _ _ (cover0_A_6 _ _ _ _ _ _ _ _ _ _ _ _ _ _ _ _ _ _ _ _ _ _)]
  unfold kernelRun0_A
  dsimp only
  sl_unfold_words
  rw [View.canon_unit_zero hz2, View.canon_unit_zero hz2, View.canon_unit_zero hz2]
  simp only [View.readAt_eq_ld, Memref.IsWhole.read_unread, Kit.ld, and_self]

/-- What case B leaves for the three outputs. -/
theorem out_B (hc0 : ¬cond0_0 i) (hc1 : cond0_1 i) : out0_B_4 c i arg1 harg1 arg2 harg2 arg3 harg3 arg4 harg4 arg5 harg5 arg6 harg6 arg7 harg7 hc0 hc1 x0 x1 x2 x3 xo = k0_pay5 x0 x2 x1 x3
    ∧ out0_B_5 c i arg1 harg1 arg2 harg2 arg3 harg3 arg4 harg4 arg5 harg5 arg6 harg6 arg7 harg7 hc0 hc1 x0 x1 x2 x3 xo = k0_pay6 x0 x2 x1 x3
    ∧ out0_B_6 c i arg1 harg1 arg2 harg2 arg3 harg3 arg4 harg4 arg5 harg5 arg6 harg6 arg7 harg7 hc0 hc1 x0 x1 x2 x3 xo = k0_pay1 (k0_pay7 x0 x2) xo := by
  unfold out0_B_4 out0_B_5 out0_B_6
  rw [View.read_writes_eq_canon _ _ _ (cover0_B_4 _ _ _ _ _ _ _ _ _ _ _ _ _ _ _ _ _ _ _ _ _ _ _), View.read_writes_eq_canon _ _ _ (cover0_B_5 _ _ _ _ _ _ _ _ _ _ _ _ _ _ _ _ _ _ _ _ _ _ _), View.read_writes_eq_canon _ _ _ (cover0_B_6 _ _ _ _ _ _ _ _ _ _ _ _ _ _ _ _ _ _ _ _ _ _ _)]
  unfold kernelRun0_B
  dsimp only
  sl_unfold_words
  rw [View.canon_unit_zero hz2, View.canon_unit_zero hz2, View.canon_unit_zero hz2]
  simp only [View.readAt_eq_ld, Memref.IsWhole.read_unread, Kit.ld, and_self]

end Points

variable (m : (ℓ : Loc nD τ sig) → Buf (Elt Ideal) ℓ)

/-- The arguments at launch. -/
abbrev a0 (c : Dev nD) : Vec Ideal S8192x2048 .f32 := m ((c : Thread nD τ).loc main_arg0)
@[inherit_doc a0] abbrev a1 (c : Dev nD) : Vec Ideal S1x2048 .f32 := m ((c : Thread nD τ).loc main_arg1)
@[inherit_doc a0] abbrev a2 (c : Dev nD) : Vec Ideal S8192x2048 .bf16 := m ((c : Thread nD τ).loc main_arg2)
@[inherit_doc a0] abbrev a3 (c : Dev nD) : Vec Ideal S8192x2048 .f32 := m ((c : Thread nD τ).loc main_arg3)

/-- Every point's number is below 16. -/
theorem lt_all (t : Fin cfg0.N) : t.val < 16 := lt_of_lt_of_eq t.isLt N_0

/-- A row of a point's block, in the whole array. -/
abbrev row (t : Fin cfg0.N) (r : Fin 512) : Fin 8192 := ⟨t.val * 512 + r.val, by have := lt_all t; omega⟩

/-- Each window's block number at a point. -/
theorem idx : ∀ t : Fin grid0.N, (win0_0.index t 0 = t.val ∧ win0_0.index t 1 = 0) ∧ (win0_1.index t 0 = 0 ∧ win0_1.index t 1 = 0)
    ∧ (win0_2.index t 0 = t.val ∧ win0_2.index t 1 = 0) ∧ (win0_3.index t 0 = t.val ∧ win0_3.index t 1 = 0)
    ∧ (win0_4.index t 0 = t.val ∧ win0_4.index t 1 = 0) ∧ (win0_5.index t 0 = t.val ∧ win0_5.index t 1 = 0) ∧ (win0_6.index t 0 = 0 ∧ win0_6.index t 1 = 0) := by
  decide +kernel

/-- The arguments' blocks at a point, at an element. -/
theorem blk (c : Dev nD) (t : Fin cfg0.N) (r : Fin 512) (n : Fin 2048) :
    (iblk m c 0 t : Vec Ideal S512x2048 .f32) (ix2 r n) = a0 m c (ix2 (row t r) n)
    ∧ (iblk m c 1 t : Vec Ideal S1x2048 .f32) (ix2 0 n) = a1 m c (ix2 0 n)
    ∧ (iblk m c 2 t : Vec Ideal S512x2048 .bf16) (ix2 r n) = a2 m c (ix2 (row t r) n)
    ∧ (iblk m c 3 t : Vec Ideal S512x2048 .f32) (ix2 r n) = a3 m c (ix2 (row t r) n) := by
  obtain ⟨h0, h1, h2, h3, -⟩ := idx t
  exact ⟨(congrFun (V_main_arg0 m c) _).trans (congrArg _ (Kit.e2 (Kit.at_ 512 h0.1 r) (Kit.at0 2048 h0.2 n))),
    (congrFun (V_main_arg1 m c) _).trans (congrArg _ (Kit.e2 (Kit.at0 1 h1.1 (0 : Fin 1)) (Kit.at0 2048 h1.2 n))),
    (congrFun (V_main_arg2 m c) _).trans (congrArg _ (Kit.e2 (Kit.at_ 512 h2.1 r) (Kit.at0 2048 h2.2 n))),
    (congrFun (V_main_arg3 m c) _).trans (congrArg _ (Kit.e2 (Kit.at_ 512 h3.1 r) (Kit.at0 2048 h3.2 n)))⟩

/-- What a point leaves of its rows' gradient is its block of `DX`, in both precisions. -/
theorem rows (c : Dev nD) (t : Fin cfg0.N) (r : Fin 512) (n : Fin 2048) :
    (outsAt0 m c t.val t.isLt).1 (ix2 r n) = DX (a0 m c) (a1 m c) (a2 m c) (a3 m c) (ix2 (row t r) n)
    ∧ (outsAt0 m c t.val t.isLt).2.1 (ix2 r n) = DX (a0 m c) (a1 m c) (a2 m c) (a3 m c) (ix2 (row t r) n) := by
  have ht := lt_all t
  have h : k0_pay5 (F := Ideal) (iblk m c 0 t) (iblk m c 2 t) (iblk m c 1 t) (iblk m c 3 t) (ix2 r n)
      = DX (a0 m c) (a1 m c) (a2 m c) (a3 m c) (ix2 (row t r) n) := by
    refine (pay5_apply (iblk m c 0 t) (iblk m c 1 t) (iblk m c 2 t) (iblk m c 3 t) r n).trans ?_
    rw [(blk m c t r n).2.2.2]
    simp only [fun k => (blk m c t r k).1, fun k => (blk m c t r k).2.1, fun k => (blk m c t r k).2.2.1]
    rfl
  by_cases h0 : t.val = 0
  · rw [outsAt0_A m c t (by omega) (by omega)]
    dsimp only
    rw [(out_A ..).1, (out_A ..).2.1]
    exact ⟨h, h⟩
  · rw [outsAt0_B m c t (by omega) (by omega)]
    dsimp only
    rw [(out_B ..).1, (out_B ..).2.1]
    exact ⟨h, h⟩

/-- The rows' gradient, after the run. -/
theorem final_DX (c : Dev nD) : (dats m 0 c).arrAt 4 cfg0.N = (DX (a0 m c) (a1 m c) (a2 m c) (a3 m c) : S8192x2048.Idx → EReal) := by
  refine (dats m 0 c).arrAt_eq_of_cover 4 _ (fun t _ => ?_) fun (i : S8192x2048.Idx) => ?_
  · have h := (idx t).2.2.2.2.1
    rw [Value.flushed4]
    funext (j : S512x2048.Idx)
    rw [View.read_apply]
    obtain ⟨r, n, rfl⟩ := Kit.pair j
    have e : (((cfg0.win 4).blk t).view.emb (ix2 r n) : S8192x2048.Idx) = ix2 (row t r) n :=
      Kit.e2 (Kit.at_ 512 h.1 r) (Kit.at0 2048 h.2 n)
    exact (rows m c t r n).1.trans (congrArg (DX (a0 m c) (a1 m c) (a2 m c) (a3 m c)) e).symm
  · have h0 : (i 0).val < 8192 := (i 0).isLt
    have h1 : (i 1).val < 2048 := (i 1).isLt
    obtain ⟨t, ht⟩ : ∃ t : Fin cfg0.N, t.val = (i 0).val / 512 := ⟨⟨_, by show _ < grid0.N; rw [N_0]; omega⟩, rfl⟩
    have h := (idx t).2.2.2.2.1
    exact ⟨t, flush0_4 t, Kit.cov (Fin.forall_fin_two.2 ⟨Kit.mem 512 _ h.1 (by omega), Kit.mem 2048 _ h.2 (by omega)⟩)⟩

/-- The rows' gradient once more, rounded, after the run. -/
theorem final_DXh (c : Dev nD) : (dats m 0 c).arrAt 5 cfg0.N = (DX (a0 m c) (a1 m c) (a2 m c) (a3 m c) : S8192x2048.Idx → EReal) := by
  refine (dats m 0 c).arrAt_eq_of_cover 5 _ (fun t _ => ?_) fun (i : S8192x2048.Idx) => ?_
  · have h := (idx t).2.2.2.2.2.1
    rw [Value.flushed5]
    funext (j : S512x2048.Idx)
    rw [View.read_apply]
    obtain ⟨r, n, rfl⟩ := Kit.pair j
    have e : (((cfg0.win 5).blk t).view.emb (ix2 r n) : S8192x2048.Idx) = ix2 (row t r) n :=
      Kit.e2 (Kit.at_ 512 h.1 r) (Kit.at0 2048 h.2 n)
    exact (rows m c t r n).2.trans (congrArg (DX (a0 m c) (a1 m c) (a2 m c) (a3 m c)) e).symm
  · have h0 : (i 0).val < 8192 := (i 0).isLt
    have h1 : (i 1).val < 2048 := (i 1).isLt
    obtain ⟨t, ht⟩ : ∃ t : Fin cfg0.N, t.val = (i 0).val / 512 := ⟨⟨_, by show _ < grid0.N; rw [N_0]; omega⟩, rfl⟩
    have h := (idx t).2.2.2.2.2.1
    exact ⟨t, flush0_5 t, Kit.cov (Fin.forall_fin_two.2 ⟨Kit.mem 512 _ h.1 (by omega), Kit.mem 2048 _ h.2 (by omega)⟩)⟩

/-- One point's share of the gain's gradient. -/
def term (c : Dev nD) (t : Fin cfg0.N) : S1x2048.Idx → EReal := k0_pay7 (F := Ideal) (iblk m c 0 t) (iblk m c 2 t)

/-- A point's share, at a column, in the whole arrays. -/
theorem term_apply (c : Dev nD) (t : Fin cfg0.N) (n : Fin 2048) :
    term m c t (ix2 0 n) = ∑ r : Fin 512, gterm (a0 m c) (a2 m c) n (row t r) := by
  refine (pay6_apply (iblk m c 0 t) (iblk m c 2 t) n).trans ?_
  simp only [fun r k => (blk m c t r k).1, fun r k => (blk m c t r k).2.2.1]
  rfl

/-- The first point sets the sum. -/
theorem acc_first (c : Dev nD) (t : Fin cfg0.N) (h0 : t.val % 16 = 0) (i : S1x2048.Idx) :
    (outsAt0 m c t.val t.isLt).2.2 i = 0 + term m c t i := by
  have ht := lt_all t
  rw [outsAt0_A m c t h0 (by omega)]
  dsimp only
  rw [(out_A ..).2.2, zero_add]
  rfl

/-- Every other point adds to it. -/
theorem acc_next (c : Dev nD) (t : Fin cfg0.N) (h0 : ¬t.val % 16 = 0) (i : S1x2048.Idx) :
    (outsAt0 m c t.val t.isLt).2.2 i
      = (outsAt0 m c (t.val - 1) (Nat.lt_of_le_of_lt (Nat.sub_le _ _) t.isLt)).2.2 i + term m c t i := by
  have ht := lt_all t
  rw [outsAt0_B m c t h0 (by omega)]
  dsimp only
  rw [(out_B ..).2.2]
  unfold k0_pay1 term
  rw [shapeCast_self]
  rfl

/-- The gain's gradient after the run. -/
theorem final_DG (c : Dev nD) : (dats m 0 c).arrAt 6 cfg0.N = DG (a0 m c) (a2 m c) := by
  refine (dats m 0 c).arrAt_eq_of_cover 6 _ (fun t hf => ?_) fun (i : S1x2048.Idx) => ?_
  · have ht := lt_all t
    have hk : t.val % 16 = 15 := (flush0_6 t).mp hf
    have h := (idx t).2.2.2.2.2.2
    rw [Value.flushed6]
    funext (j : S1x2048.Idx)
    rw [View.read_apply]
    obtain ⟨z, n, rfl⟩ := Kit.pair j
    obtain rfl : z = 0 := Subsingleton.elim _ _
    have e : (((cfg0.win 6).blk t).view.emb (ix2 0 n) : S1x2048.Idx) = ix2 0 n :=
      Kit.e2 (Kit.at0 1 h.1 (0 : Fin 1)) (Kit.at0 2048 h.2 n)
    refine Eq.trans ?_ (congrArg (DG (a0 m c) (a2 m c)) e).symm
    refine (Pipeline.eq_sum_fin_of_reset_step_apply_of_flush (fun n h => (outsAt0 m c n h).2.2) 16 (fun _ => (0 : EReal)) (term m c)
      (acc_first m c) (acc_next m c) t hk (ix2 0 n)).trans ?_
    rw [zero_add]
    refine Eq.trans ?_ (Fin.sum_mul_add_fin 16 512 (gterm (a0 m c) (a2 m c) n))
    refine Finset.sum_congr rfl fun s _ => ?_
    rw [term_apply]
    refine Finset.sum_congr rfl fun l _ => ?_
    have e : 16 * (t.val / 16) + s.val = s.val := by omega
    simp only [e]
  · have h0 : (i 0).val < 1 := (i 0).isLt
    have h1 : (i 1).val < 2048 := (i 1).isLt
    obtain ⟨t, ht⟩ : ∃ t : Fin cfg0.N, t.val = 15 := ⟨⟨_, by show _ < grid0.N; rw [N_0]; omega⟩, rfl⟩
    have h := (idx t).2.2.2.2.2.2
    exact ⟨t, (flush0_6 t).mpr (by omega), Kit.cov (Fin.forall_fin_two.2 ⟨Kit.mem 1 _ h.1 (by omega), Kit.mem 2048 _ h.2 (by omega)⟩)⟩

end Cert.Kernel34Ideal.Rms

namespace Cert.Proof.Fwd34

open Idealize.ShloMosaic TcCoe Idealize.SL.Sem

/-- The reference leaves its arguments as they were. -/
theorem frame_reference : quiescent_Reference34Ideal := fun m ρ _ =>
  (θ_run Reference34Ideal.defs _ _).mono (fun r h => ⟨fun c => (h c).2.2.2, sem_eq_zero_of_no_sems (by decide) r.2⟩)
    (Reference34Ideal.Value.run m ρ)

/-- Kernel and reference end with the same arrays. -/
theorem algebraic : algebraic_Kernel34Ideal_Reference34Ideal := by
  intro m ρ m' ρ' _ hag
  refine ⟨_, _, _, (θ_run Kernel34Ideal.defs _ _).mono
    (fun _ h c => ⟨(h c).1.trans (Kernel34Ideal.Rms.final_DX m c), (h c).2.1.trans (Kernel34Ideal.Rms.final_DXh m c), (h c).2.2.1.trans (Kernel34Ideal.Rms.final_DG m c), (h c).2.2.2⟩)
    (Kernel34Ideal.Value.run_blocks m ρ), ?_⟩
  · refine (θ_run Reference34Ideal.defs _ _).mono (fun _ h c => ?_) (Reference34Ideal.Value.run m' ρ')
    obtain ⟨h0, h1, h2, hr⟩ := h c
    obtain ⟨e0, e1, e2, e3⟩ := hag c
    refine ⟨?_, ?_, ?_, hr⟩
    · refine h0.trans ((Reference34Ideal.Read.val_main_v38_eq _ _).trans ((Reference26Ideal.Rms.result_v38 _ _ _ _).trans ?_))
      rw [e0, e1, e2, e3]
    · refine h1.trans ((Reference34Ideal.Read.val_main_v40_eq _ _).trans ((Reference26Ideal.Rms.result_v38 _ _ _ _).trans ?_))
      rw [e0, e1, e2, e3]
    · refine h2.trans ((Reference34Ideal.Read.val_main_v41_eq _ _).trans ((Reference26Ideal.Rms.result_v39 _ _).trans ?_))
      rw [e0, e2]

end Cert.Proof.Fwd34

end
-- ==== Proof.lean ====
/- The proof of the claims of proof/Defs.lean. -/
module

public import proofs.«01_k».proof.Defs
public import proofs.«01_k».proof.Proof.Gen.Kernel.Frame
public import proofs.«01_k».proof.Proof.ConvClaims
public import proofs.«01_k».proof.Proof.Gen.Kernel2.Frame
public import proofs.«01_k».proof.Proof.Product2
public import proofs.«01_k».proof.Proof.Gen.Kernel3.Frame
public import proofs.«01_k».proof.Proof.ActClaims
public import proofs.«01_k».proof.Proof.Gen.Kernel4.Frame
public import proofs.«01_k».proof.Proof.Product4
public import proofs.«01_k».proof.Proof.Gen.Kernel5.Frame
public import proofs.«01_k».proof.Proof.Product5
public import proofs.«01_k».proof.Proof.Gen.Kernel6.Frame
public import proofs.«01_k».proof.Proof.Product6
public import proofs.«01_k».proof.Proof.Gen.Kernel7.Frame
public import proofs.«01_k».proof.Proof.Product7
public import proofs.«01_k».proof.Proof.Gen.Kernel8.Frame
public import proofs.«01_k».proof.Proof.Product8
public import proofs.«01_k».proof.Proof.Gen.Kernel9.Frame
public import proofs.«01_k».proof.Proof.Product9
public import proofs.«01_k».proof.Proof.Gen.Kernel10.Frame
public import proofs.«01_k».proof.Proof.Product10
public import proofs.«01_k».proof.Proof.Gen.Kernel11.Frame
public import proofs.«01_k».proof.Proof.Product11
public import proofs.«01_k».proof.Proof.CarryClaims
public import proofs.«01_k».proof.Proof.Gen.Kernel13.Frame
public import proofs.«01_k».proof.Proof.Sum13
public import proofs.«01_k».proof.Proof.Gen.Kernel14.Frame
public import proofs.«01_k».proof.Proof.Sum14
public import proofs.«01_k».proof.Proof.Gen.Kernel15.Frame
public import proofs.«01_k».proof.Proof.Sum15
public import proofs.«01_k».proof.Proof.Gen.Kernel16.Frame
public import proofs.«01_k».proof.Proof.Sum16
public import proofs.«01_k».proof.Proof.Gen.Kernel17.Frame
public import proofs.«01_k».proof.Proof.Sum17
public import proofs.«01_k».proof.Proof.Gen.Kernel18.Frame
public import proofs.«01_k».proof.Proof.Sum18
public import proofs.«01_k».proof.Proof.Gen.Kernel19.Frame
public import proofs.«01_k».proof.Proof.Sum19
public import proofs.«01_k».proof.Proof.Gen.Kernel20.Frame
public import proofs.«01_k».proof.Proof.Sum20
public import proofs.«01_k».proof.Proof.Gen.Kernel21.Frame
public import proofs.«01_k».proof.Proof.Adam21
public import proofs.«01_k».proof.Proof.Gen.Kernel22.Frame
public import proofs.«01_k».proof.Proof.Adam22
public import proofs.«01_k».proof.Proof.Gen.Kernel23.Frame
public import proofs.«01_k».proof.Proof.Adam23
public import proofs.«01_k».proof.Proof.Gen.Kernel24.Frame
public import proofs.«01_k».proof.Proof.Adam24
public import proofs.«01_k».proof.Proof.Gen.Kernel25.Frame
public import proofs.«01_k».proof.Proof.Adam25
public import proofs.«01_k».proof.Proof.Gen.Kernel26.Frame
public import proofs.«01_k».proof.Proof.RmsClaims
public import proofs.«01_k».proof.Proof.Gen.Kernel28.Frame
public import proofs.«01_k».proof.Proof.Product28
public import proofs.«01_k».proof.Proof.Gen.Kernel29.Frame
public import proofs.«01_k».proof.Proof.Product29
public import proofs.«01_k».proof.Proof.Gen.Kernel30.Frame
public import proofs.«01_k».proof.Proof.MixClaims
public import proofs.«01_k».proof.Proof.Gen.Kernel31.Frame
public import proofs.«01_k».proof.Proof.Fwd31
public import proofs.«01_k».proof.Proof.Gen.Kernel32.Frame
public import proofs.«01_k».proof.Proof.Fwd32
public import proofs.«01_k».proof.Proof.Gen.Kernel33.Frame
public import proofs.«01_k».proof.Proof.Fwd33
public import proofs.«01_k».proof.Proof.Gen.Kernel34.Frame
public import proofs.«01_k».proof.Proof.Fwd34

@[expose] public section

noncomputable section

namespace Cert.Proof

open Idealize.ShloMosaic Idealize.SL.Sem

/-- All claims of the certificate. -/
theorem claim : Claim := ⟨Kernel.Gen.facts,
  KernelIdeal.Gen.facts,
  ReferenceIdeal.Gen.facts,
  Kernel2.Gen.facts,
  Kernel2Ideal.Gen.facts,
  Reference2Ideal.Gen.facts,
  Kernel3.Gen.facts,
  Kernel3Ideal.Gen.facts,
  Reference3Ideal.Gen.facts,
  Kernel4.Gen.facts,
  Kernel4Ideal.Gen.facts,
  Reference4Ideal.Gen.facts,
  Kernel5.Gen.facts,
  Kernel5Ideal.Gen.facts,
  Reference5Ideal.Gen.facts,
  Kernel6.Gen.facts,
  Kernel6Ideal.Gen.facts,
  Reference6Ideal.Gen.facts,
  Kernel7.Gen.facts,
  Kernel7Ideal.Gen.facts,
  Reference7Ideal.Gen.facts,
  Kernel8.Gen.facts,
  Kernel8Ideal.Gen.facts,
  Reference8Ideal.Gen.facts,
  Kernel9.Gen.facts,
  Kernel9Ideal.Gen.facts,
  Reference9Ideal.Gen.facts,
  Kernel10.Gen.facts,
  Kernel10Ideal.Gen.facts,
  Reference10Ideal.Gen.facts,
  Kernel11.Gen.facts,
  Kernel11Ideal.Gen.facts,
  Reference11Ideal.Gen.facts,
  Kernel12.Gen.facts,
  Kernel12Ideal.Gen.facts,
  Reference12Ideal.Gen.facts,
  Kernel13.Gen.facts,
  Kernel13Ideal.Gen.facts,
  Reference13Ideal.Gen.facts,
  Kernel14.Gen.facts,
  Kernel14Ideal.Gen.facts,
  Reference14Ideal.Gen.facts,
  Kernel15.Gen.facts,
  Kernel15Ideal.Gen.facts,
  Reference15Ideal.Gen.facts,
  Kernel16.Gen.facts,
  Kernel16Ideal.Gen.facts,
  Reference16Ideal.Gen.facts,
  Kernel17.Gen.facts,
  Kernel17Ideal.Gen.facts,
  Reference17Ideal.Gen.facts,
  Kernel18.Gen.facts,
  Kernel18Ideal.Gen.facts,
  Reference18Ideal.Gen.facts,
  Kernel19.Gen.facts,
  Kernel19Ideal.Gen.facts,
  Reference19Ideal.Gen.facts,
  Kernel20.Gen.facts,
  Kernel20Ideal.Gen.facts,
  Reference20Ideal.Gen.facts,
  Kernel21.Gen.facts,
  Kernel21Ideal.Gen.facts,
  Reference21Ideal.Gen.facts,
  Kernel22.Gen.facts,
  Kernel22Ideal.Gen.facts,
  Reference22Ideal.Gen.facts,
  Kernel23.Gen.facts,
  Kernel23Ideal.Gen.facts,
  Reference23Ideal.Gen.facts,
  Kernel24.Gen.facts,
  Kernel24Ideal.Gen.facts,
  Reference24Ideal.Gen.facts,
  Kernel25.Gen.facts,
  Kernel25Ideal.Gen.facts,
  Reference25Ideal.Gen.facts,
  Kernel26.Gen.facts,
  Kernel26Ideal.Gen.facts,
  Reference26Ideal.Gen.facts,
  Kernel28.Gen.facts,
  Kernel28Ideal.Gen.facts,
  Reference28Ideal.Gen.facts,
  Kernel29.Gen.facts,
  Kernel29Ideal.Gen.facts,
  Reference29Ideal.Gen.facts,
  Kernel30.Gen.facts,
  Kernel30Ideal.Gen.facts,
  Reference30Ideal.Gen.facts,
  Kernel31.Gen.facts,
  Kernel31Ideal.Gen.facts,
  Reference31Ideal.Gen.facts,
  Kernel32.Gen.facts,
  Kernel32Ideal.Gen.facts,
  Reference32Ideal.Gen.facts,
  Kernel33.Gen.facts,
  Kernel33Ideal.Gen.facts,
  Reference33Ideal.Gen.facts,
  Kernel34.Gen.facts,
  Kernel34Ideal.Gen.facts,
  Reference34Ideal.Gen.facts,
  Act.facts,
  by exact ⟨fun m ρ _ => Kernel.Gen.frame m ρ,
    fun m ρ _ => KernelIdeal.Gen.frame m ρ,
    Conv.frame_reference,
    fun m ρ _ => Kernel2.Gen.frame m ρ,
    fun m ρ _ => Kernel2Ideal.Gen.frame m ρ,
    Product2.frame_reference,
    fun m ρ _ => Kernel3.Gen.frame m ρ,
    fun m ρ _ => Kernel3Ideal.Gen.frame m ρ,
    fun m ρ _ => Kernel3Ideal.Gen.frame m ρ,
    Act.frame_reference,
    Act.frame_reference_pre,
    fun m ρ _ => Kernel4.Gen.frame m ρ,
    fun m ρ _ => Kernel4Ideal.Gen.frame m ρ,
    Product4.frame_reference,
    fun m ρ _ => Kernel5.Gen.frame m ρ,
    fun m ρ _ => Kernel5Ideal.Gen.frame m ρ,
    Product5.frame_reference,
    fun m ρ _ => Kernel6.Gen.frame m ρ,
    fun m ρ _ => Kernel6Ideal.Gen.frame m ρ,
    Product6.frame_reference,
    fun m ρ _ => Kernel7.Gen.frame m ρ,
    fun m ρ _ => Kernel7Ideal.Gen.frame m ρ,
    Product7.frame_reference,
    fun m ρ _ => Kernel8.Gen.frame m ρ,
    fun m ρ _ => Kernel8Ideal.Gen.frame m ρ,
    Product8.frame_reference,
    fun m ρ _ => Kernel9.Gen.frame m ρ,
    fun m ρ _ => Kernel9Ideal.Gen.frame m ρ,
    Product9.frame_reference,
    fun m ρ _ => Kernel10.Gen.frame m ρ,
    fun m ρ _ => Kernel10Ideal.Gen.frame m ρ,
    Product10.frame_reference,
    fun m ρ _ => Kernel11.Gen.frame m ρ,
    fun m ρ _ => Kernel11Ideal.Gen.frame m ρ,
    Product11.frame_reference,
    Carry.frame_kernel,
    fun m ρ _ => Kernel12Ideal.Carry.frame m ρ,
    Carry.frame_reference,
    fun m ρ _ => Kernel13.Gen.frame m ρ,
    fun m ρ _ => Kernel13Ideal.Gen.frame m ρ,
    Sum13.frame_reference,
    fun m ρ _ => Kernel14.Gen.frame m ρ,
    fun m ρ _ => Kernel14Ideal.Gen.frame m ρ,
    Sum14.frame_reference,
    fun m ρ _ => Kernel15.Gen.frame m ρ,
    fun m ρ _ => Kernel15Ideal.Gen.frame m ρ,
    Sum15.frame_reference,
    fun m ρ _ => Kernel16.Gen.frame m ρ,
    fun m ρ _ => Kernel16Ideal.Gen.frame m ρ,
    Sum16.frame_reference,
    fun m ρ _ => Kernel17.Gen.frame m ρ,
    fun m ρ _ => Kernel17Ideal.Gen.frame m ρ,
    Sum17.frame_reference,
    fun m ρ _ => Kernel18.Gen.frame m ρ,
    fun m ρ _ => Kernel18Ideal.Gen.frame m ρ,
    Sum18.frame_reference,
    fun m ρ _ => Kernel19.Gen.frame m ρ,
    fun m ρ _ => Kernel19Ideal.Gen.frame m ρ,
    Sum19.frame_reference,
    fun m ρ _ => Kernel20.Gen.frame m ρ,
    fun m ρ _ => Kernel20Ideal.Gen.frame m ρ,
    Sum20.frame_reference,
    fun m ρ _ => Kernel21.Gen.frame m ρ,
    fun m ρ _ => Kernel21Ideal.Gen.frame m ρ,
    Adam21.frame_reference,
    fun m ρ _ => Kernel22.Gen.frame m ρ,
    fun m ρ _ => Kernel22Ideal.Gen.frame m ρ,
    Adam22.frame_reference,
    fun m ρ _ => Kernel23.Gen.frame m ρ,
    fun m ρ _ => Kernel23Ideal.Gen.frame m ρ,
    Adam23.frame_reference,
    fun m ρ _ => Kernel24.Gen.frame m ρ,
    fun m ρ _ => Kernel24Ideal.Gen.frame m ρ,
    Adam24.frame_reference,
    fun m ρ _ => Kernel25.Gen.frame m ρ,
    fun m ρ _ => Kernel25Ideal.Gen.frame m ρ,
    Adam25.frame_reference,
    fun m ρ _ => Kernel26.Gen.frame m ρ,
    fun m ρ _ => Kernel26Ideal.Gen.frame m ρ,
    Rms.frame_reference,
    fun m ρ _ => Kernel28.Gen.frame m ρ,
    fun m ρ _ => Kernel28Ideal.Gen.frame m ρ,
    Product28.frame_reference,
    fun m ρ _ => Kernel29.Gen.frame m ρ,
    fun m ρ _ => Kernel29Ideal.Gen.frame m ρ,
    Product29.frame_reference,
    fun m ρ _ => Kernel30.Gen.frame m ρ,
    fun m ρ _ => Kernel30Ideal.Gen.frame m ρ,
    Mix.frame_reference,
    fun m ρ _ => Kernel31.Gen.frame m ρ,
    fun m ρ _ => Kernel31Ideal.Gen.frame m ρ,
    Fwd31.frame_reference,
    fun m ρ _ => Kernel32.Gen.frame m ρ,
    fun m ρ _ => Kernel32Ideal.Gen.frame m ρ,
    Fwd32.frame_reference,
    fun m ρ _ => Kernel33.Gen.frame m ρ,
    fun m ρ _ => Kernel33Ideal.Gen.frame m ρ,
    Fwd33.frame_reference,
    fun m ρ _ => Kernel34.Gen.frame m ρ,
    fun m ρ _ => Kernel34Ideal.Gen.frame m ρ,
    Fwd34.frame_reference,
    trivial,
    Conv.algebraic,
    trivial,
    Product2.algebraic,
    trivial,
    Act.algebraic,
    trivial,
    Product4.algebraic,
    trivial,
    Product5.algebraic,
    trivial,
    Product6.algebraic,
    trivial,
    Product7.algebraic,
    trivial,
    Product8.algebraic,
    trivial,
    Product9.algebraic,
    trivial,
    Product10.algebraic,
    trivial,
    Product11.algebraic,
    trivial,
    Carry.algebraic,
    trivial,
    Sum13.algebraic,
    trivial,
    Sum14.algebraic,
    trivial,
    Sum15.algebraic,
    trivial,
    Sum16.algebraic,
    trivial,
    Sum17.algebraic,
    trivial,
    Sum18.algebraic,
    trivial,
    Sum19.algebraic,
    trivial,
    Sum20.algebraic,
    trivial,
    Adam21.algebraic,
    trivial,
    Adam22.algebraic,
    trivial,
    Adam23.algebraic,
    trivial,
    Adam24.algebraic,
    trivial,
    Adam25.algebraic,
    trivial,
    Rms.algebraic,
    trivial,
    Product28.algebraic,
    trivial,
    Product29.algebraic,
    trivial,
    Mix.algebraic,
    trivial,
    Fwd31.algebraic,
    trivial,
    Fwd32.algebraic,
    trivial,
    Fwd33.algebraic,
    trivial,
    Fwd34.algebraic⟩⟩

end Cert.Proof

end
